-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v5) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)
      ∧ m' ((c.tc : Thread Cert.HiddenReferenceIdeal.nD Cert.HiddenReferenceIdeal.τ).loc Cert.HiddenReferenceIdeal.main_arg4) = m ((c.tc : Thread Cert.HiddenIdeal.nD Cert.HiddenIdeal.τ).loc Cert.HiddenIdeal.main_arg4)) →
    ∃ (v0 : (c : Dev Cert.HiddenIdeal.nD) → Buf (Elt Ideal) ((c.tc : Thread Cert.HiddenIdeal.nD Cert.HiddenIdeal.τ).loc Cert.HiddenIdeal.main_v7)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v7) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v13) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v12) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def Claim : Prop :=
  ∃ (hKernel : Cert.Kernel.Facts) (hKernelIdeal : Cert.KernelIdeal.Facts) (hReferenceIdeal : Cert.ReferenceIdeal.Facts) (hPool : Cert.Pool.Facts) (hPoolIdeal : Cert.PoolIdeal.Facts) (hPoolReferenceIdeal : Cert.PoolReferenceIdeal.Facts) (hHidden : Cert.Hidden.Facts) (hHiddenIdeal : Cert.HiddenIdeal.Facts) (hHiddenReferenceIdeal : Cert.HiddenReferenceIdeal.Facts) (hOut : Cert.Out.Facts) (hOutIdeal : Cert.OutIdeal.Facts) (hOutReferenceIdeal : Cert.OutReferenceIdeal.Facts) (hPre_edges_in_range : Cert.Pre_edges_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ quiescent_Pool (hPool := hPool)
    ∧ quiescent_PoolIdeal (hPoolIdeal := hPoolIdeal)
    ∧ quiescent_PoolReferenceIdeal (hPoolReferenceIdeal := hPoolReferenceIdeal)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal) (hPre_edges_in_range := hPre_edges_in_range)
    ∧ preserves_Pool_PoolIdeal
    ∧ algebraic_PoolIdeal_PoolReferenceIdeal (hPoolIdeal := hPoolIdeal) (hPoolReferenceIdeal := hPoolReferenceIdeal)
    ∧ preserves_Hidden_HiddenIdeal
    ∧ algebraic_HiddenIdeal_HiddenReferenceIdeal (hHiddenIdeal := hHiddenIdeal) (hHiddenReferenceIdeal := hHiddenReferenceIdeal)
    ∧ preserves_Out_OutIdeal
    ∧ algebraic_OutIdeal_OutReferenceIdeal (hOutIdeal := hOutIdeal) (hOutReferenceIdeal := hOutReferenceIdeal)
-- ==== Pre_edges_in_range.lean ====
abbrev S2x320000 : Shape := ⟨2, ![2, 320000]⟩
abbrev S10240x128 : Shape := ⟨2, ![10240, 128]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : IVec S2x320000 32) (main_arg1 : FVec F S10240x128 .f32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg0 main_v0
  let main_c_0 : IVec S_ 32 := constantI S_ 32 10000#32
  let main_v2 : IVec S2x320000 32 := broadcastInDim S2x320000 ![] bcast_S_S2x320000 main_c_0
  let main_v3 : IVec S2x320000 1 := cmpi .slt main_arg0 main_v2
  let main_v4 : IVec S2x320000 1 := andi main_v1 main_v3
  main_v4
-- ==== Kernel.lean ====
abbrev S2x320000 : Shape := ⟨2, ![2, 320000]⟩
abbrev S10240x128 : Shape := ⟨2, ![10240, 128]⟩
abbrev S2x10240x128 : Shape := ⟨3, ![2, 10240, 128]⟩
abbrev S2x2x3200 : Shape := ⟨3, ![2, 2, 3200]⟩
abbrev S3272 : Shape := ⟨1, ![3272]⟩
abbrev S128x128 : Shape := ⟨2, ![128, 128]⟩
abbrev S641x128 : Shape := ⟨2, ![641, 128]⟩
abbrev S_ : Shape := ⟨0, ![]⟩
abbrev S16 : Shape := ⟨1, ![16]⟩
abbrev S1x16 : Shape := ⟨2, ![1, 16]⟩
abbrev S1x2x3200 : Shape := ⟨3, ![1, 2, 3200]⟩
abbrev S2x3200 : Shape := ⟨2, ![2, 3200]⟩
abbrev S1x1x16 : Shape := ⟨3, ![1, 1, 16]⟩
abbrev S1 : Shape := ⟨1, ![1]⟩
abbrev S64x128 : Shape := ⟨2, ![64, 128]⟩
abbrev S64 : Shape := ⟨1, ![64]⟩
abbrev S640x128 : Shape := ⟨2, ![640, 128]⟩
abbrev S1x640x128 : Shape := ⟨3, ![1, 640, 128]⟩

abbrev nBuf : Table → Nat
  | .hbm => 3
  | .local .scVector .vmem => 5
  | _ => 0

abbrev bufTy : (tb : Table) → Fin (nBuf tb) → BufTy
  | .hbm, ⟨0, _⟩ => ⟨S2x320000, .i32⟩
  | .hbm, ⟨1, _⟩ => ⟨S10240x128, .f32⟩
  | .hbm, ⟨2, _⟩ => ⟨S2x10240x128, .f32⟩
  | .local .scVector .vmem, ⟨0, _⟩ => ⟨S2x2x3200, .i32⟩
  | .local .scVector .vmem, ⟨1, _⟩ => ⟨S3272, .i32⟩
  | .local .scVector .vmem, ⟨2, _⟩ => ⟨S3272, .i32⟩
  | .local .scVector .vmem, ⟨3, _⟩ => ⟨S128x128, .f32⟩
  | .local .scVector .vmem, ⟨4, _⟩ => ⟨S641x128, .f32⟩
  | _, _ => ⟨S2x320000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c641_i32 : BitVec 32 := 641#32
  let v2 : BitVec 32 := Scalar.addi c0_i32_0 c641_i32
  let c1_i32 : BitVec 32 := 1#32
  ⟨c0_i32_0, v2, c1_i32⟩
def k0_off1 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v72 : Index := Scalar.indexCast arg14
  let c0 : Index := 0#32
  ![v72.toNat, 0]
def k0_off2 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v74 : Index := Scalar.indexCast arg14
  let c16 : Index := 16#32
  ![v74.toNat, 16]
def k0_off3 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v76 : Index := Scalar.indexCast arg14
  let c32 : Index := 32#32
  ![v76.toNat, 32]
def k0_off4 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v78 : Index := Scalar.indexCast arg14
  let c48 : Index := 48#32
  ![v78.toNat, 48]
def k0_off5 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v80 : Index := Scalar.indexCast arg14
  let c64 : Index := 64#32
  ![v80.toNat, 64]
def k0_off6 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v82 : Index := Scalar.indexCast arg14
  let c80 : Index := 80#32
  ![v82.toNat, 80]
def k0_off7 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v84 : Index := Scalar.indexCast arg14
  let c96 : Index := 96#32
  ![v84.toNat, 96]
def k0_off8 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v86 : Index := Scalar.indexCast arg14
  let c112 : Index := 112#32
  ![v86.toNat, 112]
def k0_off9 (i : grid0.Coords) : Fin 2 → Nat :=
  let c0_i32_7 : BitVec 32 := 0#32
  let arg0 : BitVec 32 := BitVec.ofNat 32 (i 0).val
  let c160000_i32 : BitVec 32 := 160000#32
  let v3 : BitVec 32 := Scalar.muli arg0 c160000_i32
  let c0_i32_2 : BitVec 32 := 0#32
  let v4 : BitVec 32 := Scalar.addi v3 c0_i32_2
  ![0, v4.toNat]
@[reducible] def k0_t2_loop : Scf.Loop 32 :=
  let c0_i32_12 : BitVec 32 := 0#32
  let c50_i32 : BitVec 32 := 50#32
  let v11 : BitVec 32 := Scalar.addi c0_i32_12 c50_i32
  let c1_i32_13 : BitVec 32 := 1#32
  ⟨c0_i32_12, v11, c1_i32_13⟩
def k0_cond1 (k0_t2 : Fin k0_t2_loop.trips) : BitVec 1 :=
  let c0_i32_12 : BitVec 32 := 0#32
  let c1_i32_13 : BitVec 32 := 1#32
  let arg14 : BitVec 32 := Scf.iv c0_i32_12 c1_i32_13 k0_t2
  let c2_i32 : BitVec 32 := 2#32
  let c0_i32_43 : BitVec 32 := 0#32
  let v72 : BitVec 1 := Scalar.cmpi .eq c2_i32 c0_i32_43
  let c1_i32_44 : BitVec 32 := 1#32
  let v73 : BitVec 32 := Scalar.select v72 c1_i32_44 c2_i32
  let v74 : BitVec 32 := Scalar.remsi arg14 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c0_i32_48 : BitVec 32 := 0#32
  let v84 : BitVec 1 := Scalar.cmpi .eq v81 c0_i32_48
  let v85 : BitVec 32 := Scalar.extui v84
  let c0_i32_49 : BitVec 32 := 0#32
  let v86 : BitVec 1 := Scalar.cmpi .ne v85 c0_i32_49
  v86

def k0_off10 (i : grid0.Coords) (k0_t2 : Fin k0_t2_loop.trips) : Fin 2 → Nat :=
  let c0_i32_86 : BitVec 32 := 0#32
  let arg0 : BitVec 32 := BitVec.ofNat 32 (i 0).val
  let c160000_i32 : BitVec 32 := 160000#32
  let v3 : BitVec 32 := Scalar.muli arg0 c160000_i32
  let c0_i32_12 : BitVec 32 := 0#32
  let c1_i32_13 : BitVec 32 := 1#32
  let arg14 : BitVec 32 := Scf.iv c0_i32_12 c1_i32_13 k0_t2
  let c3200_i32 : BitVec 32 := 3200#32
  let v82 : BitVec 32 := Scalar.muli arg14 c3200_i32
  let v83 : BitVec 32 := Scalar.addi v3 v82
  ![0, v83.toNat]
def k0_off11 (i : grid0.Coords) (k0_t2 : Fin k0_t2_loop.trips) : Fin 2 → Nat :=
  let c0_i32_86 : BitVec 32 := 0#32
  let arg0 : BitVec 32 := BitVec.ofNat 32 (i 0).val
  let c160000_i32 : BitVec 32 := 160000#32
  let v3 : BitVec 32 := Scalar.muli arg0 c160000_i32
  let c0_i32_12 : BitVec 32 := 0#32
  let c1_i32_13 : BitVec 32 := 1#32
  let arg14 : BitVec 32 := Scf.iv c0_i32_12 c1_i32_13 k0_t2
  let c3200_i32 : BitVec 32 := 3200#32
  let v82 : BitVec 32 := Scalar.muli arg14 c3200_i32
  let v83 : BitVec 32 := Scalar.addi v3 v82
  ![0, v83.toNat]
def k0_cond2 (k0_t2 : Fin k0_t2_loop.trips) : BitVec 1 :=
  let c0_i32_12 : BitVec 32 := 0#32
  let c1_i32_13 : BitVec 32 := 1#32
  let arg14 : BitVec 32 := Scf.iv c0_i32_12 c1_i32_13 k0_t2
  let c1_i32_50 : BitVec 32 := 1#32
  let v87 : BitVec 32 := Scalar.addi arg14 c1_i32_50
  let c50_i32_51 : BitVec 32 := 50#32
  let v88 : BitVec 1 := Scalar.cmpi .slt v87 c50_i32_51
  let v89 : BitVec 32 := Scalar.extui v88
  let c0_i32_52 : BitVec 32 := 0#32
  let v90 : BitVec 1 := Scalar.cmpi .ne v89 c0_i32_52
  v90

def k0_cond3 (k0_t2 : Fin k0_t2_loop.trips) : BitVec 1 :=
  let c0_i32_12 : BitVec 32 := 0#32
  let c1_i32_13 : BitVec 32 := 1#32
  let arg14 : BitVec 32 := Scf.iv c0_i32_12 c1_i32_13 k0_t2
  let c1_i32_84 : BitVec 32 := 1#32
  let v153 : BitVec 32 := Scalar.addi arg14 c1_i32_84
  let c2_i32_85 : BitVec 32 := 2#32
  let c0_i32_86 : BitVec 32 := 0#32
  let v154 : BitVec 1 := Scalar.cmpi .eq c2_i32_85 c0_i32_86
  let c1_i32_87 : BitVec 32 := 1#32
  let v155 : BitVec 32 := Scalar.select v154 c1_i32_87 c2_i32_85
  let v156 : BitVec 32 := Scalar.remsi v153 v155
  let c0_i32_89 : BitVec 32 := 0#32
  let v158 : BitVec 1 := Scalar.cmpi .slt v156 c0_i32_89
  let c0_i32_90 : BitVec 32 := 0#32
  let v159 : BitVec 1 := Scalar.cmpi .slt v155 c0_i32_90
  let v160 : BitVec 1 := Scalar.xori v158 v159
  let c0_i32_88 : BitVec 32 := 0#32
  let v157 : BitVec 1 := Scalar.cmpi .ne v156 c0_i32_88
  let v161 : BitVec 1 := Scalar.andi v160 v157
  let v162 : BitVec 32 := Scalar.addi v156 v155
  let v163 : BitVec 32 := Scalar.select v161 v162 v156
  let c0_i32_92 : BitVec 32 := 0#32
  let v166 : BitVec 1 := Scalar.cmpi .eq v163 c0_i32_92
  let v167 : BitVec 32 := Scalar.extui v166
  let c0_i32_93 : BitVec 32 := 0#32
  let v168 : BitVec 1 := Scalar.cmpi .ne v167 c0_i32_93
  v168

def k0_off12 (i : grid0.Coords) (k0_t2 : Fin k0_t2_loop.trips) : Fin 2 → Nat :=
  let c0_i32_97 : BitVec 32 := 0#32
  let arg0 : BitVec 32 := BitVec.ofNat 32 (i 0).val
  let c160000_i32 : BitVec 32 := 160000#32
  let v3 : BitVec 32 := Scalar.muli arg0 c160000_i32
  let c0_i32_12 : BitVec 32 := 0#32
  let c1_i32_13 : BitVec 32 := 1#32
  let arg14 : BitVec 32 := Scf.iv c0_i32_12 c1_i32_13 k0_t2
  let c1_i32_83 : BitVec 32 := 1#32
  let v152 : BitVec 32 := Scalar.addi arg14 c1_i32_83
  let c3200_i32_91 : BitVec 32 := 3200#32
  let v164 : BitVec 32 := Scalar.muli v152 c3200_i32_91
  let v165 : BitVec 32 := Scalar.addi v3 v164
  ![0, v165.toNat]
def k0_off13 (i : grid0.Coords) (k0_t2 : Fin k0_t2_loop.trips) : Fin 2 → Nat :=
  let c0_i32_97 : BitVec 32 := 0#32
  let arg0 : BitVec 32 := BitVec.ofNat 32 (i 0).val
  let c160000_i32 : BitVec 32 := 160000#32
  let v3 : BitVec 32 := Scalar.muli arg0 c160000_i32
  let c0_i32_12 : BitVec 32 := 0#32
  let c1_i32_13 : BitVec 32 := 1#32
  let arg14 : BitVec 32 := Scf.iv c0_i32_12 c1_i32_13 k0_t2
  let c1_i32_83 : BitVec 32 := 1#32
  let v152 : BitVec 32 := Scalar.addi arg14 c1_i32_83
  let c3200_i32_91 : BitVec 32 := 3200#32
  let v164 : BitVec 32 := Scalar.muli v152 c3200_i32_91
  let v165 : BitVec 32 := Scalar.addi v3 v164
  ![0, v165.toNat]
@[reducible] def k0_t3_loop : Scf.Loop 32 :=
  let c0_i32_53 : BitVec 32 := 0#32
  let c200_i32 : BitVec 32 := 200#32
  let v91 : BitVec 32 := Scalar.addi c0_i32_53 c200_i32
  let c1_i32_54 : BitVec 32 := 1#32
  ⟨c0_i32_53, v91, c1_i32_54⟩
def k0_off14 (k0_t2 : Fin k0_t2_loop.trips) (k0_t3 : Fin k0_t3_loop.trips) : Fin 3 → Nat :=
  let c0_i32_12 : BitVec 32 := 0#32
  let c1_i32_13 : BitVec 32 := 1#32
  let arg14 : BitVec 32 := Scf.iv c0_i32_12 c1_i32_13 k0_t2
  let c2_i32 : BitVec 32 := 2#32
  let c0_i32_43 : BitVec 32 := 0#32
  let v72 : BitVec 1 := Scalar.cmpi .eq c2_i32 c0_i32_43
  let c1_i32_44 : BitVec 32 := 1#32
  let v73 : BitVec 32 := Scalar.select v72 c1_i32_44 c2_i32
  let v74 : BitVec 32 := Scalar.remsi arg14 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let v153 : Index := Scalar.indexCast v81
  let c1_i32_84 : BitVec 32 := 1#32
  let v154 : Index := Scalar.indexCast c1_i32_84
  let c0_i32_53 : BitVec 32 := 0#32
  let c1_i32_54 : BitVec 32 := 1#32
  let arg16 : BitVec 32 := Scf.iv c0_i32_53 c1_i32_54 k0_t3
  let c16_i32_83 : BitVec 32 := 16#32
  let v152 : BitVec 32 := Scalar.muli arg16 c16_i32_83
  let v155 : Index := Scalar.indexCast v152
  ![v153.toNat, 1, v155.toNat]
def k0_off15 (k0_t2 : Fin k0_t2_loop.trips) (k0_t3 : Fin k0_t3_loop.trips) : Fin 3 → Nat :=
  let c0_i32_12 : BitVec 32 := 0#32
  let c1_i32_13 : BitVec 32 := 1#32
  let arg14 : BitVec 32 := Scf.iv c0_i32_12 c1_i32_13 k0_t2
  let c2_i32 : BitVec 32 := 2#32
  let c0_i32_43 : BitVec 32 := 0#32
  let v72 : BitVec 1 := Scalar.cmpi .eq c2_i32 c0_i32_43
  let c1_i32_44 : BitVec 32 := 1#32
  let v73 : BitVec 32 := Scalar.select v72 c1_i32_44 c2_i32
  let v74 : BitVec 32 := Scalar.remsi arg14 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let v158 : Index := Scalar.indexCast v81
  let c0_i32_86 : BitVec 32 := 0#32
  let v159 : Index := Scalar.indexCast c0_i32_86
  let c0_i32_53 : BitVec 32 := 0#32
  let c1_i32_54 : BitVec 32 := 1#32
  let arg16 : BitVec 32 := Scf.iv c0_i32_53 c1_i32_54 k0_t3
  let c16_i32_85 : BitVec 32 := 16#32
  let v157 : BitVec 32 := Scalar.muli arg16 c16_i32_85
  let v160 : Index := Scalar.indexCast v157
  ![v158.toNat, 0, v160.toNat]

def k0_chk1 (v183 : IVec S16 32) : Prop :=
  (∀ a x, ((![v183] : Fin 1 → IVec S16 32) a x).toNat < S3272.size a) ∧
  (∀ a x, ((![v183] : Fin 1 → IVec S16 32) a x).toNat < S3272.size a)
theorem k0_idx1_inb : ∀ (v183 : IVec S16 32) (k0_hw1 : k0_chk1 v183), ∀ a x, ((![v183] : Fin 1 → IVec S16 32) a x).toNat < S3272.size a := fun v183 k0_hw1 => k0_hw1.1
theorem k0_idx2_inb : ∀ (v183 : IVec S16 32) (k0_hw1 : k0_chk1 v183), ∀ a x, ((![v183] : Fin 1 → IVec S16 32) a x).toNat < S3272.size a := fun v183 k0_hw1 => k0_hw1.2
@[reducible] def k0_t4_loop (v92 : BitVec 32) : Scf.Loop 32 :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_68 : BitVec 32 := 1#32
  ⟨c0_i32_66, v117, c1_i32_68⟩

def k0_cond6 (v92 : BitVec 32) (k0_t4 : Fin (k0_t4_loop v92).trips) : BitVec 1 :=
  let c0_i32_66 : BitVec 32 := 0#32
  let c1_i32_68 : BitVec 32 := 1#32
  let arg16 : BitVec 32 := Scf.iv c0_i32_66 c1_i32_68 k0_t4
  let c1_i32_106 : BitVec 32 := 1#32
  let v183 : BitVec 32 := Scalar.addi arg16 c1_i32_106
  let c2_i32_107 : BitVec 32 := 2#32
  let c0_i32_108 : BitVec 32 := 0#32
  let v184 : BitVec 1 := Scalar.cmpi .eq c2_i32_107 c0_i32_108
  let c1_i32_109 : BitVec 32 := 1#32
  let v185 : BitVec 32 := Scalar.select v184 c1_i32_109 c2_i32_107
  let v186 : BitVec 32 := Scalar.remsi v183 v185
  let c0_i32_111 : BitVec 32 := 0#32
  let v188 : BitVec 1 := Scalar.cmpi .slt v186 c0_i32_111
  let c0_i32_112 : BitVec 32 := 0#32
  let v189 : BitVec 1 := Scalar.cmpi .slt v185 c0_i32_112
  let v190 : BitVec 1 := Scalar.xori v188 v189
  let c0_i32_110 : BitVec 32 := 0#32
  let v187 : BitVec 1 := Scalar.cmpi .ne v186 c0_i32_110
  let v191 : BitVec 1 := Scalar.andi v190 v187
  let v192 : BitVec 32 := Scalar.addi v186 v185
  let v193 : BitVec 32 := Scalar.select v191 v192 v186
  let c0_i32_114 : BitVec 32 := 0#32
  let v195 : BitVec 1 := Scalar.cmpi .eq v193 c0_i32_114
  let v196 : BitVec 32 := Scalar.extui v195
  let c0_i32_115 : BitVec 32 := 0#32
  let v197 : BitVec 1 := Scalar.cmpi .ne v196 c0_i32_115
  v197

def k0_off16 (v92 : BitVec 32) (k0_t4 : Fin (k0_t4_loop v92).trips) : Fin 1 → Nat :=
  let c0_i32_66 : BitVec 32 := 0#32
  let c1_i32_68 : BitVec 32 := 1#32
  let arg16 : BitVec 32 := Scf.iv c0_i32_66 c1_i32_68 k0_t4
  let c1_i32_105 : BitVec 32 := 1#32
  let v182 : BitVec 32 := Scalar.addi arg16 c1_i32_105
  let c64_i32_113 : BitVec 32 := 64#32
  let v194 : BitVec 32 := Scalar.muli v182 c64_i32_113
  ![v194.toNat]
def k0_cond5 (v92 : BitVec 32) (k0_t4 : Fin (k0_t4_loop v92).trips) : BitVec 1 :=
  let c0_i32_66 : BitVec 32 := 0#32
  let c1_i32_68 : BitVec 32 := 1#32
  let arg16 : BitVec 32 := Scf.iv c0_i32_66 c1_i32_68 k0_t4
  let c1_i32_83 : BitVec 32 := 1#32
  let v152 : BitVec 32 := Scalar.addi arg16 c1_i32_83
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v153 : BitVec 1 := Scalar.cmpi .slt v152 v109
  let v154 : BitVec 32 := Scalar.extui v153
  let c0_i32_84 : BitVec 32 := 0#32
  let v155 : BitVec 1 := Scalar.cmpi .ne v154 c0_i32_84
  v155

def k0_off17 (v92 : BitVec 32) (k0_t4 : Fin (k0_t4_loop v92).trips) : Fin 1 → Nat :=
  let c0_i32_66 : BitVec 32 := 0#32
  let c1_i32_68 : BitVec 32 := 1#32
  let arg16 : BitVec 32 := Scf.iv c0_i32_66 c1_i32_68 k0_t4
  let c1_i32_105 : BitVec 32 := 1#32
  let v182 : BitVec 32 := Scalar.addi arg16 c1_i32_105
  let c64_i32_113 : BitVec 32 := 64#32
  let v194 : BitVec 32 := Scalar.muli v182 c64_i32_113
  ![v194.toNat]
def k0_cond7 (v92 : BitVec 32) (k0_t4 : Fin (k0_t4_loop v92).trips) : BitVec 1 :=
  let c0_i32_66 : BitVec 32 := 0#32
  let c1_i32_68 : BitVec 32 := 1#32
  let arg16 : BitVec 32 := Scf.iv c0_i32_66 c1_i32_68 k0_t4
  let c2_i32_85 : BitVec 32 := 2#32
  let c0_i32_86 : BitVec 32 := 0#32
  let v156 : BitVec 1 := Scalar.cmpi .eq c2_i32_85 c0_i32_86
  let c1_i32_87 : BitVec 32 := 1#32
  let v157 : BitVec 32 := Scalar.select v156 c1_i32_87 c2_i32_85
  let v158 : BitVec 32 := Scalar.remsi arg16 v157
  let c0_i32_89 : BitVec 32 := 0#32
  let v160 : BitVec 1 := Scalar.cmpi .slt v158 c0_i32_89
  let c0_i32_90 : BitVec 32 := 0#32
  let v161 : BitVec 1 := Scalar.cmpi .slt v157 c0_i32_90
  let v162 : BitVec 1 := Scalar.xori v160 v161
  let c0_i32_88 : BitVec 32 := 0#32
  let v159 : BitVec 1 := Scalar.cmpi .ne v158 c0_i32_88
  let v163 : BitVec 1 := Scalar.andi v162 v159
  let v164 : BitVec 32 := Scalar.addi v158 v157
  let v165 : BitVec 32 := Scalar.select v163 v164 v158
  let c0_i32_92 : BitVec 32 := 0#32
  let v167 : BitVec 1 := Scalar.cmpi .eq v165 c0_i32_92
  let v168 : BitVec 32 := Scalar.extui v167
  let c0_i32_93 : BitVec 32 := 0#32
  let v169 : BitVec 1 := Scalar.cmpi .ne v168 c0_i32_93
  v169

def k0_off18 (v92 : BitVec 32) (k0_t4 : Fin (k0_t4_loop v92).trips) : Fin 1 → Nat :=
  let c0_i32_66 : BitVec 32 := 0#32
  let c1_i32_68 : BitVec 32 := 1#32
  let arg16 : BitVec 32 := Scf.iv c0_i32_66 c1_i32_68 k0_t4
  let c64_i32_91 : BitVec 32 := 64#32
  let v166 : BitVec 32 := Scalar.muli arg16 c64_i32_91
  ![v166.toNat]
def k0_off19 (v92 : BitVec 32) (k0_t4 : Fin (k0_t4_loop v92).trips) : Fin 1 → Nat :=
  let c0_i32_66 : BitVec 32 := 0#32
  let c1_i32_68 : BitVec 32 := 1#32
  let arg16 : BitVec 32 := Scf.iv c0_i32_66 c1_i32_68 k0_t4
  let c64_i32_91 : BitVec 32 := 64#32
  let v166 : BitVec 32 := Scalar.muli arg16 c64_i32_91
  ![v166.toNat]
@[reducible] def k0_t5_loop : Scf.Loop 32 :=
  let c0_i32_102 : BitVec 32 := 0#32
  let c4_i32 : BitVec 32 := 4#32
  let v181 : BitVec 32 := Scalar.addi c0_i32_102 c4_i32
  let c1_i32_103 : BitVec 32 := 1#32
  ⟨c0_i32_102, v181, c1_i32_103⟩
def k0_off20 (v92 : BitVec 32) (k0_t4 : Fin (k0_t4_loop v92).trips) (k0_t5 : Fin k0_t5_loop.trips) : Fin 1 → Nat :=
  let c0_i32_66 : BitVec 32 := 0#32
  let c1_i32_68 : BitVec 32 := 1#32
  let arg16 : BitVec 32 := Scf.iv c0_i32_66 c1_i32_68 k0_t4
  let c64_i32_105 : BitVec 32 := 64#32
  let v182 : BitVec 32 := Scalar.muli arg16 c64_i32_105
  let c0_i32_102 : BitVec 32 := 0#32
  let c1_i32_103 : BitVec 32 := 1#32
  let arg17 : BitVec 32 := Scf.iv c0_i32_102 c1_i32_103 k0_t5
  let c16_i32_106 : BitVec 32 := 16#32
  let v183 : BitVec 32 := Scalar.muli arg17 c16_i32_106
  let v184 : BitVec 32 := Scalar.addi v182 v183
  let v185 : Index := Scalar.indexCast v184
  ![v185.toNat]
def k0_off21 (v188 : BitVec 32) : Fin 2 → Nat :=
  let v192 : Index := Scalar.indexCast v188
  let c0_109 : Index := 0#32
  ![v192.toNat, 0]

def k0_off22 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v194 : Index := Scalar.indexCast v191
  let c0_110 : Index := 0#32
  ![v194.toNat, 0]
def k0_off23 (v188 : BitVec 32) : Fin 2 → Nat :=
  let v199 : Index := Scalar.indexCast v188
  let c16_112 : Index := 16#32
  ![v199.toNat, 16]
def k0_off24 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v201 : Index := Scalar.indexCast v191
  let c16_113 : Index := 16#32
  ![v201.toNat, 16]
def k0_off25 (v188 : BitVec 32) : Fin 2 → Nat :=
  let v206 : Index := Scalar.indexCast v188
  let c32_115 : Index := 32#32
  ![v206.toNat, 32]
def k0_off26 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v208 : Index := Scalar.indexCast v191
  let c32_116 : Index := 32#32
  ![v208.toNat, 32]
def k0_off27 (v188 : BitVec 32) : Fin 2 → Nat :=
  let v213 : Index := Scalar.indexCast v188
  let c48_118 : Index := 48#32
  ![v213.toNat, 48]
def k0_off28 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v215 : Index := Scalar.indexCast v191
  let c48_119 : Index := 48#32
  ![v215.toNat, 48]
def k0_off29 (v188 : BitVec 32) : Fin 2 → Nat :=
  let v220 : Index := Scalar.indexCast v188
  let c64 : Index := 64#32
  ![v220.toNat, 64]
def k0_off30 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v222 : Index := Scalar.indexCast v191
  let c64_121 : Index := 64#32
  ![v222.toNat, 64]
def k0_off31 (v188 : BitVec 32) : Fin 2 → Nat :=
  let v227 : Index := Scalar.indexCast v188
  let c80 : Index := 80#32
  ![v227.toNat, 80]
def k0_off32 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v229 : Index := Scalar.indexCast v191
  let c80_123 : Index := 80#32
  ![v229.toNat, 80]
def k0_off33 (v188 : BitVec 32) : Fin 2 → Nat :=
  let v234 : Index := Scalar.indexCast v188
  let c96 : Index := 96#32
  ![v234.toNat, 96]
def k0_off34 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v236 : Index := Scalar.indexCast v191
  let c96_125 : Index := 96#32
  ![v236.toNat, 96]
def k0_off35 (v188 : BitVec 32) : Fin 2 → Nat :=
  let v241 : Index := Scalar.indexCast v188
  let c112 : Index := 112#32
  ![v241.toNat, 112]

def k0_chk3 (v188 : BitVec 32) : Prop :=
  (∀ a, (k0_off21 v188) a + S1x16.size a ≤ S641x128.size a) ∧
  (∀ a, (k0_off23 v188) a + S1x16.size a ≤ S641x128.size a) ∧
  (∀ a, (k0_off25 v188) a + S1x16.size a ≤ S641x128.size a) ∧
  (∀ a, (k0_off27 v188) a + S1x16.size a ≤ S641x128.size a) ∧
  (∀ a, (k0_off29 v188) a + S1x16.size a ≤ S641x128.size a) ∧
  (∀ a, (k0_off31 v188) a + S1x16.size a ≤ S641x128.size a) ∧
  (∀ a, (k0_off33 v188) a + S1x16.size a ≤ S641x128.size a) ∧
  (∀ a, (k0_off35 v188) a + S1x16.size a ≤ S641x128.size a)
theorem k0_off21_inb : ∀ (v188 : BitVec 32) (k0_hw3 : k0_chk3 v188), ∀ a, (k0_off21 v188) a + S1x16.size a ≤ S641x128.size a := fun v188 k0_hw3 => k0_hw3.1
theorem k0_off23_inb : ∀ (v188 : BitVec 32) (k0_hw3 : k0_chk3 v188), ∀ a, (k0_off23 v188) a + S1x16.size a ≤ S641x128.size a := fun v188 k0_hw3 => k0_hw3.2.1
theorem k0_off25_inb : ∀ (v188 : BitVec 32) (k0_hw3 : k0_chk3 v188), ∀ a, (k0_off25 v188) a + S1x16.size a ≤ S641x128.size a := fun v188 k0_hw3 => k0_hw3.2.2.1
theorem k0_off27_inb : ∀ (v188 : BitVec 32) (k0_hw3 : k0_chk3 v188), ∀ a, (k0_off27 v188) a + S1x16.size a ≤ S641x128.size a := fun v188 k0_hw3 => k0_hw3.2.2.2.1
theorem k0_off29_inb : ∀ (v188 : BitVec 32) (k0_hw3 : k0_chk3 v188), ∀ a, (k0_off29 v188) a + S1x16.size a ≤ S641x128.size a := fun v188 k0_hw3 => k0_hw3.2.2.2.2.1
theorem k0_off31_inb : ∀ (v188 : BitVec 32) (k0_hw3 : k0_chk3 v188), ∀ a, (k0_off31 v188) a + S1x16.size a ≤ S641x128.size a := fun v188 k0_hw3 => k0_hw3.2.2.2.2.2.1
theorem k0_off33_inb : ∀ (v188 : BitVec 32) (k0_hw3 : k0_chk3 v188), ∀ a, (k0_off33 v188) a + S1x16.size a ≤ S641x128.size a := fun v188 k0_hw3 => k0_hw3.2.2.2.2.2.2.1
theorem k0_off35_inb : ∀ (v188 : BitVec 32) (k0_hw3 : k0_chk3 v188), ∀ a, (k0_off35 v188) a + S1x16.size a ≤ S641x128.size a := fun v188 k0_hw3 => k0_hw3.2.2.2.2.2.2.2

def k0_off36 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v243 : Index := Scalar.indexCast v191
  let c112_127 : Index := 112#32
  ![v243.toNat, 112]
def k0_off37 (v249 : BitVec 32) : Fin 2 → Nat :=
  let v253 : Index := Scalar.indexCast v249
  let c0_131 : Index := 0#32
  ![v253.toNat, 0]

def k0_off38 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v255 : Index := Scalar.indexCast v252
  let c0_132 : Index := 0#32
  ![v255.toNat, 0]
def k0_off39 (v249 : BitVec 32) : Fin 2 → Nat :=
  let v260 : Index := Scalar.indexCast v249
  let c16_134 : Index := 16#32
  ![v260.toNat, 16]
def k0_off40 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v262 : Index := Scalar.indexCast v252
  let c16_135 : Index := 16#32
  ![v262.toNat, 16]
def k0_off41 (v249 : BitVec 32) : Fin 2 → Nat :=
  let v267 : Index := Scalar.indexCast v249
  let c32_137 : Index := 32#32
  ![v267.toNat, 32]
def k0_off42 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v269 : Index := Scalar.indexCast v252
  let c32_138 : Index := 32#32
  ![v269.toNat, 32]
def k0_off43 (v249 : BitVec 32) : Fin 2 → Nat :=
  let v274 : Index := Scalar.indexCast v249
  let c48_140 : Index := 48#32
  ![v274.toNat, 48]
def k0_off44 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v276 : Index := Scalar.indexCast v252
  let c48_141 : Index := 48#32
  ![v276.toNat, 48]
def k0_off45 (v249 : BitVec 32) : Fin 2 → Nat :=
  let v281 : Index := Scalar.indexCast v249
  let c64_143 : Index := 64#32
  ![v281.toNat, 64]
def k0_off46 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v283 : Index := Scalar.indexCast v252
  let c64_144 : Index := 64#32
  ![v283.toNat, 64]
def k0_off47 (v249 : BitVec 32) : Fin 2 → Nat :=
  let v288 : Index := Scalar.indexCast v249
  let c80_146 : Index := 80#32
  ![v288.toNat, 80]
def k0_off48 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v290 : Index := Scalar.indexCast v252
  let c80_147 : Index := 80#32
  ![v290.toNat, 80]
def k0_off49 (v249 : BitVec 32) : Fin 2 → Nat :=
  let v295 : Index := Scalar.indexCast v249
  let c96_149 : Index := 96#32
  ![v295.toNat, 96]
def k0_off50 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v297 : Index := Scalar.indexCast v252
  let c96_150 : Index := 96#32
  ![v297.toNat, 96]
def k0_off51 (v249 : BitVec 32) : Fin 2 → Nat :=
  let v302 : Index := Scalar.indexCast v249
  let c112_152 : Index := 112#32
  ![v302.toNat, 112]

def k0_chk4 (v249 : BitVec 32) : Prop :=
  (∀ a, (k0_off37 v249) a + S1x16.size a ≤ S641x128.size a) ∧
  (∀ a, (k0_off39 v249) a + S1x16.size a ≤ S641x128.size a) ∧
  (∀ a, (k0_off41 v249) a + S1x16.size a ≤ S641x128.size a) ∧
  (∀ a, (k0_off43 v249) a + S1x16.size a ≤ S641x128.size a) ∧
  (∀ a, (k0_off45 v249) a + S1x16.size a ≤ S641x128.size a) ∧
  (∀ a, (k0_off47 v249) a + S1x16.size a ≤ S641x128.size a) ∧
  (∀ a, (k0_off49 v249) a + S1x16.size a ≤ S641x128.size a) ∧
  (∀ a, (k0_off51 v249) a + S1x16.size a ≤ S641x128.size a)
theorem k0_off37_inb : ∀ (v249 : BitVec 32) (k0_hw4 : k0_chk4 v249), ∀ a, (k0_off37 v249) a + S1x16.size a ≤ S641x128.size a := fun v249 k0_hw4 => k0_hw4.1
theorem k0_off39_inb : ∀ (v249 : BitVec 32) (k0_hw4 : k0_chk4 v249), ∀ a, (k0_off39 v249) a + S1x16.size a ≤ S641x128.size a := fun v249 k0_hw4 => k0_hw4.2.1
theorem k0_off41_inb : ∀ (v249 : BitVec 32) (k0_hw4 : k0_chk4 v249), ∀ a, (k0_off41 v249) a + S1x16.size a ≤ S641x128.size a := fun v249 k0_hw4 => k0_hw4.2.2.1
theorem k0_off43_inb : ∀ (v249 : BitVec 32) (k0_hw4 : k0_chk4 v249), ∀ a, (k0_off43 v249) a + S1x16.size a ≤ S641x128.size a := fun v249 k0_hw4 => k0_hw4.2.2.2.1
theorem k0_off45_inb : ∀ (v249 : BitVec 32) (k0_hw4 : k0_chk4 v249), ∀ a, (k0_off45 v249) a + S1x16.size a ≤ S641x128.size a := fun v249 k0_hw4 => k0_hw4.2.2.2.2.1
theorem k0_off47_inb : ∀ (v249 : BitVec 32) (k0_hw4 : k0_chk4 v249), ∀ a, (k0_off47 v249) a + S1x16.size a ≤ S641x128.size a := fun v249 k0_hw4 => k0_hw4.2.2.2.2.2.1
theorem k0_off49_inb : ∀ (v249 : BitVec 32) (k0_hw4 : k0_chk4 v249), ∀ a, (k0_off49 v249) a + S1x16.size a ≤ S641x128.size a := fun v249 k0_hw4 => k0_hw4.2.2.2.2.2.2.1
theorem k0_off51_inb : ∀ (v249 : BitVec 32) (k0_hw4 : k0_chk4 v249), ∀ a, (k0_off51 v249) a + S1x16.size a ≤ S641x128.size a := fun v249 k0_hw4 => k0_hw4.2.2.2.2.2.2.2

def k0_off52 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v304 : Index := Scalar.indexCast v252
  let c112_153 : Index := 112#32
  ![v304.toNat, 112]
def k0_off53 (v310 : BitVec 32) : Fin 2 → Nat :=
  let v314 : Index := Scalar.indexCast v310
  let c0_157 : Index := 0#32
  ![v314.toNat, 0]

def k0_off54 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v316 : Index := Scalar.indexCast v313
  let c0_158 : Index := 0#32
  ![v316.toNat, 0]
def k0_off55 (v310 : BitVec 32) : Fin 2 → Nat :=
  let v321 : Index := Scalar.indexCast v310
  let c16_160 : Index := 16#32
  ![v321.toNat, 16]
def k0_off56 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v323 : Index := Scalar.indexCast v313
  let c16_161 : Index := 16#32
  ![v323.toNat, 16]
def k0_off57 (v310 : BitVec 32) : Fin 2 → Nat :=
  let v328 : Index := Scalar.indexCast v310
  let c32_163 : Index := 32#32
  ![v328.toNat, 32]
def k0_off58 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v330 : Index := Scalar.indexCast v313
  let c32_164 : Index := 32#32
  ![v330.toNat, 32]
def k0_off59 (v310 : BitVec 32) : Fin 2 → Nat :=
  let v335 : Index := Scalar.indexCast v310
  let c48_166 : Index := 48#32
  ![v335.toNat, 48]
def k0_off60 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v337 : Index := Scalar.indexCast v313
  let c48_167 : Index := 48#32
  ![v337.toNat, 48]
def k0_off61 (v310 : BitVec 32) : Fin 2 → Nat :=
  let v342 : Index := Scalar.indexCast v310
  let c64_169 : Index := 64#32
  ![v342.toNat, 64]
def k0_off62 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v344 : Index := Scalar.indexCast v313
  let c64_170 : Index := 64#32
  ![v344.toNat, 64]
def k0_off63 (v310 : BitVec 32) : Fin 2 → Nat :=
  let v349 : Index := Scalar.indexCast v310
  let c80_172 : Index := 80#32
  ![v349.toNat, 80]
def k0_off64 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v351 : Index := Scalar.indexCast v313
  let c80_173 : Index := 80#32
  ![v351.toNat, 80]
def k0_off65 (v310 : BitVec 32) : Fin 2 → Nat :=
  let v356 : Index := Scalar.indexCast v310
  let c96_175 : Index := 96#32
  ![v356.toNat, 96]
def k0_off66 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v358 : Index := Scalar.indexCast v313
  let c96_176 : Index := 96#32
  ![v358.toNat, 96]
def k0_off67 (v310 : BitVec 32) : Fin 2 → Nat :=
  let v363 : Index := Scalar.indexCast v310
  let c112_178 : Index := 112#32
  ![v363.toNat, 112]

def k0_chk5 (v310 : BitVec 32) : Prop :=
  (∀ a, (k0_off53 v310) a + S1x16.size a ≤ S641x128.size a) ∧
  (∀ a, (k0_off55 v310) a + S1x16.size a ≤ S641x128.size a) ∧
  (∀ a, (k0_off57 v310) a + S1x16.size a ≤ S641x128.size a) ∧
  (∀ a, (k0_off59 v310) a + S1x16.size a ≤ S641x128.size a) ∧
  (∀ a, (k0_off61 v310) a + S1x16.size a ≤ S641x128.size a) ∧
  (∀ a, (k0_off63 v310) a + S1x16.size a ≤ S641x128.size a) ∧
  (∀ a, (k0_off65 v310) a + S1x16.size a ≤ S641x128.size a) ∧
  (∀ a, (k0_off67 v310) a + S1x16.size a ≤ S641x128.size a)
theorem k0_off53_inb : ∀ (v310 : BitVec 32) (k0_hw5 : k0_chk5 v310), ∀ a, (k0_off53 v310) a + S1x16.size a ≤ S641x128.size a := fun v310 k0_hw5 => k0_hw5.1
theorem k0_off55_inb : ∀ (v310 : BitVec 32) (k0_hw5 : k0_chk5 v310), ∀ a, (k0_off55 v310) a + S1x16.size a ≤ S641x128.size a := fun v310 k0_hw5 => k0_hw5.2.1
theorem k0_off57_inb : ∀ (v310 : BitVec 32) (k0_hw5 : k0_chk5 v310), ∀ a, (k0_off57 v310) a + S1x16.size a ≤ S641x128.size a := fun v310 k0_hw5 => k0_hw5.2.2.1
theorem k0_off59_inb : ∀ (v310 : BitVec 32) (k0_hw5 : k0_chk5 v310), ∀ a, (k0_off59 v310) a + S1x16.size a ≤ S641x128.size a := fun v310 k0_hw5 => k0_hw5.2.2.2.1
theorem k0_off61_inb : ∀ (v310 : BitVec 32) (k0_hw5 : k0_chk5 v310), ∀ a, (k0_off61 v310) a + S1x16.size a ≤ S641x128.size a := fun v310 k0_hw5 => k0_hw5.2.2.2.2.1
theorem k0_off63_inb : ∀ (v310 : BitVec 32) (k0_hw5 : k0_chk5 v310), ∀ a, (k0_off63 v310) a + S1x16.size a ≤ S641x128.size a := fun v310 k0_hw5 => k0_hw5.2.2.2.2.2.1
theorem k0_off65_inb : ∀ (v310 : BitVec 32) (k0_hw5 : k0_chk5 v310), ∀ a, (k0_off65 v310) a + S1x16.size a ≤ S641x128.size a := fun v310 k0_hw5 => k0_hw5.2.2.2.2.2.2.1
theorem k0_off67_inb : ∀ (v310 : BitVec 32) (k0_hw5 : k0_chk5 v310), ∀ a, (k0_off67 v310) a + S1x16.size a ≤ S641x128.size a := fun v310 k0_hw5 => k0_hw5.2.2.2.2.2.2.2

def k0_off68 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v365 : Index := Scalar.indexCast v313
  let c112_179 : Index := 112#32
  ![v365.toNat, 112]
def k0_off69 (v371 : BitVec 32) : Fin 2 → Nat :=
  let v375 : Index := Scalar.indexCast v371
  let c0_182 : Index := 0#32
  ![v375.toNat, 0]

def k0_off70 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v377 : Index := Scalar.indexCast v374
  let c0_183 : Index := 0#32
  ![v377.toNat, 0]
def k0_off71 (v371 : BitVec 32) : Fin 2 → Nat :=
  let v382 : Index := Scalar.indexCast v371
  let c16_185 : Index := 16#32
  ![v382.toNat, 16]
def k0_off72 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v384 : Index := Scalar.indexCast v374
  let c16_186 : Index := 16#32
  ![v384.toNat, 16]
def k0_off73 (v371 : BitVec 32) : Fin 2 → Nat :=
  let v389 : Index := Scalar.indexCast v371
  let c32_188 : Index := 32#32
  ![v389.toNat, 32]
def k0_off74 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v391 : Index := Scalar.indexCast v374
  let c32_189 : Index := 32#32
  ![v391.toNat, 32]
def k0_off75 (v371 : BitVec 32) : Fin 2 → Nat :=
  let v396 : Index := Scalar.indexCast v371
  let c48_191 : Index := 48#32
  ![v396.toNat, 48]
def k0_off76 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v398 : Index := Scalar.indexCast v374
  let c48_192 : Index := 48#32
  ![v398.toNat, 48]
def k0_off77 (v371 : BitVec 32) : Fin 2 → Nat :=
  let v403 : Index := Scalar.indexCast v371
  let c64_194 : Index := 64#32
  ![v403.toNat, 64]
def k0_off78 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v405 : Index := Scalar.indexCast v374
  let c64_195 : Index := 64#32
  ![v405.toNat, 64]
def k0_off79 (v371 : BitVec 32) : Fin 2 → Nat :=
  let v410 : Index := Scalar.indexCast v371
  let c80_197 : Index := 80#32
  ![v410.toNat, 80]
def k0_off80 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v412 : Index := Scalar.indexCast v374
  let c80_198 : Index := 80#32
  ![v412.toNat, 80]
def k0_off81 (v371 : BitVec 32) : Fin 2 → Nat :=
  let v417 : Index := Scalar.indexCast v371
  let c96_200 : Index := 96#32
  ![v417.toNat, 96]
def k0_off82 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v419 : Index := Scalar.indexCast v374
  let c96_201 : Index := 96#32
  ![v419.toNat, 96]
def k0_off83 (v371 : BitVec 32) : Fin 2 → Nat :=
  let v424 : Index := Scalar.indexCast v371
  let c112_203 : Index := 112#32
  ![v424.toNat, 112]

def k0_chk6 (v371 : BitVec 32) : Prop :=
  (∀ a, (k0_off69 v371) a + S1x16.size a ≤ S641x128.size a) ∧
  (∀ a, (k0_off71 v371) a + S1x16.size a ≤ S641x128.size a) ∧
  (∀ a, (k0_off73 v371) a + S1x16.size a ≤ S641x128.size a) ∧
  (∀ a, (k0_off75 v371) a + S1x16.size a ≤ S641x128.size a) ∧
  (∀ a, (k0_off77 v371) a + S1x16.size a ≤ S641x128.size a) ∧
  (∀ a, (k0_off79 v371) a + S1x16.size a ≤ S641x128.size a) ∧
  (∀ a, (k0_off81 v371) a + S1x16.size a ≤ S641x128.size a) ∧
  (∀ a, (k0_off83 v371) a + S1x16.size a ≤ S641x128.size a)
theorem k0_off69_inb : ∀ (v371 : BitVec 32) (k0_hw6 : k0_chk6 v371), ∀ a, (k0_off69 v371) a + S1x16.size a ≤ S641x128.size a := fun v371 k0_hw6 => k0_hw6.1
theorem k0_off71_inb : ∀ (v371 : BitVec 32) (k0_hw6 : k0_chk6 v371), ∀ a, (k0_off71 v371) a + S1x16.size a ≤ S641x128.size a := fun v371 k0_hw6 => k0_hw6.2.1
theorem k0_off73_inb : ∀ (v371 : BitVec 32) (k0_hw6 : k0_chk6 v371), ∀ a, (k0_off73 v371) a + S1x16.size a ≤ S641x128.size a := fun v371 k0_hw6 => k0_hw6.2.2.1
theorem k0_off75_inb : ∀ (v371 : BitVec 32) (k0_hw6 : k0_chk6 v371), ∀ a, (k0_off75 v371) a + S1x16.size a ≤ S641x128.size a := fun v371 k0_hw6 => k0_hw6.2.2.2.1
theorem k0_off77_inb : ∀ (v371 : BitVec 32) (k0_hw6 : k0_chk6 v371), ∀ a, (k0_off77 v371) a + S1x16.size a ≤ S641x128.size a := fun v371 k0_hw6 => k0_hw6.2.2.2.2.1
theorem k0_off79_inb : ∀ (v371 : BitVec 32) (k0_hw6 : k0_chk6 v371), ∀ a, (k0_off79 v371) a + S1x16.size a ≤ S641x128.size a := fun v371 k0_hw6 => k0_hw6.2.2.2.2.2.1
theorem k0_off81_inb : ∀ (v371 : BitVec 32) (k0_hw6 : k0_chk6 v371), ∀ a, (k0_off81 v371) a + S1x16.size a ≤ S641x128.size a := fun v371 k0_hw6 => k0_hw6.2.2.2.2.2.2.1
theorem k0_off83_inb : ∀ (v371 : BitVec 32) (k0_hw6 : k0_chk6 v371), ∀ a, (k0_off83 v371) a + S1x16.size a ≤ S641x128.size a := fun v371 k0_hw6 => k0_hw6.2.2.2.2.2.2.2

def k0_off84 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v426 : Index := Scalar.indexCast v374
  let c112_204 : Index := 112#32
  ![v426.toNat, 112]
def k0_off85 (v432 : BitVec 32) : Fin 2 → Nat :=
  let v436 : Index := Scalar.indexCast v432
  let c0_208 : Index := 0#32
  ![v436.toNat, 0]

def k0_off86 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v438 : Index := Scalar.indexCast v435
  let c0_209 : Index := 0#32
  ![v438.toNat, 0]
def k0_off87 (v432 : BitVec 32) : Fin 2 → Nat :=
  let v443 : Index := Scalar.indexCast v432
  let c16_211 : Index := 16#32
  ![v443.toNat, 16]
def k0_off88 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v445 : Index := Scalar.indexCast v435
  let c16_212 : Index := 16#32
  ![v445.toNat, 16]
def k0_off89 (v432 : BitVec 32) : Fin 2 → Nat :=
  let v450 : Index := Scalar.indexCast v432
  let c32_214 : Index := 32#32
  ![v450.toNat, 32]
def k0_off90 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v452 : Index := Scalar.indexCast v435
  let c32_215 : Index := 32#32
  ![v452.toNat, 32]
def k0_off91 (v432 : BitVec 32) : Fin 2 → Nat :=
  let v457 : Index := Scalar.indexCast v432
  let c48_217 : Index := 48#32
  ![v457.toNat, 48]
def k0_off92 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v459 : Index := Scalar.indexCast v435
  let c48_218 : Index := 48#32
  ![v459.toNat, 48]
def k0_off93 (v432 : BitVec 32) : Fin 2 → Nat :=
  let v464 : Index := Scalar.indexCast v432
  let c64_220 : Index := 64#32
  ![v464.toNat, 64]
def k0_off94 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v466 : Index := Scalar.indexCast v435
  let c64_221 : Index := 64#32
  ![v466.toNat, 64]
def k0_off95 (v432 : BitVec 32) : Fin 2 → Nat :=
  let v471 : Index := Scalar.indexCast v432
  let c80_223 : Index := 80#32
  ![v471.toNat, 80]
def k0_off96 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v473 : Index := Scalar.indexCast v435
  let c80_224 : Index := 80#32
  ![v473.toNat, 80]
def k0_off97 (v432 : BitVec 32) : Fin 2 → Nat :=
  let v478 : Index := Scalar.indexCast v432
  let c96_226 : Index := 96#32
  ![v478.toNat, 96]
def k0_off98 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v480 : Index := Scalar.indexCast v435
  let c96_227 : Index := 96#32
  ![v480.toNat, 96]
def k0_off99 (v432 : BitVec 32) : Fin 2 → Nat :=
  let v485 : Index := Scalar.indexCast v432
  let c112_229 : Index := 112#32
  ![v485.toNat, 112]

def k0_chk7 (v432 : BitVec 32) : Prop :=
  (∀ a, (k0_off85 v432) a + S1x16.size a ≤ S641x128.size a) ∧
  (∀ a, (k0_off87 v432) a + S1x16.size a ≤ S641x128.size a) ∧
  (∀ a, (k0_off89 v432) a + S1x16.size a ≤ S641x128.size a) ∧
  (∀ a, (k0_off91 v432) a + S1x16.size a ≤ S641x128.size a) ∧
  (∀ a, (k0_off93 v432) a + S1x16.size a ≤ S641x128.size a) ∧
  (∀ a, (k0_off95 v432) a + S1x16.size a ≤ S641x128.size a) ∧
  (∀ a, (k0_off97 v432) a + S1x16.size a ≤ S641x128.size a) ∧
  (∀ a, (k0_off99 v432) a + S1x16.size a ≤ S641x128.size a)
theorem k0_off85_inb : ∀ (v432 : BitVec 32) (k0_hw7 : k0_chk7 v432), ∀ a, (k0_off85 v432) a + S1x16.size a ≤ S641x128.size a := fun v432 k0_hw7 => k0_hw7.1
theorem k0_off87_inb : ∀ (v432 : BitVec 32) (k0_hw7 : k0_chk7 v432), ∀ a, (k0_off87 v432) a + S1x16.size a ≤ S641x128.size a := fun v432 k0_hw7 => k0_hw7.2.1
theorem k0_off89_inb : ∀ (v432 : BitVec 32) (k0_hw7 : k0_chk7 v432), ∀ a, (k0_off89 v432) a + S1x16.size a ≤ S641x128.size a := fun v432 k0_hw7 => k0_hw7.2.2.1
theorem k0_off91_inb : ∀ (v432 : BitVec 32) (k0_hw7 : k0_chk7 v432), ∀ a, (k0_off91 v432) a + S1x16.size a ≤ S641x128.size a := fun v432 k0_hw7 => k0_hw7.2.2.2.1
theorem k0_off93_inb : ∀ (v432 : BitVec 32) (k0_hw7 : k0_chk7 v432), ∀ a, (k0_off93 v432) a + S1x16.size a ≤ S641x128.size a := fun v432 k0_hw7 => k0_hw7.2.2.2.2.1
theorem k0_off95_inb : ∀ (v432 : BitVec 32) (k0_hw7 : k0_chk7 v432), ∀ a, (k0_off95 v432) a + S1x16.size a ≤ S641x128.size a := fun v432 k0_hw7 => k0_hw7.2.2.2.2.2.1
theorem k0_off97_inb : ∀ (v432 : BitVec 32) (k0_hw7 : k0_chk7 v432), ∀ a, (k0_off97 v432) a + S1x16.size a ≤ S641x128.size a := fun v432 k0_hw7 => k0_hw7.2.2.2.2.2.2.1
theorem k0_off99_inb : ∀ (v432 : BitVec 32) (k0_hw7 : k0_chk7 v432), ∀ a, (k0_off99 v432) a + S1x16.size a ≤ S641x128.size a := fun v432 k0_hw7 => k0_hw7.2.2.2.2.2.2.2

def k0_off100 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v487 : Index := Scalar.indexCast v435
  let c112_230 : Index := 112#32
  ![v487.toNat, 112]
def k0_off101 (v493 : BitVec 32) : Fin 2 → Nat :=
  let v497 : Index := Scalar.indexCast v493
  let c0_233 : Index := 0#32
  ![v497.toNat, 0]

def k0_off102 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v499 : Index := Scalar.indexCast v496
  let c0_234 : Index := 0#32
  ![v499.toNat, 0]
def k0_off103 (v493 : BitVec 32) : Fin 2 → Nat :=
  let v504 : Index := Scalar.indexCast v493
  let c16_236 : Index := 16#32
  ![v504.toNat, 16]
def k0_off104 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v506 : Index := Scalar.indexCast v496
  let c16_237 : Index := 16#32
  ![v506.toNat, 16]
def k0_off105 (v493 : BitVec 32) : Fin 2 → Nat :=
  let v511 : Index := Scalar.indexCast v493
  let c32_239 : Index := 32#32
  ![v511.toNat, 32]
def k0_off106 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v513 : Index := Scalar.indexCast v496
  let c32_240 : Index := 32#32
  ![v513.toNat, 32]
def k0_off107 (v493 : BitVec 32) : Fin 2 → Nat :=
  let v518 : Index := Scalar.indexCast v493
  let c48_242 : Index := 48#32
  ![v518.toNat, 48]
def k0_off108 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v520 : Index := Scalar.indexCast v496
  let c48_243 : Index := 48#32
  ![v520.toNat, 48]
def k0_off109 (v493 : BitVec 32) : Fin 2 → Nat :=
  let v525 : Index := Scalar.indexCast v493
  let c64_245 : Index := 64#32
  ![v525.toNat, 64]
def k0_off110 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v527 : Index := Scalar.indexCast v496
  let c64_246 : Index := 64#32
  ![v527.toNat, 64]
def k0_off111 (v493 : BitVec 32) : Fin 2 → Nat :=
  let v532 : Index := Scalar.indexCast v493
  let c80_248 : Index := 80#32
  ![v532.toNat, 80]
def k0_off112 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v534 : Index := Scalar.indexCast v496
  let c80_249 : Index := 80#32
  ![v534.toNat, 80]
def k0_off113 (v493 : BitVec 32) : Fin 2 → Nat :=
  let v539 : Index := Scalar.indexCast v493
  let c96_251 : Index := 96#32
  ![v539.toNat, 96]
def k0_off114 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v541 : Index := Scalar.indexCast v496
  let c96_252 : Index := 96#32
  ![v541.toNat, 96]
def k0_off115 (v493 : BitVec 32) : Fin 2 → Nat :=
  let v546 : Index := Scalar.indexCast v493
  let c112_254 : Index := 112#32
  ![v546.toNat, 112]

def k0_chk8 (v493 : BitVec 32) : Prop :=
  (∀ a, (k0_off101 v493) a + S1x16.size a ≤ S641x128.size a) ∧
  (∀ a, (k0_off103 v493) a + S1x16.size a ≤ S641x128.size a) ∧
  (∀ a, (k0_off105 v493) a + S1x16.size a ≤ S641x128.size a) ∧
  (∀ a, (k0_off107 v493) a + S1x16.size a ≤ S641x128.size a) ∧
  (∀ a, (k0_off109 v493) a + S1x16.size a ≤ S641x128.size a) ∧
  (∀ a, (k0_off111 v493) a + S1x16.size a ≤ S641x128.size a) ∧
  (∀ a, (k0_off113 v493) a + S1x16.size a ≤ S641x128.size a) ∧
  (∀ a, (k0_off115 v493) a + S1x16.size a ≤ S641x128.size a)
theorem k0_off101_inb : ∀ (v493 : BitVec 32) (k0_hw8 : k0_chk8 v493), ∀ a, (k0_off101 v493) a + S1x16.size a ≤ S641x128.size a := fun v493 k0_hw8 => k0_hw8.1
theorem k0_off103_inb : ∀ (v493 : BitVec 32) (k0_hw8 : k0_chk8 v493), ∀ a, (k0_off103 v493) a + S1x16.size a ≤ S641x128.size a := fun v493 k0_hw8 => k0_hw8.2.1
theorem k0_off105_inb : ∀ (v493 : BitVec 32) (k0_hw8 : k0_chk8 v493), ∀ a, (k0_off105 v493) a + S1x16.size a ≤ S641x128.size a := fun v493 k0_hw8 => k0_hw8.2.2.1
theorem k0_off107_inb : ∀ (v493 : BitVec 32) (k0_hw8 : k0_chk8 v493), ∀ a, (k0_off107 v493) a + S1x16.size a ≤ S641x128.size a := fun v493 k0_hw8 => k0_hw8.2.2.2.1
theorem k0_off109_inb : ∀ (v493 : BitVec 32) (k0_hw8 : k0_chk8 v493), ∀ a, (k0_off109 v493) a + S1x16.size a ≤ S641x128.size a := fun v493 k0_hw8 => k0_hw8.2.2.2.2.1
theorem k0_off111_inb : ∀ (v493 : BitVec 32) (k0_hw8 : k0_chk8 v493), ∀ a, (k0_off111 v493) a + S1x16.size a ≤ S641x128.size a := fun v493 k0_hw8 => k0_hw8.2.2.2.2.2.1
theorem k0_off113_inb : ∀ (v493 : BitVec 32) (k0_hw8 : k0_chk8 v493), ∀ a, (k0_off113 v493) a + S1x16.size a ≤ S641x128.size a := fun v493 k0_hw8 => k0_hw8.2.2.2.2.2.2.1
theorem k0_off115_inb : ∀ (v493 : BitVec 32) (k0_hw8 : k0_chk8 v493), ∀ a, (k0_off115 v493) a + S1x16.size a ≤ S641x128.size a := fun v493 k0_hw8 => k0_hw8.2.2.2.2.2.2.2

def k0_off116 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v548 : Index := Scalar.indexCast v496
  let c112_255 : Index := 112#32
  ![v548.toNat, 112]
def k0_off117 (v554 : BitVec 32) : Fin 2 → Nat :=
  let v558 : Index := Scalar.indexCast v554
  let c0_258 : Index := 0#32
  ![v558.toNat, 0]

def k0_off118 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v560 : Index := Scalar.indexCast v557
  let c0_259 : Index := 0#32
  ![v560.toNat, 0]
def k0_off119 (v554 : BitVec 32) : Fin 2 → Nat :=
  let v565 : Index := Scalar.indexCast v554
  let c16_261 : Index := 16#32
  ![v565.toNat, 16]
def k0_off120 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v567 : Index := Scalar.indexCast v557
  let c16_262 : Index := 16#32
  ![v567.toNat, 16]
def k0_off121 (v554 : BitVec 32) : Fin 2 → Nat :=
  let v572 : Index := Scalar.indexCast v554
  let c32_264 : Index := 32#32
  ![v572.toNat, 32]
def k0_off122 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v574 : Index := Scalar.indexCast v557
  let c32_265 : Index := 32#32
  ![v574.toNat, 32]
def k0_off123 (v554 : BitVec 32) : Fin 2 → Nat :=
  let v579 : Index := Scalar.indexCast v554
  let c48_267 : Index := 48#32
  ![v579.toNat, 48]
def k0_off124 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v581 : Index := Scalar.indexCast v557
  let c48_268 : Index := 48#32
  ![v581.toNat, 48]
def k0_off125 (v554 : BitVec 32) : Fin 2 → Nat :=
  let v586 : Index := Scalar.indexCast v554
  let c64_270 : Index := 64#32
  ![v586.toNat, 64]
def k0_off126 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v588 : Index := Scalar.indexCast v557
  let c64_271 : Index := 64#32
  ![v588.toNat, 64]
def k0_off127 (v554 : BitVec 32) : Fin 2 → Nat :=
  let v593 : Index := Scalar.indexCast v554
  let c80_273 : Index := 80#32
  ![v593.toNat, 80]
def k0_off128 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v595 : Index := Scalar.indexCast v557
  let c80_274 : Index := 80#32
  ![v595.toNat, 80]
def k0_off129 (v554 : BitVec 32) : Fin 2 → Nat :=
  let v600 : Index := Scalar.indexCast v554
  let c96_276 : Index := 96#32
  ![v600.toNat, 96]
def k0_off130 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v602 : Index := Scalar.indexCast v557
  let c96_277 : Index := 96#32
  ![v602.toNat, 96]
def k0_off131 (v554 : BitVec 32) : Fin 2 → Nat :=
  let v607 : Index := Scalar.indexCast v554
  let c112_279 : Index := 112#32
  ![v607.toNat, 112]

def k0_chk9 (v554 : BitVec 32) : Prop :=
  (∀ a, (k0_off117 v554) a + S1x16.size a ≤ S641x128.size a) ∧
  (∀ a, (k0_off119 v554) a + S1x16.size a ≤ S641x128.size a) ∧
  (∀ a, (k0_off121 v554) a + S1x16.size a ≤ S641x128.size a) ∧
  (∀ a, (k0_off123 v554) a + S1x16.size a ≤ S641x128.size a) ∧
  (∀ a, (k0_off125 v554) a + S1x16.size a ≤ S641x128.size a) ∧
  (∀ a, (k0_off127 v554) a + S1x16.size a ≤ S641x128.size a) ∧
  (∀ a, (k0_off129 v554) a + S1x16.size a ≤ S641x128.size a) ∧
  (∀ a, (k0_off131 v554) a + S1x16.size a ≤ S641x128.size a)
theorem k0_off117_inb : ∀ (v554 : BitVec 32) (k0_hw9 : k0_chk9 v554), ∀ a, (k0_off117 v554) a + S1x16.size a ≤ S641x128.size a := fun v554 k0_hw9 => k0_hw9.1
theorem k0_off119_inb : ∀ (v554 : BitVec 32) (k0_hw9 : k0_chk9 v554), ∀ a, (k0_off119 v554) a + S1x16.size a ≤ S641x128.size a := fun v554 k0_hw9 => k0_hw9.2.1
theorem k0_off121_inb : ∀ (v554 : BitVec 32) (k0_hw9 : k0_chk9 v554), ∀ a, (k0_off121 v554) a + S1x16.size a ≤ S641x128.size a := fun v554 k0_hw9 => k0_hw9.2.2.1
theorem k0_off123_inb : ∀ (v554 : BitVec 32) (k0_hw9 : k0_chk9 v554), ∀ a, (k0_off123 v554) a + S1x16.size a ≤ S641x128.size a := fun v554 k0_hw9 => k0_hw9.2.2.2.1
theorem k0_off125_inb : ∀ (v554 : BitVec 32) (k0_hw9 : k0_chk9 v554), ∀ a, (k0_off125 v554) a + S1x16.size a ≤ S641x128.size a := fun v554 k0_hw9 => k0_hw9.2.2.2.2.1
theorem k0_off127_inb : ∀ (v554 : BitVec 32) (k0_hw9 : k0_chk9 v554), ∀ a, (k0_off127 v554) a + S1x16.size a ≤ S641x128.size a := fun v554 k0_hw9 => k0_hw9.2.2.2.2.2.1
theorem k0_off129_inb : ∀ (v554 : BitVec 32) (k0_hw9 : k0_chk9 v554), ∀ a, (k0_off129 v554) a + S1x16.size a ≤ S641x128.size a := fun v554 k0_hw9 => k0_hw9.2.2.2.2.2.2.1
theorem k0_off131_inb : ∀ (v554 : BitVec 32) (k0_hw9 : k0_chk9 v554), ∀ a, (k0_off131 v554) a + S1x16.size a ≤ S641x128.size a := fun v554 k0_hw9 => k0_hw9.2.2.2.2.2.2.2

def k0_off132 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v609 : Index := Scalar.indexCast v557
  let c112_280 : Index := 112#32
  ![v609.toNat, 112]
def k0_off133 (v615 : BitVec 32) : Fin 2 → Nat :=
  let v619 : Index := Scalar.indexCast v615
  let c0_283 : Index := 0#32
  ![v619.toNat, 0]

def k0_off134 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v621 : Index := Scalar.indexCast v618
  let c0_284 : Index := 0#32
  ![v621.toNat, 0]
def k0_off135 (v615 : BitVec 32) : Fin 2 → Nat :=
  let v626 : Index := Scalar.indexCast v615
  let c16_286 : Index := 16#32
  ![v626.toNat, 16]
def k0_off136 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v628 : Index := Scalar.indexCast v618
  let c16_287 : Index := 16#32
  ![v628.toNat, 16]
def k0_off137 (v615 : BitVec 32) : Fin 2 → Nat :=
  let v633 : Index := Scalar.indexCast v615
  let c32_289 : Index := 32#32
  ![v633.toNat, 32]
def k0_off138 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v635 : Index := Scalar.indexCast v618
  let c32_290 : Index := 32#32
  ![v635.toNat, 32]
def k0_off139 (v615 : BitVec 32) : Fin 2 → Nat :=
  let v640 : Index := Scalar.indexCast v615
  let c48_292 : Index := 48#32
  ![v640.toNat, 48]
def k0_off140 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v642 : Index := Scalar.indexCast v618
  let c48_293 : Index := 48#32
  ![v642.toNat, 48]
def k0_off141 (v615 : BitVec 32) : Fin 2 → Nat :=
  let v647 : Index := Scalar.indexCast v615
  let c64_295 : Index := 64#32
  ![v647.toNat, 64]
def k0_off142 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v649 : Index := Scalar.indexCast v618
  let c64_296 : Index := 64#32
  ![v649.toNat, 64]
def k0_off143 (v615 : BitVec 32) : Fin 2 → Nat :=
  let v654 : Index := Scalar.indexCast v615
  let c80_298 : Index := 80#32
  ![v654.toNat, 80]
def k0_off144 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v656 : Index := Scalar.indexCast v618
  let c80_299 : Index := 80#32
  ![v656.toNat, 80]
def k0_off145 (v615 : BitVec 32) : Fin 2 → Nat :=
  let v661 : Index := Scalar.indexCast v615
  let c96_301 : Index := 96#32
  ![v661.toNat, 96]
def k0_off146 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v663 : Index := Scalar.indexCast v618
  let c96_302 : Index := 96#32
  ![v663.toNat, 96]
def k0_off147 (v615 : BitVec 32) : Fin 2 → Nat :=
  let v668 : Index := Scalar.indexCast v615
  let c112_304 : Index := 112#32
  ![v668.toNat, 112]

def k0_chk10 (v615 : BitVec 32) : Prop :=
  (∀ a, (k0_off133 v615) a + S1x16.size a ≤ S641x128.size a) ∧
  (∀ a, (k0_off135 v615) a + S1x16.size a ≤ S641x128.size a) ∧
  (∀ a, (k0_off137 v615) a + S1x16.size a ≤ S641x128.size a) ∧
  (∀ a, (k0_off139 v615) a + S1x16.size a ≤ S641x128.size a) ∧
  (∀ a, (k0_off141 v615) a + S1x16.size a ≤ S641x128.size a) ∧
  (∀ a, (k0_off143 v615) a + S1x16.size a ≤ S641x128.size a) ∧
  (∀ a, (k0_off145 v615) a + S1x16.size a ≤ S641x128.size a) ∧
  (∀ a, (k0_off147 v615) a + S1x16.size a ≤ S641x128.size a)
theorem k0_off133_inb : ∀ (v615 : BitVec 32) (k0_hw10 : k0_chk10 v615), ∀ a, (k0_off133 v615) a + S1x16.size a ≤ S641x128.size a := fun v615 k0_hw10 => k0_hw10.1
theorem k0_off135_inb : ∀ (v615 : BitVec 32) (k0_hw10 : k0_chk10 v615), ∀ a, (k0_off135 v615) a + S1x16.size a ≤ S641x128.size a := fun v615 k0_hw10 => k0_hw10.2.1
theorem k0_off137_inb : ∀ (v615 : BitVec 32) (k0_hw10 : k0_chk10 v615), ∀ a, (k0_off137 v615) a + S1x16.size a ≤ S641x128.size a := fun v615 k0_hw10 => k0_hw10.2.2.1
theorem k0_off139_inb : ∀ (v615 : BitVec 32) (k0_hw10 : k0_chk10 v615), ∀ a, (k0_off139 v615) a + S1x16.size a ≤ S641x128.size a := fun v615 k0_hw10 => k0_hw10.2.2.2.1
theorem k0_off141_inb : ∀ (v615 : BitVec 32) (k0_hw10 : k0_chk10 v615), ∀ a, (k0_off141 v615) a + S1x16.size a ≤ S641x128.size a := fun v615 k0_hw10 => k0_hw10.2.2.2.2.1
theorem k0_off143_inb : ∀ (v615 : BitVec 32) (k0_hw10 : k0_chk10 v615), ∀ a, (k0_off143 v615) a + S1x16.size a ≤ S641x128.size a := fun v615 k0_hw10 => k0_hw10.2.2.2.2.2.1
theorem k0_off145_inb : ∀ (v615 : BitVec 32) (k0_hw10 : k0_chk10 v615), ∀ a, (k0_off145 v615) a + S1x16.size a ≤ S641x128.size a := fun v615 k0_hw10 => k0_hw10.2.2.2.2.2.2.1
theorem k0_off147_inb : ∀ (v615 : BitVec 32) (k0_hw10 : k0_chk10 v615), ∀ a, (k0_off147 v615) a + S1x16.size a ≤ S641x128.size a := fun v615 k0_hw10 => k0_hw10.2.2.2.2.2.2.2

def k0_off148 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v670 : Index := Scalar.indexCast v618
  let c112_305 : Index := 112#32
  ![v670.toNat, 112]
def k0_off149 (v676 : BitVec 32) : Fin 2 → Nat :=
  let v680 : Index := Scalar.indexCast v676
  let c0_308 : Index := 0#32
  ![v680.toNat, 0]

def k0_off150 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v682 : Index := Scalar.indexCast v679
  let c0_309 : Index := 0#32
  ![v682.toNat, 0]
def k0_off151 (v676 : BitVec 32) : Fin 2 → Nat :=
  let v687 : Index := Scalar.indexCast v676
  let c16_311 : Index := 16#32
  ![v687.toNat, 16]
def k0_off152 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v689 : Index := Scalar.indexCast v679
  let c16_312 : Index := 16#32
  ![v689.toNat, 16]
def k0_off153 (v676 : BitVec 32) : Fin 2 → Nat :=
  let v694 : Index := Scalar.indexCast v676
  let c32_314 : Index := 32#32
  ![v694.toNat, 32]
def k0_off154 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v696 : Index := Scalar.indexCast v679
  let c32_315 : Index := 32#32
  ![v696.toNat, 32]
def k0_off155 (v676 : BitVec 32) : Fin 2 → Nat :=
  let v701 : Index := Scalar.indexCast v676
  let c48_317 : Index := 48#32
  ![v701.toNat, 48]
def k0_off156 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v703 : Index := Scalar.indexCast v679
  let c48_318 : Index := 48#32
  ![v703.toNat, 48]
def k0_off157 (v676 : BitVec 32) : Fin 2 → Nat :=
  let v708 : Index := Scalar.indexCast v676
  let c64_320 : Index := 64#32
  ![v708.toNat, 64]
def k0_off158 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v710 : Index := Scalar.indexCast v679
  let c64_321 : Index := 64#32
  ![v710.toNat, 64]
def k0_off159 (v676 : BitVec 32) : Fin 2 → Nat :=
  let v715 : Index := Scalar.indexCast v676
  let c80_323 : Index := 80#32
  ![v715.toNat, 80]
def k0_off160 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v717 : Index := Scalar.indexCast v679
  let c80_324 : Index := 80#32
  ![v717.toNat, 80]
def k0_off161 (v676 : BitVec 32) : Fin 2 → Nat :=
  let v722 : Index := Scalar.indexCast v676
  let c96_326 : Index := 96#32
  ![v722.toNat, 96]
def k0_off162 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v724 : Index := Scalar.indexCast v679
  let c96_327 : Index := 96#32
  ![v724.toNat, 96]
def k0_off163 (v676 : BitVec 32) : Fin 2 → Nat :=
  let v729 : Index := Scalar.indexCast v676
  let c112_329 : Index := 112#32
  ![v729.toNat, 112]

def k0_chk11 (v676 : BitVec 32) : Prop :=
  (∀ a, (k0_off149 v676) a + S1x16.size a ≤ S641x128.size a) ∧
  (∀ a, (k0_off151 v676) a + S1x16.size a ≤ S641x128.size a) ∧
  (∀ a, (k0_off153 v676) a + S1x16.size a ≤ S641x128.size a) ∧
  (∀ a, (k0_off155 v676) a + S1x16.size a ≤ S641x128.size a) ∧
  (∀ a, (k0_off157 v676) a + S1x16.size a ≤ S641x128.size a) ∧
  (∀ a, (k0_off159 v676) a + S1x16.size a ≤ S641x128.size a) ∧
  (∀ a, (k0_off161 v676) a + S1x16.size a ≤ S641x128.size a) ∧
  (∀ a, (k0_off163 v676) a + S1x16.size a ≤ S641x128.size a)
theorem k0_off149_inb : ∀ (v676 : BitVec 32) (k0_hw11 : k0_chk11 v676), ∀ a, (k0_off149 v676) a + S1x16.size a ≤ S641x128.size a := fun v676 k0_hw11 => k0_hw11.1
theorem k0_off151_inb : ∀ (v676 : BitVec 32) (k0_hw11 : k0_chk11 v676), ∀ a, (k0_off151 v676) a + S1x16.size a ≤ S641x128.size a := fun v676 k0_hw11 => k0_hw11.2.1
theorem k0_off153_inb : ∀ (v676 : BitVec 32) (k0_hw11 : k0_chk11 v676), ∀ a, (k0_off153 v676) a + S1x16.size a ≤ S641x128.size a := fun v676 k0_hw11 => k0_hw11.2.2.1
theorem k0_off155_inb : ∀ (v676 : BitVec 32) (k0_hw11 : k0_chk11 v676), ∀ a, (k0_off155 v676) a + S1x16.size a ≤ S641x128.size a := fun v676 k0_hw11 => k0_hw11.2.2.2.1
theorem k0_off157_inb : ∀ (v676 : BitVec 32) (k0_hw11 : k0_chk11 v676), ∀ a, (k0_off157 v676) a + S1x16.size a ≤ S641x128.size a := fun v676 k0_hw11 => k0_hw11.2.2.2.2.1
theorem k0_off159_inb : ∀ (v676 : BitVec 32) (k0_hw11 : k0_chk11 v676), ∀ a, (k0_off159 v676) a + S1x16.size a ≤ S641x128.size a := fun v676 k0_hw11 => k0_hw11.2.2.2.2.2.1
theorem k0_off161_inb : ∀ (v676 : BitVec 32) (k0_hw11 : k0_chk11 v676), ∀ a, (k0_off161 v676) a + S1x16.size a ≤ S641x128.size a := fun v676 k0_hw11 => k0_hw11.2.2.2.2.2.2.1
theorem k0_off163_inb : ∀ (v676 : BitVec 32) (k0_hw11 : k0_chk11 v676), ∀ a, (k0_off163 v676) a + S1x16.size a ≤ S641x128.size a := fun v676 k0_hw11 => k0_hw11.2.2.2.2.2.2.2

def k0_off164 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v731 : Index := Scalar.indexCast v679
  let c112_330 : Index := 112#32
  ![v731.toNat, 112]
def k0_off165 (v737 : BitVec 32) : Fin 2 → Nat :=
  let v741 : Index := Scalar.indexCast v737
  let c0_333 : Index := 0#32
  ![v741.toNat, 0]

def k0_off166 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v743 : Index := Scalar.indexCast v740
  let c0_334 : Index := 0#32
  ![v743.toNat, 0]
def k0_off167 (v737 : BitVec 32) : Fin 2 → Nat :=
  let v748 : Index := Scalar.indexCast v737
  let c16_336 : Index := 16#32
  ![v748.toNat, 16]
def k0_off168 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v750 : Index := Scalar.indexCast v740
  let c16_337 : Index := 16#32
  ![v750.toNat, 16]
def k0_off169 (v737 : BitVec 32) : Fin 2 → Nat :=
  let v755 : Index := Scalar.indexCast v737
  let c32_339 : Index := 32#32
  ![v755.toNat, 32]
def k0_off170 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v757 : Index := Scalar.indexCast v740
  let c32_340 : Index := 32#32
  ![v757.toNat, 32]
def k0_off171 (v737 : BitVec 32) : Fin 2 → Nat :=
  let v762 : Index := Scalar.indexCast v737
  let c48_342 : Index := 48#32
  ![v762.toNat, 48]
def k0_off172 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v764 : Index := Scalar.indexCast v740
  let c48_343 : Index := 48#32
  ![v764.toNat, 48]
def k0_off173 (v737 : BitVec 32) : Fin 2 → Nat :=
  let v769 : Index := Scalar.indexCast v737
  let c64_345 : Index := 64#32
  ![v769.toNat, 64]
def k0_off174 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v771 : Index := Scalar.indexCast v740
  let c64_346 : Index := 64#32
  ![v771.toNat, 64]
def k0_off175 (v737 : BitVec 32) : Fin 2 → Nat :=
  let v776 : Index := Scalar.indexCast v737
  let c80_348 : Index := 80#32
  ![v776.toNat, 80]
def k0_off176 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v778 : Index := Scalar.indexCast v740
  let c80_349 : Index := 80#32
  ![v778.toNat, 80]
def k0_off177 (v737 : BitVec 32) : Fin 2 → Nat :=
  let v783 : Index := Scalar.indexCast v737
  let c96_351 : Index := 96#32
  ![v783.toNat, 96]
def k0_off178 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v785 : Index := Scalar.indexCast v740
  let c96_352 : Index := 96#32
  ![v785.toNat, 96]
def k0_off179 (v737 : BitVec 32) : Fin 2 → Nat :=
  let v790 : Index := Scalar.indexCast v737
  let c112_354 : Index := 112#32
  ![v790.toNat, 112]

def k0_chk12 (v737 : BitVec 32) : Prop :=
  (∀ a, (k0_off165 v737) a + S1x16.size a ≤ S641x128.size a) ∧
  (∀ a, (k0_off167 v737) a + S1x16.size a ≤ S641x128.size a) ∧
  (∀ a, (k0_off169 v737) a + S1x16.size a ≤ S641x128.size a) ∧
  (∀ a, (k0_off171 v737) a + S1x16.size a ≤ S641x128.size a) ∧
  (∀ a, (k0_off173 v737) a + S1x16.size a ≤ S641x128.size a) ∧
  (∀ a, (k0_off175 v737) a + S1x16.size a ≤ S641x128.size a) ∧
  (∀ a, (k0_off177 v737) a + S1x16.size a ≤ S641x128.size a) ∧
  (∀ a, (k0_off179 v737) a + S1x16.size a ≤ S641x128.size a)
theorem k0_off165_inb : ∀ (v737 : BitVec 32) (k0_hw12 : k0_chk12 v737), ∀ a, (k0_off165 v737) a + S1x16.size a ≤ S641x128.size a := fun v737 k0_hw12 => k0_hw12.1
theorem k0_off167_inb : ∀ (v737 : BitVec 32) (k0_hw12 : k0_chk12 v737), ∀ a, (k0_off167 v737) a + S1x16.size a ≤ S641x128.size a := fun v737 k0_hw12 => k0_hw12.2.1
theorem k0_off169_inb : ∀ (v737 : BitVec 32) (k0_hw12 : k0_chk12 v737), ∀ a, (k0_off169 v737) a + S1x16.size a ≤ S641x128.size a := fun v737 k0_hw12 => k0_hw12.2.2.1
theorem k0_off171_inb : ∀ (v737 : BitVec 32) (k0_hw12 : k0_chk12 v737), ∀ a, (k0_off171 v737) a + S1x16.size a ≤ S641x128.size a := fun v737 k0_hw12 => k0_hw12.2.2.2.1
theorem k0_off173_inb : ∀ (v737 : BitVec 32) (k0_hw12 : k0_chk12 v737), ∀ a, (k0_off173 v737) a + S1x16.size a ≤ S641x128.size a := fun v737 k0_hw12 => k0_hw12.2.2.2.2.1
theorem k0_off175_inb : ∀ (v737 : BitVec 32) (k0_hw12 : k0_chk12 v737), ∀ a, (k0_off175 v737) a + S1x16.size a ≤ S641x128.size a := fun v737 k0_hw12 => k0_hw12.2.2.2.2.2.1
theorem k0_off177_inb : ∀ (v737 : BitVec 32) (k0_hw12 : k0_chk12 v737), ∀ a, (k0_off177 v737) a + S1x16.size a ≤ S641x128.size a := fun v737 k0_hw12 => k0_hw12.2.2.2.2.2.2.1
theorem k0_off179_inb : ∀ (v737 : BitVec 32) (k0_hw12 : k0_chk12 v737), ∀ a, (k0_off179 v737) a + S1x16.size a ≤ S641x128.size a := fun v737 k0_hw12 => k0_hw12.2.2.2.2.2.2.2

def k0_off180 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v792 : Index := Scalar.indexCast v740
  let c112_355 : Index := 112#32
  ![v792.toNat, 112]
def k0_off181 (v798 : BitVec 32) : Fin 2 → Nat :=
  let v802 : Index := Scalar.indexCast v798
  let c0_358 : Index := 0#32
  ![v802.toNat, 0]

def k0_off182 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v804 : Index := Scalar.indexCast v801
  let c0_359 : Index := 0#32
  ![v804.toNat, 0]
def k0_off183 (v798 : BitVec 32) : Fin 2 → Nat :=
  let v809 : Index := Scalar.indexCast v798
  let c16_361 : Index := 16#32
  ![v809.toNat, 16]
def k0_off184 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v811 : Index := Scalar.indexCast v801
  let c16_362 : Index := 16#32
  ![v811.toNat, 16]
def k0_off185 (v798 : BitVec 32) : Fin 2 → Nat :=
  let v816 : Index := Scalar.indexCast v798
  let c32_364 : Index := 32#32
  ![v816.toNat, 32]
def k0_off186 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v818 : Index := Scalar.indexCast v801
  let c32_365 : Index := 32#32
  ![v818.toNat, 32]
def k0_off187 (v798 : BitVec 32) : Fin 2 → Nat :=
  let v823 : Index := Scalar.indexCast v798
  let c48_367 : Index := 48#32
  ![v823.toNat, 48]
def k0_off188 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v825 : Index := Scalar.indexCast v801
  let c48_368 : Index := 48#32
  ![v825.toNat, 48]
def k0_off189 (v798 : BitVec 32) : Fin 2 → Nat :=
  let v830 : Index := Scalar.indexCast v798
  let c64_370 : Index := 64#32
  ![v830.toNat, 64]
def k0_off190 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v832 : Index := Scalar.indexCast v801
  let c64_371 : Index := 64#32
  ![v832.toNat, 64]
def k0_off191 (v798 : BitVec 32) : Fin 2 → Nat :=
  let v837 : Index := Scalar.indexCast v798
  let c80_373 : Index := 80#32
  ![v837.toNat, 80]
def k0_off192 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v839 : Index := Scalar.indexCast v801
  let c80_374 : Index := 80#32
  ![v839.toNat, 80]
def k0_off193 (v798 : BitVec 32) : Fin 2 → Nat :=
  let v844 : Index := Scalar.indexCast v798
  let c96_376 : Index := 96#32
  ![v844.toNat, 96]
def k0_off194 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v846 : Index := Scalar.indexCast v801
  let c96_377 : Index := 96#32
  ![v846.toNat, 96]
def k0_off195 (v798 : BitVec 32) : Fin 2 → Nat :=
  let v851 : Index := Scalar.indexCast v798
  let c112_379 : Index := 112#32
  ![v851.toNat, 112]

def k0_chk13 (v798 : BitVec 32) : Prop :=
  (∀ a, (k0_off181 v798) a + S1x16.size a ≤ S641x128.size a) ∧
  (∀ a, (k0_off183 v798) a + S1x16.size a ≤ S641x128.size a) ∧
  (∀ a, (k0_off185 v798) a + S1x16.size a ≤ S641x128.size a) ∧
  (∀ a, (k0_off187 v798) a + S1x16.size a ≤ S641x128.size a) ∧
  (∀ a, (k0_off189 v798) a + S1x16.size a ≤ S641x128.size a) ∧
  (∀ a, (k0_off191 v798) a + S1x16.size a ≤ S641x128.size a) ∧
  (∀ a, (k0_off193 v798) a + S1x16.size a ≤ S641x128.size a) ∧
  (∀ a, (k0_off195 v798) a + S1x16.size a ≤ S641x128.size a)
theorem k0_off181_inb : ∀ (v798 : BitVec 32) (k0_hw13 : k0_chk13 v798), ∀ a, (k0_off181 v798) a + S1x16.size a ≤ S641x128.size a := fun v798 k0_hw13 => k0_hw13.1
theorem k0_off183_inb : ∀ (v798 : BitVec 32) (k0_hw13 : k0_chk13 v798), ∀ a, (k0_off183 v798) a + S1x16.size a ≤ S641x128.size a := fun v798 k0_hw13 => k0_hw13.2.1
theorem k0_off185_inb : ∀ (v798 : BitVec 32) (k0_hw13 : k0_chk13 v798), ∀ a, (k0_off185 v798) a + S1x16.size a ≤ S641x128.size a := fun v798 k0_hw13 => k0_hw13.2.2.1
theorem k0_off187_inb : ∀ (v798 : BitVec 32) (k0_hw13 : k0_chk13 v798), ∀ a, (k0_off187 v798) a + S1x16.size a ≤ S641x128.size a := fun v798 k0_hw13 => k0_hw13.2.2.2.1
theorem k0_off189_inb : ∀ (v798 : BitVec 32) (k0_hw13 : k0_chk13 v798), ∀ a, (k0_off189 v798) a + S1x16.size a ≤ S641x128.size a := fun v798 k0_hw13 => k0_hw13.2.2.2.2.1
theorem k0_off191_inb : ∀ (v798 : BitVec 32) (k0_hw13 : k0_chk13 v798), ∀ a, (k0_off191 v798) a + S1x16.size a ≤ S641x128.size a := fun v798 k0_hw13 => k0_hw13.2.2.2.2.2.1
theorem k0_off193_inb : ∀ (v798 : BitVec 32) (k0_hw13 : k0_chk13 v798), ∀ a, (k0_off193 v798) a + S1x16.size a ≤ S641x128.size a := fun v798 k0_hw13 => k0_hw13.2.2.2.2.2.2.1
theorem k0_off195_inb : ∀ (v798 : BitVec 32) (k0_hw13 : k0_chk13 v798), ∀ a, (k0_off195 v798) a + S1x16.size a ≤ S641x128.size a := fun v798 k0_hw13 => k0_hw13.2.2.2.2.2.2.2

def k0_off196 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v853 : Index := Scalar.indexCast v801
  let c112_380 : Index := 112#32
  ![v853.toNat, 112]
def k0_off197 (v859 : BitVec 32) : Fin 2 → Nat :=
  let v863 : Index := Scalar.indexCast v859
  let c0_383 : Index := 0#32
  ![v863.toNat, 0]

def k0_off198 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v865 : Index := Scalar.indexCast v862
  let c0_384 : Index := 0#32
  ![v865.toNat, 0]
def k0_off199 (v859 : BitVec 32) : Fin 2 → Nat :=
  let v870 : Index := Scalar.indexCast v859
  let c16_386 : Index := 16#32
  ![v870.toNat, 16]
def k0_off200 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v872 : Index := Scalar.indexCast v862
  let c16_387 : Index := 16#32
  ![v872.toNat, 16]
def k0_off201 (v859 : BitVec 32) : Fin 2 → Nat :=
  let v877 : Index := Scalar.indexCast v859
  let c32_389 : Index := 32#32
  ![v877.toNat, 32]
def k0_off202 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v879 : Index := Scalar.indexCast v862
  let c32_390 : Index := 32#32
  ![v879.toNat, 32]
def k0_off203 (v859 : BitVec 32) : Fin 2 → Nat :=
  let v884 : Index := Scalar.indexCast v859
  let c48_392 : Index := 48#32
  ![v884.toNat, 48]
def k0_off204 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v886 : Index := Scalar.indexCast v862
  let c48_393 : Index := 48#32
  ![v886.toNat, 48]
def k0_off205 (v859 : BitVec 32) : Fin 2 → Nat :=
  let v891 : Index := Scalar.indexCast v859
  let c64_395 : Index := 64#32
  ![v891.toNat, 64]
def k0_off206 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v893 : Index := Scalar.indexCast v862
  let c64_396 : Index := 64#32
  ![v893.toNat, 64]
def k0_off207 (v859 : BitVec 32) : Fin 2 → Nat :=
  let v898 : Index := Scalar.indexCast v859
  let c80_398 : Index := 80#32
  ![v898.toNat, 80]
def k0_off208 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v900 : Index := Scalar.indexCast v862
  let c80_399 : Index := 80#32
  ![v900.toNat, 80]
def k0_off209 (v859 : BitVec 32) : Fin 2 → Nat :=
  let v905 : Index := Scalar.indexCast v859
  let c96_401 : Index := 96#32
  ![v905.toNat, 96]
def k0_off210 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v907 : Index := Scalar.indexCast v862
  let c96_402 : Index := 96#32
  ![v907.toNat, 96]
def k0_off211 (v859 : BitVec 32) : Fin 2 → Nat :=
  let v912 : Index := Scalar.indexCast v859
  let c112_404 : Index := 112#32
  ![v912.toNat, 112]

def k0_chk14 (v859 : BitVec 32) : Prop :=
  (∀ a, (k0_off197 v859) a + S1x16.size a ≤ S641x128.size a) ∧
  (∀ a, (k0_off199 v859) a + S1x16.size a ≤ S641x128.size a) ∧
  (∀ a, (k0_off201 v859) a + S1x16.size a ≤ S641x128.size a) ∧
  (∀ a, (k0_off203 v859) a + S1x16.size a ≤ S641x128.size a) ∧
  (∀ a, (k0_off205 v859) a + S1x16.size a ≤ S641x128.size a) ∧
  (∀ a, (k0_off207 v859) a + S1x16.size a ≤ S641x128.size a) ∧
  (∀ a, (k0_off209 v859) a + S1x16.size a ≤ S641x128.size a) ∧
  (∀ a, (k0_off211 v859) a + S1x16.size a ≤ S641x128.size a)
theorem k0_off197_inb : ∀ (v859 : BitVec 32) (k0_hw14 : k0_chk14 v859), ∀ a, (k0_off197 v859) a + S1x16.size a ≤ S641x128.size a := fun v859 k0_hw14 => k0_hw14.1
theorem k0_off199_inb : ∀ (v859 : BitVec 32) (k0_hw14 : k0_chk14 v859), ∀ a, (k0_off199 v859) a + S1x16.size a ≤ S641x128.size a := fun v859 k0_hw14 => k0_hw14.2.1
theorem k0_off201_inb : ∀ (v859 : BitVec 32) (k0_hw14 : k0_chk14 v859), ∀ a, (k0_off201 v859) a + S1x16.size a ≤ S641x128.size a := fun v859 k0_hw14 => k0_hw14.2.2.1
theorem k0_off203_inb : ∀ (v859 : BitVec 32) (k0_hw14 : k0_chk14 v859), ∀ a, (k0_off203 v859) a + S1x16.size a ≤ S641x128.size a := fun v859 k0_hw14 => k0_hw14.2.2.2.1
theorem k0_off205_inb : ∀ (v859 : BitVec 32) (k0_hw14 : k0_chk14 v859), ∀ a, (k0_off205 v859) a + S1x16.size a ≤ S641x128.size a := fun v859 k0_hw14 => k0_hw14.2.2.2.2.1
theorem k0_off207_inb : ∀ (v859 : BitVec 32) (k0_hw14 : k0_chk14 v859), ∀ a, (k0_off207 v859) a + S1x16.size a ≤ S641x128.size a := fun v859 k0_hw14 => k0_hw14.2.2.2.2.2.1
theorem k0_off209_inb : ∀ (v859 : BitVec 32) (k0_hw14 : k0_chk14 v859), ∀ a, (k0_off209 v859) a + S1x16.size a ≤ S641x128.size a := fun v859 k0_hw14 => k0_hw14.2.2.2.2.2.2.1
theorem k0_off211_inb : ∀ (v859 : BitVec 32) (k0_hw14 : k0_chk14 v859), ∀ a, (k0_off211 v859) a + S1x16.size a ≤ S641x128.size a := fun v859 k0_hw14 => k0_hw14.2.2.2.2.2.2.2

def k0_off212 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v914 : Index := Scalar.indexCast v862
  let c112_405 : Index := 112#32
  ![v914.toNat, 112]
def k0_off213 (v920 : BitVec 32) : Fin 2 → Nat :=
  let v924 : Index := Scalar.indexCast v920
  let c0_408 : Index := 0#32
  ![v924.toNat, 0]

def k0_off214 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v926 : Index := Scalar.indexCast v923
  let c0_409 : Index := 0#32
  ![v926.toNat, 0]
def k0_off215 (v920 : BitVec 32) : Fin 2 → Nat :=
  let v931 : Index := Scalar.indexCast v920
  let c16_411 : Index := 16#32
  ![v931.toNat, 16]
def k0_off216 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v933 : Index := Scalar.indexCast v923
  let c16_412 : Index := 16#32
  ![v933.toNat, 16]
def k0_off217 (v920 : BitVec 32) : Fin 2 → Nat :=
  let v938 : Index := Scalar.indexCast v920
  let c32_414 : Index := 32#32
  ![v938.toNat, 32]
def k0_off218 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v940 : Index := Scalar.indexCast v923
  let c32_415 : Index := 32#32
  ![v940.toNat, 32]
def k0_off219 (v920 : BitVec 32) : Fin 2 → Nat :=
  let v945 : Index := Scalar.indexCast v920
  let c48_417 : Index := 48#32
  ![v945.toNat, 48]
def k0_off220 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v947 : Index := Scalar.indexCast v923
  let c48_418 : Index := 48#32
  ![v947.toNat, 48]
def k0_off221 (v920 : BitVec 32) : Fin 2 → Nat :=
  let v952 : Index := Scalar.indexCast v920
  let c64_420 : Index := 64#32
  ![v952.toNat, 64]
def k0_off222 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v954 : Index := Scalar.indexCast v923
  let c64_421 : Index := 64#32
  ![v954.toNat, 64]
def k0_off223 (v920 : BitVec 32) : Fin 2 → Nat :=
  let v959 : Index := Scalar.indexCast v920
  let c80_423 : Index := 80#32
  ![v959.toNat, 80]
def k0_off224 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v961 : Index := Scalar.indexCast v923
  let c80_424 : Index := 80#32
  ![v961.toNat, 80]
def k0_off225 (v920 : BitVec 32) : Fin 2 → Nat :=
  let v966 : Index := Scalar.indexCast v920
  let c96_426 : Index := 96#32
  ![v966.toNat, 96]
def k0_off226 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v968 : Index := Scalar.indexCast v923
  let c96_427 : Index := 96#32
  ![v968.toNat, 96]
def k0_off227 (v920 : BitVec 32) : Fin 2 → Nat :=
  let v973 : Index := Scalar.indexCast v920
  let c112_429 : Index := 112#32
  ![v973.toNat, 112]

def k0_chk15 (v920 : BitVec 32) : Prop :=
  (∀ a, (k0_off213 v920) a + S1x16.size a ≤ S641x128.size a) ∧
  (∀ a, (k0_off215 v920) a + S1x16.size a ≤ S641x128.size a) ∧
  (∀ a, (k0_off217 v920) a + S1x16.size a ≤ S641x128.size a) ∧
  (∀ a, (k0_off219 v920) a + S1x16.size a ≤ S641x128.size a) ∧
  (∀ a, (k0_off221 v920) a + S1x16.size a ≤ S641x128.size a) ∧
  (∀ a, (k0_off223 v920) a + S1x16.size a ≤ S641x128.size a) ∧
  (∀ a, (k0_off225 v920) a + S1x16.size a ≤ S641x128.size a) ∧
  (∀ a, (k0_off227 v920) a + S1x16.size a ≤ S641x128.size a)
theorem k0_off213_inb : ∀ (v920 : BitVec 32) (k0_hw15 : k0_chk15 v920), ∀ a, (k0_off213 v920) a + S1x16.size a ≤ S641x128.size a := fun v920 k0_hw15 => k0_hw15.1
theorem k0_off215_inb : ∀ (v920 : BitVec 32) (k0_hw15 : k0_chk15 v920), ∀ a, (k0_off215 v920) a + S1x16.size a ≤ S641x128.size a := fun v920 k0_hw15 => k0_hw15.2.1
theorem k0_off217_inb : ∀ (v920 : BitVec 32) (k0_hw15 : k0_chk15 v920), ∀ a, (k0_off217 v920) a + S1x16.size a ≤ S641x128.size a := fun v920 k0_hw15 => k0_hw15.2.2.1
theorem k0_off219_inb : ∀ (v920 : BitVec 32) (k0_hw15 : k0_chk15 v920), ∀ a, (k0_off219 v920) a + S1x16.size a ≤ S641x128.size a := fun v920 k0_hw15 => k0_hw15.2.2.2.1
theorem k0_off221_inb : ∀ (v920 : BitVec 32) (k0_hw15 : k0_chk15 v920), ∀ a, (k0_off221 v920) a + S1x16.size a ≤ S641x128.size a := fun v920 k0_hw15 => k0_hw15.2.2.2.2.1
theorem k0_off223_inb : ∀ (v920 : BitVec 32) (k0_hw15 : k0_chk15 v920), ∀ a, (k0_off223 v920) a + S1x16.size a ≤ S641x128.size a := fun v920 k0_hw15 => k0_hw15.2.2.2.2.2.1
theorem k0_off225_inb : ∀ (v920 : BitVec 32) (k0_hw15 : k0_chk15 v920), ∀ a, (k0_off225 v920) a + S1x16.size a ≤ S641x128.size a := fun v920 k0_hw15 => k0_hw15.2.2.2.2.2.2.1
theorem k0_off227_inb : ∀ (v920 : BitVec 32) (k0_hw15 : k0_chk15 v920), ∀ a, (k0_off227 v920) a + S1x16.size a ≤ S641x128.size a := fun v920 k0_hw15 => k0_hw15.2.2.2.2.2.2.2

def k0_off228 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v975 : Index := Scalar.indexCast v923
  let c112_430 : Index := 112#32
  ![v975.toNat, 112]
def k0_off229 (v981 : BitVec 32) : Fin 2 → Nat :=
  let v985 : Index := Scalar.indexCast v981
  let c0_433 : Index := 0#32
  ![v985.toNat, 0]

def k0_off230 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v987 : Index := Scalar.indexCast v984
  let c0_434 : Index := 0#32
  ![v987.toNat, 0]
def k0_off231 (v981 : BitVec 32) : Fin 2 → Nat :=
  let v992 : Index := Scalar.indexCast v981
  let c16_436 : Index := 16#32
  ![v992.toNat, 16]
def k0_off232 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v994 : Index := Scalar.indexCast v984
  let c16_437 : Index := 16#32
  ![v994.toNat, 16]
def k0_off233 (v981 : BitVec 32) : Fin 2 → Nat :=
  let v999 : Index := Scalar.indexCast v981
  let c32_439 : Index := 32#32
  ![v999.toNat, 32]
def k0_off234 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1001 : Index := Scalar.indexCast v984
  let c32_440 : Index := 32#32
  ![v1001.toNat, 32]
def k0_off235 (v981 : BitVec 32) : Fin 2 → Nat :=
  let v1006 : Index := Scalar.indexCast v981
  let c48_442 : Index := 48#32
  ![v1006.toNat, 48]
def k0_off236 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1008 : Index := Scalar.indexCast v984
  let c48_443 : Index := 48#32
  ![v1008.toNat, 48]
def k0_off237 (v981 : BitVec 32) : Fin 2 → Nat :=
  let v1013 : Index := Scalar.indexCast v981
  let c64_445 : Index := 64#32
  ![v1013.toNat, 64]
def k0_off238 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1015 : Index := Scalar.indexCast v984
  let c64_446 : Index := 64#32
  ![v1015.toNat, 64]
def k0_off239 (v981 : BitVec 32) : Fin 2 → Nat :=
  let v1020 : Index := Scalar.indexCast v981
  let c80_448 : Index := 80#32
  ![v1020.toNat, 80]
def k0_off240 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1022 : Index := Scalar.indexCast v984
  let c80_449 : Index := 80#32
  ![v1022.toNat, 80]
def k0_off241 (v981 : BitVec 32) : Fin 2 → Nat :=
  let v1027 : Index := Scalar.indexCast v981
  let c96_451 : Index := 96#32
  ![v1027.toNat, 96]
def k0_off242 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1029 : Index := Scalar.indexCast v984
  let c96_452 : Index := 96#32
  ![v1029.toNat, 96]
def k0_off243 (v981 : BitVec 32) : Fin 2 → Nat :=
  let v1034 : Index := Scalar.indexCast v981
  let c112_454 : Index := 112#32
  ![v1034.toNat, 112]

def k0_chk16 (v981 : BitVec 32) : Prop :=
  (∀ a, (k0_off229 v981) a + S1x16.size a ≤ S641x128.size a) ∧
  (∀ a, (k0_off231 v981) a + S1x16.size a ≤ S641x128.size a) ∧
  (∀ a, (k0_off233 v981) a + S1x16.size a ≤ S641x128.size a) ∧
  (∀ a, (k0_off235 v981) a + S1x16.size a ≤ S641x128.size a) ∧
  (∀ a, (k0_off237 v981) a + S1x16.size a ≤ S641x128.size a) ∧
  (∀ a, (k0_off239 v981) a + S1x16.size a ≤ S641x128.size a) ∧
  (∀ a, (k0_off241 v981) a + S1x16.size a ≤ S641x128.size a) ∧
  (∀ a, (k0_off243 v981) a + S1x16.size a ≤ S641x128.size a)
theorem k0_off229_inb : ∀ (v981 : BitVec 32) (k0_hw16 : k0_chk16 v981), ∀ a, (k0_off229 v981) a + S1x16.size a ≤ S641x128.size a := fun v981 k0_hw16 => k0_hw16.1
theorem k0_off231_inb : ∀ (v981 : BitVec 32) (k0_hw16 : k0_chk16 v981), ∀ a, (k0_off231 v981) a + S1x16.size a ≤ S641x128.size a := fun v981 k0_hw16 => k0_hw16.2.1
theorem k0_off233_inb : ∀ (v981 : BitVec 32) (k0_hw16 : k0_chk16 v981), ∀ a, (k0_off233 v981) a + S1x16.size a ≤ S641x128.size a := fun v981 k0_hw16 => k0_hw16.2.2.1
theorem k0_off235_inb : ∀ (v981 : BitVec 32) (k0_hw16 : k0_chk16 v981), ∀ a, (k0_off235 v981) a + S1x16.size a ≤ S641x128.size a := fun v981 k0_hw16 => k0_hw16.2.2.2.1
theorem k0_off237_inb : ∀ (v981 : BitVec 32) (k0_hw16 : k0_chk16 v981), ∀ a, (k0_off237 v981) a + S1x16.size a ≤ S641x128.size a := fun v981 k0_hw16 => k0_hw16.2.2.2.2.1
theorem k0_off239_inb : ∀ (v981 : BitVec 32) (k0_hw16 : k0_chk16 v981), ∀ a, (k0_off239 v981) a + S1x16.size a ≤ S641x128.size a := fun v981 k0_hw16 => k0_hw16.2.2.2.2.2.1
theorem k0_off241_inb : ∀ (v981 : BitVec 32) (k0_hw16 : k0_chk16 v981), ∀ a, (k0_off241 v981) a + S1x16.size a ≤ S641x128.size a := fun v981 k0_hw16 => k0_hw16.2.2.2.2.2.2.1
theorem k0_off243_inb : ∀ (v981 : BitVec 32) (k0_hw16 : k0_chk16 v981), ∀ a, (k0_off243 v981) a + S1x16.size a ≤ S641x128.size a := fun v981 k0_hw16 => k0_hw16.2.2.2.2.2.2.2

def k0_off244 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1036 : Index := Scalar.indexCast v984
  let c112_455 : Index := 112#32
  ![v1036.toNat, 112]
def k0_off245 (v1042 : BitVec 32) : Fin 2 → Nat :=
  let v1046 : Index := Scalar.indexCast v1042
  let c0_458 : Index := 0#32
  ![v1046.toNat, 0]

def k0_off246 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1048 : Index := Scalar.indexCast v1045
  let c0_459 : Index := 0#32
  ![v1048.toNat, 0]
def k0_off247 (v1042 : BitVec 32) : Fin 2 → Nat :=
  let v1053 : Index := Scalar.indexCast v1042
  let c16_461 : Index := 16#32
  ![v1053.toNat, 16]
def k0_off248 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1055 : Index := Scalar.indexCast v1045
  let c16_462 : Index := 16#32
  ![v1055.toNat, 16]
def k0_off249 (v1042 : BitVec 32) : Fin 2 → Nat :=
  let v1060 : Index := Scalar.indexCast v1042
  let c32_464 : Index := 32#32
  ![v1060.toNat, 32]
def k0_off250 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1062 : Index := Scalar.indexCast v1045
  let c32_465 : Index := 32#32
  ![v1062.toNat, 32]
def k0_off251 (v1042 : BitVec 32) : Fin 2 → Nat :=
  let v1067 : Index := Scalar.indexCast v1042
  let c48_467 : Index := 48#32
  ![v1067.toNat, 48]
def k0_off252 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1069 : Index := Scalar.indexCast v1045
  let c48_468 : Index := 48#32
  ![v1069.toNat, 48]
def k0_off253 (v1042 : BitVec 32) : Fin 2 → Nat :=
  let v1074 : Index := Scalar.indexCast v1042
  let c64_470 : Index := 64#32
  ![v1074.toNat, 64]
def k0_off254 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1076 : Index := Scalar.indexCast v1045
  let c64_471 : Index := 64#32
  ![v1076.toNat, 64]
def k0_off255 (v1042 : BitVec 32) : Fin 2 → Nat :=
  let v1081 : Index := Scalar.indexCast v1042
  let c80_473 : Index := 80#32
  ![v1081.toNat, 80]
def k0_off256 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1083 : Index := Scalar.indexCast v1045
  let c80_474 : Index := 80#32
  ![v1083.toNat, 80]
def k0_off257 (v1042 : BitVec 32) : Fin 2 → Nat :=
  let v1088 : Index := Scalar.indexCast v1042
  let c96_476 : Index := 96#32
  ![v1088.toNat, 96]
def k0_off258 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1090 : Index := Scalar.indexCast v1045
  let c96_477 : Index := 96#32
  ![v1090.toNat, 96]
def k0_off259 (v1042 : BitVec 32) : Fin 2 → Nat :=
  let v1095 : Index := Scalar.indexCast v1042
  let c112_479 : Index := 112#32
  ![v1095.toNat, 112]

def k0_chk17 (v1042 : BitVec 32) : Prop :=
  (∀ a, (k0_off245 v1042) a + S1x16.size a ≤ S641x128.size a) ∧
  (∀ a, (k0_off247 v1042) a + S1x16.size a ≤ S641x128.size a) ∧
  (∀ a, (k0_off249 v1042) a + S1x16.size a ≤ S641x128.size a) ∧
  (∀ a, (k0_off251 v1042) a + S1x16.size a ≤ S641x128.size a) ∧
  (∀ a, (k0_off253 v1042) a + S1x16.size a ≤ S641x128.size a) ∧
  (∀ a, (k0_off255 v1042) a + S1x16.size a ≤ S641x128.size a) ∧
  (∀ a, (k0_off257 v1042) a + S1x16.size a ≤ S641x128.size a) ∧
  (∀ a, (k0_off259 v1042) a + S1x16.size a ≤ S641x128.size a)
theorem k0_off245_inb : ∀ (v1042 : BitVec 32) (k0_hw17 : k0_chk17 v1042), ∀ a, (k0_off245 v1042) a + S1x16.size a ≤ S641x128.size a := fun v1042 k0_hw17 => k0_hw17.1
theorem k0_off247_inb : ∀ (v1042 : BitVec 32) (k0_hw17 : k0_chk17 v1042), ∀ a, (k0_off247 v1042) a + S1x16.size a ≤ S641x128.size a := fun v1042 k0_hw17 => k0_hw17.2.1
theorem k0_off249_inb : ∀ (v1042 : BitVec 32) (k0_hw17 : k0_chk17 v1042), ∀ a, (k0_off249 v1042) a + S1x16.size a ≤ S641x128.size a := fun v1042 k0_hw17 => k0_hw17.2.2.1
theorem k0_off251_inb : ∀ (v1042 : BitVec 32) (k0_hw17 : k0_chk17 v1042), ∀ a, (k0_off251 v1042) a + S1x16.size a ≤ S641x128.size a := fun v1042 k0_hw17 => k0_hw17.2.2.2.1
theorem k0_off253_inb : ∀ (v1042 : BitVec 32) (k0_hw17 : k0_chk17 v1042), ∀ a, (k0_off253 v1042) a + S1x16.size a ≤ S641x128.size a := fun v1042 k0_hw17 => k0_hw17.2.2.2.2.1
theorem k0_off255_inb : ∀ (v1042 : BitVec 32) (k0_hw17 : k0_chk17 v1042), ∀ a, (k0_off255 v1042) a + S1x16.size a ≤ S641x128.size a := fun v1042 k0_hw17 => k0_hw17.2.2.2.2.2.1
theorem k0_off257_inb : ∀ (v1042 : BitVec 32) (k0_hw17 : k0_chk17 v1042), ∀ a, (k0_off257 v1042) a + S1x16.size a ≤ S641x128.size a := fun v1042 k0_hw17 => k0_hw17.2.2.2.2.2.2.1
theorem k0_off259_inb : ∀ (v1042 : BitVec 32) (k0_hw17 : k0_chk17 v1042), ∀ a, (k0_off259 v1042) a + S1x16.size a ≤ S641x128.size a := fun v1042 k0_hw17 => k0_hw17.2.2.2.2.2.2.2

def k0_off260 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1097 : Index := Scalar.indexCast v1045
  let c112_480 : Index := 112#32
  ![v1097.toNat, 112]
def k0_off261 (v1103 : BitVec 32) : Fin 2 → Nat :=
  let v1107 : Index := Scalar.indexCast v1103
  let c0_483 : Index := 0#32
  ![v1107.toNat, 0]

def k0_off262 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1109 : Index := Scalar.indexCast v1106
  let c0_484 : Index := 0#32
  ![v1109.toNat, 0]
def k0_off263 (v1103 : BitVec 32) : Fin 2 → Nat :=
  let v1114 : Index := Scalar.indexCast v1103
  let c16_486 : Index := 16#32
  ![v1114.toNat, 16]
def k0_off264 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1116 : Index := Scalar.indexCast v1106
  let c16_487 : Index := 16#32
  ![v1116.toNat, 16]
def k0_off265 (v1103 : BitVec 32) : Fin 2 → Nat :=
  let v1121 : Index := Scalar.indexCast v1103
  let c32_489 : Index := 32#32
  ![v1121.toNat, 32]
def k0_off266 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1123 : Index := Scalar.indexCast v1106
  let c32_490 : Index := 32#32
  ![v1123.toNat, 32]
def k0_off267 (v1103 : BitVec 32) : Fin 2 → Nat :=
  let v1128 : Index := Scalar.indexCast v1103
  let c48_492 : Index := 48#32
  ![v1128.toNat, 48]
def k0_off268 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1130 : Index := Scalar.indexCast v1106
  let c48_493 : Index := 48#32
  ![v1130.toNat, 48]
def k0_off269 (v1103 : BitVec 32) : Fin 2 → Nat :=
  let v1135 : Index := Scalar.indexCast v1103
  let c64_495 : Index := 64#32
  ![v1135.toNat, 64]
def k0_off270 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1137 : Index := Scalar.indexCast v1106
  let c64_496 : Index := 64#32
  ![v1137.toNat, 64]
def k0_off271 (v1103 : BitVec 32) : Fin 2 → Nat :=
  let v1142 : Index := Scalar.indexCast v1103
  let c80_498 : Index := 80#32
  ![v1142.toNat, 80]
def k0_off272 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1144 : Index := Scalar.indexCast v1106
  let c80_499 : Index := 80#32
  ![v1144.toNat, 80]
def k0_off273 (v1103 : BitVec 32) : Fin 2 → Nat :=
  let v1149 : Index := Scalar.indexCast v1103
  let c96_501 : Index := 96#32
  ![v1149.toNat, 96]
def k0_off274 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1151 : Index := Scalar.indexCast v1106
  let c96_502 : Index := 96#32
  ![v1151.toNat, 96]
def k0_off275 (v1103 : BitVec 32) : Fin 2 → Nat :=
  let v1156 : Index := Scalar.indexCast v1103
  let c112_504 : Index := 112#32
  ![v1156.toNat, 112]

def k0_chk18 (v1103 : BitVec 32) : Prop :=
  (∀ a, (k0_off261 v1103) a + S1x16.size a ≤ S641x128.size a) ∧
  (∀ a, (k0_off263 v1103) a + S1x16.size a ≤ S641x128.size a) ∧
  (∀ a, (k0_off265 v1103) a + S1x16.size a ≤ S641x128.size a) ∧
  (∀ a, (k0_off267 v1103) a + S1x16.size a ≤ S641x128.size a) ∧
  (∀ a, (k0_off269 v1103) a + S1x16.size a ≤ S641x128.size a) ∧
  (∀ a, (k0_off271 v1103) a + S1x16.size a ≤ S641x128.size a) ∧
  (∀ a, (k0_off273 v1103) a + S1x16.size a ≤ S641x128.size a) ∧
  (∀ a, (k0_off275 v1103) a + S1x16.size a ≤ S641x128.size a)
theorem k0_off261_inb : ∀ (v1103 : BitVec 32) (k0_hw18 : k0_chk18 v1103), ∀ a, (k0_off261 v1103) a + S1x16.size a ≤ S641x128.size a := fun v1103 k0_hw18 => k0_hw18.1
theorem k0_off263_inb : ∀ (v1103 : BitVec 32) (k0_hw18 : k0_chk18 v1103), ∀ a, (k0_off263 v1103) a + S1x16.size a ≤ S641x128.size a := fun v1103 k0_hw18 => k0_hw18.2.1
theorem k0_off265_inb : ∀ (v1103 : BitVec 32) (k0_hw18 : k0_chk18 v1103), ∀ a, (k0_off265 v1103) a + S1x16.size a ≤ S641x128.size a := fun v1103 k0_hw18 => k0_hw18.2.2.1
theorem k0_off267_inb : ∀ (v1103 : BitVec 32) (k0_hw18 : k0_chk18 v1103), ∀ a, (k0_off267 v1103) a + S1x16.size a ≤ S641x128.size a := fun v1103 k0_hw18 => k0_hw18.2.2.2.1
theorem k0_off269_inb : ∀ (v1103 : BitVec 32) (k0_hw18 : k0_chk18 v1103), ∀ a, (k0_off269 v1103) a + S1x16.size a ≤ S641x128.size a := fun v1103 k0_hw18 => k0_hw18.2.2.2.2.1
theorem k0_off271_inb : ∀ (v1103 : BitVec 32) (k0_hw18 : k0_chk18 v1103), ∀ a, (k0_off271 v1103) a + S1x16.size a ≤ S641x128.size a := fun v1103 k0_hw18 => k0_hw18.2.2.2.2.2.1
theorem k0_off273_inb : ∀ (v1103 : BitVec 32) (k0_hw18 : k0_chk18 v1103), ∀ a, (k0_off273 v1103) a + S1x16.size a ≤ S641x128.size a := fun v1103 k0_hw18 => k0_hw18.2.2.2.2.2.2.1
theorem k0_off275_inb : ∀ (v1103 : BitVec 32) (k0_hw18 : k0_chk18 v1103), ∀ a, (k0_off275 v1103) a + S1x16.size a ≤ S641x128.size a := fun v1103 k0_hw18 => k0_hw18.2.2.2.2.2.2.2

def k0_off276 (v92 : BitVec 32) (k0_t4 : Fin (k0_t4_loop v92).trips) (k0_t5 : Fin k0_t5_loop.trips) : Fin 2 → Nat :=
  let c0_i32_66 : BitVec 32 := 0#32
  let c1_i32_68 : BitVec 32 := 1#32
  let arg16 : BitVec 32 := Scf.iv c0_i32_66 c1_i32_68 k0_t4
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t5
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1158 : Index := Scalar.indexCast v1106
  let c112_505 : Index := 112#32
  ![v1158.toNat, 112]
@[reducible] def k0_t6_loop (v92 : BitVec 32) : Scf.Loop 32 :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let v114 : BitVec 32 := Scalar.addi c0_i32_66 v113
  let c1_i32_69 : BitVec 32 := 1#32
  ⟨v117, v114, c1_i32_69⟩
def k0_off277 (v92 : BitVec 32) (k0_t6 : Fin (k0_t6_loop v92).trips) : Fin 1 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c1_i32_105 : BitVec 32 := 1#32
  let v182 : BitVec 32 := Scalar.addi arg16 c1_i32_105
  let c64_i32_113 : BitVec 32 := 64#32
  let v194 : BitVec 32 := Scalar.muli v182 c64_i32_113
  ![v194.toNat]
def k0_cond8 (v92 : BitVec 32) (k0_t6 : Fin (k0_t6_loop v92).trips) : BitVec 1 :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c1_i32_83 : BitVec 32 := 1#32
  let v152 : BitVec 32 := Scalar.addi arg16 c1_i32_83
  let v153 : BitVec 1 := Scalar.cmpi .slt v152 v109
  let v154 : BitVec 32 := Scalar.extui v153
  let c0_i32_84 : BitVec 32 := 0#32
  let v155 : BitVec 1 := Scalar.cmpi .ne v154 c0_i32_84
  v155

def k0_cond9 (v92 : BitVec 32) (k0_t6 : Fin (k0_t6_loop v92).trips) : BitVec 1 :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c1_i32_106 : BitVec 32 := 1#32
  let v183 : BitVec 32 := Scalar.addi arg16 c1_i32_106
  let c2_i32_107 : BitVec 32 := 2#32
  let c0_i32_108 : BitVec 32 := 0#32
  let v184 : BitVec 1 := Scalar.cmpi .eq c2_i32_107 c0_i32_108
  let c1_i32_109 : BitVec 32 := 1#32
  let v185 : BitVec 32 := Scalar.select v184 c1_i32_109 c2_i32_107
  let v186 : BitVec 32 := Scalar.remsi v183 v185
  let c0_i32_111 : BitVec 32 := 0#32
  let v188 : BitVec 1 := Scalar.cmpi .slt v186 c0_i32_111
  let c0_i32_112 : BitVec 32 := 0#32
  let v189 : BitVec 1 := Scalar.cmpi .slt v185 c0_i32_112
  let v190 : BitVec 1 := Scalar.xori v188 v189
  let c0_i32_110 : BitVec 32 := 0#32
  let v187 : BitVec 1 := Scalar.cmpi .ne v186 c0_i32_110
  let v191 : BitVec 1 := Scalar.andi v190 v187
  let v192 : BitVec 32 := Scalar.addi v186 v185
  let v193 : BitVec 32 := Scalar.select v191 v192 v186
  let c0_i32_114 : BitVec 32 := 0#32
  let v195 : BitVec 1 := Scalar.cmpi .eq v193 c0_i32_114
  let v196 : BitVec 32 := Scalar.extui v195
  let c0_i32_115 : BitVec 32 := 0#32
  let v197 : BitVec 1 := Scalar.cmpi .ne v196 c0_i32_115
  v197

def k0_off278 (v92 : BitVec 32) (k0_t6 : Fin (k0_t6_loop v92).trips) : Fin 1 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c1_i32_105 : BitVec 32 := 1#32
  let v182 : BitVec 32 := Scalar.addi arg16 c1_i32_105
  let c64_i32_113 : BitVec 32 := 64#32
  let v194 : BitVec 32 := Scalar.muli v182 c64_i32_113
  ![v194.toNat]
def k0_off279 (v92 : BitVec 32) (k0_t6 : Fin (k0_t6_loop v92).trips) : Fin 1 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c64_i32_91 : BitVec 32 := 64#32
  let v166 : BitVec 32 := Scalar.muli arg16 c64_i32_91
  ![v166.toNat]
def k0_cond10 (v92 : BitVec 32) (k0_t6 : Fin (k0_t6_loop v92).trips) : BitVec 1 :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_85 : BitVec 32 := 2#32
  let c0_i32_86 : BitVec 32 := 0#32
  let v156 : BitVec 1 := Scalar.cmpi .eq c2_i32_85 c0_i32_86
  let c1_i32_87 : BitVec 32 := 1#32
  let v157 : BitVec 32 := Scalar.select v156 c1_i32_87 c2_i32_85
  let v158 : BitVec 32 := Scalar.remsi arg16 v157
  let c0_i32_89 : BitVec 32 := 0#32
  let v160 : BitVec 1 := Scalar.cmpi .slt v158 c0_i32_89
  let c0_i32_90 : BitVec 32 := 0#32
  let v161 : BitVec 1 := Scalar.cmpi .slt v157 c0_i32_90
  let v162 : BitVec 1 := Scalar.xori v160 v161
  let c0_i32_88 : BitVec 32 := 0#32
  let v159 : BitVec 1 := Scalar.cmpi .ne v158 c0_i32_88
  let v163 : BitVec 1 := Scalar.andi v162 v159
  let v164 : BitVec 32 := Scalar.addi v158 v157
  let v165 : BitVec 32 := Scalar.select v163 v164 v158
  let c0_i32_92 : BitVec 32 := 0#32
  let v167 : BitVec 1 := Scalar.cmpi .eq v165 c0_i32_92
  let v168 : BitVec 32 := Scalar.extui v167
  let c0_i32_93 : BitVec 32 := 0#32
  let v169 : BitVec 1 := Scalar.cmpi .ne v168 c0_i32_93
  v169

def k0_off280 (v92 : BitVec 32) (k0_t6 : Fin (k0_t6_loop v92).trips) : Fin 1 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c64_i32_91 : BitVec 32 := 64#32
  let v166 : BitVec 32 := Scalar.muli arg16 c64_i32_91
  ![v166.toNat]
@[reducible] def k0_t7_loop : Scf.Loop 32 :=
  let c0_i32_102 : BitVec 32 := 0#32
  let c4_i32 : BitVec 32 := 4#32
  let v181 : BitVec 32 := Scalar.addi c0_i32_102 c4_i32
  let c1_i32_103 : BitVec 32 := 1#32
  ⟨c0_i32_102, v181, c1_i32_103⟩
def k0_off281 (v92 : BitVec 32) (k0_t6 : Fin (k0_t6_loop v92).trips) (k0_t7 : Fin k0_t7_loop.trips) : Fin 1 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c64_i32_105 : BitVec 32 := 64#32
  let v182 : BitVec 32 := Scalar.muli arg16 c64_i32_105
  let c0_i32_102 : BitVec 32 := 0#32
  let c1_i32_103 : BitVec 32 := 1#32
  let arg17 : BitVec 32 := Scf.iv c0_i32_102 c1_i32_103 k0_t7
  let c16_i32_106 : BitVec 32 := 16#32
  let v183 : BitVec 32 := Scalar.muli arg17 c16_i32_106
  let v184 : BitVec 32 := Scalar.addi v182 v183
  let v185 : Index := Scalar.indexCast v184
  ![v185.toNat]
def k0_off282 (v188 : BitVec 32) : Fin 2 → Nat :=
  let v192 : Index := Scalar.indexCast v188
  let c0_109 : Index := 0#32
  ![v192.toNat, 0]

def k0_off283 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v194 : Index := Scalar.indexCast v191
  let c0_110 : Index := 0#32
  ![v194.toNat, 0]
def k0_off284 (v188 : BitVec 32) : Fin 2 → Nat :=
  let v199 : Index := Scalar.indexCast v188
  let c16_112 : Index := 16#32
  ![v199.toNat, 16]
def k0_off285 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v201 : Index := Scalar.indexCast v191
  let c16_113 : Index := 16#32
  ![v201.toNat, 16]
def k0_off286 (v188 : BitVec 32) : Fin 2 → Nat :=
  let v206 : Index := Scalar.indexCast v188
  let c32_115 : Index := 32#32
  ![v206.toNat, 32]
def k0_off287 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v208 : Index := Scalar.indexCast v191
  let c32_116 : Index := 32#32
  ![v208.toNat, 32]
def k0_off288 (v188 : BitVec 32) : Fin 2 → Nat :=
  let v213 : Index := Scalar.indexCast v188
  let c48_118 : Index := 48#32
  ![v213.toNat, 48]
def k0_off289 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v215 : Index := Scalar.indexCast v191
  let c48_119 : Index := 48#32
  ![v215.toNat, 48]
def k0_off290 (v188 : BitVec 32) : Fin 2 → Nat :=
  let v220 : Index := Scalar.indexCast v188
  let c64 : Index := 64#32
  ![v220.toNat, 64]
def k0_off291 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v222 : Index := Scalar.indexCast v191
  let c64_121 : Index := 64#32
  ![v222.toNat, 64]
def k0_off292 (v188 : BitVec 32) : Fin 2 → Nat :=
  let v227 : Index := Scalar.indexCast v188
  let c80 : Index := 80#32
  ![v227.toNat, 80]
def k0_off293 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v229 : Index := Scalar.indexCast v191
  let c80_123 : Index := 80#32
  ![v229.toNat, 80]
def k0_off294 (v188 : BitVec 32) : Fin 2 → Nat :=
  let v234 : Index := Scalar.indexCast v188
  let c96 : Index := 96#32
  ![v234.toNat, 96]
def k0_off295 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v236 : Index := Scalar.indexCast v191
  let c96_125 : Index := 96#32
  ![v236.toNat, 96]
def k0_off296 (v188 : BitVec 32) : Fin 2 → Nat :=
  let v241 : Index := Scalar.indexCast v188
  let c112 : Index := 112#32
  ![v241.toNat, 112]

def k0_chk19 (v188 : BitVec 32) : Prop :=
  (∀ a, (k0_off282 v188) a + S1x16.size a ≤ S641x128.size a) ∧
  (∀ a, (k0_off284 v188) a + S1x16.size a ≤ S641x128.size a) ∧
  (∀ a, (k0_off286 v188) a + S1x16.size a ≤ S641x128.size a) ∧
  (∀ a, (k0_off288 v188) a + S1x16.size a ≤ S641x128.size a) ∧
  (∀ a, (k0_off290 v188) a + S1x16.size a ≤ S641x128.size a) ∧
  (∀ a, (k0_off292 v188) a + S1x16.size a ≤ S641x128.size a) ∧
  (∀ a, (k0_off294 v188) a + S1x16.size a ≤ S641x128.size a) ∧
  (∀ a, (k0_off296 v188) a + S1x16.size a ≤ S641x128.size a)
theorem k0_off282_inb : ∀ (v188 : BitVec 32) (k0_hw19 : k0_chk19 v188), ∀ a, (k0_off282 v188) a + S1x16.size a ≤ S641x128.size a := fun v188 k0_hw19 => k0_hw19.1
theorem k0_off284_inb : ∀ (v188 : BitVec 32) (k0_hw19 : k0_chk19 v188), ∀ a, (k0_off284 v188) a + S1x16.size a ≤ S641x128.size a := fun v188 k0_hw19 => k0_hw19.2.1
theorem k0_off286_inb : ∀ (v188 : BitVec 32) (k0_hw19 : k0_chk19 v188), ∀ a, (k0_off286 v188) a + S1x16.size a ≤ S641x128.size a := fun v188 k0_hw19 => k0_hw19.2.2.1
theorem k0_off288_inb : ∀ (v188 : BitVec 32) (k0_hw19 : k0_chk19 v188), ∀ a, (k0_off288 v188) a + S1x16.size a ≤ S641x128.size a := fun v188 k0_hw19 => k0_hw19.2.2.2.1
theorem k0_off290_inb : ∀ (v188 : BitVec 32) (k0_hw19 : k0_chk19 v188), ∀ a, (k0_off290 v188) a + S1x16.size a ≤ S641x128.size a := fun v188 k0_hw19 => k0_hw19.2.2.2.2.1
theorem k0_off292_inb : ∀ (v188 : BitVec 32) (k0_hw19 : k0_chk19 v188), ∀ a, (k0_off292 v188) a + S1x16.size a ≤ S641x128.size a := fun v188 k0_hw19 => k0_hw19.2.2.2.2.2.1
theorem k0_off294_inb : ∀ (v188 : BitVec 32) (k0_hw19 : k0_chk19 v188), ∀ a, (k0_off294 v188) a + S1x16.size a ≤ S641x128.size a := fun v188 k0_hw19 => k0_hw19.2.2.2.2.2.2.1
theorem k0_off296_inb : ∀ (v188 : BitVec 32) (k0_hw19 : k0_chk19 v188), ∀ a, (k0_off296 v188) a + S1x16.size a ≤ S641x128.size a := fun v188 k0_hw19 => k0_hw19.2.2.2.2.2.2.2

def k0_off297 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_107 : BitVec 32 := 16#32
  let v189 : BitVec 32 := Scalar.muli arg17 c16_i32_107
  let v190 : BitVec 32 := Scalar.addi v180 v189
  let c0_i32_108 : BitVec 32 := 0#32
  let v191 : BitVec 32 := Scalar.addi v190 c0_i32_108
  let v243 : Index := Scalar.indexCast v191
  let c112_127 : Index := 112#32
  ![v243.toNat, 112]
def k0_off298 (v249 : BitVec 32) : Fin 2 → Nat :=
  let v253 : Index := Scalar.indexCast v249
  let c0_131 : Index := 0#32
  ![v253.toNat, 0]

def k0_off299 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v255 : Index := Scalar.indexCast v252
  let c0_132 : Index := 0#32
  ![v255.toNat, 0]
def k0_off300 (v249 : BitVec 32) : Fin 2 → Nat :=
  let v260 : Index := Scalar.indexCast v249
  let c16_134 : Index := 16#32
  ![v260.toNat, 16]
def k0_off301 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v262 : Index := Scalar.indexCast v252
  let c16_135 : Index := 16#32
  ![v262.toNat, 16]
def k0_off302 (v249 : BitVec 32) : Fin 2 → Nat :=
  let v267 : Index := Scalar.indexCast v249
  let c32_137 : Index := 32#32
  ![v267.toNat, 32]
def k0_off303 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v269 : Index := Scalar.indexCast v252
  let c32_138 : Index := 32#32
  ![v269.toNat, 32]
def k0_off304 (v249 : BitVec 32) : Fin 2 → Nat :=
  let v274 : Index := Scalar.indexCast v249
  let c48_140 : Index := 48#32
  ![v274.toNat, 48]
def k0_off305 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v276 : Index := Scalar.indexCast v252
  let c48_141 : Index := 48#32
  ![v276.toNat, 48]
def k0_off306 (v249 : BitVec 32) : Fin 2 → Nat :=
  let v281 : Index := Scalar.indexCast v249
  let c64_143 : Index := 64#32
  ![v281.toNat, 64]
def k0_off307 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v283 : Index := Scalar.indexCast v252
  let c64_144 : Index := 64#32
  ![v283.toNat, 64]
def k0_off308 (v249 : BitVec 32) : Fin 2 → Nat :=
  let v288 : Index := Scalar.indexCast v249
  let c80_146 : Index := 80#32
  ![v288.toNat, 80]
def k0_off309 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v290 : Index := Scalar.indexCast v252
  let c80_147 : Index := 80#32
  ![v290.toNat, 80]
def k0_off310 (v249 : BitVec 32) : Fin 2 → Nat :=
  let v295 : Index := Scalar.indexCast v249
  let c96_149 : Index := 96#32
  ![v295.toNat, 96]
def k0_off311 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v297 : Index := Scalar.indexCast v252
  let c96_150 : Index := 96#32
  ![v297.toNat, 96]
def k0_off312 (v249 : BitVec 32) : Fin 2 → Nat :=
  let v302 : Index := Scalar.indexCast v249
  let c112_152 : Index := 112#32
  ![v302.toNat, 112]

def k0_chk20 (v249 : BitVec 32) : Prop :=
  (∀ a, (k0_off298 v249) a + S1x16.size a ≤ S641x128.size a) ∧
  (∀ a, (k0_off300 v249) a + S1x16.size a ≤ S641x128.size a) ∧
  (∀ a, (k0_off302 v249) a + S1x16.size a ≤ S641x128.size a) ∧
  (∀ a, (k0_off304 v249) a + S1x16.size a ≤ S641x128.size a) ∧
  (∀ a, (k0_off306 v249) a + S1x16.size a ≤ S641x128.size a) ∧
  (∀ a, (k0_off308 v249) a + S1x16.size a ≤ S641x128.size a) ∧
  (∀ a, (k0_off310 v249) a + S1x16.size a ≤ S641x128.size a) ∧
  (∀ a, (k0_off312 v249) a + S1x16.size a ≤ S641x128.size a)
theorem k0_off298_inb : ∀ (v249 : BitVec 32) (k0_hw20 : k0_chk20 v249), ∀ a, (k0_off298 v249) a + S1x16.size a ≤ S641x128.size a := fun v249 k0_hw20 => k0_hw20.1
theorem k0_off300_inb : ∀ (v249 : BitVec 32) (k0_hw20 : k0_chk20 v249), ∀ a, (k0_off300 v249) a + S1x16.size a ≤ S641x128.size a := fun v249 k0_hw20 => k0_hw20.2.1
theorem k0_off302_inb : ∀ (v249 : BitVec 32) (k0_hw20 : k0_chk20 v249), ∀ a, (k0_off302 v249) a + S1x16.size a ≤ S641x128.size a := fun v249 k0_hw20 => k0_hw20.2.2.1
theorem k0_off304_inb : ∀ (v249 : BitVec 32) (k0_hw20 : k0_chk20 v249), ∀ a, (k0_off304 v249) a + S1x16.size a ≤ S641x128.size a := fun v249 k0_hw20 => k0_hw20.2.2.2.1
theorem k0_off306_inb : ∀ (v249 : BitVec 32) (k0_hw20 : k0_chk20 v249), ∀ a, (k0_off306 v249) a + S1x16.size a ≤ S641x128.size a := fun v249 k0_hw20 => k0_hw20.2.2.2.2.1
theorem k0_off308_inb : ∀ (v249 : BitVec 32) (k0_hw20 : k0_chk20 v249), ∀ a, (k0_off308 v249) a + S1x16.size a ≤ S641x128.size a := fun v249 k0_hw20 => k0_hw20.2.2.2.2.2.1
theorem k0_off310_inb : ∀ (v249 : BitVec 32) (k0_hw20 : k0_chk20 v249), ∀ a, (k0_off310 v249) a + S1x16.size a ≤ S641x128.size a := fun v249 k0_hw20 => k0_hw20.2.2.2.2.2.2.1
theorem k0_off312_inb : ∀ (v249 : BitVec 32) (k0_hw20 : k0_chk20 v249), ∀ a, (k0_off312 v249) a + S1x16.size a ≤ S641x128.size a := fun v249 k0_hw20 => k0_hw20.2.2.2.2.2.2.2

def k0_off313 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_129 : BitVec 32 := 16#32
  let v250 : BitVec 32 := Scalar.muli arg17 c16_i32_129
  let v251 : BitVec 32 := Scalar.addi v180 v250
  let c1_i32_130 : BitVec 32 := 1#32
  let v252 : BitVec 32 := Scalar.addi v251 c1_i32_130
  let v304 : Index := Scalar.indexCast v252
  let c112_153 : Index := 112#32
  ![v304.toNat, 112]
def k0_off314 (v310 : BitVec 32) : Fin 2 → Nat :=
  let v314 : Index := Scalar.indexCast v310
  let c0_157 : Index := 0#32
  ![v314.toNat, 0]

def k0_off315 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v316 : Index := Scalar.indexCast v313
  let c0_158 : Index := 0#32
  ![v316.toNat, 0]
def k0_off316 (v310 : BitVec 32) : Fin 2 → Nat :=
  let v321 : Index := Scalar.indexCast v310
  let c16_160 : Index := 16#32
  ![v321.toNat, 16]
def k0_off317 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v323 : Index := Scalar.indexCast v313
  let c16_161 : Index := 16#32
  ![v323.toNat, 16]
def k0_off318 (v310 : BitVec 32) : Fin 2 → Nat :=
  let v328 : Index := Scalar.indexCast v310
  let c32_163 : Index := 32#32
  ![v328.toNat, 32]
def k0_off319 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v330 : Index := Scalar.indexCast v313
  let c32_164 : Index := 32#32
  ![v330.toNat, 32]
def k0_off320 (v310 : BitVec 32) : Fin 2 → Nat :=
  let v335 : Index := Scalar.indexCast v310
  let c48_166 : Index := 48#32
  ![v335.toNat, 48]
def k0_off321 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v337 : Index := Scalar.indexCast v313
  let c48_167 : Index := 48#32
  ![v337.toNat, 48]
def k0_off322 (v310 : BitVec 32) : Fin 2 → Nat :=
  let v342 : Index := Scalar.indexCast v310
  let c64_169 : Index := 64#32
  ![v342.toNat, 64]
def k0_off323 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v344 : Index := Scalar.indexCast v313
  let c64_170 : Index := 64#32
  ![v344.toNat, 64]
def k0_off324 (v310 : BitVec 32) : Fin 2 → Nat :=
  let v349 : Index := Scalar.indexCast v310
  let c80_172 : Index := 80#32
  ![v349.toNat, 80]
def k0_off325 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v351 : Index := Scalar.indexCast v313
  let c80_173 : Index := 80#32
  ![v351.toNat, 80]
def k0_off326 (v310 : BitVec 32) : Fin 2 → Nat :=
  let v356 : Index := Scalar.indexCast v310
  let c96_175 : Index := 96#32
  ![v356.toNat, 96]
def k0_off327 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v358 : Index := Scalar.indexCast v313
  let c96_176 : Index := 96#32
  ![v358.toNat, 96]
def k0_off328 (v310 : BitVec 32) : Fin 2 → Nat :=
  let v363 : Index := Scalar.indexCast v310
  let c112_178 : Index := 112#32
  ![v363.toNat, 112]

def k0_chk21 (v310 : BitVec 32) : Prop :=
  (∀ a, (k0_off314 v310) a + S1x16.size a ≤ S641x128.size a) ∧
  (∀ a, (k0_off316 v310) a + S1x16.size a ≤ S641x128.size a) ∧
  (∀ a, (k0_off318 v310) a + S1x16.size a ≤ S641x128.size a) ∧
  (∀ a, (k0_off320 v310) a + S1x16.size a ≤ S641x128.size a) ∧
  (∀ a, (k0_off322 v310) a + S1x16.size a ≤ S641x128.size a) ∧
  (∀ a, (k0_off324 v310) a + S1x16.size a ≤ S641x128.size a) ∧
  (∀ a, (k0_off326 v310) a + S1x16.size a ≤ S641x128.size a) ∧
  (∀ a, (k0_off328 v310) a + S1x16.size a ≤ S641x128.size a)
theorem k0_off314_inb : ∀ (v310 : BitVec 32) (k0_hw21 : k0_chk21 v310), ∀ a, (k0_off314 v310) a + S1x16.size a ≤ S641x128.size a := fun v310 k0_hw21 => k0_hw21.1
theorem k0_off316_inb : ∀ (v310 : BitVec 32) (k0_hw21 : k0_chk21 v310), ∀ a, (k0_off316 v310) a + S1x16.size a ≤ S641x128.size a := fun v310 k0_hw21 => k0_hw21.2.1
theorem k0_off318_inb : ∀ (v310 : BitVec 32) (k0_hw21 : k0_chk21 v310), ∀ a, (k0_off318 v310) a + S1x16.size a ≤ S641x128.size a := fun v310 k0_hw21 => k0_hw21.2.2.1
theorem k0_off320_inb : ∀ (v310 : BitVec 32) (k0_hw21 : k0_chk21 v310), ∀ a, (k0_off320 v310) a + S1x16.size a ≤ S641x128.size a := fun v310 k0_hw21 => k0_hw21.2.2.2.1
theorem k0_off322_inb : ∀ (v310 : BitVec 32) (k0_hw21 : k0_chk21 v310), ∀ a, (k0_off322 v310) a + S1x16.size a ≤ S641x128.size a := fun v310 k0_hw21 => k0_hw21.2.2.2.2.1
theorem k0_off324_inb : ∀ (v310 : BitVec 32) (k0_hw21 : k0_chk21 v310), ∀ a, (k0_off324 v310) a + S1x16.size a ≤ S641x128.size a := fun v310 k0_hw21 => k0_hw21.2.2.2.2.2.1
theorem k0_off326_inb : ∀ (v310 : BitVec 32) (k0_hw21 : k0_chk21 v310), ∀ a, (k0_off326 v310) a + S1x16.size a ≤ S641x128.size a := fun v310 k0_hw21 => k0_hw21.2.2.2.2.2.2.1
theorem k0_off328_inb : ∀ (v310 : BitVec 32) (k0_hw21 : k0_chk21 v310), ∀ a, (k0_off328 v310) a + S1x16.size a ≤ S641x128.size a := fun v310 k0_hw21 => k0_hw21.2.2.2.2.2.2.2

def k0_off329 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_155 : BitVec 32 := 16#32
  let v311 : BitVec 32 := Scalar.muli arg17 c16_i32_155
  let v312 : BitVec 32 := Scalar.addi v180 v311
  let c2_i32_156 : BitVec 32 := 2#32
  let v313 : BitVec 32 := Scalar.addi v312 c2_i32_156
  let v365 : Index := Scalar.indexCast v313
  let c112_179 : Index := 112#32
  ![v365.toNat, 112]
def k0_off330 (v371 : BitVec 32) : Fin 2 → Nat :=
  let v375 : Index := Scalar.indexCast v371
  let c0_182 : Index := 0#32
  ![v375.toNat, 0]

def k0_off331 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v377 : Index := Scalar.indexCast v374
  let c0_183 : Index := 0#32
  ![v377.toNat, 0]
def k0_off332 (v371 : BitVec 32) : Fin 2 → Nat :=
  let v382 : Index := Scalar.indexCast v371
  let c16_185 : Index := 16#32
  ![v382.toNat, 16]
def k0_off333 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v384 : Index := Scalar.indexCast v374
  let c16_186 : Index := 16#32
  ![v384.toNat, 16]
def k0_off334 (v371 : BitVec 32) : Fin 2 → Nat :=
  let v389 : Index := Scalar.indexCast v371
  let c32_188 : Index := 32#32
  ![v389.toNat, 32]
def k0_off335 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v391 : Index := Scalar.indexCast v374
  let c32_189 : Index := 32#32
  ![v391.toNat, 32]
def k0_off336 (v371 : BitVec 32) : Fin 2 → Nat :=
  let v396 : Index := Scalar.indexCast v371
  let c48_191 : Index := 48#32
  ![v396.toNat, 48]
def k0_off337 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v398 : Index := Scalar.indexCast v374
  let c48_192 : Index := 48#32
  ![v398.toNat, 48]
def k0_off338 (v371 : BitVec 32) : Fin 2 → Nat :=
  let v403 : Index := Scalar.indexCast v371
  let c64_194 : Index := 64#32
  ![v403.toNat, 64]
def k0_off339 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v405 : Index := Scalar.indexCast v374
  let c64_195 : Index := 64#32
  ![v405.toNat, 64]
def k0_off340 (v371 : BitVec 32) : Fin 2 → Nat :=
  let v410 : Index := Scalar.indexCast v371
  let c80_197 : Index := 80#32
  ![v410.toNat, 80]
def k0_off341 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v412 : Index := Scalar.indexCast v374
  let c80_198 : Index := 80#32
  ![v412.toNat, 80]
def k0_off342 (v371 : BitVec 32) : Fin 2 → Nat :=
  let v417 : Index := Scalar.indexCast v371
  let c96_200 : Index := 96#32
  ![v417.toNat, 96]
def k0_off343 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v419 : Index := Scalar.indexCast v374
  let c96_201 : Index := 96#32
  ![v419.toNat, 96]
def k0_off344 (v371 : BitVec 32) : Fin 2 → Nat :=
  let v424 : Index := Scalar.indexCast v371
  let c112_203 : Index := 112#32
  ![v424.toNat, 112]

def k0_chk22 (v371 : BitVec 32) : Prop :=
  (∀ a, (k0_off330 v371) a + S1x16.size a ≤ S641x128.size a) ∧
  (∀ a, (k0_off332 v371) a + S1x16.size a ≤ S641x128.size a) ∧
  (∀ a, (k0_off334 v371) a + S1x16.size a ≤ S641x128.size a) ∧
  (∀ a, (k0_off336 v371) a + S1x16.size a ≤ S641x128.size a) ∧
  (∀ a, (k0_off338 v371) a + S1x16.size a ≤ S641x128.size a) ∧
  (∀ a, (k0_off340 v371) a + S1x16.size a ≤ S641x128.size a) ∧
  (∀ a, (k0_off342 v371) a + S1x16.size a ≤ S641x128.size a) ∧
  (∀ a, (k0_off344 v371) a + S1x16.size a ≤ S641x128.size a)
theorem k0_off330_inb : ∀ (v371 : BitVec 32) (k0_hw22 : k0_chk22 v371), ∀ a, (k0_off330 v371) a + S1x16.size a ≤ S641x128.size a := fun v371 k0_hw22 => k0_hw22.1
theorem k0_off332_inb : ∀ (v371 : BitVec 32) (k0_hw22 : k0_chk22 v371), ∀ a, (k0_off332 v371) a + S1x16.size a ≤ S641x128.size a := fun v371 k0_hw22 => k0_hw22.2.1
theorem k0_off334_inb : ∀ (v371 : BitVec 32) (k0_hw22 : k0_chk22 v371), ∀ a, (k0_off334 v371) a + S1x16.size a ≤ S641x128.size a := fun v371 k0_hw22 => k0_hw22.2.2.1
theorem k0_off336_inb : ∀ (v371 : BitVec 32) (k0_hw22 : k0_chk22 v371), ∀ a, (k0_off336 v371) a + S1x16.size a ≤ S641x128.size a := fun v371 k0_hw22 => k0_hw22.2.2.2.1
theorem k0_off338_inb : ∀ (v371 : BitVec 32) (k0_hw22 : k0_chk22 v371), ∀ a, (k0_off338 v371) a + S1x16.size a ≤ S641x128.size a := fun v371 k0_hw22 => k0_hw22.2.2.2.2.1
theorem k0_off340_inb : ∀ (v371 : BitVec 32) (k0_hw22 : k0_chk22 v371), ∀ a, (k0_off340 v371) a + S1x16.size a ≤ S641x128.size a := fun v371 k0_hw22 => k0_hw22.2.2.2.2.2.1
theorem k0_off342_inb : ∀ (v371 : BitVec 32) (k0_hw22 : k0_chk22 v371), ∀ a, (k0_off342 v371) a + S1x16.size a ≤ S641x128.size a := fun v371 k0_hw22 => k0_hw22.2.2.2.2.2.2.1
theorem k0_off344_inb : ∀ (v371 : BitVec 32) (k0_hw22 : k0_chk22 v371), ∀ a, (k0_off344 v371) a + S1x16.size a ≤ S641x128.size a := fun v371 k0_hw22 => k0_hw22.2.2.2.2.2.2.2

def k0_off345 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_181 : BitVec 32 := 16#32
  let v372 : BitVec 32 := Scalar.muli arg17 c16_i32_181
  let v373 : BitVec 32 := Scalar.addi v180 v372
  let c3_i32 : BitVec 32 := 3#32
  let v374 : BitVec 32 := Scalar.addi v373 c3_i32
  let v426 : Index := Scalar.indexCast v374
  let c112_204 : Index := 112#32
  ![v426.toNat, 112]
def k0_off346 (v432 : BitVec 32) : Fin 2 → Nat :=
  let v436 : Index := Scalar.indexCast v432
  let c0_208 : Index := 0#32
  ![v436.toNat, 0]

def k0_off347 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v438 : Index := Scalar.indexCast v435
  let c0_209 : Index := 0#32
  ![v438.toNat, 0]
def k0_off348 (v432 : BitVec 32) : Fin 2 → Nat :=
  let v443 : Index := Scalar.indexCast v432
  let c16_211 : Index := 16#32
  ![v443.toNat, 16]
def k0_off349 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v445 : Index := Scalar.indexCast v435
  let c16_212 : Index := 16#32
  ![v445.toNat, 16]
def k0_off350 (v432 : BitVec 32) : Fin 2 → Nat :=
  let v450 : Index := Scalar.indexCast v432
  let c32_214 : Index := 32#32
  ![v450.toNat, 32]
def k0_off351 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v452 : Index := Scalar.indexCast v435
  let c32_215 : Index := 32#32
  ![v452.toNat, 32]
def k0_off352 (v432 : BitVec 32) : Fin 2 → Nat :=
  let v457 : Index := Scalar.indexCast v432
  let c48_217 : Index := 48#32
  ![v457.toNat, 48]
def k0_off353 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v459 : Index := Scalar.indexCast v435
  let c48_218 : Index := 48#32
  ![v459.toNat, 48]
def k0_off354 (v432 : BitVec 32) : Fin 2 → Nat :=
  let v464 : Index := Scalar.indexCast v432
  let c64_220 : Index := 64#32
  ![v464.toNat, 64]
def k0_off355 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v466 : Index := Scalar.indexCast v435
  let c64_221 : Index := 64#32
  ![v466.toNat, 64]
def k0_off356 (v432 : BitVec 32) : Fin 2 → Nat :=
  let v471 : Index := Scalar.indexCast v432
  let c80_223 : Index := 80#32
  ![v471.toNat, 80]
def k0_off357 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v473 : Index := Scalar.indexCast v435
  let c80_224 : Index := 80#32
  ![v473.toNat, 80]
def k0_off358 (v432 : BitVec 32) : Fin 2 → Nat :=
  let v478 : Index := Scalar.indexCast v432
  let c96_226 : Index := 96#32
  ![v478.toNat, 96]
def k0_off359 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v480 : Index := Scalar.indexCast v435
  let c96_227 : Index := 96#32
  ![v480.toNat, 96]
def k0_off360 (v432 : BitVec 32) : Fin 2 → Nat :=
  let v485 : Index := Scalar.indexCast v432
  let c112_229 : Index := 112#32
  ![v485.toNat, 112]

def k0_chk23 (v432 : BitVec 32) : Prop :=
  (∀ a, (k0_off346 v432) a + S1x16.size a ≤ S641x128.size a) ∧
  (∀ a, (k0_off348 v432) a + S1x16.size a ≤ S641x128.size a) ∧
  (∀ a, (k0_off350 v432) a + S1x16.size a ≤ S641x128.size a) ∧
  (∀ a, (k0_off352 v432) a + S1x16.size a ≤ S641x128.size a) ∧
  (∀ a, (k0_off354 v432) a + S1x16.size a ≤ S641x128.size a) ∧
  (∀ a, (k0_off356 v432) a + S1x16.size a ≤ S641x128.size a) ∧
  (∀ a, (k0_off358 v432) a + S1x16.size a ≤ S641x128.size a) ∧
  (∀ a, (k0_off360 v432) a + S1x16.size a ≤ S641x128.size a)
theorem k0_off346_inb : ∀ (v432 : BitVec 32) (k0_hw23 : k0_chk23 v432), ∀ a, (k0_off346 v432) a + S1x16.size a ≤ S641x128.size a := fun v432 k0_hw23 => k0_hw23.1
theorem k0_off348_inb : ∀ (v432 : BitVec 32) (k0_hw23 : k0_chk23 v432), ∀ a, (k0_off348 v432) a + S1x16.size a ≤ S641x128.size a := fun v432 k0_hw23 => k0_hw23.2.1
theorem k0_off350_inb : ∀ (v432 : BitVec 32) (k0_hw23 : k0_chk23 v432), ∀ a, (k0_off350 v432) a + S1x16.size a ≤ S641x128.size a := fun v432 k0_hw23 => k0_hw23.2.2.1
theorem k0_off352_inb : ∀ (v432 : BitVec 32) (k0_hw23 : k0_chk23 v432), ∀ a, (k0_off352 v432) a + S1x16.size a ≤ S641x128.size a := fun v432 k0_hw23 => k0_hw23.2.2.2.1
theorem k0_off354_inb : ∀ (v432 : BitVec 32) (k0_hw23 : k0_chk23 v432), ∀ a, (k0_off354 v432) a + S1x16.size a ≤ S641x128.size a := fun v432 k0_hw23 => k0_hw23.2.2.2.2.1
theorem k0_off356_inb : ∀ (v432 : BitVec 32) (k0_hw23 : k0_chk23 v432), ∀ a, (k0_off356 v432) a + S1x16.size a ≤ S641x128.size a := fun v432 k0_hw23 => k0_hw23.2.2.2.2.2.1
theorem k0_off358_inb : ∀ (v432 : BitVec 32) (k0_hw23 : k0_chk23 v432), ∀ a, (k0_off358 v432) a + S1x16.size a ≤ S641x128.size a := fun v432 k0_hw23 => k0_hw23.2.2.2.2.2.2.1
theorem k0_off360_inb : ∀ (v432 : BitVec 32) (k0_hw23 : k0_chk23 v432), ∀ a, (k0_off360 v432) a + S1x16.size a ≤ S641x128.size a := fun v432 k0_hw23 => k0_hw23.2.2.2.2.2.2.2

def k0_off361 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_206 : BitVec 32 := 16#32
  let v433 : BitVec 32 := Scalar.muli arg17 c16_i32_206
  let v434 : BitVec 32 := Scalar.addi v180 v433
  let c4_i32_207 : BitVec 32 := 4#32
  let v435 : BitVec 32 := Scalar.addi v434 c4_i32_207
  let v487 : Index := Scalar.indexCast v435
  let c112_230 : Index := 112#32
  ![v487.toNat, 112]
def k0_off362 (v493 : BitVec 32) : Fin 2 → Nat :=
  let v497 : Index := Scalar.indexCast v493
  let c0_233 : Index := 0#32
  ![v497.toNat, 0]

def k0_off363 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v499 : Index := Scalar.indexCast v496
  let c0_234 : Index := 0#32
  ![v499.toNat, 0]
def k0_off364 (v493 : BitVec 32) : Fin 2 → Nat :=
  let v504 : Index := Scalar.indexCast v493
  let c16_236 : Index := 16#32
  ![v504.toNat, 16]
def k0_off365 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v506 : Index := Scalar.indexCast v496
  let c16_237 : Index := 16#32
  ![v506.toNat, 16]
def k0_off366 (v493 : BitVec 32) : Fin 2 → Nat :=
  let v511 : Index := Scalar.indexCast v493
  let c32_239 : Index := 32#32
  ![v511.toNat, 32]
def k0_off367 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v513 : Index := Scalar.indexCast v496
  let c32_240 : Index := 32#32
  ![v513.toNat, 32]
def k0_off368 (v493 : BitVec 32) : Fin 2 → Nat :=
  let v518 : Index := Scalar.indexCast v493
  let c48_242 : Index := 48#32
  ![v518.toNat, 48]
def k0_off369 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v520 : Index := Scalar.indexCast v496
  let c48_243 : Index := 48#32
  ![v520.toNat, 48]
def k0_off370 (v493 : BitVec 32) : Fin 2 → Nat :=
  let v525 : Index := Scalar.indexCast v493
  let c64_245 : Index := 64#32
  ![v525.toNat, 64]
def k0_off371 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v527 : Index := Scalar.indexCast v496
  let c64_246 : Index := 64#32
  ![v527.toNat, 64]
def k0_off372 (v493 : BitVec 32) : Fin 2 → Nat :=
  let v532 : Index := Scalar.indexCast v493
  let c80_248 : Index := 80#32
  ![v532.toNat, 80]
def k0_off373 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v534 : Index := Scalar.indexCast v496
  let c80_249 : Index := 80#32
  ![v534.toNat, 80]
def k0_off374 (v493 : BitVec 32) : Fin 2 → Nat :=
  let v539 : Index := Scalar.indexCast v493
  let c96_251 : Index := 96#32
  ![v539.toNat, 96]
def k0_off375 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v541 : Index := Scalar.indexCast v496
  let c96_252 : Index := 96#32
  ![v541.toNat, 96]
def k0_off376 (v493 : BitVec 32) : Fin 2 → Nat :=
  let v546 : Index := Scalar.indexCast v493
  let c112_254 : Index := 112#32
  ![v546.toNat, 112]

def k0_chk24 (v493 : BitVec 32) : Prop :=
  (∀ a, (k0_off362 v493) a + S1x16.size a ≤ S641x128.size a) ∧
  (∀ a, (k0_off364 v493) a + S1x16.size a ≤ S641x128.size a) ∧
  (∀ a, (k0_off366 v493) a + S1x16.size a ≤ S641x128.size a) ∧
  (∀ a, (k0_off368 v493) a + S1x16.size a ≤ S641x128.size a) ∧
  (∀ a, (k0_off370 v493) a + S1x16.size a ≤ S641x128.size a) ∧
  (∀ a, (k0_off372 v493) a + S1x16.size a ≤ S641x128.size a) ∧
  (∀ a, (k0_off374 v493) a + S1x16.size a ≤ S641x128.size a) ∧
  (∀ a, (k0_off376 v493) a + S1x16.size a ≤ S641x128.size a)
theorem k0_off362_inb : ∀ (v493 : BitVec 32) (k0_hw24 : k0_chk24 v493), ∀ a, (k0_off362 v493) a + S1x16.size a ≤ S641x128.size a := fun v493 k0_hw24 => k0_hw24.1
theorem k0_off364_inb : ∀ (v493 : BitVec 32) (k0_hw24 : k0_chk24 v493), ∀ a, (k0_off364 v493) a + S1x16.size a ≤ S641x128.size a := fun v493 k0_hw24 => k0_hw24.2.1
theorem k0_off366_inb : ∀ (v493 : BitVec 32) (k0_hw24 : k0_chk24 v493), ∀ a, (k0_off366 v493) a + S1x16.size a ≤ S641x128.size a := fun v493 k0_hw24 => k0_hw24.2.2.1
theorem k0_off368_inb : ∀ (v493 : BitVec 32) (k0_hw24 : k0_chk24 v493), ∀ a, (k0_off368 v493) a + S1x16.size a ≤ S641x128.size a := fun v493 k0_hw24 => k0_hw24.2.2.2.1
theorem k0_off370_inb : ∀ (v493 : BitVec 32) (k0_hw24 : k0_chk24 v493), ∀ a, (k0_off370 v493) a + S1x16.size a ≤ S641x128.size a := fun v493 k0_hw24 => k0_hw24.2.2.2.2.1
theorem k0_off372_inb : ∀ (v493 : BitVec 32) (k0_hw24 : k0_chk24 v493), ∀ a, (k0_off372 v493) a + S1x16.size a ≤ S641x128.size a := fun v493 k0_hw24 => k0_hw24.2.2.2.2.2.1
theorem k0_off374_inb : ∀ (v493 : BitVec 32) (k0_hw24 : k0_chk24 v493), ∀ a, (k0_off374 v493) a + S1x16.size a ≤ S641x128.size a := fun v493 k0_hw24 => k0_hw24.2.2.2.2.2.2.1
theorem k0_off376_inb : ∀ (v493 : BitVec 32) (k0_hw24 : k0_chk24 v493), ∀ a, (k0_off376 v493) a + S1x16.size a ≤ S641x128.size a := fun v493 k0_hw24 => k0_hw24.2.2.2.2.2.2.2

def k0_off377 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_232 : BitVec 32 := 16#32
  let v494 : BitVec 32 := Scalar.muli arg17 c16_i32_232
  let v495 : BitVec 32 := Scalar.addi v180 v494
  let c5_i32 : BitVec 32 := 5#32
  let v496 : BitVec 32 := Scalar.addi v495 c5_i32
  let v548 : Index := Scalar.indexCast v496
  let c112_255 : Index := 112#32
  ![v548.toNat, 112]
def k0_off378 (v554 : BitVec 32) : Fin 2 → Nat :=
  let v558 : Index := Scalar.indexCast v554
  let c0_258 : Index := 0#32
  ![v558.toNat, 0]

def k0_off379 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v560 : Index := Scalar.indexCast v557
  let c0_259 : Index := 0#32
  ![v560.toNat, 0]
def k0_off380 (v554 : BitVec 32) : Fin 2 → Nat :=
  let v565 : Index := Scalar.indexCast v554
  let c16_261 : Index := 16#32
  ![v565.toNat, 16]
def k0_off381 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v567 : Index := Scalar.indexCast v557
  let c16_262 : Index := 16#32
  ![v567.toNat, 16]
def k0_off382 (v554 : BitVec 32) : Fin 2 → Nat :=
  let v572 : Index := Scalar.indexCast v554
  let c32_264 : Index := 32#32
  ![v572.toNat, 32]
def k0_off383 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v574 : Index := Scalar.indexCast v557
  let c32_265 : Index := 32#32
  ![v574.toNat, 32]
def k0_off384 (v554 : BitVec 32) : Fin 2 → Nat :=
  let v579 : Index := Scalar.indexCast v554
  let c48_267 : Index := 48#32
  ![v579.toNat, 48]
def k0_off385 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v581 : Index := Scalar.indexCast v557
  let c48_268 : Index := 48#32
  ![v581.toNat, 48]
def k0_off386 (v554 : BitVec 32) : Fin 2 → Nat :=
  let v586 : Index := Scalar.indexCast v554
  let c64_270 : Index := 64#32
  ![v586.toNat, 64]
def k0_off387 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v588 : Index := Scalar.indexCast v557
  let c64_271 : Index := 64#32
  ![v588.toNat, 64]
def k0_off388 (v554 : BitVec 32) : Fin 2 → Nat :=
  let v593 : Index := Scalar.indexCast v554
  let c80_273 : Index := 80#32
  ![v593.toNat, 80]
def k0_off389 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v595 : Index := Scalar.indexCast v557
  let c80_274 : Index := 80#32
  ![v595.toNat, 80]
def k0_off390 (v554 : BitVec 32) : Fin 2 → Nat :=
  let v600 : Index := Scalar.indexCast v554
  let c96_276 : Index := 96#32
  ![v600.toNat, 96]
def k0_off391 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v602 : Index := Scalar.indexCast v557
  let c96_277 : Index := 96#32
  ![v602.toNat, 96]
def k0_off392 (v554 : BitVec 32) : Fin 2 → Nat :=
  let v607 : Index := Scalar.indexCast v554
  let c112_279 : Index := 112#32
  ![v607.toNat, 112]

def k0_chk25 (v554 : BitVec 32) : Prop :=
  (∀ a, (k0_off378 v554) a + S1x16.size a ≤ S641x128.size a) ∧
  (∀ a, (k0_off380 v554) a + S1x16.size a ≤ S641x128.size a) ∧
  (∀ a, (k0_off382 v554) a + S1x16.size a ≤ S641x128.size a) ∧
  (∀ a, (k0_off384 v554) a + S1x16.size a ≤ S641x128.size a) ∧
  (∀ a, (k0_off386 v554) a + S1x16.size a ≤ S641x128.size a) ∧
  (∀ a, (k0_off388 v554) a + S1x16.size a ≤ S641x128.size a) ∧
  (∀ a, (k0_off390 v554) a + S1x16.size a ≤ S641x128.size a) ∧
  (∀ a, (k0_off392 v554) a + S1x16.size a ≤ S641x128.size a)
theorem k0_off378_inb : ∀ (v554 : BitVec 32) (k0_hw25 : k0_chk25 v554), ∀ a, (k0_off378 v554) a + S1x16.size a ≤ S641x128.size a := fun v554 k0_hw25 => k0_hw25.1
theorem k0_off380_inb : ∀ (v554 : BitVec 32) (k0_hw25 : k0_chk25 v554), ∀ a, (k0_off380 v554) a + S1x16.size a ≤ S641x128.size a := fun v554 k0_hw25 => k0_hw25.2.1
theorem k0_off382_inb : ∀ (v554 : BitVec 32) (k0_hw25 : k0_chk25 v554), ∀ a, (k0_off382 v554) a + S1x16.size a ≤ S641x128.size a := fun v554 k0_hw25 => k0_hw25.2.2.1
theorem k0_off384_inb : ∀ (v554 : BitVec 32) (k0_hw25 : k0_chk25 v554), ∀ a, (k0_off384 v554) a + S1x16.size a ≤ S641x128.size a := fun v554 k0_hw25 => k0_hw25.2.2.2.1
theorem k0_off386_inb : ∀ (v554 : BitVec 32) (k0_hw25 : k0_chk25 v554), ∀ a, (k0_off386 v554) a + S1x16.size a ≤ S641x128.size a := fun v554 k0_hw25 => k0_hw25.2.2.2.2.1
theorem k0_off388_inb : ∀ (v554 : BitVec 32) (k0_hw25 : k0_chk25 v554), ∀ a, (k0_off388 v554) a + S1x16.size a ≤ S641x128.size a := fun v554 k0_hw25 => k0_hw25.2.2.2.2.2.1
theorem k0_off390_inb : ∀ (v554 : BitVec 32) (k0_hw25 : k0_chk25 v554), ∀ a, (k0_off390 v554) a + S1x16.size a ≤ S641x128.size a := fun v554 k0_hw25 => k0_hw25.2.2.2.2.2.2.1
theorem k0_off392_inb : ∀ (v554 : BitVec 32) (k0_hw25 : k0_chk25 v554), ∀ a, (k0_off392 v554) a + S1x16.size a ≤ S641x128.size a := fun v554 k0_hw25 => k0_hw25.2.2.2.2.2.2.2

def k0_off393 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_257 : BitVec 32 := 16#32
  let v555 : BitVec 32 := Scalar.muli arg17 c16_i32_257
  let v556 : BitVec 32 := Scalar.addi v180 v555
  let c6_i32 : BitVec 32 := 6#32
  let v557 : BitVec 32 := Scalar.addi v556 c6_i32
  let v609 : Index := Scalar.indexCast v557
  let c112_280 : Index := 112#32
  ![v609.toNat, 112]
def k0_off394 (v615 : BitVec 32) : Fin 2 → Nat :=
  let v619 : Index := Scalar.indexCast v615
  let c0_283 : Index := 0#32
  ![v619.toNat, 0]

def k0_off395 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v621 : Index := Scalar.indexCast v618
  let c0_284 : Index := 0#32
  ![v621.toNat, 0]
def k0_off396 (v615 : BitVec 32) : Fin 2 → Nat :=
  let v626 : Index := Scalar.indexCast v615
  let c16_286 : Index := 16#32
  ![v626.toNat, 16]
def k0_off397 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v628 : Index := Scalar.indexCast v618
  let c16_287 : Index := 16#32
  ![v628.toNat, 16]
def k0_off398 (v615 : BitVec 32) : Fin 2 → Nat :=
  let v633 : Index := Scalar.indexCast v615
  let c32_289 : Index := 32#32
  ![v633.toNat, 32]
def k0_off399 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v635 : Index := Scalar.indexCast v618
  let c32_290 : Index := 32#32
  ![v635.toNat, 32]
def k0_off400 (v615 : BitVec 32) : Fin 2 → Nat :=
  let v640 : Index := Scalar.indexCast v615
  let c48_292 : Index := 48#32
  ![v640.toNat, 48]
def k0_off401 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v642 : Index := Scalar.indexCast v618
  let c48_293 : Index := 48#32
  ![v642.toNat, 48]
def k0_off402 (v615 : BitVec 32) : Fin 2 → Nat :=
  let v647 : Index := Scalar.indexCast v615
  let c64_295 : Index := 64#32
  ![v647.toNat, 64]
def k0_off403 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v649 : Index := Scalar.indexCast v618
  let c64_296 : Index := 64#32
  ![v649.toNat, 64]
def k0_off404 (v615 : BitVec 32) : Fin 2 → Nat :=
  let v654 : Index := Scalar.indexCast v615
  let c80_298 : Index := 80#32
  ![v654.toNat, 80]
def k0_off405 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v656 : Index := Scalar.indexCast v618
  let c80_299 : Index := 80#32
  ![v656.toNat, 80]
def k0_off406 (v615 : BitVec 32) : Fin 2 → Nat :=
  let v661 : Index := Scalar.indexCast v615
  let c96_301 : Index := 96#32
  ![v661.toNat, 96]
def k0_off407 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v663 : Index := Scalar.indexCast v618
  let c96_302 : Index := 96#32
  ![v663.toNat, 96]
def k0_off408 (v615 : BitVec 32) : Fin 2 → Nat :=
  let v668 : Index := Scalar.indexCast v615
  let c112_304 : Index := 112#32
  ![v668.toNat, 112]

def k0_chk26 (v615 : BitVec 32) : Prop :=
  (∀ a, (k0_off394 v615) a + S1x16.size a ≤ S641x128.size a) ∧
  (∀ a, (k0_off396 v615) a + S1x16.size a ≤ S641x128.size a) ∧
  (∀ a, (k0_off398 v615) a + S1x16.size a ≤ S641x128.size a) ∧
  (∀ a, (k0_off400 v615) a + S1x16.size a ≤ S641x128.size a) ∧
  (∀ a, (k0_off402 v615) a + S1x16.size a ≤ S641x128.size a) ∧
  (∀ a, (k0_off404 v615) a + S1x16.size a ≤ S641x128.size a) ∧
  (∀ a, (k0_off406 v615) a + S1x16.size a ≤ S641x128.size a) ∧
  (∀ a, (k0_off408 v615) a + S1x16.size a ≤ S641x128.size a)
theorem k0_off394_inb : ∀ (v615 : BitVec 32) (k0_hw26 : k0_chk26 v615), ∀ a, (k0_off394 v615) a + S1x16.size a ≤ S641x128.size a := fun v615 k0_hw26 => k0_hw26.1
theorem k0_off396_inb : ∀ (v615 : BitVec 32) (k0_hw26 : k0_chk26 v615), ∀ a, (k0_off396 v615) a + S1x16.size a ≤ S641x128.size a := fun v615 k0_hw26 => k0_hw26.2.1
theorem k0_off398_inb : ∀ (v615 : BitVec 32) (k0_hw26 : k0_chk26 v615), ∀ a, (k0_off398 v615) a + S1x16.size a ≤ S641x128.size a := fun v615 k0_hw26 => k0_hw26.2.2.1
theorem k0_off400_inb : ∀ (v615 : BitVec 32) (k0_hw26 : k0_chk26 v615), ∀ a, (k0_off400 v615) a + S1x16.size a ≤ S641x128.size a := fun v615 k0_hw26 => k0_hw26.2.2.2.1
theorem k0_off402_inb : ∀ (v615 : BitVec 32) (k0_hw26 : k0_chk26 v615), ∀ a, (k0_off402 v615) a + S1x16.size a ≤ S641x128.size a := fun v615 k0_hw26 => k0_hw26.2.2.2.2.1
theorem k0_off404_inb : ∀ (v615 : BitVec 32) (k0_hw26 : k0_chk26 v615), ∀ a, (k0_off404 v615) a + S1x16.size a ≤ S641x128.size a := fun v615 k0_hw26 => k0_hw26.2.2.2.2.2.1
theorem k0_off406_inb : ∀ (v615 : BitVec 32) (k0_hw26 : k0_chk26 v615), ∀ a, (k0_off406 v615) a + S1x16.size a ≤ S641x128.size a := fun v615 k0_hw26 => k0_hw26.2.2.2.2.2.2.1
theorem k0_off408_inb : ∀ (v615 : BitVec 32) (k0_hw26 : k0_chk26 v615), ∀ a, (k0_off408 v615) a + S1x16.size a ≤ S641x128.size a := fun v615 k0_hw26 => k0_hw26.2.2.2.2.2.2.2

def k0_off409 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_282 : BitVec 32 := 16#32
  let v616 : BitVec 32 := Scalar.muli arg17 c16_i32_282
  let v617 : BitVec 32 := Scalar.addi v180 v616
  let c7_i32 : BitVec 32 := 7#32
  let v618 : BitVec 32 := Scalar.addi v617 c7_i32
  let v670 : Index := Scalar.indexCast v618
  let c112_305 : Index := 112#32
  ![v670.toNat, 112]
def k0_off410 (v676 : BitVec 32) : Fin 2 → Nat :=
  let v680 : Index := Scalar.indexCast v676
  let c0_308 : Index := 0#32
  ![v680.toNat, 0]

def k0_off411 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v682 : Index := Scalar.indexCast v679
  let c0_309 : Index := 0#32
  ![v682.toNat, 0]
def k0_off412 (v676 : BitVec 32) : Fin 2 → Nat :=
  let v687 : Index := Scalar.indexCast v676
  let c16_311 : Index := 16#32
  ![v687.toNat, 16]
def k0_off413 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v689 : Index := Scalar.indexCast v679
  let c16_312 : Index := 16#32
  ![v689.toNat, 16]
def k0_off414 (v676 : BitVec 32) : Fin 2 → Nat :=
  let v694 : Index := Scalar.indexCast v676
  let c32_314 : Index := 32#32
  ![v694.toNat, 32]
def k0_off415 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v696 : Index := Scalar.indexCast v679
  let c32_315 : Index := 32#32
  ![v696.toNat, 32]
def k0_off416 (v676 : BitVec 32) : Fin 2 → Nat :=
  let v701 : Index := Scalar.indexCast v676
  let c48_317 : Index := 48#32
  ![v701.toNat, 48]
def k0_off417 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v703 : Index := Scalar.indexCast v679
  let c48_318 : Index := 48#32
  ![v703.toNat, 48]
def k0_off418 (v676 : BitVec 32) : Fin 2 → Nat :=
  let v708 : Index := Scalar.indexCast v676
  let c64_320 : Index := 64#32
  ![v708.toNat, 64]
def k0_off419 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v710 : Index := Scalar.indexCast v679
  let c64_321 : Index := 64#32
  ![v710.toNat, 64]
def k0_off420 (v676 : BitVec 32) : Fin 2 → Nat :=
  let v715 : Index := Scalar.indexCast v676
  let c80_323 : Index := 80#32
  ![v715.toNat, 80]
def k0_off421 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v717 : Index := Scalar.indexCast v679
  let c80_324 : Index := 80#32
  ![v717.toNat, 80]
def k0_off422 (v676 : BitVec 32) : Fin 2 → Nat :=
  let v722 : Index := Scalar.indexCast v676
  let c96_326 : Index := 96#32
  ![v722.toNat, 96]
def k0_off423 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v724 : Index := Scalar.indexCast v679
  let c96_327 : Index := 96#32
  ![v724.toNat, 96]
def k0_off424 (v676 : BitVec 32) : Fin 2 → Nat :=
  let v729 : Index := Scalar.indexCast v676
  let c112_329 : Index := 112#32
  ![v729.toNat, 112]

def k0_chk27 (v676 : BitVec 32) : Prop :=
  (∀ a, (k0_off410 v676) a + S1x16.size a ≤ S641x128.size a) ∧
  (∀ a, (k0_off412 v676) a + S1x16.size a ≤ S641x128.size a) ∧
  (∀ a, (k0_off414 v676) a + S1x16.size a ≤ S641x128.size a) ∧
  (∀ a, (k0_off416 v676) a + S1x16.size a ≤ S641x128.size a) ∧
  (∀ a, (k0_off418 v676) a + S1x16.size a ≤ S641x128.size a) ∧
  (∀ a, (k0_off420 v676) a + S1x16.size a ≤ S641x128.size a) ∧
  (∀ a, (k0_off422 v676) a + S1x16.size a ≤ S641x128.size a) ∧
  (∀ a, (k0_off424 v676) a + S1x16.size a ≤ S641x128.size a)
theorem k0_off410_inb : ∀ (v676 : BitVec 32) (k0_hw27 : k0_chk27 v676), ∀ a, (k0_off410 v676) a + S1x16.size a ≤ S641x128.size a := fun v676 k0_hw27 => k0_hw27.1
theorem k0_off412_inb : ∀ (v676 : BitVec 32) (k0_hw27 : k0_chk27 v676), ∀ a, (k0_off412 v676) a + S1x16.size a ≤ S641x128.size a := fun v676 k0_hw27 => k0_hw27.2.1
theorem k0_off414_inb : ∀ (v676 : BitVec 32) (k0_hw27 : k0_chk27 v676), ∀ a, (k0_off414 v676) a + S1x16.size a ≤ S641x128.size a := fun v676 k0_hw27 => k0_hw27.2.2.1
theorem k0_off416_inb : ∀ (v676 : BitVec 32) (k0_hw27 : k0_chk27 v676), ∀ a, (k0_off416 v676) a + S1x16.size a ≤ S641x128.size a := fun v676 k0_hw27 => k0_hw27.2.2.2.1
theorem k0_off418_inb : ∀ (v676 : BitVec 32) (k0_hw27 : k0_chk27 v676), ∀ a, (k0_off418 v676) a + S1x16.size a ≤ S641x128.size a := fun v676 k0_hw27 => k0_hw27.2.2.2.2.1
theorem k0_off420_inb : ∀ (v676 : BitVec 32) (k0_hw27 : k0_chk27 v676), ∀ a, (k0_off420 v676) a + S1x16.size a ≤ S641x128.size a := fun v676 k0_hw27 => k0_hw27.2.2.2.2.2.1
theorem k0_off422_inb : ∀ (v676 : BitVec 32) (k0_hw27 : k0_chk27 v676), ∀ a, (k0_off422 v676) a + S1x16.size a ≤ S641x128.size a := fun v676 k0_hw27 => k0_hw27.2.2.2.2.2.2.1
theorem k0_off424_inb : ∀ (v676 : BitVec 32) (k0_hw27 : k0_chk27 v676), ∀ a, (k0_off424 v676) a + S1x16.size a ≤ S641x128.size a := fun v676 k0_hw27 => k0_hw27.2.2.2.2.2.2.2

def k0_off425 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_307 : BitVec 32 := 16#32
  let v677 : BitVec 32 := Scalar.muli arg17 c16_i32_307
  let v678 : BitVec 32 := Scalar.addi v180 v677
  let c8_i32 : BitVec 32 := 8#32
  let v679 : BitVec 32 := Scalar.addi v678 c8_i32
  let v731 : Index := Scalar.indexCast v679
  let c112_330 : Index := 112#32
  ![v731.toNat, 112]
def k0_off426 (v737 : BitVec 32) : Fin 2 → Nat :=
  let v741 : Index := Scalar.indexCast v737
  let c0_333 : Index := 0#32
  ![v741.toNat, 0]

def k0_off427 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v743 : Index := Scalar.indexCast v740
  let c0_334 : Index := 0#32
  ![v743.toNat, 0]
def k0_off428 (v737 : BitVec 32) : Fin 2 → Nat :=
  let v748 : Index := Scalar.indexCast v737
  let c16_336 : Index := 16#32
  ![v748.toNat, 16]
def k0_off429 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v750 : Index := Scalar.indexCast v740
  let c16_337 : Index := 16#32
  ![v750.toNat, 16]
def k0_off430 (v737 : BitVec 32) : Fin 2 → Nat :=
  let v755 : Index := Scalar.indexCast v737
  let c32_339 : Index := 32#32
  ![v755.toNat, 32]
def k0_off431 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v757 : Index := Scalar.indexCast v740
  let c32_340 : Index := 32#32
  ![v757.toNat, 32]
def k0_off432 (v737 : BitVec 32) : Fin 2 → Nat :=
  let v762 : Index := Scalar.indexCast v737
  let c48_342 : Index := 48#32
  ![v762.toNat, 48]
def k0_off433 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v764 : Index := Scalar.indexCast v740
  let c48_343 : Index := 48#32
  ![v764.toNat, 48]
def k0_off434 (v737 : BitVec 32) : Fin 2 → Nat :=
  let v769 : Index := Scalar.indexCast v737
  let c64_345 : Index := 64#32
  ![v769.toNat, 64]
def k0_off435 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v771 : Index := Scalar.indexCast v740
  let c64_346 : Index := 64#32
  ![v771.toNat, 64]
def k0_off436 (v737 : BitVec 32) : Fin 2 → Nat :=
  let v776 : Index := Scalar.indexCast v737
  let c80_348 : Index := 80#32
  ![v776.toNat, 80]
def k0_off437 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v778 : Index := Scalar.indexCast v740
  let c80_349 : Index := 80#32
  ![v778.toNat, 80]
def k0_off438 (v737 : BitVec 32) : Fin 2 → Nat :=
  let v783 : Index := Scalar.indexCast v737
  let c96_351 : Index := 96#32
  ![v783.toNat, 96]
def k0_off439 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v785 : Index := Scalar.indexCast v740
  let c96_352 : Index := 96#32
  ![v785.toNat, 96]
def k0_off440 (v737 : BitVec 32) : Fin 2 → Nat :=
  let v790 : Index := Scalar.indexCast v737
  let c112_354 : Index := 112#32
  ![v790.toNat, 112]

def k0_chk28 (v737 : BitVec 32) : Prop :=
  (∀ a, (k0_off426 v737) a + S1x16.size a ≤ S641x128.size a) ∧
  (∀ a, (k0_off428 v737) a + S1x16.size a ≤ S641x128.size a) ∧
  (∀ a, (k0_off430 v737) a + S1x16.size a ≤ S641x128.size a) ∧
  (∀ a, (k0_off432 v737) a + S1x16.size a ≤ S641x128.size a) ∧
  (∀ a, (k0_off434 v737) a + S1x16.size a ≤ S641x128.size a) ∧
  (∀ a, (k0_off436 v737) a + S1x16.size a ≤ S641x128.size a) ∧
  (∀ a, (k0_off438 v737) a + S1x16.size a ≤ S641x128.size a) ∧
  (∀ a, (k0_off440 v737) a + S1x16.size a ≤ S641x128.size a)
theorem k0_off426_inb : ∀ (v737 : BitVec 32) (k0_hw28 : k0_chk28 v737), ∀ a, (k0_off426 v737) a + S1x16.size a ≤ S641x128.size a := fun v737 k0_hw28 => k0_hw28.1
theorem k0_off428_inb : ∀ (v737 : BitVec 32) (k0_hw28 : k0_chk28 v737), ∀ a, (k0_off428 v737) a + S1x16.size a ≤ S641x128.size a := fun v737 k0_hw28 => k0_hw28.2.1
theorem k0_off430_inb : ∀ (v737 : BitVec 32) (k0_hw28 : k0_chk28 v737), ∀ a, (k0_off430 v737) a + S1x16.size a ≤ S641x128.size a := fun v737 k0_hw28 => k0_hw28.2.2.1
theorem k0_off432_inb : ∀ (v737 : BitVec 32) (k0_hw28 : k0_chk28 v737), ∀ a, (k0_off432 v737) a + S1x16.size a ≤ S641x128.size a := fun v737 k0_hw28 => k0_hw28.2.2.2.1
theorem k0_off434_inb : ∀ (v737 : BitVec 32) (k0_hw28 : k0_chk28 v737), ∀ a, (k0_off434 v737) a + S1x16.size a ≤ S641x128.size a := fun v737 k0_hw28 => k0_hw28.2.2.2.2.1
theorem k0_off436_inb : ∀ (v737 : BitVec 32) (k0_hw28 : k0_chk28 v737), ∀ a, (k0_off436 v737) a + S1x16.size a ≤ S641x128.size a := fun v737 k0_hw28 => k0_hw28.2.2.2.2.2.1
theorem k0_off438_inb : ∀ (v737 : BitVec 32) (k0_hw28 : k0_chk28 v737), ∀ a, (k0_off438 v737) a + S1x16.size a ≤ S641x128.size a := fun v737 k0_hw28 => k0_hw28.2.2.2.2.2.2.1
theorem k0_off440_inb : ∀ (v737 : BitVec 32) (k0_hw28 : k0_chk28 v737), ∀ a, (k0_off440 v737) a + S1x16.size a ≤ S641x128.size a := fun v737 k0_hw28 => k0_hw28.2.2.2.2.2.2.2

def k0_off441 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_332 : BitVec 32 := 16#32
  let v738 : BitVec 32 := Scalar.muli arg17 c16_i32_332
  let v739 : BitVec 32 := Scalar.addi v180 v738
  let c9_i32 : BitVec 32 := 9#32
  let v740 : BitVec 32 := Scalar.addi v739 c9_i32
  let v792 : Index := Scalar.indexCast v740
  let c112_355 : Index := 112#32
  ![v792.toNat, 112]
def k0_off442 (v798 : BitVec 32) : Fin 2 → Nat :=
  let v802 : Index := Scalar.indexCast v798
  let c0_358 : Index := 0#32
  ![v802.toNat, 0]

def k0_off443 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v804 : Index := Scalar.indexCast v801
  let c0_359 : Index := 0#32
  ![v804.toNat, 0]
def k0_off444 (v798 : BitVec 32) : Fin 2 → Nat :=
  let v809 : Index := Scalar.indexCast v798
  let c16_361 : Index := 16#32
  ![v809.toNat, 16]
def k0_off445 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v811 : Index := Scalar.indexCast v801
  let c16_362 : Index := 16#32
  ![v811.toNat, 16]
def k0_off446 (v798 : BitVec 32) : Fin 2 → Nat :=
  let v816 : Index := Scalar.indexCast v798
  let c32_364 : Index := 32#32
  ![v816.toNat, 32]
def k0_off447 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v818 : Index := Scalar.indexCast v801
  let c32_365 : Index := 32#32
  ![v818.toNat, 32]
def k0_off448 (v798 : BitVec 32) : Fin 2 → Nat :=
  let v823 : Index := Scalar.indexCast v798
  let c48_367 : Index := 48#32
  ![v823.toNat, 48]
def k0_off449 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v825 : Index := Scalar.indexCast v801
  let c48_368 : Index := 48#32
  ![v825.toNat, 48]
def k0_off450 (v798 : BitVec 32) : Fin 2 → Nat :=
  let v830 : Index := Scalar.indexCast v798
  let c64_370 : Index := 64#32
  ![v830.toNat, 64]
def k0_off451 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v832 : Index := Scalar.indexCast v801
  let c64_371 : Index := 64#32
  ![v832.toNat, 64]
def k0_off452 (v798 : BitVec 32) : Fin 2 → Nat :=
  let v837 : Index := Scalar.indexCast v798
  let c80_373 : Index := 80#32
  ![v837.toNat, 80]
def k0_off453 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v839 : Index := Scalar.indexCast v801
  let c80_374 : Index := 80#32
  ![v839.toNat, 80]
def k0_off454 (v798 : BitVec 32) : Fin 2 → Nat :=
  let v844 : Index := Scalar.indexCast v798
  let c96_376 : Index := 96#32
  ![v844.toNat, 96]
def k0_off455 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v846 : Index := Scalar.indexCast v801
  let c96_377 : Index := 96#32
  ![v846.toNat, 96]
def k0_off456 (v798 : BitVec 32) : Fin 2 → Nat :=
  let v851 : Index := Scalar.indexCast v798
  let c112_379 : Index := 112#32
  ![v851.toNat, 112]

def k0_chk29 (v798 : BitVec 32) : Prop :=
  (∀ a, (k0_off442 v798) a + S1x16.size a ≤ S641x128.size a) ∧
  (∀ a, (k0_off444 v798) a + S1x16.size a ≤ S641x128.size a) ∧
  (∀ a, (k0_off446 v798) a + S1x16.size a ≤ S641x128.size a) ∧
  (∀ a, (k0_off448 v798) a + S1x16.size a ≤ S641x128.size a) ∧
  (∀ a, (k0_off450 v798) a + S1x16.size a ≤ S641x128.size a) ∧
  (∀ a, (k0_off452 v798) a + S1x16.size a ≤ S641x128.size a) ∧
  (∀ a, (k0_off454 v798) a + S1x16.size a ≤ S641x128.size a) ∧
  (∀ a, (k0_off456 v798) a + S1x16.size a ≤ S641x128.size a)
theorem k0_off442_inb : ∀ (v798 : BitVec 32) (k0_hw29 : k0_chk29 v798), ∀ a, (k0_off442 v798) a + S1x16.size a ≤ S641x128.size a := fun v798 k0_hw29 => k0_hw29.1
theorem k0_off444_inb : ∀ (v798 : BitVec 32) (k0_hw29 : k0_chk29 v798), ∀ a, (k0_off444 v798) a + S1x16.size a ≤ S641x128.size a := fun v798 k0_hw29 => k0_hw29.2.1
theorem k0_off446_inb : ∀ (v798 : BitVec 32) (k0_hw29 : k0_chk29 v798), ∀ a, (k0_off446 v798) a + S1x16.size a ≤ S641x128.size a := fun v798 k0_hw29 => k0_hw29.2.2.1
theorem k0_off448_inb : ∀ (v798 : BitVec 32) (k0_hw29 : k0_chk29 v798), ∀ a, (k0_off448 v798) a + S1x16.size a ≤ S641x128.size a := fun v798 k0_hw29 => k0_hw29.2.2.2.1
theorem k0_off450_inb : ∀ (v798 : BitVec 32) (k0_hw29 : k0_chk29 v798), ∀ a, (k0_off450 v798) a + S1x16.size a ≤ S641x128.size a := fun v798 k0_hw29 => k0_hw29.2.2.2.2.1
theorem k0_off452_inb : ∀ (v798 : BitVec 32) (k0_hw29 : k0_chk29 v798), ∀ a, (k0_off452 v798) a + S1x16.size a ≤ S641x128.size a := fun v798 k0_hw29 => k0_hw29.2.2.2.2.2.1
theorem k0_off454_inb : ∀ (v798 : BitVec 32) (k0_hw29 : k0_chk29 v798), ∀ a, (k0_off454 v798) a + S1x16.size a ≤ S641x128.size a := fun v798 k0_hw29 => k0_hw29.2.2.2.2.2.2.1
theorem k0_off456_inb : ∀ (v798 : BitVec 32) (k0_hw29 : k0_chk29 v798), ∀ a, (k0_off456 v798) a + S1x16.size a ≤ S641x128.size a := fun v798 k0_hw29 => k0_hw29.2.2.2.2.2.2.2

def k0_off457 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_357 : BitVec 32 := 16#32
  let v799 : BitVec 32 := Scalar.muli arg17 c16_i32_357
  let v800 : BitVec 32 := Scalar.addi v180 v799
  let c10_i32 : BitVec 32 := 10#32
  let v801 : BitVec 32 := Scalar.addi v800 c10_i32
  let v853 : Index := Scalar.indexCast v801
  let c112_380 : Index := 112#32
  ![v853.toNat, 112]
def k0_off458 (v859 : BitVec 32) : Fin 2 → Nat :=
  let v863 : Index := Scalar.indexCast v859
  let c0_383 : Index := 0#32
  ![v863.toNat, 0]

def k0_off459 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v865 : Index := Scalar.indexCast v862
  let c0_384 : Index := 0#32
  ![v865.toNat, 0]
def k0_off460 (v859 : BitVec 32) : Fin 2 → Nat :=
  let v870 : Index := Scalar.indexCast v859
  let c16_386 : Index := 16#32
  ![v870.toNat, 16]
def k0_off461 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v872 : Index := Scalar.indexCast v862
  let c16_387 : Index := 16#32
  ![v872.toNat, 16]
def k0_off462 (v859 : BitVec 32) : Fin 2 → Nat :=
  let v877 : Index := Scalar.indexCast v859
  let c32_389 : Index := 32#32
  ![v877.toNat, 32]
def k0_off463 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v879 : Index := Scalar.indexCast v862
  let c32_390 : Index := 32#32
  ![v879.toNat, 32]
def k0_off464 (v859 : BitVec 32) : Fin 2 → Nat :=
  let v884 : Index := Scalar.indexCast v859
  let c48_392 : Index := 48#32
  ![v884.toNat, 48]
def k0_off465 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v886 : Index := Scalar.indexCast v862
  let c48_393 : Index := 48#32
  ![v886.toNat, 48]
def k0_off466 (v859 : BitVec 32) : Fin 2 → Nat :=
  let v891 : Index := Scalar.indexCast v859
  let c64_395 : Index := 64#32
  ![v891.toNat, 64]
def k0_off467 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v893 : Index := Scalar.indexCast v862
  let c64_396 : Index := 64#32
  ![v893.toNat, 64]
def k0_off468 (v859 : BitVec 32) : Fin 2 → Nat :=
  let v898 : Index := Scalar.indexCast v859
  let c80_398 : Index := 80#32
  ![v898.toNat, 80]
def k0_off469 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v900 : Index := Scalar.indexCast v862
  let c80_399 : Index := 80#32
  ![v900.toNat, 80]
def k0_off470 (v859 : BitVec 32) : Fin 2 → Nat :=
  let v905 : Index := Scalar.indexCast v859
  let c96_401 : Index := 96#32
  ![v905.toNat, 96]
def k0_off471 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v907 : Index := Scalar.indexCast v862
  let c96_402 : Index := 96#32
  ![v907.toNat, 96]
def k0_off472 (v859 : BitVec 32) : Fin 2 → Nat :=
  let v912 : Index := Scalar.indexCast v859
  let c112_404 : Index := 112#32
  ![v912.toNat, 112]

def k0_chk30 (v859 : BitVec 32) : Prop :=
  (∀ a, (k0_off458 v859) a + S1x16.size a ≤ S641x128.size a) ∧
  (∀ a, (k0_off460 v859) a + S1x16.size a ≤ S641x128.size a) ∧
  (∀ a, (k0_off462 v859) a + S1x16.size a ≤ S641x128.size a) ∧
  (∀ a, (k0_off464 v859) a + S1x16.size a ≤ S641x128.size a) ∧
  (∀ a, (k0_off466 v859) a + S1x16.size a ≤ S641x128.size a) ∧
  (∀ a, (k0_off468 v859) a + S1x16.size a ≤ S641x128.size a) ∧
  (∀ a, (k0_off470 v859) a + S1x16.size a ≤ S641x128.size a) ∧
  (∀ a, (k0_off472 v859) a + S1x16.size a ≤ S641x128.size a)
theorem k0_off458_inb : ∀ (v859 : BitVec 32) (k0_hw30 : k0_chk30 v859), ∀ a, (k0_off458 v859) a + S1x16.size a ≤ S641x128.size a := fun v859 k0_hw30 => k0_hw30.1
theorem k0_off460_inb : ∀ (v859 : BitVec 32) (k0_hw30 : k0_chk30 v859), ∀ a, (k0_off460 v859) a + S1x16.size a ≤ S641x128.size a := fun v859 k0_hw30 => k0_hw30.2.1
theorem k0_off462_inb : ∀ (v859 : BitVec 32) (k0_hw30 : k0_chk30 v859), ∀ a, (k0_off462 v859) a + S1x16.size a ≤ S641x128.size a := fun v859 k0_hw30 => k0_hw30.2.2.1
theorem k0_off464_inb : ∀ (v859 : BitVec 32) (k0_hw30 : k0_chk30 v859), ∀ a, (k0_off464 v859) a + S1x16.size a ≤ S641x128.size a := fun v859 k0_hw30 => k0_hw30.2.2.2.1
theorem k0_off466_inb : ∀ (v859 : BitVec 32) (k0_hw30 : k0_chk30 v859), ∀ a, (k0_off466 v859) a + S1x16.size a ≤ S641x128.size a := fun v859 k0_hw30 => k0_hw30.2.2.2.2.1
theorem k0_off468_inb : ∀ (v859 : BitVec 32) (k0_hw30 : k0_chk30 v859), ∀ a, (k0_off468 v859) a + S1x16.size a ≤ S641x128.size a := fun v859 k0_hw30 => k0_hw30.2.2.2.2.2.1
theorem k0_off470_inb : ∀ (v859 : BitVec 32) (k0_hw30 : k0_chk30 v859), ∀ a, (k0_off470 v859) a + S1x16.size a ≤ S641x128.size a := fun v859 k0_hw30 => k0_hw30.2.2.2.2.2.2.1
theorem k0_off472_inb : ∀ (v859 : BitVec 32) (k0_hw30 : k0_chk30 v859), ∀ a, (k0_off472 v859) a + S1x16.size a ≤ S641x128.size a := fun v859 k0_hw30 => k0_hw30.2.2.2.2.2.2.2

def k0_off473 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_382 : BitVec 32 := 16#32
  let v860 : BitVec 32 := Scalar.muli arg17 c16_i32_382
  let v861 : BitVec 32 := Scalar.addi v180 v860
  let c11_i32 : BitVec 32 := 11#32
  let v862 : BitVec 32 := Scalar.addi v861 c11_i32
  let v914 : Index := Scalar.indexCast v862
  let c112_405 : Index := 112#32
  ![v914.toNat, 112]
def k0_off474 (v920 : BitVec 32) : Fin 2 → Nat :=
  let v924 : Index := Scalar.indexCast v920
  let c0_408 : Index := 0#32
  ![v924.toNat, 0]

def k0_off475 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v926 : Index := Scalar.indexCast v923
  let c0_409 : Index := 0#32
  ![v926.toNat, 0]
def k0_off476 (v920 : BitVec 32) : Fin 2 → Nat :=
  let v931 : Index := Scalar.indexCast v920
  let c16_411 : Index := 16#32
  ![v931.toNat, 16]
def k0_off477 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v933 : Index := Scalar.indexCast v923
  let c16_412 : Index := 16#32
  ![v933.toNat, 16]
def k0_off478 (v920 : BitVec 32) : Fin 2 → Nat :=
  let v938 : Index := Scalar.indexCast v920
  let c32_414 : Index := 32#32
  ![v938.toNat, 32]
def k0_off479 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v940 : Index := Scalar.indexCast v923
  let c32_415 : Index := 32#32
  ![v940.toNat, 32]
def k0_off480 (v920 : BitVec 32) : Fin 2 → Nat :=
  let v945 : Index := Scalar.indexCast v920
  let c48_417 : Index := 48#32
  ![v945.toNat, 48]
def k0_off481 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v947 : Index := Scalar.indexCast v923
  let c48_418 : Index := 48#32
  ![v947.toNat, 48]
def k0_off482 (v920 : BitVec 32) : Fin 2 → Nat :=
  let v952 : Index := Scalar.indexCast v920
  let c64_420 : Index := 64#32
  ![v952.toNat, 64]
def k0_off483 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v954 : Index := Scalar.indexCast v923
  let c64_421 : Index := 64#32
  ![v954.toNat, 64]
def k0_off484 (v920 : BitVec 32) : Fin 2 → Nat :=
  let v959 : Index := Scalar.indexCast v920
  let c80_423 : Index := 80#32
  ![v959.toNat, 80]
def k0_off485 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v961 : Index := Scalar.indexCast v923
  let c80_424 : Index := 80#32
  ![v961.toNat, 80]
def k0_off486 (v920 : BitVec 32) : Fin 2 → Nat :=
  let v966 : Index := Scalar.indexCast v920
  let c96_426 : Index := 96#32
  ![v966.toNat, 96]
def k0_off487 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v968 : Index := Scalar.indexCast v923
  let c96_427 : Index := 96#32
  ![v968.toNat, 96]
def k0_off488 (v920 : BitVec 32) : Fin 2 → Nat :=
  let v973 : Index := Scalar.indexCast v920
  let c112_429 : Index := 112#32
  ![v973.toNat, 112]

def k0_chk31 (v920 : BitVec 32) : Prop :=
  (∀ a, (k0_off474 v920) a + S1x16.size a ≤ S641x128.size a) ∧
  (∀ a, (k0_off476 v920) a + S1x16.size a ≤ S641x128.size a) ∧
  (∀ a, (k0_off478 v920) a + S1x16.size a ≤ S641x128.size a) ∧
  (∀ a, (k0_off480 v920) a + S1x16.size a ≤ S641x128.size a) ∧
  (∀ a, (k0_off482 v920) a + S1x16.size a ≤ S641x128.size a) ∧
  (∀ a, (k0_off484 v920) a + S1x16.size a ≤ S641x128.size a) ∧
  (∀ a, (k0_off486 v920) a + S1x16.size a ≤ S641x128.size a) ∧
  (∀ a, (k0_off488 v920) a + S1x16.size a ≤ S641x128.size a)
theorem k0_off474_inb : ∀ (v920 : BitVec 32) (k0_hw31 : k0_chk31 v920), ∀ a, (k0_off474 v920) a + S1x16.size a ≤ S641x128.size a := fun v920 k0_hw31 => k0_hw31.1
theorem k0_off476_inb : ∀ (v920 : BitVec 32) (k0_hw31 : k0_chk31 v920), ∀ a, (k0_off476 v920) a + S1x16.size a ≤ S641x128.size a := fun v920 k0_hw31 => k0_hw31.2.1
theorem k0_off478_inb : ∀ (v920 : BitVec 32) (k0_hw31 : k0_chk31 v920), ∀ a, (k0_off478 v920) a + S1x16.size a ≤ S641x128.size a := fun v920 k0_hw31 => k0_hw31.2.2.1
theorem k0_off480_inb : ∀ (v920 : BitVec 32) (k0_hw31 : k0_chk31 v920), ∀ a, (k0_off480 v920) a + S1x16.size a ≤ S641x128.size a := fun v920 k0_hw31 => k0_hw31.2.2.2.1
theorem k0_off482_inb : ∀ (v920 : BitVec 32) (k0_hw31 : k0_chk31 v920), ∀ a, (k0_off482 v920) a + S1x16.size a ≤ S641x128.size a := fun v920 k0_hw31 => k0_hw31.2.2.2.2.1
theorem k0_off484_inb : ∀ (v920 : BitVec 32) (k0_hw31 : k0_chk31 v920), ∀ a, (k0_off484 v920) a + S1x16.size a ≤ S641x128.size a := fun v920 k0_hw31 => k0_hw31.2.2.2.2.2.1
theorem k0_off486_inb : ∀ (v920 : BitVec 32) (k0_hw31 : k0_chk31 v920), ∀ a, (k0_off486 v920) a + S1x16.size a ≤ S641x128.size a := fun v920 k0_hw31 => k0_hw31.2.2.2.2.2.2.1
theorem k0_off488_inb : ∀ (v920 : BitVec 32) (k0_hw31 : k0_chk31 v920), ∀ a, (k0_off488 v920) a + S1x16.size a ≤ S641x128.size a := fun v920 k0_hw31 => k0_hw31.2.2.2.2.2.2.2

def k0_off489 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_407 : BitVec 32 := 16#32
  let v921 : BitVec 32 := Scalar.muli arg17 c16_i32_407
  let v922 : BitVec 32 := Scalar.addi v180 v921
  let c12_i32 : BitVec 32 := 12#32
  let v923 : BitVec 32 := Scalar.addi v922 c12_i32
  let v975 : Index := Scalar.indexCast v923
  let c112_430 : Index := 112#32
  ![v975.toNat, 112]
def k0_off490 (v981 : BitVec 32) : Fin 2 → Nat :=
  let v985 : Index := Scalar.indexCast v981
  let c0_433 : Index := 0#32
  ![v985.toNat, 0]

def k0_off491 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v987 : Index := Scalar.indexCast v984
  let c0_434 : Index := 0#32
  ![v987.toNat, 0]
def k0_off492 (v981 : BitVec 32) : Fin 2 → Nat :=
  let v992 : Index := Scalar.indexCast v981
  let c16_436 : Index := 16#32
  ![v992.toNat, 16]
def k0_off493 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v994 : Index := Scalar.indexCast v984
  let c16_437 : Index := 16#32
  ![v994.toNat, 16]
def k0_off494 (v981 : BitVec 32) : Fin 2 → Nat :=
  let v999 : Index := Scalar.indexCast v981
  let c32_439 : Index := 32#32
  ![v999.toNat, 32]
def k0_off495 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1001 : Index := Scalar.indexCast v984
  let c32_440 : Index := 32#32
  ![v1001.toNat, 32]
def k0_off496 (v981 : BitVec 32) : Fin 2 → Nat :=
  let v1006 : Index := Scalar.indexCast v981
  let c48_442 : Index := 48#32
  ![v1006.toNat, 48]
def k0_off497 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1008 : Index := Scalar.indexCast v984
  let c48_443 : Index := 48#32
  ![v1008.toNat, 48]
def k0_off498 (v981 : BitVec 32) : Fin 2 → Nat :=
  let v1013 : Index := Scalar.indexCast v981
  let c64_445 : Index := 64#32
  ![v1013.toNat, 64]
def k0_off499 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1015 : Index := Scalar.indexCast v984
  let c64_446 : Index := 64#32
  ![v1015.toNat, 64]
def k0_off500 (v981 : BitVec 32) : Fin 2 → Nat :=
  let v1020 : Index := Scalar.indexCast v981
  let c80_448 : Index := 80#32
  ![v1020.toNat, 80]
def k0_off501 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1022 : Index := Scalar.indexCast v984
  let c80_449 : Index := 80#32
  ![v1022.toNat, 80]
def k0_off502 (v981 : BitVec 32) : Fin 2 → Nat :=
  let v1027 : Index := Scalar.indexCast v981
  let c96_451 : Index := 96#32
  ![v1027.toNat, 96]
def k0_off503 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1029 : Index := Scalar.indexCast v984
  let c96_452 : Index := 96#32
  ![v1029.toNat, 96]
def k0_off504 (v981 : BitVec 32) : Fin 2 → Nat :=
  let v1034 : Index := Scalar.indexCast v981
  let c112_454 : Index := 112#32
  ![v1034.toNat, 112]

def k0_chk32 (v981 : BitVec 32) : Prop :=
  (∀ a, (k0_off490 v981) a + S1x16.size a ≤ S641x128.size a) ∧
  (∀ a, (k0_off492 v981) a + S1x16.size a ≤ S641x128.size a) ∧
  (∀ a, (k0_off494 v981) a + S1x16.size a ≤ S641x128.size a) ∧
  (∀ a, (k0_off496 v981) a + S1x16.size a ≤ S641x128.size a) ∧
  (∀ a, (k0_off498 v981) a + S1x16.size a ≤ S641x128.size a) ∧
  (∀ a, (k0_off500 v981) a + S1x16.size a ≤ S641x128.size a) ∧
  (∀ a, (k0_off502 v981) a + S1x16.size a ≤ S641x128.size a) ∧
  (∀ a, (k0_off504 v981) a + S1x16.size a ≤ S641x128.size a)
theorem k0_off490_inb : ∀ (v981 : BitVec 32) (k0_hw32 : k0_chk32 v981), ∀ a, (k0_off490 v981) a + S1x16.size a ≤ S641x128.size a := fun v981 k0_hw32 => k0_hw32.1
theorem k0_off492_inb : ∀ (v981 : BitVec 32) (k0_hw32 : k0_chk32 v981), ∀ a, (k0_off492 v981) a + S1x16.size a ≤ S641x128.size a := fun v981 k0_hw32 => k0_hw32.2.1
theorem k0_off494_inb : ∀ (v981 : BitVec 32) (k0_hw32 : k0_chk32 v981), ∀ a, (k0_off494 v981) a + S1x16.size a ≤ S641x128.size a := fun v981 k0_hw32 => k0_hw32.2.2.1
theorem k0_off496_inb : ∀ (v981 : BitVec 32) (k0_hw32 : k0_chk32 v981), ∀ a, (k0_off496 v981) a + S1x16.size a ≤ S641x128.size a := fun v981 k0_hw32 => k0_hw32.2.2.2.1
theorem k0_off498_inb : ∀ (v981 : BitVec 32) (k0_hw32 : k0_chk32 v981), ∀ a, (k0_off498 v981) a + S1x16.size a ≤ S641x128.size a := fun v981 k0_hw32 => k0_hw32.2.2.2.2.1
theorem k0_off500_inb : ∀ (v981 : BitVec 32) (k0_hw32 : k0_chk32 v981), ∀ a, (k0_off500 v981) a + S1x16.size a ≤ S641x128.size a := fun v981 k0_hw32 => k0_hw32.2.2.2.2.2.1
theorem k0_off502_inb : ∀ (v981 : BitVec 32) (k0_hw32 : k0_chk32 v981), ∀ a, (k0_off502 v981) a + S1x16.size a ≤ S641x128.size a := fun v981 k0_hw32 => k0_hw32.2.2.2.2.2.2.1
theorem k0_off504_inb : ∀ (v981 : BitVec 32) (k0_hw32 : k0_chk32 v981), ∀ a, (k0_off504 v981) a + S1x16.size a ≤ S641x128.size a := fun v981 k0_hw32 => k0_hw32.2.2.2.2.2.2.2

def k0_off505 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_432 : BitVec 32 := 16#32
  let v982 : BitVec 32 := Scalar.muli arg17 c16_i32_432
  let v983 : BitVec 32 := Scalar.addi v180 v982
  let c13_i32 : BitVec 32 := 13#32
  let v984 : BitVec 32 := Scalar.addi v983 c13_i32
  let v1036 : Index := Scalar.indexCast v984
  let c112_455 : Index := 112#32
  ![v1036.toNat, 112]
def k0_off506 (v1042 : BitVec 32) : Fin 2 → Nat :=
  let v1046 : Index := Scalar.indexCast v1042
  let c0_458 : Index := 0#32
  ![v1046.toNat, 0]

def k0_off507 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1048 : Index := Scalar.indexCast v1045
  let c0_459 : Index := 0#32
  ![v1048.toNat, 0]
def k0_off508 (v1042 : BitVec 32) : Fin 2 → Nat :=
  let v1053 : Index := Scalar.indexCast v1042
  let c16_461 : Index := 16#32
  ![v1053.toNat, 16]
def k0_off509 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1055 : Index := Scalar.indexCast v1045
  let c16_462 : Index := 16#32
  ![v1055.toNat, 16]
def k0_off510 (v1042 : BitVec 32) : Fin 2 → Nat :=
  let v1060 : Index := Scalar.indexCast v1042
  let c32_464 : Index := 32#32
  ![v1060.toNat, 32]
def k0_off511 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1062 : Index := Scalar.indexCast v1045
  let c32_465 : Index := 32#32
  ![v1062.toNat, 32]
def k0_off512 (v1042 : BitVec 32) : Fin 2 → Nat :=
  let v1067 : Index := Scalar.indexCast v1042
  let c48_467 : Index := 48#32
  ![v1067.toNat, 48]
def k0_off513 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1069 : Index := Scalar.indexCast v1045
  let c48_468 : Index := 48#32
  ![v1069.toNat, 48]
def k0_off514 (v1042 : BitVec 32) : Fin 2 → Nat :=
  let v1074 : Index := Scalar.indexCast v1042
  let c64_470 : Index := 64#32
  ![v1074.toNat, 64]
def k0_off515 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1076 : Index := Scalar.indexCast v1045
  let c64_471 : Index := 64#32
  ![v1076.toNat, 64]
def k0_off516 (v1042 : BitVec 32) : Fin 2 → Nat :=
  let v1081 : Index := Scalar.indexCast v1042
  let c80_473 : Index := 80#32
  ![v1081.toNat, 80]
def k0_off517 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1083 : Index := Scalar.indexCast v1045
  let c80_474 : Index := 80#32
  ![v1083.toNat, 80]
def k0_off518 (v1042 : BitVec 32) : Fin 2 → Nat :=
  let v1088 : Index := Scalar.indexCast v1042
  let c96_476 : Index := 96#32
  ![v1088.toNat, 96]
def k0_off519 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1090 : Index := Scalar.indexCast v1045
  let c96_477 : Index := 96#32
  ![v1090.toNat, 96]
def k0_off520 (v1042 : BitVec 32) : Fin 2 → Nat :=
  let v1095 : Index := Scalar.indexCast v1042
  let c112_479 : Index := 112#32
  ![v1095.toNat, 112]

def k0_chk33 (v1042 : BitVec 32) : Prop :=
  (∀ a, (k0_off506 v1042) a + S1x16.size a ≤ S641x128.size a) ∧
  (∀ a, (k0_off508 v1042) a + S1x16.size a ≤ S641x128.size a) ∧
  (∀ a, (k0_off510 v1042) a + S1x16.size a ≤ S641x128.size a) ∧
  (∀ a, (k0_off512 v1042) a + S1x16.size a ≤ S641x128.size a) ∧
  (∀ a, (k0_off514 v1042) a + S1x16.size a ≤ S641x128.size a) ∧
  (∀ a, (k0_off516 v1042) a + S1x16.size a ≤ S641x128.size a) ∧
  (∀ a, (k0_off518 v1042) a + S1x16.size a ≤ S641x128.size a) ∧
  (∀ a, (k0_off520 v1042) a + S1x16.size a ≤ S641x128.size a)
theorem k0_off506_inb : ∀ (v1042 : BitVec 32) (k0_hw33 : k0_chk33 v1042), ∀ a, (k0_off506 v1042) a + S1x16.size a ≤ S641x128.size a := fun v1042 k0_hw33 => k0_hw33.1
theorem k0_off508_inb : ∀ (v1042 : BitVec 32) (k0_hw33 : k0_chk33 v1042), ∀ a, (k0_off508 v1042) a + S1x16.size a ≤ S641x128.size a := fun v1042 k0_hw33 => k0_hw33.2.1
theorem k0_off510_inb : ∀ (v1042 : BitVec 32) (k0_hw33 : k0_chk33 v1042), ∀ a, (k0_off510 v1042) a + S1x16.size a ≤ S641x128.size a := fun v1042 k0_hw33 => k0_hw33.2.2.1
theorem k0_off512_inb : ∀ (v1042 : BitVec 32) (k0_hw33 : k0_chk33 v1042), ∀ a, (k0_off512 v1042) a + S1x16.size a ≤ S641x128.size a := fun v1042 k0_hw33 => k0_hw33.2.2.2.1
theorem k0_off514_inb : ∀ (v1042 : BitVec 32) (k0_hw33 : k0_chk33 v1042), ∀ a, (k0_off514 v1042) a + S1x16.size a ≤ S641x128.size a := fun v1042 k0_hw33 => k0_hw33.2.2.2.2.1
theorem k0_off516_inb : ∀ (v1042 : BitVec 32) (k0_hw33 : k0_chk33 v1042), ∀ a, (k0_off516 v1042) a + S1x16.size a ≤ S641x128.size a := fun v1042 k0_hw33 => k0_hw33.2.2.2.2.2.1
theorem k0_off518_inb : ∀ (v1042 : BitVec 32) (k0_hw33 : k0_chk33 v1042), ∀ a, (k0_off518 v1042) a + S1x16.size a ≤ S641x128.size a := fun v1042 k0_hw33 => k0_hw33.2.2.2.2.2.2.1
theorem k0_off520_inb : ∀ (v1042 : BitVec 32) (k0_hw33 : k0_chk33 v1042), ∀ a, (k0_off520 v1042) a + S1x16.size a ≤ S641x128.size a := fun v1042 k0_hw33 => k0_hw33.2.2.2.2.2.2.2

def k0_off521 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_457 : BitVec 32 := 16#32
  let v1043 : BitVec 32 := Scalar.muli arg17 c16_i32_457
  let v1044 : BitVec 32 := Scalar.addi v180 v1043
  let c14_i32 : BitVec 32 := 14#32
  let v1045 : BitVec 32 := Scalar.addi v1044 c14_i32
  let v1097 : Index := Scalar.indexCast v1045
  let c112_480 : Index := 112#32
  ![v1097.toNat, 112]
def k0_off522 (v1103 : BitVec 32) : Fin 2 → Nat :=
  let v1107 : Index := Scalar.indexCast v1103
  let c0_483 : Index := 0#32
  ![v1107.toNat, 0]

def k0_off523 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1109 : Index := Scalar.indexCast v1106
  let c0_484 : Index := 0#32
  ![v1109.toNat, 0]
def k0_off524 (v1103 : BitVec 32) : Fin 2 → Nat :=
  let v1114 : Index := Scalar.indexCast v1103
  let c16_486 : Index := 16#32
  ![v1114.toNat, 16]
def k0_off525 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1116 : Index := Scalar.indexCast v1106
  let c16_487 : Index := 16#32
  ![v1116.toNat, 16]
def k0_off526 (v1103 : BitVec 32) : Fin 2 → Nat :=
  let v1121 : Index := Scalar.indexCast v1103
  let c32_489 : Index := 32#32
  ![v1121.toNat, 32]
def k0_off527 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1123 : Index := Scalar.indexCast v1106
  let c32_490 : Index := 32#32
  ![v1123.toNat, 32]
def k0_off528 (v1103 : BitVec 32) : Fin 2 → Nat :=
  let v1128 : Index := Scalar.indexCast v1103
  let c48_492 : Index := 48#32
  ![v1128.toNat, 48]
def k0_off529 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1130 : Index := Scalar.indexCast v1106
  let c48_493 : Index := 48#32
  ![v1130.toNat, 48]
def k0_off530 (v1103 : BitVec 32) : Fin 2 → Nat :=
  let v1135 : Index := Scalar.indexCast v1103
  let c64_495 : Index := 64#32
  ![v1135.toNat, 64]
def k0_off531 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1137 : Index := Scalar.indexCast v1106
  let c64_496 : Index := 64#32
  ![v1137.toNat, 64]
def k0_off532 (v1103 : BitVec 32) : Fin 2 → Nat :=
  let v1142 : Index := Scalar.indexCast v1103
  let c80_498 : Index := 80#32
  ![v1142.toNat, 80]
def k0_off533 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1144 : Index := Scalar.indexCast v1106
  let c80_499 : Index := 80#32
  ![v1144.toNat, 80]
def k0_off534 (v1103 : BitVec 32) : Fin 2 → Nat :=
  let v1149 : Index := Scalar.indexCast v1103
  let c96_501 : Index := 96#32
  ![v1149.toNat, 96]
def k0_off535 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1151 : Index := Scalar.indexCast v1106
  let c96_502 : Index := 96#32
  ![v1151.toNat, 96]
def k0_off536 (v1103 : BitVec 32) : Fin 2 → Nat :=
  let v1156 : Index := Scalar.indexCast v1103
  let c112_504 : Index := 112#32
  ![v1156.toNat, 112]

def k0_chk34 (v1103 : BitVec 32) : Prop :=
  (∀ a, (k0_off522 v1103) a + S1x16.size a ≤ S641x128.size a) ∧
  (∀ a, (k0_off524 v1103) a + S1x16.size a ≤ S641x128.size a) ∧
  (∀ a, (k0_off526 v1103) a + S1x16.size a ≤ S641x128.size a) ∧
  (∀ a, (k0_off528 v1103) a + S1x16.size a ≤ S641x128.size a) ∧
  (∀ a, (k0_off530 v1103) a + S1x16.size a ≤ S641x128.size a) ∧
  (∀ a, (k0_off532 v1103) a + S1x16.size a ≤ S641x128.size a) ∧
  (∀ a, (k0_off534 v1103) a + S1x16.size a ≤ S641x128.size a) ∧
  (∀ a, (k0_off536 v1103) a + S1x16.size a ≤ S641x128.size a)
theorem k0_off522_inb : ∀ (v1103 : BitVec 32) (k0_hw34 : k0_chk34 v1103), ∀ a, (k0_off522 v1103) a + S1x16.size a ≤ S641x128.size a := fun v1103 k0_hw34 => k0_hw34.1
theorem k0_off524_inb : ∀ (v1103 : BitVec 32) (k0_hw34 : k0_chk34 v1103), ∀ a, (k0_off524 v1103) a + S1x16.size a ≤ S641x128.size a := fun v1103 k0_hw34 => k0_hw34.2.1
theorem k0_off526_inb : ∀ (v1103 : BitVec 32) (k0_hw34 : k0_chk34 v1103), ∀ a, (k0_off526 v1103) a + S1x16.size a ≤ S641x128.size a := fun v1103 k0_hw34 => k0_hw34.2.2.1
theorem k0_off528_inb : ∀ (v1103 : BitVec 32) (k0_hw34 : k0_chk34 v1103), ∀ a, (k0_off528 v1103) a + S1x16.size a ≤ S641x128.size a := fun v1103 k0_hw34 => k0_hw34.2.2.2.1
theorem k0_off530_inb : ∀ (v1103 : BitVec 32) (k0_hw34 : k0_chk34 v1103), ∀ a, (k0_off530 v1103) a + S1x16.size a ≤ S641x128.size a := fun v1103 k0_hw34 => k0_hw34.2.2.2.2.1
theorem k0_off532_inb : ∀ (v1103 : BitVec 32) (k0_hw34 : k0_chk34 v1103), ∀ a, (k0_off532 v1103) a + S1x16.size a ≤ S641x128.size a := fun v1103 k0_hw34 => k0_hw34.2.2.2.2.2.1
theorem k0_off534_inb : ∀ (v1103 : BitVec 32) (k0_hw34 : k0_chk34 v1103), ∀ a, (k0_off534 v1103) a + S1x16.size a ≤ S641x128.size a := fun v1103 k0_hw34 => k0_hw34.2.2.2.2.2.2.1
theorem k0_off536_inb : ∀ (v1103 : BitVec 32) (k0_hw34 : k0_chk34 v1103), ∀ a, (k0_off536 v1103) a + S1x16.size a ≤ S641x128.size a := fun v1103 k0_hw34 => k0_hw34.2.2.2.2.2.2.2

def k0_off537 (v92 : BitVec 32) (k0_t6 : Fin (k0_t6_loop v92).trips) (k0_t7 : Fin k0_t7_loop.trips) : Fin 2 → Nat :=
  let c0_i32_66 : BitVec 32 := 0#32
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let v113 : BitVec 32 := Scalar.subi v109 c0_i32_66
  let c1_i32_67 : BitVec 32 := 1#32
  let v115 : BitVec 32 := Scalar.divsi v113 c1_i32_67
  let v116 : BitVec 32 := Scalar.muli v115 c1_i32_67
  let v117 : BitVec 32 := Scalar.addi c0_i32_66 v116
  let c1_i32_69 : BitVec 32 := 1#32
  let arg16 : BitVec 32 := Scf.iv v117 c1_i32_69 k0_t6
  let c2_i32_94 : BitVec 32 := 2#32
  let c0_i32_95 : BitVec 32 := 0#32
  let v170 : BitVec 1 := Scalar.cmpi .eq c2_i32_94 c0_i32_95
  let c1_i32_96 : BitVec 32 := 1#32
  let v171 : BitVec 32 := Scalar.select v170 c1_i32_96 c2_i32_94
  let v172 : BitVec 32 := Scalar.remsi arg16 v171
  let c0_i32_98 : BitVec 32 := 0#32
  let v174 : BitVec 1 := Scalar.cmpi .slt v172 c0_i32_98
  let c0_i32_99 : BitVec 32 := 0#32
  let v175 : BitVec 1 := Scalar.cmpi .slt v171 c0_i32_99
  let v176 : BitVec 1 := Scalar.xori v174 v175
  let c0_i32_97 : BitVec 32 := 0#32
  let v173 : BitVec 1 := Scalar.cmpi .ne v172 c0_i32_97
  let v177 : BitVec 1 := Scalar.andi v176 v173
  let v178 : BitVec 32 := Scalar.addi v172 v171
  let v179 : BitVec 32 := Scalar.select v177 v178 v172
  let c64_i32_100 : BitVec 32 := 64#32
  let v180 : BitVec 32 := Scalar.muli v179 c64_i32_100
  let c0_i32_102 : BitVec 32 := 0#32
  let c1_i32_103 : BitVec 32 := 1#32
  let arg17 : BitVec 32 := Scf.iv c0_i32_102 c1_i32_103 k0_t7
  let c16_i32_482 : BitVec 32 := 16#32
  let v1104 : BitVec 32 := Scalar.muli arg17 c16_i32_482
  let v1105 : BitVec 32 := Scalar.addi v180 v1104
  let c15_i32 : BitVec 32 := 15#32
  let v1106 : BitVec 32 := Scalar.addi v1105 c15_i32
  let v1158 : Index := Scalar.indexCast v1106
  let c112_505 : Index := 112#32
  ![v1158.toNat, 112]
def k0_off538 (v92 : BitVec 32) (c0_i32_71 : BitVec 32) : Fin 1 → Nat :=
  let c0_i32_57 : BitVec 32 := 0#32
  let v94 : BitVec 1 := Scalar.cmpi .sgt v92 c0_i32_57
  let v95 : BitVec 32 := Scalar.extui v94
  let c0_i32_58 : BitVec 32 := 0#32
  let v96 : BitVec 1 := Scalar.cmpi .slt v92 c0_i32_58
  let v97 : BitVec 32 := Scalar.extui v96
  let v98 : BitVec 32 := Scalar.subi v95 v97
  let c64_i32_56 : BitVec 32 := 64#32
  let c0_i32_59 : BitVec 32 := 0#32
  let v99 : BitVec 1 := Scalar.cmpi .sgt c64_i32_56 c0_i32_59
  let v100 : BitVec 32 := Scalar.extui v99
  let c0_i32_60 : BitVec 32 := 0#32
  let v101 : BitVec 1 := Scalar.cmpi .slt c64_i32_56 c0_i32_60
  let v102 : BitVec 32 := Scalar.extui v101
  let v103 : BitVec 32 := Scalar.subi v100 v102
  let v104 : BitVec 1 := Scalar.cmpi .ne v98 v103
  let v105 : BitVec 32 := Scalar.remsi v92 c64_i32_56
  let c0_i32_61 : BitVec 32 := 0#32
  let v106 : BitVec 1 := Scalar.cmpi .ne v105 c0_i32_61
  let v107 : BitVec 1 := Scalar.andi v104 v106
  let v93 : BitVec 32 := Scalar.divsi v92 c64_i32_56
  let c1_i32_62 : BitVec 32 := 1#32
  let v108 : BitVec 32 := Scalar.subi v93 c1_i32_62
  let v109 : BitVec 32 := Scalar.select v107 v108 v93
  let c64_i32_70 : BitVec 32 := 64#32
  let v118 : BitVec 32 := Scalar.muli v109 c64_i32_70
  let v119 : BitVec 32 := Scalar.addi v118 c0_i32_71
  let v120 : Index := Scalar.indexCast v119
  ![v120.toNat]

def k0_chk2_0 (v92 : BitVec 32) : Prop :=
  ((k0_t4_loop v92).OK) ∧
  (∀ k0_t4 : Fin (k0_t4_loop v92).trips, ∀ (k0_h5 : k0_cond5 v92 k0_t4 = 1#1), ∀ (k0_h6 : k0_cond6 v92 k0_t4 = 1#1), ∀ a, (k0_off16 v92 k0_t4) a + S64.size a ≤ S3272.size a) ∧
  (∀ k0_t4 : Fin (k0_t4_loop v92).trips, ∀ (k0_h5 : k0_cond5 v92 k0_t4 = 1#1), ∀ (k0_h6 : ¬(k0_cond6 v92 k0_t4 = 1#1)), ∀ a, (k0_off17 v92 k0_t4) a + S64.size a ≤ S3272.size a) ∧
  (∀ k0_t4 : Fin (k0_t4_loop v92).trips, ∀ (k0_h7 : k0_cond7 v92 k0_t4 = 1#1), ∀ a, (k0_off18 v92 k0_t4) a + S64.size a ≤ S3272.size a) ∧
  (∀ k0_t4 : Fin (k0_t4_loop v92).trips, ∀ (k0_h7 : ¬(k0_cond7 v92 k0_t4 = 1#1)), ∀ a, (k0_off19 v92 k0_t4) a + S64.size a ≤ S3272.size a) ∧
  (∀ (k0_t4 : Fin (k0_t4_loop v92).trips) (k0_t5 : Fin k0_t5_loop.trips), ∀ a, (k0_off20 v92 k0_t4 k0_t5) a + S16.size a ≤ S3272.size a) ∧
  (∀ (k0_t4 : Fin (k0_t4_loop v92).trips) (k0_t5 : Fin k0_t5_loop.trips), ∀ a, (k0_off22 v92 k0_t4 k0_t5) a + S1x16.size a ≤ S128x128.size a) ∧
  (∀ (k0_t4 : Fin (k0_t4_loop v92).trips) (k0_t5 : Fin k0_t5_loop.trips), ∀ a, (k0_off24 v92 k0_t4 k0_t5) a + S1x16.size a ≤ S128x128.size a) ∧
  (∀ (k0_t4 : Fin (k0_t4_loop v92).trips) (k0_t5 : Fin k0_t5_loop.trips), ∀ a, (k0_off26 v92 k0_t4 k0_t5) a + S1x16.size a ≤ S128x128.size a) ∧
  (∀ (k0_t4 : Fin (k0_t4_loop v92).trips) (k0_t5 : Fin k0_t5_loop.trips), ∀ a, (k0_off28 v92 k0_t4 k0_t5) a + S1x16.size a ≤ S128x128.size a) ∧
  (∀ (k0_t4 : Fin (k0_t4_loop v92).trips) (k0_t5 : Fin k0_t5_loop.trips), ∀ a, (k0_off30 v92 k0_t4 k0_t5) a + S1x16.size a ≤ S128x128.size a) ∧
  (∀ (k0_t4 : Fin (k0_t4_loop v92).trips) (k0_t5 : Fin k0_t5_loop.trips), ∀ a, (k0_off32 v92 k0_t4 k0_t5) a + S1x16.size a ≤ S128x128.size a) ∧
  (∀ (k0_t4 : Fin (k0_t4_loop v92).trips) (k0_t5 : Fin k0_t5_loop.trips), ∀ a, (k0_off34 v92 k0_t4 k0_t5) a + S1x16.size a ≤ S128x128.size a) ∧
  (∀ (k0_t4 : Fin (k0_t4_loop v92).trips) (k0_t5 : Fin k0_t5_loop.trips), ∀ a, (k0_off36 v92 k0_t4 k0_t5) a + S1x16.size a ≤ S128x128.size a) ∧
  (∀ (k0_t4 : Fin (k0_t4_loop v92).trips) (k0_t5 : Fin k0_t5_loop.trips), ∀ a, (k0_off38 v92 k0_t4 k0_t5) a + S1x16.size a ≤ S128x128.size a) ∧
  (∀ (k0_t4 : Fin (k0_t4_loop v92).trips) (k0_t5 : Fin k0_t5_loop.trips), ∀ a, (k0_off40 v92 k0_t4 k0_t5) a + S1x16.size a ≤ S128x128.size a) ∧
  (∀ (k0_t4 : Fin (k0_t4_loop v92).trips) (k0_t5 : Fin k0_t5_loop.trips), ∀ a, (k0_off42 v92 k0_t4 k0_t5) a + S1x16.size a ≤ S128x128.size a) ∧
  (∀ (k0_t4 : Fin (k0_t4_loop v92).trips) (k0_t5 : Fin k0_t5_loop.trips), ∀ a, (k0_off44 v92 k0_t4 k0_t5) a + S1x16.size a ≤ S128x128.size a) ∧
  (∀ (k0_t4 : Fin (k0_t4_loop v92).trips) (k0_t5 : Fin k0_t5_loop.trips), ∀ a, (k0_off46 v92 k0_t4 k0_t5) a + S1x16.size a ≤ S128x128.size a) ∧
  (∀ (k0_t4 : Fin (k0_t4_loop v92).trips) (k0_t5 : Fin k0_t5_loop.trips), ∀ a, (k0_off48 v92 k0_t4 k0_t5) a + S1x16.size a ≤ S128x128.size a) ∧
  (∀ (k0_t4 : Fin (k0_t4_loop v92).trips) (k0_t5 : Fin k0_t5_loop.trips), ∀ a, (k0_off50 v92 k0_t4 k0_t5) a + S1x16.size a ≤ S128x128.size a) ∧
  (∀ (k0_t4 : Fin (k0_t4_loop v92).trips) (k0_t5 : Fin k0_t5_loop.trips), ∀ a, (k0_off52 v92 k0_t4 k0_t5) a + S1x16.size a ≤ S128x128.size a) ∧
  (∀ (k0_t4 : Fin (k0_t4_loop v92).trips) (k0_t5 : Fin k0_t5_loop.trips), ∀ a, (k0_off54 v92 k0_t4 k0_t5) a + S1x16.size a ≤ S128x128.size a) ∧
  (∀ (k0_t4 : Fin (k0_t4_loop v92).trips) (k0_t5 : Fin k0_t5_loop.trips), ∀ a, (k0_off56 v92 k0_t4 k0_t5) a + S1x16.size a ≤ S128x128.size a) ∧
  (∀ (k0_t4 : Fin (k0_t4_loop v92).trips) (k0_t5 : Fin k0_t5_loop.trips), ∀ a, (k0_off58 v92 k0_t4 k0_t5) a + S1x16.size a ≤ S128x128.size a) ∧
  (∀ (k0_t4 : Fin (k0_t4_loop v92).trips) (k0_t5 : Fin k0_t5_loop.trips), ∀ a, (k0_off60 v92 k0_t4 k0_t5) a + S1x16.size a ≤ S128x128.size a) ∧
  (∀ (k0_t4 : Fin (k0_t4_loop v92).trips) (k0_t5 : Fin k0_t5_loop.trips), ∀ a, (k0_off62 v92 k0_t4 k0_t5) a + S1x16.size a ≤ S128x128.size a) ∧
  (∀ (k0_t4 : Fin (k0_t4_loop v92).trips) (k0_t5 : Fin k0_t5_loop.trips), ∀ a, (k0_off64 v92 k0_t4 k0_t5) a + S1x16.size a ≤ S128x128.size a) ∧
  (∀ (k0_t4 : Fin (k0_t4_loop v92).trips) (k0_t5 : Fin k0_t5_loop.trips), ∀ a, (k0_off66 v92 k0_t4 k0_t5) a + S1x16.size a ≤ S128x128.size a) ∧
  (∀ (k0_t4 : Fin (k0_t4_loop v92).trips) (k0_t5 : Fin k0_t5_loop.trips), ∀ a, (k0_off68 v92 k0_t4 k0_t5) a + S1x16.size a ≤ S128x128.size a) ∧
  (∀ (k0_t4 : Fin (k0_t4_loop v92).trips) (k0_t5 : Fin k0_t5_loop.trips), ∀ a, (k0_off70 v92 k0_t4 k0_t5) a + S1x16.size a ≤ S128x128.size a) ∧
  (∀ (k0_t4 : Fin (k0_t4_loop v92).trips) (k0_t5 : Fin k0_t5_loop.trips), ∀ a, (k0_off72 v92 k0_t4 k0_t5) a + S1x16.size a ≤ S128x128.size a)
def k0_chk2_1 (v92 : BitVec 32) : Prop :=
  (∀ (k0_t4 : Fin (k0_t4_loop v92).trips) (k0_t5 : Fin k0_t5_loop.trips), ∀ a, (k0_off74 v92 k0_t4 k0_t5) a + S1x16.size a ≤ S128x128.size a) ∧
  (∀ (k0_t4 : Fin (k0_t4_loop v92).trips) (k0_t5 : Fin k0_t5_loop.trips), ∀ a, (k0_off76 v92 k0_t4 k0_t5) a + S1x16.size a ≤ S128x128.size a) ∧
  (∀ (k0_t4 : Fin (k0_t4_loop v92).trips) (k0_t5 : Fin k0_t5_loop.trips), ∀ a, (k0_off78 v92 k0_t4 k0_t5) a + S1x16.size a ≤ S128x128.size a) ∧
  (∀ (k0_t4 : Fin (k0_t4_loop v92).trips) (k0_t5 : Fin k0_t5_loop.trips), ∀ a, (k0_off80 v92 k0_t4 k0_t5) a + S1x16.size a ≤ S128x128.size a) ∧
  (∀ (k0_t4 : Fin (k0_t4_loop v92).trips) (k0_t5 : Fin k0_t5_loop.trips), ∀ a, (k0_off82 v92 k0_t4 k0_t5) a + S1x16.size a ≤ S128x128.size a) ∧
  (∀ (k0_t4 : Fin (k0_t4_loop v92).trips) (k0_t5 : Fin k0_t5_loop.trips), ∀ a, (k0_off84 v92 k0_t4 k0_t5) a + S1x16.size a ≤ S128x128.size a) ∧
  (∀ (k0_t4 : Fin (k0_t4_loop v92).trips) (k0_t5 : Fin k0_t5_loop.trips), ∀ a, (k0_off86 v92 k0_t4 k0_t5) a + S1x16.size a ≤ S128x128.size a) ∧
  (∀ (k0_t4 : Fin (k0_t4_loop v92).trips) (k0_t5 : Fin k0_t5_loop.trips), ∀ a, (k0_off88 v92 k0_t4 k0_t5) a + S1x16.size a ≤ S128x128.size a) ∧
  (∀ (k0_t4 : Fin (k0_t4_loop v92).trips) (k0_t5 : Fin k0_t5_loop.trips), ∀ a, (k0_off90 v92 k0_t4 k0_t5) a + S1x16.size a ≤ S128x128.size a) ∧
  (∀ (k0_t4 : Fin (k0_t4_loop v92).trips) (k0_t5 : Fin k0_t5_loop.trips), ∀ a, (k0_off92 v92 k0_t4 k0_t5) a + S1x16.size a ≤ S128x128.size a) ∧
  (∀ (k0_t4 : Fin (k0_t4_loop v92).trips) (k0_t5 : Fin k0_t5_loop.trips), ∀ a, (k0_off94 v92 k0_t4 k0_t5) a + S1x16.size a ≤ S128x128.size a) ∧
  (∀ (k0_t4 : Fin (k0_t4_loop v92).trips) (k0_t5 : Fin k0_t5_loop.trips), ∀ a, (k0_off96 v92 k0_t4 k0_t5) a + S1x16.size a ≤ S128x128.size a) ∧
  (∀ (k0_t4 : Fin (k0_t4_loop v92).trips) (k0_t5 : Fin k0_t5_loop.trips), ∀ a, (k0_off98 v92 k0_t4 k0_t5) a + S1x16.size a ≤ S128x128.size a) ∧
  (∀ (k0_t4 : Fin (k0_t4_loop v92).trips) (k0_t5 : Fin k0_t5_loop.trips), ∀ a, (k0_off100 v92 k0_t4 k0_t5) a + S1x16.size a ≤ S128x128.size a) ∧
  (∀ (k0_t4 : Fin (k0_t4_loop v92).trips) (k0_t5 : Fin k0_t5_loop.trips), ∀ a, (k0_off102 v92 k0_t4 k0_t5) a + S1x16.size a ≤ S128x128.size a) ∧
  (∀ (k0_t4 : Fin (k0_t4_loop v92).trips) (k0_t5 : Fin k0_t5_loop.trips), ∀ a, (k0_off104 v92 k0_t4 k0_t5) a + S1x16.size a ≤ S128x128.size a) ∧
  (∀ (k0_t4 : Fin (k0_t4_loop v92).trips) (k0_t5 : Fin k0_t5_loop.trips), ∀ a, (k0_off106 v92 k0_t4 k0_t5) a + S1x16.size a ≤ S128x128.size a) ∧
  (∀ (k0_t4 : Fin (k0_t4_loop v92).trips) (k0_t5 : Fin k0_t5_loop.trips), ∀ a, (k0_off108 v92 k0_t4 k0_t5) a + S1x16.size a ≤ S128x128.size a) ∧
  (∀ (k0_t4 : Fin (k0_t4_loop v92).trips) (k0_t5 : Fin k0_t5_loop.trips), ∀ a, (k0_off110 v92 k0_t4 k0_t5) a + S1x16.size a ≤ S128x128.size a) ∧
  (∀ (k0_t4 : Fin (k0_t4_loop v92).trips) (k0_t5 : Fin k0_t5_loop.trips), ∀ a, (k0_off112 v92 k0_t4 k0_t5) a + S1x16.size a ≤ S128x128.size a) ∧
  (∀ (k0_t4 : Fin (k0_t4_loop v92).trips) (k0_t5 : Fin k0_t5_loop.trips), ∀ a, (k0_off114 v92 k0_t4 k0_t5) a + S1x16.size a ≤ S128x128.size a) ∧
  (∀ (k0_t4 : Fin (k0_t4_loop v92).trips) (k0_t5 : Fin k0_t5_loop.trips), ∀ a, (k0_off116 v92 k0_t4 k0_t5) a + S1x16.size a ≤ S128x128.size a) ∧
  (∀ (k0_t4 : Fin (k0_t4_loop v92).trips) (k0_t5 : Fin k0_t5_loop.trips), ∀ a, (k0_off118 v92 k0_t4 k0_t5) a + S1x16.size a ≤ S128x128.size a) ∧
  (∀ (k0_t4 : Fin (k0_t4_loop v92).trips) (k0_t5 : Fin k0_t5_loop.trips), ∀ a, (k0_off120 v92 k0_t4 k0_t5) a + S1x16.size a ≤ S128x128.size a) ∧
  (∀ (k0_t4 : Fin (k0_t4_loop v92).trips) (k0_t5 : Fin k0_t5_loop.trips), ∀ a, (k0_off122 v92 k0_t4 k0_t5) a + S1x16.size a ≤ S128x128.size a) ∧
  (∀ (k0_t4 : Fin (k0_t4_loop v92).trips) (k0_t5 : Fin k0_t5_loop.trips), ∀ a, (k0_off124 v92 k0_t4 k0_t5) a + S1x16.size a ≤ S128x128.size a) ∧
  (∀ (k0_t4 : Fin (k0_t4_loop v92).trips) (k0_t5 : Fin k0_t5_loop.trips), ∀ a, (k0_off126 v92 k0_t4 k0_t5) a + S1x16.size a ≤ S128x128.size a) ∧
  (∀ (k0_t4 : Fin (k0_t4_loop v92).trips) (k0_t5 : Fin k0_t5_loop.trips), ∀ a, (k0_off128 v92 k0_t4 k0_t5) a + S1x16.size a ≤ S128x128.size a) ∧
  (∀ (k0_t4 : Fin (k0_t4_loop v92).trips) (k0_t5 : Fin k0_t5_loop.trips), ∀ a, (k0_off130 v92 k0_t4 k0_t5) a + S1x16.size a ≤ S128x128.size a) ∧
  (∀ (k0_t4 : Fin (k0_t4_loop v92).trips) (k0_t5 : Fin k0_t5_loop.trips), ∀ a, (k0_off132 v92 k0_t4 k0_t5) a + S1x16.size a ≤ S128x128.size a) ∧
  (∀ (k0_t4 : Fin (k0_t4_loop v92).trips) (k0_t5 : Fin k0_t5_loop.trips), ∀ a, (k0_off134 v92 k0_t4 k0_t5) a + S1x16.size a ≤ S128x128.size a) ∧
  (∀ (k0_t4 : Fin (k0_t4_loop v92).trips) (k0_t5 : Fin k0_t5_loop.trips), ∀ a, (k0_off136 v92 k0_t4 k0_t5) a + S1x16.size a ≤ S128x128.size a)
def k0_chk2_2 (v92 : BitVec 32) : Prop :=
  (∀ (k0_t4 : Fin (k0_t4_loop v92).trips) (k0_t5 : Fin k0_t5_loop.trips), ∀ a, (k0_off138 v92 k0_t4 k0_t5) a + S1x16.size a ≤ S128x128.size a) ∧
  (∀ (k0_t4 : Fin (k0_t4_loop v92).trips) (k0_t5 : Fin k0_t5_loop.trips), ∀ a, (k0_off140 v92 k0_t4 k0_t5) a + S1x16.size a ≤ S128x128.size a) ∧
  (∀ (k0_t4 : Fin (k0_t4_loop v92).trips) (k0_t5 : Fin k0_t5_loop.trips), ∀ a, (k0_off142 v92 k0_t4 k0_t5) a + S1x16.size a ≤ S128x128.size a) ∧
  (∀ (k0_t4 : Fin (k0_t4_loop v92).trips) (k0_t5 : Fin k0_t5_loop.trips), ∀ a, (k0_off144 v92 k0_t4 k0_t5) a + S1x16.size a ≤ S128x128.size a) ∧
  (∀ (k0_t4 : Fin (k0_t4_loop v92).trips) (k0_t5 : Fin k0_t5_loop.trips), ∀ a, (k0_off146 v92 k0_t4 k0_t5) a + S1x16.size a ≤ S128x128.size a) ∧
  (∀ (k0_t4 : Fin (k0_t4_loop v92).trips) (k0_t5 : Fin k0_t5_loop.trips), ∀ a, (k0_off148 v92 k0_t4 k0_t5) a + S1x16.size a ≤ S128x128.size a) ∧
  (∀ (k0_t4 : Fin (k0_t4_loop v92).trips) (k0_t5 : Fin k0_t5_loop.trips), ∀ a, (k0_off150 v92 k0_t4 k0_t5) a + S1x16.size a ≤ S128x128.size a) ∧
  (∀ (k0_t4 : Fin (k0_t4_loop v92).trips) (k0_t5 : Fin k0_t5_loop.trips), ∀ a, (k0_off152 v92 k0_t4 k0_t5) a + S1x16.size a ≤ S128x128.size a) ∧
  (∀ (k0_t4 : Fin (k0_t4_loop v92).trips) (k0_t5 : Fin k0_t5_loop.trips), ∀ a, (k0_off154 v92 k0_t4 k0_t5) a + S1x16.size a ≤ S128x128.size a) ∧
  (∀ (k0_t4 : Fin (k0_t4_loop v92).trips) (k0_t5 : Fin k0_t5_loop.trips), ∀ a, (k0_off156 v92 k0_t4 k0_t5) a + S1x16.size a ≤ S128x128.size a) ∧
  (∀ (k0_t4 : Fin (k0_t4_loop v92).trips) (k0_t5 : Fin k0_t5_loop.trips), ∀ a, (k0_off158 v92 k0_t4 k0_t5) a + S1x16.size a ≤ S128x128.size a) ∧
  (∀ (k0_t4 : Fin (k0_t4_loop v92).trips) (k0_t5 : Fin k0_t5_loop.trips), ∀ a, (k0_off160 v92 k0_t4 k0_t5) a + S1x16.size a ≤ S128x128.size a) ∧
  (∀ (k0_t4 : Fin (k0_t4_loop v92).trips) (k0_t5 : Fin k0_t5_loop.trips), ∀ a, (k0_off162 v92 k0_t4 k0_t5) a + S1x16.size a ≤ S128x128.size a) ∧
  (∀ (k0_t4 : Fin (k0_t4_loop v92).trips) (k0_t5 : Fin k0_t5_loop.trips), ∀ a, (k0_off164 v92 k0_t4 k0_t5) a + S1x16.size a ≤ S128x128.size a) ∧
  (∀ (k0_t4 : Fin (k0_t4_loop v92).trips) (k0_t5 : Fin k0_t5_loop.trips), ∀ a, (k0_off166 v92 k0_t4 k0_t5) a + S1x16.size a ≤ S128x128.size a) ∧
  (∀ (k0_t4 : Fin (k0_t4_loop v92).trips) (k0_t5 : Fin k0_t5_loop.trips), ∀ a, (k0_off168 v92 k0_t4 k0_t5) a + S1x16.size a ≤ S128x128.size a) ∧
  (∀ (k0_t4 : Fin (k0_t4_loop v92).trips) (k0_t5 : Fin k0_t5_loop.trips), ∀ a, (k0_off170 v92 k0_t4 k0_t5) a + S1x16.size a ≤ S128x128.size a) ∧
  (∀ (k0_t4 : Fin (k0_t4_loop v92).trips) (k0_t5 : Fin k0_t5_loop.trips), ∀ a, (k0_off172 v92 k0_t4 k0_t5) a + S1x16.size a ≤ S128x128.size a) ∧
  (∀ (k0_t4 : Fin (k0_t4_loop v92).trips) (k0_t5 : Fin k0_t5_loop.trips), ∀ a, (k0_off174 v92 k0_t4 k0_t5) a + S1x16.size a ≤ S128x128.size a) ∧
  (∀ (k0_t4 : Fin (k0_t4_loop v92).trips) (k0_t5 : Fin k0_t5_loop.trips), ∀ a, (k0_off176 v92 k0_t4 k0_t5) a + S1x16.size a ≤ S128x128.size a) ∧
  (∀ (k0_t4 : Fin (k0_t4_loop v92).trips) (k0_t5 : Fin k0_t5_loop.trips), ∀ a, (k0_off178 v92 k0_t4 k0_t5) a + S1x16.size a ≤ S128x128.size a) ∧
  (∀ (k0_t4 : Fin (k0_t4_loop v92).trips) (k0_t5 : Fin k0_t5_loop.trips), ∀ a, (k0_off180 v92 k0_t4 k0_t5) a + S1x16.size a ≤ S128x128.size a) ∧
  (∀ (k0_t4 : Fin (k0_t4_loop v92).trips) (k0_t5 : Fin k0_t5_loop.trips), ∀ a, (k0_off182 v92 k0_t4 k0_t5) a + S1x16.size a ≤ S128x128.size a) ∧
  (∀ (k0_t4 : Fin (k0_t4_loop v92).trips) (k0_t5 : Fin k0_t5_loop.trips), ∀ a, (k0_off184 v92 k0_t4 k0_t5) a + S1x16.size a ≤ S128x128.size a) ∧
  (∀ (k0_t4 : Fin (k0_t4_loop v92).trips) (k0_t5 : Fin k0_t5_loop.trips), ∀ a, (k0_off186 v92 k0_t4 k0_t5) a + S1x16.size a ≤ S128x128.size a) ∧
  (∀ (k0_t4 : Fin (k0_t4_loop v92).trips) (k0_t5 : Fin k0_t5_loop.trips), ∀ a, (k0_off188 v92 k0_t4 k0_t5) a + S1x16.size a ≤ S128x128.size a) ∧
  (∀ (k0_t4 : Fin (k0_t4_loop v92).trips) (k0_t5 : Fin k0_t5_loop.trips), ∀ a, (k0_off190 v92 k0_t4 k0_t5) a + S1x16.size a ≤ S128x128.size a) ∧
  (∀ (k0_t4 : Fin (k0_t4_loop v92).trips) (k0_t5 : Fin k0_t5_loop.trips), ∀ a, (k0_off192 v92 k0_t4 k0_t5) a + S1x16.size a ≤ S128x128.size a) ∧
  (∀ (k0_t4 : Fin (k0_t4_loop v92).trips) (k0_t5 : Fin k0_t5_loop.trips), ∀ a, (k0_off194 v92 k0_t4 k0_t5) a + S1x16.size a ≤ S128x128.size a) ∧
  (∀ (k0_t4 : Fin (k0_t4_loop v92).trips) (k0_t5 : Fin k0_t5_loop.trips), ∀ a, (k0_off196 v92 k0_t4 k0_t5) a + S1x16.size a ≤ S128x128.size a) ∧
  (∀ (k0_t4 : Fin (k0_t4_loop v92).trips) (k0_t5 : Fin k0_t5_loop.trips), ∀ a, (k0_off198 v92 k0_t4 k0_t5) a + S1x16.size a ≤ S128x128.size a) ∧
  (∀ (k0_t4 : Fin (k0_t4_loop v92).trips) (k0_t5 : Fin k0_t5_loop.trips), ∀ a, (k0_off200 v92 k0_t4 k0_t5) a + S1x16.size a ≤ S128x128.size a)
def k0_chk2_3 (v92 : BitVec 32) : Prop :=
  (∀ (k0_t4 : Fin (k0_t4_loop v92).trips) (k0_t5 : Fin k0_t5_loop.trips), ∀ a, (k0_off202 v92 k0_t4 k0_t5) a + S1x16.size a ≤ S128x128.size a) ∧
  (∀ (k0_t4 : Fin (k0_t4_loop v92).trips) (k0_t5 : Fin k0_t5_loop.trips), ∀ a, (k0_off204 v92 k0_t4 k0_t5) a + S1x16.size a ≤ S128x128.size a) ∧
  (∀ (k0_t4 : Fin (k0_t4_loop v92).trips) (k0_t5 : Fin k0_t5_loop.trips), ∀ a, (k0_off206 v92 k0_t4 k0_t5) a + S1x16.size a ≤ S128x128.size a) ∧
  (∀ (k0_t4 : Fin (k0_t4_loop v92).trips) (k0_t5 : Fin k0_t5_loop.trips), ∀ a, (k0_off208 v92 k0_t4 k0_t5) a + S1x16.size a ≤ S128x128.size a) ∧
  (∀ (k0_t4 : Fin (k0_t4_loop v92).trips) (k0_t5 : Fin k0_t5_loop.trips), ∀ a, (k0_off210 v92 k0_t4 k0_t5) a + S1x16.size a ≤ S128x128.size a) ∧
  (∀ (k0_t4 : Fin (k0_t4_loop v92).trips) (k0_t5 : Fin k0_t5_loop.trips), ∀ a, (k0_off212 v92 k0_t4 k0_t5) a + S1x16.size a ≤ S128x128.size a) ∧
  (∀ (k0_t4 : Fin (k0_t4_loop v92).trips) (k0_t5 : Fin k0_t5_loop.trips), ∀ a, (k0_off214 v92 k0_t4 k0_t5) a + S1x16.size a ≤ S128x128.size a) ∧
  (∀ (k0_t4 : Fin (k0_t4_loop v92).trips) (k0_t5 : Fin k0_t5_loop.trips), ∀ a, (k0_off216 v92 k0_t4 k0_t5) a + S1x16.size a ≤ S128x128.size a) ∧
  (∀ (k0_t4 : Fin (k0_t4_loop v92).trips) (k0_t5 : Fin k0_t5_loop.trips), ∀ a, (k0_off218 v92 k0_t4 k0_t5) a + S1x16.size a ≤ S128x128.size a) ∧
  (∀ (k0_t4 : Fin (k0_t4_loop v92).trips) (k0_t5 : Fin k0_t5_loop.trips), ∀ a, (k0_off220 v92 k0_t4 k0_t5) a + S1x16.size a ≤ S128x128.size a) ∧
  (∀ (k0_t4 : Fin (k0_t4_loop v92).trips) (k0_t5 : Fin k0_t5_loop.trips), ∀ a, (k0_off222 v92 k0_t4 k0_t5) a + S1x16.size a ≤ S128x128.size a) ∧
  (∀ (k0_t4 : Fin (k0_t4_loop v92).trips) (k0_t5 : Fin k0_t5_loop.trips), ∀ a, (k0_off224 v92 k0_t4 k0_t5) a + S1x16.size a ≤ S128x128.size a) ∧
  (∀ (k0_t4 : Fin (k0_t4_loop v92).trips) (k0_t5 : Fin k0_t5_loop.trips), ∀ a, (k0_off226 v92 k0_t4 k0_t5) a + S1x16.size a ≤ S128x128.size a) ∧
  (∀ (k0_t4 : Fin (k0_t4_loop v92).trips) (k0_t5 : Fin k0_t5_loop.trips), ∀ a, (k0_off228 v92 k0_t4 k0_t5) a + S1x16.size a ≤ S128x128.size a) ∧
  (∀ (k0_t4 : Fin (k0_t4_loop v92).trips) (k0_t5 : Fin k0_t5_loop.trips), ∀ a, (k0_off230 v92 k0_t4 k0_t5) a + S1x16.size a ≤ S128x128.size a) ∧
  (∀ (k0_t4 : Fin (k0_t4_loop v92).trips) (k0_t5 : Fin k0_t5_loop.trips), ∀ a, (k0_off232 v92 k0_t4 k0_t5) a + S1x16.size a ≤ S128x128.size a) ∧
  (∀ (k0_t4 : Fin (k0_t4_loop v92).trips) (k0_t5 : Fin k0_t5_loop.trips), ∀ a, (k0_off234 v92 k0_t4 k0_t5) a + S1x16.size a ≤ S128x128.size a) ∧
  (∀ (k0_t4 : Fin (k0_t4_loop v92).trips) (k0_t5 : Fin k0_t5_loop.trips), ∀ a, (k0_off236 v92 k0_t4 k0_t5) a + S1x16.size a ≤ S128x128.size a) ∧
  (∀ (k0_t4 : Fin (k0_t4_loop v92).trips) (k0_t5 : Fin k0_t5_loop.trips), ∀ a, (k0_off238 v92 k0_t4 k0_t5) a + S1x16.size a ≤ S128x128.size a) ∧
  (∀ (k0_t4 : Fin (k0_t4_loop v92).trips) (k0_t5 : Fin k0_t5_loop.trips), ∀ a, (k0_off240 v92 k0_t4 k0_t5) a + S1x16.size a ≤ S128x128.size a) ∧
  (∀ (k0_t4 : Fin (k0_t4_loop v92).trips) (k0_t5 : Fin k0_t5_loop.trips), ∀ a, (k0_off242 v92 k0_t4 k0_t5) a + S1x16.size a ≤ S128x128.size a) ∧
  (∀ (k0_t4 : Fin (k0_t4_loop v92).trips) (k0_t5 : Fin k0_t5_loop.trips), ∀ a, (k0_off244 v92 k0_t4 k0_t5) a + S1x16.size a ≤ S128x128.size a) ∧
  (∀ (k0_t4 : Fin (k0_t4_loop v92).trips) (k0_t5 : Fin k0_t5_loop.trips), ∀ a, (k0_off246 v92 k0_t4 k0_t5) a + S1x16.size a ≤ S128x128.size a) ∧
  (∀ (k0_t4 : Fin (k0_t4_loop v92).trips) (k0_t5 : Fin k0_t5_loop.trips), ∀ a, (k0_off248 v92 k0_t4 k0_t5) a + S1x16.size a ≤ S128x128.size a) ∧
  (∀ (k0_t4 : Fin (k0_t4_loop v92).trips) (k0_t5 : Fin k0_t5_loop.trips), ∀ a, (k0_off250 v92 k0_t4 k0_t5) a + S1x16.size a ≤ S128x128.size a) ∧
  (∀ (k0_t4 : Fin (k0_t4_loop v92).trips) (k0_t5 : Fin k0_t5_loop.trips), ∀ a, (k0_off252 v92 k0_t4 k0_t5) a + S1x16.size a ≤ S128x128.size a) ∧
  (∀ (k0_t4 : Fin (k0_t4_loop v92).trips) (k0_t5 : Fin k0_t5_loop.trips), ∀ a, (k0_off254 v92 k0_t4 k0_t5) a + S1x16.size a ≤ S128x128.size a) ∧
  (∀ (k0_t4 : Fin (k0_t4_loop v92).trips) (k0_t5 : Fin k0_t5_loop.trips), ∀ a, (k0_off256 v92 k0_t4 k0_t5) a + S1x16.size a ≤ S128x128.size a) ∧
  (∀ (k0_t4 : Fin (k0_t4_loop v92).trips) (k0_t5 : Fin k0_t5_loop.trips), ∀ a, (k0_off258 v92 k0_t4 k0_t5) a + S1x16.size a ≤ S128x128.size a) ∧
  (∀ (k0_t4 : Fin (k0_t4_loop v92).trips) (k0_t5 : Fin k0_t5_loop.trips), ∀ a, (k0_off260 v92 k0_t4 k0_t5) a + S1x16.size a ≤ S128x128.size a) ∧
  (∀ (k0_t4 : Fin (k0_t4_loop v92).trips) (k0_t5 : Fin k0_t5_loop.trips), ∀ a, (k0_off262 v92 k0_t4 k0_t5) a + S1x16.size a ≤ S128x128.size a) ∧
  (∀ (k0_t4 : Fin (k0_t4_loop v92).trips) (k0_t5 : Fin k0_t5_loop.trips), ∀ a, (k0_off264 v92 k0_t4 k0_t5) a + S1x16.size a ≤ S128x128.size a)
def k0_chk2_4 (v92 : BitVec 32) : Prop :=
  (∀ (k0_t4 : Fin (k0_t4_loop v92).trips) (k0_t5 : Fin k0_t5_loop.trips), ∀ a, (k0_off266 v92 k0_t4 k0_t5) a + S1x16.size a ≤ S128x128.size a) ∧
  (∀ (k0_t4 : Fin (k0_t4_loop v92).trips) (k0_t5 : Fin k0_t5_loop.trips), ∀ a, (k0_off268 v92 k0_t4 k0_t5) a + S1x16.size a ≤ S128x128.size a) ∧
  (∀ (k0_t4 : Fin (k0_t4_loop v92).trips) (k0_t5 : Fin k0_t5_loop.trips), ∀ a, (k0_off270 v92 k0_t4 k0_t5) a + S1x16.size a ≤ S128x128.size a) ∧
  (∀ (k0_t4 : Fin (k0_t4_loop v92).trips) (k0_t5 : Fin k0_t5_loop.trips), ∀ a, (k0_off272 v92 k0_t4 k0_t5) a + S1x16.size a ≤ S128x128.size a) ∧
  (∀ (k0_t4 : Fin (k0_t4_loop v92).trips) (k0_t5 : Fin k0_t5_loop.trips), ∀ a, (k0_off274 v92 k0_t4 k0_t5) a + S1x16.size a ≤ S128x128.size a) ∧
  (∀ (k0_t4 : Fin (k0_t4_loop v92).trips) (k0_t5 : Fin k0_t5_loop.trips), ∀ a, (k0_off276 v92 k0_t4 k0_t5) a + S1x16.size a ≤ S128x128.size a) ∧
  ((k0_t6_loop v92).OK) ∧
  (∀ k0_t6 : Fin (k0_t6_loop v92).trips, ∀ (k0_h8 : k0_cond8 v92 k0_t6 = 1#1), ∀ (k0_h9 : k0_cond9 v92 k0_t6 = 1#1), ∀ a, (k0_off277 v92 k0_t6) a + S64.size a ≤ S3272.size a) ∧
  (∀ k0_t6 : Fin (k0_t6_loop v92).trips, ∀ (k0_h8 : k0_cond8 v92 k0_t6 = 1#1), ∀ (k0_h9 : ¬(k0_cond9 v92 k0_t6 = 1#1)), ∀ a, (k0_off278 v92 k0_t6) a + S64.size a ≤ S3272.size a) ∧
  (∀ k0_t6 : Fin (k0_t6_loop v92).trips, ∀ (k0_h10 : k0_cond10 v92 k0_t6 = 1#1), ∀ a, (k0_off279 v92 k0_t6) a + S64.size a ≤ S3272.size a) ∧
  (∀ k0_t6 : Fin (k0_t6_loop v92).trips, ∀ (k0_h10 : ¬(k0_cond10 v92 k0_t6 = 1#1)), ∀ a, (k0_off280 v92 k0_t6) a + S64.size a ≤ S3272.size a) ∧
  (∀ (k0_t6 : Fin (k0_t6_loop v92).trips) (k0_t7 : Fin k0_t7_loop.trips), ∀ a, (k0_off281 v92 k0_t6 k0_t7) a + S16.size a ≤ S3272.size a) ∧
  (∀ (k0_t6 : Fin (k0_t6_loop v92).trips) (k0_t7 : Fin k0_t7_loop.trips), ∀ a, (k0_off283 v92 k0_t6 k0_t7) a + S1x16.size a ≤ S128x128.size a) ∧
  (∀ (k0_t6 : Fin (k0_t6_loop v92).trips) (k0_t7 : Fin k0_t7_loop.trips), ∀ a, (k0_off285 v92 k0_t6 k0_t7) a + S1x16.size a ≤ S128x128.size a) ∧
  (∀ (k0_t6 : Fin (k0_t6_loop v92).trips) (k0_t7 : Fin k0_t7_loop.trips), ∀ a, (k0_off287 v92 k0_t6 k0_t7) a + S1x16.size a ≤ S128x128.size a) ∧
  (∀ (k0_t6 : Fin (k0_t6_loop v92).trips) (k0_t7 : Fin k0_t7_loop.trips), ∀ a, (k0_off289 v92 k0_t6 k0_t7) a + S1x16.size a ≤ S128x128.size a) ∧
  (∀ (k0_t6 : Fin (k0_t6_loop v92).trips) (k0_t7 : Fin k0_t7_loop.trips), ∀ a, (k0_off291 v92 k0_t6 k0_t7) a + S1x16.size a ≤ S128x128.size a) ∧
  (∀ (k0_t6 : Fin (k0_t6_loop v92).trips) (k0_t7 : Fin k0_t7_loop.trips), ∀ a, (k0_off293 v92 k0_t6 k0_t7) a + S1x16.size a ≤ S128x128.size a) ∧
  (∀ (k0_t6 : Fin (k0_t6_loop v92).trips) (k0_t7 : Fin k0_t7_loop.trips), ∀ a, (k0_off295 v92 k0_t6 k0_t7) a + S1x16.size a ≤ S128x128.size a) ∧
  (∀ (k0_t6 : Fin (k0_t6_loop v92).trips) (k0_t7 : Fin k0_t7_loop.trips), ∀ a, (k0_off297 v92 k0_t6 k0_t7) a + S1x16.size a ≤ S128x128.size a) ∧
  (∀ (k0_t6 : Fin (k0_t6_loop v92).trips) (k0_t7 : Fin k0_t7_loop.trips), ∀ a, (k0_off299 v92 k0_t6 k0_t7) a + S1x16.size a ≤ S128x128.size a) ∧
  (∀ (k0_t6 : Fin (k0_t6_loop v92).trips) (k0_t7 : Fin k0_t7_loop.trips), ∀ a, (k0_off301 v92 k0_t6 k0_t7) a + S1x16.size a ≤ S128x128.size a) ∧
  (∀ (k0_t6 : Fin (k0_t6_loop v92).trips) (k0_t7 : Fin k0_t7_loop.trips), ∀ a, (k0_off303 v92 k0_t6 k0_t7) a + S1x16.size a ≤ S128x128.size a) ∧
  (∀ (k0_t6 : Fin (k0_t6_loop v92).trips) (k0_t7 : Fin k0_t7_loop.trips), ∀ a, (k0_off305 v92 k0_t6 k0_t7) a + S1x16.size a ≤ S128x128.size a) ∧
  (∀ (k0_t6 : Fin (k0_t6_loop v92).trips) (k0_t7 : Fin k0_t7_loop.trips), ∀ a, (k0_off307 v92 k0_t6 k0_t7) a + S1x16.size a ≤ S128x128.size a) ∧
  (∀ (k0_t6 : Fin (k0_t6_loop v92).trips) (k0_t7 : Fin k0_t7_loop.trips), ∀ a, (k0_off309 v92 k0_t6 k0_t7) a + S1x16.size a ≤ S128x128.size a) ∧
  (∀ (k0_t6 : Fin (k0_t6_loop v92).trips) (k0_t7 : Fin k0_t7_loop.trips), ∀ a, (k0_off311 v92 k0_t6 k0_t7) a + S1x16.size a ≤ S128x128.size a) ∧
  (∀ (k0_t6 : Fin (k0_t6_loop v92).trips) (k0_t7 : Fin k0_t7_loop.trips), ∀ a, (k0_off313 v92 k0_t6 k0_t7) a + S1x16.size a ≤ S128x128.size a) ∧
  (∀ (k0_t6 : Fin (k0_t6_loop v92).trips) (k0_t7 : Fin k0_t7_loop.trips), ∀ a, (k0_off315 v92 k0_t6 k0_t7) a + S1x16.size a ≤ S128x128.size a) ∧
  (∀ (k0_t6 : Fin (k0_t6_loop v92).trips) (k0_t7 : Fin k0_t7_loop.trips), ∀ a, (k0_off317 v92 k0_t6 k0_t7) a + S1x16.size a ≤ S128x128.size a) ∧
  (∀ (k0_t6 : Fin (k0_t6_loop v92).trips) (k0_t7 : Fin k0_t7_loop.trips), ∀ a, (k0_off319 v92 k0_t6 k0_t7) a + S1x16.size a ≤ S128x128.size a) ∧
  (∀ (k0_t6 : Fin (k0_t6_loop v92).trips) (k0_t7 : Fin k0_t7_loop.trips), ∀ a, (k0_off321 v92 k0_t6 k0_t7) a + S1x16.size a ≤ S128x128.size a)
def k0_chk2_5 (v92 : BitVec 32) : Prop :=
  (∀ (k0_t6 : Fin (k0_t6_loop v92).trips) (k0_t7 : Fin k0_t7_loop.trips), ∀ a, (k0_off323 v92 k0_t6 k0_t7) a + S1x16.size a ≤ S128x128.size a) ∧
  (∀ (k0_t6 : Fin (k0_t6_loop v92).trips) (k0_t7 : Fin k0_t7_loop.trips), ∀ a, (k0_off325 v92 k0_t6 k0_t7) a + S1x16.size a ≤ S128x128.size a) ∧
  (∀ (k0_t6 : Fin (k0_t6_loop v92).trips) (k0_t7 : Fin k0_t7_loop.trips), ∀ a, (k0_off327 v92 k0_t6 k0_t7) a + S1x16.size a ≤ S128x128.size a) ∧
  (∀ (k0_t6 : Fin (k0_t6_loop v92).trips) (k0_t7 : Fin k0_t7_loop.trips), ∀ a, (k0_off329 v92 k0_t6 k0_t7) a + S1x16.size a ≤ S128x128.size a) ∧
  (∀ (k0_t6 : Fin (k0_t6_loop v92).trips) (k0_t7 : Fin k0_t7_loop.trips), ∀ a, (k0_off331 v92 k0_t6 k0_t7) a + S1x16.size a ≤ S128x128.size a) ∧
  (∀ (k0_t6 : Fin (k0_t6_loop v92).trips) (k0_t7 : Fin k0_t7_loop.trips), ∀ a, (k0_off333 v92 k0_t6 k0_t7) a + S1x16.size a ≤ S128x128.size a) ∧
  (∀ (k0_t6 : Fin (k0_t6_loop v92).trips) (k0_t7 : Fin k0_t7_loop.trips), ∀ a, (k0_off335 v92 k0_t6 k0_t7) a + S1x16.size a ≤ S128x128.size a) ∧
  (∀ (k0_t6 : Fin (k0_t6_loop v92).trips) (k0_t7 : Fin k0_t7_loop.trips), ∀ a, (k0_off337 v92 k0_t6 k0_t7) a + S1x16.size a ≤ S128x128.size a) ∧
  (∀ (k0_t6 : Fin (k0_t6_loop v92).trips) (k0_t7 : Fin k0_t7_loop.trips), ∀ a, (k0_off339 v92 k0_t6 k0_t7) a + S1x16.size a ≤ S128x128.size a) ∧
  (∀ (k0_t6 : Fin (k0_t6_loop v92).trips) (k0_t7 : Fin k0_t7_loop.trips), ∀ a, (k0_off341 v92 k0_t6 k0_t7) a + S1x16.size a ≤ S128x128.size a) ∧
  (∀ (k0_t6 : Fin (k0_t6_loop v92).trips) (k0_t7 : Fin k0_t7_loop.trips), ∀ a, (k0_off343 v92 k0_t6 k0_t7) a + S1x16.size a ≤ S128x128.size a) ∧
  (∀ (k0_t6 : Fin (k0_t6_loop v92).trips) (k0_t7 : Fin k0_t7_loop.trips), ∀ a, (k0_off345 v92 k0_t6 k0_t7) a + S1x16.size a ≤ S128x128.size a) ∧
  (∀ (k0_t6 : Fin (k0_t6_loop v92).trips) (k0_t7 : Fin k0_t7_loop.trips), ∀ a, (k0_off347 v92 k0_t6 k0_t7) a + S1x16.size a ≤ S128x128.size a) ∧
  (∀ (k0_t6 : Fin (k0_t6_loop v92).trips) (k0_t7 : Fin k0_t7_loop.trips), ∀ a, (k0_off349 v92 k0_t6 k0_t7) a + S1x16.size a ≤ S128x128.size a) ∧
  (∀ (k0_t6 : Fin (k0_t6_loop v92).trips) (k0_t7 : Fin k0_t7_loop.trips), ∀ a, (k0_off351 v92 k0_t6 k0_t7) a + S1x16.size a ≤ S128x128.size a) ∧
  (∀ (k0_t6 : Fin (k0_t6_loop v92).trips) (k0_t7 : Fin k0_t7_loop.trips), ∀ a, (k0_off353 v92 k0_t6 k0_t7) a + S1x16.size a ≤ S128x128.size a) ∧
  (∀ (k0_t6 : Fin (k0_t6_loop v92).trips) (k0_t7 : Fin k0_t7_loop.trips), ∀ a, (k0_off355 v92 k0_t6 k0_t7) a + S1x16.size a ≤ S128x128.size a) ∧
  (∀ (k0_t6 : Fin (k0_t6_loop v92).trips) (k0_t7 : Fin k0_t7_loop.trips), ∀ a, (k0_off357 v92 k0_t6 k0_t7) a + S1x16.size a ≤ S128x128.size a) ∧
  (∀ (k0_t6 : Fin (k0_t6_loop v92).trips) (k0_t7 : Fin k0_t7_loop.trips), ∀ a, (k0_off359 v92 k0_t6 k0_t7) a + S1x16.size a ≤ S128x128.size a) ∧
  (∀ (k0_t6 : Fin (k0_t6_loop v92).trips) (k0_t7 : Fin k0_t7_loop.trips), ∀ a, (k0_off361 v92 k0_t6 k0_t7) a + S1x16.size a ≤ S128x128.size a) ∧
  (∀ (k0_t6 : Fin (k0_t6_loop v92).trips) (k0_t7 : Fin k0_t7_loop.trips), ∀ a, (k0_off363 v92 k0_t6 k0_t7) a + S1x16.size a ≤ S128x128.size a) ∧
  (∀ (k0_t6 : Fin (k0_t6_loop v92).trips) (k0_t7 : Fin k0_t7_loop.trips), ∀ a, (k0_off365 v92 k0_t6 k0_t7) a + S1x16.size a ≤ S128x128.size a) ∧
  (∀ (k0_t6 : Fin (k0_t6_loop v92).trips) (k0_t7 : Fin k0_t7_loop.trips), ∀ a, (k0_off367 v92 k0_t6 k0_t7) a + S1x16.size a ≤ S128x128.size a) ∧
  (∀ (k0_t6 : Fin (k0_t6_loop v92).trips) (k0_t7 : Fin k0_t7_loop.trips), ∀ a, (k0_off369 v92 k0_t6 k0_t7) a + S1x16.size a ≤ S128x128.size a) ∧
  (∀ (k0_t6 : Fin (k0_t6_loop v92).trips) (k0_t7 : Fin k0_t7_loop.trips), ∀ a, (k0_off371 v92 k0_t6 k0_t7) a + S1x16.size a ≤ S128x128.size a) ∧
  (∀ (k0_t6 : Fin (k0_t6_loop v92).trips) (k0_t7 : Fin k0_t7_loop.trips), ∀ a, (k0_off373 v92 k0_t6 k0_t7) a + S1x16.size a ≤ S128x128.size a) ∧
  (∀ (k0_t6 : Fin (k0_t6_loop v92).trips) (k0_t7 : Fin k0_t7_loop.trips), ∀ a, (k0_off375 v92 k0_t6 k0_t7) a + S1x16.size a ≤ S128x128.size a) ∧
  (∀ (k0_t6 : Fin (k0_t6_loop v92).trips) (k0_t7 : Fin k0_t7_loop.trips), ∀ a, (k0_off377 v92 k0_t6 k0_t7) a + S1x16.size a ≤ S128x128.size a) ∧
  (∀ (k0_t6 : Fin (k0_t6_loop v92).trips) (k0_t7 : Fin k0_t7_loop.trips), ∀ a, (k0_off379 v92 k0_t6 k0_t7) a + S1x16.size a ≤ S128x128.size a) ∧
  (∀ (k0_t6 : Fin (k0_t6_loop v92).trips) (k0_t7 : Fin k0_t7_loop.trips), ∀ a, (k0_off381 v92 k0_t6 k0_t7) a + S1x16.size a ≤ S128x128.size a) ∧
  (∀ (k0_t6 : Fin (k0_t6_loop v92).trips) (k0_t7 : Fin k0_t7_loop.trips), ∀ a, (k0_off383 v92 k0_t6 k0_t7) a + S1x16.size a ≤ S128x128.size a) ∧
  (∀ (k0_t6 : Fin (k0_t6_loop v92).trips) (k0_t7 : Fin k0_t7_loop.trips), ∀ a, (k0_off385 v92 k0_t6 k0_t7) a + S1x16.size a ≤ S128x128.size a)
def k0_chk2_6 (v92 : BitVec 32) : Prop :=
  (∀ (k0_t6 : Fin (k0_t6_loop v92).trips) (k0_t7 : Fin k0_t7_loop.trips), ∀ a, (k0_off387 v92 k0_t6 k0_t7) a + S1x16.size a ≤ S128x128.size a) ∧
  (∀ (k0_t6 : Fin (k0_t6_loop v92).trips) (k0_t7 : Fin k0_t7_loop.trips), ∀ a, (k0_off389 v92 k0_t6 k0_t7) a + S1x16.size a ≤ S128x128.size a) ∧
  (∀ (k0_t6 : Fin (k0_t6_loop v92).trips) (k0_t7 : Fin k0_t7_loop.trips), ∀ a, (k0_off391 v92 k0_t6 k0_t7) a + S1x16.size a ≤ S128x128.size a) ∧
  (∀ (k0_t6 : Fin (k0_t6_loop v92).trips) (k0_t7 : Fin k0_t7_loop.trips), ∀ a, (k0_off393 v92 k0_t6 k0_t7) a + S1x16.size a ≤ S128x128.size a) ∧
  (∀ (k0_t6 : Fin (k0_t6_loop v92).trips) (k0_t7 : Fin k0_t7_loop.trips), ∀ a, (k0_off395 v92 k0_t6 k0_t7) a + S1x16.size a ≤ S128x128.size a) ∧
  (∀ (k0_t6 : Fin (k0_t6_loop v92).trips) (k0_t7 : Fin k0_t7_loop.trips), ∀ a, (k0_off397 v92 k0_t6 k0_t7) a + S1x16.size a ≤ S128x128.size a) ∧
  (∀ (k0_t6 : Fin (k0_t6_loop v92).trips) (k0_t7 : Fin k0_t7_loop.trips), ∀ a, (k0_off399 v92 k0_t6 k0_t7) a + S1x16.size a ≤ S128x128.size a) ∧
  (∀ (k0_t6 : Fin (k0_t6_loop v92).trips) (k0_t7 : Fin k0_t7_loop.trips), ∀ a, (k0_off401 v92 k0_t6 k0_t7) a + S1x16.size a ≤ S128x128.size a) ∧
  (∀ (k0_t6 : Fin (k0_t6_loop v92).trips) (k0_t7 : Fin k0_t7_loop.trips), ∀ a, (k0_off403 v92 k0_t6 k0_t7) a + S1x16.size a ≤ S128x128.size a) ∧
  (∀ (k0_t6 : Fin (k0_t6_loop v92).trips) (k0_t7 : Fin k0_t7_loop.trips), ∀ a, (k0_off405 v92 k0_t6 k0_t7) a + S1x16.size a ≤ S128x128.size a) ∧
  (∀ (k0_t6 : Fin (k0_t6_loop v92).trips) (k0_t7 : Fin k0_t7_loop.trips), ∀ a, (k0_off407 v92 k0_t6 k0_t7) a + S1x16.size a ≤ S128x128.size a) ∧
  (∀ (k0_t6 : Fin (k0_t6_loop v92).trips) (k0_t7 : Fin k0_t7_loop.trips), ∀ a, (k0_off409 v92 k0_t6 k0_t7) a + S1x16.size a ≤ S128x128.size a) ∧
  (∀ (k0_t6 : Fin (k0_t6_loop v92).trips) (k0_t7 : Fin k0_t7_loop.trips), ∀ a, (k0_off411 v92 k0_t6 k0_t7) a + S1x16.size a ≤ S128x128.size a) ∧
  (∀ (k0_t6 : Fin (k0_t6_loop v92).trips) (k0_t7 : Fin k0_t7_loop.trips), ∀ a, (k0_off413 v92 k0_t6 k0_t7) a + S1x16.size a ≤ S128x128.size a) ∧
  (∀ (k0_t6 : Fin (k0_t6_loop v92).trips) (k0_t7 : Fin k0_t7_loop.trips), ∀ a, (k0_off415 v92 k0_t6 k0_t7) a + S1x16.size a ≤ S128x128.size a) ∧
  (∀ (k0_t6 : Fin (k0_t6_loop v92).trips) (k0_t7 : Fin k0_t7_loop.trips), ∀ a, (k0_off417 v92 k0_t6 k0_t7) a + S1x16.size a ≤ S128x128.size a) ∧
  (∀ (k0_t6 : Fin (k0_t6_loop v92).trips) (k0_t7 : Fin k0_t7_loop.trips), ∀ a, (k0_off419 v92 k0_t6 k0_t7) a + S1x16.size a ≤ S128x128.size a) ∧
  (∀ (k0_t6 : Fin (k0_t6_loop v92).trips) (k0_t7 : Fin k0_t7_loop.trips), ∀ a, (k0_off421 v92 k0_t6 k0_t7) a + S1x16.size a ≤ S128x128.size a) ∧
  (∀ (k0_t6 : Fin (k0_t6_loop v92).trips) (k0_t7 : Fin k0_t7_loop.trips), ∀ a, (k0_off423 v92 k0_t6 k0_t7) a + S1x16.size a ≤ S128x128.size a) ∧
  (∀ (k0_t6 : Fin (k0_t6_loop v92).trips) (k0_t7 : Fin k0_t7_loop.trips), ∀ a, (k0_off425 v92 k0_t6 k0_t7) a + S1x16.size a ≤ S128x128.size a) ∧
  (∀ (k0_t6 : Fin (k0_t6_loop v92).trips) (k0_t7 : Fin k0_t7_loop.trips), ∀ a, (k0_off427 v92 k0_t6 k0_t7) a + S1x16.size a ≤ S128x128.size a) ∧
  (∀ (k0_t6 : Fin (k0_t6_loop v92).trips) (k0_t7 : Fin k0_t7_loop.trips), ∀ a, (k0_off429 v92 k0_t6 k0_t7) a + S1x16.size a ≤ S128x128.size a) ∧
  (∀ (k0_t6 : Fin (k0_t6_loop v92).trips) (k0_t7 : Fin k0_t7_loop.trips), ∀ a, (k0_off431 v92 k0_t6 k0_t7) a + S1x16.size a ≤ S128x128.size a) ∧
  (∀ (k0_t6 : Fin (k0_t6_loop v92).trips) (k0_t7 : Fin k0_t7_loop.trips), ∀ a, (k0_off433 v92 k0_t6 k0_t7) a + S1x16.size a ≤ S128x128.size a) ∧
  (∀ (k0_t6 : Fin (k0_t6_loop v92).trips) (k0_t7 : Fin k0_t7_loop.trips), ∀ a, (k0_off435 v92 k0_t6 k0_t7) a + S1x16.size a ≤ S128x128.size a) ∧
  (∀ (k0_t6 : Fin (k0_t6_loop v92).trips) (k0_t7 : Fin k0_t7_loop.trips), ∀ a, (k0_off437 v92 k0_t6 k0_t7) a + S1x16.size a ≤ S128x128.size a) ∧
  (∀ (k0_t6 : Fin (k0_t6_loop v92).trips) (k0_t7 : Fin k0_t7_loop.trips), ∀ a, (k0_off439 v92 k0_t6 k0_t7) a + S1x16.size a ≤ S128x128.size a) ∧
  (∀ (k0_t6 : Fin (k0_t6_loop v92).trips) (k0_t7 : Fin k0_t7_loop.trips), ∀ a, (k0_off441 v92 k0_t6 k0_t7) a + S1x16.size a ≤ S128x128.size a) ∧
  (∀ (k0_t6 : Fin (k0_t6_loop v92).trips) (k0_t7 : Fin k0_t7_loop.trips), ∀ a, (k0_off443 v92 k0_t6 k0_t7) a + S1x16.size a ≤ S128x128.size a) ∧
  (∀ (k0_t6 : Fin (k0_t6_loop v92).trips) (k0_t7 : Fin k0_t7_loop.trips), ∀ a, (k0_off445 v92 k0_t6 k0_t7) a + S1x16.size a ≤ S128x128.size a) ∧
  (∀ (k0_t6 : Fin (k0_t6_loop v92).trips) (k0_t7 : Fin k0_t7_loop.trips), ∀ a, (k0_off447 v92 k0_t6 k0_t7) a + S1x16.size a ≤ S128x128.size a) ∧
  (∀ (k0_t6 : Fin (k0_t6_loop v92).trips) (k0_t7 : Fin k0_t7_loop.trips), ∀ a, (k0_off449 v92 k0_t6 k0_t7) a + S1x16.size a ≤ S128x128.size a)
def k0_chk2_7 (v92 : BitVec 32) : Prop :=
  (∀ (k0_t6 : Fin (k0_t6_loop v92).trips) (k0_t7 : Fin k0_t7_loop.trips), ∀ a, (k0_off451 v92 k0_t6 k0_t7) a + S1x16.size a ≤ S128x128.size a) ∧
  (∀ (k0_t6 : Fin (k0_t6_loop v92).trips) (k0_t7 : Fin k0_t7_loop.trips), ∀ a, (k0_off453 v92 k0_t6 k0_t7) a + S1x16.size a ≤ S128x128.size a) ∧
  (∀ (k0_t6 : Fin (k0_t6_loop v92).trips) (k0_t7 : Fin k0_t7_loop.trips), ∀ a, (k0_off455 v92 k0_t6 k0_t7) a + S1x16.size a ≤ S128x128.size a) ∧
  (∀ (k0_t6 : Fin (k0_t6_loop v92).trips) (k0_t7 : Fin k0_t7_loop.trips), ∀ a, (k0_off457 v92 k0_t6 k0_t7) a + S1x16.size a ≤ S128x128.size a) ∧
  (∀ (k0_t6 : Fin (k0_t6_loop v92).trips) (k0_t7 : Fin k0_t7_loop.trips), ∀ a, (k0_off459 v92 k0_t6 k0_t7) a + S1x16.size a ≤ S128x128.size a) ∧
  (∀ (k0_t6 : Fin (k0_t6_loop v92).trips) (k0_t7 : Fin k0_t7_loop.trips), ∀ a, (k0_off461 v92 k0_t6 k0_t7) a + S1x16.size a ≤ S128x128.size a) ∧
  (∀ (k0_t6 : Fin (k0_t6_loop v92).trips) (k0_t7 : Fin k0_t7_loop.trips), ∀ a, (k0_off463 v92 k0_t6 k0_t7) a + S1x16.size a ≤ S128x128.size a) ∧
  (∀ (k0_t6 : Fin (k0_t6_loop v92).trips) (k0_t7 : Fin k0_t7_loop.trips), ∀ a, (k0_off465 v92 k0_t6 k0_t7) a + S1x16.size a ≤ S128x128.size a) ∧
  (∀ (k0_t6 : Fin (k0_t6_loop v92).trips) (k0_t7 : Fin k0_t7_loop.trips), ∀ a, (k0_off467 v92 k0_t6 k0_t7) a + S1x16.size a ≤ S128x128.size a) ∧
  (∀ (k0_t6 : Fin (k0_t6_loop v92).trips) (k0_t7 : Fin k0_t7_loop.trips), ∀ a, (k0_off469 v92 k0_t6 k0_t7) a + S1x16.size a ≤ S128x128.size a) ∧
  (∀ (k0_t6 : Fin (k0_t6_loop v92).trips) (k0_t7 : Fin k0_t7_loop.trips), ∀ a, (k0_off471 v92 k0_t6 k0_t7) a + S1x16.size a ≤ S128x128.size a) ∧
  (∀ (k0_t6 : Fin (k0_t6_loop v92).trips) (k0_t7 : Fin k0_t7_loop.trips), ∀ a, (k0_off473 v92 k0_t6 k0_t7) a + S1x16.size a ≤ S128x128.size a) ∧
  (∀ (k0_t6 : Fin (k0_t6_loop v92).trips) (k0_t7 : Fin k0_t7_loop.trips), ∀ a, (k0_off475 v92 k0_t6 k0_t7) a + S1x16.size a ≤ S128x128.size a) ∧
  (∀ (k0_t6 : Fin (k0_t6_loop v92).trips) (k0_t7 : Fin k0_t7_loop.trips), ∀ a, (k0_off477 v92 k0_t6 k0_t7) a + S1x16.size a ≤ S128x128.size a) ∧
  (∀ (k0_t6 : Fin (k0_t6_loop v92).trips) (k0_t7 : Fin k0_t7_loop.trips), ∀ a, (k0_off479 v92 k0_t6 k0_t7) a + S1x16.size a ≤ S128x128.size a) ∧
  (∀ (k0_t6 : Fin (k0_t6_loop v92).trips) (k0_t7 : Fin k0_t7_loop.trips), ∀ a, (k0_off481 v92 k0_t6 k0_t7) a + S1x16.size a ≤ S128x128.size a) ∧
  (∀ (k0_t6 : Fin (k0_t6_loop v92).trips) (k0_t7 : Fin k0_t7_loop.trips), ∀ a, (k0_off483 v92 k0_t6 k0_t7) a + S1x16.size a ≤ S128x128.size a) ∧
  (∀ (k0_t6 : Fin (k0_t6_loop v92).trips) (k0_t7 : Fin k0_t7_loop.trips), ∀ a, (k0_off485 v92 k0_t6 k0_t7) a + S1x16.size a ≤ S128x128.size a) ∧
  (∀ (k0_t6 : Fin (k0_t6_loop v92).trips) (k0_t7 : Fin k0_t7_loop.trips), ∀ a, (k0_off487 v92 k0_t6 k0_t7) a + S1x16.size a ≤ S128x128.size a) ∧
  (∀ (k0_t6 : Fin (k0_t6_loop v92).trips) (k0_t7 : Fin k0_t7_loop.trips), ∀ a, (k0_off489 v92 k0_t6 k0_t7) a + S1x16.size a ≤ S128x128.size a) ∧
  (∀ (k0_t6 : Fin (k0_t6_loop v92).trips) (k0_t7 : Fin k0_t7_loop.trips), ∀ a, (k0_off491 v92 k0_t6 k0_t7) a + S1x16.size a ≤ S128x128.size a) ∧
  (∀ (k0_t6 : Fin (k0_t6_loop v92).trips) (k0_t7 : Fin k0_t7_loop.trips), ∀ a, (k0_off493 v92 k0_t6 k0_t7) a + S1x16.size a ≤ S128x128.size a) ∧
  (∀ (k0_t6 : Fin (k0_t6_loop v92).trips) (k0_t7 : Fin k0_t7_loop.trips), ∀ a, (k0_off495 v92 k0_t6 k0_t7) a + S1x16.size a ≤ S128x128.size a) ∧
  (∀ (k0_t6 : Fin (k0_t6_loop v92).trips) (k0_t7 : Fin k0_t7_loop.trips), ∀ a, (k0_off497 v92 k0_t6 k0_t7) a + S1x16.size a ≤ S128x128.size a) ∧
  (∀ (k0_t6 : Fin (k0_t6_loop v92).trips) (k0_t7 : Fin k0_t7_loop.trips), ∀ a, (k0_off499 v92 k0_t6 k0_t7) a + S1x16.size a ≤ S128x128.size a) ∧
  (∀ (k0_t6 : Fin (k0_t6_loop v92).trips) (k0_t7 : Fin k0_t7_loop.trips), ∀ a, (k0_off501 v92 k0_t6 k0_t7) a + S1x16.size a ≤ S128x128.size a) ∧
  (∀ (k0_t6 : Fin (k0_t6_loop v92).trips) (k0_t7 : Fin k0_t7_loop.trips), ∀ a, (k0_off503 v92 k0_t6 k0_t7) a + S1x16.size a ≤ S128x128.size a) ∧
  (∀ (k0_t6 : Fin (k0_t6_loop v92).trips) (k0_t7 : Fin k0_t7_loop.trips), ∀ a, (k0_off505 v92 k0_t6 k0_t7) a + S1x16.size a ≤ S128x128.size a) ∧
  (∀ (k0_t6 : Fin (k0_t6_loop v92).trips) (k0_t7 : Fin k0_t7_loop.trips), ∀ a, (k0_off507 v92 k0_t6 k0_t7) a + S1x16.size a ≤ S128x128.size a) ∧
  (∀ (k0_t6 : Fin (k0_t6_loop v92).trips) (k0_t7 : Fin k0_t7_loop.trips), ∀ a, (k0_off509 v92 k0_t6 k0_t7) a + S1x16.size a ≤ S128x128.size a) ∧
  (∀ (k0_t6 : Fin (k0_t6_loop v92).trips) (k0_t7 : Fin k0_t7_loop.trips), ∀ a, (k0_off511 v92 k0_t6 k0_t7) a + S1x16.size a ≤ S128x128.size a) ∧
  (∀ (k0_t6 : Fin (k0_t6_loop v92).trips) (k0_t7 : Fin k0_t7_loop.trips), ∀ a, (k0_off513 v92 k0_t6 k0_t7) a + S1x16.size a ≤ S128x128.size a)
def k0_chk2_8 (v92 : BitVec 32) : Prop :=
  (∀ (k0_t6 : Fin (k0_t6_loop v92).trips) (k0_t7 : Fin k0_t7_loop.trips), ∀ a, (k0_off515 v92 k0_t6 k0_t7) a + S1x16.size a ≤ S128x128.size a) ∧
  (∀ (k0_t6 : Fin (k0_t6_loop v92).trips) (k0_t7 : Fin k0_t7_loop.trips), ∀ a, (k0_off517 v92 k0_t6 k0_t7) a + S1x16.size a ≤ S128x128.size a) ∧
  (∀ (k0_t6 : Fin (k0_t6_loop v92).trips) (k0_t7 : Fin k0_t7_loop.trips), ∀ a, (k0_off519 v92 k0_t6 k0_t7) a + S1x16.size a ≤ S128x128.size a) ∧
  (∀ (k0_t6 : Fin (k0_t6_loop v92).trips) (k0_t7 : Fin k0_t7_loop.trips), ∀ a, (k0_off521 v92 k0_t6 k0_t7) a + S1x16.size a ≤ S128x128.size a) ∧
  (∀ (k0_t6 : Fin (k0_t6_loop v92).trips) (k0_t7 : Fin k0_t7_loop.trips), ∀ a, (k0_off523 v92 k0_t6 k0_t7) a + S1x16.size a ≤ S128x128.size a) ∧
  (∀ (k0_t6 : Fin (k0_t6_loop v92).trips) (k0_t7 : Fin k0_t7_loop.trips), ∀ a, (k0_off525 v92 k0_t6 k0_t7) a + S1x16.size a ≤ S128x128.size a) ∧
  (∀ (k0_t6 : Fin (k0_t6_loop v92).trips) (k0_t7 : Fin k0_t7_loop.trips), ∀ a, (k0_off527 v92 k0_t6 k0_t7) a + S1x16.size a ≤ S128x128.size a) ∧
  (∀ (k0_t6 : Fin (k0_t6_loop v92).trips) (k0_t7 : Fin k0_t7_loop.trips), ∀ a, (k0_off529 v92 k0_t6 k0_t7) a + S1x16.size a ≤ S128x128.size a) ∧
  (∀ (k0_t6 : Fin (k0_t6_loop v92).trips) (k0_t7 : Fin k0_t7_loop.trips), ∀ a, (k0_off531 v92 k0_t6 k0_t7) a + S1x16.size a ≤ S128x128.size a) ∧
  (∀ (k0_t6 : Fin (k0_t6_loop v92).trips) (k0_t7 : Fin k0_t7_loop.trips), ∀ a, (k0_off533 v92 k0_t6 k0_t7) a + S1x16.size a ≤ S128x128.size a) ∧
  (∀ (k0_t6 : Fin (k0_t6_loop v92).trips) (k0_t7 : Fin k0_t7_loop.trips), ∀ a, (k0_off535 v92 k0_t6 k0_t7) a + S1x16.size a ≤ S128x128.size a) ∧
  (∀ (k0_t6 : Fin (k0_t6_loop v92).trips) (k0_t7 : Fin k0_t7_loop.trips), ∀ a, (k0_off537 v92 k0_t6 k0_t7) a + S1x16.size a ≤ S128x128.size a) ∧
  (∀ (r : Fin 4), ∀ a, (k0_off538 v92 (BitVec.ofNat 32 (16 * r.val))) a + S16.size a ≤ S3272.size a)
def k0_chk2 (v92 : BitVec 32) : Prop :=
  k0_chk2_0 v92 ∧
  k0_chk2_1 v92 ∧
  k0_chk2_2 v92 ∧
  k0_chk2_3 v92 ∧
  k0_chk2_4 v92 ∧
  k0_chk2_5 v92 ∧
  k0_chk2_6 v92 ∧
  k0_chk2_7 v92 ∧
  k0_chk2_8 v92
theorem k0_t4_ok : ∀ (v92 : BitVec 32) (k0_hw2 : k0_chk2 v92), (k0_t4_loop v92).OK := fun v92 k0_hw2 => k0_hw2.1.1
theorem k0_off16_inb : ∀ (v92 : BitVec 32) (k0_hw2 : k0_chk2 v92) (k0_t4 : Fin (k0_t4_loop v92).trips), ∀ (k0_h5 : k0_cond5 v92 k0_t4 = 1#1), ∀ (k0_h6 : k0_cond6 v92 k0_t4 = 1#1), ∀ a, (k0_off16 v92 k0_t4) a + S64.size a ≤ S3272.size a := fun v92 k0_hw2 k0_t4 k0_h5 k0_h6 => k0_hw2.1.2.1 k0_t4 k0_h5 k0_h6
theorem k0_off17_inb : ∀ (v92 : BitVec 32) (k0_hw2 : k0_chk2 v92) (k0_t4 : Fin (k0_t4_loop v92).trips), ∀ (k0_h5 : k0_cond5 v92 k0_t4 = 1#1), ∀ (k0_h6 : ¬(k0_cond6 v92 k0_t4 = 1#1)), ∀ a, (k0_off17 v92 k0_t4) a + S64.size a ≤ S3272.size a := fun v92 k0_hw2 k0_t4 k0_h5 k0_h6 => k0_hw2.1.2.2.1 k0_t4 k0_h5 k0_h6
theorem k0_off18_inb : ∀ (v92 : BitVec 32) (k0_hw2 : k0_chk2 v92) (k0_t4 : Fin (k0_t4_loop v92).trips), ∀ (k0_h7 : k0_cond7 v92 k0_t4 = 1#1), ∀ a, (k0_off18 v92 k0_t4) a + S64.size a ≤ S3272.size a := fun v92 k0_hw2 k0_t4 k0_h7 => k0_hw2.1.2.2.2.1 k0_t4 k0_h7
theorem k0_off19_inb : ∀ (v92 : BitVec 32) (k0_hw2 : k0_chk2 v92) (k0_t4 : Fin (k0_t4_loop v92).trips), ∀ (k0_h7 : ¬(k0_cond7 v92 k0_t4 = 1#1)), ∀ a, (k0_off19 v92 k0_t4) a + S64.size a ≤ S3272.size a := fun v92 k0_hw2 k0_t4 k0_h7 => k0_hw2.1.2.2.2.2.1 k0_t4 k0_h7
theorem k0_off20_inb : ∀ (v92 : BitVec 32) (k0_hw2 : k0_chk2 v92) (k0_t4 : Fin (k0_t4_loop v92).trips) (k0_t5 : Fin k0_t5_loop.trips), ∀ a, (k0_off20 v92 k0_t4 k0_t5) a + S16.size a ≤ S3272.size a := fun v92 k0_hw2 k0_t4 k0_t5 => k0_hw2.1.2.2.2.2.2.1 k0_t4 k0_t5
theorem k0_off22_inb : ∀ (v92 : BitVec 32) (k0_hw2 : k0_chk2 v92) (k0_t4 : Fin (k0_t4_loop v92).trips) (k0_t5 : Fin k0_t5_loop.trips), ∀ a, (k0_off22 v92 k0_t4 k0_t5) a + S1x16.size a ≤ S128x128.size a := fun v92 k0_hw2 k0_t4 k0_t5 => k0_hw2.1.2.2.2.2.2.2.1 k0_t4 k0_t5
theorem k0_off24_inb : ∀ (v92 : BitVec 32) (k0_hw2 : k0_chk2 v92) (k0_t4 : Fin (k0_t4_loop v92).trips) (k0_t5 : Fin k0_t5_loop.trips), ∀ a, (k0_off24 v92 k0_t4 k0_t5) a + S1x16.size a ≤ S128x128.size a := fun v92 k0_hw2 k0_t4 k0_t5 => k0_hw2.1.2.2.2.2.2.2.2.1 k0_t4 k0_t5
theorem k0_off26_inb : ∀ (v92 : BitVec 32) (k0_hw2 : k0_chk2 v92) (k0_t4 : Fin (k0_t4_loop v92).trips) (k0_t5 : Fin k0_t5_loop.trips), ∀ a, (k0_off26 v92 k0_t4 k0_t5) a + S1x16.size a ≤ S128x128.size a := fun v92 k0_hw2 k0_t4 k0_t5 => k0_hw2.1.2.2.2.2.2.2.2.2.1 k0_t4 k0_t5
theorem k0_off28_inb : ∀ (v92 : BitVec 32) (k0_hw2 : k0_chk2 v92) (k0_t4 : Fin (k0_t4_loop v92).trips) (k0_t5 : Fin k0_t5_loop.trips), ∀ a, (k0_off28 v92 k0_t4 k0_t5) a + S1x16.size a ≤ S128x128.size a := fun v92 k0_hw2 k0_t4 k0_t5 => k0_hw2.1.2.2.2.2.2.2.2.2.2.1 k0_t4 k0_t5
theorem k0_off30_inb : ∀ (v92 : BitVec 32) (k0_hw2 : k0_chk2 v92) (k0_t4 : Fin (k0_t4_loop v92).trips) (k0_t5 : Fin k0_t5_loop.trips), ∀ a, (k0_off30 v92 k0_t4 k0_t5) a + S1x16.size a ≤ S128x128.size a := fun v92 k0_hw2 k0_t4 k0_t5 => k0_hw2.1.2.2.2.2.2.2.2.2.2.2.1 k0_t4 k0_t5
theorem k0_off32_inb : ∀ (v92 : BitVec 32) (k0_hw2 : k0_chk2 v92) (k0_t4 : Fin (k0_t4_loop v92).trips) (k0_t5 : Fin k0_t5_loop.trips), ∀ a, (k0_off32 v92 k0_t4 k0_t5) a + S1x16.size a ≤ S128x128.size a := fun v92 k0_hw2 k0_t4 k0_t5 => k0_hw2.1.2.2.2.2.2.2.2.2.2.2.2.1 k0_t4 k0_t5
theorem k0_off34_inb : ∀ (v92 : BitVec 32) (k0_hw2 : k0_chk2 v92) (k0_t4 : Fin (k0_t4_loop v92).trips) (k0_t5 : Fin k0_t5_loop.trips), ∀ a, (k0_off34 v92 k0_t4 k0_t5) a + S1x16.size a ≤ S128x128.size a := fun v92 k0_hw2 k0_t4 k0_t5 => k0_hw2.1.2.2.2.2.2.2.2.2.2.2.2.2.1 k0_t4 k0_t5
theorem k0_off36_inb : ∀ (v92 : BitVec 32) (k0_hw2 : k0_chk2 v92) (k0_t4 : Fin (k0_t4_loop v92).trips) (k0_t5 : Fin k0_t5_loop.trips), ∀ a, (k0_off36 v92 k0_t4 k0_t5) a + S1x16.size a ≤ S128x128.size a := fun v92 k0_hw2 k0_t4 k0_t5 => k0_hw2.1.2.2.2.2.2.2.2.2.2.2.2.2.2.1 k0_t4 k0_t5
theorem k0_off38_inb : ∀ (v92 : BitVec 32) (k0_hw2 : k0_chk2 v92) (k0_t4 : Fin (k0_t4_loop v92).trips) (k0_t5 : Fin k0_t5_loop.trips), ∀ a, (k0_off38 v92 k0_t4 k0_t5) a + S1x16.size a ≤ S128x128.size a := fun v92 k0_hw2 k0_t4 k0_t5 => k0_hw2.1.2.2.2.2.2.2.2.2.2.2.2.2.2.2.1 k0_t4 k0_t5
theorem k0_off40_inb : ∀ (v92 : BitVec 32) (k0_hw2 : k0_chk2 v92) (k0_t4 : Fin (k0_t4_loop v92).trips) (k0_t5 : Fin k0_t5_loop.trips), ∀ a, (k0_off40 v92 k0_t4 k0_t5) a + S1x16.size a ≤ S128x128.size a := fun v92 k0_hw2 k0_t4 k0_t5 => k0_hw2.1.2.2.2.2.2.2.2.2.2.2.2.2.2.2.2.1 k0_t4 k0_t5
theorem k0_off42_inb : ∀ (v92 : BitVec 32) (k0_hw2 : k0_chk2 v92) (k0_t4 : Fin (k0_t4_loop v92).trips) (k0_t5 : Fin k0_t5_loop.trips), ∀ a, (k0_off42 v92 k0_t4 k0_t5) a + S1x16.size a ≤ S128x128.size a := fun v92 k0_hw2 k0_t4 k0_t5 => k0_hw2.1.2.2.2.2.2.2.2.2.2.2.2.2.2.2.2.2.1 k0_t4 k0_t5
theorem k0_off44_inb : ∀ (v92 : BitVec 32) (k0_hw2 : k0_chk2 v92) (k0_t4 : Fin (k0_t4_loop v92).trips) (k0_t5 : Fin k0_t5_loop.trips), ∀ a, (k0_off44 v92 k0_t4 k0_t5) a + S1x16.size a ≤ S128x128.size a := fun v92 k0_hw2 k0_t4 k0_t5 => k0_hw2.1.2.2.2.2.2.2.2.2.2.2.2.2.2.2.2.2.2.1 k0_t4 k0_t5
theorem k0_off46_inb : ∀ (v92 : BitVec 32) (k0_hw2 : k0_chk2 v92) (k0_t4 : Fin (k0_t4_loop v92).trips) (k0_t5 : Fin k0_t5_loop.trips), ∀ a, (k0_off46 v92 k0_t4 k0_t5) a + S1x16.size a ≤ S128x128.size a := fun v92 k0_hw2 k0_t4 k0_t5 => k0_hw2.1.2.2.2.2.2.2.2.2.2.2.2.2.2.2.2.2.2.2.1 k0_t4 k0_t5
theorem k0_off48_inb : ∀ (v92 : BitVec 32) (k0_hw2 : k0_chk2 v92) (k0_t4 : Fin (k0_t4_loop v92).trips) (k0_t5 : Fin k0_t5_loop.trips), ∀ a, (k0_off48 v92 k0_t4 k0_t5) a + S1x16.size a ≤ S128x128.size a := fun v92 k0_hw2 k0_t4 k0_t5 => k0_hw2.1.2.2.2.2.2.2.2.2.2.2.2.2.2.2.2.2.2.2.2.1 k0_t4 k0_t5
theorem k0_off50_inb : ∀ (v92 : BitVec 32) (k0_hw2 : k0_chk2 v92) (k0_t4 : Fin (k0_t4_loop v92).trips) (k0_t5 : Fin k0_t5_loop.trips), ∀ a, (k0_off50 v92 k0_t4 k0_t5) a + S1x16.size a ≤ S128x128.size a := fun v92 k0_hw2 k0_t4 k0_t5 => k0_hw2.1.2.2.2.2.2.2.2.2.2.2.2.2.2.2.2.2.2.2.2.2.1 k0_t4 k0_t5
theorem k0_off52_inb : ∀ (v92 : BitVec 32) (k0_hw2 : k0_chk2 v92) (k0_t4 : Fin (k0_t4_loop v92).trips) (k0_t5 : Fin k0_t5_loop.trips), ∀ a, (k0_off52 v92 k0_t4 k0_t5) a + S1x16.size a ≤ S128x128.size a := fun v92 k0_hw2 k0_t4 k0_t5 => k0_hw2.1.2.2.2.2.2.2.2.2.2.2.2.2.2.2.2.2.2.2.2.2.2.1 k0_t4 k0_t5
theorem k0_off54_inb : ∀ (v92 : BitVec 32) (k0_hw2 : k0_chk2 v92) (k0_t4 : Fin (k0_t4_loop v92).trips) (k0_t5 : Fin k0_t5_loop.trips), ∀ a, (k0_off54 v92 k0_t4 k0_t5) a + S1x16.size a ≤ S128x128.size a := fun v92 k0_hw2 k0_t4 k0_t5 => k0_hw2.1.2.2.2.2.2.2.2.2.2.2.2.2.2.2.2.2.2.2.2.2.2.2.1 k0_t4 k0_t5
theorem k0_off56_inb : ∀ (v92 : BitVec 32) (k0_hw2 : k0_chk2 v92) (k0_t4 : Fin (k0_t4_loop v92).trips) (k0_t5 : Fin k0_t5_loop.trips), ∀ a, (k0_off56 v92 k0_t4 k0_t5) a + S1x16.size a ≤ S128x128.size a := fun v92 k0_hw2 k0_t4 k0_t5 => k0_hw2.1.2.2.2.2.2.2.2.2.2.2.2.2.2.2.2.2.2.2.2.2.2.2.2.1 k0_t4 k0_t5
theorem k0_off58_inb : ∀ (v92 : BitVec 32) (k0_hw2 : k0_chk2 v92) (k0_t4 : Fin (k0_t4_loop v92).trips) (k0_t5 : Fin k0_t5_loop.trips), ∀ a, (k0_off58 v92 k0_t4 k0_t5) a + S1x16.size a ≤ S128x128.size a := fun v92 k0_hw2 k0_t4 k0_t5 => k0_hw2.1.2.2.2.2.2.2.2.2.2.2.2.2.2.2.2.2.2.2.2.2.2.2.2.2.1 k0_t4 k0_t5
theorem k0_off60_inb : ∀ (v92 : BitVec 32) (k0_hw2 : k0_chk2 v92) (k0_t4 : Fin (k0_t4_loop v92).trips) (k0_t5 : Fin k0_t5_loop.trips), ∀ a, (k0_off60 v92 k0_t4 k0_t5) a + S1x16.size a ≤ S128x128.size a := fun v92 k0_hw2 k0_t4 k0_t5 => k0_hw2.1.2.2.2.2.2.2.2.2.2.2.2.2.2.2.2.2.2.2.2.2.2.2.2.2.2.1 k0_t4 k0_t5
theorem k0_off62_inb : ∀ (v92 : BitVec 32) (k0_hw2 : k0_chk2 v92) (k0_t4 : Fin (k0_t4_loop v92).trips) (k0_t5 : Fin k0_t5_loop.trips), ∀ a, (k0_off62 v92 k0_t4 k0_t5) a + S1x16.size a ≤ S128x128.size a := fun v92 k0_hw2 k0_t4 k0_t5 => k0_hw2.1.2.2.2.2.2.2.2.2.2.2.2.2.2.2.2.2.2.2.2.2.2.2.2.2.2.2.1 k0_t4 k0_t5
theorem k0_off64_inb : ∀ (v92 : BitVec 32) (k0_hw2 : k0_chk2 v92) (k0_t4 : Fin (k0_t4_loop v92).trips) (k0_t5 : Fin k0_t5_loop.trips), ∀ a, (k0_off64 v92 k0_t4 k0_t5) a + S1x16.size a ≤ S128x128.size a := fun v92 k0_hw2 k0_t4 k0_t5 => k0_hw2.1.2.2.2.2.2.2.2.2.2.2.2.2.2.2.2.2.2.2.2.2.2.2.2.2.2.2.2.1 k0_t4 k0_t5
theorem k0_off66_inb : ∀ (v92 : BitVec 32) (k0_hw2 : k0_chk2 v92) (k0_t4 : Fin (k0_t4_loop v92).trips) (k0_t5 : Fin k0_t5_loop.trips), ∀ a, (k0_off66 v92 k0_t4 k0_t5) a + S1x16.size a ≤ S128x128.size a := fun v92 k0_hw2 k0_t4 k0_t5 => k0_hw2.1.2.2.2.2.2.2.2.2.2.2.2.2.2.2.2.2.2.2.2.2.2.2.2.2.2.2.2.2.1 k0_t4 k0_t5
theorem k0_off68_inb : ∀ (v92 : BitVec 32) (k0_hw2 : k0_chk2 v92) (k0_t4 : Fin (k0_t4_loop v92).trips) (k0_t5 : Fin k0_t5_loop.trips), ∀ a, (k0_off68 v92 k0_t4 k0_t5) a + S1x16.size a ≤ S128x128.size a := fun v92 k0_hw2 k0_t4 k0_t5 => k0_hw2.1.2.2.2.2.2.2.2.2.2.2.2.2.2.2.2.2.2.2.2.2.2.2.2.2.2.2.2.2.2.1 k0_t4 k0_t5
theorem k0_off70_inb : ∀ (v92 : BitVec 32) (k0_hw2 : k0_chk2 v92) (k0_t4 : Fin (k0_t4_loop v92).trips) (k0_t5 : Fin k0_t5_loop.trips), ∀ a, (k0_off70 v92 k0_t4 k0_t5) a + S1x16.size a ≤ S128x128.size a := fun v92 k0_hw2 k0_t4 k0_t5 => k0_hw2.1.2.2.2.2.2.2.2.2.2.2.2.2.2.2.2.2.2.2.2.2.2.2.2.2.2.2.2.2.2.2.1 k0_t4 k0_t5
theorem k0_off72_inb : ∀ (v92 : BitVec 32) (k0_hw2 : k0_chk2 v92) (k0_t4 : Fin (k0_t4_loop v92).trips) (k0_t5 : Fin k0_t5_loop.trips), ∀ a, (k0_off72 v92 k0_t4 k0_t5) a + S1x16.size a ≤ S128x128.size a := fun v92 k0_hw2 k0_t4 k0_t5 => k0_hw2.1.2.2.2.2.2.2.2.2.2.2.2.2.2.2.2.2.2.2.2.2.2.2.2.2.2.2.2.2.2.2.2 k0_t4 k0_t5
theorem k0_off74_inb : ∀ (v92 : BitVec 32) (k0_hw2 : k0_chk2 v92) (k0_t4 : Fin (k0_t4_loop v92).trips) (k0_t5 : Fin k0_t5_loop.trips), ∀ a, (k0_off74 v92 k0_t4 k0_t5) a + S1x16.size a ≤ S128x128.size a := fun v92 k0_hw2 k0_t4 k0_t5 => k0_hw2.2.1.1 k0_t4 k0_t5
theorem k0_off76_inb : ∀ (v92 : BitVec 32) (k0_hw2 : k0_chk2 v92) (k0_t4 : Fin (k0_t4_loop v92).trips) (k0_t5 : Fin k0_t5_loop.trips), ∀ a, (k0_off76 v92 k0_t4 k0_t5) a + S1x16.size a ≤ S128x128.size a := fun v92 k0_hw2 k0_t4 k0_t5 => k0_hw2.2.1.2.1 k0_t4 k0_t5
theorem k0_off78_inb : ∀ (v92 : BitVec 32) (k0_hw2 : k0_chk2 v92) (k0_t4 : Fin (k0_t4_loop v92).trips) (k0_t5 : Fin k0_t5_loop.trips), ∀ a, (k0_off78 v92 k0_t4 k0_t5) a + S1x16.size a ≤ S128x128.size a := fun v92 k0_hw2 k0_t4 k0_t5 => k0_hw2.2.1.2.2.1 k0_t4 k0_t5
theorem k0_off80_inb : ∀ (v92 : BitVec 32) (k0_hw2 : k0_chk2 v92) (k0_t4 : Fin (k0_t4_loop v92).trips) (k0_t5 : Fin k0_t5_loop.trips), ∀ a, (k0_off80 v92 k0_t4 k0_t5) a + S1x16.size a ≤ S128x128.size a := fun v92 k0_hw2 k0_t4 k0_t5 => k0_hw2.2.1.2.2.2.1 k0_t4 k0_t5
theorem k0_off82_inb : ∀ (v92 : BitVec 32) (k0_hw2 : k0_chk2 v92) (k0_t4 : Fin (k0_t4_loop v92).trips) (k0_t5 : Fin k0_t5_loop.trips), ∀ a, (k0_off82 v92 k0_t4 k0_t5) a + S1x16.size a ≤ S128x128.size a := fun v92 k0_hw2 k0_t4 k0_t5 => k0_hw2.2.1.2.2.2.2.1 k0_t4 k0_t5
theorem k0_off84_inb : ∀ (v92 : BitVec 32) (k0_hw2 : k0_chk2 v92) (k0_t4 : Fin (k0_t4_loop v92).trips) (k0_t5 : Fin k0_t5_loop.trips), ∀ a, (k0_off84 v92 k0_t4 k0_t5) a + S1x16.size a ≤ S128x128.size a := fun v92 k0_hw2 k0_t4 k0_t5 => k0_hw2.2.1.2.2.2.2.2.1 k0_t4 k0_t5
theorem k0_off86_inb : ∀ (v92 : BitVec 32) (k0_hw2 : k0_chk2 v92) (k0_t4 : Fin (k0_t4_loop v92).trips) (k0_t5 : Fin k0_t5_loop.trips), ∀ a, (k0_off86 v92 k0_t4 k0_t5) a + S1x16.size a ≤ S128x128.size a := fun v92 k0_hw2 k0_t4 k0_t5 => k0_hw2.2.1.2.2.2.2.2.2.1 k0_t4 k0_t5
theorem k0_off88_inb : ∀ (v92 : BitVec 32) (k0_hw2 : k0_chk2 v92) (k0_t4 : Fin (k0_t4_loop v92).trips) (k0_t5 : Fin k0_t5_loop.trips), ∀ a, (k0_off88 v92 k0_t4 k0_t5) a + S1x16.size a ≤ S128x128.size a := fun v92 k0_hw2 k0_t4 k0_t5 => k0_hw2.2.1.2.2.2.2.2.2.2.1 k0_t4 k0_t5
theorem k0_off90_inb : ∀ (v92 : BitVec 32) (k0_hw2 : k0_chk2 v92) (k0_t4 : Fin (k0_t4_loop v92).trips) (k0_t5 : Fin k0_t5_loop.trips), ∀ a, (k0_off90 v92 k0_t4 k0_t5) a + S1x16.size a ≤ S128x128.size a := fun v92 k0_hw2 k0_t4 k0_t5 => k0_hw2.2.1.2.2.2.2.2.2.2.2.1 k0_t4 k0_t5
theorem k0_off92_inb : ∀ (v92 : BitVec 32) (k0_hw2 : k0_chk2 v92) (k0_t4 : Fin (k0_t4_loop v92).trips) (k0_t5 : Fin k0_t5_loop.trips), ∀ a, (k0_off92 v92 k0_t4 k0_t5) a + S1x16.size a ≤ S128x128.size a := fun v92 k0_hw2 k0_t4 k0_t5 => k0_hw2.2.1.2.2.2.2.2.2.2.2.2.1 k0_t4 k0_t5
theorem k0_off94_inb : ∀ (v92 : BitVec 32) (k0_hw2 : k0_chk2 v92) (k0_t4 : Fin (k0_t4_loop v92).trips) (k0_t5 : Fin k0_t5_loop.trips), ∀ a, (k0_off94 v92 k0_t4 k0_t5) a + S1x16.size a ≤ S128x128.size a := fun v92 k0_hw2 k0_t4 k0_t5 => k0_hw2.2.1.2.2.2.2.2.2.2.2.2.2.1 k0_t4 k0_t5
theorem k0_off96_inb : ∀ (v92 : BitVec 32) (k0_hw2 : k0_chk2 v92) (k0_t4 : Fin (k0_t4_loop v92).trips) (k0_t5 : Fin k0_t5_loop.trips), ∀ a, (k0_off96 v92 k0_t4 k0_t5) a + S1x16.size a ≤ S128x128.size a := fun v92 k0_hw2 k0_t4 k0_t5 => k0_hw2.2.1.2.2.2.2.2.2.2.2.2.2.2.1 k0_t4 k0_t5
theorem k0_off98_inb : ∀ (v92 : BitVec 32) (k0_hw2 : k0_chk2 v92) (k0_t4 : Fin (k0_t4_loop v92).trips) (k0_t5 : Fin k0_t5_loop.trips), ∀ a, (k0_off98 v92 k0_t4 k0_t5) a + S1x16.size a ≤ S128x128.size a := fun v92 k0_hw2 k0_t4 k0_t5 => k0_hw2.2.1.2.2.2.2.2.2.2.2.2.2.2.2.1 k0_t4 k0_t5
theorem k0_off100_inb : ∀ (v92 : BitVec 32) (k0_hw2 : k0_chk2 v92) (k0_t4 : Fin (k0_t4_loop v92).trips) (k0_t5 : Fin k0_t5_loop.trips), ∀ a, (k0_off100 v92 k0_t4 k0_t5) a + S1x16.size a ≤ S128x128.size a := fun v92 k0_hw2 k0_t4 k0_t5 => k0_hw2.2.1.2.2.2.2.2.2.2.2.2.2.2.2.2.1 k0_t4 k0_t5
theorem k0_off102_inb : ∀ (v92 : BitVec 32) (k0_hw2 : k0_chk2 v92) (k0_t4 : Fin (k0_t4_loop v92).trips) (k0_t5 : Fin k0_t5_loop.trips), ∀ a, (k0_off102 v92 k0_t4 k0_t5) a + S1x16.size a ≤ S128x128.size a := fun v92 k0_hw2 k0_t4 k0_t5 => k0_hw2.2.1.2.2.2.2.2.2.2.2.2.2.2.2.2.2.1 k0_t4 k0_t5
theorem k0_off104_inb : ∀ (v92 : BitVec 32) (k0_hw2 : k0_chk2 v92) (k0_t4 : Fin (k0_t4_loop v92).trips) (k0_t5 : Fin k0_t5_loop.trips), ∀ a, (k0_off104 v92 k0_t4 k0_t5) a + S1x16.size a ≤ S128x128.size a := fun v92 k0_hw2 k0_t4 k0_t5 => k0_hw2.2.1.2.2.2.2.2.2.2.2.2.2.2.2.2.2.2.1 k0_t4 k0_t5
theorem k0_off106_inb : ∀ (v92 : BitVec 32) (k0_hw2 : k0_chk2 v92) (k0_t4 : Fin (k0_t4_loop v92).trips) (k0_t5 : Fin k0_t5_loop.trips), ∀ a, (k0_off106 v92 k0_t4 k0_t5) a + S1x16.size a ≤ S128x128.size a := fun v92 k0_hw2 k0_t4 k0_t5 => k0_hw2.2.1.2.2.2.2.2.2.2.2.2.2.2.2.2.2.2.2.1 k0_t4 k0_t5
theorem k0_off108_inb : ∀ (v92 : BitVec 32) (k0_hw2 : k0_chk2 v92) (k0_t4 : Fin (k0_t4_loop v92).trips) (k0_t5 : Fin k0_t5_loop.trips), ∀ a, (k0_off108 v92 k0_t4 k0_t5) a + S1x16.size a ≤ S128x128.size a := fun v92 k0_hw2 k0_t4 k0_t5 => k0_hw2.2.1.2.2.2.2.2.2.2.2.2.2.2.2.2.2.2.2.2.1 k0_t4 k0_t5
theorem k0_off110_inb : ∀ (v92 : BitVec 32) (k0_hw2 : k0_chk2 v92) (k0_t4 : Fin (k0_t4_loop v92).trips) (k0_t5 : Fin k0_t5_loop.trips), ∀ a, (k0_off110 v92 k0_t4 k0_t5) a + S1x16.size a ≤ S128x128.size a := fun v92 k0_hw2 k0_t4 k0_t5 => k0_hw2.2.1.2.2.2.2.2.2.2.2.2.2.2.2.2.2.2.2.2.2.1 k0_t4 k0_t5
theorem k0_off112_inb : ∀ (v92 : BitVec 32) (k0_hw2 : k0_chk2 v92) (k0_t4 : Fin (k0_t4_loop v92).trips) (k0_t5 : Fin k0_t5_loop.trips), ∀ a, (k0_off112 v92 k0_t4 k0_t5) a + S1x16.size a ≤ S128x128.size a := fun v92 k0_hw2 k0_t4 k0_t5 => k0_hw2.2.1.2.2.2.2.2.2.2.2.2.2.2.2.2.2.2.2.2.2.2.1 k0_t4 k0_t5
theorem k0_off114_inb : ∀ (v92 : BitVec 32) (k0_hw2 : k0_chk2 v92) (k0_t4 : Fin (k0_t4_loop v92).trips) (k0_t5 : Fin k0_t5_loop.trips), ∀ a, (k0_off114 v92 k0_t4 k0_t5) a + S1x16.size a ≤ S128x128.size a := fun v92 k0_hw2 k0_t4 k0_t5 => k0_hw2.2.1.2.2.2.2.2.2.2.2.2.2.2.2.2.2.2.2.2.2.2.2.1 k0_t4 k0_t5
theorem k0_off116_inb : ∀ (v92 : BitVec 32) (k0_hw2 : k0_chk2 v92) (k0_t4 : Fin (k0_t4_loop v92).trips) (k0_t5 : Fin k0_t5_loop.trips), ∀ a, (k0_off116 v92 k0_t4 k0_t5) a + S1x16.size a ≤ S128x128.size a := fun v92 k0_hw2 k0_t4 k0_t5 => k0_hw2.2.1.2.2.2.2.2.2.2.2.2.2.2.2.2.2.2.2.2.2.2.2.2.1 k0_t4 k0_t5
theorem k0_off118_inb : ∀ (v92 : BitVec 32) (k0_hw2 : k0_chk2 v92) (k0_t4 : Fin (k0_t4_loop v92).trips) (k0_t5 : Fin k0_t5_loop.trips), ∀ a, (k0_off118 v92 k0_t4 k0_t5) a + S1x16.size a ≤ S128x128.size a := fun v92 k0_hw2 k0_t4 k0_t5 => k0_hw2.2.1.2.2.2.2.2.2.2.2.2.2.2.2.2.2.2.2.2.2.2.2.2.2.1 k0_t4 k0_t5
theorem k0_off120_inb : ∀ (v92 : BitVec 32) (k0_hw2 : k0_chk2 v92) (k0_t4 : Fin (k0_t4_loop v92).trips) (k0_t5 : Fin k0_t5_loop.trips), ∀ a, (k0_off120 v92 k0_t4 k0_t5) a + S1x16.size a ≤ S128x128.size a := fun v92 k0_hw2 k0_t4 k0_t5 => k0_hw2.2.1.2.2.2.2.2.2.2.2.2.2.2.2.2.2.2.2.2.2.2.2.2.2.2.1 k0_t4 k0_t5
theorem k0_off122_inb : ∀ (v92 : BitVec 32) (k0_hw2 : k0_chk2 v92) (k0_t4 : Fin (k0_t4_loop v92).trips) (k0_t5 : Fin k0_t5_loop.trips), ∀ a, (k0_off122 v92 k0_t4 k0_t5) a + S1x16.size a ≤ S128x128.size a := fun v92 k0_hw2 k0_t4 k0_t5 => k0_hw2.2.1.2.2.2.2.2.2.2.2.2.2.2.2.2.2.2.2.2.2.2.2.2.2.2.2.1 k0_t4 k0_t5
theorem k0_off124_inb : ∀ (v92 : BitVec 32) (k0_hw2 : k0_chk2 v92) (k0_t4 : Fin (k0_t4_loop v92).trips) (k0_t5 : Fin k0_t5_loop.trips), ∀ a, (k0_off124 v92 k0_t4 k0_t5) a + S1x16.size a ≤ S128x128.size a := fun v92 k0_hw2 k0_t4 k0_t5 => k0_hw2.2.1.2.2.2.2.2.2.2.2.2.2.2.2.2.2.2.2.2.2.2.2.2.2.2.2.2.1 k0_t4 k0_t5
theorem k0_off126_inb : ∀ (v92 : BitVec 32) (k0_hw2 : k0_chk2 v92) (k0_t4 : Fin (k0_t4_loop v92).trips) (k0_t5 : Fin k0_t5_loop.trips), ∀ a, (k0_off126 v92 k0_t4 k0_t5) a + S1x16.size a ≤ S128x128.size a := fun v92 k0_hw2 k0_t4 k0_t5 => k0_hw2.2.1.2.2.2.2.2.2.2.2.2.2.2.2.2.2.2.2.2.2.2.2.2.2.2.2.2.2.1 k0_t4 k0_t5
theorem k0_off128_inb : ∀ (v92 : BitVec 32) (k0_hw2 : k0_chk2 v92) (k0_t4 : Fin (k0_t4_loop v92).trips) (k0_t5 : Fin k0_t5_loop.trips), ∀ a, (k0_off128 v92 k0_t4 k0_t5) a + S1x16.size a ≤ S128x128.size a := fun v92 k0_hw2 k0_t4 k0_t5 => k0_hw2.2.1.2.2.2.2.2.2.2.2.2.2.2.2.2.2.2.2.2.2.2.2.2.2.2.2.2.2.2.1 k0_t4 k0_t5
theorem k0_off130_inb : ∀ (v92 : BitVec 32) (k0_hw2 : k0_chk2 v92) (k0_t4 : Fin (k0_t4_loop v92).trips) (k0_t5 : Fin k0_t5_loop.trips), ∀ a, (k0_off130 v92 k0_t4 k0_t5) a + S1x16.size a ≤ S128x128.size a := fun v92 k0_hw2 k0_t4 k0_t5 => k0_hw2.2.1.2.2.2.2.2.2.2.2.2.2.2.2.2.2.2.2.2.2.2.2.2.2.2.2.2.2.2.2.1 k0_t4 k0_t5
theorem k0_off132_inb : ∀ (v92 : BitVec 32) (k0_hw2 : k0_chk2 v92) (k0_t4 : Fin (k0_t4_loop v92).trips) (k0_t5 : Fin k0_t5_loop.trips), ∀ a, (k0_off132 v92 k0_t4 k0_t5) a + S1x16.size a ≤ S128x128.size a := fun v92 k0_hw2 k0_t4 k0_t5 => k0_hw2.2.1.2.2.2.2.2.2.2.2.2.2.2.2.2.2.2.2.2.2.2.2.2.2.2.2.2.2.2.2.2.1 k0_t4 k0_t5
theorem k0_off134_inb : ∀ (v92 : BitVec 32) (k0_hw2 : k0_chk2 v92) (k0_t4 : Fin (k0_t4_loop v92).trips) (k0_t5 : Fin k0_t5_loop.trips), ∀ a, (k0_off134 v92 k0_t4 k0_t5) a + S1x16.size a ≤ S128x128.size a := fun v92 k0_hw2 k0_t4 k0_t5 => k0_hw2.2.1.2.2.2.2.2.2.2.2.2.2.2.2.2.2.2.2.2.2.2.2.2.2.2.2.2.2.2.2.2.2.1 k0_t4 k0_t5
theorem k0_off136_inb : ∀ (v92 : BitVec 32) (k0_hw2 : k0_chk2 v92) (k0_t4 : Fin (k0_t4_loop v92).trips) (k0_t5 : Fin k0_t5_loop.trips), ∀ a, (k0_off136 v92 k0_t4 k0_t5) a + S1x16.size a ≤ S128x128.size a := fun v92 k0_hw2 k0_t4 k0_t5 => k0_hw2.2.1.2.2.2.2.2.2.2.2.2.2.2.2.2.2.2.2.2.2.2.2.2.2.2.2.2.2.2.2.2.2.2 k0_t4 k0_t5
theorem k0_off138_inb : ∀ (v92 : BitVec 32) (k0_hw2 : k0_chk2 v92) (k0_t4 : Fin (k0_t4_loop v92).trips) (k0_t5 : Fin k0_t5_loop.trips), ∀ a, (k0_off138 v92 k0_t4 k0_t5) a + S1x16.size a ≤ S128x128.size a := fun v92 k0_hw2 k0_t4 k0_t5 => k0_hw2.2.2.1.1 k0_t4 k0_t5
theorem k0_off140_inb : ∀ (v92 : BitVec 32) (k0_hw2 : k0_chk2 v92) (k0_t4 : Fin (k0_t4_loop v92).trips) (k0_t5 : Fin k0_t5_loop.trips), ∀ a, (k0_off140 v92 k0_t4 k0_t5) a + S1x16.size a ≤ S128x128.size a := fun v92 k0_hw2 k0_t4 k0_t5 => k0_hw2.2.2.1.2.1 k0_t4 k0_t5
theorem k0_off142_inb : ∀ (v92 : BitVec 32) (k0_hw2 : k0_chk2 v92) (k0_t4 : Fin (k0_t4_loop v92).trips) (k0_t5 : Fin k0_t5_loop.trips), ∀ a, (k0_off142 v92 k0_t4 k0_t5) a + S1x16.size a ≤ S128x128.size a := fun v92 k0_hw2 k0_t4 k0_t5 => k0_hw2.2.2.1.2.2.1 k0_t4 k0_t5
theorem k0_off144_inb : ∀ (v92 : BitVec 32) (k0_hw2 : k0_chk2 v92) (k0_t4 : Fin (k0_t4_loop v92).trips) (k0_t5 : Fin k0_t5_loop.trips), ∀ a, (k0_off144 v92 k0_t4 k0_t5) a + S1x16.size a ≤ S128x128.size a := fun v92 k0_hw2 k0_t4 k0_t5 => k0_hw2.2.2.1.2.2.2.1 k0_t4 k0_t5
theorem k0_off146_inb : ∀ (v92 : BitVec 32) (k0_hw2 : k0_chk2 v92) (k0_t4 : Fin (k0_t4_loop v92).trips) (k0_t5 : Fin k0_t5_loop.trips), ∀ a, (k0_off146 v92 k0_t4 k0_t5) a + S1x16.size a ≤ S128x128.size a := fun v92 k0_hw2 k0_t4 k0_t5 => k0_hw2.2.2.1.2.2.2.2.1 k0_t4 k0_t5
theorem k0_off148_inb : ∀ (v92 : BitVec 32) (k0_hw2 : k0_chk2 v92) (k0_t4 : Fin (k0_t4_loop v92).trips) (k0_t5 : Fin k0_t5_loop.trips), ∀ a, (k0_off148 v92 k0_t4 k0_t5) a + S1x16.size a ≤ S128x128.size a := fun v92 k0_hw2 k0_t4 k0_t5 => k0_hw2.2.2.1.2.2.2.2.2.1 k0_t4 k0_t5
theorem k0_off150_inb : ∀ (v92 : BitVec 32) (k0_hw2 : k0_chk2 v92) (k0_t4 : Fin (k0_t4_loop v92).trips) (k0_t5 : Fin k0_t5_loop.trips), ∀ a, (k0_off150 v92 k0_t4 k0_t5) a + S1x16.size a ≤ S128x128.size a := fun v92 k0_hw2 k0_t4 k0_t5 => k0_hw2.2.2.1.2.2.2.2.2.2.1 k0_t4 k0_t5
theorem k0_off152_inb : ∀ (v92 : BitVec 32) (k0_hw2 : k0_chk2 v92) (k0_t4 : Fin (k0_t4_loop v92).trips) (k0_t5 : Fin k0_t5_loop.trips), ∀ a, (k0_off152 v92 k0_t4 k0_t5) a + S1x16.size a ≤ S128x128.size a := fun v92 k0_hw2 k0_t4 k0_t5 => k0_hw2.2.2.1.2.2.2.2.2.2.2.1 k0_t4 k0_t5
theorem k0_off154_inb : ∀ (v92 : BitVec 32) (k0_hw2 : k0_chk2 v92) (k0_t4 : Fin (k0_t4_loop v92).trips) (k0_t5 : Fin k0_t5_loop.trips), ∀ a, (k0_off154 v92 k0_t4 k0_t5) a + S1x16.size a ≤ S128x128.size a := fun v92 k0_hw2 k0_t4 k0_t5 => k0_hw2.2.2.1.2.2.2.2.2.2.2.2.1 k0_t4 k0_t5
theorem k0_off156_inb : ∀ (v92 : BitVec 32) (k0_hw2 : k0_chk2 v92) (k0_t4 : Fin (k0_t4_loop v92).trips) (k0_t5 : Fin k0_t5_loop.trips), ∀ a, (k0_off156 v92 k0_t4 k0_t5) a + S1x16.size a ≤ S128x128.size a := fun v92 k0_hw2 k0_t4 k0_t5 => k0_hw2.2.2.1.2.2.2.2.2.2.2.2.2.1 k0_t4 k0_t5
theorem k0_off158_inb : ∀ (v92 : BitVec 32) (k0_hw2 : k0_chk2 v92) (k0_t4 : Fin (k0_t4_loop v92).trips) (k0_t5 : Fin k0_t5_loop.trips), ∀ a, (k0_off158 v92 k0_t4 k0_t5) a + S1x16.size a ≤ S128x128.size a := fun v92 k0_hw2 k0_t4 k0_t5 => k0_hw2.2.2.1.2.2.2.2.2.2.2.2.2.2.1 k0_t4 k0_t5
theorem k0_off160_inb : ∀ (v92 : BitVec 32) (k0_hw2 : k0_chk2 v92) (k0_t4 : Fin (k0_t4_loop v92).trips) (k0_t5 : Fin k0_t5_loop.trips), ∀ a, (k0_off160 v92 k0_t4 k0_t5) a + S1x16.size a ≤ S128x128.size a := fun v92 k0_hw2 k0_t4 k0_t5 => k0_hw2.2.2.1.2.2.2.2.2.2.2.2.2.2.2.1 k0_t4 k0_t5
theorem k0_off162_inb : ∀ (v92 : BitVec 32) (k0_hw2 : k0_chk2 v92) (k0_t4 : Fin (k0_t4_loop v92).trips) (k0_t5 : Fin k0_t5_loop.trips), ∀ a, (k0_off162 v92 k0_t4 k0_t5) a + S1x16.size a ≤ S128x128.size a := fun v92 k0_hw2 k0_t4 k0_t5 => k0_hw2.2.2.1.2.2.2.2.2.2.2.2.2.2.2.2.1 k0_t4 k0_t5
theorem k0_off164_inb : ∀ (v92 : BitVec 32) (k0_hw2 : k0_chk2 v92) (k0_t4 : Fin (k0_t4_loop v92).trips) (k0_t5 : Fin k0_t5_loop.trips), ∀ a, (k0_off164 v92 k0_t4 k0_t5) a + S1x16.size a ≤ S128x128.size a := fun v92 k0_hw2 k0_t4 k0_t5 => k0_hw2.2.2.1.2.2.2.2.2.2.2.2.2.2.2.2.2.1 k0_t4 k0_t5
theorem k0_off166_inb : ∀ (v92 : BitVec 32) (k0_hw2 : k0_chk2 v92) (k0_t4 : Fin (k0_t4_loop v92).trips) (k0_t5 : Fin k0_t5_loop.trips), ∀ a, (k0_off166 v92 k0_t4 k0_t5) a + S1x16.size a ≤ S128x128.size a := fun v92 k0_hw2 k0_t4 k0_t5 => k0_hw2.2.2.1.2.2.2.2.2.2.2.2.2.2.2.2.2.2.1 k0_t4 k0_t5
theorem k0_off168_inb : ∀ (v92 : BitVec 32) (k0_hw2 : k0_chk2 v92) (k0_t4 : Fin (k0_t4_loop v92).trips) (k0_t5 : Fin k0_t5_loop.trips), ∀ a, (k0_off168 v92 k0_t4 k0_t5) a + S1x16.size a ≤ S128x128.size a := fun v92 k0_hw2 k0_t4 k0_t5 => k0_hw2.2.2.1.2.2.2.2.2.2.2.2.2.2.2.2.2.2.2.1 k0_t4 k0_t5
theorem k0_off170_inb : ∀ (v92 : BitVec 32) (k0_hw2 : k0_chk2 v92) (k0_t4 : Fin (k0_t4_loop v92).trips) (k0_t5 : Fin k0_t5_loop.trips), ∀ a, (k0_off170 v92 k0_t4 k0_t5) a + S1x16.size a ≤ S128x128.size a := fun v92 k0_hw2 k0_t4 k0_t5 => k0_hw2.2.2.1.2.2.2.2.2.2.2.2.2.2.2.2.2.2.2.2.1 k0_t4 k0_t5
theorem k0_off172_inb : ∀ (v92 : BitVec 32) (k0_hw2 : k0_chk2 v92) (k0_t4 : Fin (k0_t4_loop v92).trips) (k0_t5 : Fin k0_t5_loop.trips), ∀ a, (k0_off172 v92 k0_t4 k0_t5) a + S1x16.size a ≤ S128x128.size a := fun v92 k0_hw2 k0_t4 k0_t5 => k0_hw2.2.2.1.2.2.2.2.2.2.2.2.2.2.2.2.2.2.2.2.2.1 k0_t4 k0_t5
theorem k0_off174_inb : ∀ (v92 : BitVec 32) (k0_hw2 : k0_chk2 v92) (k0_t4 : Fin (k0_t4_loop v92).trips) (k0_t5 : Fin k0_t5_loop.trips), ∀ a, (k0_off174 v92 k0_t4 k0_t5) a + S1x16.size a ≤ S128x128.size a := fun v92 k0_hw2 k0_t4 k0_t5 => k0_hw2.2.2.1.2.2.2.2.2.2.2.2.2.2.2.2.2.2.2.2.2.2.1 k0_t4 k0_t5
theorem k0_off176_inb : ∀ (v92 : BitVec 32) (k0_hw2 : k0_chk2 v92) (k0_t4 : Fin (k0_t4_loop v92).trips) (k0_t5 : Fin k0_t5_loop.trips), ∀ a, (k0_off176 v92 k0_t4 k0_t5) a + S1x16.size a ≤ S128x128.size a := fun v92 k0_hw2 k0_t4 k0_t5 => k0_hw2.2.2.1.2.2.2.2.2.2.2.2.2.2.2.2.2.2.2.2.2.2.2.1 k0_t4 k0_t5
theorem k0_off178_inb : ∀ (v92 : BitVec 32) (k0_hw2 : k0_chk2 v92) (k0_t4 : Fin (k0_t4_loop v92).trips) (k0_t5 : Fin k0_t5_loop.trips), ∀ a, (k0_off178 v92 k0_t4 k0_t5) a + S1x16.size a ≤ S128x128.size a := fun v92 k0_hw2 k0_t4 k0_t5 => k0_hw2.2.2.1.2.2.2.2.2.2.2.2.2.2.2.2.2.2.2.2.2.2.2.2.1 k0_t4 k0_t5
theorem k0_off180_inb : ∀ (v92 : BitVec 32) (k0_hw2 : k0_chk2 v92) (k0_t4 : Fin (k0_t4_loop v92).trips) (k0_t5 : Fin k0_t5_loop.trips), ∀ a, (k0_off180 v92 k0_t4 k0_t5) a + S1x16.size a ≤ S128x128.size a := fun v92 k0_hw2 k0_t4 k0_t5 => k0_hw2.2.2.1.2.2.2.2.2.2.2.2.2.2.2.2.2.2.2.2.2.2.2.2.2.1 k0_t4 k0_t5
theorem k0_off182_inb : ∀ (v92 : BitVec 32) (k0_hw2 : k0_chk2 v92) (k0_t4 : Fin (k0_t4_loop v92).trips) (k0_t5 : Fin k0_t5_loop.trips), ∀ a, (k0_off182 v92 k0_t4 k0_t5) a + S1x16.size a ≤ S128x128.size a := fun v92 k0_hw2 k0_t4 k0_t5 => k0_hw2.2.2.1.2.2.2.2.2.2.2.2.2.2.2.2.2.2.2.2.2.2.2.2.2.2.1 k0_t4 k0_t5
theorem k0_off184_inb : ∀ (v92 : BitVec 32) (k0_hw2 : k0_chk2 v92) (k0_t4 : Fin (k0_t4_loop v92).trips) (k0_t5 : Fin k0_t5_loop.trips), ∀ a, (k0_off184 v92 k0_t4 k0_t5) a + S1x16.size a ≤ S128x128.size a := fun v92 k0_hw2 k0_t4 k0_t5 => k0_hw2.2.2.1.2.2.2.2.2.2.2.2.2.2.2.2.2.2.2.2.2.2.2.2.2.2.2.1 k0_t4 k0_t5
theorem k0_off186_inb : ∀ (v92 : BitVec 32) (k0_hw2 : k0_chk2 v92) (k0_t4 : Fin (k0_t4_loop v92).trips) (k0_t5 : Fin k0_t5_loop.trips), ∀ a, (k0_off186 v92 k0_t4 k0_t5) a + S1x16.size a ≤ S128x128.size a := fun v92 k0_hw2 k0_t4 k0_t5 => k0_hw2.2.2.1.2.2.2.2.2.2.2.2.2.2.2.2.2.2.2.2.2.2.2.2.2.2.2.2.1 k0_t4 k0_t5
theorem k0_off188_inb : ∀ (v92 : BitVec 32) (k0_hw2 : k0_chk2 v92) (k0_t4 : Fin (k0_t4_loop v92).trips) (k0_t5 : Fin k0_t5_loop.trips), ∀ a, (k0_off188 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.1 k0_t4 k0_t5
theorem k0_off190_inb : ∀ (v92 : BitVec 32) (k0_hw2 : k0_chk2 v92) (k0_t4 : Fin (k0_t4_loop v92).trips) (k0_t5 : Fin k0_t5_loop.trips), ∀ a, (k0_off190 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.2.1 k0_t4 k0_t5
theorem k0_off192_inb : ∀ (v92 : BitVec 32) (k0_hw2 : k0_chk2 v92) (k0_t4 : Fin (k0_t4_loop v92).trips) (k0_t5 : Fin k0_t5_loop.trips), ∀ a, (k0_off192 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.2.2.1 k0_t4 k0_t5
theorem k0_off194_inb : ∀ (v92 : BitVec 32) (k0_hw2 : k0_chk2 v92) (k0_t4 : Fin (k0_t4_loop v92).trips) (k0_t5 : Fin k0_t5_loop.trips), ∀ a, (k0_off194 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.2.2.2.1 k0_t4 k0_t5
theorem k0_off196_inb : ∀ (v92 : BitVec 32) (k0_hw2 : k0_chk2 v92) (k0_t4 : Fin (k0_t4_loop v92).trips) (k0_t5 : Fin k0_t5_loop.trips), ∀ a, (k0_off196 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.2.2.2.2.1 k0_t4 k0_t5
theorem k0_off198_inb : ∀ (v92 : BitVec 32) (k0_hw2 : k0_chk2 v92) (k0_t4 : Fin (k0_t4_loop v92).trips) (k0_t5 : Fin k0_t5_loop.trips), ∀ a, (k0_off198 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.2.2.2.2.2.1 k0_t4 k0_t5
theorem k0_off200_inb : ∀ (v92 : BitVec 32) (k0_hw2 : k0_chk2 v92) (k0_t4 : Fin (k0_t4_loop v92).trips) (k0_t5 : Fin k0_t5_loop.trips), ∀ a, (k0_off200 v92 k0_t4 k0_t5) a + S1x16.size a ≤ S128x128.size a := fun v92 k0_hw2 k0_t4 k0_t5 => k0_hw2.2.2.1.2.2.2.2.2.2.2.2.2.2.2.2.2.2.2.2.2.2.2.2.2.2.2.2.2.2.2.2.2.2.2 k0_t4 k0_t5
theorem k0_off202_inb : ∀ (v92 : BitVec 32) (k0_hw2 : k0_chk2 v92) (k0_t4 : Fin (k0_t4_loop v92).trips) (k0_t5 : Fin k0_t5_loop.trips), ∀ a, (k0_off202 v92 k0_t4 k0_t5) a + S1x16.size a ≤ S128x128.size a := fun v92 k0_hw2 k0_t4 k0_t5 => k0_hw2.2.2.2.1.1 k0_t4 k0_t5
theorem k0_off204_inb : ∀ (v92 : BitVec 32) (k0_hw2 : k0_chk2 v92) (k0_t4 : Fin (k0_t4_loop v92).trips) (k0_t5 : Fin k0_t5_loop.trips), ∀ a, (k0_off204 v92 k0_t4 k0_t5) a + S1x16.size a ≤ S128x128.size a := fun v92 k0_hw2 k0_t4 k0_t5 => k0_hw2.2.2.2.1.2.1 k0_t4 k0_t5
theorem k0_off206_inb : ∀ (v92 : BitVec 32) (k0_hw2 : k0_chk2 v92) (k0_t4 : Fin (k0_t4_loop v92).trips) (k0_t5 : Fin k0_t5_loop.trips), ∀ a, (k0_off206 v92 k0_t4 k0_t5) a + S1x16.size a ≤ S128x128.size a := fun v92 k0_hw2 k0_t4 k0_t5 => k0_hw2.2.2.2.1.2.2.1 k0_t4 k0_t5
theorem k0_off208_inb : ∀ (v92 : BitVec 32) (k0_hw2 : k0_chk2 v92) (k0_t4 : Fin (k0_t4_loop v92).trips) (k0_t5 : Fin k0_t5_loop.trips), ∀ a, (k0_off208 v92 k0_t4 k0_t5) a + S1x16.size a ≤ S128x128.size a := fun v92 k0_hw2 k0_t4 k0_t5 => k0_hw2.2.2.2.1.2.2.2.1 k0_t4 k0_t5
theorem k0_off210_inb : ∀ (v92 : BitVec 32) (k0_hw2 : k0_chk2 v92) (k0_t4 : Fin (k0_t4_loop v92).trips) (k0_t5 : Fin k0_t5_loop.trips), ∀ a, (k0_off210 v92 k0_t4 k0_t5) a + S1x16.size a ≤ S128x128.size a := fun v92 k0_hw2 k0_t4 k0_t5 => k0_hw2.2.2.2.1.2.2.2.2.1 k0_t4 k0_t5
theorem k0_off212_inb : ∀ (v92 : BitVec 32) (k0_hw2 : k0_chk2 v92) (k0_t4 : Fin (k0_t4_loop v92).trips) (k0_t5 : Fin k0_t5_loop.trips), ∀ a, (k0_off212 v92 k0_t4 k0_t5) a + S1x16.size a ≤ S128x128.size a := fun v92 k0_hw2 k0_t4 k0_t5 => k0_hw2.2.2.2.1.2.2.2.2.2.1 k0_t4 k0_t5
theorem k0_off214_inb : ∀ (v92 : BitVec 32) (k0_hw2 : k0_chk2 v92) (k0_t4 : Fin (k0_t4_loop v92).trips) (k0_t5 : Fin k0_t5_loop.trips), ∀ a, (k0_off214 v92 k0_t4 k0_t5) a + S1x16.size a ≤ S128x128.size a := fun v92 k0_hw2 k0_t4 k0_t5 => k0_hw2.2.2.2.1.2.2.2.2.2.2.1 k0_t4 k0_t5
theorem k0_off216_inb : ∀ (v92 : BitVec 32) (k0_hw2 : k0_chk2 v92) (k0_t4 : Fin (k0_t4_loop v92).trips) (k0_t5 : Fin k0_t5_loop.trips), ∀ a, (k0_off216 v92 k0_t4 k0_t5) a + S1x16.size a ≤ S128x128.size a := fun v92 k0_hw2 k0_t4 k0_t5 => k0_hw2.2.2.2.1.2.2.2.2.2.2.2.1 k0_t4 k0_t5
theorem k0_off218_inb : ∀ (v92 : BitVec 32) (k0_hw2 : k0_chk2 v92) (k0_t4 : Fin (k0_t4_loop v92).trips) (k0_t5 : Fin k0_t5_loop.trips), ∀ a, (k0_off218 v92 k0_t4 k0_t5) a + S1x16.size a ≤ S128x128.size a := fun v92 k0_hw2 k0_t4 k0_t5 => k0_hw2.2.2.2.1.2.2.2.2.2.2.2.2.1 k0_t4 k0_t5
theorem k0_off220_inb : ∀ (v92 : BitVec 32) (k0_hw2 : k0_chk2 v92) (k0_t4 : Fin (k0_t4_loop v92).trips) (k0_t5 : Fin k0_t5_loop.trips), ∀ a, (k0_off220 v92 k0_t4 k0_t5) a + S1x16.size a ≤ S128x128.size a := fun v92 k0_hw2 k0_t4 k0_t5 => k0_hw2.2.2.2.1.2.2.2.2.2.2.2.2.2.1 k0_t4 k0_t5
theorem k0_off222_inb : ∀ (v92 : BitVec 32) (k0_hw2 : k0_chk2 v92) (k0_t4 : Fin (k0_t4_loop v92).trips) (k0_t5 : Fin k0_t5_loop.trips), ∀ a, (k0_off222 v92 k0_t4 k0_t5) a + S1x16.size a ≤ S128x128.size a := fun v92 k0_hw2 k0_t4 k0_t5 => k0_hw2.2.2.2.1.2.2.2.2.2.2.2.2.2.2.1 k0_t4 k0_t5
theorem k0_off224_inb : ∀ (v92 : BitVec 32) (k0_hw2 : k0_chk2 v92) (k0_t4 : Fin (k0_t4_loop v92).trips) (k0_t5 : Fin k0_t5_loop.trips), ∀ a, (k0_off224 v92 k0_t4 k0_t5) a + S1x16.size a ≤ S128x128.size a := fun v92 k0_hw2 k0_t4 k0_t5 => k0_hw2.2.2.2.1.2.2.2.2.2.2.2.2.2.2.2.1 k0_t4 k0_t5
theorem k0_off226_inb : ∀ (v92 : BitVec 32) (k0_hw2 : k0_chk2 v92) (k0_t4 : Fin (k0_t4_loop v92).trips) (k0_t5 : Fin k0_t5_loop.trips), ∀ a, (k0_off226 v92 k0_t4 k0_t5) a + S1x16.size a ≤ S128x128.size a := fun v92 k0_hw2 k0_t4 k0_t5 => k0_hw2.2.2.2.1.2.2.2.2.2.2.2.2.2.2.2.2.1 k0_t4 k0_t5
theorem k0_off228_inb : ∀ (v92 : BitVec 32) (k0_hw2 : k0_chk2 v92) (k0_t4 : Fin (k0_t4_loop v92).trips) (k0_t5 : Fin k0_t5_loop.trips), ∀ a, (k0_off228 v92 k0_t4 k0_t5) a + S1x16.size a ≤ S128x128.size a := fun v92 k0_hw2 k0_t4 k0_t5 => k0_hw2.2.2.2.1.2.2.2.2.2.2.2.2.2.2.2.2.2.1 k0_t4 k0_t5
theorem k0_off230_inb : ∀ (v92 : BitVec 32) (k0_hw2 : k0_chk2 v92) (k0_t4 : Fin (k0_t4_loop v92).trips) (k0_t5 : Fin k0_t5_loop.trips), ∀ a, (k0_off230 v92 k0_t4 k0_t5) a + S1x16.size a ≤ S128x128.size a := fun v92 k0_hw2 k0_t4 k0_t5 => k0_hw2.2.2.2.1.2.2.2.2.2.2.2.2.2.2.2.2.2.2.1 k0_t4 k0_t5
theorem k0_off232_inb : ∀ (v92 : BitVec 32) (k0_hw2 : k0_chk2 v92) (k0_t4 : Fin (k0_t4_loop v92).trips) (k0_t5 : Fin k0_t5_loop.trips), ∀ a, (k0_off232 v92 k0_t4 k0_t5) a + S1x16.size a ≤ S128x128.size a := fun v92 k0_hw2 k0_t4 k0_t5 => k0_hw2.2.2.2.1.2.2.2.2.2.2.2.2.2.2.2.2.2.2.2.1 k0_t4 k0_t5
theorem k0_off234_inb : ∀ (v92 : BitVec 32) (k0_hw2 : k0_chk2 v92) (k0_t4 : Fin (k0_t4_loop v92).trips) (k0_t5 : Fin k0_t5_loop.trips), ∀ a, (k0_off234 v92 k0_t4 k0_t5) a + S1x16.size a ≤ S128x128.size a := fun v92 k0_hw2 k0_t4 k0_t5 => k0_hw2.2.2.2.1.2.2.2.2.2.2.2.2.2.2.2.2.2.2.2.2.1 k0_t4 k0_t5
theorem k0_off236_inb : ∀ (v92 : BitVec 32) (k0_hw2 : k0_chk2 v92) (k0_t4 : Fin (k0_t4_loop v92).trips) (k0_t5 : Fin k0_t5_loop.trips), ∀ a, (k0_off236 v92 k0_t4 k0_t5) a + S1x16.size a ≤ S128x128.size a := fun v92 k0_hw2 k0_t4 k0_t5 => k0_hw2.2.2.2.1.2.2.2.2.2.2.2.2.2.2.2.2.2.2.2.2.2.1 k0_t4 k0_t5
theorem k0_off238_inb : ∀ (v92 : BitVec 32) (k0_hw2 : k0_chk2 v92) (k0_t4 : Fin (k0_t4_loop v92).trips) (k0_t5 : Fin k0_t5_loop.trips), ∀ a, (k0_off238 v92 k0_t4 k0_t5) a + S1x16.size a ≤ S128x128.size a := fun v92 k0_hw2 k0_t4 k0_t5 => k0_hw2.2.2.2.1.2.2.2.2.2.2.2.2.2.2.2.2.2.2.2.2.2.2.1 k0_t4 k0_t5
theorem k0_off240_inb : ∀ (v92 : BitVec 32) (k0_hw2 : k0_chk2 v92) (k0_t4 : Fin (k0_t4_loop v92).trips) (k0_t5 : Fin k0_t5_loop.trips), ∀ a, (k0_off240 v92 k0_t4 k0_t5) a + S1x16.size a ≤ S128x128.size a := fun v92 k0_hw2 k0_t4 k0_t5 => k0_hw2.2.2.2.1.2.2.2.2.2.2.2.2.2.2.2.2.2.2.2.2.2.2.2.1 k0_t4 k0_t5
theorem k0_off242_inb : ∀ (v92 : BitVec 32) (k0_hw2 : k0_chk2 v92) (k0_t4 : Fin (k0_t4_loop v92).trips) (k0_t5 : Fin k0_t5_loop.trips), ∀ a, (k0_off242 v92 k0_t4 k0_t5) a + S1x16.size a ≤ S128x128.size a := fun v92 k0_hw2 k0_t4 k0_t5 => k0_hw2.2.2.2.1.2.2.2.2.2.2.2.2.2.2.2.2.2.2.2.2.2.2.2.2.1 k0_t4 k0_t5
theorem k0_off244_inb : ∀ (v92 : BitVec 32) (k0_hw2 : k0_chk2 v92) (k0_t4 : Fin (k0_t4_loop v92).trips) (k0_t5 : Fin k0_t5_loop.trips), ∀ a, (k0_off244 v92 k0_t4 k0_t5) a + S1x16.size a ≤ S128x128.size a := fun v92 k0_hw2 k0_t4 k0_t5 => k0_hw2.2.2.2.1.2.2.2.2.2.2.2.2.2.2.2.2.2.2.2.2.2.2.2.2.2.1 k0_t4 k0_t5
theorem k0_off246_inb : ∀ (v92 : BitVec 32) (k0_hw2 : k0_chk2 v92) (k0_t4 : Fin (k0_t4_loop v92).trips) (k0_t5 : Fin k0_t5_loop.trips), ∀ a, (k0_off246 v92 k0_t4 k0_t5) a + S1x16.size a ≤ S128x128.size a := fun v92 k0_hw2 k0_t4 k0_t5 => k0_hw2.2.2.2.1.2.2.2.2.2.2.2.2.2.2.2.2.2.2.2.2.2.2.2.2.2.2.1 k0_t4 k0_t5
theorem k0_off248_inb : ∀ (v92 : BitVec 32) (k0_hw2 : k0_chk2 v92) (k0_t4 : Fin (k0_t4_loop v92).trips) (k0_t5 : Fin k0_t5_loop.trips), ∀ a, (k0_off248 v92 k0_t4 k0_t5) a + S1x16.size a ≤ S128x128.size a := fun v92 k0_hw2 k0_t4 k0_t5 => k0_hw2.2.2.2.1.2.2.2.2.2.2.2.2.2.2.2.2.2.2.2.2.2.2.2.2.2.2.2.1 k0_t4 k0_t5
theorem k0_off250_inb : ∀ (v92 : BitVec 32) (k0_hw2 : k0_chk2 v92) (k0_t4 : Fin (k0_t4_loop v92).trips) (k0_t5 : Fin k0_t5_loop.trips), ∀ a, (k0_off250 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.1 k0_t4 k0_t5
theorem k0_off252_inb : ∀ (v92 : BitVec 32) (k0_hw2 : k0_chk2 v92) (k0_t4 : Fin (k0_t4_loop v92).trips) (k0_t5 : Fin k0_t5_loop.trips), ∀ a, (k0_off252 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.1 k0_t4 k0_t5
theorem k0_off254_inb : ∀ (v92 : BitVec 32) (k0_hw2 : k0_chk2 v92) (k0_t4 : Fin (k0_t4_loop v92).trips) (k0_t5 : Fin k0_t5_loop.trips), ∀ a, (k0_off254 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.2.1 k0_t4 k0_t5
theorem k0_off256_inb : ∀ (v92 : BitVec 32) (k0_hw2 : k0_chk2 v92) (k0_t4 : Fin (k0_t4_loop v92).trips) (k0_t5 : Fin k0_t5_loop.trips), ∀ a, (k0_off256 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.2.2.1 k0_t4 k0_t5
theorem k0_off258_inb : ∀ (v92 : BitVec 32) (k0_hw2 : k0_chk2 v92) (k0_t4 : Fin (k0_t4_loop v92).trips) (k0_t5 : Fin k0_t5_loop.trips), ∀ a, (k0_off258 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.2.2.2.1 k0_t4 k0_t5
theorem k0_off260_inb : ∀ (v92 : BitVec 32) (k0_hw2 : k0_chk2 v92) (k0_t4 : Fin (k0_t4_loop v92).trips) (k0_t5 : Fin k0_t5_loop.trips), ∀ a, (k0_off260 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.2.2.2.2.1 k0_t4 k0_t5
theorem k0_off262_inb : ∀ (v92 : BitVec 32) (k0_hw2 : k0_chk2 v92) (k0_t4 : Fin (k0_t4_loop v92).trips) (k0_t5 : Fin k0_t5_loop.trips), ∀ a, (k0_off262 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.2.2.2.2.2.1 k0_t4 k0_t5
theorem k0_off264_inb : ∀ (v92 : BitVec 32) (k0_hw2 : k0_chk2 v92) (k0_t4 : Fin (k0_t4_loop v92).trips) (k0_t5 : Fin k0_t5_loop.trips), ∀ a, (k0_off264 v92 k0_t4 k0_t5) a + S1x16.size a ≤ S128x128.size a := fun v92 k0_hw2 k0_t4 k0_t5 => k0_hw2.2.2.2.1.2.2.2.2.2.2.2.2.2.2.2.2.2.2.2.2.2.2.2.2.2.2.2.2.2.2.2.2.2.2.2 k0_t4 k0_t5
theorem k0_off266_inb : ∀ (v92 : BitVec 32) (k0_hw2 : k0_chk2 v92) (k0_t4 : Fin (k0_t4_loop v92).trips) (k0_t5 : Fin k0_t5_loop.trips), ∀ a, (k0_off266 v92 k0_t4 k0_t5) a + S1x16.size a ≤ S128x128.size a := fun v92 k0_hw2 k0_t4 k0_t5 => k0_hw2.2.2.2.2.1.1 k0_t4 k0_t5
theorem k0_off268_inb : ∀ (v92 : BitVec 32) (k0_hw2 : k0_chk2 v92) (k0_t4 : Fin (k0_t4_loop v92).trips) (k0_t5 : Fin k0_t5_loop.trips), ∀ a, (k0_off268 v92 k0_t4 k0_t5) a + S1x16.size a ≤ S128x128.size a := fun v92 k0_hw2 k0_t4 k0_t5 => k0_hw2.2.2.2.2.1.2.1 k0_t4 k0_t5
theorem k0_off270_inb : ∀ (v92 : BitVec 32) (k0_hw2 : k0_chk2 v92) (k0_t4 : Fin (k0_t4_loop v92).trips) (k0_t5 : Fin k0_t5_loop.trips), ∀ a, (k0_off270 v92 k0_t4 k0_t5) a + S1x16.size a ≤ S128x128.size a := fun v92 k0_hw2 k0_t4 k0_t5 => k0_hw2.2.2.2.2.1.2.2.1 k0_t4 k0_t5
theorem k0_off272_inb : ∀ (v92 : BitVec 32) (k0_hw2 : k0_chk2 v92) (k0_t4 : Fin (k0_t4_loop v92).trips) (k0_t5 : Fin k0_t5_loop.trips), ∀ a, (k0_off272 v92 k0_t4 k0_t5) a + S1x16.size a ≤ S128x128.size a := fun v92 k0_hw2 k0_t4 k0_t5 => k0_hw2.2.2.2.2.1.2.2.2.1 k0_t4 k0_t5
theorem k0_off274_inb : ∀ (v92 : BitVec 32) (k0_hw2 : k0_chk2 v92) (k0_t4 : Fin (k0_t4_loop v92).trips) (k0_t5 : Fin k0_t5_loop.trips), ∀ a, (k0_off274 v92 k0_t4 k0_t5) a + S1x16.size a ≤ S128x128.size a := fun v92 k0_hw2 k0_t4 k0_t5 => k0_hw2.2.2.2.2.1.2.2.2.2.1 k0_t4 k0_t5
theorem k0_off276_inb : ∀ (v92 : BitVec 32) (k0_hw2 : k0_chk2 v92) (k0_t4 : Fin (k0_t4_loop v92).trips) (k0_t5 : Fin k0_t5_loop.trips), ∀ a, (k0_off276 v92 k0_t4 k0_t5) a + S1x16.size a ≤ S128x128.size a := fun v92 k0_hw2 k0_t4 k0_t5 => k0_hw2.2.2.2.2.1.2.2.2.2.2.1 k0_t4 k0_t5
theorem k0_t6_ok : ∀ (v92 : BitVec 32) (k0_hw2 : k0_chk2 v92), (k0_t6_loop v92).OK := fun v92 k0_hw2 => k0_hw2.2.2.2.2.1.2.2.2.2.2.2.1
theorem k0_off277_inb : ∀ (v92 : BitVec 32) (k0_hw2 : k0_chk2 v92) (k0_t6 : Fin (k0_t6_loop v92).trips), ∀ (k0_h8 : k0_cond8 v92 k0_t6 = 1#1), ∀ (k0_h9 : k0_cond9 v92 k0_t6 = 1#1), ∀ a, (k0_off277 v92 k0_t6) a + S64.size a ≤ S3272.size a := fun v92 k0_hw2 k0_t6 k0_h8 k0_h9 => k0_hw2.2.2.2.2.1.2.2.2.2.2.2.2.1 k0_t6 k0_h8 k0_h9
theorem k0_off278_inb : ∀ (v92 : BitVec 32) (k0_hw2 : k0_chk2 v92) (k0_t6 : Fin (k0_t6_loop v92).trips), ∀ (k0_h8 : k0_cond8 v92 k0_t6 = 1#1), ∀ (k0_h9 : ¬(k0_cond9 v92 k0_t6 = 1#1)), ∀ a, (k0_off278 v92 k0_t6) a + S64.size a ≤ S3272.size a := fun v92 k0_hw2 k0_t6 k0_h8 k0_h9 => k0_hw2.2.2.2.2.1.2.2.2.2.2.2.2.2.1 k0_t6 k0_h8 k0_h9
theorem k0_off279_inb : ∀ (v92 : BitVec 32) (k0_hw2 : k0_chk2 v92) (k0_t6 : Fin (k0_t6_loop v92).trips), ∀ (k0_h10 : k0_cond10 v92 k0_t6 = 1#1), ∀ a, (k0_off279 v92 k0_t6) a + S64.size a ≤ S3272.size a := fun v92 k0_hw2 k0_t6 k0_h10 => k0_hw2.2.2.2.2.1.2.2.2.2.2.2.2.2.2.1 k0_t6 k0_h10
theorem k0_off280_inb : ∀ (v92 : BitVec 32) (k0_hw2 : k0_chk2 v92) (k0_t6 : Fin (k0_t6_loop v92).trips), ∀ (k0_h10 : ¬(k0_cond10 v92 k0_t6 = 1#1)), ∀ a, (k0_off280 v92 k0_t6) a + S64.size a ≤ S3272.size a := fun v92 k0_hw2 k0_t6 k0_h10 => k0_hw2.2.2.2.2.1.2.2.2.2.2.2.2.2.2.2.1 k0_t6 k0_h10
theorem k0_off281_inb : ∀ (v92 : BitVec 32) (k0_hw2 : k0_chk2 v92) (k0_t6 : Fin (k0_t6_loop v92).trips) (k0_t7 : Fin k0_t7_loop.trips), ∀ a, (k0_off281 v92 k0_t6 k0_t7) a + S16.size a ≤ S3272.size a := fun v92 k0_hw2 k0_t6 k0_t7 => k0_hw2.2.2.2.2.1.2.2.2.2.2.2.2.2.2.2.2.1 k0_t6 k0_t7
theorem k0_off283_inb : ∀ (v92 : BitVec 32) (k0_hw2 : k0_chk2 v92) (k0_t6 : Fin (k0_t6_loop v92).trips) (k0_t7 : Fin k0_t7_loop.trips), ∀ a, (k0_off283 v92 k0_t6 k0_t7) a + S1x16.size a ≤ S128x128.size a := fun v92 k0_hw2 k0_t6 k0_t7 => k0_hw2.2.2.2.2.1.2.2.2.2.2.2.2.2.2.2.2.2.1 k0_t6 k0_t7
theorem k0_off285_inb : ∀ (v92 : BitVec 32) (k0_hw2 : k0_chk2 v92) (k0_t6 : Fin (k0_t6_loop v92).trips) (k0_t7 : Fin k0_t7_loop.trips), ∀ a, (k0_off285 v92 k0_t6 k0_t7) a + S1x16.size a ≤ S128x128.size a := fun v92 k0_hw2 k0_t6 k0_t7 => k0_hw2.2.2.2.2.1.2.2.2.2.2.2.2.2.2.2.2.2.2.1 k0_t6 k0_t7
theorem k0_off287_inb : ∀ (v92 : BitVec 32) (k0_hw2 : k0_chk2 v92) (k0_t6 : Fin (k0_t6_loop v92).trips) (k0_t7 : Fin k0_t7_loop.trips), ∀ a, (k0_off287 v92 k0_t6 k0_t7) a + S1x16.size a ≤ S128x128.size a := fun v92 k0_hw2 k0_t6 k0_t7 => k0_hw2.2.2.2.2.1.2.2.2.2.2.2.2.2.2.2.2.2.2.2.1 k0_t6 k0_t7
theorem k0_off289_inb : ∀ (v92 : BitVec 32) (k0_hw2 : k0_chk2 v92) (k0_t6 : Fin (k0_t6_loop v92).trips) (k0_t7 : Fin k0_t7_loop.trips), ∀ a, (k0_off289 v92 k0_t6 k0_t7) a + S1x16.size a ≤ S128x128.size a := fun v92 k0_hw2 k0_t6 k0_t7 => k0_hw2.2.2.2.2.1.2.2.2.2.2.2.2.2.2.2.2.2.2.2.2.1 k0_t6 k0_t7
theorem k0_off291_inb : ∀ (v92 : BitVec 32) (k0_hw2 : k0_chk2 v92) (k0_t6 : Fin (k0_t6_loop v92).trips) (k0_t7 : Fin k0_t7_loop.trips), ∀ a, (k0_off291 v92 k0_t6 k0_t7) a + S1x16.size a ≤ S128x128.size a := fun v92 k0_hw2 k0_t6 k0_t7 => k0_hw2.2.2.2.2.1.2.2.2.2.2.2.2.2.2.2.2.2.2.2.2.2.1 k0_t6 k0_t7
theorem k0_off293_inb : ∀ (v92 : BitVec 32) (k0_hw2 : k0_chk2 v92) (k0_t6 : Fin (k0_t6_loop v92).trips) (k0_t7 : Fin k0_t7_loop.trips), ∀ a, (k0_off293 v92 k0_t6 k0_t7) a + S1x16.size a ≤ S128x128.size a := fun v92 k0_hw2 k0_t6 k0_t7 => k0_hw2.2.2.2.2.1.2.2.2.2.2.2.2.2.2.2.2.2.2.2.2.2.2.1 k0_t6 k0_t7
theorem k0_off295_inb : ∀ (v92 : BitVec 32) (k0_hw2 : k0_chk2 v92) (k0_t6 : Fin (k0_t6_loop v92).trips) (k0_t7 : Fin k0_t7_loop.trips), ∀ a, (k0_off295 v92 k0_t6 k0_t7) a + S1x16.size a ≤ S128x128.size a := fun v92 k0_hw2 k0_t6 k0_t7 => k0_hw2.2.2.2.2.1.2.2.2.2.2.2.2.2.2.2.2.2.2.2.2.2.2.2.1 k0_t6 k0_t7
theorem k0_off297_inb : ∀ (v92 : BitVec 32) (k0_hw2 : k0_chk2 v92) (k0_t6 : Fin (k0_t6_loop v92).trips) (k0_t7 : Fin k0_t7_loop.trips), ∀ a, (k0_off297 v92 k0_t6 k0_t7) a + S1x16.size a ≤ S128x128.size a := fun v92 k0_hw2 k0_t6 k0_t7 => k0_hw2.2.2.2.2.1.2.2.2.2.2.2.2.2.2.2.2.2.2.2.2.2.2.2.2.1 k0_t6 k0_t7
theorem k0_off299_inb : ∀ (v92 : BitVec 32) (k0_hw2 : k0_chk2 v92) (k0_t6 : Fin (k0_t6_loop v92).trips) (k0_t7 : Fin k0_t7_loop.trips), ∀ a, (k0_off299 v92 k0_t6 k0_t7) a + S1x16.size a ≤ S128x128.size a := fun v92 k0_hw2 k0_t6 k0_t7 => k0_hw2.2.2.2.2.1.2.2.2.2.2.2.2.2.2.2.2.2.2.2.2.2.2.2.2.2.1 k0_t6 k0_t7
theorem k0_off301_inb : ∀ (v92 : BitVec 32) (k0_hw2 : k0_chk2 v92) (k0_t6 : Fin (k0_t6_loop v92).trips) (k0_t7 : Fin k0_t7_loop.trips), ∀ a, (k0_off301 v92 k0_t6 k0_t7) a + S1x16.size a ≤ S128x128.size a := fun v92 k0_hw2 k0_t6 k0_t7 => k0_hw2.2.2.2.2.1.2.2.2.2.2.2.2.2.2.2.2.2.2.2.2.2.2.2.2.2.2.1 k0_t6 k0_t7
theorem k0_off303_inb : ∀ (v92 : BitVec 32) (k0_hw2 : k0_chk2 v92) (k0_t6 : Fin (k0_t6_loop v92).trips) (k0_t7 : Fin k0_t7_loop.trips), ∀ a, (k0_off303 v92 k0_t6 k0_t7) a + S1x16.size a ≤ S128x128.size a := fun v92 k0_hw2 k0_t6 k0_t7 => k0_hw2.2.2.2.2.1.2.2.2.2.2.2.2.2.2.2.2.2.2.2.2.2.2.2.2.2.2.2.1 k0_t6 k0_t7
theorem k0_off305_inb : ∀ (v92 : BitVec 32) (k0_hw2 : k0_chk2 v92) (k0_t6 : Fin (k0_t6_loop v92).trips) (k0_t7 : Fin k0_t7_loop.trips), ∀ a, (k0_off305 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.1 k0_t6 k0_t7
theorem k0_off307_inb : ∀ (v92 : BitVec 32) (k0_hw2 : k0_chk2 v92) (k0_t6 : Fin (k0_t6_loop v92).trips) (k0_t7 : Fin k0_t7_loop.trips), ∀ a, (k0_off307 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.1 k0_t6 k0_t7
theorem k0_off309_inb : ∀ (v92 : BitVec 32) (k0_hw2 : k0_chk2 v92) (k0_t6 : Fin (k0_t6_loop v92).trips) (k0_t7 : Fin k0_t7_loop.trips), ∀ a, (k0_off309 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.1 k0_t6 k0_t7
theorem k0_off311_inb : ∀ (v92 : BitVec 32) (k0_hw2 : k0_chk2 v92) (k0_t6 : Fin (k0_t6_loop v92).trips) (k0_t7 : Fin k0_t7_loop.trips), ∀ a, (k0_off311 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.2.1 k0_t6 k0_t7
theorem k0_off313_inb : ∀ (v92 : BitVec 32) (k0_hw2 : k0_chk2 v92) (k0_t6 : Fin (k0_t6_loop v92).trips) (k0_t7 : Fin k0_t7_loop.trips), ∀ a, (k0_off313 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.2.2.1 k0_t6 k0_t7
theorem k0_off315_inb : ∀ (v92 : BitVec 32) (k0_hw2 : k0_chk2 v92) (k0_t6 : Fin (k0_t6_loop v92).trips) (k0_t7 : Fin k0_t7_loop.trips), ∀ a, (k0_off315 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.2.2.2.1 k0_t6 k0_t7
theorem k0_off317_inb : ∀ (v92 : BitVec 32) (k0_hw2 : k0_chk2 v92) (k0_t6 : Fin (k0_t6_loop v92).trips) (k0_t7 : Fin k0_t7_loop.trips), ∀ a, (k0_off317 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.2.2.2.2.1 k0_t6 k0_t7
theorem k0_off319_inb : ∀ (v92 : BitVec 32) (k0_hw2 : k0_chk2 v92) (k0_t6 : Fin (k0_t6_loop v92).trips) (k0_t7 : Fin k0_t7_loop.trips), ∀ a, (k0_off319 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.2.2.2.2.2.1 k0_t6 k0_t7
theorem k0_off321_inb : ∀ (v92 : BitVec 32) (k0_hw2 : k0_chk2 v92) (k0_t6 : Fin (k0_t6_loop v92).trips) (k0_t7 : Fin k0_t7_loop.trips), ∀ a, (k0_off321 v92 k0_t6 k0_t7) a + S1x16.size a ≤ S128x128.size a := fun v92 k0_hw2 k0_t6 k0_t7 => k0_hw2.2.2.2.2.1.2.2.2.2.2.2.2.2.2.2.2.2.2.2.2.2.2.2.2.2.2.2.2.2.2.2.2.2.2.2.2 k0_t6 k0_t7
theorem k0_off323_inb : ∀ (v92 : BitVec 32) (k0_hw2 : k0_chk2 v92) (k0_t6 : Fin (k0_t6_loop v92).trips) (k0_t7 : Fin k0_t7_loop.trips), ∀ a, (k0_off323 v92 k0_t6 k0_t7) a + S1x16.size a ≤ S128x128.size a := fun v92 k0_hw2 k0_t6 k0_t7 => k0_hw2.2.2.2.2.2.1.1 k0_t6 k0_t7
theorem k0_off325_inb : ∀ (v92 : BitVec 32) (k0_hw2 : k0_chk2 v92) (k0_t6 : Fin (k0_t6_loop v92).trips) (k0_t7 : Fin k0_t7_loop.trips), ∀ a, (k0_off325 v92 k0_t6 k0_t7) a + S1x16.size a ≤ S128x128.size a := fun v92 k0_hw2 k0_t6 k0_t7 => k0_hw2.2.2.2.2.2.1.2.1 k0_t6 k0_t7
theorem k0_off327_inb : ∀ (v92 : BitVec 32) (k0_hw2 : k0_chk2 v92) (k0_t6 : Fin (k0_t6_loop v92).trips) (k0_t7 : Fin k0_t7_loop.trips), ∀ a, (k0_off327 v92 k0_t6 k0_t7) a + S1x16.size a ≤ S128x128.size a := fun v92 k0_hw2 k0_t6 k0_t7 => k0_hw2.2.2.2.2.2.1.2.2.1 k0_t6 k0_t7
theorem k0_off329_inb : ∀ (v92 : BitVec 32) (k0_hw2 : k0_chk2 v92) (k0_t6 : Fin (k0_t6_loop v92).trips) (k0_t7 : Fin k0_t7_loop.trips), ∀ a, (k0_off329 v92 k0_t6 k0_t7) a + S1x16.size a ≤ S128x128.size a := fun v92 k0_hw2 k0_t6 k0_t7 => k0_hw2.2.2.2.2.2.1.2.2.2.1 k0_t6 k0_t7
theorem k0_off331_inb : ∀ (v92 : BitVec 32) (k0_hw2 : k0_chk2 v92) (k0_t6 : Fin (k0_t6_loop v92).trips) (k0_t7 : Fin k0_t7_loop.trips), ∀ a, (k0_off331 v92 k0_t6 k0_t7) a + S1x16.size a ≤ S128x128.size a := fun v92 k0_hw2 k0_t6 k0_t7 => k0_hw2.2.2.2.2.2.1.2.2.2.2.1 k0_t6 k0_t7
theorem k0_off333_inb : ∀ (v92 : BitVec 32) (k0_hw2 : k0_chk2 v92) (k0_t6 : Fin (k0_t6_loop v92).trips) (k0_t7 : Fin k0_t7_loop.trips), ∀ a, (k0_off333 v92 k0_t6 k0_t7) a + S1x16.size a ≤ S128x128.size a := fun v92 k0_hw2 k0_t6 k0_t7 => k0_hw2.2.2.2.2.2.1.2.2.2.2.2.1 k0_t6 k0_t7
theorem k0_off335_inb : ∀ (v92 : BitVec 32) (k0_hw2 : k0_chk2 v92) (k0_t6 : Fin (k0_t6_loop v92).trips) (k0_t7 : Fin k0_t7_loop.trips), ∀ a, (k0_off335 v92 k0_t6 k0_t7) a + S1x16.size a ≤ S128x128.size a := fun v92 k0_hw2 k0_t6 k0_t7 => k0_hw2.2.2.2.2.2.1.2.2.2.2.2.2.1 k0_t6 k0_t7
theorem k0_off337_inb : ∀ (v92 : BitVec 32) (k0_hw2 : k0_chk2 v92) (k0_t6 : Fin (k0_t6_loop v92).trips) (k0_t7 : Fin k0_t7_loop.trips), ∀ a, (k0_off337 v92 k0_t6 k0_t7) a + S1x16.size a ≤ S128x128.size a := fun v92 k0_hw2 k0_t6 k0_t7 => k0_hw2.2.2.2.2.2.1.2.2.2.2.2.2.2.1 k0_t6 k0_t7
theorem k0_off339_inb : ∀ (v92 : BitVec 32) (k0_hw2 : k0_chk2 v92) (k0_t6 : Fin (k0_t6_loop v92).trips) (k0_t7 : Fin k0_t7_loop.trips), ∀ a, (k0_off339 v92 k0_t6 k0_t7) a + S1x16.size a ≤ S128x128.size a := fun v92 k0_hw2 k0_t6 k0_t7 => k0_hw2.2.2.2.2.2.1.2.2.2.2.2.2.2.2.1 k0_t6 k0_t7
theorem k0_off341_inb : ∀ (v92 : BitVec 32) (k0_hw2 : k0_chk2 v92) (k0_t6 : Fin (k0_t6_loop v92).trips) (k0_t7 : Fin k0_t7_loop.trips), ∀ a, (k0_off341 v92 k0_t6 k0_t7) a + S1x16.size a ≤ S128x128.size a := fun v92 k0_hw2 k0_t6 k0_t7 => k0_hw2.2.2.2.2.2.1.2.2.2.2.2.2.2.2.2.1 k0_t6 k0_t7
theorem k0_off343_inb : ∀ (v92 : BitVec 32) (k0_hw2 : k0_chk2 v92) (k0_t6 : Fin (k0_t6_loop v92).trips) (k0_t7 : Fin k0_t7_loop.trips), ∀ a, (k0_off343 v92 k0_t6 k0_t7) a + S1x16.size a ≤ S128x128.size a := fun v92 k0_hw2 k0_t6 k0_t7 => k0_hw2.2.2.2.2.2.1.2.2.2.2.2.2.2.2.2.2.1 k0_t6 k0_t7
theorem k0_off345_inb : ∀ (v92 : BitVec 32) (k0_hw2 : k0_chk2 v92) (k0_t6 : Fin (k0_t6_loop v92).trips) (k0_t7 : Fin k0_t7_loop.trips), ∀ a, (k0_off345 v92 k0_t6 k0_t7) a + S1x16.size a ≤ S128x128.size a := fun v92 k0_hw2 k0_t6 k0_t7 => k0_hw2.2.2.2.2.2.1.2.2.2.2.2.2.2.2.2.2.2.1 k0_t6 k0_t7
theorem k0_off347_inb : ∀ (v92 : BitVec 32) (k0_hw2 : k0_chk2 v92) (k0_t6 : Fin (k0_t6_loop v92).trips) (k0_t7 : Fin k0_t7_loop.trips), ∀ a, (k0_off347 v92 k0_t6 k0_t7) a + S1x16.size a ≤ S128x128.size a := fun v92 k0_hw2 k0_t6 k0_t7 => k0_hw2.2.2.2.2.2.1.2.2.2.2.2.2.2.2.2.2.2.2.1 k0_t6 k0_t7
theorem k0_off349_inb : ∀ (v92 : BitVec 32) (k0_hw2 : k0_chk2 v92) (k0_t6 : Fin (k0_t6_loop v92).trips) (k0_t7 : Fin k0_t7_loop.trips), ∀ a, (k0_off349 v92 k0_t6 k0_t7) a + S1x16.size a ≤ S128x128.size a := fun v92 k0_hw2 k0_t6 k0_t7 => k0_hw2.2.2.2.2.2.1.2.2.2.2.2.2.2.2.2.2.2.2.2.1 k0_t6 k0_t7
theorem k0_off351_inb : ∀ (v92 : BitVec 32) (k0_hw2 : k0_chk2 v92) (k0_t6 : Fin (k0_t6_loop v92).trips) (k0_t7 : Fin k0_t7_loop.trips), ∀ a, (k0_off351 v92 k0_t6 k0_t7) a + S1x16.size a ≤ S128x128.size a := fun v92 k0_hw2 k0_t6 k0_t7 => k0_hw2.2.2.2.2.2.1.2.2.2.2.2.2.2.2.2.2.2.2.2.2.1 k0_t6 k0_t7
theorem k0_off353_inb : ∀ (v92 : BitVec 32) (k0_hw2 : k0_chk2 v92) (k0_t6 : Fin (k0_t6_loop v92).trips) (k0_t7 : Fin k0_t7_loop.trips), ∀ a, (k0_off353 v92 k0_t6 k0_t7) a + S1x16.size a ≤ S128x128.size a := fun v92 k0_hw2 k0_t6 k0_t7 => k0_hw2.2.2.2.2.2.1.2.2.2.2.2.2.2.2.2.2.2.2.2.2.2.1 k0_t6 k0_t7
theorem k0_off355_inb : ∀ (v92 : BitVec 32) (k0_hw2 : k0_chk2 v92) (k0_t6 : Fin (k0_t6_loop v92).trips) (k0_t7 : Fin k0_t7_loop.trips), ∀ a, (k0_off355 v92 k0_t6 k0_t7) a + S1x16.size a ≤ S128x128.size a := fun v92 k0_hw2 k0_t6 k0_t7 => k0_hw2.2.2.2.2.2.1.2.2.2.2.2.2.2.2.2.2.2.2.2.2.2.2.1 k0_t6 k0_t7
theorem k0_off357_inb : ∀ (v92 : BitVec 32) (k0_hw2 : k0_chk2 v92) (k0_t6 : Fin (k0_t6_loop v92).trips) (k0_t7 : Fin k0_t7_loop.trips), ∀ a, (k0_off357 v92 k0_t6 k0_t7) a + S1x16.size a ≤ S128x128.size a := fun v92 k0_hw2 k0_t6 k0_t7 => k0_hw2.2.2.2.2.2.1.2.2.2.2.2.2.2.2.2.2.2.2.2.2.2.2.2.1 k0_t6 k0_t7
theorem k0_off359_inb : ∀ (v92 : BitVec 32) (k0_hw2 : k0_chk2 v92) (k0_t6 : Fin (k0_t6_loop v92).trips) (k0_t7 : Fin k0_t7_loop.trips), ∀ a, (k0_off359 v92 k0_t6 k0_t7) a + S1x16.size a ≤ S128x128.size a := fun v92 k0_hw2 k0_t6 k0_t7 => k0_hw2.2.2.2.2.2.1.2.2.2.2.2.2.2.2.2.2.2.2.2.2.2.2.2.2.1 k0_t6 k0_t7
theorem k0_off361_inb : ∀ (v92 : BitVec 32) (k0_hw2 : k0_chk2 v92) (k0_t6 : Fin (k0_t6_loop v92).trips) (k0_t7 : Fin k0_t7_loop.trips), ∀ a, (k0_off361 v92 k0_t6 k0_t7) a + S1x16.size a ≤ S128x128.size a := fun v92 k0_hw2 k0_t6 k0_t7 => k0_hw2.2.2.2.2.2.1.2.2.2.2.2.2.2.2.2.2.2.2.2.2.2.2.2.2.2.1 k0_t6 k0_t7
theorem k0_off363_inb : ∀ (v92 : BitVec 32) (k0_hw2 : k0_chk2 v92) (k0_t6 : Fin (k0_t6_loop v92).trips) (k0_t7 : Fin k0_t7_loop.trips), ∀ a, (k0_off363 v92 k0_t6 k0_t7) a + S1x16.size a ≤ S128x128.size a := fun v92 k0_hw2 k0_t6 k0_t7 => k0_hw2.2.2.2.2.2.1.2.2.2.2.2.2.2.2.2.2.2.2.2.2.2.2.2.2.2.2.1 k0_t6 k0_t7
theorem k0_off365_inb : ∀ (v92 : BitVec 32) (k0_hw2 : k0_chk2 v92) (k0_t6 : Fin (k0_t6_loop v92).trips) (k0_t7 : Fin k0_t7_loop.trips), ∀ a, (k0_off365 v92 k0_t6 k0_t7) a + S1x16.size a ≤ S128x128.size a := fun v92 k0_hw2 k0_t6 k0_t7 => k0_hw2.2.2.2.2.2.1.2.2.2.2.2.2.2.2.2.2.2.2.2.2.2.2.2.2.2.2.2.1 k0_t6 k0_t7
theorem k0_off367_inb : ∀ (v92 : BitVec 32) (k0_hw2 : k0_chk2 v92) (k0_t6 : Fin (k0_t6_loop v92).trips) (k0_t7 : Fin k0_t7_loop.trips), ∀ a, (k0_off367 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.1 k0_t6 k0_t7
theorem k0_off369_inb : ∀ (v92 : BitVec 32) (k0_hw2 : k0_chk2 v92) (k0_t6 : Fin (k0_t6_loop v92).trips) (k0_t7 : Fin k0_t7_loop.trips), ∀ a, (k0_off369 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.1 k0_t6 k0_t7
theorem k0_off371_inb : ∀ (v92 : BitVec 32) (k0_hw2 : k0_chk2 v92) (k0_t6 : Fin (k0_t6_loop v92).trips) (k0_t7 : Fin k0_t7_loop.trips), ∀ a, (k0_off371 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.1 k0_t6 k0_t7
theorem k0_off373_inb : ∀ (v92 : BitVec 32) (k0_hw2 : k0_chk2 v92) (k0_t6 : Fin (k0_t6_loop v92).trips) (k0_t7 : Fin k0_t7_loop.trips), ∀ a, (k0_off373 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.1 k0_t6 k0_t7
theorem k0_off375_inb : ∀ (v92 : BitVec 32) (k0_hw2 : k0_chk2 v92) (k0_t6 : Fin (k0_t6_loop v92).trips) (k0_t7 : Fin k0_t7_loop.trips), ∀ a, (k0_off375 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.2.1 k0_t6 k0_t7
theorem k0_off377_inb : ∀ (v92 : BitVec 32) (k0_hw2 : k0_chk2 v92) (k0_t6 : Fin (k0_t6_loop v92).trips) (k0_t7 : Fin k0_t7_loop.trips), ∀ a, (k0_off377 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.2.2.1 k0_t6 k0_t7
theorem k0_off379_inb : ∀ (v92 : BitVec 32) (k0_hw2 : k0_chk2 v92) (k0_t6 : Fin (k0_t6_loop v92).trips) (k0_t7 : Fin k0_t7_loop.trips), ∀ a, (k0_off379 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.2.2.2.1 k0_t6 k0_t7
theorem k0_off381_inb : ∀ (v92 : BitVec 32) (k0_hw2 : k0_chk2 v92) (k0_t6 : Fin (k0_t6_loop v92).trips) (k0_t7 : Fin k0_t7_loop.trips), ∀ a, (k0_off381 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.2.2.2.2.1 k0_t6 k0_t7
theorem k0_off383_inb : ∀ (v92 : BitVec 32) (k0_hw2 : k0_chk2 v92) (k0_t6 : Fin (k0_t6_loop v92).trips) (k0_t7 : Fin k0_t7_loop.trips), ∀ a, (k0_off383 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.2.2.2.2.2.1 k0_t6 k0_t7
theorem k0_off385_inb : ∀ (v92 : BitVec 32) (k0_hw2 : k0_chk2 v92) (k0_t6 : Fin (k0_t6_loop v92).trips) (k0_t7 : Fin k0_t7_loop.trips), ∀ a, (k0_off385 v92 k0_t6 k0_t7) a + S1x16.size a ≤ S128x128.size a := fun v92 k0_hw2 k0_t6 k0_t7 => k0_hw2.2.2.2.2.2.1.2.2.2.2.2.2.2.2.2.2.2.2.2.2.2.2.2.2.2.2.2.2.2.2.2.2.2.2.2.2.2 k0_t6 k0_t7
theorem k0_off387_inb : ∀ (v92 : BitVec 32) (k0_hw2 : k0_chk2 v92) (k0_t6 : Fin (k0_t6_loop v92).trips) (k0_t7 : Fin k0_t7_loop.trips), ∀ a, (k0_off387 v92 k0_t6 k0_t7) a + S1x16.size a ≤ S128x128.size a := fun v92 k0_hw2 k0_t6 k0_t7 => k0_hw2.2.2.2.2.2.2.1.1 k0_t6 k0_t7
theorem k0_off389_inb : ∀ (v92 : BitVec 32) (k0_hw2 : k0_chk2 v92) (k0_t6 : Fin (k0_t6_loop v92).trips) (k0_t7 : Fin k0_t7_loop.trips), ∀ a, (k0_off389 v92 k0_t6 k0_t7) a + S1x16.size a ≤ S128x128.size a := fun v92 k0_hw2 k0_t6 k0_t7 => k0_hw2.2.2.2.2.2.2.1.2.1 k0_t6 k0_t7
theorem k0_off391_inb : ∀ (v92 : BitVec 32) (k0_hw2 : k0_chk2 v92) (k0_t6 : Fin (k0_t6_loop v92).trips) (k0_t7 : Fin k0_t7_loop.trips), ∀ a, (k0_off391 v92 k0_t6 k0_t7) a + S1x16.size a ≤ S128x128.size a := fun v92 k0_hw2 k0_t6 k0_t7 => k0_hw2.2.2.2.2.2.2.1.2.2.1 k0_t6 k0_t7
theorem k0_off393_inb : ∀ (v92 : BitVec 32) (k0_hw2 : k0_chk2 v92) (k0_t6 : Fin (k0_t6_loop v92).trips) (k0_t7 : Fin k0_t7_loop.trips), ∀ a, (k0_off393 v92 k0_t6 k0_t7) a + S1x16.size a ≤ S128x128.size a := fun v92 k0_hw2 k0_t6 k0_t7 => k0_hw2.2.2.2.2.2.2.1.2.2.2.1 k0_t6 k0_t7
theorem k0_off395_inb : ∀ (v92 : BitVec 32) (k0_hw2 : k0_chk2 v92) (k0_t6 : Fin (k0_t6_loop v92).trips) (k0_t7 : Fin k0_t7_loop.trips), ∀ a, (k0_off395 v92 k0_t6 k0_t7) a + S1x16.size a ≤ S128x128.size a := fun v92 k0_hw2 k0_t6 k0_t7 => k0_hw2.2.2.2.2.2.2.1.2.2.2.2.1 k0_t6 k0_t7
theorem k0_off397_inb : ∀ (v92 : BitVec 32) (k0_hw2 : k0_chk2 v92) (k0_t6 : Fin (k0_t6_loop v92).trips) (k0_t7 : Fin k0_t7_loop.trips), ∀ a, (k0_off397 v92 k0_t6 k0_t7) a + S1x16.size a ≤ S128x128.size a := fun v92 k0_hw2 k0_t6 k0_t7 => k0_hw2.2.2.2.2.2.2.1.2.2.2.2.2.1 k0_t6 k0_t7
theorem k0_off399_inb : ∀ (v92 : BitVec 32) (k0_hw2 : k0_chk2 v92) (k0_t6 : Fin (k0_t6_loop v92).trips) (k0_t7 : Fin k0_t7_loop.trips), ∀ a, (k0_off399 v92 k0_t6 k0_t7) a + S1x16.size a ≤ S128x128.size a := fun v92 k0_hw2 k0_t6 k0_t7 => k0_hw2.2.2.2.2.2.2.1.2.2.2.2.2.2.1 k0_t6 k0_t7
theorem k0_off401_inb : ∀ (v92 : BitVec 32) (k0_hw2 : k0_chk2 v92) (k0_t6 : Fin (k0_t6_loop v92).trips) (k0_t7 : Fin k0_t7_loop.trips), ∀ a, (k0_off401 v92 k0_t6 k0_t7) a + S1x16.size a ≤ S128x128.size a := fun v92 k0_hw2 k0_t6 k0_t7 => k0_hw2.2.2.2.2.2.2.1.2.2.2.2.2.2.2.1 k0_t6 k0_t7
theorem k0_off403_inb : ∀ (v92 : BitVec 32) (k0_hw2 : k0_chk2 v92) (k0_t6 : Fin (k0_t6_loop v92).trips) (k0_t7 : Fin k0_t7_loop.trips), ∀ a, (k0_off403 v92 k0_t6 k0_t7) a + S1x16.size a ≤ S128x128.size a := fun v92 k0_hw2 k0_t6 k0_t7 => k0_hw2.2.2.2.2.2.2.1.2.2.2.2.2.2.2.2.1 k0_t6 k0_t7
theorem k0_off405_inb : ∀ (v92 : BitVec 32) (k0_hw2 : k0_chk2 v92) (k0_t6 : Fin (k0_t6_loop v92).trips) (k0_t7 : Fin k0_t7_loop.trips), ∀ a, (k0_off405 v92 k0_t6 k0_t7) a + S1x16.size a ≤ S128x128.size a := fun v92 k0_hw2 k0_t6 k0_t7 => k0_hw2.2.2.2.2.2.2.1.2.2.2.2.2.2.2.2.2.1 k0_t6 k0_t7
theorem k0_off407_inb : ∀ (v92 : BitVec 32) (k0_hw2 : k0_chk2 v92) (k0_t6 : Fin (k0_t6_loop v92).trips) (k0_t7 : Fin k0_t7_loop.trips), ∀ a, (k0_off407 v92 k0_t6 k0_t7) a + S1x16.size a ≤ S128x128.size a := fun v92 k0_hw2 k0_t6 k0_t7 => k0_hw2.2.2.2.2.2.2.1.2.2.2.2.2.2.2.2.2.2.1 k0_t6 k0_t7
theorem k0_off409_inb : ∀ (v92 : BitVec 32) (k0_hw2 : k0_chk2 v92) (k0_t6 : Fin (k0_t6_loop v92).trips) (k0_t7 : Fin k0_t7_loop.trips), ∀ a, (k0_off409 v92 k0_t6 k0_t7) a + S1x16.size a ≤ S128x128.size a := fun v92 k0_hw2 k0_t6 k0_t7 => k0_hw2.2.2.2.2.2.2.1.2.2.2.2.2.2.2.2.2.2.2.1 k0_t6 k0_t7
theorem k0_off411_inb : ∀ (v92 : BitVec 32) (k0_hw2 : k0_chk2 v92) (k0_t6 : Fin (k0_t6_loop v92).trips) (k0_t7 : Fin k0_t7_loop.trips), ∀ a, (k0_off411 v92 k0_t6 k0_t7) a + S1x16.size a ≤ S128x128.size a := fun v92 k0_hw2 k0_t6 k0_t7 => k0_hw2.2.2.2.2.2.2.1.2.2.2.2.2.2.2.2.2.2.2.2.1 k0_t6 k0_t7
theorem k0_off413_inb : ∀ (v92 : BitVec 32) (k0_hw2 : k0_chk2 v92) (k0_t6 : Fin (k0_t6_loop v92).trips) (k0_t7 : Fin k0_t7_loop.trips), ∀ a, (k0_off413 v92 k0_t6 k0_t7) a + S1x16.size a ≤ S128x128.size a := fun v92 k0_hw2 k0_t6 k0_t7 => k0_hw2.2.2.2.2.2.2.1.2.2.2.2.2.2.2.2.2.2.2.2.2.1 k0_t6 k0_t7
theorem k0_off415_inb : ∀ (v92 : BitVec 32) (k0_hw2 : k0_chk2 v92) (k0_t6 : Fin (k0_t6_loop v92).trips) (k0_t7 : Fin k0_t7_loop.trips), ∀ a, (k0_off415 v92 k0_t6 k0_t7) a + S1x16.size a ≤ S128x128.size a := fun v92 k0_hw2 k0_t6 k0_t7 => k0_hw2.2.2.2.2.2.2.1.2.2.2.2.2.2.2.2.2.2.2.2.2.2.1 k0_t6 k0_t7
theorem k0_off417_inb : ∀ (v92 : BitVec 32) (k0_hw2 : k0_chk2 v92) (k0_t6 : Fin (k0_t6_loop v92).trips) (k0_t7 : Fin k0_t7_loop.trips), ∀ a, (k0_off417 v92 k0_t6 k0_t7) a + S1x16.size a ≤ S128x128.size a := fun v92 k0_hw2 k0_t6 k0_t7 => k0_hw2.2.2.2.2.2.2.1.2.2.2.2.2.2.2.2.2.2.2.2.2.2.2.1 k0_t6 k0_t7
theorem k0_off419_inb : ∀ (v92 : BitVec 32) (k0_hw2 : k0_chk2 v92) (k0_t6 : Fin (k0_t6_loop v92).trips) (k0_t7 : Fin k0_t7_loop.trips), ∀ a, (k0_off419 v92 k0_t6 k0_t7) a + S1x16.size a ≤ S128x128.size a := fun v92 k0_hw2 k0_t6 k0_t7 => k0_hw2.2.2.2.2.2.2.1.2.2.2.2.2.2.2.2.2.2.2.2.2.2.2.2.1 k0_t6 k0_t7
theorem k0_off421_inb : ∀ (v92 : BitVec 32) (k0_hw2 : k0_chk2 v92) (k0_t6 : Fin (k0_t6_loop v92).trips) (k0_t7 : Fin k0_t7_loop.trips), ∀ a, (k0_off421 v92 k0_t6 k0_t7) a + S1x16.size a ≤ S128x128.size a := fun v92 k0_hw2 k0_t6 k0_t7 => k0_hw2.2.2.2.2.2.2.1.2.2.2.2.2.2.2.2.2.2.2.2.2.2.2.2.2.1 k0_t6 k0_t7
theorem k0_off423_inb : ∀ (v92 : BitVec 32) (k0_hw2 : k0_chk2 v92) (k0_t6 : Fin (k0_t6_loop v92).trips) (k0_t7 : Fin k0_t7_loop.trips), ∀ a, (k0_off423 v92 k0_t6 k0_t7) a + S1x16.size a ≤ S128x128.size a := fun v92 k0_hw2 k0_t6 k0_t7 => k0_hw2.2.2.2.2.2.2.1.2.2.2.2.2.2.2.2.2.2.2.2.2.2.2.2.2.2.1 k0_t6 k0_t7
theorem k0_off425_inb : ∀ (v92 : BitVec 32) (k0_hw2 : k0_chk2 v92) (k0_t6 : Fin (k0_t6_loop v92).trips) (k0_t7 : Fin k0_t7_loop.trips), ∀ a, (k0_off425 v92 k0_t6 k0_t7) a + S1x16.size a ≤ S128x128.size a := fun v92 k0_hw2 k0_t6 k0_t7 => k0_hw2.2.2.2.2.2.2.1.2.2.2.2.2.2.2.2.2.2.2.2.2.2.2.2.2.2.2.1 k0_t6 k0_t7
theorem k0_off427_inb : ∀ (v92 : BitVec 32) (k0_hw2 : k0_chk2 v92) (k0_t6 : Fin (k0_t6_loop v92).trips) (k0_t7 : Fin k0_t7_loop.trips), ∀ a, (k0_off427 v92 k0_t6 k0_t7) a + S1x16.size a ≤ S128x128.size a := fun v92 k0_hw2 k0_t6 k0_t7 => k0_hw2.2.2.2.2.2.2.1.2.2.2.2.2.2.2.2.2.2.2.2.2.2.2.2.2.2.2.2.1 k0_t6 k0_t7
theorem k0_off429_inb : ∀ (v92 : BitVec 32) (k0_hw2 : k0_chk2 v92) (k0_t6 : Fin (k0_t6_loop v92).trips) (k0_t7 : Fin k0_t7_loop.trips), ∀ a, (k0_off429 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.1 k0_t6 k0_t7
theorem k0_off431_inb : ∀ (v92 : BitVec 32) (k0_hw2 : k0_chk2 v92) (k0_t6 : Fin (k0_t6_loop v92).trips) (k0_t7 : Fin k0_t7_loop.trips), ∀ a, (k0_off431 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.1 k0_t6 k0_t7
theorem k0_off433_inb : ∀ (v92 : BitVec 32) (k0_hw2 : k0_chk2 v92) (k0_t6 : Fin (k0_t6_loop v92).trips) (k0_t7 : Fin k0_t7_loop.trips), ∀ a, (k0_off433 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.1 k0_t6 k0_t7
theorem k0_off435_inb : ∀ (v92 : BitVec 32) (k0_hw2 : k0_chk2 v92) (k0_t6 : Fin (k0_t6_loop v92).trips) (k0_t7 : Fin k0_t7_loop.trips), ∀ a, (k0_off435 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.1 k0_t6 k0_t7
theorem k0_off437_inb : ∀ (v92 : BitVec 32) (k0_hw2 : k0_chk2 v92) (k0_t6 : Fin (k0_t6_loop v92).trips) (k0_t7 : Fin k0_t7_loop.trips), ∀ a, (k0_off437 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.1 k0_t6 k0_t7
theorem k0_off439_inb : ∀ (v92 : BitVec 32) (k0_hw2 : k0_chk2 v92) (k0_t6 : Fin (k0_t6_loop v92).trips) (k0_t7 : Fin k0_t7_loop.trips), ∀ a, (k0_off439 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.2.1 k0_t6 k0_t7
theorem k0_off441_inb : ∀ (v92 : BitVec 32) (k0_hw2 : k0_chk2 v92) (k0_t6 : Fin (k0_t6_loop v92).trips) (k0_t7 : Fin k0_t7_loop.trips), ∀ a, (k0_off441 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.2.2.1 k0_t6 k0_t7
theorem k0_off443_inb : ∀ (v92 : BitVec 32) (k0_hw2 : k0_chk2 v92) (k0_t6 : Fin (k0_t6_loop v92).trips) (k0_t7 : Fin k0_t7_loop.trips), ∀ a, (k0_off443 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.2.2.2.1 k0_t6 k0_t7
theorem k0_off445_inb : ∀ (v92 : BitVec 32) (k0_hw2 : k0_chk2 v92) (k0_t6 : Fin (k0_t6_loop v92).trips) (k0_t7 : Fin k0_t7_loop.trips), ∀ a, (k0_off445 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.2.2.2.2.1 k0_t6 k0_t7
theorem k0_off447_inb : ∀ (v92 : BitVec 32) (k0_hw2 : k0_chk2 v92) (k0_t6 : Fin (k0_t6_loop v92).trips) (k0_t7 : Fin k0_t7_loop.trips), ∀ a, (k0_off447 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.2.2.2.2.2.1 k0_t6 k0_t7
theorem k0_off449_inb : ∀ (v92 : BitVec 32) (k0_hw2 : k0_chk2 v92) (k0_t6 : Fin (k0_t6_loop v92).trips) (k0_t7 : Fin k0_t7_loop.trips), ∀ a, (k0_off449 v92 k0_t6 k0_t7) a + S1x16.size a ≤ S128x128.size a := fun v92 k0_hw2 k0_t6 k0_t7 => k0_hw2.2.2.2.2.2.2.1.2.2.2.2.2.2.2.2.2.2.2.2.2.2.2.2.2.2.2.2.2.2.2.2.2.2.2.2.2.2.2 k0_t6 k0_t7
theorem k0_off451_inb : ∀ (v92 : BitVec 32) (k0_hw2 : k0_chk2 v92) (k0_t6 : Fin (k0_t6_loop v92).trips) (k0_t7 : Fin k0_t7_loop.trips), ∀ a, (k0_off451 v92 k0_t6 k0_t7) a + S1x16.size a ≤ S128x128.size a := fun v92 k0_hw2 k0_t6 k0_t7 => k0_hw2.2.2.2.2.2.2.2.1.1 k0_t6 k0_t7
theorem k0_off453_inb : ∀ (v92 : BitVec 32) (k0_hw2 : k0_chk2 v92) (k0_t6 : Fin (k0_t6_loop v92).trips) (k0_t7 : Fin k0_t7_loop.trips), ∀ a, (k0_off453 v92 k0_t6 k0_t7) a + S1x16.size a ≤ S128x128.size a := fun v92 k0_hw2 k0_t6 k0_t7 => k0_hw2.2.2.2.2.2.2.2.1.2.1 k0_t6 k0_t7
theorem k0_off455_inb : ∀ (v92 : BitVec 32) (k0_hw2 : k0_chk2 v92) (k0_t6 : Fin (k0_t6_loop v92).trips) (k0_t7 : Fin k0_t7_loop.trips), ∀ a, (k0_off455 v92 k0_t6 k0_t7) a + S1x16.size a ≤ S128x128.size a := fun v92 k0_hw2 k0_t6 k0_t7 => k0_hw2.2.2.2.2.2.2.2.1.2.2.1 k0_t6 k0_t7
theorem k0_off457_inb : ∀ (v92 : BitVec 32) (k0_hw2 : k0_chk2 v92) (k0_t6 : Fin (k0_t6_loop v92).trips) (k0_t7 : Fin k0_t7_loop.trips), ∀ a, (k0_off457 v92 k0_t6 k0_t7) a + S1x16.size a ≤ S128x128.size a := fun v92 k0_hw2 k0_t6 k0_t7 => k0_hw2.2.2.2.2.2.2.2.1.2.2.2.1 k0_t6 k0_t7
theorem k0_off459_inb : ∀ (v92 : BitVec 32) (k0_hw2 : k0_chk2 v92) (k0_t6 : Fin (k0_t6_loop v92).trips) (k0_t7 : Fin k0_t7_loop.trips), ∀ a, (k0_off459 v92 k0_t6 k0_t7) a + S1x16.size a ≤ S128x128.size a := fun v92 k0_hw2 k0_t6 k0_t7 => k0_hw2.2.2.2.2.2.2.2.1.2.2.2.2.1 k0_t6 k0_t7
theorem k0_off461_inb : ∀ (v92 : BitVec 32) (k0_hw2 : k0_chk2 v92) (k0_t6 : Fin (k0_t6_loop v92).trips) (k0_t7 : Fin k0_t7_loop.trips), ∀ a, (k0_off461 v92 k0_t6 k0_t7) a + S1x16.size a ≤ S128x128.size a := fun v92 k0_hw2 k0_t6 k0_t7 => k0_hw2.2.2.2.2.2.2.2.1.2.2.2.2.2.1 k0_t6 k0_t7
theorem k0_off463_inb : ∀ (v92 : BitVec 32) (k0_hw2 : k0_chk2 v92) (k0_t6 : Fin (k0_t6_loop v92).trips) (k0_t7 : Fin k0_t7_loop.trips), ∀ a, (k0_off463 v92 k0_t6 k0_t7) a + S1x16.size a ≤ S128x128.size a := fun v92 k0_hw2 k0_t6 k0_t7 => k0_hw2.2.2.2.2.2.2.2.1.2.2.2.2.2.2.1 k0_t6 k0_t7
theorem k0_off465_inb : ∀ (v92 : BitVec 32) (k0_hw2 : k0_chk2 v92) (k0_t6 : Fin (k0_t6_loop v92).trips) (k0_t7 : Fin k0_t7_loop.trips), ∀ a, (k0_off465 v92 k0_t6 k0_t7) a + S1x16.size a ≤ S128x128.size a := fun v92 k0_hw2 k0_t6 k0_t7 => k0_hw2.2.2.2.2.2.2.2.1.2.2.2.2.2.2.2.1 k0_t6 k0_t7
theorem k0_off467_inb : ∀ (v92 : BitVec 32) (k0_hw2 : k0_chk2 v92) (k0_t6 : Fin (k0_t6_loop v92).trips) (k0_t7 : Fin k0_t7_loop.trips), ∀ a, (k0_off467 v92 k0_t6 k0_t7) a + S1x16.size a ≤ S128x128.size a := fun v92 k0_hw2 k0_t6 k0_t7 => k0_hw2.2.2.2.2.2.2.2.1.2.2.2.2.2.2.2.2.1 k0_t6 k0_t7
theorem k0_off469_inb : ∀ (v92 : BitVec 32) (k0_hw2 : k0_chk2 v92) (k0_t6 : Fin (k0_t6_loop v92).trips) (k0_t7 : Fin k0_t7_loop.trips), ∀ a, (k0_off469 v92 k0_t6 k0_t7) a + S1x16.size a ≤ S128x128.size a := fun v92 k0_hw2 k0_t6 k0_t7 => k0_hw2.2.2.2.2.2.2.2.1.2.2.2.2.2.2.2.2.2.1 k0_t6 k0_t7
theorem k0_off471_inb : ∀ (v92 : BitVec 32) (k0_hw2 : k0_chk2 v92) (k0_t6 : Fin (k0_t6_loop v92).trips) (k0_t7 : Fin k0_t7_loop.trips), ∀ a, (k0_off471 v92 k0_t6 k0_t7) a + S1x16.size a ≤ S128x128.size a := fun v92 k0_hw2 k0_t6 k0_t7 => k0_hw2.2.2.2.2.2.2.2.1.2.2.2.2.2.2.2.2.2.2.1 k0_t6 k0_t7
theorem k0_off473_inb : ∀ (v92 : BitVec 32) (k0_hw2 : k0_chk2 v92) (k0_t6 : Fin (k0_t6_loop v92).trips) (k0_t7 : Fin k0_t7_loop.trips), ∀ a, (k0_off473 v92 k0_t6 k0_t7) a + S1x16.size a ≤ S128x128.size a := fun v92 k0_hw2 k0_t6 k0_t7 => k0_hw2.2.2.2.2.2.2.2.1.2.2.2.2.2.2.2.2.2.2.2.1 k0_t6 k0_t7
theorem k0_off475_inb : ∀ (v92 : BitVec 32) (k0_hw2 : k0_chk2 v92) (k0_t6 : Fin (k0_t6_loop v92).trips) (k0_t7 : Fin k0_t7_loop.trips), ∀ a, (k0_off475 v92 k0_t6 k0_t7) a + S1x16.size a ≤ S128x128.size a := fun v92 k0_hw2 k0_t6 k0_t7 => k0_hw2.2.2.2.2.2.2.2.1.2.2.2.2.2.2.2.2.2.2.2.2.1 k0_t6 k0_t7
theorem k0_off477_inb : ∀ (v92 : BitVec 32) (k0_hw2 : k0_chk2 v92) (k0_t6 : Fin (k0_t6_loop v92).trips) (k0_t7 : Fin k0_t7_loop.trips), ∀ a, (k0_off477 v92 k0_t6 k0_t7) a + S1x16.size a ≤ S128x128.size a := fun v92 k0_hw2 k0_t6 k0_t7 => k0_hw2.2.2.2.2.2.2.2.1.2.2.2.2.2.2.2.2.2.2.2.2.2.1 k0_t6 k0_t7
theorem k0_off479_inb : ∀ (v92 : BitVec 32) (k0_hw2 : k0_chk2 v92) (k0_t6 : Fin (k0_t6_loop v92).trips) (k0_t7 : Fin k0_t7_loop.trips), ∀ a, (k0_off479 v92 k0_t6 k0_t7) a + S1x16.size a ≤ S128x128.size a := fun v92 k0_hw2 k0_t6 k0_t7 => k0_hw2.2.2.2.2.2.2.2.1.2.2.2.2.2.2.2.2.2.2.2.2.2.2.1 k0_t6 k0_t7
theorem k0_off481_inb : ∀ (v92 : BitVec 32) (k0_hw2 : k0_chk2 v92) (k0_t6 : Fin (k0_t6_loop v92).trips) (k0_t7 : Fin k0_t7_loop.trips), ∀ a, (k0_off481 v92 k0_t6 k0_t7) a + S1x16.size a ≤ S128x128.size a := fun v92 k0_hw2 k0_t6 k0_t7 => k0_hw2.2.2.2.2.2.2.2.1.2.2.2.2.2.2.2.2.2.2.2.2.2.2.2.1 k0_t6 k0_t7
theorem k0_off483_inb : ∀ (v92 : BitVec 32) (k0_hw2 : k0_chk2 v92) (k0_t6 : Fin (k0_t6_loop v92).trips) (k0_t7 : Fin k0_t7_loop.trips), ∀ a, (k0_off483 v92 k0_t6 k0_t7) a + S1x16.size a ≤ S128x128.size a := fun v92 k0_hw2 k0_t6 k0_t7 => k0_hw2.2.2.2.2.2.2.2.1.2.2.2.2.2.2.2.2.2.2.2.2.2.2.2.2.1 k0_t6 k0_t7
theorem k0_off485_inb : ∀ (v92 : BitVec 32) (k0_hw2 : k0_chk2 v92) (k0_t6 : Fin (k0_t6_loop v92).trips) (k0_t7 : Fin k0_t7_loop.trips), ∀ a, (k0_off485 v92 k0_t6 k0_t7) a + S1x16.size a ≤ S128x128.size a := fun v92 k0_hw2 k0_t6 k0_t7 => k0_hw2.2.2.2.2.2.2.2.1.2.2.2.2.2.2.2.2.2.2.2.2.2.2.2.2.2.1 k0_t6 k0_t7
theorem k0_off487_inb : ∀ (v92 : BitVec 32) (k0_hw2 : k0_chk2 v92) (k0_t6 : Fin (k0_t6_loop v92).trips) (k0_t7 : Fin k0_t7_loop.trips), ∀ a, (k0_off487 v92 k0_t6 k0_t7) a + S1x16.size a ≤ S128x128.size a := fun v92 k0_hw2 k0_t6 k0_t7 => k0_hw2.2.2.2.2.2.2.2.1.2.2.2.2.2.2.2.2.2.2.2.2.2.2.2.2.2.2.1 k0_t6 k0_t7
theorem k0_off489_inb : ∀ (v92 : BitVec 32) (k0_hw2 : k0_chk2 v92) (k0_t6 : Fin (k0_t6_loop v92).trips) (k0_t7 : Fin k0_t7_loop.trips), ∀ a, (k0_off489 v92 k0_t6 k0_t7) a + S1x16.size a ≤ S128x128.size a := fun v92 k0_hw2 k0_t6 k0_t7 => k0_hw2.2.2.2.2.2.2.2.1.2.2.2.2.2.2.2.2.2.2.2.2.2.2.2.2.2.2.2.1 k0_t6 k0_t7
theorem k0_off491_inb : ∀ (v92 : BitVec 32) (k0_hw2 : k0_chk2 v92) (k0_t6 : Fin (k0_t6_loop v92).trips) (k0_t7 : Fin k0_t7_loop.trips), ∀ a, (k0_off491 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.1 k0_t6 k0_t7
theorem k0_off493_inb : ∀ (v92 : BitVec 32) (k0_hw2 : k0_chk2 v92) (k0_t6 : Fin (k0_t6_loop v92).trips) (k0_t7 : Fin k0_t7_loop.trips), ∀ a, (k0_off493 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.1 k0_t6 k0_t7
theorem k0_off495_inb : ∀ (v92 : BitVec 32) (k0_hw2 : k0_chk2 v92) (k0_t6 : Fin (k0_t6_loop v92).trips) (k0_t7 : Fin k0_t7_loop.trips), ∀ a, (k0_off495 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.1 k0_t6 k0_t7
theorem k0_off497_inb : ∀ (v92 : BitVec 32) (k0_hw2 : k0_chk2 v92) (k0_t6 : Fin (k0_t6_loop v92).trips) (k0_t7 : Fin k0_t7_loop.trips), ∀ a, (k0_off497 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.1 k0_t6 k0_t7
theorem k0_off499_inb : ∀ (v92 : BitVec 32) (k0_hw2 : k0_chk2 v92) (k0_t6 : Fin (k0_t6_loop v92).trips) (k0_t7 : Fin k0_t7_loop.trips), ∀ a, (k0_off499 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.1 k0_t6 k0_t7
theorem k0_off501_inb : ∀ (v92 : BitVec 32) (k0_hw2 : k0_chk2 v92) (k0_t6 : Fin (k0_t6_loop v92).trips) (k0_t7 : Fin k0_t7_loop.trips), ∀ a, (k0_off501 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.1 k0_t6 k0_t7
theorem k0_off503_inb : ∀ (v92 : BitVec 32) (k0_hw2 : k0_chk2 v92) (k0_t6 : Fin (k0_t6_loop v92).trips) (k0_t7 : Fin k0_t7_loop.trips), ∀ a, (k0_off503 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.2.1 k0_t6 k0_t7
theorem k0_off505_inb : ∀ (v92 : BitVec 32) (k0_hw2 : k0_chk2 v92) (k0_t6 : Fin (k0_t6_loop v92).trips) (k0_t7 : Fin k0_t7_loop.trips), ∀ a, (k0_off505 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.2.2.1 k0_t6 k0_t7
theorem k0_off507_inb : ∀ (v92 : BitVec 32) (k0_hw2 : k0_chk2 v92) (k0_t6 : Fin (k0_t6_loop v92).trips) (k0_t7 : Fin k0_t7_loop.trips), ∀ a, (k0_off507 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.2.2.2.1 k0_t6 k0_t7
theorem k0_off509_inb : ∀ (v92 : BitVec 32) (k0_hw2 : k0_chk2 v92) (k0_t6 : Fin (k0_t6_loop v92).trips) (k0_t7 : Fin k0_t7_loop.trips), ∀ a, (k0_off509 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.2.2.2.2.1 k0_t6 k0_t7
theorem k0_off511_inb : ∀ (v92 : BitVec 32) (k0_hw2 : k0_chk2 v92) (k0_t6 : Fin (k0_t6_loop v92).trips) (k0_t7 : Fin k0_t7_loop.trips), ∀ a, (k0_off511 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.2.2.2.2.2.1 k0_t6 k0_t7
theorem k0_off513_inb : ∀ (v92 : BitVec 32) (k0_hw2 : k0_chk2 v92) (k0_t6 : Fin (k0_t6_loop v92).trips) (k0_t7 : Fin k0_t7_loop.trips), ∀ a, (k0_off513 v92 k0_t6 k0_t7) a + S1x16.size a ≤ S128x128.size a := fun v92 k0_hw2 k0_t6 k0_t7 => k0_hw2.2.2.2.2.2.2.2.1.2.2.2.2.2.2.2.2.2.2.2.2.2.2.2.2.2.2.2.2.2.2.2.2.2.2.2.2.2.2.2 k0_t6 k0_t7
theorem k0_off515_inb : ∀ (v92 : BitVec 32) (k0_hw2 : k0_chk2 v92) (k0_t6 : Fin (k0_t6_loop v92).trips) (k0_t7 : Fin k0_t7_loop.trips), ∀ a, (k0_off515 v92 k0_t6 k0_t7) a + S1x16.size a ≤ S128x128.size a := fun v92 k0_hw2 k0_t6 k0_t7 => k0_hw2.2.2.2.2.2.2.2.2.1 k0_t6 k0_t7
theorem k0_off517_inb : ∀ (v92 : BitVec 32) (k0_hw2 : k0_chk2 v92) (k0_t6 : Fin (k0_t6_loop v92).trips) (k0_t7 : Fin k0_t7_loop.trips), ∀ a, (k0_off517 v92 k0_t6 k0_t7) a + S1x16.size a ≤ S128x128.size a := fun v92 k0_hw2 k0_t6 k0_t7 => k0_hw2.2.2.2.2.2.2.2.2.2.1 k0_t6 k0_t7
theorem k0_off519_inb : ∀ (v92 : BitVec 32) (k0_hw2 : k0_chk2 v92) (k0_t6 : Fin (k0_t6_loop v92).trips) (k0_t7 : Fin k0_t7_loop.trips), ∀ a, (k0_off519 v92 k0_t6 k0_t7) a + S1x16.size a ≤ S128x128.size a := fun v92 k0_hw2 k0_t6 k0_t7 => k0_hw2.2.2.2.2.2.2.2.2.2.2.1 k0_t6 k0_t7
theorem k0_off521_inb : ∀ (v92 : BitVec 32) (k0_hw2 : k0_chk2 v92) (k0_t6 : Fin (k0_t6_loop v92).trips) (k0_t7 : Fin k0_t7_loop.trips), ∀ a, (k0_off521 v92 k0_t6 k0_t7) a + S1x16.size a ≤ S128x128.size a := fun v92 k0_hw2 k0_t6 k0_t7 => k0_hw2.2.2.2.2.2.2.2.2.2.2.2.1 k0_t6 k0_t7
theorem k0_off523_inb : ∀ (v92 : BitVec 32) (k0_hw2 : k0_chk2 v92) (k0_t6 : Fin (k0_t6_loop v92).trips) (k0_t7 : Fin k0_t7_loop.trips), ∀ a, (k0_off523 v92 k0_t6 k0_t7) a + S1x16.size a ≤ S128x128.size a := fun v92 k0_hw2 k0_t6 k0_t7 => k0_hw2.2.2.2.2.2.2.2.2.2.2.2.2.1 k0_t6 k0_t7
theorem k0_off525_inb : ∀ (v92 : BitVec 32) (k0_hw2 : k0_chk2 v92) (k0_t6 : Fin (k0_t6_loop v92).trips) (k0_t7 : Fin k0_t7_loop.trips), ∀ a, (k0_off525 v92 k0_t6 k0_t7) a + S1x16.size a ≤ S128x128.size a := fun v92 k0_hw2 k0_t6 k0_t7 => k0_hw2.2.2.2.2.2.2.2.2.2.2.2.2.2.1 k0_t6 k0_t7
theorem k0_off527_inb : ∀ (v92 : BitVec 32) (k0_hw2 : k0_chk2 v92) (k0_t6 : Fin (k0_t6_loop v92).trips) (k0_t7 : Fin k0_t7_loop.trips), ∀ a, (k0_off527 v92 k0_t6 k0_t7) a + S1x16.size a ≤ S128x128.size a := fun v92 k0_hw2 k0_t6 k0_t7 => k0_hw2.2.2.2.2.2.2.2.2.2.2.2.2.2.2.1 k0_t6 k0_t7
theorem k0_off529_inb : ∀ (v92 : BitVec 32) (k0_hw2 : k0_chk2 v92) (k0_t6 : Fin (k0_t6_loop v92).trips) (k0_t7 : Fin k0_t7_loop.trips), ∀ a, (k0_off529 v92 k0_t6 k0_t7) a + S1x16.size a ≤ S128x128.size a := fun v92 k0_hw2 k0_t6 k0_t7 => k0_hw2.2.2.2.2.2.2.2.2.2.2.2.2.2.2.2.1 k0_t6 k0_t7
theorem k0_off531_inb : ∀ (v92 : BitVec 32) (k0_hw2 : k0_chk2 v92) (k0_t6 : Fin (k0_t6_loop v92).trips) (k0_t7 : Fin k0_t7_loop.trips), ∀ a, (k0_off531 v92 k0_t6 k0_t7) a + S1x16.size a ≤ S128x128.size a := fun v92 k0_hw2 k0_t6 k0_t7 => k0_hw2.2.2.2.2.2.2.2.2.2.2.2.2.2.2.2.2.1 k0_t6 k0_t7
theorem k0_off533_inb : ∀ (v92 : BitVec 32) (k0_hw2 : k0_chk2 v92) (k0_t6 : Fin (k0_t6_loop v92).trips) (k0_t7 : Fin k0_t7_loop.trips), ∀ a, (k0_off533 v92 k0_t6 k0_t7) a + S1x16.size a ≤ S128x128.size a := fun v92 k0_hw2 k0_t6 k0_t7 => k0_hw2.2.2.2.2.2.2.2.2.2.2.2.2.2.2.2.2.2.1 k0_t6 k0_t7
theorem k0_off535_inb : ∀ (v92 : BitVec 32) (k0_hw2 : k0_chk2 v92) (k0_t6 : Fin (k0_t6_loop v92).trips) (k0_t7 : Fin k0_t7_loop.trips), ∀ a, (k0_off535 v92 k0_t6 k0_t7) a + S1x16.size a ≤ S128x128.size a := fun v92 k0_hw2 k0_t6 k0_t7 => k0_hw2.2.2.2.2.2.2.2.2.2.2.2.2.2.2.2.2.2.2.1 k0_t6 k0_t7
theorem k0_off537_inb : ∀ (v92 : BitVec 32) (k0_hw2 : k0_chk2 v92) (k0_t6 : Fin (k0_t6_loop v92).trips) (k0_t7 : Fin k0_t7_loop.trips), ∀ a, (k0_off537 v92 k0_t6 k0_t7) a + S1x16.size a ≤ S128x128.size a := fun v92 k0_hw2 k0_t6 k0_t7 => k0_hw2.2.2.2.2.2.2.2.2.2.2.2.2.2.2.2.2.2.2.2.1 k0_t6 k0_t7
theorem k0_off538_inb : ∀ (v92 : BitVec 32) (k0_hw2 : k0_chk2 v92), ∀ (r : Fin 4), ∀ a, (k0_off538 v92 (BitVec.ofNat 32 (16 * r.val))) a + S16.size a ≤ S3272.size a := fun v92 k0_hw2 r => k0_hw2.2.2.2.2.2.2.2.2.2.2.2.2.2.2.2.2.2.2.2.2 r

def k0_off539 (v12 : BitVec 32) (c0_i32_16 : BitVec 32) : Fin 1 → Nat :=
  let v14 : BitVec 32 := Scalar.addi v12 c0_i32_16
  let v15 : Index := Scalar.indexCast v14
  ![v15.toNat]

@[reducible] def k0_t8_loop (v12 : BitVec 32) : Scf.Loop 32 :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_41 : BitVec 32 := 1#32
  ⟨c0_i32_39, v71, c1_i32_41⟩
def k0_cond13 (v12 : BitVec 32) (k0_t8 : Fin (k0_t8_loop v12).trips) : BitVec 1 :=
  let c0_i32_39 : BitVec 32 := 0#32
  let c1_i32_41 : BitVec 32 := 1#32
  let arg14 : BitVec 32 := Scf.iv c0_i32_39 c1_i32_41 k0_t8
  let c1_i32_65 : BitVec 32 := 1#32
  let v103 : BitVec 32 := Scalar.addi arg14 c1_i32_65
  let c2_i32_66 : BitVec 32 := 2#32
  let c0_i32_67 : BitVec 32 := 0#32
  let v104 : BitVec 1 := Scalar.cmpi .eq c2_i32_66 c0_i32_67
  let c1_i32_68 : BitVec 32 := 1#32
  let v105 : BitVec 32 := Scalar.select v104 c1_i32_68 c2_i32_66
  let v106 : BitVec 32 := Scalar.remsi v103 v105
  let c0_i32_70 : BitVec 32 := 0#32
  let v108 : BitVec 1 := Scalar.cmpi .slt v106 c0_i32_70
  let c0_i32_71 : BitVec 32 := 0#32
  let v109 : BitVec 1 := Scalar.cmpi .slt v105 c0_i32_71
  let v110 : BitVec 1 := Scalar.xori v108 v109
  let c0_i32_69 : BitVec 32 := 0#32
  let v107 : BitVec 1 := Scalar.cmpi .ne v106 c0_i32_69
  let v111 : BitVec 1 := Scalar.andi v110 v107
  let v112 : BitVec 32 := Scalar.addi v106 v105
  let v113 : BitVec 32 := Scalar.select v111 v112 v106
  let c0_i32_73 : BitVec 32 := 0#32
  let v115 : BitVec 1 := Scalar.cmpi .eq v113 c0_i32_73
  let v116 : BitVec 32 := Scalar.extui v115
  let c0_i32_74 : BitVec 32 := 0#32
  let v117 : BitVec 1 := Scalar.cmpi .ne v116 c0_i32_74
  v117

def k0_off540 (v12 : BitVec 32) (k0_t8 : Fin (k0_t8_loop v12).trips) : Fin 1 → Nat :=
  let c0_i32_39 : BitVec 32 := 0#32
  let c1_i32_41 : BitVec 32 := 1#32
  let arg14 : BitVec 32 := Scf.iv c0_i32_39 c1_i32_41 k0_t8
  let c1_i32_64 : BitVec 32 := 1#32
  let v102 : BitVec 32 := Scalar.addi arg14 c1_i32_64
  let c64_i32_72 : BitVec 32 := 64#32
  let v114 : BitVec 32 := Scalar.muli v102 c64_i32_72
  ![v114.toNat]
def k0_cond12 (v12 : BitVec 32) (k0_t8 : Fin (k0_t8_loop v12).trips) : BitVec 1 :=
  let c0_i32_39 : BitVec 32 := 0#32
  let c1_i32_41 : BitVec 32 := 1#32
  let arg14 : BitVec 32 := Scf.iv c0_i32_39 c1_i32_41 k0_t8
  let c1_i32_43 : BitVec 32 := 1#32
  let v72 : BitVec 32 := Scalar.addi arg14 c1_i32_43
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v73 : BitVec 1 := Scalar.cmpi .slt v72 v63
  let v74 : BitVec 32 := Scalar.extui v73
  let c0_i32_44 : BitVec 32 := 0#32
  let v75 : BitVec 1 := Scalar.cmpi .ne v74 c0_i32_44
  v75

def k0_off541 (v12 : BitVec 32) (k0_t8 : Fin (k0_t8_loop v12).trips) : Fin 1 → Nat :=
  let c0_i32_39 : BitVec 32 := 0#32
  let c1_i32_41 : BitVec 32 := 1#32
  let arg14 : BitVec 32 := Scf.iv c0_i32_39 c1_i32_41 k0_t8
  let c1_i32_64 : BitVec 32 := 1#32
  let v102 : BitVec 32 := Scalar.addi arg14 c1_i32_64
  let c64_i32_72 : BitVec 32 := 64#32
  let v114 : BitVec 32 := Scalar.muli v102 c64_i32_72
  ![v114.toNat]
def k0_cond14 (v12 : BitVec 32) (k0_t8 : Fin (k0_t8_loop v12).trips) : BitVec 1 :=
  let c0_i32_39 : BitVec 32 := 0#32
  let c1_i32_41 : BitVec 32 := 1#32
  let arg14 : BitVec 32 := Scf.iv c0_i32_39 c1_i32_41 k0_t8
  let c2_i32 : BitVec 32 := 2#32
  let c0_i32_45 : BitVec 32 := 0#32
  let v76 : BitVec 1 := Scalar.cmpi .eq c2_i32 c0_i32_45
  let c1_i32_46 : BitVec 32 := 1#32
  let v77 : BitVec 32 := Scalar.select v76 c1_i32_46 c2_i32
  let v78 : BitVec 32 := Scalar.remsi arg14 v77
  let c0_i32_48 : BitVec 32 := 0#32
  let v80 : BitVec 1 := Scalar.cmpi .slt v78 c0_i32_48
  let c0_i32_49 : BitVec 32 := 0#32
  let v81 : BitVec 1 := Scalar.cmpi .slt v77 c0_i32_49
  let v82 : BitVec 1 := Scalar.xori v80 v81
  let c0_i32_47 : BitVec 32 := 0#32
  let v79 : BitVec 1 := Scalar.cmpi .ne v78 c0_i32_47
  let v83 : BitVec 1 := Scalar.andi v82 v79
  let v84 : BitVec 32 := Scalar.addi v78 v77
  let v85 : BitVec 32 := Scalar.select v83 v84 v78
  let c0_i32_51 : BitVec 32 := 0#32
  let v87 : BitVec 1 := Scalar.cmpi .eq v85 c0_i32_51
  let v88 : BitVec 32 := Scalar.extui v87
  let c0_i32_52 : BitVec 32 := 0#32
  let v89 : BitVec 1 := Scalar.cmpi .ne v88 c0_i32_52
  v89

def k0_off542 (v12 : BitVec 32) (k0_t8 : Fin (k0_t8_loop v12).trips) : Fin 1 → Nat :=
  let c0_i32_39 : BitVec 32 := 0#32
  let c1_i32_41 : BitVec 32 := 1#32
  let arg14 : BitVec 32 := Scf.iv c0_i32_39 c1_i32_41 k0_t8
  let c64_i32_50 : BitVec 32 := 64#32
  let v86 : BitVec 32 := Scalar.muli arg14 c64_i32_50
  ![v86.toNat]
def k0_off543 (v12 : BitVec 32) (k0_t8 : Fin (k0_t8_loop v12).trips) : Fin 1 → Nat :=
  let c0_i32_39 : BitVec 32 := 0#32
  let c1_i32_41 : BitVec 32 := 1#32
  let arg14 : BitVec 32 := Scf.iv c0_i32_39 c1_i32_41 k0_t8
  let c64_i32_50 : BitVec 32 := 64#32
  let v86 : BitVec 32 := Scalar.muli arg14 c64_i32_50
  ![v86.toNat]
@[reducible] def k0_t9_loop : Scf.Loop 32 :=
  let c0_i32_61 : BitVec 32 := 0#32
  let c4_i32 : BitVec 32 := 4#32
  let v101 : BitVec 32 := Scalar.addi c0_i32_61 c4_i32
  let c1_i32_62 : BitVec 32 := 1#32
  ⟨c0_i32_61, v101, c1_i32_62⟩
def k0_off544 (v12 : BitVec 32) (k0_t8 : Fin (k0_t8_loop v12).trips) (k0_t9 : Fin k0_t9_loop.trips) : Fin 1 → Nat :=
  let c0_i32_39 : BitVec 32 := 0#32
  let c1_i32_41 : BitVec 32 := 1#32
  let arg14 : BitVec 32 := Scf.iv c0_i32_39 c1_i32_41 k0_t8
  let c64_i32_64 : BitVec 32 := 64#32
  let v102 : BitVec 32 := Scalar.muli arg14 c64_i32_64
  let c0_i32_61 : BitVec 32 := 0#32
  let c1_i32_62 : BitVec 32 := 1#32
  let arg15 : BitVec 32 := Scf.iv c0_i32_61 c1_i32_62 k0_t9
  let c16_i32_65 : BitVec 32 := 16#32
  let v103 : BitVec 32 := Scalar.muli arg15 c16_i32_65
  let v104 : BitVec 32 := Scalar.addi v102 v103
  let v105 : Index := Scalar.indexCast v104
  ![v105.toNat]
def k0_off545 (v108 : BitVec 32) : Fin 2 → Nat :=
  let v112 : Index := Scalar.indexCast v108
  let c0 : Index := 0#32
  ![v112.toNat, 0]

def k0_off546 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v114 : Index := Scalar.indexCast v111
  let c0_68 : Index := 0#32
  ![v114.toNat, 0]
def k0_off547 (v108 : BitVec 32) : Fin 2 → Nat :=
  let v119 : Index := Scalar.indexCast v108
  let c16 : Index := 16#32
  ![v119.toNat, 16]
def k0_off548 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v121 : Index := Scalar.indexCast v111
  let c16_70 : Index := 16#32
  ![v121.toNat, 16]
def k0_off549 (v108 : BitVec 32) : Fin 2 → Nat :=
  let v126 : Index := Scalar.indexCast v108
  let c32 : Index := 32#32
  ![v126.toNat, 32]
def k0_off550 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v128 : Index := Scalar.indexCast v111
  let c32_72 : Index := 32#32
  ![v128.toNat, 32]
def k0_off551 (v108 : BitVec 32) : Fin 2 → Nat :=
  let v133 : Index := Scalar.indexCast v108
  let c48 : Index := 48#32
  ![v133.toNat, 48]
def k0_off552 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v135 : Index := Scalar.indexCast v111
  let c48_74 : Index := 48#32
  ![v135.toNat, 48]
def k0_off553 (v108 : BitVec 32) : Fin 2 → Nat :=
  let v140 : Index := Scalar.indexCast v108
  let c64 : Index := 64#32
  ![v140.toNat, 64]
def k0_off554 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v142 : Index := Scalar.indexCast v111
  let c64_76 : Index := 64#32
  ![v142.toNat, 64]
def k0_off555 (v108 : BitVec 32) : Fin 2 → Nat :=
  let v147 : Index := Scalar.indexCast v108
  let c80 : Index := 80#32
  ![v147.toNat, 80]
def k0_off556 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v149 : Index := Scalar.indexCast v111
  let c80_78 : Index := 80#32
  ![v149.toNat, 80]
def k0_off557 (v108 : BitVec 32) : Fin 2 → Nat :=
  let v154 : Index := Scalar.indexCast v108
  let c96 : Index := 96#32
  ![v154.toNat, 96]
def k0_off558 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v156 : Index := Scalar.indexCast v111
  let c96_80 : Index := 96#32
  ![v156.toNat, 96]
def k0_off559 (v108 : BitVec 32) : Fin 2 → Nat :=
  let v161 : Index := Scalar.indexCast v108
  let c112 : Index := 112#32
  ![v161.toNat, 112]

def k0_chk36 (v108 : BitVec 32) : Prop :=
  (∀ a, (k0_off545 v108) a + S1x16.size a ≤ S641x128.size a) ∧
  (∀ a, (k0_off547 v108) a + S1x16.size a ≤ S641x128.size a) ∧
  (∀ a, (k0_off549 v108) a + S1x16.size a ≤ S641x128.size a) ∧
  (∀ a, (k0_off551 v108) a + S1x16.size a ≤ S641x128.size a) ∧
  (∀ a, (k0_off553 v108) a + S1x16.size a ≤ S641x128.size a) ∧
  (∀ a, (k0_off555 v108) a + S1x16.size a ≤ S641x128.size a) ∧
  (∀ a, (k0_off557 v108) a + S1x16.size a ≤ S641x128.size a) ∧
  (∀ a, (k0_off559 v108) a + S1x16.size a ≤ S641x128.size a)
theorem k0_off545_inb : ∀ (v108 : BitVec 32) (k0_hw36 : k0_chk36 v108), ∀ a, (k0_off545 v108) a + S1x16.size a ≤ S641x128.size a := fun v108 k0_hw36 => k0_hw36.1
theorem k0_off547_inb : ∀ (v108 : BitVec 32) (k0_hw36 : k0_chk36 v108), ∀ a, (k0_off547 v108) a + S1x16.size a ≤ S641x128.size a := fun v108 k0_hw36 => k0_hw36.2.1
theorem k0_off549_inb : ∀ (v108 : BitVec 32) (k0_hw36 : k0_chk36 v108), ∀ a, (k0_off549 v108) a + S1x16.size a ≤ S641x128.size a := fun v108 k0_hw36 => k0_hw36.2.2.1
theorem k0_off551_inb : ∀ (v108 : BitVec 32) (k0_hw36 : k0_chk36 v108), ∀ a, (k0_off551 v108) a + S1x16.size a ≤ S641x128.size a := fun v108 k0_hw36 => k0_hw36.2.2.2.1
theorem k0_off553_inb : ∀ (v108 : BitVec 32) (k0_hw36 : k0_chk36 v108), ∀ a, (k0_off553 v108) a + S1x16.size a ≤ S641x128.size a := fun v108 k0_hw36 => k0_hw36.2.2.2.2.1
theorem k0_off555_inb : ∀ (v108 : BitVec 32) (k0_hw36 : k0_chk36 v108), ∀ a, (k0_off555 v108) a + S1x16.size a ≤ S641x128.size a := fun v108 k0_hw36 => k0_hw36.2.2.2.2.2.1
theorem k0_off557_inb : ∀ (v108 : BitVec 32) (k0_hw36 : k0_chk36 v108), ∀ a, (k0_off557 v108) a + S1x16.size a ≤ S641x128.size a := fun v108 k0_hw36 => k0_hw36.2.2.2.2.2.2.1
theorem k0_off559_inb : ∀ (v108 : BitVec 32) (k0_hw36 : k0_chk36 v108), ∀ a, (k0_off559 v108) a + S1x16.size a ≤ S641x128.size a := fun v108 k0_hw36 => k0_hw36.2.2.2.2.2.2.2

def k0_off560 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v163 : Index := Scalar.indexCast v111
  let c112_82 : Index := 112#32
  ![v163.toNat, 112]
def k0_off561 (v169 : BitVec 32) : Fin 2 → Nat :=
  let v173 : Index := Scalar.indexCast v169
  let c0_86 : Index := 0#32
  ![v173.toNat, 0]

def k0_off562 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v175 : Index := Scalar.indexCast v172
  let c0_87 : Index := 0#32
  ![v175.toNat, 0]
def k0_off563 (v169 : BitVec 32) : Fin 2 → Nat :=
  let v180 : Index := Scalar.indexCast v169
  let c16_89 : Index := 16#32
  ![v180.toNat, 16]
def k0_off564 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v182 : Index := Scalar.indexCast v172
  let c16_90 : Index := 16#32
  ![v182.toNat, 16]
def k0_off565 (v169 : BitVec 32) : Fin 2 → Nat :=
  let v187 : Index := Scalar.indexCast v169
  let c32_92 : Index := 32#32
  ![v187.toNat, 32]
def k0_off566 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v189 : Index := Scalar.indexCast v172
  let c32_93 : Index := 32#32
  ![v189.toNat, 32]
def k0_off567 (v169 : BitVec 32) : Fin 2 → Nat :=
  let v194 : Index := Scalar.indexCast v169
  let c48_95 : Index := 48#32
  ![v194.toNat, 48]
def k0_off568 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v196 : Index := Scalar.indexCast v172
  let c48_96 : Index := 48#32
  ![v196.toNat, 48]
def k0_off569 (v169 : BitVec 32) : Fin 2 → Nat :=
  let v201 : Index := Scalar.indexCast v169
  let c64_98 : Index := 64#32
  ![v201.toNat, 64]
def k0_off570 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v203 : Index := Scalar.indexCast v172
  let c64_99 : Index := 64#32
  ![v203.toNat, 64]
def k0_off571 (v169 : BitVec 32) : Fin 2 → Nat :=
  let v208 : Index := Scalar.indexCast v169
  let c80_101 : Index := 80#32
  ![v208.toNat, 80]
def k0_off572 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v210 : Index := Scalar.indexCast v172
  let c80_102 : Index := 80#32
  ![v210.toNat, 80]
def k0_off573 (v169 : BitVec 32) : Fin 2 → Nat :=
  let v215 : Index := Scalar.indexCast v169
  let c96_104 : Index := 96#32
  ![v215.toNat, 96]
def k0_off574 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v217 : Index := Scalar.indexCast v172
  let c96_105 : Index := 96#32
  ![v217.toNat, 96]
def k0_off575 (v169 : BitVec 32) : Fin 2 → Nat :=
  let v222 : Index := Scalar.indexCast v169
  let c112_107 : Index := 112#32
  ![v222.toNat, 112]

def k0_chk37 (v169 : BitVec 32) : Prop :=
  (∀ a, (k0_off561 v169) a + S1x16.size a ≤ S641x128.size a) ∧
  (∀ a, (k0_off563 v169) a + S1x16.size a ≤ S641x128.size a) ∧
  (∀ a, (k0_off565 v169) a + S1x16.size a ≤ S641x128.size a) ∧
  (∀ a, (k0_off567 v169) a + S1x16.size a ≤ S641x128.size a) ∧
  (∀ a, (k0_off569 v169) a + S1x16.size a ≤ S641x128.size a) ∧
  (∀ a, (k0_off571 v169) a + S1x16.size a ≤ S641x128.size a) ∧
  (∀ a, (k0_off573 v169) a + S1x16.size a ≤ S641x128.size a) ∧
  (∀ a, (k0_off575 v169) a + S1x16.size a ≤ S641x128.size a)
theorem k0_off561_inb : ∀ (v169 : BitVec 32) (k0_hw37 : k0_chk37 v169), ∀ a, (k0_off561 v169) a + S1x16.size a ≤ S641x128.size a := fun v169 k0_hw37 => k0_hw37.1
theorem k0_off563_inb : ∀ (v169 : BitVec 32) (k0_hw37 : k0_chk37 v169), ∀ a, (k0_off563 v169) a + S1x16.size a ≤ S641x128.size a := fun v169 k0_hw37 => k0_hw37.2.1
theorem k0_off565_inb : ∀ (v169 : BitVec 32) (k0_hw37 : k0_chk37 v169), ∀ a, (k0_off565 v169) a + S1x16.size a ≤ S641x128.size a := fun v169 k0_hw37 => k0_hw37.2.2.1
theorem k0_off567_inb : ∀ (v169 : BitVec 32) (k0_hw37 : k0_chk37 v169), ∀ a, (k0_off567 v169) a + S1x16.size a ≤ S641x128.size a := fun v169 k0_hw37 => k0_hw37.2.2.2.1
theorem k0_off569_inb : ∀ (v169 : BitVec 32) (k0_hw37 : k0_chk37 v169), ∀ a, (k0_off569 v169) a + S1x16.size a ≤ S641x128.size a := fun v169 k0_hw37 => k0_hw37.2.2.2.2.1
theorem k0_off571_inb : ∀ (v169 : BitVec 32) (k0_hw37 : k0_chk37 v169), ∀ a, (k0_off571 v169) a + S1x16.size a ≤ S641x128.size a := fun v169 k0_hw37 => k0_hw37.2.2.2.2.2.1
theorem k0_off573_inb : ∀ (v169 : BitVec 32) (k0_hw37 : k0_chk37 v169), ∀ a, (k0_off573 v169) a + S1x16.size a ≤ S641x128.size a := fun v169 k0_hw37 => k0_hw37.2.2.2.2.2.2.1
theorem k0_off575_inb : ∀ (v169 : BitVec 32) (k0_hw37 : k0_chk37 v169), ∀ a, (k0_off575 v169) a + S1x16.size a ≤ S641x128.size a := fun v169 k0_hw37 => k0_hw37.2.2.2.2.2.2.2

def k0_off576 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v224 : Index := Scalar.indexCast v172
  let c112_108 : Index := 112#32
  ![v224.toNat, 112]
def k0_off577 (v230 : BitVec 32) : Fin 2 → Nat :=
  let v234 : Index := Scalar.indexCast v230
  let c0_112 : Index := 0#32
  ![v234.toNat, 0]

def k0_off578 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v236 : Index := Scalar.indexCast v233
  let c0_113 : Index := 0#32
  ![v236.toNat, 0]
def k0_off579 (v230 : BitVec 32) : Fin 2 → Nat :=
  let v241 : Index := Scalar.indexCast v230
  let c16_115 : Index := 16#32
  ![v241.toNat, 16]
def k0_off580 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v243 : Index := Scalar.indexCast v233
  let c16_116 : Index := 16#32
  ![v243.toNat, 16]
def k0_off581 (v230 : BitVec 32) : Fin 2 → Nat :=
  let v248 : Index := Scalar.indexCast v230
  let c32_118 : Index := 32#32
  ![v248.toNat, 32]
def k0_off582 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v250 : Index := Scalar.indexCast v233
  let c32_119 : Index := 32#32
  ![v250.toNat, 32]
def k0_off583 (v230 : BitVec 32) : Fin 2 → Nat :=
  let v255 : Index := Scalar.indexCast v230
  let c48_121 : Index := 48#32
  ![v255.toNat, 48]
def k0_off584 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v257 : Index := Scalar.indexCast v233
  let c48_122 : Index := 48#32
  ![v257.toNat, 48]
def k0_off585 (v230 : BitVec 32) : Fin 2 → Nat :=
  let v262 : Index := Scalar.indexCast v230
  let c64_124 : Index := 64#32
  ![v262.toNat, 64]
def k0_off586 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v264 : Index := Scalar.indexCast v233
  let c64_125 : Index := 64#32
  ![v264.toNat, 64]
def k0_off587 (v230 : BitVec 32) : Fin 2 → Nat :=
  let v269 : Index := Scalar.indexCast v230
  let c80_127 : Index := 80#32
  ![v269.toNat, 80]
def k0_off588 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v271 : Index := Scalar.indexCast v233
  let c80_128 : Index := 80#32
  ![v271.toNat, 80]
def k0_off589 (v230 : BitVec 32) : Fin 2 → Nat :=
  let v276 : Index := Scalar.indexCast v230
  let c96_130 : Index := 96#32
  ![v276.toNat, 96]
def k0_off590 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v278 : Index := Scalar.indexCast v233
  let c96_131 : Index := 96#32
  ![v278.toNat, 96]
def k0_off591 (v230 : BitVec 32) : Fin 2 → Nat :=
  let v283 : Index := Scalar.indexCast v230
  let c112_133 : Index := 112#32
  ![v283.toNat, 112]

def k0_chk38 (v230 : BitVec 32) : Prop :=
  (∀ a, (k0_off577 v230) a + S1x16.size a ≤ S641x128.size a) ∧
  (∀ a, (k0_off579 v230) a + S1x16.size a ≤ S641x128.size a) ∧
  (∀ a, (k0_off581 v230) a + S1x16.size a ≤ S641x128.size a) ∧
  (∀ a, (k0_off583 v230) a + S1x16.size a ≤ S641x128.size a) ∧
  (∀ a, (k0_off585 v230) a + S1x16.size a ≤ S641x128.size a) ∧
  (∀ a, (k0_off587 v230) a + S1x16.size a ≤ S641x128.size a) ∧
  (∀ a, (k0_off589 v230) a + S1x16.size a ≤ S641x128.size a) ∧
  (∀ a, (k0_off591 v230) a + S1x16.size a ≤ S641x128.size a)
theorem k0_off577_inb : ∀ (v230 : BitVec 32) (k0_hw38 : k0_chk38 v230), ∀ a, (k0_off577 v230) a + S1x16.size a ≤ S641x128.size a := fun v230 k0_hw38 => k0_hw38.1
theorem k0_off579_inb : ∀ (v230 : BitVec 32) (k0_hw38 : k0_chk38 v230), ∀ a, (k0_off579 v230) a + S1x16.size a ≤ S641x128.size a := fun v230 k0_hw38 => k0_hw38.2.1
theorem k0_off581_inb : ∀ (v230 : BitVec 32) (k0_hw38 : k0_chk38 v230), ∀ a, (k0_off581 v230) a + S1x16.size a ≤ S641x128.size a := fun v230 k0_hw38 => k0_hw38.2.2.1
theorem k0_off583_inb : ∀ (v230 : BitVec 32) (k0_hw38 : k0_chk38 v230), ∀ a, (k0_off583 v230) a + S1x16.size a ≤ S641x128.size a := fun v230 k0_hw38 => k0_hw38.2.2.2.1
theorem k0_off585_inb : ∀ (v230 : BitVec 32) (k0_hw38 : k0_chk38 v230), ∀ a, (k0_off585 v230) a + S1x16.size a ≤ S641x128.size a := fun v230 k0_hw38 => k0_hw38.2.2.2.2.1
theorem k0_off587_inb : ∀ (v230 : BitVec 32) (k0_hw38 : k0_chk38 v230), ∀ a, (k0_off587 v230) a + S1x16.size a ≤ S641x128.size a := fun v230 k0_hw38 => k0_hw38.2.2.2.2.2.1
theorem k0_off589_inb : ∀ (v230 : BitVec 32) (k0_hw38 : k0_chk38 v230), ∀ a, (k0_off589 v230) a + S1x16.size a ≤ S641x128.size a := fun v230 k0_hw38 => k0_hw38.2.2.2.2.2.2.1
theorem k0_off591_inb : ∀ (v230 : BitVec 32) (k0_hw38 : k0_chk38 v230), ∀ a, (k0_off591 v230) a + S1x16.size a ≤ S641x128.size a := fun v230 k0_hw38 => k0_hw38.2.2.2.2.2.2.2

def k0_off592 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v285 : Index := Scalar.indexCast v233
  let c112_134 : Index := 112#32
  ![v285.toNat, 112]
def k0_off593 (v291 : BitVec 32) : Fin 2 → Nat :=
  let v295 : Index := Scalar.indexCast v291
  let c0_137 : Index := 0#32
  ![v295.toNat, 0]

def k0_off594 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v297 : Index := Scalar.indexCast v294
  let c0_138 : Index := 0#32
  ![v297.toNat, 0]
def k0_off595 (v291 : BitVec 32) : Fin 2 → Nat :=
  let v302 : Index := Scalar.indexCast v291
  let c16_140 : Index := 16#32
  ![v302.toNat, 16]
def k0_off596 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v304 : Index := Scalar.indexCast v294
  let c16_141 : Index := 16#32
  ![v304.toNat, 16]
def k0_off597 (v291 : BitVec 32) : Fin 2 → Nat :=
  let v309 : Index := Scalar.indexCast v291
  let c32_143 : Index := 32#32
  ![v309.toNat, 32]
def k0_off598 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v311 : Index := Scalar.indexCast v294
  let c32_144 : Index := 32#32
  ![v311.toNat, 32]
def k0_off599 (v291 : BitVec 32) : Fin 2 → Nat :=
  let v316 : Index := Scalar.indexCast v291
  let c48_146 : Index := 48#32
  ![v316.toNat, 48]
def k0_off600 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v318 : Index := Scalar.indexCast v294
  let c48_147 : Index := 48#32
  ![v318.toNat, 48]
def k0_off601 (v291 : BitVec 32) : Fin 2 → Nat :=
  let v323 : Index := Scalar.indexCast v291
  let c64_149 : Index := 64#32
  ![v323.toNat, 64]
def k0_off602 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v325 : Index := Scalar.indexCast v294
  let c64_150 : Index := 64#32
  ![v325.toNat, 64]
def k0_off603 (v291 : BitVec 32) : Fin 2 → Nat :=
  let v330 : Index := Scalar.indexCast v291
  let c80_152 : Index := 80#32
  ![v330.toNat, 80]
def k0_off604 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v332 : Index := Scalar.indexCast v294
  let c80_153 : Index := 80#32
  ![v332.toNat, 80]
def k0_off605 (v291 : BitVec 32) : Fin 2 → Nat :=
  let v337 : Index := Scalar.indexCast v291
  let c96_155 : Index := 96#32
  ![v337.toNat, 96]
def k0_off606 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v339 : Index := Scalar.indexCast v294
  let c96_156 : Index := 96#32
  ![v339.toNat, 96]
def k0_off607 (v291 : BitVec 32) : Fin 2 → Nat :=
  let v344 : Index := Scalar.indexCast v291
  let c112_158 : Index := 112#32
  ![v344.toNat, 112]

def k0_chk39 (v291 : BitVec 32) : Prop :=
  (∀ a, (k0_off593 v291) a + S1x16.size a ≤ S641x128.size a) ∧
  (∀ a, (k0_off595 v291) a + S1x16.size a ≤ S641x128.size a) ∧
  (∀ a, (k0_off597 v291) a + S1x16.size a ≤ S641x128.size a) ∧
  (∀ a, (k0_off599 v291) a + S1x16.size a ≤ S641x128.size a) ∧
  (∀ a, (k0_off601 v291) a + S1x16.size a ≤ S641x128.size a) ∧
  (∀ a, (k0_off603 v291) a + S1x16.size a ≤ S641x128.size a) ∧
  (∀ a, (k0_off605 v291) a + S1x16.size a ≤ S641x128.size a) ∧
  (∀ a, (k0_off607 v291) a + S1x16.size a ≤ S641x128.size a)
theorem k0_off593_inb : ∀ (v291 : BitVec 32) (k0_hw39 : k0_chk39 v291), ∀ a, (k0_off593 v291) a + S1x16.size a ≤ S641x128.size a := fun v291 k0_hw39 => k0_hw39.1
theorem k0_off595_inb : ∀ (v291 : BitVec 32) (k0_hw39 : k0_chk39 v291), ∀ a, (k0_off595 v291) a + S1x16.size a ≤ S641x128.size a := fun v291 k0_hw39 => k0_hw39.2.1
theorem k0_off597_inb : ∀ (v291 : BitVec 32) (k0_hw39 : k0_chk39 v291), ∀ a, (k0_off597 v291) a + S1x16.size a ≤ S641x128.size a := fun v291 k0_hw39 => k0_hw39.2.2.1
theorem k0_off599_inb : ∀ (v291 : BitVec 32) (k0_hw39 : k0_chk39 v291), ∀ a, (k0_off599 v291) a + S1x16.size a ≤ S641x128.size a := fun v291 k0_hw39 => k0_hw39.2.2.2.1
theorem k0_off601_inb : ∀ (v291 : BitVec 32) (k0_hw39 : k0_chk39 v291), ∀ a, (k0_off601 v291) a + S1x16.size a ≤ S641x128.size a := fun v291 k0_hw39 => k0_hw39.2.2.2.2.1
theorem k0_off603_inb : ∀ (v291 : BitVec 32) (k0_hw39 : k0_chk39 v291), ∀ a, (k0_off603 v291) a + S1x16.size a ≤ S641x128.size a := fun v291 k0_hw39 => k0_hw39.2.2.2.2.2.1
theorem k0_off605_inb : ∀ (v291 : BitVec 32) (k0_hw39 : k0_chk39 v291), ∀ a, (k0_off605 v291) a + S1x16.size a ≤ S641x128.size a := fun v291 k0_hw39 => k0_hw39.2.2.2.2.2.2.1
theorem k0_off607_inb : ∀ (v291 : BitVec 32) (k0_hw39 : k0_chk39 v291), ∀ a, (k0_off607 v291) a + S1x16.size a ≤ S641x128.size a := fun v291 k0_hw39 => k0_hw39.2.2.2.2.2.2.2

def k0_off608 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v346 : Index := Scalar.indexCast v294
  let c112_159 : Index := 112#32
  ![v346.toNat, 112]
def k0_off609 (v352 : BitVec 32) : Fin 2 → Nat :=
  let v356 : Index := Scalar.indexCast v352
  let c0_163 : Index := 0#32
  ![v356.toNat, 0]

def k0_off610 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v358 : Index := Scalar.indexCast v355
  let c0_164 : Index := 0#32
  ![v358.toNat, 0]
def k0_off611 (v352 : BitVec 32) : Fin 2 → Nat :=
  let v363 : Index := Scalar.indexCast v352
  let c16_166 : Index := 16#32
  ![v363.toNat, 16]
def k0_off612 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v365 : Index := Scalar.indexCast v355
  let c16_167 : Index := 16#32
  ![v365.toNat, 16]
def k0_off613 (v352 : BitVec 32) : Fin 2 → Nat :=
  let v370 : Index := Scalar.indexCast v352
  let c32_169 : Index := 32#32
  ![v370.toNat, 32]
def k0_off614 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v372 : Index := Scalar.indexCast v355
  let c32_170 : Index := 32#32
  ![v372.toNat, 32]
def k0_off615 (v352 : BitVec 32) : Fin 2 → Nat :=
  let v377 : Index := Scalar.indexCast v352
  let c48_172 : Index := 48#32
  ![v377.toNat, 48]
def k0_off616 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v379 : Index := Scalar.indexCast v355
  let c48_173 : Index := 48#32
  ![v379.toNat, 48]
def k0_off617 (v352 : BitVec 32) : Fin 2 → Nat :=
  let v384 : Index := Scalar.indexCast v352
  let c64_175 : Index := 64#32
  ![v384.toNat, 64]
def k0_off618 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v386 : Index := Scalar.indexCast v355
  let c64_176 : Index := 64#32
  ![v386.toNat, 64]
def k0_off619 (v352 : BitVec 32) : Fin 2 → Nat :=
  let v391 : Index := Scalar.indexCast v352
  let c80_178 : Index := 80#32
  ![v391.toNat, 80]
def k0_off620 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v393 : Index := Scalar.indexCast v355
  let c80_179 : Index := 80#32
  ![v393.toNat, 80]
def k0_off621 (v352 : BitVec 32) : Fin 2 → Nat :=
  let v398 : Index := Scalar.indexCast v352
  let c96_181 : Index := 96#32
  ![v398.toNat, 96]
def k0_off622 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v400 : Index := Scalar.indexCast v355
  let c96_182 : Index := 96#32
  ![v400.toNat, 96]
def k0_off623 (v352 : BitVec 32) : Fin 2 → Nat :=
  let v405 : Index := Scalar.indexCast v352
  let c112_184 : Index := 112#32
  ![v405.toNat, 112]

def k0_chk40 (v352 : BitVec 32) : Prop :=
  (∀ a, (k0_off609 v352) a + S1x16.size a ≤ S641x128.size a) ∧
  (∀ a, (k0_off611 v352) a + S1x16.size a ≤ S641x128.size a) ∧
  (∀ a, (k0_off613 v352) a + S1x16.size a ≤ S641x128.size a) ∧
  (∀ a, (k0_off615 v352) a + S1x16.size a ≤ S641x128.size a) ∧
  (∀ a, (k0_off617 v352) a + S1x16.size a ≤ S641x128.size a) ∧
  (∀ a, (k0_off619 v352) a + S1x16.size a ≤ S641x128.size a) ∧
  (∀ a, (k0_off621 v352) a + S1x16.size a ≤ S641x128.size a) ∧
  (∀ a, (k0_off623 v352) a + S1x16.size a ≤ S641x128.size a)
theorem k0_off609_inb : ∀ (v352 : BitVec 32) (k0_hw40 : k0_chk40 v352), ∀ a, (k0_off609 v352) a + S1x16.size a ≤ S641x128.size a := fun v352 k0_hw40 => k0_hw40.1
theorem k0_off611_inb : ∀ (v352 : BitVec 32) (k0_hw40 : k0_chk40 v352), ∀ a, (k0_off611 v352) a + S1x16.size a ≤ S641x128.size a := fun v352 k0_hw40 => k0_hw40.2.1
theorem k0_off613_inb : ∀ (v352 : BitVec 32) (k0_hw40 : k0_chk40 v352), ∀ a, (k0_off613 v352) a + S1x16.size a ≤ S641x128.size a := fun v352 k0_hw40 => k0_hw40.2.2.1
theorem k0_off615_inb : ∀ (v352 : BitVec 32) (k0_hw40 : k0_chk40 v352), ∀ a, (k0_off615 v352) a + S1x16.size a ≤ S641x128.size a := fun v352 k0_hw40 => k0_hw40.2.2.2.1
theorem k0_off617_inb : ∀ (v352 : BitVec 32) (k0_hw40 : k0_chk40 v352), ∀ a, (k0_off617 v352) a + S1x16.size a ≤ S641x128.size a := fun v352 k0_hw40 => k0_hw40.2.2.2.2.1
theorem k0_off619_inb : ∀ (v352 : BitVec 32) (k0_hw40 : k0_chk40 v352), ∀ a, (k0_off619 v352) a + S1x16.size a ≤ S641x128.size a := fun v352 k0_hw40 => k0_hw40.2.2.2.2.2.1
theorem k0_off621_inb : ∀ (v352 : BitVec 32) (k0_hw40 : k0_chk40 v352), ∀ a, (k0_off621 v352) a + S1x16.size a ≤ S641x128.size a := fun v352 k0_hw40 => k0_hw40.2.2.2.2.2.2.1
theorem k0_off623_inb : ∀ (v352 : BitVec 32) (k0_hw40 : k0_chk40 v352), ∀ a, (k0_off623 v352) a + S1x16.size a ≤ S641x128.size a := fun v352 k0_hw40 => k0_hw40.2.2.2.2.2.2.2

def k0_off624 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v407 : Index := Scalar.indexCast v355
  let c112_185 : Index := 112#32
  ![v407.toNat, 112]
def k0_off625 (v413 : BitVec 32) : Fin 2 → Nat :=
  let v417 : Index := Scalar.indexCast v413
  let c0_188 : Index := 0#32
  ![v417.toNat, 0]

def k0_off626 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v419 : Index := Scalar.indexCast v416
  let c0_189 : Index := 0#32
  ![v419.toNat, 0]
def k0_off627 (v413 : BitVec 32) : Fin 2 → Nat :=
  let v424 : Index := Scalar.indexCast v413
  let c16_191 : Index := 16#32
  ![v424.toNat, 16]
def k0_off628 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v426 : Index := Scalar.indexCast v416
  let c16_192 : Index := 16#32
  ![v426.toNat, 16]
def k0_off629 (v413 : BitVec 32) : Fin 2 → Nat :=
  let v431 : Index := Scalar.indexCast v413
  let c32_194 : Index := 32#32
  ![v431.toNat, 32]
def k0_off630 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v433 : Index := Scalar.indexCast v416
  let c32_195 : Index := 32#32
  ![v433.toNat, 32]
def k0_off631 (v413 : BitVec 32) : Fin 2 → Nat :=
  let v438 : Index := Scalar.indexCast v413
  let c48_197 : Index := 48#32
  ![v438.toNat, 48]
def k0_off632 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v440 : Index := Scalar.indexCast v416
  let c48_198 : Index := 48#32
  ![v440.toNat, 48]
def k0_off633 (v413 : BitVec 32) : Fin 2 → Nat :=
  let v445 : Index := Scalar.indexCast v413
  let c64_200 : Index := 64#32
  ![v445.toNat, 64]
def k0_off634 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v447 : Index := Scalar.indexCast v416
  let c64_201 : Index := 64#32
  ![v447.toNat, 64]
def k0_off635 (v413 : BitVec 32) : Fin 2 → Nat :=
  let v452 : Index := Scalar.indexCast v413
  let c80_203 : Index := 80#32
  ![v452.toNat, 80]
def k0_off636 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v454 : Index := Scalar.indexCast v416
  let c80_204 : Index := 80#32
  ![v454.toNat, 80]
def k0_off637 (v413 : BitVec 32) : Fin 2 → Nat :=
  let v459 : Index := Scalar.indexCast v413
  let c96_206 : Index := 96#32
  ![v459.toNat, 96]
def k0_off638 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v461 : Index := Scalar.indexCast v416
  let c96_207 : Index := 96#32
  ![v461.toNat, 96]
def k0_off639 (v413 : BitVec 32) : Fin 2 → Nat :=
  let v466 : Index := Scalar.indexCast v413
  let c112_209 : Index := 112#32
  ![v466.toNat, 112]

def k0_chk41 (v413 : BitVec 32) : Prop :=
  (∀ a, (k0_off625 v413) a + S1x16.size a ≤ S641x128.size a) ∧
  (∀ a, (k0_off627 v413) a + S1x16.size a ≤ S641x128.size a) ∧
  (∀ a, (k0_off629 v413) a + S1x16.size a ≤ S641x128.size a) ∧
  (∀ a, (k0_off631 v413) a + S1x16.size a ≤ S641x128.size a) ∧
  (∀ a, (k0_off633 v413) a + S1x16.size a ≤ S641x128.size a) ∧
  (∀ a, (k0_off635 v413) a + S1x16.size a ≤ S641x128.size a) ∧
  (∀ a, (k0_off637 v413) a + S1x16.size a ≤ S641x128.size a) ∧
  (∀ a, (k0_off639 v413) a + S1x16.size a ≤ S641x128.size a)
theorem k0_off625_inb : ∀ (v413 : BitVec 32) (k0_hw41 : k0_chk41 v413), ∀ a, (k0_off625 v413) a + S1x16.size a ≤ S641x128.size a := fun v413 k0_hw41 => k0_hw41.1
theorem k0_off627_inb : ∀ (v413 : BitVec 32) (k0_hw41 : k0_chk41 v413), ∀ a, (k0_off627 v413) a + S1x16.size a ≤ S641x128.size a := fun v413 k0_hw41 => k0_hw41.2.1
theorem k0_off629_inb : ∀ (v413 : BitVec 32) (k0_hw41 : k0_chk41 v413), ∀ a, (k0_off629 v413) a + S1x16.size a ≤ S641x128.size a := fun v413 k0_hw41 => k0_hw41.2.2.1
theorem k0_off631_inb : ∀ (v413 : BitVec 32) (k0_hw41 : k0_chk41 v413), ∀ a, (k0_off631 v413) a + S1x16.size a ≤ S641x128.size a := fun v413 k0_hw41 => k0_hw41.2.2.2.1
theorem k0_off633_inb : ∀ (v413 : BitVec 32) (k0_hw41 : k0_chk41 v413), ∀ a, (k0_off633 v413) a + S1x16.size a ≤ S641x128.size a := fun v413 k0_hw41 => k0_hw41.2.2.2.2.1
theorem k0_off635_inb : ∀ (v413 : BitVec 32) (k0_hw41 : k0_chk41 v413), ∀ a, (k0_off635 v413) a + S1x16.size a ≤ S641x128.size a := fun v413 k0_hw41 => k0_hw41.2.2.2.2.2.1
theorem k0_off637_inb : ∀ (v413 : BitVec 32) (k0_hw41 : k0_chk41 v413), ∀ a, (k0_off637 v413) a + S1x16.size a ≤ S641x128.size a := fun v413 k0_hw41 => k0_hw41.2.2.2.2.2.2.1
theorem k0_off639_inb : ∀ (v413 : BitVec 32) (k0_hw41 : k0_chk41 v413), ∀ a, (k0_off639 v413) a + S1x16.size a ≤ S641x128.size a := fun v413 k0_hw41 => k0_hw41.2.2.2.2.2.2.2

def k0_off640 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v468 : Index := Scalar.indexCast v416
  let c112_210 : Index := 112#32
  ![v468.toNat, 112]
def k0_off641 (v474 : BitVec 32) : Fin 2 → Nat :=
  let v478 : Index := Scalar.indexCast v474
  let c0_213 : Index := 0#32
  ![v478.toNat, 0]

def k0_off642 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v480 : Index := Scalar.indexCast v477
  let c0_214 : Index := 0#32
  ![v480.toNat, 0]
def k0_off643 (v474 : BitVec 32) : Fin 2 → Nat :=
  let v485 : Index := Scalar.indexCast v474
  let c16_216 : Index := 16#32
  ![v485.toNat, 16]
def k0_off644 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v487 : Index := Scalar.indexCast v477
  let c16_217 : Index := 16#32
  ![v487.toNat, 16]
def k0_off645 (v474 : BitVec 32) : Fin 2 → Nat :=
  let v492 : Index := Scalar.indexCast v474
  let c32_219 : Index := 32#32
  ![v492.toNat, 32]
def k0_off646 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v494 : Index := Scalar.indexCast v477
  let c32_220 : Index := 32#32
  ![v494.toNat, 32]
def k0_off647 (v474 : BitVec 32) : Fin 2 → Nat :=
  let v499 : Index := Scalar.indexCast v474
  let c48_222 : Index := 48#32
  ![v499.toNat, 48]
def k0_off648 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v501 : Index := Scalar.indexCast v477
  let c48_223 : Index := 48#32
  ![v501.toNat, 48]
def k0_off649 (v474 : BitVec 32) : Fin 2 → Nat :=
  let v506 : Index := Scalar.indexCast v474
  let c64_225 : Index := 64#32
  ![v506.toNat, 64]
def k0_off650 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v508 : Index := Scalar.indexCast v477
  let c64_226 : Index := 64#32
  ![v508.toNat, 64]
def k0_off651 (v474 : BitVec 32) : Fin 2 → Nat :=
  let v513 : Index := Scalar.indexCast v474
  let c80_228 : Index := 80#32
  ![v513.toNat, 80]
def k0_off652 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v515 : Index := Scalar.indexCast v477
  let c80_229 : Index := 80#32
  ![v515.toNat, 80]
def k0_off653 (v474 : BitVec 32) : Fin 2 → Nat :=
  let v520 : Index := Scalar.indexCast v474
  let c96_231 : Index := 96#32
  ![v520.toNat, 96]
def k0_off654 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v522 : Index := Scalar.indexCast v477
  let c96_232 : Index := 96#32
  ![v522.toNat, 96]
def k0_off655 (v474 : BitVec 32) : Fin 2 → Nat :=
  let v527 : Index := Scalar.indexCast v474
  let c112_234 : Index := 112#32
  ![v527.toNat, 112]

def k0_chk42 (v474 : BitVec 32) : Prop :=
  (∀ a, (k0_off641 v474) a + S1x16.size a ≤ S641x128.size a) ∧
  (∀ a, (k0_off643 v474) a + S1x16.size a ≤ S641x128.size a) ∧
  (∀ a, (k0_off645 v474) a + S1x16.size a ≤ S641x128.size a) ∧
  (∀ a, (k0_off647 v474) a + S1x16.size a ≤ S641x128.size a) ∧
  (∀ a, (k0_off649 v474) a + S1x16.size a ≤ S641x128.size a) ∧
  (∀ a, (k0_off651 v474) a + S1x16.size a ≤ S641x128.size a) ∧
  (∀ a, (k0_off653 v474) a + S1x16.size a ≤ S641x128.size a) ∧
  (∀ a, (k0_off655 v474) a + S1x16.size a ≤ S641x128.size a)
theorem k0_off641_inb : ∀ (v474 : BitVec 32) (k0_hw42 : k0_chk42 v474), ∀ a, (k0_off641 v474) a + S1x16.size a ≤ S641x128.size a := fun v474 k0_hw42 => k0_hw42.1
theorem k0_off643_inb : ∀ (v474 : BitVec 32) (k0_hw42 : k0_chk42 v474), ∀ a, (k0_off643 v474) a + S1x16.size a ≤ S641x128.size a := fun v474 k0_hw42 => k0_hw42.2.1
theorem k0_off645_inb : ∀ (v474 : BitVec 32) (k0_hw42 : k0_chk42 v474), ∀ a, (k0_off645 v474) a + S1x16.size a ≤ S641x128.size a := fun v474 k0_hw42 => k0_hw42.2.2.1
theorem k0_off647_inb : ∀ (v474 : BitVec 32) (k0_hw42 : k0_chk42 v474), ∀ a, (k0_off647 v474) a + S1x16.size a ≤ S641x128.size a := fun v474 k0_hw42 => k0_hw42.2.2.2.1
theorem k0_off649_inb : ∀ (v474 : BitVec 32) (k0_hw42 : k0_chk42 v474), ∀ a, (k0_off649 v474) a + S1x16.size a ≤ S641x128.size a := fun v474 k0_hw42 => k0_hw42.2.2.2.2.1
theorem k0_off651_inb : ∀ (v474 : BitVec 32) (k0_hw42 : k0_chk42 v474), ∀ a, (k0_off651 v474) a + S1x16.size a ≤ S641x128.size a := fun v474 k0_hw42 => k0_hw42.2.2.2.2.2.1
theorem k0_off653_inb : ∀ (v474 : BitVec 32) (k0_hw42 : k0_chk42 v474), ∀ a, (k0_off653 v474) a + S1x16.size a ≤ S641x128.size a := fun v474 k0_hw42 => k0_hw42.2.2.2.2.2.2.1
theorem k0_off655_inb : ∀ (v474 : BitVec 32) (k0_hw42 : k0_chk42 v474), ∀ a, (k0_off655 v474) a + S1x16.size a ≤ S641x128.size a := fun v474 k0_hw42 => k0_hw42.2.2.2.2.2.2.2

def k0_off656 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v529 : Index := Scalar.indexCast v477
  let c112_235 : Index := 112#32
  ![v529.toNat, 112]
def k0_off657 (v535 : BitVec 32) : Fin 2 → Nat :=
  let v539 : Index := Scalar.indexCast v535
  let c0_238 : Index := 0#32
  ![v539.toNat, 0]

def k0_off658 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v541 : Index := Scalar.indexCast v538
  let c0_239 : Index := 0#32
  ![v541.toNat, 0]
def k0_off659 (v535 : BitVec 32) : Fin 2 → Nat :=
  let v546 : Index := Scalar.indexCast v535
  let c16_241 : Index := 16#32
  ![v546.toNat, 16]
def k0_off660 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v548 : Index := Scalar.indexCast v538
  let c16_242 : Index := 16#32
  ![v548.toNat, 16]
def k0_off661 (v535 : BitVec 32) : Fin 2 → Nat :=
  let v553 : Index := Scalar.indexCast v535
  let c32_244 : Index := 32#32
  ![v553.toNat, 32]
def k0_off662 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v555 : Index := Scalar.indexCast v538
  let c32_245 : Index := 32#32
  ![v555.toNat, 32]
def k0_off663 (v535 : BitVec 32) : Fin 2 → Nat :=
  let v560 : Index := Scalar.indexCast v535
  let c48_247 : Index := 48#32
  ![v560.toNat, 48]
def k0_off664 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v562 : Index := Scalar.indexCast v538
  let c48_248 : Index := 48#32
  ![v562.toNat, 48]
def k0_off665 (v535 : BitVec 32) : Fin 2 → Nat :=
  let v567 : Index := Scalar.indexCast v535
  let c64_250 : Index := 64#32
  ![v567.toNat, 64]
def k0_off666 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v569 : Index := Scalar.indexCast v538
  let c64_251 : Index := 64#32
  ![v569.toNat, 64]
def k0_off667 (v535 : BitVec 32) : Fin 2 → Nat :=
  let v574 : Index := Scalar.indexCast v535
  let c80_253 : Index := 80#32
  ![v574.toNat, 80]
def k0_off668 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v576 : Index := Scalar.indexCast v538
  let c80_254 : Index := 80#32
  ![v576.toNat, 80]
def k0_off669 (v535 : BitVec 32) : Fin 2 → Nat :=
  let v581 : Index := Scalar.indexCast v535
  let c96_256 : Index := 96#32
  ![v581.toNat, 96]
def k0_off670 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v583 : Index := Scalar.indexCast v538
  let c96_257 : Index := 96#32
  ![v583.toNat, 96]
def k0_off671 (v535 : BitVec 32) : Fin 2 → Nat :=
  let v588 : Index := Scalar.indexCast v535
  let c112_259 : Index := 112#32
  ![v588.toNat, 112]

def k0_chk43 (v535 : BitVec 32) : Prop :=
  (∀ a, (k0_off657 v535) a + S1x16.size a ≤ S641x128.size a) ∧
  (∀ a, (k0_off659 v535) a + S1x16.size a ≤ S641x128.size a) ∧
  (∀ a, (k0_off661 v535) a + S1x16.size a ≤ S641x128.size a) ∧
  (∀ a, (k0_off663 v535) a + S1x16.size a ≤ S641x128.size a) ∧
  (∀ a, (k0_off665 v535) a + S1x16.size a ≤ S641x128.size a) ∧
  (∀ a, (k0_off667 v535) a + S1x16.size a ≤ S641x128.size a) ∧
  (∀ a, (k0_off669 v535) a + S1x16.size a ≤ S641x128.size a) ∧
  (∀ a, (k0_off671 v535) a + S1x16.size a ≤ S641x128.size a)
theorem k0_off657_inb : ∀ (v535 : BitVec 32) (k0_hw43 : k0_chk43 v535), ∀ a, (k0_off657 v535) a + S1x16.size a ≤ S641x128.size a := fun v535 k0_hw43 => k0_hw43.1
theorem k0_off659_inb : ∀ (v535 : BitVec 32) (k0_hw43 : k0_chk43 v535), ∀ a, (k0_off659 v535) a + S1x16.size a ≤ S641x128.size a := fun v535 k0_hw43 => k0_hw43.2.1
theorem k0_off661_inb : ∀ (v535 : BitVec 32) (k0_hw43 : k0_chk43 v535), ∀ a, (k0_off661 v535) a + S1x16.size a ≤ S641x128.size a := fun v535 k0_hw43 => k0_hw43.2.2.1
theorem k0_off663_inb : ∀ (v535 : BitVec 32) (k0_hw43 : k0_chk43 v535), ∀ a, (k0_off663 v535) a + S1x16.size a ≤ S641x128.size a := fun v535 k0_hw43 => k0_hw43.2.2.2.1
theorem k0_off665_inb : ∀ (v535 : BitVec 32) (k0_hw43 : k0_chk43 v535), ∀ a, (k0_off665 v535) a + S1x16.size a ≤ S641x128.size a := fun v535 k0_hw43 => k0_hw43.2.2.2.2.1
theorem k0_off667_inb : ∀ (v535 : BitVec 32) (k0_hw43 : k0_chk43 v535), ∀ a, (k0_off667 v535) a + S1x16.size a ≤ S641x128.size a := fun v535 k0_hw43 => k0_hw43.2.2.2.2.2.1
theorem k0_off669_inb : ∀ (v535 : BitVec 32) (k0_hw43 : k0_chk43 v535), ∀ a, (k0_off669 v535) a + S1x16.size a ≤ S641x128.size a := fun v535 k0_hw43 => k0_hw43.2.2.2.2.2.2.1
theorem k0_off671_inb : ∀ (v535 : BitVec 32) (k0_hw43 : k0_chk43 v535), ∀ a, (k0_off671 v535) a + S1x16.size a ≤ S641x128.size a := fun v535 k0_hw43 => k0_hw43.2.2.2.2.2.2.2

def k0_off672 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v590 : Index := Scalar.indexCast v538
  let c112_260 : Index := 112#32
  ![v590.toNat, 112]
def k0_off673 (v596 : BitVec 32) : Fin 2 → Nat :=
  let v600 : Index := Scalar.indexCast v596
  let c0_263 : Index := 0#32
  ![v600.toNat, 0]

def k0_off674 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v602 : Index := Scalar.indexCast v599
  let c0_264 : Index := 0#32
  ![v602.toNat, 0]
def k0_off675 (v596 : BitVec 32) : Fin 2 → Nat :=
  let v607 : Index := Scalar.indexCast v596
  let c16_266 : Index := 16#32
  ![v607.toNat, 16]
def k0_off676 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v609 : Index := Scalar.indexCast v599
  let c16_267 : Index := 16#32
  ![v609.toNat, 16]
def k0_off677 (v596 : BitVec 32) : Fin 2 → Nat :=
  let v614 : Index := Scalar.indexCast v596
  let c32_269 : Index := 32#32
  ![v614.toNat, 32]
def k0_off678 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v616 : Index := Scalar.indexCast v599
  let c32_270 : Index := 32#32
  ![v616.toNat, 32]
def k0_off679 (v596 : BitVec 32) : Fin 2 → Nat :=
  let v621 : Index := Scalar.indexCast v596
  let c48_272 : Index := 48#32
  ![v621.toNat, 48]
def k0_off680 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v623 : Index := Scalar.indexCast v599
  let c48_273 : Index := 48#32
  ![v623.toNat, 48]
def k0_off681 (v596 : BitVec 32) : Fin 2 → Nat :=
  let v628 : Index := Scalar.indexCast v596
  let c64_275 : Index := 64#32
  ![v628.toNat, 64]
def k0_off682 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v630 : Index := Scalar.indexCast v599
  let c64_276 : Index := 64#32
  ![v630.toNat, 64]
def k0_off683 (v596 : BitVec 32) : Fin 2 → Nat :=
  let v635 : Index := Scalar.indexCast v596
  let c80_278 : Index := 80#32
  ![v635.toNat, 80]
def k0_off684 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v637 : Index := Scalar.indexCast v599
  let c80_279 : Index := 80#32
  ![v637.toNat, 80]
def k0_off685 (v596 : BitVec 32) : Fin 2 → Nat :=
  let v642 : Index := Scalar.indexCast v596
  let c96_281 : Index := 96#32
  ![v642.toNat, 96]
def k0_off686 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v644 : Index := Scalar.indexCast v599
  let c96_282 : Index := 96#32
  ![v644.toNat, 96]
def k0_off687 (v596 : BitVec 32) : Fin 2 → Nat :=
  let v649 : Index := Scalar.indexCast v596
  let c112_284 : Index := 112#32
  ![v649.toNat, 112]

def k0_chk44 (v596 : BitVec 32) : Prop :=
  (∀ a, (k0_off673 v596) a + S1x16.size a ≤ S641x128.size a) ∧
  (∀ a, (k0_off675 v596) a + S1x16.size a ≤ S641x128.size a) ∧
  (∀ a, (k0_off677 v596) a + S1x16.size a ≤ S641x128.size a) ∧
  (∀ a, (k0_off679 v596) a + S1x16.size a ≤ S641x128.size a) ∧
  (∀ a, (k0_off681 v596) a + S1x16.size a ≤ S641x128.size a) ∧
  (∀ a, (k0_off683 v596) a + S1x16.size a ≤ S641x128.size a) ∧
  (∀ a, (k0_off685 v596) a + S1x16.size a ≤ S641x128.size a) ∧
  (∀ a, (k0_off687 v596) a + S1x16.size a ≤ S641x128.size a)
theorem k0_off673_inb : ∀ (v596 : BitVec 32) (k0_hw44 : k0_chk44 v596), ∀ a, (k0_off673 v596) a + S1x16.size a ≤ S641x128.size a := fun v596 k0_hw44 => k0_hw44.1
theorem k0_off675_inb : ∀ (v596 : BitVec 32) (k0_hw44 : k0_chk44 v596), ∀ a, (k0_off675 v596) a + S1x16.size a ≤ S641x128.size a := fun v596 k0_hw44 => k0_hw44.2.1
theorem k0_off677_inb : ∀ (v596 : BitVec 32) (k0_hw44 : k0_chk44 v596), ∀ a, (k0_off677 v596) a + S1x16.size a ≤ S641x128.size a := fun v596 k0_hw44 => k0_hw44.2.2.1
theorem k0_off679_inb : ∀ (v596 : BitVec 32) (k0_hw44 : k0_chk44 v596), ∀ a, (k0_off679 v596) a + S1x16.size a ≤ S641x128.size a := fun v596 k0_hw44 => k0_hw44.2.2.2.1
theorem k0_off681_inb : ∀ (v596 : BitVec 32) (k0_hw44 : k0_chk44 v596), ∀ a, (k0_off681 v596) a + S1x16.size a ≤ S641x128.size a := fun v596 k0_hw44 => k0_hw44.2.2.2.2.1
theorem k0_off683_inb : ∀ (v596 : BitVec 32) (k0_hw44 : k0_chk44 v596), ∀ a, (k0_off683 v596) a + S1x16.size a ≤ S641x128.size a := fun v596 k0_hw44 => k0_hw44.2.2.2.2.2.1
theorem k0_off685_inb : ∀ (v596 : BitVec 32) (k0_hw44 : k0_chk44 v596), ∀ a, (k0_off685 v596) a + S1x16.size a ≤ S641x128.size a := fun v596 k0_hw44 => k0_hw44.2.2.2.2.2.2.1
theorem k0_off687_inb : ∀ (v596 : BitVec 32) (k0_hw44 : k0_chk44 v596), ∀ a, (k0_off687 v596) a + S1x16.size a ≤ S641x128.size a := fun v596 k0_hw44 => k0_hw44.2.2.2.2.2.2.2

def k0_off688 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v651 : Index := Scalar.indexCast v599
  let c112_285 : Index := 112#32
  ![v651.toNat, 112]
def k0_off689 (v657 : BitVec 32) : Fin 2 → Nat :=
  let v661 : Index := Scalar.indexCast v657
  let c0_288 : Index := 0#32
  ![v661.toNat, 0]

def k0_off690 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v663 : Index := Scalar.indexCast v660
  let c0_289 : Index := 0#32
  ![v663.toNat, 0]
def k0_off691 (v657 : BitVec 32) : Fin 2 → Nat :=
  let v668 : Index := Scalar.indexCast v657
  let c16_291 : Index := 16#32
  ![v668.toNat, 16]
def k0_off692 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v670 : Index := Scalar.indexCast v660
  let c16_292 : Index := 16#32
  ![v670.toNat, 16]
def k0_off693 (v657 : BitVec 32) : Fin 2 → Nat :=
  let v675 : Index := Scalar.indexCast v657
  let c32_294 : Index := 32#32
  ![v675.toNat, 32]
def k0_off694 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v677 : Index := Scalar.indexCast v660
  let c32_295 : Index := 32#32
  ![v677.toNat, 32]
def k0_off695 (v657 : BitVec 32) : Fin 2 → Nat :=
  let v682 : Index := Scalar.indexCast v657
  let c48_297 : Index := 48#32
  ![v682.toNat, 48]
def k0_off696 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v684 : Index := Scalar.indexCast v660
  let c48_298 : Index := 48#32
  ![v684.toNat, 48]
def k0_off697 (v657 : BitVec 32) : Fin 2 → Nat :=
  let v689 : Index := Scalar.indexCast v657
  let c64_300 : Index := 64#32
  ![v689.toNat, 64]
def k0_off698 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v691 : Index := Scalar.indexCast v660
  let c64_301 : Index := 64#32
  ![v691.toNat, 64]
def k0_off699 (v657 : BitVec 32) : Fin 2 → Nat :=
  let v696 : Index := Scalar.indexCast v657
  let c80_303 : Index := 80#32
  ![v696.toNat, 80]
def k0_off700 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v698 : Index := Scalar.indexCast v660
  let c80_304 : Index := 80#32
  ![v698.toNat, 80]
def k0_off701 (v657 : BitVec 32) : Fin 2 → Nat :=
  let v703 : Index := Scalar.indexCast v657
  let c96_306 : Index := 96#32
  ![v703.toNat, 96]
def k0_off702 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v705 : Index := Scalar.indexCast v660
  let c96_307 : Index := 96#32
  ![v705.toNat, 96]
def k0_off703 (v657 : BitVec 32) : Fin 2 → Nat :=
  let v710 : Index := Scalar.indexCast v657
  let c112_309 : Index := 112#32
  ![v710.toNat, 112]

def k0_chk45 (v657 : BitVec 32) : Prop :=
  (∀ a, (k0_off689 v657) a + S1x16.size a ≤ S641x128.size a) ∧
  (∀ a, (k0_off691 v657) a + S1x16.size a ≤ S641x128.size a) ∧
  (∀ a, (k0_off693 v657) a + S1x16.size a ≤ S641x128.size a) ∧
  (∀ a, (k0_off695 v657) a + S1x16.size a ≤ S641x128.size a) ∧
  (∀ a, (k0_off697 v657) a + S1x16.size a ≤ S641x128.size a) ∧
  (∀ a, (k0_off699 v657) a + S1x16.size a ≤ S641x128.size a) ∧
  (∀ a, (k0_off701 v657) a + S1x16.size a ≤ S641x128.size a) ∧
  (∀ a, (k0_off703 v657) a + S1x16.size a ≤ S641x128.size a)
theorem k0_off689_inb : ∀ (v657 : BitVec 32) (k0_hw45 : k0_chk45 v657), ∀ a, (k0_off689 v657) a + S1x16.size a ≤ S641x128.size a := fun v657 k0_hw45 => k0_hw45.1
theorem k0_off691_inb : ∀ (v657 : BitVec 32) (k0_hw45 : k0_chk45 v657), ∀ a, (k0_off691 v657) a + S1x16.size a ≤ S641x128.size a := fun v657 k0_hw45 => k0_hw45.2.1
theorem k0_off693_inb : ∀ (v657 : BitVec 32) (k0_hw45 : k0_chk45 v657), ∀ a, (k0_off693 v657) a + S1x16.size a ≤ S641x128.size a := fun v657 k0_hw45 => k0_hw45.2.2.1
theorem k0_off695_inb : ∀ (v657 : BitVec 32) (k0_hw45 : k0_chk45 v657), ∀ a, (k0_off695 v657) a + S1x16.size a ≤ S641x128.size a := fun v657 k0_hw45 => k0_hw45.2.2.2.1
theorem k0_off697_inb : ∀ (v657 : BitVec 32) (k0_hw45 : k0_chk45 v657), ∀ a, (k0_off697 v657) a + S1x16.size a ≤ S641x128.size a := fun v657 k0_hw45 => k0_hw45.2.2.2.2.1
theorem k0_off699_inb : ∀ (v657 : BitVec 32) (k0_hw45 : k0_chk45 v657), ∀ a, (k0_off699 v657) a + S1x16.size a ≤ S641x128.size a := fun v657 k0_hw45 => k0_hw45.2.2.2.2.2.1
theorem k0_off701_inb : ∀ (v657 : BitVec 32) (k0_hw45 : k0_chk45 v657), ∀ a, (k0_off701 v657) a + S1x16.size a ≤ S641x128.size a := fun v657 k0_hw45 => k0_hw45.2.2.2.2.2.2.1
theorem k0_off703_inb : ∀ (v657 : BitVec 32) (k0_hw45 : k0_chk45 v657), ∀ a, (k0_off703 v657) a + S1x16.size a ≤ S641x128.size a := fun v657 k0_hw45 => k0_hw45.2.2.2.2.2.2.2

def k0_off704 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v712 : Index := Scalar.indexCast v660
  let c112_310 : Index := 112#32
  ![v712.toNat, 112]
def k0_off705 (v718 : BitVec 32) : Fin 2 → Nat :=
  let v722 : Index := Scalar.indexCast v718
  let c0_313 : Index := 0#32
  ![v722.toNat, 0]

def k0_off706 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v724 : Index := Scalar.indexCast v721
  let c0_314 : Index := 0#32
  ![v724.toNat, 0]
def k0_off707 (v718 : BitVec 32) : Fin 2 → Nat :=
  let v729 : Index := Scalar.indexCast v718
  let c16_316 : Index := 16#32
  ![v729.toNat, 16]
def k0_off708 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v731 : Index := Scalar.indexCast v721
  let c16_317 : Index := 16#32
  ![v731.toNat, 16]
def k0_off709 (v718 : BitVec 32) : Fin 2 → Nat :=
  let v736 : Index := Scalar.indexCast v718
  let c32_319 : Index := 32#32
  ![v736.toNat, 32]
def k0_off710 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v738 : Index := Scalar.indexCast v721
  let c32_320 : Index := 32#32
  ![v738.toNat, 32]
def k0_off711 (v718 : BitVec 32) : Fin 2 → Nat :=
  let v743 : Index := Scalar.indexCast v718
  let c48_322 : Index := 48#32
  ![v743.toNat, 48]
def k0_off712 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v745 : Index := Scalar.indexCast v721
  let c48_323 : Index := 48#32
  ![v745.toNat, 48]
def k0_off713 (v718 : BitVec 32) : Fin 2 → Nat :=
  let v750 : Index := Scalar.indexCast v718
  let c64_325 : Index := 64#32
  ![v750.toNat, 64]
def k0_off714 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v752 : Index := Scalar.indexCast v721
  let c64_326 : Index := 64#32
  ![v752.toNat, 64]
def k0_off715 (v718 : BitVec 32) : Fin 2 → Nat :=
  let v757 : Index := Scalar.indexCast v718
  let c80_328 : Index := 80#32
  ![v757.toNat, 80]
def k0_off716 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v759 : Index := Scalar.indexCast v721
  let c80_329 : Index := 80#32
  ![v759.toNat, 80]
def k0_off717 (v718 : BitVec 32) : Fin 2 → Nat :=
  let v764 : Index := Scalar.indexCast v718
  let c96_331 : Index := 96#32
  ![v764.toNat, 96]
def k0_off718 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v766 : Index := Scalar.indexCast v721
  let c96_332 : Index := 96#32
  ![v766.toNat, 96]
def k0_off719 (v718 : BitVec 32) : Fin 2 → Nat :=
  let v771 : Index := Scalar.indexCast v718
  let c112_334 : Index := 112#32
  ![v771.toNat, 112]

def k0_chk46 (v718 : BitVec 32) : Prop :=
  (∀ a, (k0_off705 v718) a + S1x16.size a ≤ S641x128.size a) ∧
  (∀ a, (k0_off707 v718) a + S1x16.size a ≤ S641x128.size a) ∧
  (∀ a, (k0_off709 v718) a + S1x16.size a ≤ S641x128.size a) ∧
  (∀ a, (k0_off711 v718) a + S1x16.size a ≤ S641x128.size a) ∧
  (∀ a, (k0_off713 v718) a + S1x16.size a ≤ S641x128.size a) ∧
  (∀ a, (k0_off715 v718) a + S1x16.size a ≤ S641x128.size a) ∧
  (∀ a, (k0_off717 v718) a + S1x16.size a ≤ S641x128.size a) ∧
  (∀ a, (k0_off719 v718) a + S1x16.size a ≤ S641x128.size a)
theorem k0_off705_inb : ∀ (v718 : BitVec 32) (k0_hw46 : k0_chk46 v718), ∀ a, (k0_off705 v718) a + S1x16.size a ≤ S641x128.size a := fun v718 k0_hw46 => k0_hw46.1
theorem k0_off707_inb : ∀ (v718 : BitVec 32) (k0_hw46 : k0_chk46 v718), ∀ a, (k0_off707 v718) a + S1x16.size a ≤ S641x128.size a := fun v718 k0_hw46 => k0_hw46.2.1
theorem k0_off709_inb : ∀ (v718 : BitVec 32) (k0_hw46 : k0_chk46 v718), ∀ a, (k0_off709 v718) a + S1x16.size a ≤ S641x128.size a := fun v718 k0_hw46 => k0_hw46.2.2.1
theorem k0_off711_inb : ∀ (v718 : BitVec 32) (k0_hw46 : k0_chk46 v718), ∀ a, (k0_off711 v718) a + S1x16.size a ≤ S641x128.size a := fun v718 k0_hw46 => k0_hw46.2.2.2.1
theorem k0_off713_inb : ∀ (v718 : BitVec 32) (k0_hw46 : k0_chk46 v718), ∀ a, (k0_off713 v718) a + S1x16.size a ≤ S641x128.size a := fun v718 k0_hw46 => k0_hw46.2.2.2.2.1
theorem k0_off715_inb : ∀ (v718 : BitVec 32) (k0_hw46 : k0_chk46 v718), ∀ a, (k0_off715 v718) a + S1x16.size a ≤ S641x128.size a := fun v718 k0_hw46 => k0_hw46.2.2.2.2.2.1
theorem k0_off717_inb : ∀ (v718 : BitVec 32) (k0_hw46 : k0_chk46 v718), ∀ a, (k0_off717 v718) a + S1x16.size a ≤ S641x128.size a := fun v718 k0_hw46 => k0_hw46.2.2.2.2.2.2.1
theorem k0_off719_inb : ∀ (v718 : BitVec 32) (k0_hw46 : k0_chk46 v718), ∀ a, (k0_off719 v718) a + S1x16.size a ≤ S641x128.size a := fun v718 k0_hw46 => k0_hw46.2.2.2.2.2.2.2

def k0_off720 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v773 : Index := Scalar.indexCast v721
  let c112_335 : Index := 112#32
  ![v773.toNat, 112]
def k0_off721 (v779 : BitVec 32) : Fin 2 → Nat :=
  let v783 : Index := Scalar.indexCast v779
  let c0_338 : Index := 0#32
  ![v783.toNat, 0]

def k0_off722 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v785 : Index := Scalar.indexCast v782
  let c0_339 : Index := 0#32
  ![v785.toNat, 0]
def k0_off723 (v779 : BitVec 32) : Fin 2 → Nat :=
  let v790 : Index := Scalar.indexCast v779
  let c16_341 : Index := 16#32
  ![v790.toNat, 16]
def k0_off724 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v792 : Index := Scalar.indexCast v782
  let c16_342 : Index := 16#32
  ![v792.toNat, 16]
def k0_off725 (v779 : BitVec 32) : Fin 2 → Nat :=
  let v797 : Index := Scalar.indexCast v779
  let c32_344 : Index := 32#32
  ![v797.toNat, 32]
def k0_off726 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v799 : Index := Scalar.indexCast v782
  let c32_345 : Index := 32#32
  ![v799.toNat, 32]
def k0_off727 (v779 : BitVec 32) : Fin 2 → Nat :=
  let v804 : Index := Scalar.indexCast v779
  let c48_347 : Index := 48#32
  ![v804.toNat, 48]
def k0_off728 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v806 : Index := Scalar.indexCast v782
  let c48_348 : Index := 48#32
  ![v806.toNat, 48]
def k0_off729 (v779 : BitVec 32) : Fin 2 → Nat :=
  let v811 : Index := Scalar.indexCast v779
  let c64_350 : Index := 64#32
  ![v811.toNat, 64]
def k0_off730 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v813 : Index := Scalar.indexCast v782
  let c64_351 : Index := 64#32
  ![v813.toNat, 64]
def k0_off731 (v779 : BitVec 32) : Fin 2 → Nat :=
  let v818 : Index := Scalar.indexCast v779
  let c80_353 : Index := 80#32
  ![v818.toNat, 80]
def k0_off732 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v820 : Index := Scalar.indexCast v782
  let c80_354 : Index := 80#32
  ![v820.toNat, 80]
def k0_off733 (v779 : BitVec 32) : Fin 2 → Nat :=
  let v825 : Index := Scalar.indexCast v779
  let c96_356 : Index := 96#32
  ![v825.toNat, 96]
def k0_off734 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v827 : Index := Scalar.indexCast v782
  let c96_357 : Index := 96#32
  ![v827.toNat, 96]
def k0_off735 (v779 : BitVec 32) : Fin 2 → Nat :=
  let v832 : Index := Scalar.indexCast v779
  let c112_359 : Index := 112#32
  ![v832.toNat, 112]

def k0_chk47 (v779 : BitVec 32) : Prop :=
  (∀ a, (k0_off721 v779) a + S1x16.size a ≤ S641x128.size a) ∧
  (∀ a, (k0_off723 v779) a + S1x16.size a ≤ S641x128.size a) ∧
  (∀ a, (k0_off725 v779) a + S1x16.size a ≤ S641x128.size a) ∧
  (∀ a, (k0_off727 v779) a + S1x16.size a ≤ S641x128.size a) ∧
  (∀ a, (k0_off729 v779) a + S1x16.size a ≤ S641x128.size a) ∧
  (∀ a, (k0_off731 v779) a + S1x16.size a ≤ S641x128.size a) ∧
  (∀ a, (k0_off733 v779) a + S1x16.size a ≤ S641x128.size a) ∧
  (∀ a, (k0_off735 v779) a + S1x16.size a ≤ S641x128.size a)
theorem k0_off721_inb : ∀ (v779 : BitVec 32) (k0_hw47 : k0_chk47 v779), ∀ a, (k0_off721 v779) a + S1x16.size a ≤ S641x128.size a := fun v779 k0_hw47 => k0_hw47.1
theorem k0_off723_inb : ∀ (v779 : BitVec 32) (k0_hw47 : k0_chk47 v779), ∀ a, (k0_off723 v779) a + S1x16.size a ≤ S641x128.size a := fun v779 k0_hw47 => k0_hw47.2.1
theorem k0_off725_inb : ∀ (v779 : BitVec 32) (k0_hw47 : k0_chk47 v779), ∀ a, (k0_off725 v779) a + S1x16.size a ≤ S641x128.size a := fun v779 k0_hw47 => k0_hw47.2.2.1
theorem k0_off727_inb : ∀ (v779 : BitVec 32) (k0_hw47 : k0_chk47 v779), ∀ a, (k0_off727 v779) a + S1x16.size a ≤ S641x128.size a := fun v779 k0_hw47 => k0_hw47.2.2.2.1
theorem k0_off729_inb : ∀ (v779 : BitVec 32) (k0_hw47 : k0_chk47 v779), ∀ a, (k0_off729 v779) a + S1x16.size a ≤ S641x128.size a := fun v779 k0_hw47 => k0_hw47.2.2.2.2.1
theorem k0_off731_inb : ∀ (v779 : BitVec 32) (k0_hw47 : k0_chk47 v779), ∀ a, (k0_off731 v779) a + S1x16.size a ≤ S641x128.size a := fun v779 k0_hw47 => k0_hw47.2.2.2.2.2.1
theorem k0_off733_inb : ∀ (v779 : BitVec 32) (k0_hw47 : k0_chk47 v779), ∀ a, (k0_off733 v779) a + S1x16.size a ≤ S641x128.size a := fun v779 k0_hw47 => k0_hw47.2.2.2.2.2.2.1
theorem k0_off735_inb : ∀ (v779 : BitVec 32) (k0_hw47 : k0_chk47 v779), ∀ a, (k0_off735 v779) a + S1x16.size a ≤ S641x128.size a := fun v779 k0_hw47 => k0_hw47.2.2.2.2.2.2.2

def k0_off736 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v834 : Index := Scalar.indexCast v782
  let c112_360 : Index := 112#32
  ![v834.toNat, 112]
def k0_off737 (v840 : BitVec 32) : Fin 2 → Nat :=
  let v844 : Index := Scalar.indexCast v840
  let c0_363 : Index := 0#32
  ![v844.toNat, 0]

def k0_off738 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v846 : Index := Scalar.indexCast v843
  let c0_364 : Index := 0#32
  ![v846.toNat, 0]
def k0_off739 (v840 : BitVec 32) : Fin 2 → Nat :=
  let v851 : Index := Scalar.indexCast v840
  let c16_366 : Index := 16#32
  ![v851.toNat, 16]
def k0_off740 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v853 : Index := Scalar.indexCast v843
  let c16_367 : Index := 16#32
  ![v853.toNat, 16]
def k0_off741 (v840 : BitVec 32) : Fin 2 → Nat :=
  let v858 : Index := Scalar.indexCast v840
  let c32_369 : Index := 32#32
  ![v858.toNat, 32]
def k0_off742 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v860 : Index := Scalar.indexCast v843
  let c32_370 : Index := 32#32
  ![v860.toNat, 32]
def k0_off743 (v840 : BitVec 32) : Fin 2 → Nat :=
  let v865 : Index := Scalar.indexCast v840
  let c48_372 : Index := 48#32
  ![v865.toNat, 48]
def k0_off744 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v867 : Index := Scalar.indexCast v843
  let c48_373 : Index := 48#32
  ![v867.toNat, 48]
def k0_off745 (v840 : BitVec 32) : Fin 2 → Nat :=
  let v872 : Index := Scalar.indexCast v840
  let c64_375 : Index := 64#32
  ![v872.toNat, 64]
def k0_off746 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v874 : Index := Scalar.indexCast v843
  let c64_376 : Index := 64#32
  ![v874.toNat, 64]
def k0_off747 (v840 : BitVec 32) : Fin 2 → Nat :=
  let v879 : Index := Scalar.indexCast v840
  let c80_378 : Index := 80#32
  ![v879.toNat, 80]
def k0_off748 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v881 : Index := Scalar.indexCast v843
  let c80_379 : Index := 80#32
  ![v881.toNat, 80]
def k0_off749 (v840 : BitVec 32) : Fin 2 → Nat :=
  let v886 : Index := Scalar.indexCast v840
  let c96_381 : Index := 96#32
  ![v886.toNat, 96]
def k0_off750 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v888 : Index := Scalar.indexCast v843
  let c96_382 : Index := 96#32
  ![v888.toNat, 96]
def k0_off751 (v840 : BitVec 32) : Fin 2 → Nat :=
  let v893 : Index := Scalar.indexCast v840
  let c112_384 : Index := 112#32
  ![v893.toNat, 112]

def k0_chk48 (v840 : BitVec 32) : Prop :=
  (∀ a, (k0_off737 v840) a + S1x16.size a ≤ S641x128.size a) ∧
  (∀ a, (k0_off739 v840) a + S1x16.size a ≤ S641x128.size a) ∧
  (∀ a, (k0_off741 v840) a + S1x16.size a ≤ S641x128.size a) ∧
  (∀ a, (k0_off743 v840) a + S1x16.size a ≤ S641x128.size a) ∧
  (∀ a, (k0_off745 v840) a + S1x16.size a ≤ S641x128.size a) ∧
  (∀ a, (k0_off747 v840) a + S1x16.size a ≤ S641x128.size a) ∧
  (∀ a, (k0_off749 v840) a + S1x16.size a ≤ S641x128.size a) ∧
  (∀ a, (k0_off751 v840) a + S1x16.size a ≤ S641x128.size a)
theorem k0_off737_inb : ∀ (v840 : BitVec 32) (k0_hw48 : k0_chk48 v840), ∀ a, (k0_off737 v840) a + S1x16.size a ≤ S641x128.size a := fun v840 k0_hw48 => k0_hw48.1
theorem k0_off739_inb : ∀ (v840 : BitVec 32) (k0_hw48 : k0_chk48 v840), ∀ a, (k0_off739 v840) a + S1x16.size a ≤ S641x128.size a := fun v840 k0_hw48 => k0_hw48.2.1
theorem k0_off741_inb : ∀ (v840 : BitVec 32) (k0_hw48 : k0_chk48 v840), ∀ a, (k0_off741 v840) a + S1x16.size a ≤ S641x128.size a := fun v840 k0_hw48 => k0_hw48.2.2.1
theorem k0_off743_inb : ∀ (v840 : BitVec 32) (k0_hw48 : k0_chk48 v840), ∀ a, (k0_off743 v840) a + S1x16.size a ≤ S641x128.size a := fun v840 k0_hw48 => k0_hw48.2.2.2.1
theorem k0_off745_inb : ∀ (v840 : BitVec 32) (k0_hw48 : k0_chk48 v840), ∀ a, (k0_off745 v840) a + S1x16.size a ≤ S641x128.size a := fun v840 k0_hw48 => k0_hw48.2.2.2.2.1
theorem k0_off747_inb : ∀ (v840 : BitVec 32) (k0_hw48 : k0_chk48 v840), ∀ a, (k0_off747 v840) a + S1x16.size a ≤ S641x128.size a := fun v840 k0_hw48 => k0_hw48.2.2.2.2.2.1
theorem k0_off749_inb : ∀ (v840 : BitVec 32) (k0_hw48 : k0_chk48 v840), ∀ a, (k0_off749 v840) a + S1x16.size a ≤ S641x128.size a := fun v840 k0_hw48 => k0_hw48.2.2.2.2.2.2.1
theorem k0_off751_inb : ∀ (v840 : BitVec 32) (k0_hw48 : k0_chk48 v840), ∀ a, (k0_off751 v840) a + S1x16.size a ≤ S641x128.size a := fun v840 k0_hw48 => k0_hw48.2.2.2.2.2.2.2

def k0_off752 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v895 : Index := Scalar.indexCast v843
  let c112_385 : Index := 112#32
  ![v895.toNat, 112]
def k0_off753 (v901 : BitVec 32) : Fin 2 → Nat :=
  let v905 : Index := Scalar.indexCast v901
  let c0_388 : Index := 0#32
  ![v905.toNat, 0]

def k0_off754 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v907 : Index := Scalar.indexCast v904
  let c0_389 : Index := 0#32
  ![v907.toNat, 0]
def k0_off755 (v901 : BitVec 32) : Fin 2 → Nat :=
  let v912 : Index := Scalar.indexCast v901
  let c16_391 : Index := 16#32
  ![v912.toNat, 16]
def k0_off756 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v914 : Index := Scalar.indexCast v904
  let c16_392 : Index := 16#32
  ![v914.toNat, 16]
def k0_off757 (v901 : BitVec 32) : Fin 2 → Nat :=
  let v919 : Index := Scalar.indexCast v901
  let c32_394 : Index := 32#32
  ![v919.toNat, 32]
def k0_off758 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v921 : Index := Scalar.indexCast v904
  let c32_395 : Index := 32#32
  ![v921.toNat, 32]
def k0_off759 (v901 : BitVec 32) : Fin 2 → Nat :=
  let v926 : Index := Scalar.indexCast v901
  let c48_397 : Index := 48#32
  ![v926.toNat, 48]
def k0_off760 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v928 : Index := Scalar.indexCast v904
  let c48_398 : Index := 48#32
  ![v928.toNat, 48]
def k0_off761 (v901 : BitVec 32) : Fin 2 → Nat :=
  let v933 : Index := Scalar.indexCast v901
  let c64_400 : Index := 64#32
  ![v933.toNat, 64]
def k0_off762 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v935 : Index := Scalar.indexCast v904
  let c64_401 : Index := 64#32
  ![v935.toNat, 64]
def k0_off763 (v901 : BitVec 32) : Fin 2 → Nat :=
  let v940 : Index := Scalar.indexCast v901
  let c80_403 : Index := 80#32
  ![v940.toNat, 80]
def k0_off764 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v942 : Index := Scalar.indexCast v904
  let c80_404 : Index := 80#32
  ![v942.toNat, 80]
def k0_off765 (v901 : BitVec 32) : Fin 2 → Nat :=
  let v947 : Index := Scalar.indexCast v901
  let c96_406 : Index := 96#32
  ![v947.toNat, 96]
def k0_off766 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v949 : Index := Scalar.indexCast v904
  let c96_407 : Index := 96#32
  ![v949.toNat, 96]
def k0_off767 (v901 : BitVec 32) : Fin 2 → Nat :=
  let v954 : Index := Scalar.indexCast v901
  let c112_409 : Index := 112#32
  ![v954.toNat, 112]

def k0_chk49 (v901 : BitVec 32) : Prop :=
  (∀ a, (k0_off753 v901) a + S1x16.size a ≤ S641x128.size a) ∧
  (∀ a, (k0_off755 v901) a + S1x16.size a ≤ S641x128.size a) ∧
  (∀ a, (k0_off757 v901) a + S1x16.size a ≤ S641x128.size a) ∧
  (∀ a, (k0_off759 v901) a + S1x16.size a ≤ S641x128.size a) ∧
  (∀ a, (k0_off761 v901) a + S1x16.size a ≤ S641x128.size a) ∧
  (∀ a, (k0_off763 v901) a + S1x16.size a ≤ S641x128.size a) ∧
  (∀ a, (k0_off765 v901) a + S1x16.size a ≤ S641x128.size a) ∧
  (∀ a, (k0_off767 v901) a + S1x16.size a ≤ S641x128.size a)
theorem k0_off753_inb : ∀ (v901 : BitVec 32) (k0_hw49 : k0_chk49 v901), ∀ a, (k0_off753 v901) a + S1x16.size a ≤ S641x128.size a := fun v901 k0_hw49 => k0_hw49.1
theorem k0_off755_inb : ∀ (v901 : BitVec 32) (k0_hw49 : k0_chk49 v901), ∀ a, (k0_off755 v901) a + S1x16.size a ≤ S641x128.size a := fun v901 k0_hw49 => k0_hw49.2.1
theorem k0_off757_inb : ∀ (v901 : BitVec 32) (k0_hw49 : k0_chk49 v901), ∀ a, (k0_off757 v901) a + S1x16.size a ≤ S641x128.size a := fun v901 k0_hw49 => k0_hw49.2.2.1
theorem k0_off759_inb : ∀ (v901 : BitVec 32) (k0_hw49 : k0_chk49 v901), ∀ a, (k0_off759 v901) a + S1x16.size a ≤ S641x128.size a := fun v901 k0_hw49 => k0_hw49.2.2.2.1
theorem k0_off761_inb : ∀ (v901 : BitVec 32) (k0_hw49 : k0_chk49 v901), ∀ a, (k0_off761 v901) a + S1x16.size a ≤ S641x128.size a := fun v901 k0_hw49 => k0_hw49.2.2.2.2.1
theorem k0_off763_inb : ∀ (v901 : BitVec 32) (k0_hw49 : k0_chk49 v901), ∀ a, (k0_off763 v901) a + S1x16.size a ≤ S641x128.size a := fun v901 k0_hw49 => k0_hw49.2.2.2.2.2.1
theorem k0_off765_inb : ∀ (v901 : BitVec 32) (k0_hw49 : k0_chk49 v901), ∀ a, (k0_off765 v901) a + S1x16.size a ≤ S641x128.size a := fun v901 k0_hw49 => k0_hw49.2.2.2.2.2.2.1
theorem k0_off767_inb : ∀ (v901 : BitVec 32) (k0_hw49 : k0_chk49 v901), ∀ a, (k0_off767 v901) a + S1x16.size a ≤ S641x128.size a := fun v901 k0_hw49 => k0_hw49.2.2.2.2.2.2.2

def k0_off768 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v956 : Index := Scalar.indexCast v904
  let c112_410 : Index := 112#32
  ![v956.toNat, 112]
def k0_off769 (v962 : BitVec 32) : Fin 2 → Nat :=
  let v966 : Index := Scalar.indexCast v962
  let c0_413 : Index := 0#32
  ![v966.toNat, 0]

def k0_off770 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v968 : Index := Scalar.indexCast v965
  let c0_414 : Index := 0#32
  ![v968.toNat, 0]
def k0_off771 (v962 : BitVec 32) : Fin 2 → Nat :=
  let v973 : Index := Scalar.indexCast v962
  let c16_416 : Index := 16#32
  ![v973.toNat, 16]
def k0_off772 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v975 : Index := Scalar.indexCast v965
  let c16_417 : Index := 16#32
  ![v975.toNat, 16]
def k0_off773 (v962 : BitVec 32) : Fin 2 → Nat :=
  let v980 : Index := Scalar.indexCast v962
  let c32_419 : Index := 32#32
  ![v980.toNat, 32]
def k0_off774 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v982 : Index := Scalar.indexCast v965
  let c32_420 : Index := 32#32
  ![v982.toNat, 32]
def k0_off775 (v962 : BitVec 32) : Fin 2 → Nat :=
  let v987 : Index := Scalar.indexCast v962
  let c48_422 : Index := 48#32
  ![v987.toNat, 48]
def k0_off776 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v989 : Index := Scalar.indexCast v965
  let c48_423 : Index := 48#32
  ![v989.toNat, 48]
def k0_off777 (v962 : BitVec 32) : Fin 2 → Nat :=
  let v994 : Index := Scalar.indexCast v962
  let c64_425 : Index := 64#32
  ![v994.toNat, 64]
def k0_off778 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v996 : Index := Scalar.indexCast v965
  let c64_426 : Index := 64#32
  ![v996.toNat, 64]
def k0_off779 (v962 : BitVec 32) : Fin 2 → Nat :=
  let v1001 : Index := Scalar.indexCast v962
  let c80_428 : Index := 80#32
  ![v1001.toNat, 80]
def k0_off780 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v1003 : Index := Scalar.indexCast v965
  let c80_429 : Index := 80#32
  ![v1003.toNat, 80]
def k0_off781 (v962 : BitVec 32) : Fin 2 → Nat :=
  let v1008 : Index := Scalar.indexCast v962
  let c96_431 : Index := 96#32
  ![v1008.toNat, 96]
def k0_off782 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v1010 : Index := Scalar.indexCast v965
  let c96_432 : Index := 96#32
  ![v1010.toNat, 96]
def k0_off783 (v962 : BitVec 32) : Fin 2 → Nat :=
  let v1015 : Index := Scalar.indexCast v962
  let c112_434 : Index := 112#32
  ![v1015.toNat, 112]

def k0_chk50 (v962 : BitVec 32) : Prop :=
  (∀ a, (k0_off769 v962) a + S1x16.size a ≤ S641x128.size a) ∧
  (∀ a, (k0_off771 v962) a + S1x16.size a ≤ S641x128.size a) ∧
  (∀ a, (k0_off773 v962) a + S1x16.size a ≤ S641x128.size a) ∧
  (∀ a, (k0_off775 v962) a + S1x16.size a ≤ S641x128.size a) ∧
  (∀ a, (k0_off777 v962) a + S1x16.size a ≤ S641x128.size a) ∧
  (∀ a, (k0_off779 v962) a + S1x16.size a ≤ S641x128.size a) ∧
  (∀ a, (k0_off781 v962) a + S1x16.size a ≤ S641x128.size a) ∧
  (∀ a, (k0_off783 v962) a + S1x16.size a ≤ S641x128.size a)
theorem k0_off769_inb : ∀ (v962 : BitVec 32) (k0_hw50 : k0_chk50 v962), ∀ a, (k0_off769 v962) a + S1x16.size a ≤ S641x128.size a := fun v962 k0_hw50 => k0_hw50.1
theorem k0_off771_inb : ∀ (v962 : BitVec 32) (k0_hw50 : k0_chk50 v962), ∀ a, (k0_off771 v962) a + S1x16.size a ≤ S641x128.size a := fun v962 k0_hw50 => k0_hw50.2.1
theorem k0_off773_inb : ∀ (v962 : BitVec 32) (k0_hw50 : k0_chk50 v962), ∀ a, (k0_off773 v962) a + S1x16.size a ≤ S641x128.size a := fun v962 k0_hw50 => k0_hw50.2.2.1
theorem k0_off775_inb : ∀ (v962 : BitVec 32) (k0_hw50 : k0_chk50 v962), ∀ a, (k0_off775 v962) a + S1x16.size a ≤ S641x128.size a := fun v962 k0_hw50 => k0_hw50.2.2.2.1
theorem k0_off777_inb : ∀ (v962 : BitVec 32) (k0_hw50 : k0_chk50 v962), ∀ a, (k0_off777 v962) a + S1x16.size a ≤ S641x128.size a := fun v962 k0_hw50 => k0_hw50.2.2.2.2.1
theorem k0_off779_inb : ∀ (v962 : BitVec 32) (k0_hw50 : k0_chk50 v962), ∀ a, (k0_off779 v962) a + S1x16.size a ≤ S641x128.size a := fun v962 k0_hw50 => k0_hw50.2.2.2.2.2.1
theorem k0_off781_inb : ∀ (v962 : BitVec 32) (k0_hw50 : k0_chk50 v962), ∀ a, (k0_off781 v962) a + S1x16.size a ≤ S641x128.size a := fun v962 k0_hw50 => k0_hw50.2.2.2.2.2.2.1
theorem k0_off783_inb : ∀ (v962 : BitVec 32) (k0_hw50 : k0_chk50 v962), ∀ a, (k0_off783 v962) a + S1x16.size a ≤ S641x128.size a := fun v962 k0_hw50 => k0_hw50.2.2.2.2.2.2.2

def k0_off784 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v1017 : Index := Scalar.indexCast v965
  let c112_435 : Index := 112#32
  ![v1017.toNat, 112]
def k0_off785 (v1023 : BitVec 32) : Fin 2 → Nat :=
  let v1027 : Index := Scalar.indexCast v1023
  let c0_438 : Index := 0#32
  ![v1027.toNat, 0]

def k0_off786 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1029 : Index := Scalar.indexCast v1026
  let c0_439 : Index := 0#32
  ![v1029.toNat, 0]
def k0_off787 (v1023 : BitVec 32) : Fin 2 → Nat :=
  let v1034 : Index := Scalar.indexCast v1023
  let c16_441 : Index := 16#32
  ![v1034.toNat, 16]
def k0_off788 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1036 : Index := Scalar.indexCast v1026
  let c16_442 : Index := 16#32
  ![v1036.toNat, 16]
def k0_off789 (v1023 : BitVec 32) : Fin 2 → Nat :=
  let v1041 : Index := Scalar.indexCast v1023
  let c32_444 : Index := 32#32
  ![v1041.toNat, 32]
def k0_off790 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1043 : Index := Scalar.indexCast v1026
  let c32_445 : Index := 32#32
  ![v1043.toNat, 32]
def k0_off791 (v1023 : BitVec 32) : Fin 2 → Nat :=
  let v1048 : Index := Scalar.indexCast v1023
  let c48_447 : Index := 48#32
  ![v1048.toNat, 48]
def k0_off792 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1050 : Index := Scalar.indexCast v1026
  let c48_448 : Index := 48#32
  ![v1050.toNat, 48]
def k0_off793 (v1023 : BitVec 32) : Fin 2 → Nat :=
  let v1055 : Index := Scalar.indexCast v1023
  let c64_450 : Index := 64#32
  ![v1055.toNat, 64]
def k0_off794 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1057 : Index := Scalar.indexCast v1026
  let c64_451 : Index := 64#32
  ![v1057.toNat, 64]
def k0_off795 (v1023 : BitVec 32) : Fin 2 → Nat :=
  let v1062 : Index := Scalar.indexCast v1023
  let c80_453 : Index := 80#32
  ![v1062.toNat, 80]
def k0_off796 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1064 : Index := Scalar.indexCast v1026
  let c80_454 : Index := 80#32
  ![v1064.toNat, 80]
def k0_off797 (v1023 : BitVec 32) : Fin 2 → Nat :=
  let v1069 : Index := Scalar.indexCast v1023
  let c96_456 : Index := 96#32
  ![v1069.toNat, 96]
def k0_off798 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1071 : Index := Scalar.indexCast v1026
  let c96_457 : Index := 96#32
  ![v1071.toNat, 96]
def k0_off799 (v1023 : BitVec 32) : Fin 2 → Nat :=
  let v1076 : Index := Scalar.indexCast v1023
  let c112_459 : Index := 112#32
  ![v1076.toNat, 112]

def k0_chk51 (v1023 : BitVec 32) : Prop :=
  (∀ a, (k0_off785 v1023) a + S1x16.size a ≤ S641x128.size a) ∧
  (∀ a, (k0_off787 v1023) a + S1x16.size a ≤ S641x128.size a) ∧
  (∀ a, (k0_off789 v1023) a + S1x16.size a ≤ S641x128.size a) ∧
  (∀ a, (k0_off791 v1023) a + S1x16.size a ≤ S641x128.size a) ∧
  (∀ a, (k0_off793 v1023) a + S1x16.size a ≤ S641x128.size a) ∧
  (∀ a, (k0_off795 v1023) a + S1x16.size a ≤ S641x128.size a) ∧
  (∀ a, (k0_off797 v1023) a + S1x16.size a ≤ S641x128.size a) ∧
  (∀ a, (k0_off799 v1023) a + S1x16.size a ≤ S641x128.size a)
theorem k0_off785_inb : ∀ (v1023 : BitVec 32) (k0_hw51 : k0_chk51 v1023), ∀ a, (k0_off785 v1023) a + S1x16.size a ≤ S641x128.size a := fun v1023 k0_hw51 => k0_hw51.1
theorem k0_off787_inb : ∀ (v1023 : BitVec 32) (k0_hw51 : k0_chk51 v1023), ∀ a, (k0_off787 v1023) a + S1x16.size a ≤ S641x128.size a := fun v1023 k0_hw51 => k0_hw51.2.1
theorem k0_off789_inb : ∀ (v1023 : BitVec 32) (k0_hw51 : k0_chk51 v1023), ∀ a, (k0_off789 v1023) a + S1x16.size a ≤ S641x128.size a := fun v1023 k0_hw51 => k0_hw51.2.2.1
theorem k0_off791_inb : ∀ (v1023 : BitVec 32) (k0_hw51 : k0_chk51 v1023), ∀ a, (k0_off791 v1023) a + S1x16.size a ≤ S641x128.size a := fun v1023 k0_hw51 => k0_hw51.2.2.2.1
theorem k0_off793_inb : ∀ (v1023 : BitVec 32) (k0_hw51 : k0_chk51 v1023), ∀ a, (k0_off793 v1023) a + S1x16.size a ≤ S641x128.size a := fun v1023 k0_hw51 => k0_hw51.2.2.2.2.1
theorem k0_off795_inb : ∀ (v1023 : BitVec 32) (k0_hw51 : k0_chk51 v1023), ∀ a, (k0_off795 v1023) a + S1x16.size a ≤ S641x128.size a := fun v1023 k0_hw51 => k0_hw51.2.2.2.2.2.1
theorem k0_off797_inb : ∀ (v1023 : BitVec 32) (k0_hw51 : k0_chk51 v1023), ∀ a, (k0_off797 v1023) a + S1x16.size a ≤ S641x128.size a := fun v1023 k0_hw51 => k0_hw51.2.2.2.2.2.2.1
theorem k0_off799_inb : ∀ (v1023 : BitVec 32) (k0_hw51 : k0_chk51 v1023), ∀ a, (k0_off799 v1023) a + S1x16.size a ≤ S641x128.size a := fun v1023 k0_hw51 => k0_hw51.2.2.2.2.2.2.2

def k0_off800 (v12 : BitVec 32) (k0_t8 : Fin (k0_t8_loop v12).trips) (k0_t9 : Fin k0_t9_loop.trips) : Fin 2 → Nat :=
  let c0_i32_39 : BitVec 32 := 0#32
  let c1_i32_41 : BitVec 32 := 1#32
  let arg14 : BitVec 32 := Scf.iv c0_i32_39 c1_i32_41 k0_t8
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t9
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1078 : Index := Scalar.indexCast v1026
  let c112_460 : Index := 112#32
  ![v1078.toNat, 112]
@[reducible] def k0_t10_loop (v12 : BitVec 32) : Scf.Loop 32 :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let v68 : BitVec 32 := Scalar.addi c0_i32_39 v67
  let c1_i32_42 : BitVec 32 := 1#32
  ⟨v71, v68, c1_i32_42⟩
def k0_off801 (v12 : BitVec 32) (k0_t10 : Fin (k0_t10_loop v12).trips) : Fin 1 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c1_i32_64 : BitVec 32 := 1#32
  let v102 : BitVec 32 := Scalar.addi arg14 c1_i32_64
  let c64_i32_72 : BitVec 32 := 64#32
  let v114 : BitVec 32 := Scalar.muli v102 c64_i32_72
  ![v114.toNat]
def k0_cond15 (v12 : BitVec 32) (k0_t10 : Fin (k0_t10_loop v12).trips) : BitVec 1 :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c1_i32_43 : BitVec 32 := 1#32
  let v72 : BitVec 32 := Scalar.addi arg14 c1_i32_43
  let v73 : BitVec 1 := Scalar.cmpi .slt v72 v63
  let v74 : BitVec 32 := Scalar.extui v73
  let c0_i32_44 : BitVec 32 := 0#32
  let v75 : BitVec 1 := Scalar.cmpi .ne v74 c0_i32_44
  v75

def k0_cond16 (v12 : BitVec 32) (k0_t10 : Fin (k0_t10_loop v12).trips) : BitVec 1 :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c1_i32_65 : BitVec 32 := 1#32
  let v103 : BitVec 32 := Scalar.addi arg14 c1_i32_65
  let c2_i32_66 : BitVec 32 := 2#32
  let c0_i32_67 : BitVec 32 := 0#32
  let v104 : BitVec 1 := Scalar.cmpi .eq c2_i32_66 c0_i32_67
  let c1_i32_68 : BitVec 32 := 1#32
  let v105 : BitVec 32 := Scalar.select v104 c1_i32_68 c2_i32_66
  let v106 : BitVec 32 := Scalar.remsi v103 v105
  let c0_i32_70 : BitVec 32 := 0#32
  let v108 : BitVec 1 := Scalar.cmpi .slt v106 c0_i32_70
  let c0_i32_71 : BitVec 32 := 0#32
  let v109 : BitVec 1 := Scalar.cmpi .slt v105 c0_i32_71
  let v110 : BitVec 1 := Scalar.xori v108 v109
  let c0_i32_69 : BitVec 32 := 0#32
  let v107 : BitVec 1 := Scalar.cmpi .ne v106 c0_i32_69
  let v111 : BitVec 1 := Scalar.andi v110 v107
  let v112 : BitVec 32 := Scalar.addi v106 v105
  let v113 : BitVec 32 := Scalar.select v111 v112 v106
  let c0_i32_73 : BitVec 32 := 0#32
  let v115 : BitVec 1 := Scalar.cmpi .eq v113 c0_i32_73
  let v116 : BitVec 32 := Scalar.extui v115
  let c0_i32_74 : BitVec 32 := 0#32
  let v117 : BitVec 1 := Scalar.cmpi .ne v116 c0_i32_74
  v117

def k0_off802 (v12 : BitVec 32) (k0_t10 : Fin (k0_t10_loop v12).trips) : Fin 1 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c1_i32_64 : BitVec 32 := 1#32
  let v102 : BitVec 32 := Scalar.addi arg14 c1_i32_64
  let c64_i32_72 : BitVec 32 := 64#32
  let v114 : BitVec 32 := Scalar.muli v102 c64_i32_72
  ![v114.toNat]
def k0_off803 (v12 : BitVec 32) (k0_t10 : Fin (k0_t10_loop v12).trips) : Fin 1 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c64_i32_50 : BitVec 32 := 64#32
  let v86 : BitVec 32 := Scalar.muli arg14 c64_i32_50
  ![v86.toNat]
def k0_cond17 (v12 : BitVec 32) (k0_t10 : Fin (k0_t10_loop v12).trips) : BitVec 1 :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32 : BitVec 32 := 2#32
  let c0_i32_45 : BitVec 32 := 0#32
  let v76 : BitVec 1 := Scalar.cmpi .eq c2_i32 c0_i32_45
  let c1_i32_46 : BitVec 32 := 1#32
  let v77 : BitVec 32 := Scalar.select v76 c1_i32_46 c2_i32
  let v78 : BitVec 32 := Scalar.remsi arg14 v77
  let c0_i32_48 : BitVec 32 := 0#32
  let v80 : BitVec 1 := Scalar.cmpi .slt v78 c0_i32_48
  let c0_i32_49 : BitVec 32 := 0#32
  let v81 : BitVec 1 := Scalar.cmpi .slt v77 c0_i32_49
  let v82 : BitVec 1 := Scalar.xori v80 v81
  let c0_i32_47 : BitVec 32 := 0#32
  let v79 : BitVec 1 := Scalar.cmpi .ne v78 c0_i32_47
  let v83 : BitVec 1 := Scalar.andi v82 v79
  let v84 : BitVec 32 := Scalar.addi v78 v77
  let v85 : BitVec 32 := Scalar.select v83 v84 v78
  let c0_i32_51 : BitVec 32 := 0#32
  let v87 : BitVec 1 := Scalar.cmpi .eq v85 c0_i32_51
  let v88 : BitVec 32 := Scalar.extui v87
  let c0_i32_52 : BitVec 32 := 0#32
  let v89 : BitVec 1 := Scalar.cmpi .ne v88 c0_i32_52
  v89

def k0_off804 (v12 : BitVec 32) (k0_t10 : Fin (k0_t10_loop v12).trips) : Fin 1 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c64_i32_50 : BitVec 32 := 64#32
  let v86 : BitVec 32 := Scalar.muli arg14 c64_i32_50
  ![v86.toNat]
@[reducible] def k0_t11_loop : Scf.Loop 32 :=
  let c0_i32_61 : BitVec 32 := 0#32
  let c4_i32 : BitVec 32 := 4#32
  let v101 : BitVec 32 := Scalar.addi c0_i32_61 c4_i32
  let c1_i32_62 : BitVec 32 := 1#32
  ⟨c0_i32_61, v101, c1_i32_62⟩
def k0_off805 (v12 : BitVec 32) (k0_t10 : Fin (k0_t10_loop v12).trips) (k0_t11 : Fin k0_t11_loop.trips) : Fin 1 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c64_i32_64 : BitVec 32 := 64#32
  let v102 : BitVec 32 := Scalar.muli arg14 c64_i32_64
  let c0_i32_61 : BitVec 32 := 0#32
  let c1_i32_62 : BitVec 32 := 1#32
  let arg15 : BitVec 32 := Scf.iv c0_i32_61 c1_i32_62 k0_t11
  let c16_i32_65 : BitVec 32 := 16#32
  let v103 : BitVec 32 := Scalar.muli arg15 c16_i32_65
  let v104 : BitVec 32 := Scalar.addi v102 v103
  let v105 : Index := Scalar.indexCast v104
  ![v105.toNat]
def k0_off806 (v108 : BitVec 32) : Fin 2 → Nat :=
  let v112 : Index := Scalar.indexCast v108
  let c0 : Index := 0#32
  ![v112.toNat, 0]

def k0_off807 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v114 : Index := Scalar.indexCast v111
  let c0_68 : Index := 0#32
  ![v114.toNat, 0]
def k0_off808 (v108 : BitVec 32) : Fin 2 → Nat :=
  let v119 : Index := Scalar.indexCast v108
  let c16 : Index := 16#32
  ![v119.toNat, 16]
def k0_off809 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v121 : Index := Scalar.indexCast v111
  let c16_70 : Index := 16#32
  ![v121.toNat, 16]
def k0_off810 (v108 : BitVec 32) : Fin 2 → Nat :=
  let v126 : Index := Scalar.indexCast v108
  let c32 : Index := 32#32
  ![v126.toNat, 32]
def k0_off811 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v128 : Index := Scalar.indexCast v111
  let c32_72 : Index := 32#32
  ![v128.toNat, 32]
def k0_off812 (v108 : BitVec 32) : Fin 2 → Nat :=
  let v133 : Index := Scalar.indexCast v108
  let c48 : Index := 48#32
  ![v133.toNat, 48]
def k0_off813 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v135 : Index := Scalar.indexCast v111
  let c48_74 : Index := 48#32
  ![v135.toNat, 48]
def k0_off814 (v108 : BitVec 32) : Fin 2 → Nat :=
  let v140 : Index := Scalar.indexCast v108
  let c64 : Index := 64#32
  ![v140.toNat, 64]
def k0_off815 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v142 : Index := Scalar.indexCast v111
  let c64_76 : Index := 64#32
  ![v142.toNat, 64]
def k0_off816 (v108 : BitVec 32) : Fin 2 → Nat :=
  let v147 : Index := Scalar.indexCast v108
  let c80 : Index := 80#32
  ![v147.toNat, 80]
def k0_off817 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v149 : Index := Scalar.indexCast v111
  let c80_78 : Index := 80#32
  ![v149.toNat, 80]
def k0_off818 (v108 : BitVec 32) : Fin 2 → Nat :=
  let v154 : Index := Scalar.indexCast v108
  let c96 : Index := 96#32
  ![v154.toNat, 96]
def k0_off819 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v156 : Index := Scalar.indexCast v111
  let c96_80 : Index := 96#32
  ![v156.toNat, 96]
def k0_off820 (v108 : BitVec 32) : Fin 2 → Nat :=
  let v161 : Index := Scalar.indexCast v108
  let c112 : Index := 112#32
  ![v161.toNat, 112]

def k0_chk52 (v108 : BitVec 32) : Prop :=
  (∀ a, (k0_off806 v108) a + S1x16.size a ≤ S641x128.size a) ∧
  (∀ a, (k0_off808 v108) a + S1x16.size a ≤ S641x128.size a) ∧
  (∀ a, (k0_off810 v108) a + S1x16.size a ≤ S641x128.size a) ∧
  (∀ a, (k0_off812 v108) a + S1x16.size a ≤ S641x128.size a) ∧
  (∀ a, (k0_off814 v108) a + S1x16.size a ≤ S641x128.size a) ∧
  (∀ a, (k0_off816 v108) a + S1x16.size a ≤ S641x128.size a) ∧
  (∀ a, (k0_off818 v108) a + S1x16.size a ≤ S641x128.size a) ∧
  (∀ a, (k0_off820 v108) a + S1x16.size a ≤ S641x128.size a)
theorem k0_off806_inb : ∀ (v108 : BitVec 32) (k0_hw52 : k0_chk52 v108), ∀ a, (k0_off806 v108) a + S1x16.size a ≤ S641x128.size a := fun v108 k0_hw52 => k0_hw52.1
theorem k0_off808_inb : ∀ (v108 : BitVec 32) (k0_hw52 : k0_chk52 v108), ∀ a, (k0_off808 v108) a + S1x16.size a ≤ S641x128.size a := fun v108 k0_hw52 => k0_hw52.2.1
theorem k0_off810_inb : ∀ (v108 : BitVec 32) (k0_hw52 : k0_chk52 v108), ∀ a, (k0_off810 v108) a + S1x16.size a ≤ S641x128.size a := fun v108 k0_hw52 => k0_hw52.2.2.1
theorem k0_off812_inb : ∀ (v108 : BitVec 32) (k0_hw52 : k0_chk52 v108), ∀ a, (k0_off812 v108) a + S1x16.size a ≤ S641x128.size a := fun v108 k0_hw52 => k0_hw52.2.2.2.1
theorem k0_off814_inb : ∀ (v108 : BitVec 32) (k0_hw52 : k0_chk52 v108), ∀ a, (k0_off814 v108) a + S1x16.size a ≤ S641x128.size a := fun v108 k0_hw52 => k0_hw52.2.2.2.2.1
theorem k0_off816_inb : ∀ (v108 : BitVec 32) (k0_hw52 : k0_chk52 v108), ∀ a, (k0_off816 v108) a + S1x16.size a ≤ S641x128.size a := fun v108 k0_hw52 => k0_hw52.2.2.2.2.2.1
theorem k0_off818_inb : ∀ (v108 : BitVec 32) (k0_hw52 : k0_chk52 v108), ∀ a, (k0_off818 v108) a + S1x16.size a ≤ S641x128.size a := fun v108 k0_hw52 => k0_hw52.2.2.2.2.2.2.1
theorem k0_off820_inb : ∀ (v108 : BitVec 32) (k0_hw52 : k0_chk52 v108), ∀ a, (k0_off820 v108) a + S1x16.size a ≤ S641x128.size a := fun v108 k0_hw52 => k0_hw52.2.2.2.2.2.2.2

def k0_off821 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_66 : BitVec 32 := 16#32
  let v109 : BitVec 32 := Scalar.muli arg15 c16_i32_66
  let v110 : BitVec 32 := Scalar.addi v100 v109
  let c0_i32_67 : BitVec 32 := 0#32
  let v111 : BitVec 32 := Scalar.addi v110 c0_i32_67
  let v163 : Index := Scalar.indexCast v111
  let c112_82 : Index := 112#32
  ![v163.toNat, 112]
def k0_off822 (v169 : BitVec 32) : Fin 2 → Nat :=
  let v173 : Index := Scalar.indexCast v169
  let c0_86 : Index := 0#32
  ![v173.toNat, 0]

def k0_off823 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v175 : Index := Scalar.indexCast v172
  let c0_87 : Index := 0#32
  ![v175.toNat, 0]
def k0_off824 (v169 : BitVec 32) : Fin 2 → Nat :=
  let v180 : Index := Scalar.indexCast v169
  let c16_89 : Index := 16#32
  ![v180.toNat, 16]
def k0_off825 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v182 : Index := Scalar.indexCast v172
  let c16_90 : Index := 16#32
  ![v182.toNat, 16]
def k0_off826 (v169 : BitVec 32) : Fin 2 → Nat :=
  let v187 : Index := Scalar.indexCast v169
  let c32_92 : Index := 32#32
  ![v187.toNat, 32]
def k0_off827 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v189 : Index := Scalar.indexCast v172
  let c32_93 : Index := 32#32
  ![v189.toNat, 32]
def k0_off828 (v169 : BitVec 32) : Fin 2 → Nat :=
  let v194 : Index := Scalar.indexCast v169
  let c48_95 : Index := 48#32
  ![v194.toNat, 48]
def k0_off829 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v196 : Index := Scalar.indexCast v172
  let c48_96 : Index := 48#32
  ![v196.toNat, 48]
def k0_off830 (v169 : BitVec 32) : Fin 2 → Nat :=
  let v201 : Index := Scalar.indexCast v169
  let c64_98 : Index := 64#32
  ![v201.toNat, 64]
def k0_off831 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v203 : Index := Scalar.indexCast v172
  let c64_99 : Index := 64#32
  ![v203.toNat, 64]
def k0_off832 (v169 : BitVec 32) : Fin 2 → Nat :=
  let v208 : Index := Scalar.indexCast v169
  let c80_101 : Index := 80#32
  ![v208.toNat, 80]
def k0_off833 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v210 : Index := Scalar.indexCast v172
  let c80_102 : Index := 80#32
  ![v210.toNat, 80]
def k0_off834 (v169 : BitVec 32) : Fin 2 → Nat :=
  let v215 : Index := Scalar.indexCast v169
  let c96_104 : Index := 96#32
  ![v215.toNat, 96]
def k0_off835 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v217 : Index := Scalar.indexCast v172
  let c96_105 : Index := 96#32
  ![v217.toNat, 96]
def k0_off836 (v169 : BitVec 32) : Fin 2 → Nat :=
  let v222 : Index := Scalar.indexCast v169
  let c112_107 : Index := 112#32
  ![v222.toNat, 112]

def k0_chk53 (v169 : BitVec 32) : Prop :=
  (∀ a, (k0_off822 v169) a + S1x16.size a ≤ S641x128.size a) ∧
  (∀ a, (k0_off824 v169) a + S1x16.size a ≤ S641x128.size a) ∧
  (∀ a, (k0_off826 v169) a + S1x16.size a ≤ S641x128.size a) ∧
  (∀ a, (k0_off828 v169) a + S1x16.size a ≤ S641x128.size a) ∧
  (∀ a, (k0_off830 v169) a + S1x16.size a ≤ S641x128.size a) ∧
  (∀ a, (k0_off832 v169) a + S1x16.size a ≤ S641x128.size a) ∧
  (∀ a, (k0_off834 v169) a + S1x16.size a ≤ S641x128.size a) ∧
  (∀ a, (k0_off836 v169) a + S1x16.size a ≤ S641x128.size a)
theorem k0_off822_inb : ∀ (v169 : BitVec 32) (k0_hw53 : k0_chk53 v169), ∀ a, (k0_off822 v169) a + S1x16.size a ≤ S641x128.size a := fun v169 k0_hw53 => k0_hw53.1
theorem k0_off824_inb : ∀ (v169 : BitVec 32) (k0_hw53 : k0_chk53 v169), ∀ a, (k0_off824 v169) a + S1x16.size a ≤ S641x128.size a := fun v169 k0_hw53 => k0_hw53.2.1
theorem k0_off826_inb : ∀ (v169 : BitVec 32) (k0_hw53 : k0_chk53 v169), ∀ a, (k0_off826 v169) a + S1x16.size a ≤ S641x128.size a := fun v169 k0_hw53 => k0_hw53.2.2.1
theorem k0_off828_inb : ∀ (v169 : BitVec 32) (k0_hw53 : k0_chk53 v169), ∀ a, (k0_off828 v169) a + S1x16.size a ≤ S641x128.size a := fun v169 k0_hw53 => k0_hw53.2.2.2.1
theorem k0_off830_inb : ∀ (v169 : BitVec 32) (k0_hw53 : k0_chk53 v169), ∀ a, (k0_off830 v169) a + S1x16.size a ≤ S641x128.size a := fun v169 k0_hw53 => k0_hw53.2.2.2.2.1
theorem k0_off832_inb : ∀ (v169 : BitVec 32) (k0_hw53 : k0_chk53 v169), ∀ a, (k0_off832 v169) a + S1x16.size a ≤ S641x128.size a := fun v169 k0_hw53 => k0_hw53.2.2.2.2.2.1
theorem k0_off834_inb : ∀ (v169 : BitVec 32) (k0_hw53 : k0_chk53 v169), ∀ a, (k0_off834 v169) a + S1x16.size a ≤ S641x128.size a := fun v169 k0_hw53 => k0_hw53.2.2.2.2.2.2.1
theorem k0_off836_inb : ∀ (v169 : BitVec 32) (k0_hw53 : k0_chk53 v169), ∀ a, (k0_off836 v169) a + S1x16.size a ≤ S641x128.size a := fun v169 k0_hw53 => k0_hw53.2.2.2.2.2.2.2

def k0_off837 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_84 : BitVec 32 := 16#32
  let v170 : BitVec 32 := Scalar.muli arg15 c16_i32_84
  let v171 : BitVec 32 := Scalar.addi v100 v170
  let c1_i32_85 : BitVec 32 := 1#32
  let v172 : BitVec 32 := Scalar.addi v171 c1_i32_85
  let v224 : Index := Scalar.indexCast v172
  let c112_108 : Index := 112#32
  ![v224.toNat, 112]
def k0_off838 (v230 : BitVec 32) : Fin 2 → Nat :=
  let v234 : Index := Scalar.indexCast v230
  let c0_112 : Index := 0#32
  ![v234.toNat, 0]

def k0_off839 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v236 : Index := Scalar.indexCast v233
  let c0_113 : Index := 0#32
  ![v236.toNat, 0]
def k0_off840 (v230 : BitVec 32) : Fin 2 → Nat :=
  let v241 : Index := Scalar.indexCast v230
  let c16_115 : Index := 16#32
  ![v241.toNat, 16]
def k0_off841 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v243 : Index := Scalar.indexCast v233
  let c16_116 : Index := 16#32
  ![v243.toNat, 16]
def k0_off842 (v230 : BitVec 32) : Fin 2 → Nat :=
  let v248 : Index := Scalar.indexCast v230
  let c32_118 : Index := 32#32
  ![v248.toNat, 32]
def k0_off843 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v250 : Index := Scalar.indexCast v233
  let c32_119 : Index := 32#32
  ![v250.toNat, 32]
def k0_off844 (v230 : BitVec 32) : Fin 2 → Nat :=
  let v255 : Index := Scalar.indexCast v230
  let c48_121 : Index := 48#32
  ![v255.toNat, 48]
def k0_off845 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v257 : Index := Scalar.indexCast v233
  let c48_122 : Index := 48#32
  ![v257.toNat, 48]
def k0_off846 (v230 : BitVec 32) : Fin 2 → Nat :=
  let v262 : Index := Scalar.indexCast v230
  let c64_124 : Index := 64#32
  ![v262.toNat, 64]
def k0_off847 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v264 : Index := Scalar.indexCast v233
  let c64_125 : Index := 64#32
  ![v264.toNat, 64]
def k0_off848 (v230 : BitVec 32) : Fin 2 → Nat :=
  let v269 : Index := Scalar.indexCast v230
  let c80_127 : Index := 80#32
  ![v269.toNat, 80]
def k0_off849 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v271 : Index := Scalar.indexCast v233
  let c80_128 : Index := 80#32
  ![v271.toNat, 80]
def k0_off850 (v230 : BitVec 32) : Fin 2 → Nat :=
  let v276 : Index := Scalar.indexCast v230
  let c96_130 : Index := 96#32
  ![v276.toNat, 96]
def k0_off851 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v278 : Index := Scalar.indexCast v233
  let c96_131 : Index := 96#32
  ![v278.toNat, 96]
def k0_off852 (v230 : BitVec 32) : Fin 2 → Nat :=
  let v283 : Index := Scalar.indexCast v230
  let c112_133 : Index := 112#32
  ![v283.toNat, 112]

def k0_chk54 (v230 : BitVec 32) : Prop :=
  (∀ a, (k0_off838 v230) a + S1x16.size a ≤ S641x128.size a) ∧
  (∀ a, (k0_off840 v230) a + S1x16.size a ≤ S641x128.size a) ∧
  (∀ a, (k0_off842 v230) a + S1x16.size a ≤ S641x128.size a) ∧
  (∀ a, (k0_off844 v230) a + S1x16.size a ≤ S641x128.size a) ∧
  (∀ a, (k0_off846 v230) a + S1x16.size a ≤ S641x128.size a) ∧
  (∀ a, (k0_off848 v230) a + S1x16.size a ≤ S641x128.size a) ∧
  (∀ a, (k0_off850 v230) a + S1x16.size a ≤ S641x128.size a) ∧
  (∀ a, (k0_off852 v230) a + S1x16.size a ≤ S641x128.size a)
theorem k0_off838_inb : ∀ (v230 : BitVec 32) (k0_hw54 : k0_chk54 v230), ∀ a, (k0_off838 v230) a + S1x16.size a ≤ S641x128.size a := fun v230 k0_hw54 => k0_hw54.1
theorem k0_off840_inb : ∀ (v230 : BitVec 32) (k0_hw54 : k0_chk54 v230), ∀ a, (k0_off840 v230) a + S1x16.size a ≤ S641x128.size a := fun v230 k0_hw54 => k0_hw54.2.1
theorem k0_off842_inb : ∀ (v230 : BitVec 32) (k0_hw54 : k0_chk54 v230), ∀ a, (k0_off842 v230) a + S1x16.size a ≤ S641x128.size a := fun v230 k0_hw54 => k0_hw54.2.2.1
theorem k0_off844_inb : ∀ (v230 : BitVec 32) (k0_hw54 : k0_chk54 v230), ∀ a, (k0_off844 v230) a + S1x16.size a ≤ S641x128.size a := fun v230 k0_hw54 => k0_hw54.2.2.2.1
theorem k0_off846_inb : ∀ (v230 : BitVec 32) (k0_hw54 : k0_chk54 v230), ∀ a, (k0_off846 v230) a + S1x16.size a ≤ S641x128.size a := fun v230 k0_hw54 => k0_hw54.2.2.2.2.1
theorem k0_off848_inb : ∀ (v230 : BitVec 32) (k0_hw54 : k0_chk54 v230), ∀ a, (k0_off848 v230) a + S1x16.size a ≤ S641x128.size a := fun v230 k0_hw54 => k0_hw54.2.2.2.2.2.1
theorem k0_off850_inb : ∀ (v230 : BitVec 32) (k0_hw54 : k0_chk54 v230), ∀ a, (k0_off850 v230) a + S1x16.size a ≤ S641x128.size a := fun v230 k0_hw54 => k0_hw54.2.2.2.2.2.2.1
theorem k0_off852_inb : ∀ (v230 : BitVec 32) (k0_hw54 : k0_chk54 v230), ∀ a, (k0_off852 v230) a + S1x16.size a ≤ S641x128.size a := fun v230 k0_hw54 => k0_hw54.2.2.2.2.2.2.2

def k0_off853 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_110 : BitVec 32 := 16#32
  let v231 : BitVec 32 := Scalar.muli arg15 c16_i32_110
  let v232 : BitVec 32 := Scalar.addi v100 v231
  let c2_i32_111 : BitVec 32 := 2#32
  let v233 : BitVec 32 := Scalar.addi v232 c2_i32_111
  let v285 : Index := Scalar.indexCast v233
  let c112_134 : Index := 112#32
  ![v285.toNat, 112]
def k0_off854 (v291 : BitVec 32) : Fin 2 → Nat :=
  let v295 : Index := Scalar.indexCast v291
  let c0_137 : Index := 0#32
  ![v295.toNat, 0]

def k0_off855 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v297 : Index := Scalar.indexCast v294
  let c0_138 : Index := 0#32
  ![v297.toNat, 0]
def k0_off856 (v291 : BitVec 32) : Fin 2 → Nat :=
  let v302 : Index := Scalar.indexCast v291
  let c16_140 : Index := 16#32
  ![v302.toNat, 16]
def k0_off857 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v304 : Index := Scalar.indexCast v294
  let c16_141 : Index := 16#32
  ![v304.toNat, 16]
def k0_off858 (v291 : BitVec 32) : Fin 2 → Nat :=
  let v309 : Index := Scalar.indexCast v291
  let c32_143 : Index := 32#32
  ![v309.toNat, 32]
def k0_off859 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v311 : Index := Scalar.indexCast v294
  let c32_144 : Index := 32#32
  ![v311.toNat, 32]
def k0_off860 (v291 : BitVec 32) : Fin 2 → Nat :=
  let v316 : Index := Scalar.indexCast v291
  let c48_146 : Index := 48#32
  ![v316.toNat, 48]
def k0_off861 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v318 : Index := Scalar.indexCast v294
  let c48_147 : Index := 48#32
  ![v318.toNat, 48]
def k0_off862 (v291 : BitVec 32) : Fin 2 → Nat :=
  let v323 : Index := Scalar.indexCast v291
  let c64_149 : Index := 64#32
  ![v323.toNat, 64]
def k0_off863 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v325 : Index := Scalar.indexCast v294
  let c64_150 : Index := 64#32
  ![v325.toNat, 64]
def k0_off864 (v291 : BitVec 32) : Fin 2 → Nat :=
  let v330 : Index := Scalar.indexCast v291
  let c80_152 : Index := 80#32
  ![v330.toNat, 80]
def k0_off865 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v332 : Index := Scalar.indexCast v294
  let c80_153 : Index := 80#32
  ![v332.toNat, 80]
def k0_off866 (v291 : BitVec 32) : Fin 2 → Nat :=
  let v337 : Index := Scalar.indexCast v291
  let c96_155 : Index := 96#32
  ![v337.toNat, 96]
def k0_off867 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v339 : Index := Scalar.indexCast v294
  let c96_156 : Index := 96#32
  ![v339.toNat, 96]
def k0_off868 (v291 : BitVec 32) : Fin 2 → Nat :=
  let v344 : Index := Scalar.indexCast v291
  let c112_158 : Index := 112#32
  ![v344.toNat, 112]

def k0_chk55 (v291 : BitVec 32) : Prop :=
  (∀ a, (k0_off854 v291) a + S1x16.size a ≤ S641x128.size a) ∧
  (∀ a, (k0_off856 v291) a + S1x16.size a ≤ S641x128.size a) ∧
  (∀ a, (k0_off858 v291) a + S1x16.size a ≤ S641x128.size a) ∧
  (∀ a, (k0_off860 v291) a + S1x16.size a ≤ S641x128.size a) ∧
  (∀ a, (k0_off862 v291) a + S1x16.size a ≤ S641x128.size a) ∧
  (∀ a, (k0_off864 v291) a + S1x16.size a ≤ S641x128.size a) ∧
  (∀ a, (k0_off866 v291) a + S1x16.size a ≤ S641x128.size a) ∧
  (∀ a, (k0_off868 v291) a + S1x16.size a ≤ S641x128.size a)
theorem k0_off854_inb : ∀ (v291 : BitVec 32) (k0_hw55 : k0_chk55 v291), ∀ a, (k0_off854 v291) a + S1x16.size a ≤ S641x128.size a := fun v291 k0_hw55 => k0_hw55.1
theorem k0_off856_inb : ∀ (v291 : BitVec 32) (k0_hw55 : k0_chk55 v291), ∀ a, (k0_off856 v291) a + S1x16.size a ≤ S641x128.size a := fun v291 k0_hw55 => k0_hw55.2.1
theorem k0_off858_inb : ∀ (v291 : BitVec 32) (k0_hw55 : k0_chk55 v291), ∀ a, (k0_off858 v291) a + S1x16.size a ≤ S641x128.size a := fun v291 k0_hw55 => k0_hw55.2.2.1
theorem k0_off860_inb : ∀ (v291 : BitVec 32) (k0_hw55 : k0_chk55 v291), ∀ a, (k0_off860 v291) a + S1x16.size a ≤ S641x128.size a := fun v291 k0_hw55 => k0_hw55.2.2.2.1
theorem k0_off862_inb : ∀ (v291 : BitVec 32) (k0_hw55 : k0_chk55 v291), ∀ a, (k0_off862 v291) a + S1x16.size a ≤ S641x128.size a := fun v291 k0_hw55 => k0_hw55.2.2.2.2.1
theorem k0_off864_inb : ∀ (v291 : BitVec 32) (k0_hw55 : k0_chk55 v291), ∀ a, (k0_off864 v291) a + S1x16.size a ≤ S641x128.size a := fun v291 k0_hw55 => k0_hw55.2.2.2.2.2.1
theorem k0_off866_inb : ∀ (v291 : BitVec 32) (k0_hw55 : k0_chk55 v291), ∀ a, (k0_off866 v291) a + S1x16.size a ≤ S641x128.size a := fun v291 k0_hw55 => k0_hw55.2.2.2.2.2.2.1
theorem k0_off868_inb : ∀ (v291 : BitVec 32) (k0_hw55 : k0_chk55 v291), ∀ a, (k0_off868 v291) a + S1x16.size a ≤ S641x128.size a := fun v291 k0_hw55 => k0_hw55.2.2.2.2.2.2.2

def k0_off869 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_136 : BitVec 32 := 16#32
  let v292 : BitVec 32 := Scalar.muli arg15 c16_i32_136
  let v293 : BitVec 32 := Scalar.addi v100 v292
  let c3_i32 : BitVec 32 := 3#32
  let v294 : BitVec 32 := Scalar.addi v293 c3_i32
  let v346 : Index := Scalar.indexCast v294
  let c112_159 : Index := 112#32
  ![v346.toNat, 112]
def k0_off870 (v352 : BitVec 32) : Fin 2 → Nat :=
  let v356 : Index := Scalar.indexCast v352
  let c0_163 : Index := 0#32
  ![v356.toNat, 0]

def k0_off871 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v358 : Index := Scalar.indexCast v355
  let c0_164 : Index := 0#32
  ![v358.toNat, 0]
def k0_off872 (v352 : BitVec 32) : Fin 2 → Nat :=
  let v363 : Index := Scalar.indexCast v352
  let c16_166 : Index := 16#32
  ![v363.toNat, 16]
def k0_off873 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v365 : Index := Scalar.indexCast v355
  let c16_167 : Index := 16#32
  ![v365.toNat, 16]
def k0_off874 (v352 : BitVec 32) : Fin 2 → Nat :=
  let v370 : Index := Scalar.indexCast v352
  let c32_169 : Index := 32#32
  ![v370.toNat, 32]
def k0_off875 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v372 : Index := Scalar.indexCast v355
  let c32_170 : Index := 32#32
  ![v372.toNat, 32]
def k0_off876 (v352 : BitVec 32) : Fin 2 → Nat :=
  let v377 : Index := Scalar.indexCast v352
  let c48_172 : Index := 48#32
  ![v377.toNat, 48]
def k0_off877 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v379 : Index := Scalar.indexCast v355
  let c48_173 : Index := 48#32
  ![v379.toNat, 48]
def k0_off878 (v352 : BitVec 32) : Fin 2 → Nat :=
  let v384 : Index := Scalar.indexCast v352
  let c64_175 : Index := 64#32
  ![v384.toNat, 64]
def k0_off879 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v386 : Index := Scalar.indexCast v355
  let c64_176 : Index := 64#32
  ![v386.toNat, 64]
def k0_off880 (v352 : BitVec 32) : Fin 2 → Nat :=
  let v391 : Index := Scalar.indexCast v352
  let c80_178 : Index := 80#32
  ![v391.toNat, 80]
def k0_off881 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v393 : Index := Scalar.indexCast v355
  let c80_179 : Index := 80#32
  ![v393.toNat, 80]
def k0_off882 (v352 : BitVec 32) : Fin 2 → Nat :=
  let v398 : Index := Scalar.indexCast v352
  let c96_181 : Index := 96#32
  ![v398.toNat, 96]
def k0_off883 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v400 : Index := Scalar.indexCast v355
  let c96_182 : Index := 96#32
  ![v400.toNat, 96]
def k0_off884 (v352 : BitVec 32) : Fin 2 → Nat :=
  let v405 : Index := Scalar.indexCast v352
  let c112_184 : Index := 112#32
  ![v405.toNat, 112]

def k0_chk56 (v352 : BitVec 32) : Prop :=
  (∀ a, (k0_off870 v352) a + S1x16.size a ≤ S641x128.size a) ∧
  (∀ a, (k0_off872 v352) a + S1x16.size a ≤ S641x128.size a) ∧
  (∀ a, (k0_off874 v352) a + S1x16.size a ≤ S641x128.size a) ∧
  (∀ a, (k0_off876 v352) a + S1x16.size a ≤ S641x128.size a) ∧
  (∀ a, (k0_off878 v352) a + S1x16.size a ≤ S641x128.size a) ∧
  (∀ a, (k0_off880 v352) a + S1x16.size a ≤ S641x128.size a) ∧
  (∀ a, (k0_off882 v352) a + S1x16.size a ≤ S641x128.size a) ∧
  (∀ a, (k0_off884 v352) a + S1x16.size a ≤ S641x128.size a)
theorem k0_off870_inb : ∀ (v352 : BitVec 32) (k0_hw56 : k0_chk56 v352), ∀ a, (k0_off870 v352) a + S1x16.size a ≤ S641x128.size a := fun v352 k0_hw56 => k0_hw56.1
theorem k0_off872_inb : ∀ (v352 : BitVec 32) (k0_hw56 : k0_chk56 v352), ∀ a, (k0_off872 v352) a + S1x16.size a ≤ S641x128.size a := fun v352 k0_hw56 => k0_hw56.2.1
theorem k0_off874_inb : ∀ (v352 : BitVec 32) (k0_hw56 : k0_chk56 v352), ∀ a, (k0_off874 v352) a + S1x16.size a ≤ S641x128.size a := fun v352 k0_hw56 => k0_hw56.2.2.1
theorem k0_off876_inb : ∀ (v352 : BitVec 32) (k0_hw56 : k0_chk56 v352), ∀ a, (k0_off876 v352) a + S1x16.size a ≤ S641x128.size a := fun v352 k0_hw56 => k0_hw56.2.2.2.1
theorem k0_off878_inb : ∀ (v352 : BitVec 32) (k0_hw56 : k0_chk56 v352), ∀ a, (k0_off878 v352) a + S1x16.size a ≤ S641x128.size a := fun v352 k0_hw56 => k0_hw56.2.2.2.2.1
theorem k0_off880_inb : ∀ (v352 : BitVec 32) (k0_hw56 : k0_chk56 v352), ∀ a, (k0_off880 v352) a + S1x16.size a ≤ S641x128.size a := fun v352 k0_hw56 => k0_hw56.2.2.2.2.2.1
theorem k0_off882_inb : ∀ (v352 : BitVec 32) (k0_hw56 : k0_chk56 v352), ∀ a, (k0_off882 v352) a + S1x16.size a ≤ S641x128.size a := fun v352 k0_hw56 => k0_hw56.2.2.2.2.2.2.1
theorem k0_off884_inb : ∀ (v352 : BitVec 32) (k0_hw56 : k0_chk56 v352), ∀ a, (k0_off884 v352) a + S1x16.size a ≤ S641x128.size a := fun v352 k0_hw56 => k0_hw56.2.2.2.2.2.2.2

def k0_off885 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_161 : BitVec 32 := 16#32
  let v353 : BitVec 32 := Scalar.muli arg15 c16_i32_161
  let v354 : BitVec 32 := Scalar.addi v100 v353
  let c4_i32_162 : BitVec 32 := 4#32
  let v355 : BitVec 32 := Scalar.addi v354 c4_i32_162
  let v407 : Index := Scalar.indexCast v355
  let c112_185 : Index := 112#32
  ![v407.toNat, 112]
def k0_off886 (v413 : BitVec 32) : Fin 2 → Nat :=
  let v417 : Index := Scalar.indexCast v413
  let c0_188 : Index := 0#32
  ![v417.toNat, 0]

def k0_off887 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v419 : Index := Scalar.indexCast v416
  let c0_189 : Index := 0#32
  ![v419.toNat, 0]
def k0_off888 (v413 : BitVec 32) : Fin 2 → Nat :=
  let v424 : Index := Scalar.indexCast v413
  let c16_191 : Index := 16#32
  ![v424.toNat, 16]
def k0_off889 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v426 : Index := Scalar.indexCast v416
  let c16_192 : Index := 16#32
  ![v426.toNat, 16]
def k0_off890 (v413 : BitVec 32) : Fin 2 → Nat :=
  let v431 : Index := Scalar.indexCast v413
  let c32_194 : Index := 32#32
  ![v431.toNat, 32]
def k0_off891 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v433 : Index := Scalar.indexCast v416
  let c32_195 : Index := 32#32
  ![v433.toNat, 32]
def k0_off892 (v413 : BitVec 32) : Fin 2 → Nat :=
  let v438 : Index := Scalar.indexCast v413
  let c48_197 : Index := 48#32
  ![v438.toNat, 48]
def k0_off893 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v440 : Index := Scalar.indexCast v416
  let c48_198 : Index := 48#32
  ![v440.toNat, 48]
def k0_off894 (v413 : BitVec 32) : Fin 2 → Nat :=
  let v445 : Index := Scalar.indexCast v413
  let c64_200 : Index := 64#32
  ![v445.toNat, 64]
def k0_off895 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v447 : Index := Scalar.indexCast v416
  let c64_201 : Index := 64#32
  ![v447.toNat, 64]
def k0_off896 (v413 : BitVec 32) : Fin 2 → Nat :=
  let v452 : Index := Scalar.indexCast v413
  let c80_203 : Index := 80#32
  ![v452.toNat, 80]
def k0_off897 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v454 : Index := Scalar.indexCast v416
  let c80_204 : Index := 80#32
  ![v454.toNat, 80]
def k0_off898 (v413 : BitVec 32) : Fin 2 → Nat :=
  let v459 : Index := Scalar.indexCast v413
  let c96_206 : Index := 96#32
  ![v459.toNat, 96]
def k0_off899 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v461 : Index := Scalar.indexCast v416
  let c96_207 : Index := 96#32
  ![v461.toNat, 96]
def k0_off900 (v413 : BitVec 32) : Fin 2 → Nat :=
  let v466 : Index := Scalar.indexCast v413
  let c112_209 : Index := 112#32
  ![v466.toNat, 112]

def k0_chk57 (v413 : BitVec 32) : Prop :=
  (∀ a, (k0_off886 v413) a + S1x16.size a ≤ S641x128.size a) ∧
  (∀ a, (k0_off888 v413) a + S1x16.size a ≤ S641x128.size a) ∧
  (∀ a, (k0_off890 v413) a + S1x16.size a ≤ S641x128.size a) ∧
  (∀ a, (k0_off892 v413) a + S1x16.size a ≤ S641x128.size a) ∧
  (∀ a, (k0_off894 v413) a + S1x16.size a ≤ S641x128.size a) ∧
  (∀ a, (k0_off896 v413) a + S1x16.size a ≤ S641x128.size a) ∧
  (∀ a, (k0_off898 v413) a + S1x16.size a ≤ S641x128.size a) ∧
  (∀ a, (k0_off900 v413) a + S1x16.size a ≤ S641x128.size a)
theorem k0_off886_inb : ∀ (v413 : BitVec 32) (k0_hw57 : k0_chk57 v413), ∀ a, (k0_off886 v413) a + S1x16.size a ≤ S641x128.size a := fun v413 k0_hw57 => k0_hw57.1
theorem k0_off888_inb : ∀ (v413 : BitVec 32) (k0_hw57 : k0_chk57 v413), ∀ a, (k0_off888 v413) a + S1x16.size a ≤ S641x128.size a := fun v413 k0_hw57 => k0_hw57.2.1
theorem k0_off890_inb : ∀ (v413 : BitVec 32) (k0_hw57 : k0_chk57 v413), ∀ a, (k0_off890 v413) a + S1x16.size a ≤ S641x128.size a := fun v413 k0_hw57 => k0_hw57.2.2.1
theorem k0_off892_inb : ∀ (v413 : BitVec 32) (k0_hw57 : k0_chk57 v413), ∀ a, (k0_off892 v413) a + S1x16.size a ≤ S641x128.size a := fun v413 k0_hw57 => k0_hw57.2.2.2.1
theorem k0_off894_inb : ∀ (v413 : BitVec 32) (k0_hw57 : k0_chk57 v413), ∀ a, (k0_off894 v413) a + S1x16.size a ≤ S641x128.size a := fun v413 k0_hw57 => k0_hw57.2.2.2.2.1
theorem k0_off896_inb : ∀ (v413 : BitVec 32) (k0_hw57 : k0_chk57 v413), ∀ a, (k0_off896 v413) a + S1x16.size a ≤ S641x128.size a := fun v413 k0_hw57 => k0_hw57.2.2.2.2.2.1
theorem k0_off898_inb : ∀ (v413 : BitVec 32) (k0_hw57 : k0_chk57 v413), ∀ a, (k0_off898 v413) a + S1x16.size a ≤ S641x128.size a := fun v413 k0_hw57 => k0_hw57.2.2.2.2.2.2.1
theorem k0_off900_inb : ∀ (v413 : BitVec 32) (k0_hw57 : k0_chk57 v413), ∀ a, (k0_off900 v413) a + S1x16.size a ≤ S641x128.size a := fun v413 k0_hw57 => k0_hw57.2.2.2.2.2.2.2

def k0_off901 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_187 : BitVec 32 := 16#32
  let v414 : BitVec 32 := Scalar.muli arg15 c16_i32_187
  let v415 : BitVec 32 := Scalar.addi v100 v414
  let c5_i32 : BitVec 32 := 5#32
  let v416 : BitVec 32 := Scalar.addi v415 c5_i32
  let v468 : Index := Scalar.indexCast v416
  let c112_210 : Index := 112#32
  ![v468.toNat, 112]
def k0_off902 (v474 : BitVec 32) : Fin 2 → Nat :=
  let v478 : Index := Scalar.indexCast v474
  let c0_213 : Index := 0#32
  ![v478.toNat, 0]

def k0_off903 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v480 : Index := Scalar.indexCast v477
  let c0_214 : Index := 0#32
  ![v480.toNat, 0]
def k0_off904 (v474 : BitVec 32) : Fin 2 → Nat :=
  let v485 : Index := Scalar.indexCast v474
  let c16_216 : Index := 16#32
  ![v485.toNat, 16]
def k0_off905 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v487 : Index := Scalar.indexCast v477
  let c16_217 : Index := 16#32
  ![v487.toNat, 16]
def k0_off906 (v474 : BitVec 32) : Fin 2 → Nat :=
  let v492 : Index := Scalar.indexCast v474
  let c32_219 : Index := 32#32
  ![v492.toNat, 32]
def k0_off907 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v494 : Index := Scalar.indexCast v477
  let c32_220 : Index := 32#32
  ![v494.toNat, 32]
def k0_off908 (v474 : BitVec 32) : Fin 2 → Nat :=
  let v499 : Index := Scalar.indexCast v474
  let c48_222 : Index := 48#32
  ![v499.toNat, 48]
def k0_off909 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v501 : Index := Scalar.indexCast v477
  let c48_223 : Index := 48#32
  ![v501.toNat, 48]
def k0_off910 (v474 : BitVec 32) : Fin 2 → Nat :=
  let v506 : Index := Scalar.indexCast v474
  let c64_225 : Index := 64#32
  ![v506.toNat, 64]
def k0_off911 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v508 : Index := Scalar.indexCast v477
  let c64_226 : Index := 64#32
  ![v508.toNat, 64]
def k0_off912 (v474 : BitVec 32) : Fin 2 → Nat :=
  let v513 : Index := Scalar.indexCast v474
  let c80_228 : Index := 80#32
  ![v513.toNat, 80]
def k0_off913 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v515 : Index := Scalar.indexCast v477
  let c80_229 : Index := 80#32
  ![v515.toNat, 80]
def k0_off914 (v474 : BitVec 32) : Fin 2 → Nat :=
  let v520 : Index := Scalar.indexCast v474
  let c96_231 : Index := 96#32
  ![v520.toNat, 96]
def k0_off915 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v522 : Index := Scalar.indexCast v477
  let c96_232 : Index := 96#32
  ![v522.toNat, 96]
def k0_off916 (v474 : BitVec 32) : Fin 2 → Nat :=
  let v527 : Index := Scalar.indexCast v474
  let c112_234 : Index := 112#32
  ![v527.toNat, 112]

def k0_chk58 (v474 : BitVec 32) : Prop :=
  (∀ a, (k0_off902 v474) a + S1x16.size a ≤ S641x128.size a) ∧
  (∀ a, (k0_off904 v474) a + S1x16.size a ≤ S641x128.size a) ∧
  (∀ a, (k0_off906 v474) a + S1x16.size a ≤ S641x128.size a) ∧
  (∀ a, (k0_off908 v474) a + S1x16.size a ≤ S641x128.size a) ∧
  (∀ a, (k0_off910 v474) a + S1x16.size a ≤ S641x128.size a) ∧
  (∀ a, (k0_off912 v474) a + S1x16.size a ≤ S641x128.size a) ∧
  (∀ a, (k0_off914 v474) a + S1x16.size a ≤ S641x128.size a) ∧
  (∀ a, (k0_off916 v474) a + S1x16.size a ≤ S641x128.size a)
theorem k0_off902_inb : ∀ (v474 : BitVec 32) (k0_hw58 : k0_chk58 v474), ∀ a, (k0_off902 v474) a + S1x16.size a ≤ S641x128.size a := fun v474 k0_hw58 => k0_hw58.1
theorem k0_off904_inb : ∀ (v474 : BitVec 32) (k0_hw58 : k0_chk58 v474), ∀ a, (k0_off904 v474) a + S1x16.size a ≤ S641x128.size a := fun v474 k0_hw58 => k0_hw58.2.1
theorem k0_off906_inb : ∀ (v474 : BitVec 32) (k0_hw58 : k0_chk58 v474), ∀ a, (k0_off906 v474) a + S1x16.size a ≤ S641x128.size a := fun v474 k0_hw58 => k0_hw58.2.2.1
theorem k0_off908_inb : ∀ (v474 : BitVec 32) (k0_hw58 : k0_chk58 v474), ∀ a, (k0_off908 v474) a + S1x16.size a ≤ S641x128.size a := fun v474 k0_hw58 => k0_hw58.2.2.2.1
theorem k0_off910_inb : ∀ (v474 : BitVec 32) (k0_hw58 : k0_chk58 v474), ∀ a, (k0_off910 v474) a + S1x16.size a ≤ S641x128.size a := fun v474 k0_hw58 => k0_hw58.2.2.2.2.1
theorem k0_off912_inb : ∀ (v474 : BitVec 32) (k0_hw58 : k0_chk58 v474), ∀ a, (k0_off912 v474) a + S1x16.size a ≤ S641x128.size a := fun v474 k0_hw58 => k0_hw58.2.2.2.2.2.1
theorem k0_off914_inb : ∀ (v474 : BitVec 32) (k0_hw58 : k0_chk58 v474), ∀ a, (k0_off914 v474) a + S1x16.size a ≤ S641x128.size a := fun v474 k0_hw58 => k0_hw58.2.2.2.2.2.2.1
theorem k0_off916_inb : ∀ (v474 : BitVec 32) (k0_hw58 : k0_chk58 v474), ∀ a, (k0_off916 v474) a + S1x16.size a ≤ S641x128.size a := fun v474 k0_hw58 => k0_hw58.2.2.2.2.2.2.2

def k0_off917 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_212 : BitVec 32 := 16#32
  let v475 : BitVec 32 := Scalar.muli arg15 c16_i32_212
  let v476 : BitVec 32 := Scalar.addi v100 v475
  let c6_i32 : BitVec 32 := 6#32
  let v477 : BitVec 32 := Scalar.addi v476 c6_i32
  let v529 : Index := Scalar.indexCast v477
  let c112_235 : Index := 112#32
  ![v529.toNat, 112]
def k0_off918 (v535 : BitVec 32) : Fin 2 → Nat :=
  let v539 : Index := Scalar.indexCast v535
  let c0_238 : Index := 0#32
  ![v539.toNat, 0]

def k0_off919 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v541 : Index := Scalar.indexCast v538
  let c0_239 : Index := 0#32
  ![v541.toNat, 0]
def k0_off920 (v535 : BitVec 32) : Fin 2 → Nat :=
  let v546 : Index := Scalar.indexCast v535
  let c16_241 : Index := 16#32
  ![v546.toNat, 16]
def k0_off921 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v548 : Index := Scalar.indexCast v538
  let c16_242 : Index := 16#32
  ![v548.toNat, 16]
def k0_off922 (v535 : BitVec 32) : Fin 2 → Nat :=
  let v553 : Index := Scalar.indexCast v535
  let c32_244 : Index := 32#32
  ![v553.toNat, 32]
def k0_off923 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v555 : Index := Scalar.indexCast v538
  let c32_245 : Index := 32#32
  ![v555.toNat, 32]
def k0_off924 (v535 : BitVec 32) : Fin 2 → Nat :=
  let v560 : Index := Scalar.indexCast v535
  let c48_247 : Index := 48#32
  ![v560.toNat, 48]
def k0_off925 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v562 : Index := Scalar.indexCast v538
  let c48_248 : Index := 48#32
  ![v562.toNat, 48]
def k0_off926 (v535 : BitVec 32) : Fin 2 → Nat :=
  let v567 : Index := Scalar.indexCast v535
  let c64_250 : Index := 64#32
  ![v567.toNat, 64]
def k0_off927 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v569 : Index := Scalar.indexCast v538
  let c64_251 : Index := 64#32
  ![v569.toNat, 64]
def k0_off928 (v535 : BitVec 32) : Fin 2 → Nat :=
  let v574 : Index := Scalar.indexCast v535
  let c80_253 : Index := 80#32
  ![v574.toNat, 80]
def k0_off929 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v576 : Index := Scalar.indexCast v538
  let c80_254 : Index := 80#32
  ![v576.toNat, 80]
def k0_off930 (v535 : BitVec 32) : Fin 2 → Nat :=
  let v581 : Index := Scalar.indexCast v535
  let c96_256 : Index := 96#32
  ![v581.toNat, 96]
def k0_off931 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v583 : Index := Scalar.indexCast v538
  let c96_257 : Index := 96#32
  ![v583.toNat, 96]
def k0_off932 (v535 : BitVec 32) : Fin 2 → Nat :=
  let v588 : Index := Scalar.indexCast v535
  let c112_259 : Index := 112#32
  ![v588.toNat, 112]

def k0_chk59 (v535 : BitVec 32) : Prop :=
  (∀ a, (k0_off918 v535) a + S1x16.size a ≤ S641x128.size a) ∧
  (∀ a, (k0_off920 v535) a + S1x16.size a ≤ S641x128.size a) ∧
  (∀ a, (k0_off922 v535) a + S1x16.size a ≤ S641x128.size a) ∧
  (∀ a, (k0_off924 v535) a + S1x16.size a ≤ S641x128.size a) ∧
  (∀ a, (k0_off926 v535) a + S1x16.size a ≤ S641x128.size a) ∧
  (∀ a, (k0_off928 v535) a + S1x16.size a ≤ S641x128.size a) ∧
  (∀ a, (k0_off930 v535) a + S1x16.size a ≤ S641x128.size a) ∧
  (∀ a, (k0_off932 v535) a + S1x16.size a ≤ S641x128.size a)
theorem k0_off918_inb : ∀ (v535 : BitVec 32) (k0_hw59 : k0_chk59 v535), ∀ a, (k0_off918 v535) a + S1x16.size a ≤ S641x128.size a := fun v535 k0_hw59 => k0_hw59.1
theorem k0_off920_inb : ∀ (v535 : BitVec 32) (k0_hw59 : k0_chk59 v535), ∀ a, (k0_off920 v535) a + S1x16.size a ≤ S641x128.size a := fun v535 k0_hw59 => k0_hw59.2.1
theorem k0_off922_inb : ∀ (v535 : BitVec 32) (k0_hw59 : k0_chk59 v535), ∀ a, (k0_off922 v535) a + S1x16.size a ≤ S641x128.size a := fun v535 k0_hw59 => k0_hw59.2.2.1
theorem k0_off924_inb : ∀ (v535 : BitVec 32) (k0_hw59 : k0_chk59 v535), ∀ a, (k0_off924 v535) a + S1x16.size a ≤ S641x128.size a := fun v535 k0_hw59 => k0_hw59.2.2.2.1
theorem k0_off926_inb : ∀ (v535 : BitVec 32) (k0_hw59 : k0_chk59 v535), ∀ a, (k0_off926 v535) a + S1x16.size a ≤ S641x128.size a := fun v535 k0_hw59 => k0_hw59.2.2.2.2.1
theorem k0_off928_inb : ∀ (v535 : BitVec 32) (k0_hw59 : k0_chk59 v535), ∀ a, (k0_off928 v535) a + S1x16.size a ≤ S641x128.size a := fun v535 k0_hw59 => k0_hw59.2.2.2.2.2.1
theorem k0_off930_inb : ∀ (v535 : BitVec 32) (k0_hw59 : k0_chk59 v535), ∀ a, (k0_off930 v535) a + S1x16.size a ≤ S641x128.size a := fun v535 k0_hw59 => k0_hw59.2.2.2.2.2.2.1
theorem k0_off932_inb : ∀ (v535 : BitVec 32) (k0_hw59 : k0_chk59 v535), ∀ a, (k0_off932 v535) a + S1x16.size a ≤ S641x128.size a := fun v535 k0_hw59 => k0_hw59.2.2.2.2.2.2.2

def k0_off933 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_237 : BitVec 32 := 16#32
  let v536 : BitVec 32 := Scalar.muli arg15 c16_i32_237
  let v537 : BitVec 32 := Scalar.addi v100 v536
  let c7_i32 : BitVec 32 := 7#32
  let v538 : BitVec 32 := Scalar.addi v537 c7_i32
  let v590 : Index := Scalar.indexCast v538
  let c112_260 : Index := 112#32
  ![v590.toNat, 112]
def k0_off934 (v596 : BitVec 32) : Fin 2 → Nat :=
  let v600 : Index := Scalar.indexCast v596
  let c0_263 : Index := 0#32
  ![v600.toNat, 0]

def k0_off935 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v602 : Index := Scalar.indexCast v599
  let c0_264 : Index := 0#32
  ![v602.toNat, 0]
def k0_off936 (v596 : BitVec 32) : Fin 2 → Nat :=
  let v607 : Index := Scalar.indexCast v596
  let c16_266 : Index := 16#32
  ![v607.toNat, 16]
def k0_off937 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v609 : Index := Scalar.indexCast v599
  let c16_267 : Index := 16#32
  ![v609.toNat, 16]
def k0_off938 (v596 : BitVec 32) : Fin 2 → Nat :=
  let v614 : Index := Scalar.indexCast v596
  let c32_269 : Index := 32#32
  ![v614.toNat, 32]
def k0_off939 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v616 : Index := Scalar.indexCast v599
  let c32_270 : Index := 32#32
  ![v616.toNat, 32]
def k0_off940 (v596 : BitVec 32) : Fin 2 → Nat :=
  let v621 : Index := Scalar.indexCast v596
  let c48_272 : Index := 48#32
  ![v621.toNat, 48]
def k0_off941 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v623 : Index := Scalar.indexCast v599
  let c48_273 : Index := 48#32
  ![v623.toNat, 48]
def k0_off942 (v596 : BitVec 32) : Fin 2 → Nat :=
  let v628 : Index := Scalar.indexCast v596
  let c64_275 : Index := 64#32
  ![v628.toNat, 64]
def k0_off943 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v630 : Index := Scalar.indexCast v599
  let c64_276 : Index := 64#32
  ![v630.toNat, 64]
def k0_off944 (v596 : BitVec 32) : Fin 2 → Nat :=
  let v635 : Index := Scalar.indexCast v596
  let c80_278 : Index := 80#32
  ![v635.toNat, 80]
def k0_off945 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v637 : Index := Scalar.indexCast v599
  let c80_279 : Index := 80#32
  ![v637.toNat, 80]
def k0_off946 (v596 : BitVec 32) : Fin 2 → Nat :=
  let v642 : Index := Scalar.indexCast v596
  let c96_281 : Index := 96#32
  ![v642.toNat, 96]
def k0_off947 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v644 : Index := Scalar.indexCast v599
  let c96_282 : Index := 96#32
  ![v644.toNat, 96]
def k0_off948 (v596 : BitVec 32) : Fin 2 → Nat :=
  let v649 : Index := Scalar.indexCast v596
  let c112_284 : Index := 112#32
  ![v649.toNat, 112]

def k0_chk60 (v596 : BitVec 32) : Prop :=
  (∀ a, (k0_off934 v596) a + S1x16.size a ≤ S641x128.size a) ∧
  (∀ a, (k0_off936 v596) a + S1x16.size a ≤ S641x128.size a) ∧
  (∀ a, (k0_off938 v596) a + S1x16.size a ≤ S641x128.size a) ∧
  (∀ a, (k0_off940 v596) a + S1x16.size a ≤ S641x128.size a) ∧
  (∀ a, (k0_off942 v596) a + S1x16.size a ≤ S641x128.size a) ∧
  (∀ a, (k0_off944 v596) a + S1x16.size a ≤ S641x128.size a) ∧
  (∀ a, (k0_off946 v596) a + S1x16.size a ≤ S641x128.size a) ∧
  (∀ a, (k0_off948 v596) a + S1x16.size a ≤ S641x128.size a)
theorem k0_off934_inb : ∀ (v596 : BitVec 32) (k0_hw60 : k0_chk60 v596), ∀ a, (k0_off934 v596) a + S1x16.size a ≤ S641x128.size a := fun v596 k0_hw60 => k0_hw60.1
theorem k0_off936_inb : ∀ (v596 : BitVec 32) (k0_hw60 : k0_chk60 v596), ∀ a, (k0_off936 v596) a + S1x16.size a ≤ S641x128.size a := fun v596 k0_hw60 => k0_hw60.2.1
theorem k0_off938_inb : ∀ (v596 : BitVec 32) (k0_hw60 : k0_chk60 v596), ∀ a, (k0_off938 v596) a + S1x16.size a ≤ S641x128.size a := fun v596 k0_hw60 => k0_hw60.2.2.1
theorem k0_off940_inb : ∀ (v596 : BitVec 32) (k0_hw60 : k0_chk60 v596), ∀ a, (k0_off940 v596) a + S1x16.size a ≤ S641x128.size a := fun v596 k0_hw60 => k0_hw60.2.2.2.1
theorem k0_off942_inb : ∀ (v596 : BitVec 32) (k0_hw60 : k0_chk60 v596), ∀ a, (k0_off942 v596) a + S1x16.size a ≤ S641x128.size a := fun v596 k0_hw60 => k0_hw60.2.2.2.2.1
theorem k0_off944_inb : ∀ (v596 : BitVec 32) (k0_hw60 : k0_chk60 v596), ∀ a, (k0_off944 v596) a + S1x16.size a ≤ S641x128.size a := fun v596 k0_hw60 => k0_hw60.2.2.2.2.2.1
theorem k0_off946_inb : ∀ (v596 : BitVec 32) (k0_hw60 : k0_chk60 v596), ∀ a, (k0_off946 v596) a + S1x16.size a ≤ S641x128.size a := fun v596 k0_hw60 => k0_hw60.2.2.2.2.2.2.1
theorem k0_off948_inb : ∀ (v596 : BitVec 32) (k0_hw60 : k0_chk60 v596), ∀ a, (k0_off948 v596) a + S1x16.size a ≤ S641x128.size a := fun v596 k0_hw60 => k0_hw60.2.2.2.2.2.2.2

def k0_off949 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_262 : BitVec 32 := 16#32
  let v597 : BitVec 32 := Scalar.muli arg15 c16_i32_262
  let v598 : BitVec 32 := Scalar.addi v100 v597
  let c8_i32 : BitVec 32 := 8#32
  let v599 : BitVec 32 := Scalar.addi v598 c8_i32
  let v651 : Index := Scalar.indexCast v599
  let c112_285 : Index := 112#32
  ![v651.toNat, 112]
def k0_off950 (v657 : BitVec 32) : Fin 2 → Nat :=
  let v661 : Index := Scalar.indexCast v657
  let c0_288 : Index := 0#32
  ![v661.toNat, 0]

def k0_off951 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v663 : Index := Scalar.indexCast v660
  let c0_289 : Index := 0#32
  ![v663.toNat, 0]
def k0_off952 (v657 : BitVec 32) : Fin 2 → Nat :=
  let v668 : Index := Scalar.indexCast v657
  let c16_291 : Index := 16#32
  ![v668.toNat, 16]
def k0_off953 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v670 : Index := Scalar.indexCast v660
  let c16_292 : Index := 16#32
  ![v670.toNat, 16]
def k0_off954 (v657 : BitVec 32) : Fin 2 → Nat :=
  let v675 : Index := Scalar.indexCast v657
  let c32_294 : Index := 32#32
  ![v675.toNat, 32]
def k0_off955 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v677 : Index := Scalar.indexCast v660
  let c32_295 : Index := 32#32
  ![v677.toNat, 32]
def k0_off956 (v657 : BitVec 32) : Fin 2 → Nat :=
  let v682 : Index := Scalar.indexCast v657
  let c48_297 : Index := 48#32
  ![v682.toNat, 48]
def k0_off957 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v684 : Index := Scalar.indexCast v660
  let c48_298 : Index := 48#32
  ![v684.toNat, 48]
def k0_off958 (v657 : BitVec 32) : Fin 2 → Nat :=
  let v689 : Index := Scalar.indexCast v657
  let c64_300 : Index := 64#32
  ![v689.toNat, 64]
def k0_off959 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v691 : Index := Scalar.indexCast v660
  let c64_301 : Index := 64#32
  ![v691.toNat, 64]
def k0_off960 (v657 : BitVec 32) : Fin 2 → Nat :=
  let v696 : Index := Scalar.indexCast v657
  let c80_303 : Index := 80#32
  ![v696.toNat, 80]
def k0_off961 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v698 : Index := Scalar.indexCast v660
  let c80_304 : Index := 80#32
  ![v698.toNat, 80]
def k0_off962 (v657 : BitVec 32) : Fin 2 → Nat :=
  let v703 : Index := Scalar.indexCast v657
  let c96_306 : Index := 96#32
  ![v703.toNat, 96]
def k0_off963 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v705 : Index := Scalar.indexCast v660
  let c96_307 : Index := 96#32
  ![v705.toNat, 96]
def k0_off964 (v657 : BitVec 32) : Fin 2 → Nat :=
  let v710 : Index := Scalar.indexCast v657
  let c112_309 : Index := 112#32
  ![v710.toNat, 112]

def k0_chk61 (v657 : BitVec 32) : Prop :=
  (∀ a, (k0_off950 v657) a + S1x16.size a ≤ S641x128.size a) ∧
  (∀ a, (k0_off952 v657) a + S1x16.size a ≤ S641x128.size a) ∧
  (∀ a, (k0_off954 v657) a + S1x16.size a ≤ S641x128.size a) ∧
  (∀ a, (k0_off956 v657) a + S1x16.size a ≤ S641x128.size a) ∧
  (∀ a, (k0_off958 v657) a + S1x16.size a ≤ S641x128.size a) ∧
  (∀ a, (k0_off960 v657) a + S1x16.size a ≤ S641x128.size a) ∧
  (∀ a, (k0_off962 v657) a + S1x16.size a ≤ S641x128.size a) ∧
  (∀ a, (k0_off964 v657) a + S1x16.size a ≤ S641x128.size a)
theorem k0_off950_inb : ∀ (v657 : BitVec 32) (k0_hw61 : k0_chk61 v657), ∀ a, (k0_off950 v657) a + S1x16.size a ≤ S641x128.size a := fun v657 k0_hw61 => k0_hw61.1
theorem k0_off952_inb : ∀ (v657 : BitVec 32) (k0_hw61 : k0_chk61 v657), ∀ a, (k0_off952 v657) a + S1x16.size a ≤ S641x128.size a := fun v657 k0_hw61 => k0_hw61.2.1
theorem k0_off954_inb : ∀ (v657 : BitVec 32) (k0_hw61 : k0_chk61 v657), ∀ a, (k0_off954 v657) a + S1x16.size a ≤ S641x128.size a := fun v657 k0_hw61 => k0_hw61.2.2.1
theorem k0_off956_inb : ∀ (v657 : BitVec 32) (k0_hw61 : k0_chk61 v657), ∀ a, (k0_off956 v657) a + S1x16.size a ≤ S641x128.size a := fun v657 k0_hw61 => k0_hw61.2.2.2.1
theorem k0_off958_inb : ∀ (v657 : BitVec 32) (k0_hw61 : k0_chk61 v657), ∀ a, (k0_off958 v657) a + S1x16.size a ≤ S641x128.size a := fun v657 k0_hw61 => k0_hw61.2.2.2.2.1
theorem k0_off960_inb : ∀ (v657 : BitVec 32) (k0_hw61 : k0_chk61 v657), ∀ a, (k0_off960 v657) a + S1x16.size a ≤ S641x128.size a := fun v657 k0_hw61 => k0_hw61.2.2.2.2.2.1
theorem k0_off962_inb : ∀ (v657 : BitVec 32) (k0_hw61 : k0_chk61 v657), ∀ a, (k0_off962 v657) a + S1x16.size a ≤ S641x128.size a := fun v657 k0_hw61 => k0_hw61.2.2.2.2.2.2.1
theorem k0_off964_inb : ∀ (v657 : BitVec 32) (k0_hw61 : k0_chk61 v657), ∀ a, (k0_off964 v657) a + S1x16.size a ≤ S641x128.size a := fun v657 k0_hw61 => k0_hw61.2.2.2.2.2.2.2

def k0_off965 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_287 : BitVec 32 := 16#32
  let v658 : BitVec 32 := Scalar.muli arg15 c16_i32_287
  let v659 : BitVec 32 := Scalar.addi v100 v658
  let c9_i32 : BitVec 32 := 9#32
  let v660 : BitVec 32 := Scalar.addi v659 c9_i32
  let v712 : Index := Scalar.indexCast v660
  let c112_310 : Index := 112#32
  ![v712.toNat, 112]
def k0_off966 (v718 : BitVec 32) : Fin 2 → Nat :=
  let v722 : Index := Scalar.indexCast v718
  let c0_313 : Index := 0#32
  ![v722.toNat, 0]

def k0_off967 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v724 : Index := Scalar.indexCast v721
  let c0_314 : Index := 0#32
  ![v724.toNat, 0]
def k0_off968 (v718 : BitVec 32) : Fin 2 → Nat :=
  let v729 : Index := Scalar.indexCast v718
  let c16_316 : Index := 16#32
  ![v729.toNat, 16]
def k0_off969 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v731 : Index := Scalar.indexCast v721
  let c16_317 : Index := 16#32
  ![v731.toNat, 16]
def k0_off970 (v718 : BitVec 32) : Fin 2 → Nat :=
  let v736 : Index := Scalar.indexCast v718
  let c32_319 : Index := 32#32
  ![v736.toNat, 32]
def k0_off971 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v738 : Index := Scalar.indexCast v721
  let c32_320 : Index := 32#32
  ![v738.toNat, 32]
def k0_off972 (v718 : BitVec 32) : Fin 2 → Nat :=
  let v743 : Index := Scalar.indexCast v718
  let c48_322 : Index := 48#32
  ![v743.toNat, 48]
def k0_off973 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v745 : Index := Scalar.indexCast v721
  let c48_323 : Index := 48#32
  ![v745.toNat, 48]
def k0_off974 (v718 : BitVec 32) : Fin 2 → Nat :=
  let v750 : Index := Scalar.indexCast v718
  let c64_325 : Index := 64#32
  ![v750.toNat, 64]
def k0_off975 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v752 : Index := Scalar.indexCast v721
  let c64_326 : Index := 64#32
  ![v752.toNat, 64]
def k0_off976 (v718 : BitVec 32) : Fin 2 → Nat :=
  let v757 : Index := Scalar.indexCast v718
  let c80_328 : Index := 80#32
  ![v757.toNat, 80]
def k0_off977 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v759 : Index := Scalar.indexCast v721
  let c80_329 : Index := 80#32
  ![v759.toNat, 80]
def k0_off978 (v718 : BitVec 32) : Fin 2 → Nat :=
  let v764 : Index := Scalar.indexCast v718
  let c96_331 : Index := 96#32
  ![v764.toNat, 96]
def k0_off979 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v766 : Index := Scalar.indexCast v721
  let c96_332 : Index := 96#32
  ![v766.toNat, 96]
def k0_off980 (v718 : BitVec 32) : Fin 2 → Nat :=
  let v771 : Index := Scalar.indexCast v718
  let c112_334 : Index := 112#32
  ![v771.toNat, 112]

def k0_chk62 (v718 : BitVec 32) : Prop :=
  (∀ a, (k0_off966 v718) a + S1x16.size a ≤ S641x128.size a) ∧
  (∀ a, (k0_off968 v718) a + S1x16.size a ≤ S641x128.size a) ∧
  (∀ a, (k0_off970 v718) a + S1x16.size a ≤ S641x128.size a) ∧
  (∀ a, (k0_off972 v718) a + S1x16.size a ≤ S641x128.size a) ∧
  (∀ a, (k0_off974 v718) a + S1x16.size a ≤ S641x128.size a) ∧
  (∀ a, (k0_off976 v718) a + S1x16.size a ≤ S641x128.size a) ∧
  (∀ a, (k0_off978 v718) a + S1x16.size a ≤ S641x128.size a) ∧
  (∀ a, (k0_off980 v718) a + S1x16.size a ≤ S641x128.size a)
theorem k0_off966_inb : ∀ (v718 : BitVec 32) (k0_hw62 : k0_chk62 v718), ∀ a, (k0_off966 v718) a + S1x16.size a ≤ S641x128.size a := fun v718 k0_hw62 => k0_hw62.1
theorem k0_off968_inb : ∀ (v718 : BitVec 32) (k0_hw62 : k0_chk62 v718), ∀ a, (k0_off968 v718) a + S1x16.size a ≤ S641x128.size a := fun v718 k0_hw62 => k0_hw62.2.1
theorem k0_off970_inb : ∀ (v718 : BitVec 32) (k0_hw62 : k0_chk62 v718), ∀ a, (k0_off970 v718) a + S1x16.size a ≤ S641x128.size a := fun v718 k0_hw62 => k0_hw62.2.2.1
theorem k0_off972_inb : ∀ (v718 : BitVec 32) (k0_hw62 : k0_chk62 v718), ∀ a, (k0_off972 v718) a + S1x16.size a ≤ S641x128.size a := fun v718 k0_hw62 => k0_hw62.2.2.2.1
theorem k0_off974_inb : ∀ (v718 : BitVec 32) (k0_hw62 : k0_chk62 v718), ∀ a, (k0_off974 v718) a + S1x16.size a ≤ S641x128.size a := fun v718 k0_hw62 => k0_hw62.2.2.2.2.1
theorem k0_off976_inb : ∀ (v718 : BitVec 32) (k0_hw62 : k0_chk62 v718), ∀ a, (k0_off976 v718) a + S1x16.size a ≤ S641x128.size a := fun v718 k0_hw62 => k0_hw62.2.2.2.2.2.1
theorem k0_off978_inb : ∀ (v718 : BitVec 32) (k0_hw62 : k0_chk62 v718), ∀ a, (k0_off978 v718) a + S1x16.size a ≤ S641x128.size a := fun v718 k0_hw62 => k0_hw62.2.2.2.2.2.2.1
theorem k0_off980_inb : ∀ (v718 : BitVec 32) (k0_hw62 : k0_chk62 v718), ∀ a, (k0_off980 v718) a + S1x16.size a ≤ S641x128.size a := fun v718 k0_hw62 => k0_hw62.2.2.2.2.2.2.2

def k0_off981 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_312 : BitVec 32 := 16#32
  let v719 : BitVec 32 := Scalar.muli arg15 c16_i32_312
  let v720 : BitVec 32 := Scalar.addi v100 v719
  let c10_i32 : BitVec 32 := 10#32
  let v721 : BitVec 32 := Scalar.addi v720 c10_i32
  let v773 : Index := Scalar.indexCast v721
  let c112_335 : Index := 112#32
  ![v773.toNat, 112]
def k0_off982 (v779 : BitVec 32) : Fin 2 → Nat :=
  let v783 : Index := Scalar.indexCast v779
  let c0_338 : Index := 0#32
  ![v783.toNat, 0]

def k0_off983 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v785 : Index := Scalar.indexCast v782
  let c0_339 : Index := 0#32
  ![v785.toNat, 0]
def k0_off984 (v779 : BitVec 32) : Fin 2 → Nat :=
  let v790 : Index := Scalar.indexCast v779
  let c16_341 : Index := 16#32
  ![v790.toNat, 16]
def k0_off985 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v792 : Index := Scalar.indexCast v782
  let c16_342 : Index := 16#32
  ![v792.toNat, 16]
def k0_off986 (v779 : BitVec 32) : Fin 2 → Nat :=
  let v797 : Index := Scalar.indexCast v779
  let c32_344 : Index := 32#32
  ![v797.toNat, 32]
def k0_off987 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v799 : Index := Scalar.indexCast v782
  let c32_345 : Index := 32#32
  ![v799.toNat, 32]
def k0_off988 (v779 : BitVec 32) : Fin 2 → Nat :=
  let v804 : Index := Scalar.indexCast v779
  let c48_347 : Index := 48#32
  ![v804.toNat, 48]
def k0_off989 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v806 : Index := Scalar.indexCast v782
  let c48_348 : Index := 48#32
  ![v806.toNat, 48]
def k0_off990 (v779 : BitVec 32) : Fin 2 → Nat :=
  let v811 : Index := Scalar.indexCast v779
  let c64_350 : Index := 64#32
  ![v811.toNat, 64]
def k0_off991 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v813 : Index := Scalar.indexCast v782
  let c64_351 : Index := 64#32
  ![v813.toNat, 64]
def k0_off992 (v779 : BitVec 32) : Fin 2 → Nat :=
  let v818 : Index := Scalar.indexCast v779
  let c80_353 : Index := 80#32
  ![v818.toNat, 80]
def k0_off993 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v820 : Index := Scalar.indexCast v782
  let c80_354 : Index := 80#32
  ![v820.toNat, 80]
def k0_off994 (v779 : BitVec 32) : Fin 2 → Nat :=
  let v825 : Index := Scalar.indexCast v779
  let c96_356 : Index := 96#32
  ![v825.toNat, 96]
def k0_off995 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v827 : Index := Scalar.indexCast v782
  let c96_357 : Index := 96#32
  ![v827.toNat, 96]
def k0_off996 (v779 : BitVec 32) : Fin 2 → Nat :=
  let v832 : Index := Scalar.indexCast v779
  let c112_359 : Index := 112#32
  ![v832.toNat, 112]

def k0_chk63 (v779 : BitVec 32) : Prop :=
  (∀ a, (k0_off982 v779) a + S1x16.size a ≤ S641x128.size a) ∧
  (∀ a, (k0_off984 v779) a + S1x16.size a ≤ S641x128.size a) ∧
  (∀ a, (k0_off986 v779) a + S1x16.size a ≤ S641x128.size a) ∧
  (∀ a, (k0_off988 v779) a + S1x16.size a ≤ S641x128.size a) ∧
  (∀ a, (k0_off990 v779) a + S1x16.size a ≤ S641x128.size a) ∧
  (∀ a, (k0_off992 v779) a + S1x16.size a ≤ S641x128.size a) ∧
  (∀ a, (k0_off994 v779) a + S1x16.size a ≤ S641x128.size a) ∧
  (∀ a, (k0_off996 v779) a + S1x16.size a ≤ S641x128.size a)
theorem k0_off982_inb : ∀ (v779 : BitVec 32) (k0_hw63 : k0_chk63 v779), ∀ a, (k0_off982 v779) a + S1x16.size a ≤ S641x128.size a := fun v779 k0_hw63 => k0_hw63.1
theorem k0_off984_inb : ∀ (v779 : BitVec 32) (k0_hw63 : k0_chk63 v779), ∀ a, (k0_off984 v779) a + S1x16.size a ≤ S641x128.size a := fun v779 k0_hw63 => k0_hw63.2.1
theorem k0_off986_inb : ∀ (v779 : BitVec 32) (k0_hw63 : k0_chk63 v779), ∀ a, (k0_off986 v779) a + S1x16.size a ≤ S641x128.size a := fun v779 k0_hw63 => k0_hw63.2.2.1
theorem k0_off988_inb : ∀ (v779 : BitVec 32) (k0_hw63 : k0_chk63 v779), ∀ a, (k0_off988 v779) a + S1x16.size a ≤ S641x128.size a := fun v779 k0_hw63 => k0_hw63.2.2.2.1
theorem k0_off990_inb : ∀ (v779 : BitVec 32) (k0_hw63 : k0_chk63 v779), ∀ a, (k0_off990 v779) a + S1x16.size a ≤ S641x128.size a := fun v779 k0_hw63 => k0_hw63.2.2.2.2.1
theorem k0_off992_inb : ∀ (v779 : BitVec 32) (k0_hw63 : k0_chk63 v779), ∀ a, (k0_off992 v779) a + S1x16.size a ≤ S641x128.size a := fun v779 k0_hw63 => k0_hw63.2.2.2.2.2.1
theorem k0_off994_inb : ∀ (v779 : BitVec 32) (k0_hw63 : k0_chk63 v779), ∀ a, (k0_off994 v779) a + S1x16.size a ≤ S641x128.size a := fun v779 k0_hw63 => k0_hw63.2.2.2.2.2.2.1
theorem k0_off996_inb : ∀ (v779 : BitVec 32) (k0_hw63 : k0_chk63 v779), ∀ a, (k0_off996 v779) a + S1x16.size a ≤ S641x128.size a := fun v779 k0_hw63 => k0_hw63.2.2.2.2.2.2.2

def k0_off997 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_337 : BitVec 32 := 16#32
  let v780 : BitVec 32 := Scalar.muli arg15 c16_i32_337
  let v781 : BitVec 32 := Scalar.addi v100 v780
  let c11_i32 : BitVec 32 := 11#32
  let v782 : BitVec 32 := Scalar.addi v781 c11_i32
  let v834 : Index := Scalar.indexCast v782
  let c112_360 : Index := 112#32
  ![v834.toNat, 112]
def k0_off998 (v840 : BitVec 32) : Fin 2 → Nat :=
  let v844 : Index := Scalar.indexCast v840
  let c0_363 : Index := 0#32
  ![v844.toNat, 0]

def k0_off999 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v846 : Index := Scalar.indexCast v843
  let c0_364 : Index := 0#32
  ![v846.toNat, 0]
def k0_off1000 (v840 : BitVec 32) : Fin 2 → Nat :=
  let v851 : Index := Scalar.indexCast v840
  let c16_366 : Index := 16#32
  ![v851.toNat, 16]
def k0_off1001 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v853 : Index := Scalar.indexCast v843
  let c16_367 : Index := 16#32
  ![v853.toNat, 16]
def k0_off1002 (v840 : BitVec 32) : Fin 2 → Nat :=
  let v858 : Index := Scalar.indexCast v840
  let c32_369 : Index := 32#32
  ![v858.toNat, 32]
def k0_off1003 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v860 : Index := Scalar.indexCast v843
  let c32_370 : Index := 32#32
  ![v860.toNat, 32]
def k0_off1004 (v840 : BitVec 32) : Fin 2 → Nat :=
  let v865 : Index := Scalar.indexCast v840
  let c48_372 : Index := 48#32
  ![v865.toNat, 48]
def k0_off1005 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v867 : Index := Scalar.indexCast v843
  let c48_373 : Index := 48#32
  ![v867.toNat, 48]
def k0_off1006 (v840 : BitVec 32) : Fin 2 → Nat :=
  let v872 : Index := Scalar.indexCast v840
  let c64_375 : Index := 64#32
  ![v872.toNat, 64]
def k0_off1007 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v874 : Index := Scalar.indexCast v843
  let c64_376 : Index := 64#32
  ![v874.toNat, 64]
def k0_off1008 (v840 : BitVec 32) : Fin 2 → Nat :=
  let v879 : Index := Scalar.indexCast v840
  let c80_378 : Index := 80#32
  ![v879.toNat, 80]
def k0_off1009 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v881 : Index := Scalar.indexCast v843
  let c80_379 : Index := 80#32
  ![v881.toNat, 80]
def k0_off1010 (v840 : BitVec 32) : Fin 2 → Nat :=
  let v886 : Index := Scalar.indexCast v840
  let c96_381 : Index := 96#32
  ![v886.toNat, 96]
def k0_off1011 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v888 : Index := Scalar.indexCast v843
  let c96_382 : Index := 96#32
  ![v888.toNat, 96]
def k0_off1012 (v840 : BitVec 32) : Fin 2 → Nat :=
  let v893 : Index := Scalar.indexCast v840
  let c112_384 : Index := 112#32
  ![v893.toNat, 112]

def k0_chk64 (v840 : BitVec 32) : Prop :=
  (∀ a, (k0_off998 v840) a + S1x16.size a ≤ S641x128.size a) ∧
  (∀ a, (k0_off1000 v840) a + S1x16.size a ≤ S641x128.size a) ∧
  (∀ a, (k0_off1002 v840) a + S1x16.size a ≤ S641x128.size a) ∧
  (∀ a, (k0_off1004 v840) a + S1x16.size a ≤ S641x128.size a) ∧
  (∀ a, (k0_off1006 v840) a + S1x16.size a ≤ S641x128.size a) ∧
  (∀ a, (k0_off1008 v840) a + S1x16.size a ≤ S641x128.size a) ∧
  (∀ a, (k0_off1010 v840) a + S1x16.size a ≤ S641x128.size a) ∧
  (∀ a, (k0_off1012 v840) a + S1x16.size a ≤ S641x128.size a)
theorem k0_off998_inb : ∀ (v840 : BitVec 32) (k0_hw64 : k0_chk64 v840), ∀ a, (k0_off998 v840) a + S1x16.size a ≤ S641x128.size a := fun v840 k0_hw64 => k0_hw64.1
theorem k0_off1000_inb : ∀ (v840 : BitVec 32) (k0_hw64 : k0_chk64 v840), ∀ a, (k0_off1000 v840) a + S1x16.size a ≤ S641x128.size a := fun v840 k0_hw64 => k0_hw64.2.1
theorem k0_off1002_inb : ∀ (v840 : BitVec 32) (k0_hw64 : k0_chk64 v840), ∀ a, (k0_off1002 v840) a + S1x16.size a ≤ S641x128.size a := fun v840 k0_hw64 => k0_hw64.2.2.1
theorem k0_off1004_inb : ∀ (v840 : BitVec 32) (k0_hw64 : k0_chk64 v840), ∀ a, (k0_off1004 v840) a + S1x16.size a ≤ S641x128.size a := fun v840 k0_hw64 => k0_hw64.2.2.2.1
theorem k0_off1006_inb : ∀ (v840 : BitVec 32) (k0_hw64 : k0_chk64 v840), ∀ a, (k0_off1006 v840) a + S1x16.size a ≤ S641x128.size a := fun v840 k0_hw64 => k0_hw64.2.2.2.2.1
theorem k0_off1008_inb : ∀ (v840 : BitVec 32) (k0_hw64 : k0_chk64 v840), ∀ a, (k0_off1008 v840) a + S1x16.size a ≤ S641x128.size a := fun v840 k0_hw64 => k0_hw64.2.2.2.2.2.1
theorem k0_off1010_inb : ∀ (v840 : BitVec 32) (k0_hw64 : k0_chk64 v840), ∀ a, (k0_off1010 v840) a + S1x16.size a ≤ S641x128.size a := fun v840 k0_hw64 => k0_hw64.2.2.2.2.2.2.1
theorem k0_off1012_inb : ∀ (v840 : BitVec 32) (k0_hw64 : k0_chk64 v840), ∀ a, (k0_off1012 v840) a + S1x16.size a ≤ S641x128.size a := fun v840 k0_hw64 => k0_hw64.2.2.2.2.2.2.2

def k0_off1013 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_362 : BitVec 32 := 16#32
  let v841 : BitVec 32 := Scalar.muli arg15 c16_i32_362
  let v842 : BitVec 32 := Scalar.addi v100 v841
  let c12_i32 : BitVec 32 := 12#32
  let v843 : BitVec 32 := Scalar.addi v842 c12_i32
  let v895 : Index := Scalar.indexCast v843
  let c112_385 : Index := 112#32
  ![v895.toNat, 112]
def k0_off1014 (v901 : BitVec 32) : Fin 2 → Nat :=
  let v905 : Index := Scalar.indexCast v901
  let c0_388 : Index := 0#32
  ![v905.toNat, 0]

def k0_off1015 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v907 : Index := Scalar.indexCast v904
  let c0_389 : Index := 0#32
  ![v907.toNat, 0]
def k0_off1016 (v901 : BitVec 32) : Fin 2 → Nat :=
  let v912 : Index := Scalar.indexCast v901
  let c16_391 : Index := 16#32
  ![v912.toNat, 16]
def k0_off1017 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v914 : Index := Scalar.indexCast v904
  let c16_392 : Index := 16#32
  ![v914.toNat, 16]
def k0_off1018 (v901 : BitVec 32) : Fin 2 → Nat :=
  let v919 : Index := Scalar.indexCast v901
  let c32_394 : Index := 32#32
  ![v919.toNat, 32]
def k0_off1019 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v921 : Index := Scalar.indexCast v904
  let c32_395 : Index := 32#32
  ![v921.toNat, 32]
def k0_off1020 (v901 : BitVec 32) : Fin 2 → Nat :=
  let v926 : Index := Scalar.indexCast v901
  let c48_397 : Index := 48#32
  ![v926.toNat, 48]
def k0_off1021 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v928 : Index := Scalar.indexCast v904
  let c48_398 : Index := 48#32
  ![v928.toNat, 48]
def k0_off1022 (v901 : BitVec 32) : Fin 2 → Nat :=
  let v933 : Index := Scalar.indexCast v901
  let c64_400 : Index := 64#32
  ![v933.toNat, 64]
def k0_off1023 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v935 : Index := Scalar.indexCast v904
  let c64_401 : Index := 64#32
  ![v935.toNat, 64]
def k0_off1024 (v901 : BitVec 32) : Fin 2 → Nat :=
  let v940 : Index := Scalar.indexCast v901
  let c80_403 : Index := 80#32
  ![v940.toNat, 80]
def k0_off1025 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v942 : Index := Scalar.indexCast v904
  let c80_404 : Index := 80#32
  ![v942.toNat, 80]
def k0_off1026 (v901 : BitVec 32) : Fin 2 → Nat :=
  let v947 : Index := Scalar.indexCast v901
  let c96_406 : Index := 96#32
  ![v947.toNat, 96]
def k0_off1027 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v949 : Index := Scalar.indexCast v904
  let c96_407 : Index := 96#32
  ![v949.toNat, 96]
def k0_off1028 (v901 : BitVec 32) : Fin 2 → Nat :=
  let v954 : Index := Scalar.indexCast v901
  let c112_409 : Index := 112#32
  ![v954.toNat, 112]

def k0_chk65 (v901 : BitVec 32) : Prop :=
  (∀ a, (k0_off1014 v901) a + S1x16.size a ≤ S641x128.size a) ∧
  (∀ a, (k0_off1016 v901) a + S1x16.size a ≤ S641x128.size a) ∧
  (∀ a, (k0_off1018 v901) a + S1x16.size a ≤ S641x128.size a) ∧
  (∀ a, (k0_off1020 v901) a + S1x16.size a ≤ S641x128.size a) ∧
  (∀ a, (k0_off1022 v901) a + S1x16.size a ≤ S641x128.size a) ∧
  (∀ a, (k0_off1024 v901) a + S1x16.size a ≤ S641x128.size a) ∧
  (∀ a, (k0_off1026 v901) a + S1x16.size a ≤ S641x128.size a) ∧
  (∀ a, (k0_off1028 v901) a + S1x16.size a ≤ S641x128.size a)
theorem k0_off1014_inb : ∀ (v901 : BitVec 32) (k0_hw65 : k0_chk65 v901), ∀ a, (k0_off1014 v901) a + S1x16.size a ≤ S641x128.size a := fun v901 k0_hw65 => k0_hw65.1
theorem k0_off1016_inb : ∀ (v901 : BitVec 32) (k0_hw65 : k0_chk65 v901), ∀ a, (k0_off1016 v901) a + S1x16.size a ≤ S641x128.size a := fun v901 k0_hw65 => k0_hw65.2.1
theorem k0_off1018_inb : ∀ (v901 : BitVec 32) (k0_hw65 : k0_chk65 v901), ∀ a, (k0_off1018 v901) a + S1x16.size a ≤ S641x128.size a := fun v901 k0_hw65 => k0_hw65.2.2.1
theorem k0_off1020_inb : ∀ (v901 : BitVec 32) (k0_hw65 : k0_chk65 v901), ∀ a, (k0_off1020 v901) a + S1x16.size a ≤ S641x128.size a := fun v901 k0_hw65 => k0_hw65.2.2.2.1
theorem k0_off1022_inb : ∀ (v901 : BitVec 32) (k0_hw65 : k0_chk65 v901), ∀ a, (k0_off1022 v901) a + S1x16.size a ≤ S641x128.size a := fun v901 k0_hw65 => k0_hw65.2.2.2.2.1
theorem k0_off1024_inb : ∀ (v901 : BitVec 32) (k0_hw65 : k0_chk65 v901), ∀ a, (k0_off1024 v901) a + S1x16.size a ≤ S641x128.size a := fun v901 k0_hw65 => k0_hw65.2.2.2.2.2.1
theorem k0_off1026_inb : ∀ (v901 : BitVec 32) (k0_hw65 : k0_chk65 v901), ∀ a, (k0_off1026 v901) a + S1x16.size a ≤ S641x128.size a := fun v901 k0_hw65 => k0_hw65.2.2.2.2.2.2.1
theorem k0_off1028_inb : ∀ (v901 : BitVec 32) (k0_hw65 : k0_chk65 v901), ∀ a, (k0_off1028 v901) a + S1x16.size a ≤ S641x128.size a := fun v901 k0_hw65 => k0_hw65.2.2.2.2.2.2.2

def k0_off1029 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_387 : BitVec 32 := 16#32
  let v902 : BitVec 32 := Scalar.muli arg15 c16_i32_387
  let v903 : BitVec 32 := Scalar.addi v100 v902
  let c13_i32 : BitVec 32 := 13#32
  let v904 : BitVec 32 := Scalar.addi v903 c13_i32
  let v956 : Index := Scalar.indexCast v904
  let c112_410 : Index := 112#32
  ![v956.toNat, 112]
def k0_off1030 (v962 : BitVec 32) : Fin 2 → Nat :=
  let v966 : Index := Scalar.indexCast v962
  let c0_413 : Index := 0#32
  ![v966.toNat, 0]

def k0_off1031 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v968 : Index := Scalar.indexCast v965
  let c0_414 : Index := 0#32
  ![v968.toNat, 0]
def k0_off1032 (v962 : BitVec 32) : Fin 2 → Nat :=
  let v973 : Index := Scalar.indexCast v962
  let c16_416 : Index := 16#32
  ![v973.toNat, 16]
def k0_off1033 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v975 : Index := Scalar.indexCast v965
  let c16_417 : Index := 16#32
  ![v975.toNat, 16]
def k0_off1034 (v962 : BitVec 32) : Fin 2 → Nat :=
  let v980 : Index := Scalar.indexCast v962
  let c32_419 : Index := 32#32
  ![v980.toNat, 32]
def k0_off1035 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v982 : Index := Scalar.indexCast v965
  let c32_420 : Index := 32#32
  ![v982.toNat, 32]
def k0_off1036 (v962 : BitVec 32) : Fin 2 → Nat :=
  let v987 : Index := Scalar.indexCast v962
  let c48_422 : Index := 48#32
  ![v987.toNat, 48]
def k0_off1037 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v989 : Index := Scalar.indexCast v965
  let c48_423 : Index := 48#32
  ![v989.toNat, 48]
def k0_off1038 (v962 : BitVec 32) : Fin 2 → Nat :=
  let v994 : Index := Scalar.indexCast v962
  let c64_425 : Index := 64#32
  ![v994.toNat, 64]
def k0_off1039 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v996 : Index := Scalar.indexCast v965
  let c64_426 : Index := 64#32
  ![v996.toNat, 64]
def k0_off1040 (v962 : BitVec 32) : Fin 2 → Nat :=
  let v1001 : Index := Scalar.indexCast v962
  let c80_428 : Index := 80#32
  ![v1001.toNat, 80]
def k0_off1041 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v1003 : Index := Scalar.indexCast v965
  let c80_429 : Index := 80#32
  ![v1003.toNat, 80]
def k0_off1042 (v962 : BitVec 32) : Fin 2 → Nat :=
  let v1008 : Index := Scalar.indexCast v962
  let c96_431 : Index := 96#32
  ![v1008.toNat, 96]
def k0_off1043 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v1010 : Index := Scalar.indexCast v965
  let c96_432 : Index := 96#32
  ![v1010.toNat, 96]
def k0_off1044 (v962 : BitVec 32) : Fin 2 → Nat :=
  let v1015 : Index := Scalar.indexCast v962
  let c112_434 : Index := 112#32
  ![v1015.toNat, 112]

def k0_chk66 (v962 : BitVec 32) : Prop :=
  (∀ a, (k0_off1030 v962) a + S1x16.size a ≤ S641x128.size a) ∧
  (∀ a, (k0_off1032 v962) a + S1x16.size a ≤ S641x128.size a) ∧
  (∀ a, (k0_off1034 v962) a + S1x16.size a ≤ S641x128.size a) ∧
  (∀ a, (k0_off1036 v962) a + S1x16.size a ≤ S641x128.size a) ∧
  (∀ a, (k0_off1038 v962) a + S1x16.size a ≤ S641x128.size a) ∧
  (∀ a, (k0_off1040 v962) a + S1x16.size a ≤ S641x128.size a) ∧
  (∀ a, (k0_off1042 v962) a + S1x16.size a ≤ S641x128.size a) ∧
  (∀ a, (k0_off1044 v962) a + S1x16.size a ≤ S641x128.size a)
theorem k0_off1030_inb : ∀ (v962 : BitVec 32) (k0_hw66 : k0_chk66 v962), ∀ a, (k0_off1030 v962) a + S1x16.size a ≤ S641x128.size a := fun v962 k0_hw66 => k0_hw66.1
theorem k0_off1032_inb : ∀ (v962 : BitVec 32) (k0_hw66 : k0_chk66 v962), ∀ a, (k0_off1032 v962) a + S1x16.size a ≤ S641x128.size a := fun v962 k0_hw66 => k0_hw66.2.1
theorem k0_off1034_inb : ∀ (v962 : BitVec 32) (k0_hw66 : k0_chk66 v962), ∀ a, (k0_off1034 v962) a + S1x16.size a ≤ S641x128.size a := fun v962 k0_hw66 => k0_hw66.2.2.1
theorem k0_off1036_inb : ∀ (v962 : BitVec 32) (k0_hw66 : k0_chk66 v962), ∀ a, (k0_off1036 v962) a + S1x16.size a ≤ S641x128.size a := fun v962 k0_hw66 => k0_hw66.2.2.2.1
theorem k0_off1038_inb : ∀ (v962 : BitVec 32) (k0_hw66 : k0_chk66 v962), ∀ a, (k0_off1038 v962) a + S1x16.size a ≤ S641x128.size a := fun v962 k0_hw66 => k0_hw66.2.2.2.2.1
theorem k0_off1040_inb : ∀ (v962 : BitVec 32) (k0_hw66 : k0_chk66 v962), ∀ a, (k0_off1040 v962) a + S1x16.size a ≤ S641x128.size a := fun v962 k0_hw66 => k0_hw66.2.2.2.2.2.1
theorem k0_off1042_inb : ∀ (v962 : BitVec 32) (k0_hw66 : k0_chk66 v962), ∀ a, (k0_off1042 v962) a + S1x16.size a ≤ S641x128.size a := fun v962 k0_hw66 => k0_hw66.2.2.2.2.2.2.1
theorem k0_off1044_inb : ∀ (v962 : BitVec 32) (k0_hw66 : k0_chk66 v962), ∀ a, (k0_off1044 v962) a + S1x16.size a ≤ S641x128.size a := fun v962 k0_hw66 => k0_hw66.2.2.2.2.2.2.2

def k0_off1045 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_412 : BitVec 32 := 16#32
  let v963 : BitVec 32 := Scalar.muli arg15 c16_i32_412
  let v964 : BitVec 32 := Scalar.addi v100 v963
  let c14_i32 : BitVec 32 := 14#32
  let v965 : BitVec 32 := Scalar.addi v964 c14_i32
  let v1017 : Index := Scalar.indexCast v965
  let c112_435 : Index := 112#32
  ![v1017.toNat, 112]
def k0_off1046 (v1023 : BitVec 32) : Fin 2 → Nat :=
  let v1027 : Index := Scalar.indexCast v1023
  let c0_438 : Index := 0#32
  ![v1027.toNat, 0]

def k0_off1047 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1029 : Index := Scalar.indexCast v1026
  let c0_439 : Index := 0#32
  ![v1029.toNat, 0]
def k0_off1048 (v1023 : BitVec 32) : Fin 2 → Nat :=
  let v1034 : Index := Scalar.indexCast v1023
  let c16_441 : Index := 16#32
  ![v1034.toNat, 16]
def k0_off1049 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1036 : Index := Scalar.indexCast v1026
  let c16_442 : Index := 16#32
  ![v1036.toNat, 16]
def k0_off1050 (v1023 : BitVec 32) : Fin 2 → Nat :=
  let v1041 : Index := Scalar.indexCast v1023
  let c32_444 : Index := 32#32
  ![v1041.toNat, 32]
def k0_off1051 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1043 : Index := Scalar.indexCast v1026
  let c32_445 : Index := 32#32
  ![v1043.toNat, 32]
def k0_off1052 (v1023 : BitVec 32) : Fin 2 → Nat :=
  let v1048 : Index := Scalar.indexCast v1023
  let c48_447 : Index := 48#32
  ![v1048.toNat, 48]
def k0_off1053 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1050 : Index := Scalar.indexCast v1026
  let c48_448 : Index := 48#32
  ![v1050.toNat, 48]
def k0_off1054 (v1023 : BitVec 32) : Fin 2 → Nat :=
  let v1055 : Index := Scalar.indexCast v1023
  let c64_450 : Index := 64#32
  ![v1055.toNat, 64]
def k0_off1055 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1057 : Index := Scalar.indexCast v1026
  let c64_451 : Index := 64#32
  ![v1057.toNat, 64]
def k0_off1056 (v1023 : BitVec 32) : Fin 2 → Nat :=
  let v1062 : Index := Scalar.indexCast v1023
  let c80_453 : Index := 80#32
  ![v1062.toNat, 80]
def k0_off1057 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1064 : Index := Scalar.indexCast v1026
  let c80_454 : Index := 80#32
  ![v1064.toNat, 80]
def k0_off1058 (v1023 : BitVec 32) : Fin 2 → Nat :=
  let v1069 : Index := Scalar.indexCast v1023
  let c96_456 : Index := 96#32
  ![v1069.toNat, 96]
def k0_off1059 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1071 : Index := Scalar.indexCast v1026
  let c96_457 : Index := 96#32
  ![v1071.toNat, 96]
def k0_off1060 (v1023 : BitVec 32) : Fin 2 → Nat :=
  let v1076 : Index := Scalar.indexCast v1023
  let c112_459 : Index := 112#32
  ![v1076.toNat, 112]

def k0_chk67 (v1023 : BitVec 32) : Prop :=
  (∀ a, (k0_off1046 v1023) a + S1x16.size a ≤ S641x128.size a) ∧
  (∀ a, (k0_off1048 v1023) a + S1x16.size a ≤ S641x128.size a) ∧
  (∀ a, (k0_off1050 v1023) a + S1x16.size a ≤ S641x128.size a) ∧
  (∀ a, (k0_off1052 v1023) a + S1x16.size a ≤ S641x128.size a) ∧
  (∀ a, (k0_off1054 v1023) a + S1x16.size a ≤ S641x128.size a) ∧
  (∀ a, (k0_off1056 v1023) a + S1x16.size a ≤ S641x128.size a) ∧
  (∀ a, (k0_off1058 v1023) a + S1x16.size a ≤ S641x128.size a) ∧
  (∀ a, (k0_off1060 v1023) a + S1x16.size a ≤ S641x128.size a)
theorem k0_off1046_inb : ∀ (v1023 : BitVec 32) (k0_hw67 : k0_chk67 v1023), ∀ a, (k0_off1046 v1023) a + S1x16.size a ≤ S641x128.size a := fun v1023 k0_hw67 => k0_hw67.1
theorem k0_off1048_inb : ∀ (v1023 : BitVec 32) (k0_hw67 : k0_chk67 v1023), ∀ a, (k0_off1048 v1023) a + S1x16.size a ≤ S641x128.size a := fun v1023 k0_hw67 => k0_hw67.2.1
theorem k0_off1050_inb : ∀ (v1023 : BitVec 32) (k0_hw67 : k0_chk67 v1023), ∀ a, (k0_off1050 v1023) a + S1x16.size a ≤ S641x128.size a := fun v1023 k0_hw67 => k0_hw67.2.2.1
theorem k0_off1052_inb : ∀ (v1023 : BitVec 32) (k0_hw67 : k0_chk67 v1023), ∀ a, (k0_off1052 v1023) a + S1x16.size a ≤ S641x128.size a := fun v1023 k0_hw67 => k0_hw67.2.2.2.1
theorem k0_off1054_inb : ∀ (v1023 : BitVec 32) (k0_hw67 : k0_chk67 v1023), ∀ a, (k0_off1054 v1023) a + S1x16.size a ≤ S641x128.size a := fun v1023 k0_hw67 => k0_hw67.2.2.2.2.1
theorem k0_off1056_inb : ∀ (v1023 : BitVec 32) (k0_hw67 : k0_chk67 v1023), ∀ a, (k0_off1056 v1023) a + S1x16.size a ≤ S641x128.size a := fun v1023 k0_hw67 => k0_hw67.2.2.2.2.2.1
theorem k0_off1058_inb : ∀ (v1023 : BitVec 32) (k0_hw67 : k0_chk67 v1023), ∀ a, (k0_off1058 v1023) a + S1x16.size a ≤ S641x128.size a := fun v1023 k0_hw67 => k0_hw67.2.2.2.2.2.2.1
theorem k0_off1060_inb : ∀ (v1023 : BitVec 32) (k0_hw67 : k0_chk67 v1023), ∀ a, (k0_off1060 v1023) a + S1x16.size a ≤ S641x128.size a := fun v1023 k0_hw67 => k0_hw67.2.2.2.2.2.2.2

def k0_off1061 (v12 : BitVec 32) (k0_t10 : Fin (k0_t10_loop v12).trips) (k0_t11 : Fin k0_t11_loop.trips) : Fin 2 → Nat :=
  let c0_i32_39 : BitVec 32 := 0#32
  let c64_i32 : BitVec 32 := 64#32
  let v45 : BitVec 32 := Scalar.addi v12 c64_i32
  let c1_i32_28 : BitVec 32 := 1#32
  let v46 : BitVec 32 := Scalar.subi v45 c1_i32_28
  let c0_i32_30 : BitVec 32 := 0#32
  let v48 : BitVec 1 := Scalar.cmpi .sgt v46 c0_i32_30
  let v49 : BitVec 32 := Scalar.extui v48
  let c0_i32_31 : BitVec 32 := 0#32
  let v50 : BitVec 1 := Scalar.cmpi .slt v46 c0_i32_31
  let v51 : BitVec 32 := Scalar.extui v50
  let v52 : BitVec 32 := Scalar.subi v49 v51
  let c64_i32_29 : BitVec 32 := 64#32
  let c0_i32_32 : BitVec 32 := 0#32
  let v53 : BitVec 1 := Scalar.cmpi .sgt c64_i32_29 c0_i32_32
  let v54 : BitVec 32 := Scalar.extui v53
  let c0_i32_33 : BitVec 32 := 0#32
  let v55 : BitVec 1 := Scalar.cmpi .slt c64_i32_29 c0_i32_33
  let v56 : BitVec 32 := Scalar.extui v55
  let v57 : BitVec 32 := Scalar.subi v54 v56
  let v58 : BitVec 1 := Scalar.cmpi .ne v52 v57
  let v59 : BitVec 32 := Scalar.remsi v46 c64_i32_29
  let c0_i32_34 : BitVec 32 := 0#32
  let v60 : BitVec 1 := Scalar.cmpi .ne v59 c0_i32_34
  let v61 : BitVec 1 := Scalar.andi v58 v60
  let v47 : BitVec 32 := Scalar.divsi v46 c64_i32_29
  let c1_i32_35 : BitVec 32 := 1#32
  let v62 : BitVec 32 := Scalar.subi v47 c1_i32_35
  let v63 : BitVec 32 := Scalar.select v61 v62 v47
  let v67 : BitVec 32 := Scalar.subi v63 c0_i32_39
  let c1_i32_40 : BitVec 32 := 1#32
  let v69 : BitVec 32 := Scalar.divsi v67 c1_i32_40
  let v70 : BitVec 32 := Scalar.muli v69 c1_i32_40
  let v71 : BitVec 32 := Scalar.addi c0_i32_39 v70
  let c1_i32_42 : BitVec 32 := 1#32
  let arg14 : BitVec 32 := Scf.iv v71 c1_i32_42 k0_t10
  let c2_i32_53 : BitVec 32 := 2#32
  let c0_i32_54 : BitVec 32 := 0#32
  let v90 : BitVec 1 := Scalar.cmpi .eq c2_i32_53 c0_i32_54
  let c1_i32_55 : BitVec 32 := 1#32
  let v91 : BitVec 32 := Scalar.select v90 c1_i32_55 c2_i32_53
  let v92 : BitVec 32 := Scalar.remsi arg14 v91
  let c0_i32_57 : BitVec 32 := 0#32
  let v94 : BitVec 1 := Scalar.cmpi .slt v92 c0_i32_57
  let c0_i32_58 : BitVec 32 := 0#32
  let v95 : BitVec 1 := Scalar.cmpi .slt v91 c0_i32_58
  let v96 : BitVec 1 := Scalar.xori v94 v95
  let c0_i32_56 : BitVec 32 := 0#32
  let v93 : BitVec 1 := Scalar.cmpi .ne v92 c0_i32_56
  let v97 : BitVec 1 := Scalar.andi v96 v93
  let v98 : BitVec 32 := Scalar.addi v92 v91
  let v99 : BitVec 32 := Scalar.select v97 v98 v92
  let c64_i32_59 : BitVec 32 := 64#32
  let v100 : BitVec 32 := Scalar.muli v99 c64_i32_59
  let c0_i32_61 : BitVec 32 := 0#32
  let c1_i32_62 : BitVec 32 := 1#32
  let arg15 : BitVec 32 := Scf.iv c0_i32_61 c1_i32_62 k0_t11
  let c16_i32_437 : BitVec 32 := 16#32
  let v1024 : BitVec 32 := Scalar.muli arg15 c16_i32_437
  let v1025 : BitVec 32 := Scalar.addi v100 v1024
  let c15_i32 : BitVec 32 := 15#32
  let v1026 : BitVec 32 := Scalar.addi v1025 c15_i32
  let v1078 : Index := Scalar.indexCast v1026
  let c112_460 : Index := 112#32
  ![v1078.toNat, 112]

def k0_chk35_0 (v12 : BitVec 32) : Prop :=
  (∀ (r : Fin 4), ∀ a, (k0_off539 v12 (BitVec.ofNat 32 (16 * r.val))) a + S16.size a ≤ S3272.size a) ∧
  ((k0_t8_loop v12).OK) ∧
  (∀ k0_t8 : Fin (k0_t8_loop v12).trips, ∀ (k0_h12 : k0_cond12 v12 k0_t8 = 1#1), ∀ (k0_h13 : k0_cond13 v12 k0_t8 = 1#1), ∀ a, (k0_off540 v12 k0_t8) a + S64.size a ≤ S3272.size a) ∧
  (∀ k0_t8 : Fin (k0_t8_loop v12).trips, ∀ (k0_h12 : k0_cond12 v12 k0_t8 = 1#1), ∀ (k0_h13 : ¬(k0_cond13 v12 k0_t8 = 1#1)), ∀ a, (k0_off541 v12 k0_t8) a + S64.size a ≤ S3272.size a) ∧
  (∀ k0_t8 : Fin (k0_t8_loop v12).trips, ∀ (k0_h14 : k0_cond14 v12 k0_t8 = 1#1), ∀ a, (k0_off542 v12 k0_t8) a + S64.size a ≤ S3272.size a) ∧
  (∀ k0_t8 : Fin (k0_t8_loop v12).trips, ∀ (k0_h14 : ¬(k0_cond14 v12 k0_t8 = 1#1)), ∀ a, (k0_off543 v12 k0_t8) a + S64.size a ≤ S3272.size a) ∧
  (∀ (k0_t8 : Fin (k0_t8_loop v12).trips) (k0_t9 : Fin k0_t9_loop.trips), ∀ a, (k0_off544 v12 k0_t8 k0_t9) a + S16.size a ≤ S3272.size a) ∧
  (∀ (k0_t8 : Fin (k0_t8_loop v12).trips) (k0_t9 : Fin k0_t9_loop.trips), ∀ a, (k0_off546 v12 k0_t8 k0_t9) a + S1x16.size a ≤ S128x128.size a) ∧
  (∀ (k0_t8 : Fin (k0_t8_loop v12).trips) (k0_t9 : Fin k0_t9_loop.trips), ∀ a, (k0_off548 v12 k0_t8 k0_t9) a + S1x16.size a ≤ S128x128.size a) ∧
  (∀ (k0_t8 : Fin (k0_t8_loop v12).trips) (k0_t9 : Fin k0_t9_loop.trips), ∀ a, (k0_off550 v12 k0_t8 k0_t9) a + S1x16.size a ≤ S128x128.size a) ∧
  (∀ (k0_t8 : Fin (k0_t8_loop v12).trips) (k0_t9 : Fin k0_t9_loop.trips), ∀ a, (k0_off552 v12 k0_t8 k0_t9) a + S1x16.size a ≤ S128x128.size a) ∧
  (∀ (k0_t8 : Fin (k0_t8_loop v12).trips) (k0_t9 : Fin k0_t9_loop.trips), ∀ a, (k0_off554 v12 k0_t8 k0_t9) a + S1x16.size a ≤ S128x128.size a) ∧
  (∀ (k0_t8 : Fin (k0_t8_loop v12).trips) (k0_t9 : Fin k0_t9_loop.trips), ∀ a, (k0_off556 v12 k0_t8 k0_t9) a + S1x16.size a ≤ S128x128.size a) ∧
  (∀ (k0_t8 : Fin (k0_t8_loop v12).trips) (k0_t9 : Fin k0_t9_loop.trips), ∀ a, (k0_off558 v12 k0_t8 k0_t9) a + S1x16.size a ≤ S128x128.size a) ∧
  (∀ (k0_t8 : Fin (k0_t8_loop v12).trips) (k0_t9 : Fin k0_t9_loop.trips), ∀ a, (k0_off560 v12 k0_t8 k0_t9) a + S1x16.size a ≤ S128x128.size a) ∧
  (∀ (k0_t8 : Fin (k0_t8_loop v12).trips) (k0_t9 : Fin k0_t9_loop.trips), ∀ a, (k0_off562 v12 k0_t8 k0_t9) a + S1x16.size a ≤ S128x128.size a) ∧
  (∀ (k0_t8 : Fin (k0_t8_loop v12).trips) (k0_t9 : Fin k0_t9_loop.trips), ∀ a, (k0_off564 v12 k0_t8 k0_t9) a + S1x16.size a ≤ S128x128.size a) ∧
  (∀ (k0_t8 : Fin (k0_t8_loop v12).trips) (k0_t9 : Fin k0_t9_loop.trips), ∀ a, (k0_off566 v12 k0_t8 k0_t9) a + S1x16.size a ≤ S128x128.size a) ∧
  (∀ (k0_t8 : Fin (k0_t8_loop v12).trips) (k0_t9 : Fin k0_t9_loop.trips), ∀ a, (k0_off568 v12 k0_t8 k0_t9) a + S1x16.size a ≤ S128x128.size a) ∧
  (∀ (k0_t8 : Fin (k0_t8_loop v12).trips) (k0_t9 : Fin k0_t9_loop.trips), ∀ a, (k0_off570 v12 k0_t8 k0_t9) a + S1x16.size a ≤ S128x128.size a) ∧
  (∀ (k0_t8 : Fin (k0_t8_loop v12).trips) (k0_t9 : Fin k0_t9_loop.trips), ∀ a, (k0_off572 v12 k0_t8 k0_t9) a + S1x16.size a ≤ S128x128.size a) ∧
  (∀ (k0_t8 : Fin (k0_t8_loop v12).trips) (k0_t9 : Fin k0_t9_loop.trips), ∀ a, (k0_off574 v12 k0_t8 k0_t9) a + S1x16.size a ≤ S128x128.size a) ∧
  (∀ (k0_t8 : Fin (k0_t8_loop v12).trips) (k0_t9 : Fin k0_t9_loop.trips), ∀ a, (k0_off576 v12 k0_t8 k0_t9) a + S1x16.size a ≤ S128x128.size a) ∧
  (∀ (k0_t8 : Fin (k0_t8_loop v12).trips) (k0_t9 : Fin k0_t9_loop.trips), ∀ a, (k0_off578 v12 k0_t8 k0_t9) a + S1x16.size a ≤ S128x128.size a) ∧
  (∀ (k0_t8 : Fin (k0_t8_loop v12).trips) (k0_t9 : Fin k0_t9_loop.trips), ∀ a, (k0_off580 v12 k0_t8 k0_t9) a + S1x16.size a ≤ S128x128.size a) ∧
  (∀ (k0_t8 : Fin (k0_t8_loop v12).trips) (k0_t9 : Fin k0_t9_loop.trips), ∀ a, (k0_off582 v12 k0_t8 k0_t9) a + S1x16.size a ≤ S128x128.size a) ∧
  (∀ (k0_t8 : Fin (k0_t8_loop v12).trips) (k0_t9 : Fin k0_t9_loop.trips), ∀ a, (k0_off584 v12 k0_t8 k0_t9) a + S1x16.size a ≤ S128x128.size a) ∧
  (∀ (k0_t8 : Fin (k0_t8_loop v12).trips) (k0_t9 : Fin k0_t9_loop.trips), ∀ a, (k0_off586 v12 k0_t8 k0_t9) a + S1x16.size a ≤ S128x128.size a) ∧
  (∀ (k0_t8 : Fin (k0_t8_loop v12).trips) (k0_t9 : Fin k0_t9_loop.trips), ∀ a, (k0_off588 v12 k0_t8 k0_t9) a + S1x16.size a ≤ S128x128.size a) ∧
  (∀ (k0_t8 : Fin (k0_t8_loop v12).trips) (k0_t9 : Fin k0_t9_loop.trips), ∀ a, (k0_off590 v12 k0_t8 k0_t9) a + S1x16.size a ≤ S128x128.size a) ∧
  (∀ (k0_t8 : Fin (k0_t8_loop v12).trips) (k0_t9 : Fin k0_t9_loop.trips), ∀ a, (k0_off592 v12 k0_t8 k0_t9) a + S1x16.size a ≤ S128x128.size a) ∧
  (∀ (k0_t8 : Fin (k0_t8_loop v12).trips) (k0_t9 : Fin k0_t9_loop.trips), ∀ a, (k0_off594 v12 k0_t8 k0_t9) a + S1x16.size a ≤ S128x128.size a)
def k0_chk35_1 (v12 : BitVec 32) : Prop :=
  (∀ (k0_t8 : Fin (k0_t8_loop v12).trips) (k0_t9 : Fin k0_t9_loop.trips), ∀ a, (k0_off596 v12 k0_t8 k0_t9) a + S1x16.size a ≤ S128x128.size a) ∧
  (∀ (k0_t8 : Fin (k0_t8_loop v12).trips) (k0_t9 : Fin k0_t9_loop.trips), ∀ a, (k0_off598 v12 k0_t8 k0_t9) a + S1x16.size a ≤ S128x128.size a) ∧
  (∀ (k0_t8 : Fin (k0_t8_loop v12).trips) (k0_t9 : Fin k0_t9_loop.trips), ∀ a, (k0_off600 v12 k0_t8 k0_t9) a + S1x16.size a ≤ S128x128.size a) ∧
  (∀ (k0_t8 : Fin (k0_t8_loop v12).trips) (k0_t9 : Fin k0_t9_loop.trips), ∀ a, (k0_off602 v12 k0_t8 k0_t9) a + S1x16.size a ≤ S128x128.size a) ∧
  (∀ (k0_t8 : Fin (k0_t8_loop v12).trips) (k0_t9 : Fin k0_t9_loop.trips), ∀ a, (k0_off604 v12 k0_t8 k0_t9) a + S1x16.size a ≤ S128x128.size a) ∧
  (∀ (k0_t8 : Fin (k0_t8_loop v12).trips) (k0_t9 : Fin k0_t9_loop.trips), ∀ a, (k0_off606 v12 k0_t8 k0_t9) a + S1x16.size a ≤ S128x128.size a) ∧
  (∀ (k0_t8 : Fin (k0_t8_loop v12).trips) (k0_t9 : Fin k0_t9_loop.trips), ∀ a, (k0_off608 v12 k0_t8 k0_t9) a + S1x16.size a ≤ S128x128.size a) ∧
  (∀ (k0_t8 : Fin (k0_t8_loop v12).trips) (k0_t9 : Fin k0_t9_loop.trips), ∀ a, (k0_off610 v12 k0_t8 k0_t9) a + S1x16.size a ≤ S128x128.size a) ∧
  (∀ (k0_t8 : Fin (k0_t8_loop v12).trips) (k0_t9 : Fin k0_t9_loop.trips), ∀ a, (k0_off612 v12 k0_t8 k0_t9) a + S1x16.size a ≤ S128x128.size a) ∧
  (∀ (k0_t8 : Fin (k0_t8_loop v12).trips) (k0_t9 : Fin k0_t9_loop.trips), ∀ a, (k0_off614 v12 k0_t8 k0_t9) a + S1x16.size a ≤ S128x128.size a) ∧
  (∀ (k0_t8 : Fin (k0_t8_loop v12).trips) (k0_t9 : Fin k0_t9_loop.trips), ∀ a, (k0_off616 v12 k0_t8 k0_t9) a + S1x16.size a ≤ S128x128.size a) ∧
  (∀ (k0_t8 : Fin (k0_t8_loop v12).trips) (k0_t9 : Fin k0_t9_loop.trips), ∀ a, (k0_off618 v12 k0_t8 k0_t9) a + S1x16.size a ≤ S128x128.size a) ∧
  (∀ (k0_t8 : Fin (k0_t8_loop v12).trips) (k0_t9 : Fin k0_t9_loop.trips), ∀ a, (k0_off620 v12 k0_t8 k0_t9) a + S1x16.size a ≤ S128x128.size a) ∧
  (∀ (k0_t8 : Fin (k0_t8_loop v12).trips) (k0_t9 : Fin k0_t9_loop.trips), ∀ a, (k0_off622 v12 k0_t8 k0_t9) a + S1x16.size a ≤ S128x128.size a) ∧
  (∀ (k0_t8 : Fin (k0_t8_loop v12).trips) (k0_t9 : Fin k0_t9_loop.trips), ∀ a, (k0_off624 v12 k0_t8 k0_t9) a + S1x16.size a ≤ S128x128.size a) ∧
  (∀ (k0_t8 : Fin (k0_t8_loop v12).trips) (k0_t9 : Fin k0_t9_loop.trips), ∀ a, (k0_off626 v12 k0_t8 k0_t9) a + S1x16.size a ≤ S128x128.size a) ∧
  (∀ (k0_t8 : Fin (k0_t8_loop v12).trips) (k0_t9 : Fin k0_t9_loop.trips), ∀ a, (k0_off628 v12 k0_t8 k0_t9) a + S1x16.size a ≤ S128x128.size a) ∧
  (∀ (k0_t8 : Fin (k0_t8_loop v12).trips) (k0_t9 : Fin k0_t9_loop.trips), ∀ a, (k0_off630 v12 k0_t8 k0_t9) a + S1x16.size a ≤ S128x128.size a) ∧
  (∀ (k0_t8 : Fin (k0_t8_loop v12).trips) (k0_t9 : Fin k0_t9_loop.trips), ∀ a, (k0_off632 v12 k0_t8 k0_t9) a + S1x16.size a ≤ S128x128.size a) ∧
  (∀ (k0_t8 : Fin (k0_t8_loop v12).trips) (k0_t9 : Fin k0_t9_loop.trips), ∀ a, (k0_off634 v12 k0_t8 k0_t9) a + S1x16.size a ≤ S128x128.size a) ∧
  (∀ (k0_t8 : Fin (k0_t8_loop v12).trips) (k0_t9 : Fin k0_t9_loop.trips), ∀ a, (k0_off636 v12 k0_t8 k0_t9) a + S1x16.size a ≤ S128x128.size a) ∧
  (∀ (k0_t8 : Fin (k0_t8_loop v12).trips) (k0_t9 : Fin k0_t9_loop.trips), ∀ a, (k0_off638 v12 k0_t8 k0_t9) a + S1x16.size a ≤ S128x128.size a) ∧
  (∀ (k0_t8 : Fin (k0_t8_loop v12).trips) (k0_t9 : Fin k0_t9_loop.trips), ∀ a, (k0_off640 v12 k0_t8 k0_t9) a + S1x16.size a ≤ S128x128.size a) ∧
  (∀ (k0_t8 : Fin (k0_t8_loop v12).trips) (k0_t9 : Fin k0_t9_loop.trips), ∀ a, (k0_off642 v12 k0_t8 k0_t9) a + S1x16.size a ≤ S128x128.size a) ∧
  (∀ (k0_t8 : Fin (k0_t8_loop v12).trips) (k0_t9 : Fin k0_t9_loop.trips), ∀ a, (k0_off644 v12 k0_t8 k0_t9) a + S1x16.size a ≤ S128x128.size a) ∧
  (∀ (k0_t8 : Fin (k0_t8_loop v12).trips) (k0_t9 : Fin k0_t9_loop.trips), ∀ a, (k0_off646 v12 k0_t8 k0_t9) a + S1x16.size a ≤ S128x128.size a) ∧
  (∀ (k0_t8 : Fin (k0_t8_loop v12).trips) (k0_t9 : Fin k0_t9_loop.trips), ∀ a, (k0_off648 v12 k0_t8 k0_t9) a + S1x16.size a ≤ S128x128.size a) ∧
  (∀ (k0_t8 : Fin (k0_t8_loop v12).trips) (k0_t9 : Fin k0_t9_loop.trips), ∀ a, (k0_off650 v12 k0_t8 k0_t9) a + S1x16.size a ≤ S128x128.size a) ∧
  (∀ (k0_t8 : Fin (k0_t8_loop v12).trips) (k0_t9 : Fin k0_t9_loop.trips), ∀ a, (k0_off652 v12 k0_t8 k0_t9) a + S1x16.size a ≤ S128x128.size a) ∧
  (∀ (k0_t8 : Fin (k0_t8_loop v12).trips) (k0_t9 : Fin k0_t9_loop.trips), ∀ a, (k0_off654 v12 k0_t8 k0_t9) a + S1x16.size a ≤ S128x128.size a) ∧
  (∀ (k0_t8 : Fin (k0_t8_loop v12).trips) (k0_t9 : Fin k0_t9_loop.trips), ∀ a, (k0_off656 v12 k0_t8 k0_t9) a + S1x16.size a ≤ S128x128.size a) ∧
  (∀ (k0_t8 : Fin (k0_t8_loop v12).trips) (k0_t9 : Fin k0_t9_loop.trips), ∀ a, (k0_off658 v12 k0_t8 k0_t9) a + S1x16.size a ≤ S128x128.size a)
def k0_chk35_2 (v12 : BitVec 32) : Prop :=
  (∀ (k0_t8 : Fin (k0_t8_loop v12).trips) (k0_t9 : Fin k0_t9_loop.trips), ∀ a, (k0_off660 v12 k0_t8 k0_t9) a + S1x16.size a ≤ S128x128.size a) ∧
  (∀ (k0_t8 : Fin (k0_t8_loop v12).trips) (k0_t9 : Fin k0_t9_loop.trips), ∀ a, (k0_off662 v12 k0_t8 k0_t9) a + S1x16.size a ≤ S128x128.size a) ∧
  (∀ (k0_t8 : Fin (k0_t8_loop v12).trips) (k0_t9 : Fin k0_t9_loop.trips), ∀ a, (k0_off664 v12 k0_t8 k0_t9) a + S1x16.size a ≤ S128x128.size a) ∧
  (∀ (k0_t8 : Fin (k0_t8_loop v12).trips) (k0_t9 : Fin k0_t9_loop.trips), ∀ a, (k0_off666 v12 k0_t8 k0_t9) a + S1x16.size a ≤ S128x128.size a) ∧
  (∀ (k0_t8 : Fin (k0_t8_loop v12).trips) (k0_t9 : Fin k0_t9_loop.trips), ∀ a, (k0_off668 v12 k0_t8 k0_t9) a + S1x16.size a ≤ S128x128.size a) ∧
  (∀ (k0_t8 : Fin (k0_t8_loop v12).trips) (k0_t9 : Fin k0_t9_loop.trips), ∀ a, (k0_off670 v12 k0_t8 k0_t9) a + S1x16.size a ≤ S128x128.size a) ∧
  (∀ (k0_t8 : Fin (k0_t8_loop v12).trips) (k0_t9 : Fin k0_t9_loop.trips), ∀ a, (k0_off672 v12 k0_t8 k0_t9) a + S1x16.size a ≤ S128x128.size a) ∧
  (∀ (k0_t8 : Fin (k0_t8_loop v12).trips) (k0_t9 : Fin k0_t9_loop.trips), ∀ a, (k0_off674 v12 k0_t8 k0_t9) a + S1x16.size a ≤ S128x128.size a) ∧
  (∀ (k0_t8 : Fin (k0_t8_loop v12).trips) (k0_t9 : Fin k0_t9_loop.trips), ∀ a, (k0_off676 v12 k0_t8 k0_t9) a + S1x16.size a ≤ S128x128.size a) ∧
  (∀ (k0_t8 : Fin (k0_t8_loop v12).trips) (k0_t9 : Fin k0_t9_loop.trips), ∀ a, (k0_off678 v12 k0_t8 k0_t9) a + S1x16.size a ≤ S128x128.size a) ∧
  (∀ (k0_t8 : Fin (k0_t8_loop v12).trips) (k0_t9 : Fin k0_t9_loop.trips), ∀ a, (k0_off680 v12 k0_t8 k0_t9) a + S1x16.size a ≤ S128x128.size a) ∧
  (∀ (k0_t8 : Fin (k0_t8_loop v12).trips) (k0_t9 : Fin k0_t9_loop.trips), ∀ a, (k0_off682 v12 k0_t8 k0_t9) a + S1x16.size a ≤ S128x128.size a) ∧
  (∀ (k0_t8 : Fin (k0_t8_loop v12).trips) (k0_t9 : Fin k0_t9_loop.trips), ∀ a, (k0_off684 v12 k0_t8 k0_t9) a + S1x16.size a ≤ S128x128.size a) ∧
  (∀ (k0_t8 : Fin (k0_t8_loop v12).trips) (k0_t9 : Fin k0_t9_loop.trips), ∀ a, (k0_off686 v12 k0_t8 k0_t9) a + S1x16.size a ≤ S128x128.size a) ∧
  (∀ (k0_t8 : Fin (k0_t8_loop v12).trips) (k0_t9 : Fin k0_t9_loop.trips), ∀ a, (k0_off688 v12 k0_t8 k0_t9) a + S1x16.size a ≤ S128x128.size a) ∧
  (∀ (k0_t8 : Fin (k0_t8_loop v12).trips) (k0_t9 : Fin k0_t9_loop.trips), ∀ a, (k0_off690 v12 k0_t8 k0_t9) a + S1x16.size a ≤ S128x128.size a) ∧
  (∀ (k0_t8 : Fin (k0_t8_loop v12).trips) (k0_t9 : Fin k0_t9_loop.trips), ∀ a, (k0_off692 v12 k0_t8 k0_t9) a + S1x16.size a ≤ S128x128.size a) ∧
  (∀ (k0_t8 : Fin (k0_t8_loop v12).trips) (k0_t9 : Fin k0_t9_loop.trips), ∀ a, (k0_off694 v12 k0_t8 k0_t9) a + S1x16.size a ≤ S128x128.size a) ∧
  (∀ (k0_t8 : Fin (k0_t8_loop v12).trips) (k0_t9 : Fin k0_t9_loop.trips), ∀ a, (k0_off696 v12 k0_t8 k0_t9) a + S1x16.size a ≤ S128x128.size a) ∧
  (∀ (k0_t8 : Fin (k0_t8_loop v12).trips) (k0_t9 : Fin k0_t9_loop.trips), ∀ a, (k0_off698 v12 k0_t8 k0_t9) a + S1x16.size a ≤ S128x128.size a) ∧
  (∀ (k0_t8 : Fin (k0_t8_loop v12).trips) (k0_t9 : Fin k0_t9_loop.trips), ∀ a, (k0_off700 v12 k0_t8 k0_t9) a + S1x16.size a ≤ S128x128.size a) ∧
  (∀ (k0_t8 : Fin (k0_t8_loop v12).trips) (k0_t9 : Fin k0_t9_loop.trips), ∀ a, (k0_off702 v12 k0_t8 k0_t9) a + S1x16.size a ≤ S128x128.size a) ∧
  (∀ (k0_t8 : Fin (k0_t8_loop v12).trips) (k0_t9 : Fin k0_t9_loop.trips), ∀ a, (k0_off704 v12 k0_t8 k0_t9) a + S1x16.size a ≤ S128x128.size a) ∧
  (∀ (k0_t8 : Fin (k0_t8_loop v12).trips) (k0_t9 : Fin k0_t9_loop.trips), ∀ a, (k0_off706 v12 k0_t8 k0_t9) a + S1x16.size a ≤ S128x128.size a) ∧
  (∀ (k0_t8 : Fin (k0_t8_loop v12).trips) (k0_t9 : Fin k0_t9_loop.trips), ∀ a, (k0_off708 v12 k0_t8 k0_t9) a + S1x16.size a ≤ S128x128.size a) ∧
  (∀ (k0_t8 : Fin (k0_t8_loop v12).trips) (k0_t9 : Fin k0_t9_loop.trips), ∀ a, (k0_off710 v12 k0_t8 k0_t9) a + S1x16.size a ≤ S128x128.size a) ∧
  (∀ (k0_t8 : Fin (k0_t8_loop v12).trips) (k0_t9 : Fin k0_t9_loop.trips), ∀ a, (k0_off712 v12 k0_t8 k0_t9) a + S1x16.size a ≤ S128x128.size a) ∧
  (∀ (k0_t8 : Fin (k0_t8_loop v12).trips) (k0_t9 : Fin k0_t9_loop.trips), ∀ a, (k0_off714 v12 k0_t8 k0_t9) a + S1x16.size a ≤ S128x128.size a) ∧
  (∀ (k0_t8 : Fin (k0_t8_loop v12).trips) (k0_t9 : Fin k0_t9_loop.trips), ∀ a, (k0_off716 v12 k0_t8 k0_t9) a + S1x16.size a ≤ S128x128.size a) ∧
  (∀ (k0_t8 : Fin (k0_t8_loop v12).trips) (k0_t9 : Fin k0_t9_loop.trips), ∀ a, (k0_off718 v12 k0_t8 k0_t9) a + S1x16.size a ≤ S128x128.size a) ∧
  (∀ (k0_t8 : Fin (k0_t8_loop v12).trips) (k0_t9 : Fin k0_t9_loop.trips), ∀ a, (k0_off720 v12 k0_t8 k0_t9) a + S1x16.size a ≤ S128x128.size a) ∧
  (∀ (k0_t8 : Fin (k0_t8_loop v12).trips) (k0_t9 : Fin k0_t9_loop.trips), ∀ a, (k0_off722 v12 k0_t8 k0_t9) a + S1x16.size a ≤ S128x128.size a)
def k0_chk35_3 (v12 : BitVec 32) : Prop :=
  (∀ (k0_t8 : Fin (k0_t8_loop v12).trips) (k0_t9 : Fin k0_t9_loop.trips), ∀ a, (k0_off724 v12 k0_t8 k0_t9) a + S1x16.size a ≤ S128x128.size a) ∧
  (∀ (k0_t8 : Fin (k0_t8_loop v12).trips) (k0_t9 : Fin k0_t9_loop.trips), ∀ a, (k0_off726 v12 k0_t8 k0_t9) a + S1x16.size a ≤ S128x128.size a) ∧
  (∀ (k0_t8 : Fin (k0_t8_loop v12).trips) (k0_t9 : Fin k0_t9_loop.trips), ∀ a, (k0_off728 v12 k0_t8 k0_t9) a + S1x16.size a ≤ S128x128.size a) ∧
  (∀ (k0_t8 : Fin (k0_t8_loop v12).trips) (k0_t9 : Fin k0_t9_loop.trips), ∀ a, (k0_off730 v12 k0_t8 k0_t9) a + S1x16.size a ≤ S128x128.size a) ∧
  (∀ (k0_t8 : Fin (k0_t8_loop v12).trips) (k0_t9 : Fin k0_t9_loop.trips), ∀ a, (k0_off732 v12 k0_t8 k0_t9) a + S1x16.size a ≤ S128x128.size a) ∧
  (∀ (k0_t8 : Fin (k0_t8_loop v12).trips) (k0_t9 : Fin k0_t9_loop.trips), ∀ a, (k0_off734 v12 k0_t8 k0_t9) a + S1x16.size a ≤ S128x128.size a) ∧
  (∀ (k0_t8 : Fin (k0_t8_loop v12).trips) (k0_t9 : Fin k0_t9_loop.trips), ∀ a, (k0_off736 v12 k0_t8 k0_t9) a + S1x16.size a ≤ S128x128.size a) ∧
  (∀ (k0_t8 : Fin (k0_t8_loop v12).trips) (k0_t9 : Fin k0_t9_loop.trips), ∀ a, (k0_off738 v12 k0_t8 k0_t9) a + S1x16.size a ≤ S128x128.size a) ∧
  (∀ (k0_t8 : Fin (k0_t8_loop v12).trips) (k0_t9 : Fin k0_t9_loop.trips), ∀ a, (k0_off740 v12 k0_t8 k0_t9) a + S1x16.size a ≤ S128x128.size a) ∧
  (∀ (k0_t8 : Fin (k0_t8_loop v12).trips) (k0_t9 : Fin k0_t9_loop.trips), ∀ a, (k0_off742 v12 k0_t8 k0_t9) a + S1x16.size a ≤ S128x128.size a) ∧
  (∀ (k0_t8 : Fin (k0_t8_loop v12).trips) (k0_t9 : Fin k0_t9_loop.trips), ∀ a, (k0_off744 v12 k0_t8 k0_t9) a + S1x16.size a ≤ S128x128.size a) ∧
  (∀ (k0_t8 : Fin (k0_t8_loop v12).trips) (k0_t9 : Fin k0_t9_loop.trips), ∀ a, (k0_off746 v12 k0_t8 k0_t9) a + S1x16.size a ≤ S128x128.size a) ∧
  (∀ (k0_t8 : Fin (k0_t8_loop v12).trips) (k0_t9 : Fin k0_t9_loop.trips), ∀ a, (k0_off748 v12 k0_t8 k0_t9) a + S1x16.size a ≤ S128x128.size a) ∧
  (∀ (k0_t8 : Fin (k0_t8_loop v12).trips) (k0_t9 : Fin k0_t9_loop.trips), ∀ a, (k0_off750 v12 k0_t8 k0_t9) a + S1x16.size a ≤ S128x128.size a) ∧
  (∀ (k0_t8 : Fin (k0_t8_loop v12).trips) (k0_t9 : Fin k0_t9_loop.trips), ∀ a, (k0_off752 v12 k0_t8 k0_t9) a + S1x16.size a ≤ S128x128.size a) ∧
  (∀ (k0_t8 : Fin (k0_t8_loop v12).trips) (k0_t9 : Fin k0_t9_loop.trips), ∀ a, (k0_off754 v12 k0_t8 k0_t9) a + S1x16.size a ≤ S128x128.size a) ∧
  (∀ (k0_t8 : Fin (k0_t8_loop v12).trips) (k0_t9 : Fin k0_t9_loop.trips), ∀ a, (k0_off756 v12 k0_t8 k0_t9) a + S1x16.size a ≤ S128x128.size a) ∧
  (∀ (k0_t8 : Fin (k0_t8_loop v12).trips) (k0_t9 : Fin k0_t9_loop.trips), ∀ a, (k0_off758 v12 k0_t8 k0_t9) a + S1x16.size a ≤ S128x128.size a) ∧
  (∀ (k0_t8 : Fin (k0_t8_loop v12).trips) (k0_t9 : Fin k0_t9_loop.trips), ∀ a, (k0_off760 v12 k0_t8 k0_t9) a + S1x16.size a ≤ S128x128.size a) ∧
  (∀ (k0_t8 : Fin (k0_t8_loop v12).trips) (k0_t9 : Fin k0_t9_loop.trips), ∀ a, (k0_off762 v12 k0_t8 k0_t9) a + S1x16.size a ≤ S128x128.size a) ∧
  (∀ (k0_t8 : Fin (k0_t8_loop v12).trips) (k0_t9 : Fin k0_t9_loop.trips), ∀ a, (k0_off764 v12 k0_t8 k0_t9) a + S1x16.size a ≤ S128x128.size a) ∧
  (∀ (k0_t8 : Fin (k0_t8_loop v12).trips) (k0_t9 : Fin k0_t9_loop.trips), ∀ a, (k0_off766 v12 k0_t8 k0_t9) a + S1x16.size a ≤ S128x128.size a) ∧
  (∀ (k0_t8 : Fin (k0_t8_loop v12).trips) (k0_t9 : Fin k0_t9_loop.trips), ∀ a, (k0_off768 v12 k0_t8 k0_t9) a + S1x16.size a ≤ S128x128.size a) ∧
  (∀ (k0_t8 : Fin (k0_t8_loop v12).trips) (k0_t9 : Fin k0_t9_loop.trips), ∀ a, (k0_off770 v12 k0_t8 k0_t9) a + S1x16.size a ≤ S128x128.size a) ∧
  (∀ (k0_t8 : Fin (k0_t8_loop v12).trips) (k0_t9 : Fin k0_t9_loop.trips), ∀ a, (k0_off772 v12 k0_t8 k0_t9) a + S1x16.size a ≤ S128x128.size a) ∧
  (∀ (k0_t8 : Fin (k0_t8_loop v12).trips) (k0_t9 : Fin k0_t9_loop.trips), ∀ a, (k0_off774 v12 k0_t8 k0_t9) a + S1x16.size a ≤ S128x128.size a) ∧
  (∀ (k0_t8 : Fin (k0_t8_loop v12).trips) (k0_t9 : Fin k0_t9_loop.trips), ∀ a, (k0_off776 v12 k0_t8 k0_t9) a + S1x16.size a ≤ S128x128.size a) ∧
  (∀ (k0_t8 : Fin (k0_t8_loop v12).trips) (k0_t9 : Fin k0_t9_loop.trips), ∀ a, (k0_off778 v12 k0_t8 k0_t9) a + S1x16.size a ≤ S128x128.size a) ∧
  (∀ (k0_t8 : Fin (k0_t8_loop v12).trips) (k0_t9 : Fin k0_t9_loop.trips), ∀ a, (k0_off780 v12 k0_t8 k0_t9) a + S1x16.size a ≤ S128x128.size a) ∧
  (∀ (k0_t8 : Fin (k0_t8_loop v12).trips) (k0_t9 : Fin k0_t9_loop.trips), ∀ a, (k0_off782 v12 k0_t8 k0_t9) a + S1x16.size a ≤ S128x128.size a) ∧
  (∀ (k0_t8 : Fin (k0_t8_loop v12).trips) (k0_t9 : Fin k0_t9_loop.trips), ∀ a, (k0_off784 v12 k0_t8 k0_t9) a + S1x16.size a ≤ S128x128.size a) ∧
  (∀ (k0_t8 : Fin (k0_t8_loop v12).trips) (k0_t9 : Fin k0_t9_loop.trips), ∀ a, (k0_off786 v12 k0_t8 k0_t9) a + S1x16.size a ≤ S128x128.size a)
def k0_chk35_4 (v12 : BitVec 32) : Prop :=
  (∀ (k0_t8 : Fin (k0_t8_loop v12).trips) (k0_t9 : Fin k0_t9_loop.trips), ∀ a, (k0_off788 v12 k0_t8 k0_t9) a + S1x16.size a ≤ S128x128.size a) ∧
  (∀ (k0_t8 : Fin (k0_t8_loop v12).trips) (k0_t9 : Fin k0_t9_loop.trips), ∀ a, (k0_off790 v12 k0_t8 k0_t9) a + S1x16.size a ≤ S128x128.size a) ∧
  (∀ (k0_t8 : Fin (k0_t8_loop v12).trips) (k0_t9 : Fin k0_t9_loop.trips), ∀ a, (k0_off792 v12 k0_t8 k0_t9) a + S1x16.size a ≤ S128x128.size a) ∧
  (∀ (k0_t8 : Fin (k0_t8_loop v12).trips) (k0_t9 : Fin k0_t9_loop.trips), ∀ a, (k0_off794 v12 k0_t8 k0_t9) a + S1x16.size a ≤ S128x128.size a) ∧
  (∀ (k0_t8 : Fin (k0_t8_loop v12).trips) (k0_t9 : Fin k0_t9_loop.trips), ∀ a, (k0_off796 v12 k0_t8 k0_t9) a + S1x16.size a ≤ S128x128.size a) ∧
  (∀ (k0_t8 : Fin (k0_t8_loop v12).trips) (k0_t9 : Fin k0_t9_loop.trips), ∀ a, (k0_off798 v12 k0_t8 k0_t9) a + S1x16.size a ≤ S128x128.size a) ∧
  (∀ (k0_t8 : Fin (k0_t8_loop v12).trips) (k0_t9 : Fin k0_t9_loop.trips), ∀ a, (k0_off800 v12 k0_t8 k0_t9) a + S1x16.size a ≤ S128x128.size a) ∧
  ((k0_t10_loop v12).OK) ∧
  (∀ k0_t10 : Fin (k0_t10_loop v12).trips, ∀ (k0_h15 : k0_cond15 v12 k0_t10 = 1#1), ∀ (k0_h16 : k0_cond16 v12 k0_t10 = 1#1), ∀ a, (k0_off801 v12 k0_t10) a + S64.size a ≤ S3272.size a) ∧
  (∀ k0_t10 : Fin (k0_t10_loop v12).trips, ∀ (k0_h15 : k0_cond15 v12 k0_t10 = 1#1), ∀ (k0_h16 : ¬(k0_cond16 v12 k0_t10 = 1#1)), ∀ a, (k0_off802 v12 k0_t10) a + S64.size a ≤ S3272.size a) ∧
  (∀ k0_t10 : Fin (k0_t10_loop v12).trips, ∀ (k0_h17 : k0_cond17 v12 k0_t10 = 1#1), ∀ a, (k0_off803 v12 k0_t10) a + S64.size a ≤ S3272.size a) ∧
  (∀ k0_t10 : Fin (k0_t10_loop v12).trips, ∀ (k0_h17 : ¬(k0_cond17 v12 k0_t10 = 1#1)), ∀ a, (k0_off804 v12 k0_t10) a + S64.size a ≤ S3272.size a) ∧
  (∀ (k0_t10 : Fin (k0_t10_loop v12).trips) (k0_t11 : Fin k0_t11_loop.trips), ∀ a, (k0_off805 v12 k0_t10 k0_t11) a + S16.size a ≤ S3272.size a) ∧
  (∀ (k0_t10 : Fin (k0_t10_loop v12).trips) (k0_t11 : Fin k0_t11_loop.trips), ∀ a, (k0_off807 v12 k0_t10 k0_t11) a + S1x16.size a ≤ S128x128.size a) ∧
  (∀ (k0_t10 : Fin (k0_t10_loop v12).trips) (k0_t11 : Fin k0_t11_loop.trips), ∀ a, (k0_off809 v12 k0_t10 k0_t11) a + S1x16.size a ≤ S128x128.size a) ∧
  (∀ (k0_t10 : Fin (k0_t10_loop v12).trips) (k0_t11 : Fin k0_t11_loop.trips), ∀ a, (k0_off811 v12 k0_t10 k0_t11) a + S1x16.size a ≤ S128x128.size a) ∧
  (∀ (k0_t10 : Fin (k0_t10_loop v12).trips) (k0_t11 : Fin k0_t11_loop.trips), ∀ a, (k0_off813 v12 k0_t10 k0_t11) a + S1x16.size a ≤ S128x128.size a) ∧
  (∀ (k0_t10 : Fin (k0_t10_loop v12).trips) (k0_t11 : Fin k0_t11_loop.trips), ∀ a, (k0_off815 v12 k0_t10 k0_t11) a + S1x16.size a ≤ S128x128.size a) ∧
  (∀ (k0_t10 : Fin (k0_t10_loop v12).trips) (k0_t11 : Fin k0_t11_loop.trips), ∀ a, (k0_off817 v12 k0_t10 k0_t11) a + S1x16.size a ≤ S128x128.size a) ∧
  (∀ (k0_t10 : Fin (k0_t10_loop v12).trips) (k0_t11 : Fin k0_t11_loop.trips), ∀ a, (k0_off819 v12 k0_t10 k0_t11) a + S1x16.size a ≤ S128x128.size a) ∧
  (∀ (k0_t10 : Fin (k0_t10_loop v12).trips) (k0_t11 : Fin k0_t11_loop.trips), ∀ a, (k0_off821 v12 k0_t10 k0_t11) a + S1x16.size a ≤ S128x128.size a) ∧
  (∀ (k0_t10 : Fin (k0_t10_loop v12).trips) (k0_t11 : Fin k0_t11_loop.trips), ∀ a, (k0_off823 v12 k0_t10 k0_t11) a + S1x16.size a ≤ S128x128.size a) ∧
  (∀ (k0_t10 : Fin (k0_t10_loop v12).trips) (k0_t11 : Fin k0_t11_loop.trips), ∀ a, (k0_off825 v12 k0_t10 k0_t11) a + S1x16.size a ≤ S128x128.size a) ∧
  (∀ (k0_t10 : Fin (k0_t10_loop v12).trips) (k0_t11 : Fin k0_t11_loop.trips), ∀ a, (k0_off827 v12 k0_t10 k0_t11) a + S1x16.size a ≤ S128x128.size a) ∧
  (∀ (k0_t10 : Fin (k0_t10_loop v12).trips) (k0_t11 : Fin k0_t11_loop.trips), ∀ a, (k0_off829 v12 k0_t10 k0_t11) a + S1x16.size a ≤ S128x128.size a) ∧
  (∀ (k0_t10 : Fin (k0_t10_loop v12).trips) (k0_t11 : Fin k0_t11_loop.trips), ∀ a, (k0_off831 v12 k0_t10 k0_t11) a + S1x16.size a ≤ S128x128.size a) ∧
  (∀ (k0_t10 : Fin (k0_t10_loop v12).trips) (k0_t11 : Fin k0_t11_loop.trips), ∀ a, (k0_off833 v12 k0_t10 k0_t11) a + S1x16.size a ≤ S128x128.size a) ∧
  (∀ (k0_t10 : Fin (k0_t10_loop v12).trips) (k0_t11 : Fin k0_t11_loop.trips), ∀ a, (k0_off835 v12 k0_t10 k0_t11) a + S1x16.size a ≤ S128x128.size a) ∧
  (∀ (k0_t10 : Fin (k0_t10_loop v12).trips) (k0_t11 : Fin k0_t11_loop.trips), ∀ a, (k0_off837 v12 k0_t10 k0_t11) a + S1x16.size a ≤ S128x128.size a) ∧
  (∀ (k0_t10 : Fin (k0_t10_loop v12).trips) (k0_t11 : Fin k0_t11_loop.trips), ∀ a, (k0_off839 v12 k0_t10 k0_t11) a + S1x16.size a ≤ S128x128.size a) ∧
  (∀ (k0_t10 : Fin (k0_t10_loop v12).trips) (k0_t11 : Fin k0_t11_loop.trips), ∀ a, (k0_off841 v12 k0_t10 k0_t11) a + S1x16.size a ≤ S128x128.size a) ∧
  (∀ (k0_t10 : Fin (k0_t10_loop v12).trips) (k0_t11 : Fin k0_t11_loop.trips), ∀ a, (k0_off843 v12 k0_t10 k0_t11) a + S1x16.size a ≤ S128x128.size a)
def k0_chk35_5 (v12 : BitVec 32) : Prop :=
  (∀ (k0_t10 : Fin (k0_t10_loop v12).trips) (k0_t11 : Fin k0_t11_loop.trips), ∀ a, (k0_off845 v12 k0_t10 k0_t11) a + S1x16.size a ≤ S128x128.size a) ∧
  (∀ (k0_t10 : Fin (k0_t10_loop v12).trips) (k0_t11 : Fin k0_t11_loop.trips), ∀ a, (k0_off847 v12 k0_t10 k0_t11) a + S1x16.size a ≤ S128x128.size a) ∧
  (∀ (k0_t10 : Fin (k0_t10_loop v12).trips) (k0_t11 : Fin k0_t11_loop.trips), ∀ a, (k0_off849 v12 k0_t10 k0_t11) a + S1x16.size a ≤ S128x128.size a) ∧
  (∀ (k0_t10 : Fin (k0_t10_loop v12).trips) (k0_t11 : Fin k0_t11_loop.trips), ∀ a, (k0_off851 v12 k0_t10 k0_t11) a + S1x16.size a ≤ S128x128.size a) ∧
  (∀ (k0_t10 : Fin (k0_t10_loop v12).trips) (k0_t11 : Fin k0_t11_loop.trips), ∀ a, (k0_off853 v12 k0_t10 k0_t11) a + S1x16.size a ≤ S128x128.size a) ∧
  (∀ (k0_t10 : Fin (k0_t10_loop v12).trips) (k0_t11 : Fin k0_t11_loop.trips), ∀ a, (k0_off855 v12 k0_t10 k0_t11) a + S1x16.size a ≤ S128x128.size a) ∧
  (∀ (k0_t10 : Fin (k0_t10_loop v12).trips) (k0_t11 : Fin k0_t11_loop.trips), ∀ a, (k0_off857 v12 k0_t10 k0_t11) a + S1x16.size a ≤ S128x128.size a) ∧
  (∀ (k0_t10 : Fin (k0_t10_loop v12).trips) (k0_t11 : Fin k0_t11_loop.trips), ∀ a, (k0_off859 v12 k0_t10 k0_t11) a + S1x16.size a ≤ S128x128.size a) ∧
  (∀ (k0_t10 : Fin (k0_t10_loop v12).trips) (k0_t11 : Fin k0_t11_loop.trips), ∀ a, (k0_off861 v12 k0_t10 k0_t11) a + S1x16.size a ≤ S128x128.size a) ∧
  (∀ (k0_t10 : Fin (k0_t10_loop v12).trips) (k0_t11 : Fin k0_t11_loop.trips), ∀ a, (k0_off863 v12 k0_t10 k0_t11) a + S1x16.size a ≤ S128x128.size a) ∧
  (∀ (k0_t10 : Fin (k0_t10_loop v12).trips) (k0_t11 : Fin k0_t11_loop.trips), ∀ a, (k0_off865 v12 k0_t10 k0_t11) a + S1x16.size a ≤ S128x128.size a) ∧
  (∀ (k0_t10 : Fin (k0_t10_loop v12).trips) (k0_t11 : Fin k0_t11_loop.trips), ∀ a, (k0_off867 v12 k0_t10 k0_t11) a + S1x16.size a ≤ S128x128.size a) ∧
  (∀ (k0_t10 : Fin (k0_t10_loop v12).trips) (k0_t11 : Fin k0_t11_loop.trips), ∀ a, (k0_off869 v12 k0_t10 k0_t11) a + S1x16.size a ≤ S128x128.size a) ∧
  (∀ (k0_t10 : Fin (k0_t10_loop v12).trips) (k0_t11 : Fin k0_t11_loop.trips), ∀ a, (k0_off871 v12 k0_t10 k0_t11) a + S1x16.size a ≤ S128x128.size a) ∧
  (∀ (k0_t10 : Fin (k0_t10_loop v12).trips) (k0_t11 : Fin k0_t11_loop.trips), ∀ a, (k0_off873 v12 k0_t10 k0_t11) a + S1x16.size a ≤ S128x128.size a) ∧
  (∀ (k0_t10 : Fin (k0_t10_loop v12).trips) (k0_t11 : Fin k0_t11_loop.trips), ∀ a, (k0_off875 v12 k0_t10 k0_t11) a + S1x16.size a ≤ S128x128.size a) ∧
  (∀ (k0_t10 : Fin (k0_t10_loop v12).trips) (k0_t11 : Fin k0_t11_loop.trips), ∀ a, (k0_off877 v12 k0_t10 k0_t11) a + S1x16.size a ≤ S128x128.size a) ∧
  (∀ (k0_t10 : Fin (k0_t10_loop v12).trips) (k0_t11 : Fin k0_t11_loop.trips), ∀ a, (k0_off879 v12 k0_t10 k0_t11) a + S1x16.size a ≤ S128x128.size a) ∧
  (∀ (k0_t10 : Fin (k0_t10_loop v12).trips) (k0_t11 : Fin k0_t11_loop.trips), ∀ a, (k0_off881 v12 k0_t10 k0_t11) a + S1x16.size a ≤ S128x128.size a) ∧
  (∀ (k0_t10 : Fin (k0_t10_loop v12).trips) (k0_t11 : Fin k0_t11_loop.trips), ∀ a, (k0_off883 v12 k0_t10 k0_t11) a + S1x16.size a ≤ S128x128.size a) ∧
  (∀ (k0_t10 : Fin (k0_t10_loop v12).trips) (k0_t11 : Fin k0_t11_loop.trips), ∀ a, (k0_off885 v12 k0_t10 k0_t11) a + S1x16.size a ≤ S128x128.size a) ∧
  (∀ (k0_t10 : Fin (k0_t10_loop v12).trips) (k0_t11 : Fin k0_t11_loop.trips), ∀ a, (k0_off887 v12 k0_t10 k0_t11) a + S1x16.size a ≤ S128x128.size a) ∧
  (∀ (k0_t10 : Fin (k0_t10_loop v12).trips) (k0_t11 : Fin k0_t11_loop.trips), ∀ a, (k0_off889 v12 k0_t10 k0_t11) a + S1x16.size a ≤ S128x128.size a) ∧
  (∀ (k0_t10 : Fin (k0_t10_loop v12).trips) (k0_t11 : Fin k0_t11_loop.trips), ∀ a, (k0_off891 v12 k0_t10 k0_t11) a + S1x16.size a ≤ S128x128.size a) ∧
  (∀ (k0_t10 : Fin (k0_t10_loop v12).trips) (k0_t11 : Fin k0_t11_loop.trips), ∀ a, (k0_off893 v12 k0_t10 k0_t11) a + S1x16.size a ≤ S128x128.size a) ∧
  (∀ (k0_t10 : Fin (k0_t10_loop v12).trips) (k0_t11 : Fin k0_t11_loop.trips), ∀ a, (k0_off895 v12 k0_t10 k0_t11) a + S1x16.size a ≤ S128x128.size a) ∧
  (∀ (k0_t10 : Fin (k0_t10_loop v12).trips) (k0_t11 : Fin k0_t11_loop.trips), ∀ a, (k0_off897 v12 k0_t10 k0_t11) a + S1x16.size a ≤ S128x128.size a) ∧
  (∀ (k0_t10 : Fin (k0_t10_loop v12).trips) (k0_t11 : Fin k0_t11_loop.trips), ∀ a, (k0_off899 v12 k0_t10 k0_t11) a + S1x16.size a ≤ S128x128.size a) ∧
  (∀ (k0_t10 : Fin (k0_t10_loop v12).trips) (k0_t11 : Fin k0_t11_loop.trips), ∀ a, (k0_off901 v12 k0_t10 k0_t11) a + S1x16.size a ≤ S128x128.size a) ∧
  (∀ (k0_t10 : Fin (k0_t10_loop v12).trips) (k0_t11 : Fin k0_t11_loop.trips), ∀ a, (k0_off903 v12 k0_t10 k0_t11) a + S1x16.size a ≤ S128x128.size a) ∧
  (∀ (k0_t10 : Fin (k0_t10_loop v12).trips) (k0_t11 : Fin k0_t11_loop.trips), ∀ a, (k0_off905 v12 k0_t10 k0_t11) a + S1x16.size a ≤ S128x128.size a) ∧
  (∀ (k0_t10 : Fin (k0_t10_loop v12).trips) (k0_t11 : Fin k0_t11_loop.trips), ∀ a, (k0_off907 v12 k0_t10 k0_t11) a + S1x16.size a ≤ S128x128.size a)
def k0_chk35_6 (v12 : BitVec 32) : Prop :=
  (∀ (k0_t10 : Fin (k0_t10_loop v12).trips) (k0_t11 : Fin k0_t11_loop.trips), ∀ a, (k0_off909 v12 k0_t10 k0_t11) a + S1x16.size a ≤ S128x128.size a) ∧
  (∀ (k0_t10 : Fin (k0_t10_loop v12).trips) (k0_t11 : Fin k0_t11_loop.trips), ∀ a, (k0_off911 v12 k0_t10 k0_t11) a + S1x16.size a ≤ S128x128.size a) ∧
  (∀ (k0_t10 : Fin (k0_t10_loop v12).trips) (k0_t11 : Fin k0_t11_loop.trips), ∀ a, (k0_off913 v12 k0_t10 k0_t11) a + S1x16.size a ≤ S128x128.size a) ∧
  (∀ (k0_t10 : Fin (k0_t10_loop v12).trips) (k0_t11 : Fin k0_t11_loop.trips), ∀ a, (k0_off915 v12 k0_t10 k0_t11) a + S1x16.size a ≤ S128x128.size a) ∧
  (∀ (k0_t10 : Fin (k0_t10_loop v12).trips) (k0_t11 : Fin k0_t11_loop.trips), ∀ a, (k0_off917 v12 k0_t10 k0_t11) a + S1x16.size a ≤ S128x128.size a) ∧
  (∀ (k0_t10 : Fin (k0_t10_loop v12).trips) (k0_t11 : Fin k0_t11_loop.trips), ∀ a, (k0_off919 v12 k0_t10 k0_t11) a + S1x16.size a ≤ S128x128.size a) ∧
  (∀ (k0_t10 : Fin (k0_t10_loop v12).trips) (k0_t11 : Fin k0_t11_loop.trips), ∀ a, (k0_off921 v12 k0_t10 k0_t11) a + S1x16.size a ≤ S128x128.size a) ∧
  (∀ (k0_t10 : Fin (k0_t10_loop v12).trips) (k0_t11 : Fin k0_t11_loop.trips), ∀ a, (k0_off923 v12 k0_t10 k0_t11) a + S1x16.size a ≤ S128x128.size a) ∧
  (∀ (k0_t10 : Fin (k0_t10_loop v12).trips) (k0_t11 : Fin k0_t11_loop.trips), ∀ a, (k0_off925 v12 k0_t10 k0_t11) a + S1x16.size a ≤ S128x128.size a) ∧
  (∀ (k0_t10 : Fin (k0_t10_loop v12).trips) (k0_t11 : Fin k0_t11_loop.trips), ∀ a, (k0_off927 v12 k0_t10 k0_t11) a + S1x16.size a ≤ S128x128.size a) ∧
  (∀ (k0_t10 : Fin (k0_t10_loop v12).trips) (k0_t11 : Fin k0_t11_loop.trips), ∀ a, (k0_off929 v12 k0_t10 k0_t11) a + S1x16.size a ≤ S128x128.size a) ∧
  (∀ (k0_t10 : Fin (k0_t10_loop v12).trips) (k0_t11 : Fin k0_t11_loop.trips), ∀ a, (k0_off931 v12 k0_t10 k0_t11) a + S1x16.size a ≤ S128x128.size a) ∧
  (∀ (k0_t10 : Fin (k0_t10_loop v12).trips) (k0_t11 : Fin k0_t11_loop.trips), ∀ a, (k0_off933 v12 k0_t10 k0_t11) a + S1x16.size a ≤ S128x128.size a) ∧
  (∀ (k0_t10 : Fin (k0_t10_loop v12).trips) (k0_t11 : Fin k0_t11_loop.trips), ∀ a, (k0_off935 v12 k0_t10 k0_t11) a + S1x16.size a ≤ S128x128.size a) ∧
  (∀ (k0_t10 : Fin (k0_t10_loop v12).trips) (k0_t11 : Fin k0_t11_loop.trips), ∀ a, (k0_off937 v12 k0_t10 k0_t11) a + S1x16.size a ≤ S128x128.size a) ∧
  (∀ (k0_t10 : Fin (k0_t10_loop v12).trips) (k0_t11 : Fin k0_t11_loop.trips), ∀ a, (k0_off939 v12 k0_t10 k0_t11) a + S1x16.size a ≤ S128x128.size a) ∧
  (∀ (k0_t10 : Fin (k0_t10_loop v12).trips) (k0_t11 : Fin k0_t11_loop.trips), ∀ a, (k0_off941 v12 k0_t10 k0_t11) a + S1x16.size a ≤ S128x128.size a) ∧
  (∀ (k0_t10 : Fin (k0_t10_loop v12).trips) (k0_t11 : Fin k0_t11_loop.trips), ∀ a, (k0_off943 v12 k0_t10 k0_t11) a + S1x16.size a ≤ S128x128.size a) ∧
  (∀ (k0_t10 : Fin (k0_t10_loop v12).trips) (k0_t11 : Fin k0_t11_loop.trips), ∀ a, (k0_off945 v12 k0_t10 k0_t11) a + S1x16.size a ≤ S128x128.size a) ∧
  (∀ (k0_t10 : Fin (k0_t10_loop v12).trips) (k0_t11 : Fin k0_t11_loop.trips), ∀ a, (k0_off947 v12 k0_t10 k0_t11) a + S1x16.size a ≤ S128x128.size a) ∧
  (∀ (k0_t10 : Fin (k0_t10_loop v12).trips) (k0_t11 : Fin k0_t11_loop.trips), ∀ a, (k0_off949 v12 k0_t10 k0_t11) a + S1x16.size a ≤ S128x128.size a) ∧
  (∀ (k0_t10 : Fin (k0_t10_loop v12).trips) (k0_t11 : Fin k0_t11_loop.trips), ∀ a, (k0_off951 v12 k0_t10 k0_t11) a + S1x16.size a ≤ S128x128.size a) ∧
  (∀ (k0_t10 : Fin (k0_t10_loop v12).trips) (k0_t11 : Fin k0_t11_loop.trips), ∀ a, (k0_off953 v12 k0_t10 k0_t11) a + S1x16.size a ≤ S128x128.size a) ∧
  (∀ (k0_t10 : Fin (k0_t10_loop v12).trips) (k0_t11 : Fin k0_t11_loop.trips), ∀ a, (k0_off955 v12 k0_t10 k0_t11) a + S1x16.size a ≤ S128x128.size a) ∧
  (∀ (k0_t10 : Fin (k0_t10_loop v12).trips) (k0_t11 : Fin k0_t11_loop.trips), ∀ a, (k0_off957 v12 k0_t10 k0_t11) a + S1x16.size a ≤ S128x128.size a) ∧
  (∀ (k0_t10 : Fin (k0_t10_loop v12).trips) (k0_t11 : Fin k0_t11_loop.trips), ∀ a, (k0_off959 v12 k0_t10 k0_t11) a + S1x16.size a ≤ S128x128.size a) ∧
  (∀ (k0_t10 : Fin (k0_t10_loop v12).trips) (k0_t11 : Fin k0_t11_loop.trips), ∀ a, (k0_off961 v12 k0_t10 k0_t11) a + S1x16.size a ≤ S128x128.size a) ∧
  (∀ (k0_t10 : Fin (k0_t10_loop v12).trips) (k0_t11 : Fin k0_t11_loop.trips), ∀ a, (k0_off963 v12 k0_t10 k0_t11) a + S1x16.size a ≤ S128x128.size a) ∧
  (∀ (k0_t10 : Fin (k0_t10_loop v12).trips) (k0_t11 : Fin k0_t11_loop.trips), ∀ a, (k0_off965 v12 k0_t10 k0_t11) a + S1x16.size a ≤ S128x128.size a) ∧
  (∀ (k0_t10 : Fin (k0_t10_loop v12).trips) (k0_t11 : Fin k0_t11_loop.trips), ∀ a, (k0_off967 v12 k0_t10 k0_t11) a + S1x16.size a ≤ S128x128.size a) ∧
  (∀ (k0_t10 : Fin (k0_t10_loop v12).trips) (k0_t11 : Fin k0_t11_loop.trips), ∀ a, (k0_off969 v12 k0_t10 k0_t11) a + S1x16.size a ≤ S128x128.size a) ∧
  (∀ (k0_t10 : Fin (k0_t10_loop v12).trips) (k0_t11 : Fin k0_t11_loop.trips), ∀ a, (k0_off971 v12 k0_t10 k0_t11) a + S1x16.size a ≤ S128x128.size a)
def k0_chk35_7 (v12 : BitVec 32) : Prop :=
  (∀ (k0_t10 : Fin (k0_t10_loop v12).trips) (k0_t11 : Fin k0_t11_loop.trips), ∀ a, (k0_off973 v12 k0_t10 k0_t11) a + S1x16.size a ≤ S128x128.size a) ∧
  (∀ (k0_t10 : Fin (k0_t10_loop v12).trips) (k0_t11 : Fin k0_t11_loop.trips), ∀ a, (k0_off975 v12 k0_t10 k0_t11) a + S1x16.size a ≤ S128x128.size a) ∧
  (∀ (k0_t10 : Fin (k0_t10_loop v12).trips) (k0_t11 : Fin k0_t11_loop.trips), ∀ a, (k0_off977 v12 k0_t10 k0_t11) a + S1x16.size a ≤ S128x128.size a) ∧
  (∀ (k0_t10 : Fin (k0_t10_loop v12).trips) (k0_t11 : Fin k0_t11_loop.trips), ∀ a, (k0_off979 v12 k0_t10 k0_t11) a + S1x16.size a ≤ S128x128.size a) ∧
  (∀ (k0_t10 : Fin (k0_t10_loop v12).trips) (k0_t11 : Fin k0_t11_loop.trips), ∀ a, (k0_off981 v12 k0_t10 k0_t11) a + S1x16.size a ≤ S128x128.size a) ∧
  (∀ (k0_t10 : Fin (k0_t10_loop v12).trips) (k0_t11 : Fin k0_t11_loop.trips), ∀ a, (k0_off983 v12 k0_t10 k0_t11) a + S1x16.size a ≤ S128x128.size a) ∧
  (∀ (k0_t10 : Fin (k0_t10_loop v12).trips) (k0_t11 : Fin k0_t11_loop.trips), ∀ a, (k0_off985 v12 k0_t10 k0_t11) a + S1x16.size a ≤ S128x128.size a) ∧
  (∀ (k0_t10 : Fin (k0_t10_loop v12).trips) (k0_t11 : Fin k0_t11_loop.trips), ∀ a, (k0_off987 v12 k0_t10 k0_t11) a + S1x16.size a ≤ S128x128.size a) ∧
  (∀ (k0_t10 : Fin (k0_t10_loop v12).trips) (k0_t11 : Fin k0_t11_loop.trips), ∀ a, (k0_off989 v12 k0_t10 k0_t11) a + S1x16.size a ≤ S128x128.size a) ∧
  (∀ (k0_t10 : Fin (k0_t10_loop v12).trips) (k0_t11 : Fin k0_t11_loop.trips), ∀ a, (k0_off991 v12 k0_t10 k0_t11) a + S1x16.size a ≤ S128x128.size a) ∧
  (∀ (k0_t10 : Fin (k0_t10_loop v12).trips) (k0_t11 : Fin k0_t11_loop.trips), ∀ a, (k0_off993 v12 k0_t10 k0_t11) a + S1x16.size a ≤ S128x128.size a) ∧
  (∀ (k0_t10 : Fin (k0_t10_loop v12).trips) (k0_t11 : Fin k0_t11_loop.trips), ∀ a, (k0_off995 v12 k0_t10 k0_t11) a + S1x16.size a ≤ S128x128.size a) ∧
  (∀ (k0_t10 : Fin (k0_t10_loop v12).trips) (k0_t11 : Fin k0_t11_loop.trips), ∀ a, (k0_off997 v12 k0_t10 k0_t11) a + S1x16.size a ≤ S128x128.size a) ∧
  (∀ (k0_t10 : Fin (k0_t10_loop v12).trips) (k0_t11 : Fin k0_t11_loop.trips), ∀ a, (k0_off999 v12 k0_t10 k0_t11) a + S1x16.size a ≤ S128x128.size a) ∧
  (∀ (k0_t10 : Fin (k0_t10_loop v12).trips) (k0_t11 : Fin k0_t11_loop.trips), ∀ a, (k0_off1001 v12 k0_t10 k0_t11) a + S1x16.size a ≤ S128x128.size a) ∧
  (∀ (k0_t10 : Fin (k0_t10_loop v12).trips) (k0_t11 : Fin k0_t11_loop.trips), ∀ a, (k0_off1003 v12 k0_t10 k0_t11) a + S1x16.size a ≤ S128x128.size a) ∧
  (∀ (k0_t10 : Fin (k0_t10_loop v12).trips) (k0_t11 : Fin k0_t11_loop.trips), ∀ a, (k0_off1005 v12 k0_t10 k0_t11) a + S1x16.size a ≤ S128x128.size a) ∧
  (∀ (k0_t10 : Fin (k0_t10_loop v12).trips) (k0_t11 : Fin k0_t11_loop.trips), ∀ a, (k0_off1007 v12 k0_t10 k0_t11) a + S1x16.size a ≤ S128x128.size a) ∧
  (∀ (k0_t10 : Fin (k0_t10_loop v12).trips) (k0_t11 : Fin k0_t11_loop.trips), ∀ a, (k0_off1009 v12 k0_t10 k0_t11) a + S1x16.size a ≤ S128x128.size a) ∧
  (∀ (k0_t10 : Fin (k0_t10_loop v12).trips) (k0_t11 : Fin k0_t11_loop.trips), ∀ a, (k0_off1011 v12 k0_t10 k0_t11) a + S1x16.size a ≤ S128x128.size a) ∧
  (∀ (k0_t10 : Fin (k0_t10_loop v12).trips) (k0_t11 : Fin k0_t11_loop.trips), ∀ a, (k0_off1013 v12 k0_t10 k0_t11) a + S1x16.size a ≤ S128x128.size a) ∧
  (∀ (k0_t10 : Fin (k0_t10_loop v12).trips) (k0_t11 : Fin k0_t11_loop.trips), ∀ a, (k0_off1015 v12 k0_t10 k0_t11) a + S1x16.size a ≤ S128x128.size a) ∧
  (∀ (k0_t10 : Fin (k0_t10_loop v12).trips) (k0_t11 : Fin k0_t11_loop.trips), ∀ a, (k0_off1017 v12 k0_t10 k0_t11) a + S1x16.size a ≤ S128x128.size a) ∧
  (∀ (k0_t10 : Fin (k0_t10_loop v12).trips) (k0_t11 : Fin k0_t11_loop.trips), ∀ a, (k0_off1019 v12 k0_t10 k0_t11) a + S1x16.size a ≤ S128x128.size a) ∧
  (∀ (k0_t10 : Fin (k0_t10_loop v12).trips) (k0_t11 : Fin k0_t11_loop.trips), ∀ a, (k0_off1021 v12 k0_t10 k0_t11) a + S1x16.size a ≤ S128x128.size a) ∧
  (∀ (k0_t10 : Fin (k0_t10_loop v12).trips) (k0_t11 : Fin k0_t11_loop.trips), ∀ a, (k0_off1023 v12 k0_t10 k0_t11) a + S1x16.size a ≤ S128x128.size a) ∧
  (∀ (k0_t10 : Fin (k0_t10_loop v12).trips) (k0_t11 : Fin k0_t11_loop.trips), ∀ a, (k0_off1025 v12 k0_t10 k0_t11) a + S1x16.size a ≤ S128x128.size a) ∧
  (∀ (k0_t10 : Fin (k0_t10_loop v12).trips) (k0_t11 : Fin k0_t11_loop.trips), ∀ a, (k0_off1027 v12 k0_t10 k0_t11) a + S1x16.size a ≤ S128x128.size a) ∧
  (∀ (k0_t10 : Fin (k0_t10_loop v12).trips) (k0_t11 : Fin k0_t11_loop.trips), ∀ a, (k0_off1029 v12 k0_t10 k0_t11) a + S1x16.size a ≤ S128x128.size a) ∧
  (∀ (k0_t10 : Fin (k0_t10_loop v12).trips) (k0_t11 : Fin k0_t11_loop.trips), ∀ a, (k0_off1031 v12 k0_t10 k0_t11) a + S1x16.size a ≤ S128x128.size a) ∧
  (∀ (k0_t10 : Fin (k0_t10_loop v12).trips) (k0_t11 : Fin k0_t11_loop.trips), ∀ a, (k0_off1033 v12 k0_t10 k0_t11) a + S1x16.size a ≤ S128x128.size a) ∧
  (∀ (k0_t10 : Fin (k0_t10_loop v12).trips) (k0_t11 : Fin k0_t11_loop.trips), ∀ a, (k0_off1035 v12 k0_t10 k0_t11) a + S1x16.size a ≤ S128x128.size a)
def k0_chk35_8 (v12 : BitVec 32) : Prop :=
  (∀ (k0_t10 : Fin (k0_t10_loop v12).trips) (k0_t11 : Fin k0_t11_loop.trips), ∀ a, (k0_off1037 v12 k0_t10 k0_t11) a + S1x16.size a ≤ S128x128.size a) ∧
  (∀ (k0_t10 : Fin (k0_t10_loop v12).trips) (k0_t11 : Fin k0_t11_loop.trips), ∀ a, (k0_off1039 v12 k0_t10 k0_t11) a + S1x16.size a ≤ S128x128.size a) ∧
  (∀ (k0_t10 : Fin (k0_t10_loop v12).trips) (k0_t11 : Fin k0_t11_loop.trips), ∀ a, (k0_off1041 v12 k0_t10 k0_t11) a + S1x16.size a ≤ S128x128.size a) ∧
  (∀ (k0_t10 : Fin (k0_t10_loop v12).trips) (k0_t11 : Fin k0_t11_loop.trips), ∀ a, (k0_off1043 v12 k0_t10 k0_t11) a + S1x16.size a ≤ S128x128.size a) ∧
  (∀ (k0_t10 : Fin (k0_t10_loop v12).trips) (k0_t11 : Fin k0_t11_loop.trips), ∀ a, (k0_off1045 v12 k0_t10 k0_t11) a + S1x16.size a ≤ S128x128.size a) ∧
  (∀ (k0_t10 : Fin (k0_t10_loop v12).trips) (k0_t11 : Fin k0_t11_loop.trips), ∀ a, (k0_off1047 v12 k0_t10 k0_t11) a + S1x16.size a ≤ S128x128.size a) ∧
  (∀ (k0_t10 : Fin (k0_t10_loop v12).trips) (k0_t11 : Fin k0_t11_loop.trips), ∀ a, (k0_off1049 v12 k0_t10 k0_t11) a + S1x16.size a ≤ S128x128.size a) ∧
  (∀ (k0_t10 : Fin (k0_t10_loop v12).trips) (k0_t11 : Fin k0_t11_loop.trips), ∀ a, (k0_off1051 v12 k0_t10 k0_t11) a + S1x16.size a ≤ S128x128.size a) ∧
  (∀ (k0_t10 : Fin (k0_t10_loop v12).trips) (k0_t11 : Fin k0_t11_loop.trips), ∀ a, (k0_off1053 v12 k0_t10 k0_t11) a + S1x16.size a ≤ S128x128.size a) ∧
  (∀ (k0_t10 : Fin (k0_t10_loop v12).trips) (k0_t11 : Fin k0_t11_loop.trips), ∀ a, (k0_off1055 v12 k0_t10 k0_t11) a + S1x16.size a ≤ S128x128.size a) ∧
  (∀ (k0_t10 : Fin (k0_t10_loop v12).trips) (k0_t11 : Fin k0_t11_loop.trips), ∀ a, (k0_off1057 v12 k0_t10 k0_t11) a + S1x16.size a ≤ S128x128.size a) ∧
  (∀ (k0_t10 : Fin (k0_t10_loop v12).trips) (k0_t11 : Fin k0_t11_loop.trips), ∀ a, (k0_off1059 v12 k0_t10 k0_t11) a + S1x16.size a ≤ S128x128.size a) ∧
  (∀ (k0_t10 : Fin (k0_t10_loop v12).trips) (k0_t11 : Fin k0_t11_loop.trips), ∀ a, (k0_off1061 v12 k0_t10 k0_t11) a + S1x16.size a ≤ S128x128.size a)
def k0_chk35 (v12 : BitVec 32) : Prop :=
  k0_chk35_0 v12 ∧
  k0_chk35_1 v12 ∧
  k0_chk35_2 v12 ∧
  k0_chk35_3 v12 ∧
  k0_chk35_4 v12 ∧
  k0_chk35_5 v12 ∧
  k0_chk35_6 v12 ∧
  k0_chk35_7 v12 ∧
  k0_chk35_8 v12
theorem k0_off539_inb : ∀ (v12 : BitVec 32) (k0_hw35 : k0_chk35 v12), ∀ (r : Fin 4), ∀ a, (k0_off539 v12 (BitVec.ofNat 32 (16 * r.val))) a + S16.size a ≤ S3272.size a := fun v12 k0_hw35 r => k0_hw35.1.1 r
theorem k0_t8_ok : ∀ (v12 : BitVec 32) (k0_hw35 : k0_chk35 v12), (k0_t8_loop v12).OK := fun v12 k0_hw35 => k0_hw35.1.2.1
theorem k0_off540_inb : ∀ (v12 : BitVec 32) (k0_hw35 : k0_chk35 v12) (k0_t8 : Fin (k0_t8_loop v12).trips), ∀ (k0_h12 : k0_cond12 v12 k0_t8 = 1#1), ∀ (k0_h13 : k0_cond13 v12 k0_t8 = 1#1), ∀ a, (k0_off540 v12 k0_t8) a + S64.size a ≤ S3272.size a := fun v12 k0_hw35 k0_t8 k0_h12 k0_h13 => k0_hw35.1.2.2.1 k0_t8 k0_h12 k0_h13
theorem k0_off541_inb : ∀ (v12 : BitVec 32) (k0_hw35 : k0_chk35 v12) (k0_t8 : Fin (k0_t8_loop v12).trips), ∀ (k0_h12 : k0_cond12 v12 k0_t8 = 1#1), ∀ (k0_h13 : ¬(k0_cond13 v12 k0_t8 = 1#1)), ∀ a, (k0_off541 v12 k0_t8) a + S64.size a ≤ S3272.size a := fun v12 k0_hw35 k0_t8 k0_h12 k0_h13 => k0_hw35.1.2.2.2.1 k0_t8 k0_h12 k0_h13
theorem k0_off542_inb : ∀ (v12 : BitVec 32) (k0_hw35 : k0_chk35 v12) (k0_t8 : Fin (k0_t8_loop v12).trips), ∀ (k0_h14 : k0_cond14 v12 k0_t8 = 1#1), ∀ a, (k0_off542 v12 k0_t8) a + S64.size a ≤ S3272.size a := fun v12 k0_hw35 k0_t8 k0_h14 => k0_hw35.1.2.2.2.2.1 k0_t8 k0_h14
theorem k0_off543_inb : ∀ (v12 : BitVec 32) (k0_hw35 : k0_chk35 v12) (k0_t8 : Fin (k0_t8_loop v12).trips), ∀ (k0_h14 : ¬(k0_cond14 v12 k0_t8 = 1#1)), ∀ a, (k0_off543 v12 k0_t8) a + S64.size a ≤ S3272.size a := fun v12 k0_hw35 k0_t8 k0_h14 => k0_hw35.1.2.2.2.2.2.1 k0_t8 k0_h14
theorem k0_off544_inb : ∀ (v12 : BitVec 32) (k0_hw35 : k0_chk35 v12) (k0_t8 : Fin (k0_t8_loop v12).trips) (k0_t9 : Fin k0_t9_loop.trips), ∀ a, (k0_off544 v12 k0_t8 k0_t9) a + S16.size a ≤ S3272.size a := fun v12 k0_hw35 k0_t8 k0_t9 => k0_hw35.1.2.2.2.2.2.2.1 k0_t8 k0_t9
theorem k0_off546_inb : ∀ (v12 : BitVec 32) (k0_hw35 : k0_chk35 v12) (k0_t8 : Fin (k0_t8_loop v12).trips) (k0_t9 : Fin k0_t9_loop.trips), ∀ a, (k0_off546 v12 k0_t8 k0_t9) a + S1x16.size a ≤ S128x128.size a := fun v12 k0_hw35 k0_t8 k0_t9 => k0_hw35.1.2.2.2.2.2.2.2.1 k0_t8 k0_t9
theorem k0_off548_inb : ∀ (v12 : BitVec 32) (k0_hw35 : k0_chk35 v12) (k0_t8 : Fin (k0_t8_loop v12).trips) (k0_t9 : Fin k0_t9_loop.trips), ∀ a, (k0_off548 v12 k0_t8 k0_t9) a + S1x16.size a ≤ S128x128.size a := fun v12 k0_hw35 k0_t8 k0_t9 => k0_hw35.1.2.2.2.2.2.2.2.2.1 k0_t8 k0_t9
theorem k0_off550_inb : ∀ (v12 : BitVec 32) (k0_hw35 : k0_chk35 v12) (k0_t8 : Fin (k0_t8_loop v12).trips) (k0_t9 : Fin k0_t9_loop.trips), ∀ a, (k0_off550 v12 k0_t8 k0_t9) a + S1x16.size a ≤ S128x128.size a := fun v12 k0_hw35 k0_t8 k0_t9 => k0_hw35.1.2.2.2.2.2.2.2.2.2.1 k0_t8 k0_t9
theorem k0_off552_inb : ∀ (v12 : BitVec 32) (k0_hw35 : k0_chk35 v12) (k0_t8 : Fin (k0_t8_loop v12).trips) (k0_t9 : Fin k0_t9_loop.trips), ∀ a, (k0_off552 v12 k0_t8 k0_t9) a + S1x16.size a ≤ S128x128.size a := fun v12 k0_hw35 k0_t8 k0_t9 => k0_hw35.1.2.2.2.2.2.2.2.2.2.2.1 k0_t8 k0_t9
theorem k0_off554_inb : ∀ (v12 : BitVec 32) (k0_hw35 : k0_chk35 v12) (k0_t8 : Fin (k0_t8_loop v12).trips) (k0_t9 : Fin k0_t9_loop.trips), ∀ a, (k0_off554 v12 k0_t8 k0_t9) a + S1x16.size a ≤ S128x128.size a := fun v12 k0_hw35 k0_t8 k0_t9 => k0_hw35.1.2.2.2.2.2.2.2.2.2.2.2.1 k0_t8 k0_t9
theorem k0_off556_inb : ∀ (v12 : BitVec 32) (k0_hw35 : k0_chk35 v12) (k0_t8 : Fin (k0_t8_loop v12).trips) (k0_t9 : Fin k0_t9_loop.trips), ∀ a, (k0_off556 v12 k0_t8 k0_t9) a + S1x16.size a ≤ S128x128.size a := fun v12 k0_hw35 k0_t8 k0_t9 => k0_hw35.1.2.2.2.2.2.2.2.2.2.2.2.2.1 k0_t8 k0_t9
theorem k0_off558_inb : ∀ (v12 : BitVec 32) (k0_hw35 : k0_chk35 v12) (k0_t8 : Fin (k0_t8_loop v12).trips) (k0_t9 : Fin k0_t9_loop.trips), ∀ a, (k0_off558 v12 k0_t8 k0_t9) a + S1x16.size a ≤ S128x128.size a := fun v12 k0_hw35 k0_t8 k0_t9 => k0_hw35.1.2.2.2.2.2.2.2.2.2.2.2.2.2.1 k0_t8 k0_t9
theorem k0_off560_inb : ∀ (v12 : BitVec 32) (k0_hw35 : k0_chk35 v12) (k0_t8 : Fin (k0_t8_loop v12).trips) (k0_t9 : Fin k0_t9_loop.trips), ∀ a, (k0_off560 v12 k0_t8 k0_t9) a + S1x16.size a ≤ S128x128.size a := fun v12 k0_hw35 k0_t8 k0_t9 => k0_hw35.1.2.2.2.2.2.2.2.2.2.2.2.2.2.2.1 k0_t8 k0_t9
theorem k0_off562_inb : ∀ (v12 : BitVec 32) (k0_hw35 : k0_chk35 v12) (k0_t8 : Fin (k0_t8_loop v12).trips) (k0_t9 : Fin k0_t9_loop.trips), ∀ a, (k0_off562 v12 k0_t8 k0_t9) a + S1x16.size a ≤ S128x128.size a := fun v12 k0_hw35 k0_t8 k0_t9 => k0_hw35.1.2.2.2.2.2.2.2.2.2.2.2.2.2.2.2.1 k0_t8 k0_t9
theorem k0_off564_inb : ∀ (v12 : BitVec 32) (k0_hw35 : k0_chk35 v12) (k0_t8 : Fin (k0_t8_loop v12).trips) (k0_t9 : Fin k0_t9_loop.trips), ∀ a, (k0_off564 v12 k0_t8 k0_t9) a + S1x16.size a ≤ S128x128.size a := fun v12 k0_hw35 k0_t8 k0_t9 => k0_hw35.1.2.2.2.2.2.2.2.2.2.2.2.2.2.2.2.2.1 k0_t8 k0_t9
theorem k0_off566_inb : ∀ (v12 : BitVec 32) (k0_hw35 : k0_chk35 v12) (k0_t8 : Fin (k0_t8_loop v12).trips) (k0_t9 : Fin k0_t9_loop.trips), ∀ a, (k0_off566 v12 k0_t8 k0_t9) a + S1x16.size a ≤ S128x128.size a := fun v12 k0_hw35 k0_t8 k0_t9 => k0_hw35.1.2.2.2.2.2.2.2.2.2.2.2.2.2.2.2.2.2.1 k0_t8 k0_t9
theorem k0_off568_inb : ∀ (v12 : BitVec 32) (k0_hw35 : k0_chk35 v12) (k0_t8 : Fin (k0_t8_loop v12).trips) (k0_t9 : Fin k0_t9_loop.trips), ∀ a, (k0_off568 v12 k0_t8 k0_t9) a + S1x16.size a ≤ S128x128.size a := fun v12 k0_hw35 k0_t8 k0_t9 => k0_hw35.1.2.2.2.2.2.2.2.2.2.2.2.2.2.2.2.2.2.2.1 k0_t8 k0_t9
theorem k0_off570_inb : ∀ (v12 : BitVec 32) (k0_hw35 : k0_chk35 v12) (k0_t8 : Fin (k0_t8_loop v12).trips) (k0_t9 : Fin k0_t9_loop.trips), ∀ a, (k0_off570 v12 k0_t8 k0_t9) a + S1x16.size a ≤ S128x128.size a := fun v12 k0_hw35 k0_t8 k0_t9 => k0_hw35.1.2.2.2.2.2.2.2.2.2.2.2.2.2.2.2.2.2.2.2.1 k0_t8 k0_t9
theorem k0_off572_inb : ∀ (v12 : BitVec 32) (k0_hw35 : k0_chk35 v12) (k0_t8 : Fin (k0_t8_loop v12).trips) (k0_t9 : Fin k0_t9_loop.trips), ∀ a, (k0_off572 v12 k0_t8 k0_t9) a + S1x16.size a ≤ S128x128.size a := fun v12 k0_hw35 k0_t8 k0_t9 => k0_hw35.1.2.2.2.2.2.2.2.2.2.2.2.2.2.2.2.2.2.2.2.2.1 k0_t8 k0_t9
theorem k0_off574_inb : ∀ (v12 : BitVec 32) (k0_hw35 : k0_chk35 v12) (k0_t8 : Fin (k0_t8_loop v12).trips) (k0_t9 : Fin k0_t9_loop.trips), ∀ a, (k0_off574 v12 k0_t8 k0_t9) a + S1x16.size a ≤ S128x128.size a := fun v12 k0_hw35 k0_t8 k0_t9 => k0_hw35.1.2.2.2.2.2.2.2.2.2.2.2.2.2.2.2.2.2.2.2.2.2.1 k0_t8 k0_t9
theorem k0_off576_inb : ∀ (v12 : BitVec 32) (k0_hw35 : k0_chk35 v12) (k0_t8 : Fin (k0_t8_loop v12).trips) (k0_t9 : Fin k0_t9_loop.trips), ∀ a, (k0_off576 v12 k0_t8 k0_t9) a + S1x16.size a ≤ S128x128.size a := fun v12 k0_hw35 k0_t8 k0_t9 => k0_hw35.1.2.2.2.2.2.2.2.2.2.2.2.2.2.2.2.2.2.2.2.2.2.2.1 k0_t8 k0_t9
theorem k0_off578_inb : ∀ (v12 : BitVec 32) (k0_hw35 : k0_chk35 v12) (k0_t8 : Fin (k0_t8_loop v12).trips) (k0_t9 : Fin k0_t9_loop.trips), ∀ a, (k0_off578 v12 k0_t8 k0_t9) a + S1x16.size a ≤ S128x128.size a := fun v12 k0_hw35 k0_t8 k0_t9 => k0_hw35.1.2.2.2.2.2.2.2.2.2.2.2.2.2.2.2.2.2.2.2.2.2.2.2.1 k0_t8 k0_t9
theorem k0_off580_inb : ∀ (v12 : BitVec 32) (k0_hw35 : k0_chk35 v12) (k0_t8 : Fin (k0_t8_loop v12).trips) (k0_t9 : Fin k0_t9_loop.trips), ∀ a, (k0_off580 v12 k0_t8 k0_t9) a + S1x16.size a ≤ S128x128.size a := fun v12 k0_hw35 k0_t8 k0_t9 => k0_hw35.1.2.2.2.2.2.2.2.2.2.2.2.2.2.2.2.2.2.2.2.2.2.2.2.2.1 k0_t8 k0_t9
theorem k0_off582_inb : ∀ (v12 : BitVec 32) (k0_hw35 : k0_chk35 v12) (k0_t8 : Fin (k0_t8_loop v12).trips) (k0_t9 : Fin k0_t9_loop.trips), ∀ a, (k0_off582 v12 k0_t8 k0_t9) a + S1x16.size a ≤ S128x128.size a := fun v12 k0_hw35 k0_t8 k0_t9 => k0_hw35.1.2.2.2.2.2.2.2.2.2.2.2.2.2.2.2.2.2.2.2.2.2.2.2.2.2.1 k0_t8 k0_t9
theorem k0_off584_inb : ∀ (v12 : BitVec 32) (k0_hw35 : k0_chk35 v12) (k0_t8 : Fin (k0_t8_loop v12).trips) (k0_t9 : Fin k0_t9_loop.trips), ∀ a, (k0_off584 v12 k0_t8 k0_t9) a + S1x16.size a ≤ S128x128.size a := fun v12 k0_hw35 k0_t8 k0_t9 => k0_hw35.1.2.2.2.2.2.2.2.2.2.2.2.2.2.2.2.2.2.2.2.2.2.2.2.2.2.2.1 k0_t8 k0_t9
theorem k0_off586_inb : ∀ (v12 : BitVec 32) (k0_hw35 : k0_chk35 v12) (k0_t8 : Fin (k0_t8_loop v12).trips) (k0_t9 : Fin k0_t9_loop.trips), ∀ a, (k0_off586 v12 k0_t8 k0_t9) a + S1x16.size a ≤ S128x128.size a := fun v12 k0_hw35 k0_t8 k0_t9 => k0_hw35.1.2.2.2.2.2.2.2.2.2.2.2.2.2.2.2.2.2.2.2.2.2.2.2.2.2.2.2.1 k0_t8 k0_t9
theorem k0_off588_inb : ∀ (v12 : BitVec 32) (k0_hw35 : k0_chk35 v12) (k0_t8 : Fin (k0_t8_loop v12).trips) (k0_t9 : Fin k0_t9_loop.trips), ∀ a, (k0_off588 v12 k0_t8 k0_t9) a + S1x16.size a ≤ S128x128.size a := fun v12 k0_hw35 k0_t8 k0_t9 => k0_hw35.1.2.2.2.2.2.2.2.2.2.2.2.2.2.2.2.2.2.2.2.2.2.2.2.2.2.2.2.2.1 k0_t8 k0_t9
theorem k0_off590_inb : ∀ (v12 : BitVec 32) (k0_hw35 : k0_chk35 v12) (k0_t8 : Fin (k0_t8_loop v12).trips) (k0_t9 : Fin k0_t9_loop.trips), ∀ a, (k0_off590 v12 k0_t8 k0_t9) a + S1x16.size a ≤ S128x128.size a := fun v12 k0_hw35 k0_t8 k0_t9 => k0_hw35.1.2.2.2.2.2.2.2.2.2.2.2.2.2.2.2.2.2.2.2.2.2.2.2.2.2.2.2.2.2.1 k0_t8 k0_t9
theorem k0_off592_inb : ∀ (v12 : BitVec 32) (k0_hw35 : k0_chk35 v12) (k0_t8 : Fin (k0_t8_loop v12).trips) (k0_t9 : Fin k0_t9_loop.trips), ∀ a, (k0_off592 v12 k0_t8 k0_t9) a + S1x16.size a ≤ S128x128.size a := fun v12 k0_hw35 k0_t8 k0_t9 => k0_hw35.1.2.2.2.2.2.2.2.2.2.2.2.2.2.2.2.2.2.2.2.2.2.2.2.2.2.2.2.2.2.2.1 k0_t8 k0_t9
theorem k0_off594_inb : ∀ (v12 : BitVec 32) (k0_hw35 : k0_chk35 v12) (k0_t8 : Fin (k0_t8_loop v12).trips) (k0_t9 : Fin k0_t9_loop.trips), ∀ a, (k0_off594 v12 k0_t8 k0_t9) a + S1x16.size a ≤ S128x128.size a := fun v12 k0_hw35 k0_t8 k0_t9 => k0_hw35.1.2.2.2.2.2.2.2.2.2.2.2.2.2.2.2.2.2.2.2.2.2.2.2.2.2.2.2.2.2.2.2 k0_t8 k0_t9
theorem k0_off596_inb : ∀ (v12 : BitVec 32) (k0_hw35 : k0_chk35 v12) (k0_t8 : Fin (k0_t8_loop v12).trips) (k0_t9 : Fin k0_t9_loop.trips), ∀ a, (k0_off596 v12 k0_t8 k0_t9) a + S1x16.size a ≤ S128x128.size a := fun v12 k0_hw35 k0_t8 k0_t9 => k0_hw35.2.1.1 k0_t8 k0_t9
theorem k0_off598_inb : ∀ (v12 : BitVec 32) (k0_hw35 : k0_chk35 v12) (k0_t8 : Fin (k0_t8_loop v12).trips) (k0_t9 : Fin k0_t9_loop.trips), ∀ a, (k0_off598 v12 k0_t8 k0_t9) a + S1x16.size a ≤ S128x128.size a := fun v12 k0_hw35 k0_t8 k0_t9 => k0_hw35.2.1.2.1 k0_t8 k0_t9
theorem k0_off600_inb : ∀ (v12 : BitVec 32) (k0_hw35 : k0_chk35 v12) (k0_t8 : Fin (k0_t8_loop v12).trips) (k0_t9 : Fin k0_t9_loop.trips), ∀ a, (k0_off600 v12 k0_t8 k0_t9) a + S1x16.size a ≤ S128x128.size a := fun v12 k0_hw35 k0_t8 k0_t9 => k0_hw35.2.1.2.2.1 k0_t8 k0_t9
theorem k0_off602_inb : ∀ (v12 : BitVec 32) (k0_hw35 : k0_chk35 v12) (k0_t8 : Fin (k0_t8_loop v12).trips) (k0_t9 : Fin k0_t9_loop.trips), ∀ a, (k0_off602 v12 k0_t8 k0_t9) a + S1x16.size a ≤ S128x128.size a := fun v12 k0_hw35 k0_t8 k0_t9 => k0_hw35.2.1.2.2.2.1 k0_t8 k0_t9
theorem k0_off604_inb : ∀ (v12 : BitVec 32) (k0_hw35 : k0_chk35 v12) (k0_t8 : Fin (k0_t8_loop v12).trips) (k0_t9 : Fin k0_t9_loop.trips), ∀ a, (k0_off604 v12 k0_t8 k0_t9) a + S1x16.size a ≤ S128x128.size a := fun v12 k0_hw35 k0_t8 k0_t9 => k0_hw35.2.1.2.2.2.2.1 k0_t8 k0_t9
theorem k0_off606_inb : ∀ (v12 : BitVec 32) (k0_hw35 : k0_chk35 v12) (k0_t8 : Fin (k0_t8_loop v12).trips) (k0_t9 : Fin k0_t9_loop.trips), ∀ a, (k0_off606 v12 k0_t8 k0_t9) a + S1x16.size a ≤ S128x128.size a := fun v12 k0_hw35 k0_t8 k0_t9 => k0_hw35.2.1.2.2.2.2.2.1 k0_t8 k0_t9
theorem k0_off608_inb : ∀ (v12 : BitVec 32) (k0_hw35 : k0_chk35 v12) (k0_t8 : Fin (k0_t8_loop v12).trips) (k0_t9 : Fin k0_t9_loop.trips), ∀ a, (k0_off608 v12 k0_t8 k0_t9) a + S1x16.size a ≤ S128x128.size a := fun v12 k0_hw35 k0_t8 k0_t9 => k0_hw35.2.1.2.2.2.2.2.2.1 k0_t8 k0_t9
theorem k0_off610_inb : ∀ (v12 : BitVec 32) (k0_hw35 : k0_chk35 v12) (k0_t8 : Fin (k0_t8_loop v12).trips) (k0_t9 : Fin k0_t9_loop.trips), ∀ a, (k0_off610 v12 k0_t8 k0_t9) a + S1x16.size a ≤ S128x128.size a := fun v12 k0_hw35 k0_t8 k0_t9 => k0_hw35.2.1.2.2.2.2.2.2.2.1 k0_t8 k0_t9
theorem k0_off612_inb : ∀ (v12 : BitVec 32) (k0_hw35 : k0_chk35 v12) (k0_t8 : Fin (k0_t8_loop v12).trips) (k0_t9 : Fin k0_t9_loop.trips), ∀ a, (k0_off612 v12 k0_t8 k0_t9) a + S1x16.size a ≤ S128x128.size a := fun v12 k0_hw35 k0_t8 k0_t9 => k0_hw35.2.1.2.2.2.2.2.2.2.2.1 k0_t8 k0_t9
theorem k0_off614_inb : ∀ (v12 : BitVec 32) (k0_hw35 : k0_chk35 v12) (k0_t8 : Fin (k0_t8_loop v12).trips) (k0_t9 : Fin k0_t9_loop.trips), ∀ a, (k0_off614 v12 k0_t8 k0_t9) a + S1x16.size a ≤ S128x128.size a := fun v12 k0_hw35 k0_t8 k0_t9 => k0_hw35.2.1.2.2.2.2.2.2.2.2.2.1 k0_t8 k0_t9
theorem k0_off616_inb : ∀ (v12 : BitVec 32) (k0_hw35 : k0_chk35 v12) (k0_t8 : Fin (k0_t8_loop v12).trips) (k0_t9 : Fin k0_t9_loop.trips), ∀ a, (k0_off616 v12 k0_t8 k0_t9) a + S1x16.size a ≤ S128x128.size a := fun v12 k0_hw35 k0_t8 k0_t9 => k0_hw35.2.1.2.2.2.2.2.2.2.2.2.2.1 k0_t8 k0_t9
theorem k0_off618_inb : ∀ (v12 : BitVec 32) (k0_hw35 : k0_chk35 v12) (k0_t8 : Fin (k0_t8_loop v12).trips) (k0_t9 : Fin k0_t9_loop.trips), ∀ a, (k0_off618 v12 k0_t8 k0_t9) a + S1x16.size a ≤ S128x128.size a := fun v12 k0_hw35 k0_t8 k0_t9 => k0_hw35.2.1.2.2.2.2.2.2.2.2.2.2.2.1 k0_t8 k0_t9
theorem k0_off620_inb : ∀ (v12 : BitVec 32) (k0_hw35 : k0_chk35 v12) (k0_t8 : Fin (k0_t8_loop v12).trips) (k0_t9 : Fin k0_t9_loop.trips), ∀ a, (k0_off620 v12 k0_t8 k0_t9) a + S1x16.size a ≤ S128x128.size a := fun v12 k0_hw35 k0_t8 k0_t9 => k0_hw35.2.1.2.2.2.2.2.2.2.2.2.2.2.2.1 k0_t8 k0_t9
theorem k0_off622_inb : ∀ (v12 : BitVec 32) (k0_hw35 : k0_chk35 v12) (k0_t8 : Fin (k0_t8_loop v12).trips) (k0_t9 : Fin k0_t9_loop.trips), ∀ a, (k0_off622 v12 k0_t8 k0_t9) a + S1x16.size a ≤ S128x128.size a := fun v12 k0_hw35 k0_t8 k0_t9 => k0_hw35.2.1.2.2.2.2.2.2.2.2.2.2.2.2.2.1 k0_t8 k0_t9
theorem k0_off624_inb : ∀ (v12 : BitVec 32) (k0_hw35 : k0_chk35 v12) (k0_t8 : Fin (k0_t8_loop v12).trips) (k0_t9 : Fin k0_t9_loop.trips), ∀ a, (k0_off624 v12 k0_t8 k0_t9) a + S1x16.size a ≤ S128x128.size a := fun v12 k0_hw35 k0_t8 k0_t9 => k0_hw35.2.1.2.2.2.2.2.2.2.2.2.2.2.2.2.2.1 k0_t8 k0_t9
theorem k0_off626_inb : ∀ (v12 : BitVec 32) (k0_hw35 : k0_chk35 v12) (k0_t8 : Fin (k0_t8_loop v12).trips) (k0_t9 : Fin k0_t9_loop.trips), ∀ a, (k0_off626 v12 k0_t8 k0_t9) a + S1x16.size a ≤ S128x128.size a := fun v12 k0_hw35 k0_t8 k0_t9 => k0_hw35.2.1.2.2.2.2.2.2.2.2.2.2.2.2.2.2.2.1 k0_t8 k0_t9
theorem k0_off628_inb : ∀ (v12 : BitVec 32) (k0_hw35 : k0_chk35 v12) (k0_t8 : Fin (k0_t8_loop v12).trips) (k0_t9 : Fin k0_t9_loop.trips), ∀ a, (k0_off628 v12 k0_t8 k0_t9) a + S1x16.size a ≤ S128x128.size a := fun v12 k0_hw35 k0_t8 k0_t9 => k0_hw35.2.1.2.2.2.2.2.2.2.2.2.2.2.2.2.2.2.2.1 k0_t8 k0_t9
theorem k0_off630_inb : ∀ (v12 : BitVec 32) (k0_hw35 : k0_chk35 v12) (k0_t8 : Fin (k0_t8_loop v12).trips) (k0_t9 : Fin k0_t9_loop.trips), ∀ a, (k0_off630 v12 k0_t8 k0_t9) a + S1x16.size a ≤ S128x128.size a := fun v12 k0_hw35 k0_t8 k0_t9 => k0_hw35.2.1.2.2.2.2.2.2.2.2.2.2.2.2.2.2.2.2.2.1 k0_t8 k0_t9
theorem k0_off632_inb : ∀ (v12 : BitVec 32) (k0_hw35 : k0_chk35 v12) (k0_t8 : Fin (k0_t8_loop v12).trips) (k0_t9 : Fin k0_t9_loop.trips), ∀ a, (k0_off632 v12 k0_t8 k0_t9) a + S1x16.size a ≤ S128x128.size a := fun v12 k0_hw35 k0_t8 k0_t9 => k0_hw35.2.1.2.2.2.2.2.2.2.2.2.2.2.2.2.2.2.2.2.2.1 k0_t8 k0_t9
theorem k0_off634_inb : ∀ (v12 : BitVec 32) (k0_hw35 : k0_chk35 v12) (k0_t8 : Fin (k0_t8_loop v12).trips) (k0_t9 : Fin k0_t9_loop.trips), ∀ a, (k0_off634 v12 k0_t8 k0_t9) a + S1x16.size a ≤ S128x128.size a := fun v12 k0_hw35 k0_t8 k0_t9 => k0_hw35.2.1.2.2.2.2.2.2.2.2.2.2.2.2.2.2.2.2.2.2.2.1 k0_t8 k0_t9
theorem k0_off636_inb : ∀ (v12 : BitVec 32) (k0_hw35 : k0_chk35 v12) (k0_t8 : Fin (k0_t8_loop v12).trips) (k0_t9 : Fin k0_t9_loop.trips), ∀ a, (k0_off636 v12 k0_t8 k0_t9) a + S1x16.size a ≤ S128x128.size a := fun v12 k0_hw35 k0_t8 k0_t9 => k0_hw35.2.1.2.2.2.2.2.2.2.2.2.2.2.2.2.2.2.2.2.2.2.2.1 k0_t8 k0_t9
theorem k0_off638_inb : ∀ (v12 : BitVec 32) (k0_hw35 : k0_chk35 v12) (k0_t8 : Fin (k0_t8_loop v12).trips) (k0_t9 : Fin k0_t9_loop.trips), ∀ a, (k0_off638 v12 k0_t8 k0_t9) a + S1x16.size a ≤ S128x128.size a := fun v12 k0_hw35 k0_t8 k0_t9 => k0_hw35.2.1.2.2.2.2.2.2.2.2.2.2.2.2.2.2.2.2.2.2.2.2.2.1 k0_t8 k0_t9
theorem k0_off640_inb : ∀ (v12 : BitVec 32) (k0_hw35 : k0_chk35 v12) (k0_t8 : Fin (k0_t8_loop v12).trips) (k0_t9 : Fin k0_t9_loop.trips), ∀ a, (k0_off640 v12 k0_t8 k0_t9) a + S1x16.size a ≤ S128x128.size a := fun v12 k0_hw35 k0_t8 k0_t9 => k0_hw35.2.1.2.2.2.2.2.2.2.2.2.2.2.2.2.2.2.2.2.2.2.2.2.2.1 k0_t8 k0_t9
theorem k0_off642_inb : ∀ (v12 : BitVec 32) (k0_hw35 : k0_chk35 v12) (k0_t8 : Fin (k0_t8_loop v12).trips) (k0_t9 : Fin k0_t9_loop.trips), ∀ a, (k0_off642 v12 k0_t8 k0_t9) a + S1x16.size a ≤ S128x128.size a := fun v12 k0_hw35 k0_t8 k0_t9 => k0_hw35.2.1.2.2.2.2.2.2.2.2.2.2.2.2.2.2.2.2.2.2.2.2.2.2.2.1 k0_t8 k0_t9
theorem k0_off644_inb : ∀ (v12 : BitVec 32) (k0_hw35 : k0_chk35 v12) (k0_t8 : Fin (k0_t8_loop v12).trips) (k0_t9 : Fin k0_t9_loop.trips), ∀ a, (k0_off644 v12 k0_t8 k0_t9) a + S1x16.size a ≤ S128x128.size a := fun v12 k0_hw35 k0_t8 k0_t9 => k0_hw35.2.1.2.2.2.2.2.2.2.2.2.2.2.2.2.2.2.2.2.2.2.2.2.2.2.2.1 k0_t8 k0_t9
theorem k0_off646_inb : ∀ (v12 : BitVec 32) (k0_hw35 : k0_chk35 v12) (k0_t8 : Fin (k0_t8_loop v12).trips) (k0_t9 : Fin k0_t9_loop.trips), ∀ a, (k0_off646 v12 k0_t8 k0_t9) a + S1x16.size a ≤ S128x128.size a := fun v12 k0_hw35 k0_t8 k0_t9 => k0_hw35.2.1.2.2.2.2.2.2.2.2.2.2.2.2.2.2.2.2.2.2.2.2.2.2.2.2.2.1 k0_t8 k0_t9
theorem k0_off648_inb : ∀ (v12 : BitVec 32) (k0_hw35 : k0_chk35 v12) (k0_t8 : Fin (k0_t8_loop v12).trips) (k0_t9 : Fin k0_t9_loop.trips), ∀ a, (k0_off648 v12 k0_t8 k0_t9) a + S1x16.size a ≤ S128x128.size a := fun v12 k0_hw35 k0_t8 k0_t9 => k0_hw35.2.1.2.2.2.2.2.2.2.2.2.2.2.2.2.2.2.2.2.2.2.2.2.2.2.2.2.2.1 k0_t8 k0_t9
theorem k0_off650_inb : ∀ (v12 : BitVec 32) (k0_hw35 : k0_chk35 v12) (k0_t8 : Fin (k0_t8_loop v12).trips) (k0_t9 : Fin k0_t9_loop.trips), ∀ a, (k0_off650 v12 k0_t8 k0_t9) a + S1x16.size a ≤ S128x128.size a := fun v12 k0_hw35 k0_t8 k0_t9 => k0_hw35.2.1.2.2.2.2.2.2.2.2.2.2.2.2.2.2.2.2.2.2.2.2.2.2.2.2.2.2.2.1 k0_t8 k0_t9
theorem k0_off652_inb : ∀ (v12 : BitVec 32) (k0_hw35 : k0_chk35 v12) (k0_t8 : Fin (k0_t8_loop v12).trips) (k0_t9 : Fin k0_t9_loop.trips), ∀ a, (k0_off652 v12 k0_t8 k0_t9) a + S1x16.size a ≤ S128x128.size a := fun v12 k0_hw35 k0_t8 k0_t9 => k0_hw35.2.1.2.2.2.2.2.2.2.2.2.2.2.2.2.2.2.2.2.2.2.2.2.2.2.2.2.2.2.2.1 k0_t8 k0_t9
theorem k0_off654_inb : ∀ (v12 : BitVec 32) (k0_hw35 : k0_chk35 v12) (k0_t8 : Fin (k0_t8_loop v12).trips) (k0_t9 : Fin k0_t9_loop.trips), ∀ a, (k0_off654 v12 k0_t8 k0_t9) a + S1x16.size a ≤ S128x128.size a := fun v12 k0_hw35 k0_t8 k0_t9 => k0_hw35.2.1.2.2.2.2.2.2.2.2.2.2.2.2.2.2.2.2.2.2.2.2.2.2.2.2.2.2.2.2.2.1 k0_t8 k0_t9
theorem k0_off656_inb : ∀ (v12 : BitVec 32) (k0_hw35 : k0_chk35 v12) (k0_t8 : Fin (k0_t8_loop v12).trips) (k0_t9 : Fin k0_t9_loop.trips), ∀ a, (k0_off656 v12 k0_t8 k0_t9) a + S1x16.size a ≤ S128x128.size a := fun v12 k0_hw35 k0_t8 k0_t9 => k0_hw35.2.1.2.2.2.2.2.2.2.2.2.2.2.2.2.2.2.2.2.2.2.2.2.2.2.2.2.2.2.2.2.2.1 k0_t8 k0_t9
theorem k0_off658_inb : ∀ (v12 : BitVec 32) (k0_hw35 : k0_chk35 v12) (k0_t8 : Fin (k0_t8_loop v12).trips) (k0_t9 : Fin k0_t9_loop.trips), ∀ a, (k0_off658 v12 k0_t8 k0_t9) a + S1x16.size a ≤ S128x128.size a := fun v12 k0_hw35 k0_t8 k0_t9 => k0_hw35.2.1.2.2.2.2.2.2.2.2.2.2.2.2.2.2.2.2.2.2.2.2.2.2.2.2.2.2.2.2.2.2.2 k0_t8 k0_t9
theorem k0_off660_inb : ∀ (v12 : BitVec 32) (k0_hw35 : k0_chk35 v12) (k0_t8 : Fin (k0_t8_loop v12).trips) (k0_t9 : Fin k0_t9_loop.trips), ∀ a, (k0_off660 v12 k0_t8 k0_t9) a + S1x16.size a ≤ S128x128.size a := fun v12 k0_hw35 k0_t8 k0_t9 => k0_hw35.2.2.1.1 k0_t8 k0_t9
theorem k0_off662_inb : ∀ (v12 : BitVec 32) (k0_hw35 : k0_chk35 v12) (k0_t8 : Fin (k0_t8_loop v12).trips) (k0_t9 : Fin k0_t9_loop.trips), ∀ a, (k0_off662 v12 k0_t8 k0_t9) a + S1x16.size a ≤ S128x128.size a := fun v12 k0_hw35 k0_t8 k0_t9 => k0_hw35.2.2.1.2.1 k0_t8 k0_t9
theorem k0_off664_inb : ∀ (v12 : BitVec 32) (k0_hw35 : k0_chk35 v12) (k0_t8 : Fin (k0_t8_loop v12).trips) (k0_t9 : Fin k0_t9_loop.trips), ∀ a, (k0_off664 v12 k0_t8 k0_t9) a + S1x16.size a ≤ S128x128.size a := fun v12 k0_hw35 k0_t8 k0_t9 => k0_hw35.2.2.1.2.2.1 k0_t8 k0_t9
theorem k0_off666_inb : ∀ (v12 : BitVec 32) (k0_hw35 : k0_chk35 v12) (k0_t8 : Fin (k0_t8_loop v12).trips) (k0_t9 : Fin k0_t9_loop.trips), ∀ a, (k0_off666 v12 k0_t8 k0_t9) a + S1x16.size a ≤ S128x128.size a := fun v12 k0_hw35 k0_t8 k0_t9 => k0_hw35.2.2.1.2.2.2.1 k0_t8 k0_t9
theorem k0_off668_inb : ∀ (v12 : BitVec 32) (k0_hw35 : k0_chk35 v12) (k0_t8 : Fin (k0_t8_loop v12).trips) (k0_t9 : Fin k0_t9_loop.trips), ∀ a, (k0_off668 v12 k0_t8 k0_t9) a + S1x16.size a ≤ S128x128.size a := fun v12 k0_hw35 k0_t8 k0_t9 => k0_hw35.2.2.1.2.2.2.2.1 k0_t8 k0_t9
theorem k0_off670_inb : ∀ (v12 : BitVec 32) (k0_hw35 : k0_chk35 v12) (k0_t8 : Fin (k0_t8_loop v12).trips) (k0_t9 : Fin k0_t9_loop.trips), ∀ a, (k0_off670 v12 k0_t8 k0_t9) a + S1x16.size a ≤ S128x128.size a := fun v12 k0_hw35 k0_t8 k0_t9 => k0_hw35.2.2.1.2.2.2.2.2.1 k0_t8 k0_t9
theorem k0_off672_inb : ∀ (v12 : BitVec 32) (k0_hw35 : k0_chk35 v12) (k0_t8 : Fin (k0_t8_loop v12).trips) (k0_t9 : Fin k0_t9_loop.trips), ∀ a, (k0_off672 v12 k0_t8 k0_t9) a + S1x16.size a ≤ S128x128.size a := fun v12 k0_hw35 k0_t8 k0_t9 => k0_hw35.2.2.1.2.2.2.2.2.2.1 k0_t8 k0_t9
theorem k0_off674_inb : ∀ (v12 : BitVec 32) (k0_hw35 : k0_chk35 v12) (k0_t8 : Fin (k0_t8_loop v12).trips) (k0_t9 : Fin k0_t9_loop.trips), ∀ a, (k0_off674 v12 k0_t8 k0_t9) a + S1x16.size a ≤ S128x128.size a := fun v12 k0_hw35 k0_t8 k0_t9 => k0_hw35.2.2.1.2.2.2.2.2.2.2.1 k0_t8 k0_t9
theorem k0_off676_inb : ∀ (v12 : BitVec 32) (k0_hw35 : k0_chk35 v12) (k0_t8 : Fin (k0_t8_loop v12).trips) (k0_t9 : Fin k0_t9_loop.trips), ∀ a, (k0_off676 v12 k0_t8 k0_t9) a + S1x16.size a ≤ S128x128.size a := fun v12 k0_hw35 k0_t8 k0_t9 => k0_hw35.2.2.1.2.2.2.2.2.2.2.2.1 k0_t8 k0_t9
theorem k0_off678_inb : ∀ (v12 : BitVec 32) (k0_hw35 : k0_chk35 v12) (k0_t8 : Fin (k0_t8_loop v12).trips) (k0_t9 : Fin k0_t9_loop.trips), ∀ a, (k0_off678 v12 k0_t8 k0_t9) a + S1x16.size a ≤ S128x128.size a := fun v12 k0_hw35 k0_t8 k0_t9 => k0_hw35.2.2.1.2.2.2.2.2.2.2.2.2.1 k0_t8 k0_t9
theorem k0_off680_inb : ∀ (v12 : BitVec 32) (k0_hw35 : k0_chk35 v12) (k0_t8 : Fin (k0_t8_loop v12).trips) (k0_t9 : Fin k0_t9_loop.trips), ∀ a, (k0_off680 v12 k0_t8 k0_t9) a + S1x16.size a ≤ S128x128.size a := fun v12 k0_hw35 k0_t8 k0_t9 => k0_hw35.2.2.1.2.2.2.2.2.2.2.2.2.2.1 k0_t8 k0_t9
theorem k0_off682_inb : ∀ (v12 : BitVec 32) (k0_hw35 : k0_chk35 v12) (k0_t8 : Fin (k0_t8_loop v12).trips) (k0_t9 : Fin k0_t9_loop.trips), ∀ a, (k0_off682 v12 k0_t8 k0_t9) a + S1x16.size a ≤ S128x128.size a := fun v12 k0_hw35 k0_t8 k0_t9 => k0_hw35.2.2.1.2.2.2.2.2.2.2.2.2.2.2.1 k0_t8 k0_t9
theorem k0_off684_inb : ∀ (v12 : BitVec 32) (k0_hw35 : k0_chk35 v12) (k0_t8 : Fin (k0_t8_loop v12).trips) (k0_t9 : Fin k0_t9_loop.trips), ∀ a, (k0_off684 v12 k0_t8 k0_t9) a + S1x16.size a ≤ S128x128.size a := fun v12 k0_hw35 k0_t8 k0_t9 => k0_hw35.2.2.1.2.2.2.2.2.2.2.2.2.2.2.2.1 k0_t8 k0_t9
theorem k0_off686_inb : ∀ (v12 : BitVec 32) (k0_hw35 : k0_chk35 v12) (k0_t8 : Fin (k0_t8_loop v12).trips) (k0_t9 : Fin k0_t9_loop.trips), ∀ a, (k0_off686 v12 k0_t8 k0_t9) a + S1x16.size a ≤ S128x128.size a := fun v12 k0_hw35 k0_t8 k0_t9 => k0_hw35.2.2.1.2.2.2.2.2.2.2.2.2.2.2.2.2.1 k0_t8 k0_t9
theorem k0_off688_inb : ∀ (v12 : BitVec 32) (k0_hw35 : k0_chk35 v12) (k0_t8 : Fin (k0_t8_loop v12).trips) (k0_t9 : Fin k0_t9_loop.trips), ∀ a, (k0_off688 v12 k0_t8 k0_t9) a + S1x16.size a ≤ S128x128.size a := fun v12 k0_hw35 k0_t8 k0_t9 => k0_hw35.2.2.1.2.2.2.2.2.2.2.2.2.2.2.2.2.2.1 k0_t8 k0_t9
theorem k0_off690_inb : ∀ (v12 : BitVec 32) (k0_hw35 : k0_chk35 v12) (k0_t8 : Fin (k0_t8_loop v12).trips) (k0_t9 : Fin k0_t9_loop.trips), ∀ a, (k0_off690 v12 k0_t8 k0_t9) a + S1x16.size a ≤ S128x128.size a := fun v12 k0_hw35 k0_t8 k0_t9 => k0_hw35.2.2.1.2.2.2.2.2.2.2.2.2.2.2.2.2.2.2.1 k0_t8 k0_t9
theorem k0_off692_inb : ∀ (v12 : BitVec 32) (k0_hw35 : k0_chk35 v12) (k0_t8 : Fin (k0_t8_loop v12).trips) (k0_t9 : Fin k0_t9_loop.trips), ∀ a, (k0_off692 v12 k0_t8 k0_t9) a + S1x16.size a ≤ S128x128.size a := fun v12 k0_hw35 k0_t8 k0_t9 => k0_hw35.2.2.1.2.2.2.2.2.2.2.2.2.2.2.2.2.2.2.2.1 k0_t8 k0_t9
theorem k0_off694_inb : ∀ (v12 : BitVec 32) (k0_hw35 : k0_chk35 v12) (k0_t8 : Fin (k0_t8_loop v12).trips) (k0_t9 : Fin k0_t9_loop.trips), ∀ a, (k0_off694 v12 k0_t8 k0_t9) a + S1x16.size a ≤ S128x128.size a := fun v12 k0_hw35 k0_t8 k0_t9 => k0_hw35.2.2.1.2.2.2.2.2.2.2.2.2.2.2.2.2.2.2.2.2.1 k0_t8 k0_t9
theorem k0_off696_inb : ∀ (v12 : BitVec 32) (k0_hw35 : k0_chk35 v12) (k0_t8 : Fin (k0_t8_loop v12).trips) (k0_t9 : Fin k0_t9_loop.trips), ∀ a, (k0_off696 v12 k0_t8 k0_t9) a + S1x16.size a ≤ S128x128.size a := fun v12 k0_hw35 k0_t8 k0_t9 => k0_hw35.2.2.1.2.2.2.2.2.2.2.2.2.2.2.2.2.2.2.2.2.2.1 k0_t8 k0_t9
theorem k0_off698_inb : ∀ (v12 : BitVec 32) (k0_hw35 : k0_chk35 v12) (k0_t8 : Fin (k0_t8_loop v12).trips) (k0_t9 : Fin k0_t9_loop.trips), ∀ a, (k0_off698 v12 k0_t8 k0_t9) a + S1x16.size a ≤ S128x128.size a := fun v12 k0_hw35 k0_t8 k0_t9 => k0_hw35.2.2.1.2.2.2.2.2.2.2.2.2.2.2.2.2.2.2.2.2.2.2.1 k0_t8 k0_t9
theorem k0_off700_inb : ∀ (v12 : BitVec 32) (k0_hw35 : k0_chk35 v12) (k0_t8 : Fin (k0_t8_loop v12).trips) (k0_t9 : Fin k0_t9_loop.trips), ∀ a, (k0_off700 v12 k0_t8 k0_t9) a + S1x16.size a ≤ S128x128.size a := fun v12 k0_hw35 k0_t8 k0_t9 => k0_hw35.2.2.1.2.2.2.2.2.2.2.2.2.2.2.2.2.2.2.2.2.2.2.2.1 k0_t8 k0_t9
theorem k0_off702_inb : ∀ (v12 : BitVec 32) (k0_hw35 : k0_chk35 v12) (k0_t8 : Fin (k0_t8_loop v12).trips) (k0_t9 : Fin k0_t9_loop.trips), ∀ a, (k0_off702 v12 k0_t8 k0_t9) a + S1x16.size a ≤ S128x128.size a := fun v12 k0_hw35 k0_t8 k0_t9 => k0_hw35.2.2.1.2.2.2.2.2.2.2.2.2.2.2.2.2.2.2.2.2.2.2.2.2.1 k0_t8 k0_t9
theorem k0_off704_inb : ∀ (v12 : BitVec 32) (k0_hw35 : k0_chk35 v12) (k0_t8 : Fin (k0_t8_loop v12).trips) (k0_t9 : Fin k0_t9_loop.trips), ∀ a, (k0_off704 v12 k0_t8 k0_t9) a + S1x16.size a ≤ S128x128.size a := fun v12 k0_hw35 k0_t8 k0_t9 => k0_hw35.2.2.1.2.2.2.2.2.2.2.2.2.2.2.2.2.2.2.2.2.2.2.2.2.2.1 k0_t8 k0_t9
theorem k0_off706_inb : ∀ (v12 : BitVec 32) (k0_hw35 : k0_chk35 v12) (k0_t8 : Fin (k0_t8_loop v12).trips) (k0_t9 : Fin k0_t9_loop.trips), ∀ a, (k0_off706 v12 k0_t8 k0_t9) a + S1x16.size a ≤ S128x128.size a := fun v12 k0_hw35 k0_t8 k0_t9 => k0_hw35.2.2.1.2.2.2.2.2.2.2.2.2.2.2.2.2.2.2.2.2.2.2.2.2.2.2.1 k0_t8 k0_t9
theorem k0_off708_inb : ∀ (v12 : BitVec 32) (k0_hw35 : k0_chk35 v12) (k0_t8 : Fin (k0_t8_loop v12).trips) (k0_t9 : Fin k0_t9_loop.trips), ∀ a, (k0_off708 v12 k0_t8 k0_t9) a + S1x16.size a ≤ S128x128.size a := fun v12 k0_hw35 k0_t8 k0_t9 => k0_hw35.2.2.1.2.2.2.2.2.2.2.2.2.2.2.2.2.2.2.2.2.2.2.2.2.2.2.2.1 k0_t8 k0_t9
theorem k0_off710_inb : ∀ (v12 : BitVec 32) (k0_hw35 : k0_chk35 v12) (k0_t8 : Fin (k0_t8_loop v12).trips) (k0_t9 : Fin k0_t9_loop.trips), ∀ a, (k0_off710 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.1 k0_t8 k0_t9
theorem k0_off712_inb : ∀ (v12 : BitVec 32) (k0_hw35 : k0_chk35 v12) (k0_t8 : Fin (k0_t8_loop v12).trips) (k0_t9 : Fin k0_t9_loop.trips), ∀ a, (k0_off712 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.2.1 k0_t8 k0_t9
theorem k0_off714_inb : ∀ (v12 : BitVec 32) (k0_hw35 : k0_chk35 v12) (k0_t8 : Fin (k0_t8_loop v12).trips) (k0_t9 : Fin k0_t9_loop.trips), ∀ a, (k0_off714 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.2.2.1 k0_t8 k0_t9
theorem k0_off716_inb : ∀ (v12 : BitVec 32) (k0_hw35 : k0_chk35 v12) (k0_t8 : Fin (k0_t8_loop v12).trips) (k0_t9 : Fin k0_t9_loop.trips), ∀ a, (k0_off716 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.2.2.2.1 k0_t8 k0_t9
theorem k0_off718_inb : ∀ (v12 : BitVec 32) (k0_hw35 : k0_chk35 v12) (k0_t8 : Fin (k0_t8_loop v12).trips) (k0_t9 : Fin k0_t9_loop.trips), ∀ a, (k0_off718 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.2.2.2.2.1 k0_t8 k0_t9
theorem k0_off720_inb : ∀ (v12 : BitVec 32) (k0_hw35 : k0_chk35 v12) (k0_t8 : Fin (k0_t8_loop v12).trips) (k0_t9 : Fin k0_t9_loop.trips), ∀ a, (k0_off720 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.2.2.2.2.2.1 k0_t8 k0_t9
theorem k0_off722_inb : ∀ (v12 : BitVec 32) (k0_hw35 : k0_chk35 v12) (k0_t8 : Fin (k0_t8_loop v12).trips) (k0_t9 : Fin k0_t9_loop.trips), ∀ a, (k0_off722 v12 k0_t8 k0_t9) a + S1x16.size a ≤ S128x128.size a := fun v12 k0_hw35 k0_t8 k0_t9 => k0_hw35.2.2.1.2.2.2.2.2.2.2.2.2.2.2.2.2.2.2.2.2.2.2.2.2.2.2.2.2.2.2.2.2.2.2 k0_t8 k0_t9
theorem k0_off724_inb : ∀ (v12 : BitVec 32) (k0_hw35 : k0_chk35 v12) (k0_t8 : Fin (k0_t8_loop v12).trips) (k0_t9 : Fin k0_t9_loop.trips), ∀ a, (k0_off724 v12 k0_t8 k0_t9) a + S1x16.size a ≤ S128x128.size a := fun v12 k0_hw35 k0_t8 k0_t9 => k0_hw35.2.2.2.1.1 k0_t8 k0_t9
theorem k0_off726_inb : ∀ (v12 : BitVec 32) (k0_hw35 : k0_chk35 v12) (k0_t8 : Fin (k0_t8_loop v12).trips) (k0_t9 : Fin k0_t9_loop.trips), ∀ a, (k0_off726 v12 k0_t8 k0_t9) a + S1x16.size a ≤ S128x128.size a := fun v12 k0_hw35 k0_t8 k0_t9 => k0_hw35.2.2.2.1.2.1 k0_t8 k0_t9
theorem k0_off728_inb : ∀ (v12 : BitVec 32) (k0_hw35 : k0_chk35 v12) (k0_t8 : Fin (k0_t8_loop v12).trips) (k0_t9 : Fin k0_t9_loop.trips), ∀ a, (k0_off728 v12 k0_t8 k0_t9) a + S1x16.size a ≤ S128x128.size a := fun v12 k0_hw35 k0_t8 k0_t9 => k0_hw35.2.2.2.1.2.2.1 k0_t8 k0_t9
theorem k0_off730_inb : ∀ (v12 : BitVec 32) (k0_hw35 : k0_chk35 v12) (k0_t8 : Fin (k0_t8_loop v12).trips) (k0_t9 : Fin k0_t9_loop.trips), ∀ a, (k0_off730 v12 k0_t8 k0_t9) a + S1x16.size a ≤ S128x128.size a := fun v12 k0_hw35 k0_t8 k0_t9 => k0_hw35.2.2.2.1.2.2.2.1 k0_t8 k0_t9
theorem k0_off732_inb : ∀ (v12 : BitVec 32) (k0_hw35 : k0_chk35 v12) (k0_t8 : Fin (k0_t8_loop v12).trips) (k0_t9 : Fin k0_t9_loop.trips), ∀ a, (k0_off732 v12 k0_t8 k0_t9) a + S1x16.size a ≤ S128x128.size a := fun v12 k0_hw35 k0_t8 k0_t9 => k0_hw35.2.2.2.1.2.2.2.2.1 k0_t8 k0_t9
theorem k0_off734_inb : ∀ (v12 : BitVec 32) (k0_hw35 : k0_chk35 v12) (k0_t8 : Fin (k0_t8_loop v12).trips) (k0_t9 : Fin k0_t9_loop.trips), ∀ a, (k0_off734 v12 k0_t8 k0_t9) a + S1x16.size a ≤ S128x128.size a := fun v12 k0_hw35 k0_t8 k0_t9 => k0_hw35.2.2.2.1.2.2.2.2.2.1 k0_t8 k0_t9
theorem k0_off736_inb : ∀ (v12 : BitVec 32) (k0_hw35 : k0_chk35 v12) (k0_t8 : Fin (k0_t8_loop v12).trips) (k0_t9 : Fin k0_t9_loop.trips), ∀ a, (k0_off736 v12 k0_t8 k0_t9) a + S1x16.size a ≤ S128x128.size a := fun v12 k0_hw35 k0_t8 k0_t9 => k0_hw35.2.2.2.1.2.2.2.2.2.2.1 k0_t8 k0_t9
theorem k0_off738_inb : ∀ (v12 : BitVec 32) (k0_hw35 : k0_chk35 v12) (k0_t8 : Fin (k0_t8_loop v12).trips) (k0_t9 : Fin k0_t9_loop.trips), ∀ a, (k0_off738 v12 k0_t8 k0_t9) a + S1x16.size a ≤ S128x128.size a := fun v12 k0_hw35 k0_t8 k0_t9 => k0_hw35.2.2.2.1.2.2.2.2.2.2.2.1 k0_t8 k0_t9
theorem k0_off740_inb : ∀ (v12 : BitVec 32) (k0_hw35 : k0_chk35 v12) (k0_t8 : Fin (k0_t8_loop v12).trips) (k0_t9 : Fin k0_t9_loop.trips), ∀ a, (k0_off740 v12 k0_t8 k0_t9) a + S1x16.size a ≤ S128x128.size a := fun v12 k0_hw35 k0_t8 k0_t9 => k0_hw35.2.2.2.1.2.2.2.2.2.2.2.2.1 k0_t8 k0_t9
theorem k0_off742_inb : ∀ (v12 : BitVec 32) (k0_hw35 : k0_chk35 v12) (k0_t8 : Fin (k0_t8_loop v12).trips) (k0_t9 : Fin k0_t9_loop.trips), ∀ a, (k0_off742 v12 k0_t8 k0_t9) a + S1x16.size a ≤ S128x128.size a := fun v12 k0_hw35 k0_t8 k0_t9 => k0_hw35.2.2.2.1.2.2.2.2.2.2.2.2.2.1 k0_t8 k0_t9
theorem k0_off744_inb : ∀ (v12 : BitVec 32) (k0_hw35 : k0_chk35 v12) (k0_t8 : Fin (k0_t8_loop v12).trips) (k0_t9 : Fin k0_t9_loop.trips), ∀ a, (k0_off744 v12 k0_t8 k0_t9) a + S1x16.size a ≤ S128x128.size a := fun v12 k0_hw35 k0_t8 k0_t9 => k0_hw35.2.2.2.1.2.2.2.2.2.2.2.2.2.2.1 k0_t8 k0_t9
theorem k0_off746_inb : ∀ (v12 : BitVec 32) (k0_hw35 : k0_chk35 v12) (k0_t8 : Fin (k0_t8_loop v12).trips) (k0_t9 : Fin k0_t9_loop.trips), ∀ a, (k0_off746 v12 k0_t8 k0_t9) a + S1x16.size a ≤ S128x128.size a := fun v12 k0_hw35 k0_t8 k0_t9 => k0_hw35.2.2.2.1.2.2.2.2.2.2.2.2.2.2.2.1 k0_t8 k0_t9
theorem k0_off748_inb : ∀ (v12 : BitVec 32) (k0_hw35 : k0_chk35 v12) (k0_t8 : Fin (k0_t8_loop v12).trips) (k0_t9 : Fin k0_t9_loop.trips), ∀ a, (k0_off748 v12 k0_t8 k0_t9) a + S1x16.size a ≤ S128x128.size a := fun v12 k0_hw35 k0_t8 k0_t9 => k0_hw35.2.2.2.1.2.2.2.2.2.2.2.2.2.2.2.2.1 k0_t8 k0_t9
theorem k0_off750_inb : ∀ (v12 : BitVec 32) (k0_hw35 : k0_chk35 v12) (k0_t8 : Fin (k0_t8_loop v12).trips) (k0_t9 : Fin k0_t9_loop.trips), ∀ a, (k0_off750 v12 k0_t8 k0_t9) a + S1x16.size a ≤ S128x128.size a := fun v12 k0_hw35 k0_t8 k0_t9 => k0_hw35.2.2.2.1.2.2.2.2.2.2.2.2.2.2.2.2.2.1 k0_t8 k0_t9
theorem k0_off752_inb : ∀ (v12 : BitVec 32) (k0_hw35 : k0_chk35 v12) (k0_t8 : Fin (k0_t8_loop v12).trips) (k0_t9 : Fin k0_t9_loop.trips), ∀ a, (k0_off752 v12 k0_t8 k0_t9) a + S1x16.size a ≤ S128x128.size a := fun v12 k0_hw35 k0_t8 k0_t9 => k0_hw35.2.2.2.1.2.2.2.2.2.2.2.2.2.2.2.2.2.2.1 k0_t8 k0_t9
theorem k0_off754_inb : ∀ (v12 : BitVec 32) (k0_hw35 : k0_chk35 v12) (k0_t8 : Fin (k0_t8_loop v12).trips) (k0_t9 : Fin k0_t9_loop.trips), ∀ a, (k0_off754 v12 k0_t8 k0_t9) a + S1x16.size a ≤ S128x128.size a := fun v12 k0_hw35 k0_t8 k0_t9 => k0_hw35.2.2.2.1.2.2.2.2.2.2.2.2.2.2.2.2.2.2.2.1 k0_t8 k0_t9
theorem k0_off756_inb : ∀ (v12 : BitVec 32) (k0_hw35 : k0_chk35 v12) (k0_t8 : Fin (k0_t8_loop v12).trips) (k0_t9 : Fin k0_t9_loop.trips), ∀ a, (k0_off756 v12 k0_t8 k0_t9) a + S1x16.size a ≤ S128x128.size a := fun v12 k0_hw35 k0_t8 k0_t9 => k0_hw35.2.2.2.1.2.2.2.2.2.2.2.2.2.2.2.2.2.2.2.2.1 k0_t8 k0_t9
theorem k0_off758_inb : ∀ (v12 : BitVec 32) (k0_hw35 : k0_chk35 v12) (k0_t8 : Fin (k0_t8_loop v12).trips) (k0_t9 : Fin k0_t9_loop.trips), ∀ a, (k0_off758 v12 k0_t8 k0_t9) a + S1x16.size a ≤ S128x128.size a := fun v12 k0_hw35 k0_t8 k0_t9 => k0_hw35.2.2.2.1.2.2.2.2.2.2.2.2.2.2.2.2.2.2.2.2.2.1 k0_t8 k0_t9
theorem k0_off760_inb : ∀ (v12 : BitVec 32) (k0_hw35 : k0_chk35 v12) (k0_t8 : Fin (k0_t8_loop v12).trips) (k0_t9 : Fin k0_t9_loop.trips), ∀ a, (k0_off760 v12 k0_t8 k0_t9) a + S1x16.size a ≤ S128x128.size a := fun v12 k0_hw35 k0_t8 k0_t9 => k0_hw35.2.2.2.1.2.2.2.2.2.2.2.2.2.2.2.2.2.2.2.2.2.2.1 k0_t8 k0_t9
theorem k0_off762_inb : ∀ (v12 : BitVec 32) (k0_hw35 : k0_chk35 v12) (k0_t8 : Fin (k0_t8_loop v12).trips) (k0_t9 : Fin k0_t9_loop.trips), ∀ a, (k0_off762 v12 k0_t8 k0_t9) a + S1x16.size a ≤ S128x128.size a := fun v12 k0_hw35 k0_t8 k0_t9 => k0_hw35.2.2.2.1.2.2.2.2.2.2.2.2.2.2.2.2.2.2.2.2.2.2.2.1 k0_t8 k0_t9
theorem k0_off764_inb : ∀ (v12 : BitVec 32) (k0_hw35 : k0_chk35 v12) (k0_t8 : Fin (k0_t8_loop v12).trips) (k0_t9 : Fin k0_t9_loop.trips), ∀ a, (k0_off764 v12 k0_t8 k0_t9) a + S1x16.size a ≤ S128x128.size a := fun v12 k0_hw35 k0_t8 k0_t9 => k0_hw35.2.2.2.1.2.2.2.2.2.2.2.2.2.2.2.2.2.2.2.2.2.2.2.2.1 k0_t8 k0_t9
theorem k0_off766_inb : ∀ (v12 : BitVec 32) (k0_hw35 : k0_chk35 v12) (k0_t8 : Fin (k0_t8_loop v12).trips) (k0_t9 : Fin k0_t9_loop.trips), ∀ a, (k0_off766 v12 k0_t8 k0_t9) a + S1x16.size a ≤ S128x128.size a := fun v12 k0_hw35 k0_t8 k0_t9 => k0_hw35.2.2.2.1.2.2.2.2.2.2.2.2.2.2.2.2.2.2.2.2.2.2.2.2.2.1 k0_t8 k0_t9
theorem k0_off768_inb : ∀ (v12 : BitVec 32) (k0_hw35 : k0_chk35 v12) (k0_t8 : Fin (k0_t8_loop v12).trips) (k0_t9 : Fin k0_t9_loop.trips), ∀ a, (k0_off768 v12 k0_t8 k0_t9) a + S1x16.size a ≤ S128x128.size a := fun v12 k0_hw35 k0_t8 k0_t9 => k0_hw35.2.2.2.1.2.2.2.2.2.2.2.2.2.2.2.2.2.2.2.2.2.2.2.2.2.2.1 k0_t8 k0_t9
theorem k0_off770_inb : ∀ (v12 : BitVec 32) (k0_hw35 : k0_chk35 v12) (k0_t8 : Fin (k0_t8_loop v12).trips) (k0_t9 : Fin k0_t9_loop.trips), ∀ a, (k0_off770 v12 k0_t8 k0_t9) a + S1x16.size a ≤ S128x128.size a := fun v12 k0_hw35 k0_t8 k0_t9 => k0_hw35.2.2.2.1.2.2.2.2.2.2.2.2.2.2.2.2.2.2.2.2.2.2.2.2.2.2.2.1 k0_t8 k0_t9
theorem k0_off772_inb : ∀ (v12 : BitVec 32) (k0_hw35 : k0_chk35 v12) (k0_t8 : Fin (k0_t8_loop v12).trips) (k0_t9 : Fin k0_t9_loop.trips), ∀ a, (k0_off772 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.1 k0_t8 k0_t9
theorem k0_off774_inb : ∀ (v12 : BitVec 32) (k0_hw35 : k0_chk35 v12) (k0_t8 : Fin (k0_t8_loop v12).trips) (k0_t9 : Fin k0_t9_loop.trips), ∀ a, (k0_off774 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.1 k0_t8 k0_t9
theorem k0_off776_inb : ∀ (v12 : BitVec 32) (k0_hw35 : k0_chk35 v12) (k0_t8 : Fin (k0_t8_loop v12).trips) (k0_t9 : Fin k0_t9_loop.trips), ∀ a, (k0_off776 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.2.1 k0_t8 k0_t9
theorem k0_off778_inb : ∀ (v12 : BitVec 32) (k0_hw35 : k0_chk35 v12) (k0_t8 : Fin (k0_t8_loop v12).trips) (k0_t9 : Fin k0_t9_loop.trips), ∀ a, (k0_off778 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.2.2.1 k0_t8 k0_t9
theorem k0_off780_inb : ∀ (v12 : BitVec 32) (k0_hw35 : k0_chk35 v12) (k0_t8 : Fin (k0_t8_loop v12).trips) (k0_t9 : Fin k0_t9_loop.trips), ∀ a, (k0_off780 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.2.2.2.1 k0_t8 k0_t9
theorem k0_off782_inb : ∀ (v12 : BitVec 32) (k0_hw35 : k0_chk35 v12) (k0_t8 : Fin (k0_t8_loop v12).trips) (k0_t9 : Fin k0_t9_loop.trips), ∀ a, (k0_off782 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.2.2.2.2.1 k0_t8 k0_t9
theorem k0_off784_inb : ∀ (v12 : BitVec 32) (k0_hw35 : k0_chk35 v12) (k0_t8 : Fin (k0_t8_loop v12).trips) (k0_t9 : Fin k0_t9_loop.trips), ∀ a, (k0_off784 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.2.2.2.2.2.1 k0_t8 k0_t9
theorem k0_off786_inb : ∀ (v12 : BitVec 32) (k0_hw35 : k0_chk35 v12) (k0_t8 : Fin (k0_t8_loop v12).trips) (k0_t9 : Fin k0_t9_loop.trips), ∀ a, (k0_off786 v12 k0_t8 k0_t9) a + S1x16.size a ≤ S128x128.size a := fun v12 k0_hw35 k0_t8 k0_t9 => k0_hw35.2.2.2.1.2.2.2.2.2.2.2.2.2.2.2.2.2.2.2.2.2.2.2.2.2.2.2.2.2.2.2.2.2.2.2 k0_t8 k0_t9
theorem k0_off788_inb : ∀ (v12 : BitVec 32) (k0_hw35 : k0_chk35 v12) (k0_t8 : Fin (k0_t8_loop v12).trips) (k0_t9 : Fin k0_t9_loop.trips), ∀ a, (k0_off788 v12 k0_t8 k0_t9) a + S1x16.size a ≤ S128x128.size a := fun v12 k0_hw35 k0_t8 k0_t9 => k0_hw35.2.2.2.2.1.1 k0_t8 k0_t9
theorem k0_off790_inb : ∀ (v12 : BitVec 32) (k0_hw35 : k0_chk35 v12) (k0_t8 : Fin (k0_t8_loop v12).trips) (k0_t9 : Fin k0_t9_loop.trips), ∀ a, (k0_off790 v12 k0_t8 k0_t9) a + S1x16.size a ≤ S128x128.size a := fun v12 k0_hw35 k0_t8 k0_t9 => k0_hw35.2.2.2.2.1.2.1 k0_t8 k0_t9
theorem k0_off792_inb : ∀ (v12 : BitVec 32) (k0_hw35 : k0_chk35 v12) (k0_t8 : Fin (k0_t8_loop v12).trips) (k0_t9 : Fin k0_t9_loop.trips), ∀ a, (k0_off792 v12 k0_t8 k0_t9) a + S1x16.size a ≤ S128x128.size a := fun v12 k0_hw35 k0_t8 k0_t9 => k0_hw35.2.2.2.2.1.2.2.1 k0_t8 k0_t9
theorem k0_off794_inb : ∀ (v12 : BitVec 32) (k0_hw35 : k0_chk35 v12) (k0_t8 : Fin (k0_t8_loop v12).trips) (k0_t9 : Fin k0_t9_loop.trips), ∀ a, (k0_off794 v12 k0_t8 k0_t9) a + S1x16.size a ≤ S128x128.size a := fun v12 k0_hw35 k0_t8 k0_t9 => k0_hw35.2.2.2.2.1.2.2.2.1 k0_t8 k0_t9
theorem k0_off796_inb : ∀ (v12 : BitVec 32) (k0_hw35 : k0_chk35 v12) (k0_t8 : Fin (k0_t8_loop v12).trips) (k0_t9 : Fin k0_t9_loop.trips), ∀ a, (k0_off796 v12 k0_t8 k0_t9) a + S1x16.size a ≤ S128x128.size a := fun v12 k0_hw35 k0_t8 k0_t9 => k0_hw35.2.2.2.2.1.2.2.2.2.1 k0_t8 k0_t9
theorem k0_off798_inb : ∀ (v12 : BitVec 32) (k0_hw35 : k0_chk35 v12) (k0_t8 : Fin (k0_t8_loop v12).trips) (k0_t9 : Fin k0_t9_loop.trips), ∀ a, (k0_off798 v12 k0_t8 k0_t9) a + S1x16.size a ≤ S128x128.size a := fun v12 k0_hw35 k0_t8 k0_t9 => k0_hw35.2.2.2.2.1.2.2.2.2.2.1 k0_t8 k0_t9
theorem k0_off800_inb : ∀ (v12 : BitVec 32) (k0_hw35 : k0_chk35 v12) (k0_t8 : Fin (k0_t8_loop v12).trips) (k0_t9 : Fin k0_t9_loop.trips), ∀ a, (k0_off800 v12 k0_t8 k0_t9) a + S1x16.size a ≤ S128x128.size a := fun v12 k0_hw35 k0_t8 k0_t9 => k0_hw35.2.2.2.2.1.2.2.2.2.2.2.1 k0_t8 k0_t9
theorem k0_t10_ok : ∀ (v12 : BitVec 32) (k0_hw35 : k0_chk35 v12), (k0_t10_loop v12).OK := fun v12 k0_hw35 => k0_hw35.2.2.2.2.1.2.2.2.2.2.2.2.1
theorem k0_off801_inb : ∀ (v12 : BitVec 32) (k0_hw35 : k0_chk35 v12) (k0_t10 : Fin (k0_t10_loop v12).trips), ∀ (k0_h15 : k0_cond15 v12 k0_t10 = 1#1), ∀ (k0_h16 : k0_cond16 v12 k0_t10 = 1#1), ∀ a, (k0_off801 v12 k0_t10) a + S64.size a ≤ S3272.size a := fun v12 k0_hw35 k0_t10 k0_h15 k0_h16 => k0_hw35.2.2.2.2.1.2.2.2.2.2.2.2.2.1 k0_t10 k0_h15 k0_h16
theorem k0_off802_inb : ∀ (v12 : BitVec 32) (k0_hw35 : k0_chk35 v12) (k0_t10 : Fin (k0_t10_loop v12).trips), ∀ (k0_h15 : k0_cond15 v12 k0_t10 = 1#1), ∀ (k0_h16 : ¬(k0_cond16 v12 k0_t10 = 1#1)), ∀ a, (k0_off802 v12 k0_t10) a + S64.size a ≤ S3272.size a := fun v12 k0_hw35 k0_t10 k0_h15 k0_h16 => k0_hw35.2.2.2.2.1.2.2.2.2.2.2.2.2.2.1 k0_t10 k0_h15 k0_h16
theorem k0_off803_inb : ∀ (v12 : BitVec 32) (k0_hw35 : k0_chk35 v12) (k0_t10 : Fin (k0_t10_loop v12).trips), ∀ (k0_h17 : k0_cond17 v12 k0_t10 = 1#1), ∀ a, (k0_off803 v12 k0_t10) a + S64.size a ≤ S3272.size a := fun v12 k0_hw35 k0_t10 k0_h17 => k0_hw35.2.2.2.2.1.2.2.2.2.2.2.2.2.2.2.1 k0_t10 k0_h17
theorem k0_off804_inb : ∀ (v12 : BitVec 32) (k0_hw35 : k0_chk35 v12) (k0_t10 : Fin (k0_t10_loop v12).trips), ∀ (k0_h17 : ¬(k0_cond17 v12 k0_t10 = 1#1)), ∀ a, (k0_off804 v12 k0_t10) a + S64.size a ≤ S3272.size a := fun v12 k0_hw35 k0_t10 k0_h17 => k0_hw35.2.2.2.2.1.2.2.2.2.2.2.2.2.2.2.2.1 k0_t10 k0_h17
theorem k0_off805_inb : ∀ (v12 : BitVec 32) (k0_hw35 : k0_chk35 v12) (k0_t10 : Fin (k0_t10_loop v12).trips) (k0_t11 : Fin k0_t11_loop.trips), ∀ a, (k0_off805 v12 k0_t10 k0_t11) a + S16.size a ≤ S3272.size a := fun v12 k0_hw35 k0_t10 k0_t11 => k0_hw35.2.2.2.2.1.2.2.2.2.2.2.2.2.2.2.2.2.1 k0_t10 k0_t11
theorem k0_off807_inb : ∀ (v12 : BitVec 32) (k0_hw35 : k0_chk35 v12) (k0_t10 : Fin (k0_t10_loop v12).trips) (k0_t11 : Fin k0_t11_loop.trips), ∀ a, (k0_off807 v12 k0_t10 k0_t11) a + S1x16.size a ≤ S128x128.size a := fun v12 k0_hw35 k0_t10 k0_t11 => k0_hw35.2.2.2.2.1.2.2.2.2.2.2.2.2.2.2.2.2.2.1 k0_t10 k0_t11
theorem k0_off809_inb : ∀ (v12 : BitVec 32) (k0_hw35 : k0_chk35 v12) (k0_t10 : Fin (k0_t10_loop v12).trips) (k0_t11 : Fin k0_t11_loop.trips), ∀ a, (k0_off809 v12 k0_t10 k0_t11) a + S1x16.size a ≤ S128x128.size a := fun v12 k0_hw35 k0_t10 k0_t11 => k0_hw35.2.2.2.2.1.2.2.2.2.2.2.2.2.2.2.2.2.2.2.1 k0_t10 k0_t11
theorem k0_off811_inb : ∀ (v12 : BitVec 32) (k0_hw35 : k0_chk35 v12) (k0_t10 : Fin (k0_t10_loop v12).trips) (k0_t11 : Fin k0_t11_loop.trips), ∀ a, (k0_off811 v12 k0_t10 k0_t11) a + S1x16.size a ≤ S128x128.size a := fun v12 k0_hw35 k0_t10 k0_t11 => k0_hw35.2.2.2.2.1.2.2.2.2.2.2.2.2.2.2.2.2.2.2.2.1 k0_t10 k0_t11
theorem k0_off813_inb : ∀ (v12 : BitVec 32) (k0_hw35 : k0_chk35 v12) (k0_t10 : Fin (k0_t10_loop v12).trips) (k0_t11 : Fin k0_t11_loop.trips), ∀ a, (k0_off813 v12 k0_t10 k0_t11) a + S1x16.size a ≤ S128x128.size a := fun v12 k0_hw35 k0_t10 k0_t11 => k0_hw35.2.2.2.2.1.2.2.2.2.2.2.2.2.2.2.2.2.2.2.2.2.1 k0_t10 k0_t11
theorem k0_off815_inb : ∀ (v12 : BitVec 32) (k0_hw35 : k0_chk35 v12) (k0_t10 : Fin (k0_t10_loop v12).trips) (k0_t11 : Fin k0_t11_loop.trips), ∀ a, (k0_off815 v12 k0_t10 k0_t11) a + S1x16.size a ≤ S128x128.size a := fun v12 k0_hw35 k0_t10 k0_t11 => k0_hw35.2.2.2.2.1.2.2.2.2.2.2.2.2.2.2.2.2.2.2.2.2.2.1 k0_t10 k0_t11
theorem k0_off817_inb : ∀ (v12 : BitVec 32) (k0_hw35 : k0_chk35 v12) (k0_t10 : Fin (k0_t10_loop v12).trips) (k0_t11 : Fin k0_t11_loop.trips), ∀ a, (k0_off817 v12 k0_t10 k0_t11) a + S1x16.size a ≤ S128x128.size a := fun v12 k0_hw35 k0_t10 k0_t11 => k0_hw35.2.2.2.2.1.2.2.2.2.2.2.2.2.2.2.2.2.2.2.2.2.2.2.1 k0_t10 k0_t11
theorem k0_off819_inb : ∀ (v12 : BitVec 32) (k0_hw35 : k0_chk35 v12) (k0_t10 : Fin (k0_t10_loop v12).trips) (k0_t11 : Fin k0_t11_loop.trips), ∀ a, (k0_off819 v12 k0_t10 k0_t11) a + S1x16.size a ≤ S128x128.size a := fun v12 k0_hw35 k0_t10 k0_t11 => k0_hw35.2.2.2.2.1.2.2.2.2.2.2.2.2.2.2.2.2.2.2.2.2.2.2.2.1 k0_t10 k0_t11
theorem k0_off821_inb : ∀ (v12 : BitVec 32) (k0_hw35 : k0_chk35 v12) (k0_t10 : Fin (k0_t10_loop v12).trips) (k0_t11 : Fin k0_t11_loop.trips), ∀ a, (k0_off821 v12 k0_t10 k0_t11) a + S1x16.size a ≤ S128x128.size a := fun v12 k0_hw35 k0_t10 k0_t11 => k0_hw35.2.2.2.2.1.2.2.2.2.2.2.2.2.2.2.2.2.2.2.2.2.2.2.2.2.1 k0_t10 k0_t11
theorem k0_off823_inb : ∀ (v12 : BitVec 32) (k0_hw35 : k0_chk35 v12) (k0_t10 : Fin (k0_t10_loop v12).trips) (k0_t11 : Fin k0_t11_loop.trips), ∀ a, (k0_off823 v12 k0_t10 k0_t11) a + S1x16.size a ≤ S128x128.size a := fun v12 k0_hw35 k0_t10 k0_t11 => k0_hw35.2.2.2.2.1.2.2.2.2.2.2.2.2.2.2.2.2.2.2.2.2.2.2.2.2.2.1 k0_t10 k0_t11
theorem k0_off825_inb : ∀ (v12 : BitVec 32) (k0_hw35 : k0_chk35 v12) (k0_t10 : Fin (k0_t10_loop v12).trips) (k0_t11 : Fin k0_t11_loop.trips), ∀ a, (k0_off825 v12 k0_t10 k0_t11) a + S1x16.size a ≤ S128x128.size a := fun v12 k0_hw35 k0_t10 k0_t11 => k0_hw35.2.2.2.2.1.2.2.2.2.2.2.2.2.2.2.2.2.2.2.2.2.2.2.2.2.2.2.1 k0_t10 k0_t11
theorem k0_off827_inb : ∀ (v12 : BitVec 32) (k0_hw35 : k0_chk35 v12) (k0_t10 : Fin (k0_t10_loop v12).trips) (k0_t11 : Fin k0_t11_loop.trips), ∀ a, (k0_off827 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.1 k0_t10 k0_t11
theorem k0_off829_inb : ∀ (v12 : BitVec 32) (k0_hw35 : k0_chk35 v12) (k0_t10 : Fin (k0_t10_loop v12).trips) (k0_t11 : Fin k0_t11_loop.trips), ∀ a, (k0_off829 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.1 k0_t10 k0_t11
theorem k0_off831_inb : ∀ (v12 : BitVec 32) (k0_hw35 : k0_chk35 v12) (k0_t10 : Fin (k0_t10_loop v12).trips) (k0_t11 : Fin k0_t11_loop.trips), ∀ a, (k0_off831 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.1 k0_t10 k0_t11
theorem k0_off833_inb : ∀ (v12 : BitVec 32) (k0_hw35 : k0_chk35 v12) (k0_t10 : Fin (k0_t10_loop v12).trips) (k0_t11 : Fin k0_t11_loop.trips), ∀ a, (k0_off833 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.2.1 k0_t10 k0_t11
theorem k0_off835_inb : ∀ (v12 : BitVec 32) (k0_hw35 : k0_chk35 v12) (k0_t10 : Fin (k0_t10_loop v12).trips) (k0_t11 : Fin k0_t11_loop.trips), ∀ a, (k0_off835 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.2.2.1 k0_t10 k0_t11
theorem k0_off837_inb : ∀ (v12 : BitVec 32) (k0_hw35 : k0_chk35 v12) (k0_t10 : Fin (k0_t10_loop v12).trips) (k0_t11 : Fin k0_t11_loop.trips), ∀ a, (k0_off837 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.2.2.2.1 k0_t10 k0_t11
theorem k0_off839_inb : ∀ (v12 : BitVec 32) (k0_hw35 : k0_chk35 v12) (k0_t10 : Fin (k0_t10_loop v12).trips) (k0_t11 : Fin k0_t11_loop.trips), ∀ a, (k0_off839 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.2.2.2.2.1 k0_t10 k0_t11
theorem k0_off841_inb : ∀ (v12 : BitVec 32) (k0_hw35 : k0_chk35 v12) (k0_t10 : Fin (k0_t10_loop v12).trips) (k0_t11 : Fin k0_t11_loop.trips), ∀ a, (k0_off841 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.2.2.2.2.2.1 k0_t10 k0_t11
theorem k0_off843_inb : ∀ (v12 : BitVec 32) (k0_hw35 : k0_chk35 v12) (k0_t10 : Fin (k0_t10_loop v12).trips) (k0_t11 : Fin k0_t11_loop.trips), ∀ a, (k0_off843 v12 k0_t10 k0_t11) a + S1x16.size a ≤ S128x128.size a := fun v12 k0_hw35 k0_t10 k0_t11 => k0_hw35.2.2.2.2.1.2.2.2.2.2.2.2.2.2.2.2.2.2.2.2.2.2.2.2.2.2.2.2.2.2.2.2.2.2.2.2 k0_t10 k0_t11
theorem k0_off845_inb : ∀ (v12 : BitVec 32) (k0_hw35 : k0_chk35 v12) (k0_t10 : Fin (k0_t10_loop v12).trips) (k0_t11 : Fin k0_t11_loop.trips), ∀ a, (k0_off845 v12 k0_t10 k0_t11) a + S1x16.size a ≤ S128x128.size a := fun v12 k0_hw35 k0_t10 k0_t11 => k0_hw35.2.2.2.2.2.1.1 k0_t10 k0_t11
theorem k0_off847_inb : ∀ (v12 : BitVec 32) (k0_hw35 : k0_chk35 v12) (k0_t10 : Fin (k0_t10_loop v12).trips) (k0_t11 : Fin k0_t11_loop.trips), ∀ a, (k0_off847 v12 k0_t10 k0_t11) a + S1x16.size a ≤ S128x128.size a := fun v12 k0_hw35 k0_t10 k0_t11 => k0_hw35.2.2.2.2.2.1.2.1 k0_t10 k0_t11
theorem k0_off849_inb : ∀ (v12 : BitVec 32) (k0_hw35 : k0_chk35 v12) (k0_t10 : Fin (k0_t10_loop v12).trips) (k0_t11 : Fin k0_t11_loop.trips), ∀ a, (k0_off849 v12 k0_t10 k0_t11) a + S1x16.size a ≤ S128x128.size a := fun v12 k0_hw35 k0_t10 k0_t11 => k0_hw35.2.2.2.2.2.1.2.2.1 k0_t10 k0_t11
theorem k0_off851_inb : ∀ (v12 : BitVec 32) (k0_hw35 : k0_chk35 v12) (k0_t10 : Fin (k0_t10_loop v12).trips) (k0_t11 : Fin k0_t11_loop.trips), ∀ a, (k0_off851 v12 k0_t10 k0_t11) a + S1x16.size a ≤ S128x128.size a := fun v12 k0_hw35 k0_t10 k0_t11 => k0_hw35.2.2.2.2.2.1.2.2.2.1 k0_t10 k0_t11
theorem k0_off853_inb : ∀ (v12 : BitVec 32) (k0_hw35 : k0_chk35 v12) (k0_t10 : Fin (k0_t10_loop v12).trips) (k0_t11 : Fin k0_t11_loop.trips), ∀ a, (k0_off853 v12 k0_t10 k0_t11) a + S1x16.size a ≤ S128x128.size a := fun v12 k0_hw35 k0_t10 k0_t11 => k0_hw35.2.2.2.2.2.1.2.2.2.2.1 k0_t10 k0_t11
theorem k0_off855_inb : ∀ (v12 : BitVec 32) (k0_hw35 : k0_chk35 v12) (k0_t10 : Fin (k0_t10_loop v12).trips) (k0_t11 : Fin k0_t11_loop.trips), ∀ a, (k0_off855 v12 k0_t10 k0_t11) a + S1x16.size a ≤ S128x128.size a := fun v12 k0_hw35 k0_t10 k0_t11 => k0_hw35.2.2.2.2.2.1.2.2.2.2.2.1 k0_t10 k0_t11
theorem k0_off857_inb : ∀ (v12 : BitVec 32) (k0_hw35 : k0_chk35 v12) (k0_t10 : Fin (k0_t10_loop v12).trips) (k0_t11 : Fin k0_t11_loop.trips), ∀ a, (k0_off857 v12 k0_t10 k0_t11) a + S1x16.size a ≤ S128x128.size a := fun v12 k0_hw35 k0_t10 k0_t11 => k0_hw35.2.2.2.2.2.1.2.2.2.2.2.2.1 k0_t10 k0_t11
theorem k0_off859_inb : ∀ (v12 : BitVec 32) (k0_hw35 : k0_chk35 v12) (k0_t10 : Fin (k0_t10_loop v12).trips) (k0_t11 : Fin k0_t11_loop.trips), ∀ a, (k0_off859 v12 k0_t10 k0_t11) a + S1x16.size a ≤ S128x128.size a := fun v12 k0_hw35 k0_t10 k0_t11 => k0_hw35.2.2.2.2.2.1.2.2.2.2.2.2.2.1 k0_t10 k0_t11
theorem k0_off861_inb : ∀ (v12 : BitVec 32) (k0_hw35 : k0_chk35 v12) (k0_t10 : Fin (k0_t10_loop v12).trips) (k0_t11 : Fin k0_t11_loop.trips), ∀ a, (k0_off861 v12 k0_t10 k0_t11) a + S1x16.size a ≤ S128x128.size a := fun v12 k0_hw35 k0_t10 k0_t11 => k0_hw35.2.2.2.2.2.1.2.2.2.2.2.2.2.2.1 k0_t10 k0_t11
theorem k0_off863_inb : ∀ (v12 : BitVec 32) (k0_hw35 : k0_chk35 v12) (k0_t10 : Fin (k0_t10_loop v12).trips) (k0_t11 : Fin k0_t11_loop.trips), ∀ a, (k0_off863 v12 k0_t10 k0_t11) a + S1x16.size a ≤ S128x128.size a := fun v12 k0_hw35 k0_t10 k0_t11 => k0_hw35.2.2.2.2.2.1.2.2.2.2.2.2.2.2.2.1 k0_t10 k0_t11
theorem k0_off865_inb : ∀ (v12 : BitVec 32) (k0_hw35 : k0_chk35 v12) (k0_t10 : Fin (k0_t10_loop v12).trips) (k0_t11 : Fin k0_t11_loop.trips), ∀ a, (k0_off865 v12 k0_t10 k0_t11) a + S1x16.size a ≤ S128x128.size a := fun v12 k0_hw35 k0_t10 k0_t11 => k0_hw35.2.2.2.2.2.1.2.2.2.2.2.2.2.2.2.2.1 k0_t10 k0_t11
theorem k0_off867_inb : ∀ (v12 : BitVec 32) (k0_hw35 : k0_chk35 v12) (k0_t10 : Fin (k0_t10_loop v12).trips) (k0_t11 : Fin k0_t11_loop.trips), ∀ a, (k0_off867 v12 k0_t10 k0_t11) a + S1x16.size a ≤ S128x128.size a := fun v12 k0_hw35 k0_t10 k0_t11 => k0_hw35.2.2.2.2.2.1.2.2.2.2.2.2.2.2.2.2.2.1 k0_t10 k0_t11
theorem k0_off869_inb : ∀ (v12 : BitVec 32) (k0_hw35 : k0_chk35 v12) (k0_t10 : Fin (k0_t10_loop v12).trips) (k0_t11 : Fin k0_t11_loop.trips), ∀ a, (k0_off869 v12 k0_t10 k0_t11) a + S1x16.size a ≤ S128x128.size a := fun v12 k0_hw35 k0_t10 k0_t11 => k0_hw35.2.2.2.2.2.1.2.2.2.2.2.2.2.2.2.2.2.2.1 k0_t10 k0_t11
theorem k0_off871_inb : ∀ (v12 : BitVec 32) (k0_hw35 : k0_chk35 v12) (k0_t10 : Fin (k0_t10_loop v12).trips) (k0_t11 : Fin k0_t11_loop.trips), ∀ a, (k0_off871 v12 k0_t10 k0_t11) a + S1x16.size a ≤ S128x128.size a := fun v12 k0_hw35 k0_t10 k0_t11 => k0_hw35.2.2.2.2.2.1.2.2.2.2.2.2.2.2.2.2.2.2.2.1 k0_t10 k0_t11
theorem k0_off873_inb : ∀ (v12 : BitVec 32) (k0_hw35 : k0_chk35 v12) (k0_t10 : Fin (k0_t10_loop v12).trips) (k0_t11 : Fin k0_t11_loop.trips), ∀ a, (k0_off873 v12 k0_t10 k0_t11) a + S1x16.size a ≤ S128x128.size a := fun v12 k0_hw35 k0_t10 k0_t11 => k0_hw35.2.2.2.2.2.1.2.2.2.2.2.2.2.2.2.2.2.2.2.2.1 k0_t10 k0_t11
theorem k0_off875_inb : ∀ (v12 : BitVec 32) (k0_hw35 : k0_chk35 v12) (k0_t10 : Fin (k0_t10_loop v12).trips) (k0_t11 : Fin k0_t11_loop.trips), ∀ a, (k0_off875 v12 k0_t10 k0_t11) a + S1x16.size a ≤ S128x128.size a := fun v12 k0_hw35 k0_t10 k0_t11 => k0_hw35.2.2.2.2.2.1.2.2.2.2.2.2.2.2.2.2.2.2.2.2.2.1 k0_t10 k0_t11
theorem k0_off877_inb : ∀ (v12 : BitVec 32) (k0_hw35 : k0_chk35 v12) (k0_t10 : Fin (k0_t10_loop v12).trips) (k0_t11 : Fin k0_t11_loop.trips), ∀ a, (k0_off877 v12 k0_t10 k0_t11) a + S1x16.size a ≤ S128x128.size a := fun v12 k0_hw35 k0_t10 k0_t11 => k0_hw35.2.2.2.2.2.1.2.2.2.2.2.2.2.2.2.2.2.2.2.2.2.2.1 k0_t10 k0_t11
theorem k0_off879_inb : ∀ (v12 : BitVec 32) (k0_hw35 : k0_chk35 v12) (k0_t10 : Fin (k0_t10_loop v12).trips) (k0_t11 : Fin k0_t11_loop.trips), ∀ a, (k0_off879 v12 k0_t10 k0_t11) a + S1x16.size a ≤ S128x128.size a := fun v12 k0_hw35 k0_t10 k0_t11 => k0_hw35.2.2.2.2.2.1.2.2.2.2.2.2.2.2.2.2.2.2.2.2.2.2.2.1 k0_t10 k0_t11
theorem k0_off881_inb : ∀ (v12 : BitVec 32) (k0_hw35 : k0_chk35 v12) (k0_t10 : Fin (k0_t10_loop v12).trips) (k0_t11 : Fin k0_t11_loop.trips), ∀ a, (k0_off881 v12 k0_t10 k0_t11) a + S1x16.size a ≤ S128x128.size a := fun v12 k0_hw35 k0_t10 k0_t11 => k0_hw35.2.2.2.2.2.1.2.2.2.2.2.2.2.2.2.2.2.2.2.2.2.2.2.2.1 k0_t10 k0_t11
theorem k0_off883_inb : ∀ (v12 : BitVec 32) (k0_hw35 : k0_chk35 v12) (k0_t10 : Fin (k0_t10_loop v12).trips) (k0_t11 : Fin k0_t11_loop.trips), ∀ a, (k0_off883 v12 k0_t10 k0_t11) a + S1x16.size a ≤ S128x128.size a := fun v12 k0_hw35 k0_t10 k0_t11 => k0_hw35.2.2.2.2.2.1.2.2.2.2.2.2.2.2.2.2.2.2.2.2.2.2.2.2.2.1 k0_t10 k0_t11
theorem k0_off885_inb : ∀ (v12 : BitVec 32) (k0_hw35 : k0_chk35 v12) (k0_t10 : Fin (k0_t10_loop v12).trips) (k0_t11 : Fin k0_t11_loop.trips), ∀ a, (k0_off885 v12 k0_t10 k0_t11) a + S1x16.size a ≤ S128x128.size a := fun v12 k0_hw35 k0_t10 k0_t11 => k0_hw35.2.2.2.2.2.1.2.2.2.2.2.2.2.2.2.2.2.2.2.2.2.2.2.2.2.2.1 k0_t10 k0_t11
theorem k0_off887_inb : ∀ (v12 : BitVec 32) (k0_hw35 : k0_chk35 v12) (k0_t10 : Fin (k0_t10_loop v12).trips) (k0_t11 : Fin k0_t11_loop.trips), ∀ a, (k0_off887 v12 k0_t10 k0_t11) a + S1x16.size a ≤ S128x128.size a := fun v12 k0_hw35 k0_t10 k0_t11 => k0_hw35.2.2.2.2.2.1.2.2.2.2.2.2.2.2.2.2.2.2.2.2.2.2.2.2.2.2.2.1 k0_t10 k0_t11
theorem k0_off889_inb : ∀ (v12 : BitVec 32) (k0_hw35 : k0_chk35 v12) (k0_t10 : Fin (k0_t10_loop v12).trips) (k0_t11 : Fin k0_t11_loop.trips), ∀ a, (k0_off889 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.1 k0_t10 k0_t11
theorem k0_off891_inb : ∀ (v12 : BitVec 32) (k0_hw35 : k0_chk35 v12) (k0_t10 : Fin (k0_t10_loop v12).trips) (k0_t11 : Fin k0_t11_loop.trips), ∀ a, (k0_off891 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.1 k0_t10 k0_t11
theorem k0_off893_inb : ∀ (v12 : BitVec 32) (k0_hw35 : k0_chk35 v12) (k0_t10 : Fin (k0_t10_loop v12).trips) (k0_t11 : Fin k0_t11_loop.trips), ∀ a, (k0_off893 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.1 k0_t10 k0_t11
theorem k0_off895_inb : ∀ (v12 : BitVec 32) (k0_hw35 : k0_chk35 v12) (k0_t10 : Fin (k0_t10_loop v12).trips) (k0_t11 : Fin k0_t11_loop.trips), ∀ a, (k0_off895 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.1 k0_t10 k0_t11
theorem k0_off897_inb : ∀ (v12 : BitVec 32) (k0_hw35 : k0_chk35 v12) (k0_t10 : Fin (k0_t10_loop v12).trips) (k0_t11 : Fin k0_t11_loop.trips), ∀ a, (k0_off897 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.2.1 k0_t10 k0_t11
theorem k0_off899_inb : ∀ (v12 : BitVec 32) (k0_hw35 : k0_chk35 v12) (k0_t10 : Fin (k0_t10_loop v12).trips) (k0_t11 : Fin k0_t11_loop.trips), ∀ a, (k0_off899 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.2.2.1 k0_t10 k0_t11
theorem k0_off901_inb : ∀ (v12 : BitVec 32) (k0_hw35 : k0_chk35 v12) (k0_t10 : Fin (k0_t10_loop v12).trips) (k0_t11 : Fin k0_t11_loop.trips), ∀ a, (k0_off901 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.2.2.2.1 k0_t10 k0_t11
theorem k0_off903_inb : ∀ (v12 : BitVec 32) (k0_hw35 : k0_chk35 v12) (k0_t10 : Fin (k0_t10_loop v12).trips) (k0_t11 : Fin k0_t11_loop.trips), ∀ a, (k0_off903 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.2.2.2.2.1 k0_t10 k0_t11
theorem k0_off905_inb : ∀ (v12 : BitVec 32) (k0_hw35 : k0_chk35 v12) (k0_t10 : Fin (k0_t10_loop v12).trips) (k0_t11 : Fin k0_t11_loop.trips), ∀ a, (k0_off905 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.2.2.2.2.2.1 k0_t10 k0_t11
theorem k0_off907_inb : ∀ (v12 : BitVec 32) (k0_hw35 : k0_chk35 v12) (k0_t10 : Fin (k0_t10_loop v12).trips) (k0_t11 : Fin k0_t11_loop.trips), ∀ a, (k0_off907 v12 k0_t10 k0_t11) a + S1x16.size a ≤ S128x128.size a := fun v12 k0_hw35 k0_t10 k0_t11 => k0_hw35.2.2.2.2.2.1.2.2.2.2.2.2.2.2.2.2.2.2.2.2.2.2.2.2.2.2.2.2.2.2.2.2.2.2.2.2.2 k0_t10 k0_t11
theorem k0_off909_inb : ∀ (v12 : BitVec 32) (k0_hw35 : k0_chk35 v12) (k0_t10 : Fin (k0_t10_loop v12).trips) (k0_t11 : Fin k0_t11_loop.trips), ∀ a, (k0_off909 v12 k0_t10 k0_t11) a + S1x16.size a ≤ S128x128.size a := fun v12 k0_hw35 k0_t10 k0_t11 => k0_hw35.2.2.2.2.2.2.1.1 k0_t10 k0_t11
theorem k0_off911_inb : ∀ (v12 : BitVec 32) (k0_hw35 : k0_chk35 v12) (k0_t10 : Fin (k0_t10_loop v12).trips) (k0_t11 : Fin k0_t11_loop.trips), ∀ a, (k0_off911 v12 k0_t10 k0_t11) a + S1x16.size a ≤ S128x128.size a := fun v12 k0_hw35 k0_t10 k0_t11 => k0_hw35.2.2.2.2.2.2.1.2.1 k0_t10 k0_t11
theorem k0_off913_inb : ∀ (v12 : BitVec 32) (k0_hw35 : k0_chk35 v12) (k0_t10 : Fin (k0_t10_loop v12).trips) (k0_t11 : Fin k0_t11_loop.trips), ∀ a, (k0_off913 v12 k0_t10 k0_t11) a + S1x16.size a ≤ S128x128.size a := fun v12 k0_hw35 k0_t10 k0_t11 => k0_hw35.2.2.2.2.2.2.1.2.2.1 k0_t10 k0_t11
theorem k0_off915_inb : ∀ (v12 : BitVec 32) (k0_hw35 : k0_chk35 v12) (k0_t10 : Fin (k0_t10_loop v12).trips) (k0_t11 : Fin k0_t11_loop.trips), ∀ a, (k0_off915 v12 k0_t10 k0_t11) a + S1x16.size a ≤ S128x128.size a := fun v12 k0_hw35 k0_t10 k0_t11 => k0_hw35.2.2.2.2.2.2.1.2.2.2.1 k0_t10 k0_t11
theorem k0_off917_inb : ∀ (v12 : BitVec 32) (k0_hw35 : k0_chk35 v12) (k0_t10 : Fin (k0_t10_loop v12).trips) (k0_t11 : Fin k0_t11_loop.trips), ∀ a, (k0_off917 v12 k0_t10 k0_t11) a + S1x16.size a ≤ S128x128.size a := fun v12 k0_hw35 k0_t10 k0_t11 => k0_hw35.2.2.2.2.2.2.1.2.2.2.2.1 k0_t10 k0_t11
theorem k0_off919_inb : ∀ (v12 : BitVec 32) (k0_hw35 : k0_chk35 v12) (k0_t10 : Fin (k0_t10_loop v12).trips) (k0_t11 : Fin k0_t11_loop.trips), ∀ a, (k0_off919 v12 k0_t10 k0_t11) a + S1x16.size a ≤ S128x128.size a := fun v12 k0_hw35 k0_t10 k0_t11 => k0_hw35.2.2.2.2.2.2.1.2.2.2.2.2.1 k0_t10 k0_t11
theorem k0_off921_inb : ∀ (v12 : BitVec 32) (k0_hw35 : k0_chk35 v12) (k0_t10 : Fin (k0_t10_loop v12).trips) (k0_t11 : Fin k0_t11_loop.trips), ∀ a, (k0_off921 v12 k0_t10 k0_t11) a + S1x16.size a ≤ S128x128.size a := fun v12 k0_hw35 k0_t10 k0_t11 => k0_hw35.2.2.2.2.2.2.1.2.2.2.2.2.2.1 k0_t10 k0_t11
theorem k0_off923_inb : ∀ (v12 : BitVec 32) (k0_hw35 : k0_chk35 v12) (k0_t10 : Fin (k0_t10_loop v12).trips) (k0_t11 : Fin k0_t11_loop.trips), ∀ a, (k0_off923 v12 k0_t10 k0_t11) a + S1x16.size a ≤ S128x128.size a := fun v12 k0_hw35 k0_t10 k0_t11 => k0_hw35.2.2.2.2.2.2.1.2.2.2.2.2.2.2.1 k0_t10 k0_t11
theorem k0_off925_inb : ∀ (v12 : BitVec 32) (k0_hw35 : k0_chk35 v12) (k0_t10 : Fin (k0_t10_loop v12).trips) (k0_t11 : Fin k0_t11_loop.trips), ∀ a, (k0_off925 v12 k0_t10 k0_t11) a + S1x16.size a ≤ S128x128.size a := fun v12 k0_hw35 k0_t10 k0_t11 => k0_hw35.2.2.2.2.2.2.1.2.2.2.2.2.2.2.2.1 k0_t10 k0_t11
theorem k0_off927_inb : ∀ (v12 : BitVec 32) (k0_hw35 : k0_chk35 v12) (k0_t10 : Fin (k0_t10_loop v12).trips) (k0_t11 : Fin k0_t11_loop.trips), ∀ a, (k0_off927 v12 k0_t10 k0_t11) a + S1x16.size a ≤ S128x128.size a := fun v12 k0_hw35 k0_t10 k0_t11 => k0_hw35.2.2.2.2.2.2.1.2.2.2.2.2.2.2.2.2.1 k0_t10 k0_t11
theorem k0_off929_inb : ∀ (v12 : BitVec 32) (k0_hw35 : k0_chk35 v12) (k0_t10 : Fin (k0_t10_loop v12).trips) (k0_t11 : Fin k0_t11_loop.trips), ∀ a, (k0_off929 v12 k0_t10 k0_t11) a + S1x16.size a ≤ S128x128.size a := fun v12 k0_hw35 k0_t10 k0_t11 => k0_hw35.2.2.2.2.2.2.1.2.2.2.2.2.2.2.2.2.2.1 k0_t10 k0_t11
theorem k0_off931_inb : ∀ (v12 : BitVec 32) (k0_hw35 : k0_chk35 v12) (k0_t10 : Fin (k0_t10_loop v12).trips) (k0_t11 : Fin k0_t11_loop.trips), ∀ a, (k0_off931 v12 k0_t10 k0_t11) a + S1x16.size a ≤ S128x128.size a := fun v12 k0_hw35 k0_t10 k0_t11 => k0_hw35.2.2.2.2.2.2.1.2.2.2.2.2.2.2.2.2.2.2.1 k0_t10 k0_t11
theorem k0_off933_inb : ∀ (v12 : BitVec 32) (k0_hw35 : k0_chk35 v12) (k0_t10 : Fin (k0_t10_loop v12).trips) (k0_t11 : Fin k0_t11_loop.trips), ∀ a, (k0_off933 v12 k0_t10 k0_t11) a + S1x16.size a ≤ S128x128.size a := fun v12 k0_hw35 k0_t10 k0_t11 => k0_hw35.2.2.2.2.2.2.1.2.2.2.2.2.2.2.2.2.2.2.2.1 k0_t10 k0_t11
theorem k0_off935_inb : ∀ (v12 : BitVec 32) (k0_hw35 : k0_chk35 v12) (k0_t10 : Fin (k0_t10_loop v12).trips) (k0_t11 : Fin k0_t11_loop.trips), ∀ a, (k0_off935 v12 k0_t10 k0_t11) a + S1x16.size a ≤ S128x128.size a := fun v12 k0_hw35 k0_t10 k0_t11 => k0_hw35.2.2.2.2.2.2.1.2.2.2.2.2.2.2.2.2.2.2.2.2.1 k0_t10 k0_t11
theorem k0_off937_inb : ∀ (v12 : BitVec 32) (k0_hw35 : k0_chk35 v12) (k0_t10 : Fin (k0_t10_loop v12).trips) (k0_t11 : Fin k0_t11_loop.trips), ∀ a, (k0_off937 v12 k0_t10 k0_t11) a + S1x16.size a ≤ S128x128.size a := fun v12 k0_hw35 k0_t10 k0_t11 => k0_hw35.2.2.2.2.2.2.1.2.2.2.2.2.2.2.2.2.2.2.2.2.2.1 k0_t10 k0_t11
theorem k0_off939_inb : ∀ (v12 : BitVec 32) (k0_hw35 : k0_chk35 v12) (k0_t10 : Fin (k0_t10_loop v12).trips) (k0_t11 : Fin k0_t11_loop.trips), ∀ a, (k0_off939 v12 k0_t10 k0_t11) a + S1x16.size a ≤ S128x128.size a := fun v12 k0_hw35 k0_t10 k0_t11 => k0_hw35.2.2.2.2.2.2.1.2.2.2.2.2.2.2.2.2.2.2.2.2.2.2.1 k0_t10 k0_t11
theorem k0_off941_inb : ∀ (v12 : BitVec 32) (k0_hw35 : k0_chk35 v12) (k0_t10 : Fin (k0_t10_loop v12).trips) (k0_t11 : Fin k0_t11_loop.trips), ∀ a, (k0_off941 v12 k0_t10 k0_t11) a + S1x16.size a ≤ S128x128.size a := fun v12 k0_hw35 k0_t10 k0_t11 => k0_hw35.2.2.2.2.2.2.1.2.2.2.2.2.2.2.2.2.2.2.2.2.2.2.2.1 k0_t10 k0_t11
theorem k0_off943_inb : ∀ (v12 : BitVec 32) (k0_hw35 : k0_chk35 v12) (k0_t10 : Fin (k0_t10_loop v12).trips) (k0_t11 : Fin k0_t11_loop.trips), ∀ a, (k0_off943 v12 k0_t10 k0_t11) a + S1x16.size a ≤ S128x128.size a := fun v12 k0_hw35 k0_t10 k0_t11 => k0_hw35.2.2.2.2.2.2.1.2.2.2.2.2.2.2.2.2.2.2.2.2.2.2.2.2.1 k0_t10 k0_t11
theorem k0_off945_inb : ∀ (v12 : BitVec 32) (k0_hw35 : k0_chk35 v12) (k0_t10 : Fin (k0_t10_loop v12).trips) (k0_t11 : Fin k0_t11_loop.trips), ∀ a, (k0_off945 v12 k0_t10 k0_t11) a + S1x16.size a ≤ S128x128.size a := fun v12 k0_hw35 k0_t10 k0_t11 => k0_hw35.2.2.2.2.2.2.1.2.2.2.2.2.2.2.2.2.2.2.2.2.2.2.2.2.2.1 k0_t10 k0_t11
theorem k0_off947_inb : ∀ (v12 : BitVec 32) (k0_hw35 : k0_chk35 v12) (k0_t10 : Fin (k0_t10_loop v12).trips) (k0_t11 : Fin k0_t11_loop.trips), ∀ a, (k0_off947 v12 k0_t10 k0_t11) a + S1x16.size a ≤ S128x128.size a := fun v12 k0_hw35 k0_t10 k0_t11 => k0_hw35.2.2.2.2.2.2.1.2.2.2.2.2.2.2.2.2.2.2.2.2.2.2.2.2.2.2.1 k0_t10 k0_t11
theorem k0_off949_inb : ∀ (v12 : BitVec 32) (k0_hw35 : k0_chk35 v12) (k0_t10 : Fin (k0_t10_loop v12).trips) (k0_t11 : Fin k0_t11_loop.trips), ∀ a, (k0_off949 v12 k0_t10 k0_t11) a + S1x16.size a ≤ S128x128.size a := fun v12 k0_hw35 k0_t10 k0_t11 => k0_hw35.2.2.2.2.2.2.1.2.2.2.2.2.2.2.2.2.2.2.2.2.2.2.2.2.2.2.2.1 k0_t10 k0_t11
theorem k0_off951_inb : ∀ (v12 : BitVec 32) (k0_hw35 : k0_chk35 v12) (k0_t10 : Fin (k0_t10_loop v12).trips) (k0_t11 : Fin k0_t11_loop.trips), ∀ a, (k0_off951 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.1 k0_t10 k0_t11
theorem k0_off953_inb : ∀ (v12 : BitVec 32) (k0_hw35 : k0_chk35 v12) (k0_t10 : Fin (k0_t10_loop v12).trips) (k0_t11 : Fin k0_t11_loop.trips), ∀ a, (k0_off953 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.1 k0_t10 k0_t11
theorem k0_off955_inb : ∀ (v12 : BitVec 32) (k0_hw35 : k0_chk35 v12) (k0_t10 : Fin (k0_t10_loop v12).trips) (k0_t11 : Fin k0_t11_loop.trips), ∀ a, (k0_off955 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.1 k0_t10 k0_t11
theorem k0_off957_inb : ∀ (v12 : BitVec 32) (k0_hw35 : k0_chk35 v12) (k0_t10 : Fin (k0_t10_loop v12).trips) (k0_t11 : Fin k0_t11_loop.trips), ∀ a, (k0_off957 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.1 k0_t10 k0_t11
theorem k0_off959_inb : ∀ (v12 : BitVec 32) (k0_hw35 : k0_chk35 v12) (k0_t10 : Fin (k0_t10_loop v12).trips) (k0_t11 : Fin k0_t11_loop.trips), ∀ a, (k0_off959 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.1 k0_t10 k0_t11
theorem k0_off961_inb : ∀ (v12 : BitVec 32) (k0_hw35 : k0_chk35 v12) (k0_t10 : Fin (k0_t10_loop v12).trips) (k0_t11 : Fin k0_t11_loop.trips), ∀ a, (k0_off961 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.2.1 k0_t10 k0_t11
theorem k0_off963_inb : ∀ (v12 : BitVec 32) (k0_hw35 : k0_chk35 v12) (k0_t10 : Fin (k0_t10_loop v12).trips) (k0_t11 : Fin k0_t11_loop.trips), ∀ a, (k0_off963 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.2.2.1 k0_t10 k0_t11
theorem k0_off965_inb : ∀ (v12 : BitVec 32) (k0_hw35 : k0_chk35 v12) (k0_t10 : Fin (k0_t10_loop v12).trips) (k0_t11 : Fin k0_t11_loop.trips), ∀ a, (k0_off965 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.2.2.2.1 k0_t10 k0_t11
theorem k0_off967_inb : ∀ (v12 : BitVec 32) (k0_hw35 : k0_chk35 v12) (k0_t10 : Fin (k0_t10_loop v12).trips) (k0_t11 : Fin k0_t11_loop.trips), ∀ a, (k0_off967 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.2.2.2.2.1 k0_t10 k0_t11
theorem k0_off969_inb : ∀ (v12 : BitVec 32) (k0_hw35 : k0_chk35 v12) (k0_t10 : Fin (k0_t10_loop v12).trips) (k0_t11 : Fin k0_t11_loop.trips), ∀ a, (k0_off969 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.2.2.2.2.2.1 k0_t10 k0_t11
theorem k0_off971_inb : ∀ (v12 : BitVec 32) (k0_hw35 : k0_chk35 v12) (k0_t10 : Fin (k0_t10_loop v12).trips) (k0_t11 : Fin k0_t11_loop.trips), ∀ a, (k0_off971 v12 k0_t10 k0_t11) a + S1x16.size a ≤ S128x128.size a := fun v12 k0_hw35 k0_t10 k0_t11 => k0_hw35.2.2.2.2.2.2.1.2.2.2.2.2.2.2.2.2.2.2.2.2.2.2.2.2.2.2.2.2.2.2.2.2.2.2.2.2.2.2 k0_t10 k0_t11
theorem k0_off973_inb : ∀ (v12 : BitVec 32) (k0_hw35 : k0_chk35 v12) (k0_t10 : Fin (k0_t10_loop v12).trips) (k0_t11 : Fin k0_t11_loop.trips), ∀ a, (k0_off973 v12 k0_t10 k0_t11) a + S1x16.size a ≤ S128x128.size a := fun v12 k0_hw35 k0_t10 k0_t11 => k0_hw35.2.2.2.2.2.2.2.1.1 k0_t10 k0_t11
theorem k0_off975_inb : ∀ (v12 : BitVec 32) (k0_hw35 : k0_chk35 v12) (k0_t10 : Fin (k0_t10_loop v12).trips) (k0_t11 : Fin k0_t11_loop.trips), ∀ a, (k0_off975 v12 k0_t10 k0_t11) a + S1x16.size a ≤ S128x128.size a := fun v12 k0_hw35 k0_t10 k0_t11 => k0_hw35.2.2.2.2.2.2.2.1.2.1 k0_t10 k0_t11
theorem k0_off977_inb : ∀ (v12 : BitVec 32) (k0_hw35 : k0_chk35 v12) (k0_t10 : Fin (k0_t10_loop v12).trips) (k0_t11 : Fin k0_t11_loop.trips), ∀ a, (k0_off977 v12 k0_t10 k0_t11) a + S1x16.size a ≤ S128x128.size a := fun v12 k0_hw35 k0_t10 k0_t11 => k0_hw35.2.2.2.2.2.2.2.1.2.2.1 k0_t10 k0_t11
theorem k0_off979_inb : ∀ (v12 : BitVec 32) (k0_hw35 : k0_chk35 v12) (k0_t10 : Fin (k0_t10_loop v12).trips) (k0_t11 : Fin k0_t11_loop.trips), ∀ a, (k0_off979 v12 k0_t10 k0_t11) a + S1x16.size a ≤ S128x128.size a := fun v12 k0_hw35 k0_t10 k0_t11 => k0_hw35.2.2.2.2.2.2.2.1.2.2.2.1 k0_t10 k0_t11
theorem k0_off981_inb : ∀ (v12 : BitVec 32) (k0_hw35 : k0_chk35 v12) (k0_t10 : Fin (k0_t10_loop v12).trips) (k0_t11 : Fin k0_t11_loop.trips), ∀ a, (k0_off981 v12 k0_t10 k0_t11) a + S1x16.size a ≤ S128x128.size a := fun v12 k0_hw35 k0_t10 k0_t11 => k0_hw35.2.2.2.2.2.2.2.1.2.2.2.2.1 k0_t10 k0_t11
theorem k0_off983_inb : ∀ (v12 : BitVec 32) (k0_hw35 : k0_chk35 v12) (k0_t10 : Fin (k0_t10_loop v12).trips) (k0_t11 : Fin k0_t11_loop.trips), ∀ a, (k0_off983 v12 k0_t10 k0_t11) a + S1x16.size a ≤ S128x128.size a := fun v12 k0_hw35 k0_t10 k0_t11 => k0_hw35.2.2.2.2.2.2.2.1.2.2.2.2.2.1 k0_t10 k0_t11
theorem k0_off985_inb : ∀ (v12 : BitVec 32) (k0_hw35 : k0_chk35 v12) (k0_t10 : Fin (k0_t10_loop v12).trips) (k0_t11 : Fin k0_t11_loop.trips), ∀ a, (k0_off985 v12 k0_t10 k0_t11) a + S1x16.size a ≤ S128x128.size a := fun v12 k0_hw35 k0_t10 k0_t11 => k0_hw35.2.2.2.2.2.2.2.1.2.2.2.2.2.2.1 k0_t10 k0_t11
theorem k0_off987_inb : ∀ (v12 : BitVec 32) (k0_hw35 : k0_chk35 v12) (k0_t10 : Fin (k0_t10_loop v12).trips) (k0_t11 : Fin k0_t11_loop.trips), ∀ a, (k0_off987 v12 k0_t10 k0_t11) a + S1x16.size a ≤ S128x128.size a := fun v12 k0_hw35 k0_t10 k0_t11 => k0_hw35.2.2.2.2.2.2.2.1.2.2.2.2.2.2.2.1 k0_t10 k0_t11
theorem k0_off989_inb : ∀ (v12 : BitVec 32) (k0_hw35 : k0_chk35 v12) (k0_t10 : Fin (k0_t10_loop v12).trips) (k0_t11 : Fin k0_t11_loop.trips), ∀ a, (k0_off989 v12 k0_t10 k0_t11) a + S1x16.size a ≤ S128x128.size a := fun v12 k0_hw35 k0_t10 k0_t11 => k0_hw35.2.2.2.2.2.2.2.1.2.2.2.2.2.2.2.2.1 k0_t10 k0_t11
theorem k0_off991_inb : ∀ (v12 : BitVec 32) (k0_hw35 : k0_chk35 v12) (k0_t10 : Fin (k0_t10_loop v12).trips) (k0_t11 : Fin k0_t11_loop.trips), ∀ a, (k0_off991 v12 k0_t10 k0_t11) a + S1x16.size a ≤ S128x128.size a := fun v12 k0_hw35 k0_t10 k0_t11 => k0_hw35.2.2.2.2.2.2.2.1.2.2.2.2.2.2.2.2.2.1 k0_t10 k0_t11
theorem k0_off993_inb : ∀ (v12 : BitVec 32) (k0_hw35 : k0_chk35 v12) (k0_t10 : Fin (k0_t10_loop v12).trips) (k0_t11 : Fin k0_t11_loop.trips), ∀ a, (k0_off993 v12 k0_t10 k0_t11) a + S1x16.size a ≤ S128x128.size a := fun v12 k0_hw35 k0_t10 k0_t11 => k0_hw35.2.2.2.2.2.2.2.1.2.2.2.2.2.2.2.2.2.2.1 k0_t10 k0_t11
theorem k0_off995_inb : ∀ (v12 : BitVec 32) (k0_hw35 : k0_chk35 v12) (k0_t10 : Fin (k0_t10_loop v12).trips) (k0_t11 : Fin k0_t11_loop.trips), ∀ a, (k0_off995 v12 k0_t10 k0_t11) a + S1x16.size a ≤ S128x128.size a := fun v12 k0_hw35 k0_t10 k0_t11 => k0_hw35.2.2.2.2.2.2.2.1.2.2.2.2.2.2.2.2.2.2.2.1 k0_t10 k0_t11
theorem k0_off997_inb : ∀ (v12 : BitVec 32) (k0_hw35 : k0_chk35 v12) (k0_t10 : Fin (k0_t10_loop v12).trips) (k0_t11 : Fin k0_t11_loop.trips), ∀ a, (k0_off997 v12 k0_t10 k0_t11) a + S1x16.size a ≤ S128x128.size a := fun v12 k0_hw35 k0_t10 k0_t11 => k0_hw35.2.2.2.2.2.2.2.1.2.2.2.2.2.2.2.2.2.2.2.2.1 k0_t10 k0_t11
theorem k0_off999_inb : ∀ (v12 : BitVec 32) (k0_hw35 : k0_chk35 v12) (k0_t10 : Fin (k0_t10_loop v12).trips) (k0_t11 : Fin k0_t11_loop.trips), ∀ a, (k0_off999 v12 k0_t10 k0_t11) a + S1x16.size a ≤ S128x128.size a := fun v12 k0_hw35 k0_t10 k0_t11 => k0_hw35.2.2.2.2.2.2.2.1.2.2.2.2.2.2.2.2.2.2.2.2.2.1 k0_t10 k0_t11
theorem k0_off1001_inb : ∀ (v12 : BitVec 32) (k0_hw35 : k0_chk35 v12) (k0_t10 : Fin (k0_t10_loop v12).trips) (k0_t11 : Fin k0_t11_loop.trips), ∀ a, (k0_off1001 v12 k0_t10 k0_t11) a + S1x16.size a ≤ S128x128.size a := fun v12 k0_hw35 k0_t10 k0_t11 => k0_hw35.2.2.2.2.2.2.2.1.2.2.2.2.2.2.2.2.2.2.2.2.2.2.1 k0_t10 k0_t11
theorem k0_off1003_inb : ∀ (v12 : BitVec 32) (k0_hw35 : k0_chk35 v12) (k0_t10 : Fin (k0_t10_loop v12).trips) (k0_t11 : Fin k0_t11_loop.trips), ∀ a, (k0_off1003 v12 k0_t10 k0_t11) a + S1x16.size a ≤ S128x128.size a := fun v12 k0_hw35 k0_t10 k0_t11 => k0_hw35.2.2.2.2.2.2.2.1.2.2.2.2.2.2.2.2.2.2.2.2.2.2.2.1 k0_t10 k0_t11
theorem k0_off1005_inb : ∀ (v12 : BitVec 32) (k0_hw35 : k0_chk35 v12) (k0_t10 : Fin (k0_t10_loop v12).trips) (k0_t11 : Fin k0_t11_loop.trips), ∀ a, (k0_off1005 v12 k0_t10 k0_t11) a + S1x16.size a ≤ S128x128.size a := fun v12 k0_hw35 k0_t10 k0_t11 => k0_hw35.2.2.2.2.2.2.2.1.2.2.2.2.2.2.2.2.2.2.2.2.2.2.2.2.1 k0_t10 k0_t11
theorem k0_off1007_inb : ∀ (v12 : BitVec 32) (k0_hw35 : k0_chk35 v12) (k0_t10 : Fin (k0_t10_loop v12).trips) (k0_t11 : Fin k0_t11_loop.trips), ∀ a, (k0_off1007 v12 k0_t10 k0_t11) a + S1x16.size a ≤ S128x128.size a := fun v12 k0_hw35 k0_t10 k0_t11 => k0_hw35.2.2.2.2.2.2.2.1.2.2.2.2.2.2.2.2.2.2.2.2.2.2.2.2.2.1 k0_t10 k0_t11
theorem k0_off1009_inb : ∀ (v12 : BitVec 32) (k0_hw35 : k0_chk35 v12) (k0_t10 : Fin (k0_t10_loop v12).trips) (k0_t11 : Fin k0_t11_loop.trips), ∀ a, (k0_off1009 v12 k0_t10 k0_t11) a + S1x16.size a ≤ S128x128.size a := fun v12 k0_hw35 k0_t10 k0_t11 => k0_hw35.2.2.2.2.2.2.2.1.2.2.2.2.2.2.2.2.2.2.2.2.2.2.2.2.2.2.1 k0_t10 k0_t11
theorem k0_off1011_inb : ∀ (v12 : BitVec 32) (k0_hw35 : k0_chk35 v12) (k0_t10 : Fin (k0_t10_loop v12).trips) (k0_t11 : Fin k0_t11_loop.trips), ∀ a, (k0_off1011 v12 k0_t10 k0_t11) a + S1x16.size a ≤ S128x128.size a := fun v12 k0_hw35 k0_t10 k0_t11 => k0_hw35.2.2.2.2.2.2.2.1.2.2.2.2.2.2.2.2.2.2.2.2.2.2.2.2.2.2.2.1 k0_t10 k0_t11
theorem k0_off1013_inb : ∀ (v12 : BitVec 32) (k0_hw35 : k0_chk35 v12) (k0_t10 : Fin (k0_t10_loop v12).trips) (k0_t11 : Fin k0_t11_loop.trips), ∀ a, (k0_off1013 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.1 k0_t10 k0_t11
theorem k0_off1015_inb : ∀ (v12 : BitVec 32) (k0_hw35 : k0_chk35 v12) (k0_t10 : Fin (k0_t10_loop v12).trips) (k0_t11 : Fin k0_t11_loop.trips), ∀ a, (k0_off1015 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.1 k0_t10 k0_t11
theorem k0_off1017_inb : ∀ (v12 : BitVec 32) (k0_hw35 : k0_chk35 v12) (k0_t10 : Fin (k0_t10_loop v12).trips) (k0_t11 : Fin k0_t11_loop.trips), ∀ a, (k0_off1017 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.1 k0_t10 k0_t11
theorem k0_off1019_inb : ∀ (v12 : BitVec 32) (k0_hw35 : k0_chk35 v12) (k0_t10 : Fin (k0_t10_loop v12).trips) (k0_t11 : Fin k0_t11_loop.trips), ∀ a, (k0_off1019 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.1 k0_t10 k0_t11
theorem k0_off1021_inb : ∀ (v12 : BitVec 32) (k0_hw35 : k0_chk35 v12) (k0_t10 : Fin (k0_t10_loop v12).trips) (k0_t11 : Fin k0_t11_loop.trips), ∀ a, (k0_off1021 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.1 k0_t10 k0_t11
theorem k0_off1023_inb : ∀ (v12 : BitVec 32) (k0_hw35 : k0_chk35 v12) (k0_t10 : Fin (k0_t10_loop v12).trips) (k0_t11 : Fin k0_t11_loop.trips), ∀ a, (k0_off1023 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.1 k0_t10 k0_t11
theorem k0_off1025_inb : ∀ (v12 : BitVec 32) (k0_hw35 : k0_chk35 v12) (k0_t10 : Fin (k0_t10_loop v12).trips) (k0_t11 : Fin k0_t11_loop.trips), ∀ a, (k0_off1025 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.2.1 k0_t10 k0_t11
theorem k0_off1027_inb : ∀ (v12 : BitVec 32) (k0_hw35 : k0_chk35 v12) (k0_t10 : Fin (k0_t10_loop v12).trips) (k0_t11 : Fin k0_t11_loop.trips), ∀ a, (k0_off1027 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.2.2.1 k0_t10 k0_t11
theorem k0_off1029_inb : ∀ (v12 : BitVec 32) (k0_hw35 : k0_chk35 v12) (k0_t10 : Fin (k0_t10_loop v12).trips) (k0_t11 : Fin k0_t11_loop.trips), ∀ a, (k0_off1029 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.2.2.2.1 k0_t10 k0_t11
theorem k0_off1031_inb : ∀ (v12 : BitVec 32) (k0_hw35 : k0_chk35 v12) (k0_t10 : Fin (k0_t10_loop v12).trips) (k0_t11 : Fin k0_t11_loop.trips), ∀ a, (k0_off1031 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.2.2.2.2.1 k0_t10 k0_t11
theorem k0_off1033_inb : ∀ (v12 : BitVec 32) (k0_hw35 : k0_chk35 v12) (k0_t10 : Fin (k0_t10_loop v12).trips) (k0_t11 : Fin k0_t11_loop.trips), ∀ a, (k0_off1033 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.2.2.2.2.2.1 k0_t10 k0_t11
theorem k0_off1035_inb : ∀ (v12 : BitVec 32) (k0_hw35 : k0_chk35 v12) (k0_t10 : Fin (k0_t10_loop v12).trips) (k0_t11 : Fin k0_t11_loop.trips), ∀ a, (k0_off1035 v12 k0_t10 k0_t11) a + S1x16.size a ≤ S128x128.size a := fun v12 k0_hw35 k0_t10 k0_t11 => k0_hw35.2.2.2.2.2.2.2.1.2.2.2.2.2.2.2.2.2.2.2.2.2.2.2.2.2.2.2.2.2.2.2.2.2.2.2.2.2.2.2 k0_t10 k0_t11
theorem k0_off1037_inb : ∀ (v12 : BitVec 32) (k0_hw35 : k0_chk35 v12) (k0_t10 : Fin (k0_t10_loop v12).trips) (k0_t11 : Fin k0_t11_loop.trips), ∀ a, (k0_off1037 v12 k0_t10 k0_t11) a + S1x16.size a ≤ S128x128.size a := fun v12 k0_hw35 k0_t10 k0_t11 => k0_hw35.2.2.2.2.2.2.2.2.1 k0_t10 k0_t11
theorem k0_off1039_inb : ∀ (v12 : BitVec 32) (k0_hw35 : k0_chk35 v12) (k0_t10 : Fin (k0_t10_loop v12).trips) (k0_t11 : Fin k0_t11_loop.trips), ∀ a, (k0_off1039 v12 k0_t10 k0_t11) a + S1x16.size a ≤ S128x128.size a := fun v12 k0_hw35 k0_t10 k0_t11 => k0_hw35.2.2.2.2.2.2.2.2.2.1 k0_t10 k0_t11
theorem k0_off1041_inb : ∀ (v12 : BitVec 32) (k0_hw35 : k0_chk35 v12) (k0_t10 : Fin (k0_t10_loop v12).trips) (k0_t11 : Fin k0_t11_loop.trips), ∀ a, (k0_off1041 v12 k0_t10 k0_t11) a + S1x16.size a ≤ S128x128.size a := fun v12 k0_hw35 k0_t10 k0_t11 => k0_hw35.2.2.2.2.2.2.2.2.2.2.1 k0_t10 k0_t11
theorem k0_off1043_inb : ∀ (v12 : BitVec 32) (k0_hw35 : k0_chk35 v12) (k0_t10 : Fin (k0_t10_loop v12).trips) (k0_t11 : Fin k0_t11_loop.trips), ∀ a, (k0_off1043 v12 k0_t10 k0_t11) a + S1x16.size a ≤ S128x128.size a := fun v12 k0_hw35 k0_t10 k0_t11 => k0_hw35.2.2.2.2.2.2.2.2.2.2.2.1 k0_t10 k0_t11
theorem k0_off1045_inb : ∀ (v12 : BitVec 32) (k0_hw35 : k0_chk35 v12) (k0_t10 : Fin (k0_t10_loop v12).trips) (k0_t11 : Fin k0_t11_loop.trips), ∀ a, (k0_off1045 v12 k0_t10 k0_t11) a + S1x16.size a ≤ S128x128.size a := fun v12 k0_hw35 k0_t10 k0_t11 => k0_hw35.2.2.2.2.2.2.2.2.2.2.2.2.1 k0_t10 k0_t11
theorem k0_off1047_inb : ∀ (v12 : BitVec 32) (k0_hw35 : k0_chk35 v12) (k0_t10 : Fin (k0_t10_loop v12).trips) (k0_t11 : Fin k0_t11_loop.trips), ∀ a, (k0_off1047 v12 k0_t10 k0_t11) a + S1x16.size a ≤ S128x128.size a := fun v12 k0_hw35 k0_t10 k0_t11 => k0_hw35.2.2.2.2.2.2.2.2.2.2.2.2.2.1 k0_t10 k0_t11
theorem k0_off1049_inb : ∀ (v12 : BitVec 32) (k0_hw35 : k0_chk35 v12) (k0_t10 : Fin (k0_t10_loop v12).trips) (k0_t11 : Fin k0_t11_loop.trips), ∀ a, (k0_off1049 v12 k0_t10 k0_t11) a + S1x16.size a ≤ S128x128.size a := fun v12 k0_hw35 k0_t10 k0_t11 => k0_hw35.2.2.2.2.2.2.2.2.2.2.2.2.2.2.1 k0_t10 k0_t11
theorem k0_off1051_inb : ∀ (v12 : BitVec 32) (k0_hw35 : k0_chk35 v12) (k0_t10 : Fin (k0_t10_loop v12).trips) (k0_t11 : Fin k0_t11_loop.trips), ∀ a, (k0_off1051 v12 k0_t10 k0_t11) a + S1x16.size a ≤ S128x128.size a := fun v12 k0_hw35 k0_t10 k0_t11 => k0_hw35.2.2.2.2.2.2.2.2.2.2.2.2.2.2.2.1 k0_t10 k0_t11
theorem k0_off1053_inb : ∀ (v12 : BitVec 32) (k0_hw35 : k0_chk35 v12) (k0_t10 : Fin (k0_t10_loop v12).trips) (k0_t11 : Fin k0_t11_loop.trips), ∀ a, (k0_off1053 v12 k0_t10 k0_t11) a + S1x16.size a ≤ S128x128.size a := fun v12 k0_hw35 k0_t10 k0_t11 => k0_hw35.2.2.2.2.2.2.2.2.2.2.2.2.2.2.2.2.1 k0_t10 k0_t11
theorem k0_off1055_inb : ∀ (v12 : BitVec 32) (k0_hw35 : k0_chk35 v12) (k0_t10 : Fin (k0_t10_loop v12).trips) (k0_t11 : Fin k0_t11_loop.trips), ∀ a, (k0_off1055 v12 k0_t10 k0_t11) a + S1x16.size a ≤ S128x128.size a := fun v12 k0_hw35 k0_t10 k0_t11 => k0_hw35.2.2.2.2.2.2.2.2.2.2.2.2.2.2.2.2.2.1 k0_t10 k0_t11
theorem k0_off1057_inb : ∀ (v12 : BitVec 32) (k0_hw35 : k0_chk35 v12) (k0_t10 : Fin (k0_t10_loop v12).trips) (k0_t11 : Fin k0_t11_loop.trips), ∀ a, (k0_off1057 v12 k0_t10 k0_t11) a + S1x16.size a ≤ S128x128.size a := fun v12 k0_hw35 k0_t10 k0_t11 => k0_hw35.2.2.2.2.2.2.2.2.2.2.2.2.2.2.2.2.2.2.1 k0_t10 k0_t11
theorem k0_off1059_inb : ∀ (v12 : BitVec 32) (k0_hw35 : k0_chk35 v12) (k0_t10 : Fin (k0_t10_loop v12).trips) (k0_t11 : Fin k0_t11_loop.trips), ∀ a, (k0_off1059 v12 k0_t10 k0_t11) a + S1x16.size a ≤ S128x128.size a := fun v12 k0_hw35 k0_t10 k0_t11 => k0_hw35.2.2.2.2.2.2.2.2.2.2.2.2.2.2.2.2.2.2.2.1 k0_t10 k0_t11
theorem k0_off1061_inb : ∀ (v12 : BitVec 32) (k0_hw35 : k0_chk35 v12) (k0_t10 : Fin (k0_t10_loop v12).trips) (k0_t11 : Fin k0_t11_loop.trips), ∀ a, (k0_off1061 v12 k0_t10 k0_t11) a + S1x16.size a ≤ S128x128.size a := fun v12 k0_hw35 k0_t10 k0_t11 => k0_hw35.2.2.2.2.2.2.2.2.2.2.2.2.2.2.2.2.2.2.2.2 k0_t10 k0_t11

def k0_off1062 (i : grid0.Coords) : Fin 3 → Nat :=
  let arg0 : BitVec 32 := BitVec.ofNat 32 (i 0).val
  let arg1 : BitVec 32 := BitVec.ofNat 32 (i 1).val
  let c640_i32 : BitVec 32 := 640#32
  let v0 : BitVec 32 := Scalar.muli arg1 c640_i32
  let c0_i32_45_r0 : BitVec 32 := 0#32
  ![arg0.toNat, v0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x320000 : Shape := ⟨2, ![2, 320000]⟩
abbrev S10240x128 : Shape := ⟨2, ![10240, 128]⟩
abbrev S1x320000 : Shape := ⟨2, ![1, 320000]⟩
abbrev S320000 : Shape := ⟨1, ![320000]⟩
abbrev S2x160000 : Shape := ⟨2, ![2, 160000]⟩
abbrev S_ : Shape := ⟨0, ![]⟩
abbrev S2x160000x1 : Shape := ⟨3, ![2, 160000, 1]⟩
abbrev S1 : Shape := ⟨1, ![1]⟩
abbrev S1x1x1 : Shape := ⟨3, ![1, 1, 1]⟩
abbrev S2x160000x128 : Shape := ⟨3, ![2, 160000, 128]⟩
abbrev S2x1x160000 : Shape := ⟨3, ![2, 1, 160000]⟩
abbrev S10240 : Shape := ⟨1, ![10240]⟩
abbrev S1x10240x1 : Shape := ⟨3, ![1, 10240, 1]⟩
abbrev S2x10240x160000 : Shape := ⟨3, ![2, 10240, 160000]⟩
abbrev S2x10240x160000x1 : Shape := ⟨4, ![2, 10240, 160000, 1]⟩
abbrev S2x1x160000x128 : Shape := ⟨4, ![2, 1, 160000, 128]⟩
abbrev S2x10240x160000x128 : Shape := ⟨4, ![2, 10240, 160000, 128]⟩
abbrev S2x10240x128 : Shape := ⟨3, ![2, 10240, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x320000, .i32⟩
  | .hbm, ⟨1, _⟩ => ⟨S10240x128, .f32⟩
  | .hbm, ⟨2, _⟩ => ⟨S1x320000, .i32⟩
  | .hbm, ⟨3, _⟩ => ⟨S320000, .i32⟩
  | .hbm, ⟨4, _⟩ => ⟨S2x160000, .i32⟩
  | .hbm, ⟨5, _⟩ => ⟨S1x320000, .i32⟩
  | .hbm, ⟨6, _⟩ => ⟨S320000, .i32⟩
  | .hbm, ⟨7, _⟩ => ⟨S2x160000, .i32⟩
  | .hbm, ⟨8, _⟩ => ⟨S_, .i32⟩
  | .hbm, ⟨9, _⟩ => ⟨S2x160000, .i32⟩
  | .hbm, ⟨10, _⟩ => ⟨S2x160000, .i1⟩
  | .hbm, ⟨11, _⟩ => ⟨S_, .i32⟩
  | .hbm, ⟨12, _⟩ => ⟨S2x160000, .i32⟩
  | .hbm, ⟨13, _⟩ => ⟨S2x160000, .i32⟩
  | .hbm, ⟨14, _⟩ => ⟨S2x160000, .i32⟩
  | .hbm, ⟨15, _⟩ => ⟨S2x160000x1, .i32⟩
  | .hbm, ⟨16, _⟩ => ⟨S1, .i32⟩
  | .hbm, ⟨17, _⟩ => ⟨S_, .i32⟩
  | .hbm, ⟨18, _⟩ => ⟨S2x160000x1, .i32⟩
  | .hbm, ⟨19, _⟩ => ⟨S2x160000x1, .i1⟩
  | .hbm, ⟨20, _⟩ => ⟨S1x1x1, .i32⟩
  | .hbm, ⟨21, _⟩ => ⟨S2x160000x1, .i32⟩
  | .hbm, ⟨22, _⟩ => ⟨S2x160000x1, .i1⟩
  | .hbm, ⟨23, _⟩ => ⟨S2x160000x1, .i1⟩
  | .hbm, ⟨24, _⟩ => ⟨S_, .i1⟩
  | .hbm, ⟨25, _⟩ => ⟨S2x160000, .i1⟩
  | .hbm, ⟨26, _⟩ => ⟨S2x160000x128, .f32⟩
  | .hbm, ⟨27, _⟩ => ⟨S2x160000x128, .i1⟩
  | .hbm, ⟨28, _⟩ => ⟨S_, .f32⟩
  | .hbm, ⟨29, _⟩ => ⟨S2x160000x128, .f32⟩
  | .hbm, ⟨30, _⟩ => ⟨S2x160000x128, .f32⟩
  | .hbm, ⟨31, _⟩ => ⟨S2x1x160000, .i32⟩
  | .hbm, ⟨32, _⟩ => ⟨S10240, .i32⟩
  | .hbm, ⟨33, _⟩ => ⟨S1x10240x1, .i32⟩
  | .hbm, ⟨34, _⟩ => ⟨S2x10240x160000, .i32⟩
  | .hbm, ⟨35, _⟩ => ⟨S2x10240x160000, .i32⟩
  | .hbm, ⟨36, _⟩ => ⟨S2x10240x160000, .i1⟩
  | .hbm, ⟨37, _⟩ => ⟨S2x10240x160000x1, .i1⟩
  | .hbm, ⟨38, _⟩ => ⟨S2x1x160000x128, .f32⟩
  | .hbm, ⟨39, _⟩ => ⟨S_, .f32⟩
  | .hbm, ⟨40, _⟩ => ⟨S_, .f32⟩
  | .hbm, ⟨41, _⟩ => ⟨S2x10240x160000x128, .i1⟩
  | .hbm, ⟨42, _⟩ => ⟨S2x10240x160000x128, .f32⟩
  | .hbm, ⟨43, _⟩ => ⟨S2x10240x160000x128, .f32⟩
  | .hbm, ⟨44, _⟩ => ⟨S2x10240x160000x128, .f32⟩
  | .hbm, ⟨45, _⟩ => ⟨S_, .f32⟩
  | .hbm, ⟨46, _⟩ => ⟨S2x10240x128, .f32⟩
  | .hbm, ⟨47, _⟩ => ⟨S_, .f32⟩
  | .hbm, ⟨48, _⟩ => ⟨S2x10240x128, .f32⟩
  | .hbm, ⟨49, _⟩ => ⟨S2x10240x128, .f32⟩
  | _, _ => ⟨S2x320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]
-- ==== Pool.lean ====
abbrev S10240x128 : Shape := ⟨2, ![10240, 128]⟩
abbrev S128x128 : Shape := ⟨2, ![128, 128]⟩
abbrev S128 : Shape := ⟨1, ![128]⟩
abbrev S1x128 : Shape := ⟨2, ![1, 128]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S10240x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S1x128, .f32⟩
  | .hbm, ⟨5, _⟩ => ⟨S10240x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolReferenceIdeal.lean ====
abbrev S10240x128 : Shape := ⟨2, ![10240, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S10240x128, .f32⟩
  | .hbm, ⟨5, _⟩ => ⟨S1x128, .f32⟩
  | .hbm, ⟨6, _⟩ => ⟨S10240x128, .f32⟩
  | .hbm, ⟨7, _⟩ => ⟨S10240x128, .f32⟩
  | .hbm, ⟨8, _⟩ => ⟨S_, .f32⟩
  | .hbm, ⟨9, _⟩ => ⟨S10240x128, .f32⟩
  | .hbm, ⟨10, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Hidden.lean ====
abbrev S10240x128 : Shape := ⟨2, ![10240, 128]⟩
abbrev S2x10240x128 : Shape := ⟨3, ![2, 10240, 128]⟩
abbrev S128x128 : Shape := ⟨2, ![128, 128]⟩
abbrev S128 : Shape := ⟨1, ![128]⟩
abbrev S1x10240x128 : Shape := ⟨3, ![1, 10240, 128]⟩
abbrev S1x128 : Shape := ⟨2, ![1, 128]⟩
abbrev S1024x128 : Shape := ⟨2, ![1024, 128]⟩

abbrev nBuf : Space → Nat
  | .hbm => 13
  | .vmem => 11
  | .smem => 0
  | _ => 0

abbrev bufTy : (tb : Table) → Fin (tcTables nBuf tb) → BufTy
  | .hbm, ⟨0, _⟩ => ⟨S10240x128, .f32⟩
  | .hbm, ⟨1, _⟩ => ⟨S2x10240x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x10240x128, .f32⟩
  | .hbm, ⟨6, _⟩ => ⟨S10240x128, .f32⟩
  | .hbm, ⟨7, _⟩ => ⟨S1x10240x128, .f32⟩
  | .hbm, ⟨8, _⟩ => ⟨S10240x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S10240x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HiddenReferenceIdeal.lean ====
abbrev S10240x128 : Shape := ⟨2, ![10240, 128]⟩
abbrev S2x10240x128 : Shape := ⟨3, ![2, 10240, 128]⟩
abbrev S128x128 : Shape := ⟨2, ![128, 128]⟩
abbrev S128 : Shape := ⟨1, ![128]⟩
abbrev S1x10240x128 : Shape := ⟨3, ![1, 10240, 128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S2x10240x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S10240x128, .f32⟩
  | .hbm, ⟨7, _⟩ => ⟨S1x10240x128, .f32⟩
  | .hbm, ⟨8, _⟩ => ⟨S10240x128, .f32⟩
  | .hbm, ⟨9, _⟩ => ⟨S1x10240x128, .f32⟩
  | .hbm, ⟨10, _⟩ => ⟨S10240x128, .f32⟩
  | .hbm, ⟨11, _⟩ => ⟨S10240x128, .f32⟩
  | .hbm, ⟨12, _⟩ => ⟨S128x128, .f32⟩
  | .hbm, ⟨13, _⟩ => ⟨S10240x128, .f32⟩
  | .hbm, ⟨14, _⟩ => ⟨S10240x128, .f32⟩
  | .hbm, ⟨15, _⟩ => ⟨S1x128, .f32⟩
  | .hbm, ⟨16, _⟩ => ⟨S10240x128, .f32⟩
  | .hbm, ⟨17, _⟩ => ⟨S10240x128, .f32⟩
  | .hbm, ⟨18, _⟩ => ⟨S_, .f32⟩
  | .hbm, ⟨19, _⟩ => ⟨S10240x128, .f32⟩
  | .hbm, ⟨20, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Out.lean ====
abbrev S10240x128 : Shape := ⟨2, ![10240, 128]⟩
abbrev S2x10240x128 : Shape := ⟨3, ![2, 10240, 128]⟩
abbrev S128x128 : Shape := ⟨2, ![128, 128]⟩
abbrev S128 : Shape := ⟨1, ![128]⟩
abbrev S1x10240x128 : Shape := ⟨3, ![1, 10240, 128]⟩
abbrev S1x128 : Shape := ⟨2, ![1, 128]⟩
abbrev S1024x128 : Shape := ⟨2, ![1024, 128]⟩

abbrev nBuf : Space → Nat
  | .hbm => 13
  | .vmem => 11
  | .smem => 0
  | _ => 0

abbrev bufTy : (tb : Table) → Fin (tcTables nBuf tb) → BufTy
  | .hbm, ⟨0, _⟩ => ⟨S10240x128, .f32⟩
  | .hbm, ⟨1, _⟩ => ⟨S2x10240x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x10240x128, .f32⟩
  | .hbm, ⟨6, _⟩ => ⟨S10240x128, .f32⟩
  | .hbm, ⟨7, _⟩ => ⟨S1x10240x128, .f32⟩
  | .hbm, ⟨8, _⟩ => ⟨S10240x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S10240x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | _, _ => ⟨S10240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S10240x128 : Shape := ⟨2, ![10240, 128]⟩
abbrev S2x10240x128 : Shape := ⟨3, ![2, 10240, 128]⟩
abbrev S128x128 : Shape := ⟨2, ![128, 128]⟩
abbrev S128 : Shape := ⟨1, ![128]⟩
abbrev S1x10240x128 : Shape := ⟨3, ![1, 10240, 128]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S10240x128, .f32⟩
  | .hbm, ⟨1, _⟩ => ⟨S2x10240x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S10240x128, .f32⟩
  | .hbm, ⟨7, _⟩ => ⟨S1x10240x128, .f32⟩
  | .hbm, ⟨8, _⟩ => ⟨S10240x128, .f32⟩
  | .hbm, ⟨9, _⟩ => ⟨S1x10240x128, .f32⟩
  | .hbm, ⟨10, _⟩ => ⟨S10240x128, .f32⟩
  | .hbm, ⟨11, _⟩ => ⟨S10240x128, .f32⟩
  | .hbm, ⟨12, _⟩ => ⟨S128x128, .f32⟩
  | .hbm, ⟨13, _⟩ => ⟨S10240x128, .f32⟩
  | .hbm, ⟨14, _⟩ => ⟨S10240x128, .f32⟩
  | .hbm, ⟨15, _⟩ => ⟨S1x128, .f32⟩
  | .hbm, ⟨16, _⟩ => ⟨S10240x128, .f32⟩
  | .hbm, ⟨17, _⟩ => ⟨S10240x128, .f32⟩
  | _, _ => ⟨S10240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Group.lean ====
module

public import Idealize.ShloMosaic.Lib.SparseCore.Stream
public import Idealize.ShloMosaic.Lib.Scf
public import Idealize.ShloMosaic.Lib.WritesUnit
public import Idealize.ShloMosaic.Lib.SparseCore
public import Idealize.ShloMosaic.Lib.Tactic
public import Idealize.ShloMosaic.Lib.Pipeline.Value
public import Idealize.ShloMosaic.Lib.Writes

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

abbrev ShA : Shape := ⟨2, ![641, 128]⟩
abbrev ShR : Shape := ⟨2, ![128, 128]⟩
abbrev ShL : Shape := ⟨1, ![3272]⟩
abbrev Sh16 : Shape := ⟨1, ![16]⟩
abbrev Sh1x16 : Shape := ⟨2, ![1, 16]⟩
abbrev Sh1 : Shape := ⟨1, ![1]⟩

theorem pos16 : 0 < Sh16.numel := by decide
theorem pos1x16 : 0 < Sh1x16.numel := by decide
theorem cast_1x16_16 : Sh1x16.ShapeCasts Sh16 := by decide
theorem cast_16_1x16 : Sh16.ShapeCasts Sh1x16 := by decide

section Prog

variable {nD : Nat} {τ : Topo} {sig : RefSig} {Λ : Labels} {F : FTy → Type} [FloatOps F]
variable {a : Fin τ.nSC} {b : Fin τ.nSub} {α : Type}

local notation "𝔼" => TpuEff nD τ sig (Elt F) Λ (Proc.scVector a b)

/-- The offsets of column group `c` of row `r`. -/
abbrev cell (r : ℕ) (c : ℕ) : Fin 2 → ℕ := ![r, 16 * c]

abbrev InA (o : Fin 2 → ℕ) : Prop := ∀ x, o x + Sh1x16.size x ≤ ShA.size x
abbrev InR (o : Fin 2 → ℕ) : Prop := ∀ x, o x + Sh1x16.size x ≤ ShR.size x

/-- One column group of one edge: the running row and the gathered row are read, and the larger of the two is
stored. -/
def colK (A : Memref sig .scVector .vmem ShA .f32) (R : Memref sig .scVector .vmem ShR .f32) (oa ob : Fin 2 → ℕ)
    (ha : InA oa) (hb : InR ob) (k : Prog 𝔼 α) : Prog 𝔼 α :=
  .op (.load A (Rect.unit (s := ShA) oa Sh1x16.size ha).toLoadRect (View.loadsAt_vmem pos1x16)) fun x =>
  .op (.load R (Rect.unit (s := ShR) ob Sh1x16.size hb).toLoadRect (View.loadsAt_vmem pos1x16)) fun y =>
  .op (.load A (Rect.unit (s := ShA) oa Sh1x16.size ha).toLoadRect (View.loadsAt_vmem pos1x16)) fun _ =>
  .op (.store A (Rect.unit (s := ShA) oa Sh1x16.size ha)
    (shapeCast Sh1x16 (maximumf (shapeCast Sh16 (x : Vec F Sh1x16 .f32) cast_1x16_16 : FVec F Sh16 .f32) (shapeCast Sh16 (y : Vec F Sh1x16 .f32) cast_1x16_16)) cast_16_1x16)
    Finset.univ (View.stores_vmem_bits_univ pos1x16 rfl) (.inl rfl)) fun _ => k

/-- What the kernel checks of a row word: the eight column groups of its row lie in the accumulator. -/
def rowChk (v : BitVec 32) : Prop :=
  InA (cell v.toNat 0) ∧ InA (cell v.toNat 1) ∧ InA (cell v.toNat 2) ∧ InA (cell v.toNat 3) ∧
  InA (cell v.toNat 4) ∧ InA (cell v.toNat 5) ∧ InA (cell v.toNat 6) ∧ InA (cell v.toNat 7)

instance rowChk.dec (v : BitVec 32) : Decidable (rowChk v) := decidable_of_iff' _ (Iff.of_eq (rowChk.eq_1 v))

/-- One edge: the check of its row word, then the eight column groups. -/
def laneK (A : Memref sig .scVector .vmem ShA .f32) (R : Memref sig .scVector .vmem ShR .f32) (v : BitVec 32) (r : ℕ)
    (hr : ∀ c : Fin 8, InR (cell r c.val)) (k : Prog 𝔼 α) : Prog 𝔼 α :=
  .op (.assume (rowChk v) (rowChk.dec v)) fun h =>
    colK A R _ _ h.down.1 (hr 0) <| colK A R _ _ h.down.2.1 (hr 1) <| colK A R _ _ h.down.2.2.1 (hr 2) <|
    colK A R _ _ h.down.2.2.2.1 (hr 3) <| colK A R _ _ h.down.2.2.2.2.1 (hr 4) <| colK A R _ _ h.down.2.2.2.2.2.1 (hr 5) <|
    colK A R _ _ h.down.2.2.2.2.2.2.1 (hr 6) <| colK A R _ _ h.down.2.2.2.2.2.2.2 (hr 7) k

/-- The row of the gathered rows that lane `l` of a group reads. -/
abbrev laneRow (v180 g : BitVec 32) (l : BitVec 32) : ℕ := (Scalar.indexCast (Scalar.addi (Scalar.addi v180 (Scalar.muli g 16#32)) l)).toNat

theorem slice16 (l : Fin 16) : Sh16.Slices ![l.val] Sh1 := by revert l; decide
theorem at1 : ∀ a, (![0] : Fin 1 → Nat) a < Sh1.size a := by decide

/-- Lane `l` of a register of words. -/
abbrev laneWord (x : Vec F Sh16 .i32) (l : Fin 16) : BitVec 32 := extractAt ![0] (extractStridedSlice Sh1 ![l.val] x (slice16 l)) at1

/-- One group of sixteen edges. -/
def groupK (A : Memref sig .scVector .vmem ShA .f32) (R : Memref sig .scVector .vmem ShR .f32) (L : Memref sig .scVector .vmem ShL .i32)
    (ol : Fin 1 → ℕ) (hl : ∀ x, ol x + Sh16.size x ≤ ShL.size x) (v180 g : BitVec 32)
    (hr : ∀ (l : Fin 16) (c : Fin 8), InR (cell (laneRow v180 g (BitVec.ofNat 32 l.val)) c.val)) : Prog 𝔼 PUnit :=
  .op (.load L (Rect.unit (s := ShL) ol Sh16.size hl).toLoadRect (View.loadsAt_vmem pos16)) fun (x : Vec F Sh16 .i32) =>
    laneK A R (laneWord x 0) _ (hr 0) <| laneK A R (laneWord x 1) _ (hr 1) <| laneK A R (laneWord x 2) _ (hr 2) <|
    laneK A R (laneWord x 3) _ (hr 3) <| laneK A R (laneWord x 4) _ (hr 4) <| laneK A R (laneWord x 5) _ (hr 5) <|
    laneK A R (laneWord x 6) _ (hr 6) <| laneK A R (laneWord x 7) _ (hr 7) <| laneK A R (laneWord x 8) _ (hr 8) <|
    laneK A R (laneWord x 9) _ (hr 9) <| laneK A R (laneWord x 10) _ (hr 10) <| laneK A R (laneWord x 11) _ (hr 11) <|
    laneK A R (laneWord x 12) _ (hr 12) <| laneK A R (laneWord x 13) _ (hr 13) <| laneK A R (laneWord x 14) _ (hr 14) <|
    laneK A R (laneWord x 15) _ (hr 15) <| .ret ⟨⟩

end Prog

/-! ## What the accumulator holds -/

section Value

variable {F : FTy → Type} [FloatOps F]

/-- An edge: the row of `m` it reads and the accumulator row it raises. -/
abbrev Edge := ℕ × ℕ

/-- Entry `k` of row `r` once the edges `l` are taken in: zero raised, in order, by entry `k` of each edge of row `r`. -/
def acc (M : ℕ → Fin 128 → F .f32) (l : List Edge) (r : ℕ) (k : Fin 128) : F .f32 :=
  (l.filter (·.2 = r)).foldl (fun z e => FloatOps.maximumf z (M e.1 k)) (FloatOps.ofBits .f32 0x00000000#32)

theorem acc_snoc (M : ℕ → Fin 128 → F .f32) (l : List Edge) (e : Edge) (r : ℕ) (k : Fin 128) :
    acc M (l ++ [e]) r k = if e.2 = r then FloatOps.maximumf (acc M l r k) (M e.1 k) else acc M l r k := by
  unfold acc
  rw [List.filter_append, List.foldl_append]
  by_cases h : e.2 = r <;> simp [h]

/-- Contents holding the edges `l` taken in. -/
def IsAcc (M : ℕ → Fin 128 → F .f32) (l : List Edge) (g : ShA.Idx → F .f32) : Prop :=
  ∀ ix, g ix = acc M l (ix 0).val (ix 1)

/-- Contents raised in column groups below `c` of row `r` by the row `y`. -/
def raised (y : Fin 128 → F .f32) (r c : ℕ) (g : ShA.Idx → F .f32) (ix : ShA.Idx) : F .f32 :=
  if (ix 0).val = r ∧ (ix 1).val < 16 * c then FloatOps.maximumf (g ix) (y (ix 1)) else g ix

end Value

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (a : Fin τ.nSC) (b : Fin τ.nSub) (bd : Option 𝒱.V)
variable {α : Type} {Q : α → sProp (MT nD τ sig Ix (Elt F) Name U Lvl)}

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

/-- A memref's elements held outright, what they read as `P`. -/
def own {s : Shape} {e : EltTy} (m : Memref sig .scVector .vmem s e) (P : (s.Idx → Elt F e) → Prop) : sProp 𝕄 :=
  iprop(∃ f, (m.view.loc θ ↦[m.view.set]{fullShare} f) ∗ ⌜P (m.view.read (Elt F) f)⌝)

theorem pay_eq (x y : Vec F Sh1x16 .f32) :
    shapeCast Sh1x16 (maximumf (shapeCast Sh16 x cast_1x16_16 : FVec F Sh16 .f32) (shapeCast Sh16 y cast_1x16_16)) cast_16_1x16
      = fun j => FloatOps.maximumf (x j : F .f32) (y j) := by
  funext j
  exact congrArg₂ FloatOps.maximumf (congrFun (shapeCast_shapeCast x cast_1x16_16 cast_16_1x16) j)
    (congrFun (shapeCast_shapeCast y cast_1x16_16 cast_16_1x16) j)

/-- Raising one more column group. -/
theorem raised_step (A : Memref sig .scVector .vmem ShA .f32) (R : Memref sig .scVector .vmem ShR .f32)
    (f : A.view.ty.Contents (Elt F)) (fr : R.view.ty.Contents (Elt F)) (g : ShA.Idx → F .f32) (y : Fin 128 → F .f32) (r ρ c : ℕ)
    (hc : c < 8) (ha : InA (cell r c)) (hb : InR (cell ρ c))
    (hf : A.view.read (Elt F) f = raised y r c g)
    (hy : ∀ ix : ShR.Idx, (ix 0).val = ρ → R.view.read (Elt F) fr ix = y (ix 1)) :
    A.view.read (Elt F) ((A.access (Rect.unit (s := ShA) (cell r c) Sh1x16.size ha)).write (Elt F) f
      (fun j => FloatOps.maximumf ((A.access (Rect.unit (s := ShA) (cell r c) Sh1x16.size ha)).read (Elt F) f j : F .f32)
        ((R.access (Rect.unit (s := ShR) (cell ρ c) Sh1x16.size hb)).read (Elt F) fr j)) Finset.univ) = raised y r (c + 1) g := by
  funext ix
  have h := View.read_writes_cons_unit (Val := Elt F) A.view f ha
    (fun j => FloatOps.maximumf ((A.access (Rect.unit (s := ShA) (cell r c) Sh1x16.size ha)).read (Elt F) f j : F .f32)
        ((R.access (Rect.unit (s := ShR) (cell ρ c) Sh1x16.size hb)).read (Elt F) fr j)) [] ix rfl
  rw [View.writes_singleton] at h
  refine h.trans ?_
  have h0 : (ix 0).val < 641 := (ix 0).isLt
  have h1 : (ix 1).val < 128 := (ix 1).isLt
  by_cases hin : (ix 0).val = r ∧ 16 * c ≤ (ix 1).val ∧ (ix 1).val < 16 * c + 16
  · have hh : ∀ x, cell r c x ≤ (ix x).val ∧ (ix x).val < cell r c x + Sh1x16.size x := by
      intro x; match x with
      | 0 => exact ⟨le_of_eq hin.1.symm, by show (ix 0).val < r + 1; omega⟩
      | 1 => exact hin.2
    rw [dif_pos hh]
    have e1 : (A.access (Rect.unit (s := ShA) (cell r c) Sh1x16.size ha)).read (Elt F) f (Rect.unitLocal (s := ShA) ix hh) = A.view.read (Elt F) f ix := by
      show A.view.read (Elt F) f ((Rect.unit (s := ShA) (cell r c) Sh1x16.size ha).emb (Rect.unitLocal (s := ShA) ix hh)) = _
      congr 1
      funext x
      apply Fin.ext
      show cell r c x + 1 * ((ix x).val - cell r c x) = (ix x).val
      have := (hh x).1
      omega
    have e2 : (R.access (Rect.unit (s := ShR) (cell ρ c) Sh1x16.size hb)).read (Elt F) fr (Rect.unitLocal (s := ShA) ix hh) = y (ix 1) := by
      show R.view.read (Elt F) fr ((Rect.unit (s := ShR) (cell ρ c) Sh1x16.size hb).emb (Rect.unitLocal (s := ShA) ix hh)) = _
      rw [hy _ (by
        show ρ + 1 * ((ix 0).val - r) = ρ
        have := hin.1
        omega)]
      congr 1
      apply Fin.ext
      show 16 * c + 1 * ((ix 1).val - 16 * c) = (ix 1).val
      have := hin.2.1
      omega
    refine (congrArg₂ FloatOps.maximumf e1 e2).trans ?_
    rw [hf]
    unfold raised
    rw [if_neg (by omega), if_pos (by omega)]
  · rw [dif_neg (fun hh => hin ⟨by
        have h := hh 0
        have h' : r ≤ (ix 0).val ∧ (ix 0).val < r + 1 := h
        omega, hh 1⟩)]
    refine (congrFun hf ix).trans ?_
    unfold raised
    by_cases hp : (ix 0).val = r ∧ (ix 1).val < 16 * c
    · rw [if_pos hp, if_pos (by omega)]
    · rw [if_neg hp, if_neg (by omega)]

/-- A load through a rectangle, its buffer held at any share of elements that include the rectangle's. -/
theorem wp_ld {s : Shape} {e : EltTy} {m : Memref sig .scVector .vmem s e} {r : Rect s} {hl : m.view.LoadsAt r.toLoadRect}
    {S : Finset (Idx (m.view.loc θ))} {q : PosShare TreeShare} {f : Buf (Elt F) (m.view.loc θ)} {k : (r.shape.Idx → Elt F e) → Prog 𝔼 α}
    (hS : (m.access r).set ⊆ S) :
    (m.view.loc θ ↦[S]{q} f : sProp 𝕄)
      ⊢ iprop(((m.view.loc θ ↦[S]{q} f) -∗ WP (k ((m.access r).read (Elt F) f)) Q) -∗ WP (.op (.load m r.toLoadRect hl) k) Q) :=
  by
  have h := wp_load (defs := defs) (Γ := .empty) 𝒱 θ bd Set.univ (m := m) (r := r.toLoadRect) (hl := hl) (k := k) (Q := Q) (q := q) (f := f)
    (S := S) (by rwa [View.set_slice] at hS)
  exact h

/-- An unmasked store through a rectangle, the memref held outright. -/
theorem wp_st {s : Shape} {e : EltTy} {m : Memref sig .scVector .vmem s e} {r : Rect s} {w : r.shape.Idx → Elt F e}
    {hx : (m.access r).Stores Finset.univ} {hm : (Finset.univ : Finset r.shape.Idx) = Finset.univ ∨ ∀ a, r.stride a = 1}
    {f : Buf (Elt F) (m.view.loc θ)} {k : PUnit → Prog 𝔼 α} :
    (m.view.loc θ ↦[m.view.set]{fullShare} f : sProp 𝕄)
      ⊢ iprop(((m.view.loc θ ↦[m.view.set]{fullShare} ((m.access r).write (Elt F) f w Finset.univ)) -∗ WP (k ⟨⟩) Q)
        -∗ WP (.op (.store m r w Finset.univ hx hm) k) Q) :=
  by
  have h := wp_store (defs := defs) (Γ := .empty) 𝒱 θ bd Set.univ (m := m) (r := r) (w := w) (Mk := Finset.univ) (hx := hx) (hm := hm) (k := k) (Q := Q) (f := f)
    (S := m.view.set) (m.setOn_access_subset _ _)
  exact h

theorem wp_colK {X : sProp 𝕄} {A : Memref sig .scVector .vmem ShA .f32} {R : Memref sig .scVector .vmem ShR .f32}
    {S : Finset (Idx (R.view.loc θ))} {q : PosShare TreeShare} {fr : Buf (Elt F) (R.view.loc θ)}
    {g : ShA.Idx → F .f32} {y : Fin 128 → F .f32} {r ρ : ℕ} (c : ℕ) (hc : c < 8) {ha : InA (cell r c)} {hb : InR (cell ρ c)}
    (hS : (R.access (Rect.unit (s := ShR) (cell ρ c) Sh1x16.size hb)).set ⊆ S)
    (hy : ∀ ix : ShR.Idx, (ix 0).val = ρ → R.view.read (Elt F) fr ix = y (ix 1))
    {k : Prog 𝔼 α}
    (hk : iprop(own d a b A (· = raised y r (c + 1) g) ∗ (R.view.loc θ ↦[S]{q} fr) ∗ X) ⊢ WP k Q) :
    iprop(own d a b A (· = raised y r c g) ∗ (R.view.loc θ ↦[S]{q} fr) ∗ X) ⊢ WP (colK A R (cell r c) (cell ρ c) ha hb k) Q := by
  unfold colK own
  iintro ⟨⟨%f, HA, %hf⟩, HR, HX⟩
  iapply (wp_ld 𝒱 d a b bd (m := A) (A.view.set_slice_subset _)) $$ HA
  iintro HA
  iapply (wp_ld 𝒱 d a b bd (m := R) hS) $$ HR
  iintro HR
  iapply (wp_ld 𝒱 d a b bd (m := A) (A.view.set_slice_subset _)) $$ HA
  iintro HA
  rw [pay_eq]
  iapply (wp_st 𝒱 d a b bd (m := A)) $$ HA
  iintro HA
  iapply hk
  unfold own
  isplitl [HA]
  · iexists _
    isplitl [HA]
    · iexact HA
    · ipureintro
      exact raised_step A R f fr g y r ρ c hc ha hb hf hy
  · isplitl [HR] <;> iassumption

omit [FloatOps F] [DecidableEq Ix] [DecidableEq Name] [URA U] [Preorder Lvl] in
theorem sub_of_row {R : Memref sig .scVector .vmem ShR .f32} {S : Finset (Idx (R.view.loc θ))} {ρ : ℕ}
    (hS : ∀ ix : ShR.Idx, (ix 0).val = ρ → R.view.emb ix ∈ S) (c : ℕ) (hb : InR (cell ρ c)) :
    (R.access (Rect.unit (s := ShR) (cell ρ c) Sh1x16.size hb)).set ⊆ S := by
  intro x hx
  rw [View.set_slice] at hx
  obtain ⟨y, hy, rfl⟩ := Finset.mem_map.mp hx
  refine hS y ?_
  have h := (Rect.mem_set_unit.mp hy) 0
  have h' : ρ ≤ (y 0).val ∧ (y 0).val < ρ + 1 := h
  omega

/-- One edge taken in. -/
theorem wp_laneK {X : sProp 𝕄} {A : Memref sig .scVector .vmem ShA .f32} {R : Memref sig .scVector .vmem ShR .f32}
    {S : Finset (Idx (R.view.loc θ))} {q : PosShare TreeShare} {fr : Buf (Elt F) (R.view.loc θ)}
    {M : ℕ → Fin 128 → F .f32} {l : List Edge} {v : BitVec 32} {ρ : ℕ} (e : Edge) (hv : v.toNat = e.2) (hle : e.2 ≤ 640)
    {hr : ∀ c : Fin 8, InR (cell ρ c.val)}
    (hS : ∀ ix : ShR.Idx, (ix 0).val = ρ → R.view.emb ix ∈ S)
    (hy : ∀ ix : ShR.Idx, (ix 0).val = ρ → R.view.read (Elt F) fr ix = M e.1 (ix 1))
    {k : Prog 𝔼 α}
    (hk : iprop(own d a b A (IsAcc M (l ++ [e])) ∗ (R.view.loc θ ↦[S]{q} fr) ∗ X) ⊢ WP k Q) :
    iprop(own d a b A (IsAcc M l) ∗ (R.view.loc θ ↦[S]{q} fr) ∗ X) ⊢ WP (laneK A R v ρ hr k) Q := by
  have hin : ∀ c : ℕ, c < 8 → InA (cell v.toNat c) := by
    intro c hc x
    match x with
    | 0 => show v.toNat + 1 ≤ 641; omega
    | 1 => show 16 * c + 16 ≤ 128; omega
  have hchk : rowChk v := ⟨hin 0 (by omega), hin 1 (by omega), hin 2 (by omega), hin 3 (by omega), hin 4 (by omega), hin 5 (by omega),
    hin 6 (by omega), hin 7 (by omega)⟩
  unfold laneK
  refine BIBase.Entails.trans ?_ (wp_assume (Γ := .empty) 𝒱 θ bd Set.univ hchk)
  have key : ∀ g : ShA.Idx → F .f32, IsAcc M l g →
      iprop(own d a b A (· = raised (M e.1) v.toNat 0 g) ∗ (R.view.loc θ ↦[S]{q} fr) ∗ X)
        ⊢ WP (colK A R _ _ hchk.1 (hr 0) <| colK A R _ _ hchk.2.1 (hr 1) <| colK A R _ _ hchk.2.2.1 (hr 2) <|
            colK A R _ _ hchk.2.2.2.1 (hr 3) <| colK A R _ _ hchk.2.2.2.2.1 (hr 4) <| colK A R _ _ hchk.2.2.2.2.2.1 (hr 5) <|
            colK A R _ _ hchk.2.2.2.2.2.2.1 (hr 6) <| colK A R _ _ hchk.2.2.2.2.2.2.2 (hr 7) k) Q := by
    intro g hg
    refine wp_colK 𝒱 d a b bd 0 (by omega) (sub_of_row d a b hS _ _) hy <| wp_colK 𝒱 d a b bd 1 (by omega) (sub_of_row d a b hS _ _) hy <|
      wp_colK 𝒱 d a b bd 2 (by omega) (sub_of_row d a b hS _ _) hy <| wp_colK 𝒱 d a b bd 3 (by omega) (sub_of_row d a b hS _ _) hy <|
      wp_colK 𝒱 d a b bd 4 (by omega) (sub_of_row d a b hS _ _) hy <| wp_colK 𝒱 d a b bd 5 (by omega) (sub_of_row d a b hS _ _) hy <|
      wp_colK 𝒱 d a b bd 6 (by omega) (sub_of_row d a b hS _ _) hy <| wp_colK 𝒱 d a b bd 7 (by omega) (sub_of_row d a b hS _ _) hy <| ?_
    refine BIBase.Entails.trans ?_ hk
    unfold own
    iintro ⟨⟨%f, HA, %hf⟩, HR, HX⟩
    isplitl [HA]
    · iexists f
      isplitl [HA]; · iexact HA
      ipureintro
      intro ix
      have h2 : acc M (l ++ [e]) (ix 0).val (ix 1) = if e.2 = (ix 0).val then FloatOps.maximumf (g ix) (M e.1 (ix 1)) else g ix := by
        rw [hg ix]; exact acc_snoc M l e (ix 0).val (ix 1)
      refine (congrFun hf ix).trans (Eq.trans ?_ h2.symm)
      unfold raised
      have : (ix 1).val < 128 := (ix 1).isLt
      by_cases h : e.2 = (ix 0).val
      · rw [if_pos h, if_pos ⟨by omega, by omega⟩]
      · rw [if_neg h, if_neg (fun h' => h (by omega))]
    · isplitl [HR] <;> iassumption
  unfold own at key ⊢
  iintro ⟨⟨%f, HA, %hf⟩, HR, HX⟩
  iapply (key _ hf)
  isplitl [HA]
  · iexists f
    isplitl [HA]; · iexact HA
    ipureintro
    funext ix
    unfold raised
    rw [if_neg (by omega)]
  · isplitl [HR] <;> iassumption

/-- Lane `l` of a register read off a list buffer is the list's word at that position. -/
theorem laneWord_read {L : Memref sig .scVector .vmem ShL .i32} (ol : Fin 1 → ℕ) (hl : ∀ x, ol x + Sh16.size x ≤ ShL.size x)
    (fl : L.view.ty.Contents (Elt F)) (l : Fin 16) (ix : ShL.Idx) (hix : (ix 0).val = ol 0 + l.val) :
    laneWord (F := F) ((L.access (Rect.unit (s := ShL) ol Sh16.size hl)).read (Elt F) fl) l = L.view.read (Elt F) fl ix := by
  show L.view.read (Elt F) fl ((Rect.unit (s := ShL) ol Sh16.size hl).emb _) = _
  congr 1
  funext x
  apply Fin.ext
  match x with
  | 0 =>
    show ol 0 + 1 * (l.val + 0) = (ix 0).val
    omega

/-- A group of sixteen edges taken in. -/
theorem wp_groupK {X : sProp 𝕄} {A : Memref sig .scVector .vmem ShA .f32} {R : Memref sig .scVector .vmem ShR .f32}
    {L : Memref sig .scVector .vmem ShL .i32}
    {S : Finset (Idx (R.view.loc θ))} {q ql : PosShare TreeShare} {fr : Buf (Elt F) (R.view.loc θ)} {fl : Buf (Elt F) (L.view.loc θ)}
    {M : ℕ → Fin 128 → F .f32} {l : List Edge} {ol : Fin 1 → ℕ} {hl : ∀ x, ol x + Sh16.size x ≤ ShL.size x} {v180 g : BitVec 32}
    {hr : ∀ (l : Fin 16) (c : Fin 8), InR (cell (laneRow v180 g (BitVec.ofNat 32 l.val)) c.val)}
    (e : Fin 16 → Edge) (hle : ∀ j, (e j).2 ≤ 640)
    (hw : ∀ (j : Fin 16) (ix : ShL.Idx), (ix 0).val = ol 0 + j.val → (L.view.read (Elt F) fl ix).toNat = (e j).2)
    (hS : ∀ (j : Fin 16) (ix : ShR.Idx), (ix 0).val = laneRow v180 g (BitVec.ofNat 32 j.val) → R.view.emb ix ∈ S)
    (hy : ∀ (j : Fin 16) (ix : ShR.Idx), (ix 0).val = laneRow v180 g (BitVec.ofNat 32 j.val) → R.view.read (Elt F) fr ix = M (e j).1 (ix 1))
    {Q : PUnit → sProp 𝕄}
    (hk : iprop(own d a b A (IsAcc M (l ++ List.ofFn e)) ∗ (R.view.loc θ ↦[S]{q} fr) ∗ X ∗ (L.view.loc θ ↦[L.view.set]{ql} fl)) ⊢ Q ⟨⟩) :
    iprop(own d a b A (IsAcc M l) ∗ (R.view.loc θ ↦[S]{q} fr) ∗ X ∗ (L.view.loc θ ↦[L.view.set]{ql} fl))
      ⊢ WP (groupK A R L ol hl v180 g hr) Q := by
  unfold groupK
  iintro ⟨HA, HR, HX, HL⟩
  iapply (wp_ld 𝒱 d a b bd (m := L) (L.view.set_slice_subset _)) $$ HL
  iintro HL
  have hlane : ∀ j : Fin 16, (laneWord (F := F) ((L.access (Rect.unit (s := ShL) ol Sh16.size hl)).read (Elt F) fl) j).toNat = (e j).2 := by
    intro j
    have hb : ol 0 + 16 ≤ 3272 := hl 0
    rw [laneWord_read ol hl fl j (fun _ => ⟨ol 0 + j.val, by
      rename_i x
      match x with
      | 0 => show ol 0 + j.val < 3272; omega⟩) rfl]
    exact hw j _ rfl
  have hcat : l ++ List.ofFn e = ((((((((((((((((l ++ [e 0]) ++ [e 1]) ++ [e 2]) ++ [e 3]) ++ [e 4]) ++ [e 5]) ++ [e 6]) ++ [e 7]) ++ [e 8]) ++ [e 9])
      ++ [e 10]) ++ [e 11]) ++ [e 12]) ++ [e 13]) ++ [e 14]) ++ [e 15]) := by
    simp [List.ofFn_succ]
  rw [hcat] at hk
  iapply (show iprop(own d a b A (IsAcc M l) ∗ (R.view.loc θ ↦[S]{q} fr) ∗ X ∗ (L.view.loc θ ↦[L.view.set]{ql} fl)) ⊢ _ from
    wp_laneK 𝒱 d a b bd (e 0) (hlane 0) (hle 0) (hS 0) (hy 0) <| wp_laneK 𝒱 d a b bd (e 1) (hlane 1) (hle 1) (hS 1) (hy 1) <|
    wp_laneK 𝒱 d a b bd (e 2) (hlane 2) (hle 2) (hS 2) (hy 2) <| wp_laneK 𝒱 d a b bd (e 3) (hlane 3) (hle 3) (hS 3) (hy 3) <|
    wp_laneK 𝒱 d a b bd (e 4) (hlane 4) (hle 4) (hS 4) (hy 4) <| wp_laneK 𝒱 d a b bd (e 5) (hlane 5) (hle 5) (hS 5) (hy 5) <|
    wp_laneK 𝒱 d a b bd (e 6) (hlane 6) (hle 6) (hS 6) (hy 6) <| wp_laneK 𝒱 d a b bd (e 7) (hlane 7) (hle 7) (hS 7) (hy 7) <|
    wp_laneK 𝒱 d a b bd (e 8) (hlane 8) (hle 8) (hS 8) (hy 8) <| wp_laneK 𝒱 d a b bd (e 9) (hlane 9) (hle 9) (hS 9) (hy 9) <|
    wp_laneK 𝒱 d a b bd (e 10) (hlane 10) (hle 10) (hS 10) (hy 10) <| wp_laneK 𝒱 d a b bd (e 11) (hlane 11) (hle 11) (hS 11) (hy 11) <|
    wp_laneK 𝒱 d a b bd (e 12) (hlane 12) (hle 12) (hS 12) (hy 12) <| wp_laneK 𝒱 d a b bd (e 13) (hlane 13) (hle 13) (hS 13) (hy 13) <|
    wp_laneK 𝒱 d a b bd (e 14) (hlane 14) (hle 14) (hS 14) (hy 14) <| wp_laneK 𝒱 d a b bd (e 15) (hlane 15) (hle 15) (hS 15) (hy 15) <|
    (by rw [wp_ret]; exact BIBase.Entails.trans hk fupd_intro))
  isplitl [HA]; · iexact HA
  isplitl [HR]; · iexact HR
  isplitl [HX] <;> iassumption

end Rules

end Cert.SegMax
-- ==== Proof.Scan.lean ====
module

public import proofs.«01_k».proof.Proof.Group

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

abbrev ShI : Shape := ⟨3, ![2, 2, 3200]⟩
abbrev Sh1x1x16 : Shape := ⟨3, ![1, 1, 16]⟩

theorem pos1x1x16 : 0 < Sh1x1x16.numel := by decide
theorem posL : 0 < ShL.numel := by decide
theorem cast_1x1x16_16 : Sh1x1x16.ShapeCasts Sh16 := by decide

/-! ## The words of one trip -/

/-- The rows of sixteen edges relative to the tile's first row. -/
abbrev rel (lo : BitVec 32) (x : IVec Sh16 32) : IVec Sh16 32 := subi x (broadcast Sh16 lo)

/-- One in the lanes whose row is the tile's, zero in the others. -/
abbrev mine (ld : IVec Sh16 32) : IVec Sh16 32 :=
  subi (broadcast Sh16 (1#32 : BitVec 32)) (andi (shrsi (ori ld (subi (broadcast Sh16 (639#32 : BitVec 32)) ld)) (broadcast Sh16 (31#32 : BitVec 32)))
    (broadcast Sh16 (1#32 : BitVec 32)))

/-- Where the next selected edge would go, less one, lane by lane: the running sum of the selected lanes. -/
abbrev slot (q : BitVec 32) (ld : IVec Sh16 32) : IVec Sh16 32 :=
  subi (addi (broadcast Sh16 q) (scan .sum (mine ld))) (broadcast Sh16 (1#32 : BitVec 32))

/-- Where each lane's edge goes: a selected lane's to its slot, the others' to the list's spare place. -/
abbrev place (q : BitVec 32) (ld : IVec Sh16 32) : IVec Sh16 32 :=
  addi (broadcast Sh16 (3264#32 : BitVec 32)) (muli (subi (slot q ld) (broadcast Sh16 (3264#32 : BitVec 32))) (mine ld))

theorem slice15 : Sh16.Slices ![15] Sh1 := by decide

/-- The list's length after the trip. -/
abbrev newLen (q : BitVec 32) (ld : IVec Sh16 32) : BitVec 32 :=
  Scalar.addi (extractAt ![0] (extractStridedSlice Sh1 ![15] (slot q ld) slice15) at1) 1#32

def placeChk (v : IVec Sh16 32) : Prop :=
  (∀ a x, ((![v] : Fin 1 → IVec Sh16 32) a x).toNat < ShL.size a) ∧ (∀ a x, ((![v] : Fin 1 → IVec Sh16 32) a x).toNat < ShL.size a)

instance placeChk.dec (v : IVec Sh16 32) : Decidable (placeChk v) := decidable_of_iff' _ (Iff.of_eq (placeChk.eq_1 v))

theorem mine_val (ld : IVec Sh16 32) (i : Sh16.Idx) : mine ld i = if (ld i).toNat < 640 then 1#32 else 0#32 := by
  show (1#32 : BitVec 32) - ((ld i ||| (639#32 - ld i)).sshiftRight' 31#32 &&& 1#32) = _
  generalize ld i = w
  have hm : ∀ y : BitVec 32, (y.sshiftRight' 31#32) &&& 1#32 = if y.msb then 1#32 else 0#32 := by
    intro y
    apply BitVec.eq_of_getLsbD_eq
    intro i hi
    rw [BitVec.getLsbD_and]
    by_cases h0 : i = 0
    · subst h0
      have e : (y.sshiftRight' 31#32).getLsbD 0 = y.msb := by
        show (y.sshiftRight 31).getLsbD 0 = _
        rw [BitVec.getLsbD_sshiftRight, BitVec.msb_eq_getLsbD_last]
        simp
      rw [e]
      by_cases hb : y.msb <;> simp [hb]
    · have e : (1#32 : BitVec 32).getLsbD i = false := by
        simp [BitVec.getLsbD_one, h0]
      rw [e]
      by_cases hb : y.msb <;> simp [hb, e]
  rw [hm, BitVec.msb_or]
  have h1 : w.msb = decide (2 ^ 31 ≤ w.toNat) := by rw [BitVec.msb_eq_decide]
  have h2 : (639#32 - w).msb = decide (2 ^ 31 ≤ (639#32 - w).toNat) := by rw [BitVec.msb_eq_decide]
  have h3 := BitVec.toNat_sub 639#32 w
  have h4 : (639#32 : BitVec 32).toNat = 639 := rfl
  have hw := w.isLt
  rw [h1, h2]
  by_cases h : w.toNat < 640
  · rw [if_pos h, if_neg (by simp only [Bool.or_eq_true, decide_eq_true_eq]; omega)]
    decide
  · rw [if_neg h, if_pos (by simp only [Bool.or_eq_true, decide_eq_true_eq]; omega)]
    decide

abbrev lane (j : Fin 16) : Sh16.Idx := Shape.ofLane (d := ![16]) j

theorem scan_zero (v : IVec Sh16 32) : scan .sum v (lane 0) = v (lane 0) := rfl

theorem scan_step (v : IVec Sh16 32) (j : Fin 15) : scan .sum v (lane j.succ) = scan .sum v (lane j.castSucc) + v (lane j.succ) := by
  fin_cases j <;> rfl

/-- The edges of `e` among the first `n` whose row is the tile's, in order. -/
def sel (e : ℕ → Edge) : ℕ → List Edge
  | 0 => []
  | n + 1 => sel e n ++ (if (e n).2 < 640 then [e n] else [])

theorem sel_len (e : ℕ → Edge) (n : ℕ) : (sel e (n + 1)).length = (sel e n).length + (if (e n).2 < 640 then 1 else 0) := by
  show (sel e n ++ _).length = _
  rw [List.length_append]
  by_cases h : (e n).2 < 640 <;> simp [h]

theorem sel_mono (e : ℕ → Edge) (n k : ℕ) : ∃ S, sel e (n + k) = sel e n ++ S ∧ S.length ≤ k := by
  induction k with
  | zero => exact ⟨[], by simp, by simp⟩
  | succ k ih =>
    obtain ⟨S, h, hl⟩ := ih
    refine ⟨S ++ (if (e (n + k)).2 < 640 then [e (n + k)] else []), ?_, ?_⟩
    · show sel e (n + k) ++ _ = _
      rw [h, List.append_assoc]
      rfl
    · rw [List.length_append]
      by_cases h : (e (n + k)).2 < 640 <;> simp [h] <;> omega

section Count

variable {e : ℕ → Edge} {base : ℕ} {ld : IVec Sh16 32}

/-- The running sum counts the lanes selected so far. -/
theorem scan_count (hld : ∀ j : Fin 16, (ld (lane j)).toNat = (e (base + j.val)).2) (j : ℕ) (hj : j < 16) :
    (scan .sum (mine ld) (lane ⟨j, hj⟩)).toNat + (sel e base).length = (sel e (base + j + 1)).length := by
  induction j with
  | zero =>
    have h := hld 0
    rw [show (⟨0, hj⟩ : Fin 16) = 0 from rfl, scan_zero, mine_val, sel_len]
    have h' : (ld (lane 0)).toNat = (e base).2 := h
    rw [h']
    show _ = _ + (if (e base).2 < 640 then 1 else 0)
    by_cases hh : (e base).2 < 640
    · rw [if_pos hh, if_pos hh]; show 1 + _ = _ ; simp [Nat.add_comm]
    · rw [if_neg hh, if_neg hh]; show 0 + _ = _ ; simp
  | succ j ih =>
    have ih := ih (by omega)
    have h := hld ⟨j + 1, hj⟩
    have hs := scan_step (mine ld) ⟨j, by omega⟩
    have hs' : scan .sum (mine ld) (lane ⟨j + 1, hj⟩) = scan .sum (mine ld) (lane ⟨j, by omega⟩) + mine ld (lane ⟨j + 1, hj⟩) := hs
    rw [hs', mine_val, h, sel_len, BitVec.toNat_add]
    obtain ⟨S, hS, hl⟩ := sel_mono e base (j + 1)
    have hL : (sel e (base + j + 1)).length = (sel e base).length + S.length := by
      rw [show base + j + 1 = base + (j + 1) from by omega, hS, List.length_append]
    show (_ + (if (e (base + (j + 1))).2 < 640 then (1#32 : BitVec 32) else 0#32).toNat) % 2 ^ 32 + _ = _
    rw [show base + (j + 1) = base + j + 1 from by omega]
    by_cases hh : (e (base + j + 1)).2 < 640
    · rw [if_pos hh, if_pos hh, show (1#32 : BitVec 32).toNat = 1 from rfl, Nat.mod_eq_of_lt (by omega)]; omega
    · rw [if_neg hh, if_neg hh, show (0#32 : BitVec 32).toNat = 0 from rfl, Nat.mod_eq_of_lt (by omega)]; omega

variable {q : BitVec 32} {P : ℕ}

theorem slot_val (hld : ∀ j : Fin 16, (ld (lane j)).toNat = (e (base + j.val)).2)
    (hq : q.toNat + P = (sel e base).length) (hq' : q.toNat ≤ 3248) (j : Fin 16) :
    (slot q ld (lane j) + 1#32).toNat + P = (sel e (base + j.val + 1)).length := by
  have h : (scan .sum (mine ld) (lane j)).toNat + (sel e base).length = (sel e (base + j.val + 1)).length := scan_count hld j.val j.isLt
  obtain ⟨S, hS, hl⟩ := sel_mono e base (j.val + 1)
  have hL : (sel e (base + j.val + 1)).length = (sel e base).length + S.length := by
    rw [Nat.add_assoc, hS, List.length_append]
  show ((q + scan .sum (mine ld) (lane j)) - 1#32 + 1#32).toNat + P = _
  have hj := j.isLt
  rw [BitVec.sub_add_cancel, BitVec.toNat_add, Nat.mod_eq_of_lt (by omega)]
  omega

theorem place_val (hld : ∀ j : Fin 16, (ld (lane j)).toNat = (e (base + j.val)).2)
    (hq : q.toNat + P = (sel e base).length) (hq' : q.toNat ≤ 3248) (j : Fin 16) :
    (place q ld (lane j)).toNat = if (e (base + j.val)).2 < 640 then (sel e (base + j.val)).length - P else 3264 := by
  have h := slot_val hld hq hq' j
  rw [sel_len] at h
  show (3264#32 + (slot q ld (lane j) - 3264#32) * mine ld (lane j)).toNat = _
  rw [mine_val, hld j]
  by_cases hh : (e (base + j.val)).2 < 640
  · rw [if_pos hh, if_pos hh, BitVec.mul_one, BitVec.add_comm, BitVec.sub_add_cancel]
    rw [if_pos hh] at h
    have h1 : (slot q ld (lane j)).toNat = (slot q ld (lane j) + 1#32).toNat - 1 := by
      obtain ⟨S, hS, hl⟩ := sel_mono e base j.val
      have hL : (sel e (base + j.val)).length = (sel e base).length + S.length := by rw [hS, List.length_append]
      have ha := BitVec.toNat_add (slot q ld (lane j)) 1#32
      have hb : (1#32 : BitVec 32).toNat = 1 := rfl
      have hw := (slot q ld (lane j)).isLt
      have hj := j.isLt
      omega
    omega
  · rw [if_neg hh, if_neg hh]
    show (3264#32 + _ * 0#32 : BitVec 32).toNat = _
    rw [BitVec.mul_zero]
    rfl

theorem place_lt (hld : ∀ j : Fin 16, (ld (lane j)).toNat = (e (base + j.val)).2)
    (hq : q.toNat + P = (sel e base).length) (hq' : q.toNat ≤ 3248) (j : Fin 16) : (place q ld (lane j)).toNat < 3272 := by
  rw [place_val hld hq hq']
  obtain ⟨S, hS, hl⟩ := sel_mono e base j.val
  have hL : (sel e (base + j.val)).length = (sel e base).length + S.length := by rw [hS, List.length_append]
  have hj := j.isLt
  by_cases hh : (e (base + j.val)).2 < 640
  · rw [if_pos hh]; omega
  · rw [if_neg hh]; omega

theorem place_chk (hld : ∀ j : Fin 16, (ld (lane j)).toNat = (e (base + j.val)).2)
    (hq : q.toNat + P = (sel e base).length) (hq' : q.toNat ≤ 3248) : placeChk (place q ld) := by
  have h : ∀ a x, ((![place q ld] : Fin 1 → IVec Sh16 32) a x).toNat < ShL.size a := by
    intro a x
    match a with
    | 0 =>
      have hx : x = lane (x 0) := by
        funext i; match i with | 0 => rfl
      rw [hx]
      exact place_lt hld hq hq' (x 0)
  exact ⟨h, h⟩

/-- A list buffer holding the words `l` at its front. -/
def ListAt (l : List ℕ) (g : ShL.Idx → BitVec 32) : Prop :=
  ∀ (ix : ShL.Idx) (h : (ix 0).val < l.length), (g ix).toNat = l[(ix 0).val]

theorem ListAt.snoc {l : List ℕ} {g : ShL.Idx → BitVec 32} (h : ListAt l g) (n : ℕ) (hn : n = l.length) (y : BitVec 32) :
    ListAt (l ++ [y.toNat]) (fun ix => if (ix 0).val = n then y else g ix) := by
  intro ix hix
  by_cases e : (ix 0).val = n
  · simp [e, hn]
  · have : (ix 0).val < l.length := by simp at hix; omega
    simp [e, List.getElem_append_left this, h ix this]

theorem ListAt.other {l : List ℕ} {g : ShL.Idx → BitVec 32} (h : ListAt l g) (n : ℕ) (hn : l.length ≤ n) (y : BitVec 32) :
    ListAt l (fun ix => if (ix 0).val = n then y else g ix) := by
  intro ix hix
  have : (ix 0).val ≠ n := by omega
  simp [this, h ix hix]

/-- The scatter of sixteen lanes appends the selected ones. -/
theorem listAt_store {F : FTy → Type} [FloatOps F] (hld : ∀ j : Fin 16, (ld (lane j)).toNat = (e (base + j.val)).2)
    (hq : q.toNat + P = (sel e base).length) (hq' : q.toNat ≤ 3248) (π : Edge → ℕ) (v : Vec F Sh16 .i32)
    (hv : ∀ j : Fin 16, (v (lane j) : BitVec 32).toNat = π (e (base + j.val))) {g : Vec F ShL .i32}
    (hg : ListAt (((sel e base).drop P).map π) g) (hb : ∀ a x, ((![place q ld] : Fin 1 → IVec Sh16 32) a x).toNat < ShL.size a) :
    ListAt (((sel e (base + 16)).drop P).map π) (storeIdx g ![place q ld] v (fun _ => 1#1) false hb) := by
  have key : ∀ n (hn : n ≤ 16), ListAt (((sel e (base + n)).drop P).map π)
      (((List.finRange 16).take n).foldl (fun (g : Vec F ShL .i32) (k : Fin 16) => fun ix : ShL.Idx =>
        if (ix 0).val = (place q ld (lane k)).toNat then v (lane k) else g ix) g) := by
    intro n
    induction n with
    | zero => intro _; exact hg
    | succ n ih =>
      intro hn
      have ih := ih (by omega)
      have ht : (List.finRange 16).take (n + 1) = (List.finRange 16).take n ++ [⟨n, by omega⟩] := by
        rw [List.take_add_one, List.getElem?_eq_getElem (by simp; omega)]
        simp
      rw [ht, List.foldl_append]
      have hp := place_val hld hq hq' ⟨n, by omega⟩
      have hv' := hv ⟨n, by omega⟩
      obtain ⟨S, hS, hl⟩ := sel_mono e base n
      have hL : (sel e (base + n)).length = (sel e base).length + S.length := by rw [hS, List.length_append]
      have hlen : (((sel e (base + n)).drop P).map π).length = (sel e (base + n)).length - P := by simp
      simp only [List.foldl_cons, List.foldl_nil]
      by_cases hh : (e (base + n)).2 < 640
      · have hs : ((sel e (base + (n + 1))).drop P).map π = ((sel e (base + n)).drop P).map π ++ [(v (lane ⟨n, by omega⟩) : BitVec 32).toNat] := by
          show ((sel e (base + n) ++ (if (e (base + n)).2 < 640 then [e (base + n)] else [])).drop P).map π = _
          rw [if_pos hh, List.drop_append_of_le_length (by omega), List.map_append, hv']
          rfl
        rw [hs]
        refine ih.snoc _ ?_ _
        rw [hp, if_pos hh, hlen]
      · have hs : ((sel e (base + (n + 1))).drop P).map π = ((sel e (base + n)).drop P).map π := by
          show ((sel e (base + n) ++ (if (e (base + n)).2 < 640 then [e (base + n)] else [])).drop P).map π = _
          rw [if_neg hh, List.append_nil]
        rw [hs]
        refine ih.other _ ?_ _
        rw [hp, if_neg hh, hlen]
        omega
  have h := key 16 le_rfl
  have hst : storeIdx g ![place q ld] v (fun _ => 1#1) false hb = (((List.finRange 16).take 16).foldl (fun (g : Vec F ShL .i32) (k : Fin 16) => fun ix : ShL.Idx =>
        if (ix 0).val = (place q ld (lane k)).toNat then v (lane k) else g ix) g) := by
    rw [List.take_of_length_le (by simp)]
    unfold storeIdx
    show (List.finRange 16).foldl _ g = _
    congr 1
    funext g k ix
    refine (congrFun (if_pos rfl) ix).trans ?_
    by_cases hc : (ix 0).val = (place q ld (lane k)).toNat
    · rw [if_pos hc]
      exact (@if_pos _ _ (fun a => match a with | 0 => hc) _ _ _).trans (if_neg (by decide))
    · rw [if_neg hc]
      exact @if_neg _ _ (fun h => hc (h 0)) _ _ _
  rw [hst]
  exact h

end Count

/-! ## One trip, and the loop -/

section Prog

variable {nD : Nat} {τ : Topo} {sig : RefSig} {Λ : Labels} {F : FTy → Type} [FloatOps F]
variable {a : Fin τ.nSC} {b : Fin τ.nSub}

local notation "𝔼" => TpuEff nD τ sig (Elt F) Λ (Proc.scVector a b)

abbrev InI (o : Fin 3 → ℕ) : Prop := ∀ x, o x + Sh1x1x16.size x ≤ ShI.size x

/-- The selected lanes of sixteen edges appended to the lists. -/
def appendK (SS LS : Memref sig .scVector .vmem ShL .i32) (q : BitVec 32) (ld : Vec F Sh16 .i32) (y : Vec F Sh16 .i32) : Prog 𝔼 (BitVec 32) :=
  .op (.assume (placeChk (place q ld)) (placeChk.dec (place q ld))) fun h =>
  SparseCore.vectorStoreIdx SS ![place q ld] y (fun _ => 1#1) false h.down.1 (View.stores_vmem_bits_univ posL rfl) >>= fun _ =>
  SparseCore.vectorStoreIdx LS ![place q ld] ld (fun _ => 1#1) false h.down.2 (View.stores_vmem_bits_univ posL rfl) >>= fun _ =>
  .ret (newLen q ld)

/-- One trip of the scan: sixteen edges' rows and sources are read, and the selected edges appended to the lists. -/
def scanK (I5 : Memref sig .scVector .vmem ShI .i32) (SS LS : Memref sig .scVector .vmem ShL .i32) (lo q : BitVec 32)
    (od os : Fin 3 → ℕ) (hd : InI od) (hs : InI os) : Prog 𝔼 (BitVec 32) :=
  .op (.load I5 (Rect.unit (s := ShI) od Sh1x1x16.size hd).toLoadRect (View.loadsAt_vmem pos1x1x16)) fun x =>
  .op (.load I5 (Rect.unit (s := ShI) os Sh1x1x16.size hs).toLoadRect (View.loadsAt_vmem pos1x1x16)) fun y =>
  appendK SS LS q (rel lo (shapeCast Sh16 (x : Vec F Sh1x1x16 .i32) cast_1x1x16_16)) (shapeCast Sh16 (y : Vec F Sh1x1x16 .i32) cast_1x1x16_16)

end Prog

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (a : Fin τ.nSC) (b : Fin τ.nSub) (bd : Option 𝒱.V)
variable {α : Type}

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

theorem read_write_whole {s : Shape} {e : EltTy} (m : Memref sig .scVector .vmem s e) (f : m.view.ty.Contents (Elt F)) (w : s.Idx → Elt F e) :
    m.view.read (Elt F) ((m.access (.whole s)).write (Elt F) f w Finset.univ) = w := by
  funext ix
  have h := congrFun (View.read_write_univ (v := m.access (.whole s)) (Val := Elt F) f w) ix
  have h' : m.view.read (Elt F) ((m.access (.whole s)).write (Elt F) f w Finset.univ) ((Rect.whole s).emb ix) = w ix := h
  rwa [Rect.emb_whole_apply] at h'

theorem read_access_whole {s : Shape} {e : EltTy} (m : Memref sig .scVector .vmem s e) (f : m.view.ty.Contents (Elt F)) :
    (m.access (.whole s)).read (Elt F) f = m.view.read (Elt F) f := by
  funext ix
  show m.view.read (Elt F) f ((Rect.whole s).emb ix) = _
  rw [Rect.emb_whole_apply]

/-- A scatter into a buffer held outright. -/
theorem wp_scatter {X : sProp 𝕄} {m : Memref sig .scVector .vmem ShL .i32} {idxs : Fin 1 → IVec Sh16 32} {v : Vec F Sh16 .i32}
    {h : ∀ a x, (idxs a x).toNat < ShL.size a} {hs : (m.access (.whole ShL)).Stores Finset.univ} {k : PUnit → Prog 𝔼 α} {Q : α → sProp 𝕄}
    {P P' : (ShL.Idx → BitVec 32) → Prop} (hP : ∀ g, P g → P' (storeIdx (F := F) (e := .i32) g idxs v (fun _ => 1#1) false h))
    (hk : iprop(own d a b m P' ∗ X) ⊢ WP (k ⟨⟩) Q) :
    iprop(own d a b m P ∗ X) ⊢ WP (SparseCore.vectorStoreIdx m idxs v (fun _ => 1#1) false h hs >>= k) Q := by
  show iprop(own d a b m P ∗ X) ⊢ WP (.op (.load m (.whole ShL) (View.loadsAt_rect hs.loads)) fun f =>
    .op (.store m (.whole ShL) (Idealize.ShloMosaic.storeIdx f idxs v (fun _ => 1#1) false h) Finset.univ hs (.inl rfl)) k) Q
  unfold own
  iintro ⟨⟨%f, HA, %hf⟩, HX⟩
  iapply (wp_ld 𝒱 d a b bd (m := m) (r := .whole ShL) (m.view.set_slice_subset _)) $$ HA
  iintro HA
  iapply (wp_st 𝒱 d a b bd (m := m) (r := .whole ShL)) $$ HA
  iintro HA
  iapply hk
  unfold own
  isplitl [HA]
  · iexists _
    isplitl [HA]
    · iexact HA
    · ipureintro
      rw [read_write_whole, read_access_whole]
      exact hP _ hf
  · iexact HX

/-- The edges a half's words name, for the tile whose first row is `lo`. -/
abbrev edges (srcw dstw : ℕ → BitVec 32) (lo : BitVec 32) (n : ℕ) : Edge := ((srcw n).toNat, (dstw n - lo).toNat)

theorem lane_cast (j : Fin 16) : (Shape.reshapeEquiv cast_1x1x16_16 (lane j) 0).val = 0 ∧ (Shape.reshapeEquiv cast_1x1x16_16 (lane j) 1).val = 0
    ∧ (Shape.reshapeEquiv cast_1x1x16_16 (lane j) 2).val = j.val := by
  revert j; decide

omit [FloatOps F] in
theorem lane_read {I5 : Memref sig .scVector .vmem ShI .i32} (o : Fin 3 → ℕ) (ho : InI o) (f : I5.view.ty.Contents (Elt F)) (w : ℕ → BitVec 32)
    (base : ℕ) (h : ∀ (j : Fin 16) (ix : ShI.Idx), (ix 0).val = o 0 → (ix 1).val = o 1 → (ix 2).val = o 2 + j.val → I5.view.read (Elt F) f ix = w (base + j.val))
    (j : Fin 16) :
    (shapeCast Sh16 ((I5.access (Rect.unit (s := ShI) o Sh1x1x16.size ho)).read (Elt F) f : Vec F Sh1x1x16 .i32) cast_1x1x16_16 (lane j) : BitVec 32) = w (base + j.val) := by
  show I5.view.read (Elt F) f ((Rect.unit (s := ShI) o Sh1x1x16.size ho).emb _) = _
  have e := lane_cast j
  refine h j _ ?_ ?_ ?_
  · show o 0 + 1 * (Shape.reshapeEquiv cast_1x1x16_16 (lane j) 0).val = o 0
    omega
  · show o 1 + 1 * (Shape.reshapeEquiv cast_1x1x16_16 (lane j) 1).val = o 1
    omega
  · show o 2 + 1 * (Shape.reshapeEquiv cast_1x1x16_16 (lane j) 2).val = o 2 + j.val
    omega

/-- The selected lanes of the edges `base`, …, `base + 15` appended. -/
theorem wp_appendK {X : sProp 𝕄} {SS LS : Memref sig .scVector .vmem ShL .i32} {q : BitVec 32} {ld y : Vec F Sh16 .i32}
    {e : ℕ → Edge} {base P : ℕ} (hld : ∀ j : Fin 16, (ld (lane j) : BitVec 32).toNat = (e (base + j.val)).2)
    (hq : q.toNat + P = (sel e base).length) (hq' : q.toNat ≤ 3248) (hy : ∀ j : Fin 16, (y (lane j) : BitVec 32).toNat = (e (base + j.val)).1)
    {Q : BitVec 32 → sProp 𝕄}
    (hk : ∀ q' : BitVec 32, q'.toNat + P = (sel e (base + 16)).length →
      iprop(own d a b SS (ListAt (((sel e (base + 16)).drop P).map Prod.fst)) ∗ own d a b LS (ListAt (((sel e (base + 16)).drop P).map Prod.snd)) ∗ X) ⊢ Q q') :
    iprop(own d a b SS (ListAt (((sel e base).drop P).map Prod.fst)) ∗ own d a b LS (ListAt (((sel e base).drop P).map Prod.snd)) ∗ X)
      ⊢ WP (appendK SS LS q ld y) Q := by
  unfold appendK
  refine BIBase.Entails.trans ?_ (wp_assume (Γ := .empty) 𝒱 θ bd Set.univ (place_chk hld hq hq'))
  refine wp_scatter 𝒱 d a b bd (P := ListAt (((sel e base).drop P).map Prod.fst)) (P' := ListAt (((sel e (base + 16)).drop P).map Prod.fst))
    (fun g hg => listAt_store (F := F) hld hq hq' Prod.fst y hy hg _) ?_
  refine BIBase.Entails.trans ?_ (wp_scatter 𝒱 d a b bd (P := ListAt (((sel e base).drop P).map Prod.snd))
    (P' := ListAt (((sel e (base + 16)).drop P).map Prod.snd))
    (X := iprop(own d a b SS (ListAt (((sel e (base + 16)).drop P).map Prod.fst)) ∗ X))
    (fun g hg => listAt_store (F := F) hld hq hq' Prod.snd ld hld hg _) ?_)
  · iintro ⟨HS, HL, HX⟩
    isplitl [HL]; · iexact HL
    isplitl [HS] <;> iassumption
  rw [wp_ret]
  refine BIBase.Entails.trans ?_ fupd_intro
  refine BIBase.Entails.trans ?_ (hk _ (slot_val hld hq hq' 15))
  iintro ⟨HL, HS, HX⟩
  isplitl [HS]; · iexact HS
  isplitl [HL] <;> iassumption

/-- One trip of the scan: the lists take in the edges `base`, …, `base + 15`. -/
theorem wp_scanK {X : sProp 𝕄} {I5 : Memref sig .scVector .vmem ShI .i32} {SS LS : Memref sig .scVector .vmem ShL .i32}
    {lo q : BitVec 32} {od os : Fin 3 → ℕ} {hd : InI od} {hs : InI os} {S : Finset (Idx (I5.view.loc θ))} {q5 : PosShare TreeShare}
    {f5 : Buf (Elt F) (I5.view.loc θ)} (srcw dstw : ℕ → BitVec 32) (base : ℕ) {P : ℕ}
    (hSd : (I5.access (Rect.unit (s := ShI) od Sh1x1x16.size hd)).set ⊆ S) (hSs : (I5.access (Rect.unit (s := ShI) os Sh1x1x16.size hs)).set ⊆ S)
    (hdst : ∀ (j : Fin 16) (ix : ShI.Idx), (ix 0).val = od 0 → (ix 1).val = od 1 → (ix 2).val = od 2 + j.val → I5.view.read (Elt F) f5 ix = dstw (base + j.val))
    (hsrc : ∀ (j : Fin 16) (ix : ShI.Idx), (ix 0).val = os 0 → (ix 1).val = os 1 → (ix 2).val = os 2 + j.val → I5.view.read (Elt F) f5 ix = srcw (base + j.val))
    (hq : q.toNat + P = (sel (edges srcw dstw lo) base).length) (hq' : q.toNat ≤ 3248) {Q : BitVec 32 → sProp 𝕄}
    (hk : ∀ q' : BitVec 32, q'.toNat + P = (sel (edges srcw dstw lo) (base + 16)).length →
      iprop(own d a b SS (ListAt (((sel (edges srcw dstw lo) (base + 16)).drop P).map Prod.fst)) ∗ own d a b LS (ListAt (((sel (edges srcw dstw lo) (base + 16)).drop P).map Prod.snd))
        ∗ (I5.view.loc θ ↦[S]{q5} f5) ∗ X) ⊢ Q q') :
    iprop(own d a b SS (ListAt (((sel (edges srcw dstw lo) base).drop P).map Prod.fst)) ∗ own d a b LS (ListAt (((sel (edges srcw dstw lo) base).drop P).map Prod.snd))
        ∗ (I5.view.loc θ ↦[S]{q5} f5) ∗ X) ⊢ WP (scanK I5 SS LS lo q od os hd hs) Q := by
  unfold scanK
  have hx := lane_read (F := F) od hd f5 dstw base hdst
  have hy := lane_read (F := F) os hs f5 srcw base hsrc
  have hld : ∀ j : Fin 16, (rel lo (shapeCast Sh16 ((I5.access (Rect.unit (s := ShI) od Sh1x1x16.size hd)).read (Elt F) f5 : Vec F Sh1x1x16 .i32) cast_1x1x16_16) (lane j)).toNat
      = (edges srcw dstw lo (base + j.val)).2 := by
    intro j
    show (_ - lo).toNat = _
    rw [hx j]
  iintro ⟨HS, HL, HI, HX⟩
  iapply (wp_ld 𝒱 d a b bd (m := I5) hSd) $$ HI
  iintro HI
  iapply (wp_ld 𝒱 d a b bd (m := I5) hSs) $$ HI
  iintro HI
  iapply (wp_appendK 𝒱 d a b bd hld hq hq' (fun j => congrArg BitVec.toNat (hy j)) hk)
  isplitl [HS]; · iexact HS
  isplitl [HL]; · iexact HL
  isplitl [HI] <;> iassumption

end Rules

end Cert.SegMax
-- ==== Proof.Gather.lean ====
module

public import proofs.«01_k».proof.Proof.Scan
public import Idealize.ShloMosaic.Lib.Transfers

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

abbrev ShM : Shape := ⟨2, ![10240, 128]⟩
abbrev ShB : Shape := ⟨2, ![64, 128]⟩
abbrev Sh64 : Shape := ⟨1, ![64]⟩

theorem gth : ShM.Gathers 0 ShB := Shape.Gathers.rank2 _ _ _
abbrev InB (ρ : ℕ) : Prop := ∀ x, (![ρ, 0] : Fin 2 → ℕ) x + ShB.size x ≤ ShR.size x
abbrev InW (o : Fin 1 → ℕ) : Prop := ∀ x, o x + Sh64.size x ≤ ShL.size x

section Prog

variable {nD : Nat} {τ : Topo} {sig : RefSig} {Λ : Labels} {F : FTy → Type} [FloatOps F]
variable {a : Fin τ.nSC} {b : Fin τ.nSub} {α : Type}

local notation "𝔼" => TpuEff nD τ sig (Elt F) Λ (Proc.scVector a b)

/-- Sixty-four of the gathered rows, from row `ρ` on. -/
abbrev bank (R : Memref sig .scVector .vmem ShR .f32) (ρ : ℕ) (hρ : InB ρ) : Memref sig .scVector .vmem ShB .f32 :=
  R.slice (Rect.unit (s := ShR) ![ρ, 0] ShB.size hρ) (fun _ => rfl)

/-- Sixty-four words of a list. -/
abbrev window (L : Memref sig .scVector .vmem ShL .i32) (o : Fin 1 → ℕ) (ho : InW o) : Memref sig .scVector .vmem Sh64 .i32 :=
  L.slice (Rect.unit (s := ShL) o Sh64.size ho) (fun _ => rfl)

/-- The start of one batch: the rows the list names are fetched into a bank. -/
def startK (mS : Memref sig .scVector .hbm ShM .f32) (R : Memref sig .scVector .vmem ShR .f32) (L : Memref sig .scVector .vmem ShL .i32)
    (ρ : ℕ) (hρ : InB ρ) (o : Fin 1 → ℕ) (ho : InW o) (sem : DmaSem sig) (k : Prog 𝔼 α) : Prog 𝔼 α :=
  SparseCore.enqueueIndirectGather rfl mS (bank R ρ hρ) gth (window L o ho) rfl sem (View.wordExact_bits rfl) rfl (Or.inl rfl) >>= fun _ => k

/-- The wait for a batch. -/
def waitK (mS : Memref sig .scVector .hbm ShM .f32) (R : Memref sig .scVector .vmem ShR .f32) (ρ : ℕ) (hρ : InB ρ) (sem : DmaSem sig)
    (k : Prog 𝔼 α) : Prog 𝔼 α :=
  .op (.waitDma2 sem mS (bank R ρ hρ) (View.wordExact_bits rfl) (View.wordExact_bits rfl)) fun _ => k

end Prog

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl))
variable (𝒱 : Variants) (d : Dev nD) (a : Fin τ.nSC) (b : Fin τ.nSub) (bd : Option 𝒱.V)
variable {α : Type} {Q : α → sProp (MT nD τ sig Ix (Elt F) Name U Lvl)}

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

/-- What the tile owes, and the leave to wait at index `ι` under it. -/
def owing (ι : Ix) (O : CellTallies nD τ sig Ix) (W : Waits sig Ix) : sProp 𝕄 :=
  iprop(Transfers.MayWaits θ ι O ∗ ∃ W', ⌜∀ p ∈ W', p ∈ W ∨ p.2 = ι⌝ ∗ owes θ O W')

/-- A wait for a transfer in flight. -/
theorem wp_await [EC.LandsIn (upEmb : UEmb _ 𝕄)] {X D : sProp 𝕄} {ι : Ix} {O : CellTallies nD τ sig Ix} {W : Waits sig Ix} {sp spd : Space} {s' s : Shape} {e' e : EltTy} {sem : DmaSem sig}
    {srcw : Memref sig .scVector sp s' e'} {dstw : Memref sig .scVector spd s e} {hsrc : srcw.view.WordExact} {hdst : dstw.view.WordExact}
    {k : PUnit → Prog 𝔼 α} (N : ℕ) (hN : dstw.view.dmaCredit = N)
    (hk : iprop(D ∗ semVal (θ, .dma sem) 0 ∗ owing d a b ι O W ∗ X) ⊢ WP (k ⟨⟩) Q) :
    iprop(Transfers.Flight EC θ (.dma sem) ι N D ∗ owing d a b ι O W ∗ X) ⊢ WP (.op (.waitDma2 sem srcw dstw hsrc hdst) k) Q := by
  have hw := fun W' : Waits sig Ix => Transfers.wp_waitLocalO (defs := defs) EC 𝒱 θ bd (Q := Q) (sem := sem) (srcw := srcw) (dstw := dstw) (hsrc := hsrc) (hdst := hdst) (k := k) ι hN
    (D := D) (O := O) (W := W')
  unfold owing at hk ⊢
  iintro ⟨HF, ⟨#Hmw, %W', %hW, HO⟩, HX⟩
  iapply (hw W') $$ [HF HO]
  · isplitl [HF]; · iexact HF
    isplitl [HO]; · iexact HO
    iapply (Transfers.MayWaits.elim (SemLoc.dma sem)) $$ Hmw
  iintro ⟨HD, Hs, HO⟩
  iapply hk
  isplitl [HD]; · iexact HD
  isplitl [Hs]; · iexact Hs
  isplitl [HO]
  · isplitr; · iexact Hmw
    iexists (insert (SemLoc.dma sem, ι) W')
    isplitr
    · ipureintro
      intro p hp
      rcases Finset.mem_insert.mp hp with h | h
      · right; rw [h]
      · exact hW p h
    · iexact HO
  · iexact HX

/-- The rows of a bank, from row `ρ` on, as the edges `e` name them. -/
def RowsAre (R : Memref sig .scVector .vmem ShR .f32) (M : ℕ → Fin 128 → F .f32) (ρ : ℕ) (e : Fin 64 → Edge) (fr : R.view.ty.Contents (Elt F)) : Prop :=
  ∀ (j : Fin 64) (ix : ShR.Idx), (ix 0).val = ρ + j.val → R.view.read (Elt F) fr ix = M (e j).1 (ix 1)

section Bank

variable (mS : Memref sig .scVector .hbm ShM .f32) (R : Memref sig .scVector .vmem ShR .f32) (L : Memref sig .scVector .vmem ShL .i32)
variable (fm : mS.view.ty.Contents (Elt F)) (fs : L.view.ty.Contents (Elt F)) (qm qs : PosShare TreeShare)
variable (ρ : ℕ) (hρ : InB ρ) (sem : DmaSem sig) (ι : Ix)

/-- A bank with no batch in flight. -/
def idle : sProp 𝕄 :=
  iprop((∃ fr, (bank R ρ hρ).view.loc θ ↦[(bank R ρ hρ).view.set]{fullShare} fr) ∗ (mS.view.loc θ ↦[mS.view.set]{qm} fm)
    ∗ (L.view.loc θ ↦[L.view.set]{qs} fs) ∗ semVal (θ, .dma sem) 0)

/-- A bank whose batch has landed. -/
def landed (M : ℕ → Fin 128 → F .f32) (e : Fin 64 → Edge) : sProp 𝕄 :=
  iprop((∃ fr, (R.view.loc θ ↦[(bank R ρ hρ).view.set]{fullShare} fr) ∗ ⌜RowsAre R M ρ e fr⌝) ∗ (mS.view.loc θ ↦[mS.view.set]{qm} fm)
    ∗ (L.view.loc θ ↦[L.view.set]{qs} fs) ∗ semVal (θ, .dma sem) 0)

/-- A bank whose batch is in flight. -/
def busy (M : ℕ → Fin 128 → F .f32) (e : Fin 64 → Edge) : sProp 𝕄 :=
  iprop(∃ W : Finset (Idx (L.view.loc θ)), ⌜W ⊆ L.view.set⌝ ∗
    Transfers.Flight EC θ (.dma sem) ι ((bank R ρ hρ).view.dmaCredit)
      iprop((∃ fr, (R.view.loc θ ↦[(bank R ρ hρ).view.set]{fullShare} fr) ∗ ⌜RowsAre R M ρ e fr⌝) ∗ (mS.view.loc θ ↦[mS.view.set]{qm} fm)
        ∗ (L.view.loc θ ↦[W]{qs} fs))
    ∗ (L.view.loc θ ↦[L.view.set \ W]{qs} fs))

variable {mS R L fm fs qm qs ρ hρ sem ι}

omit [FloatOps F] in
theorem rows_read {M : ℕ → Fin 128 → F .f32} (hM : ∀ ix : ShM.Idx, mS.view.read (Elt F) fm ix = M (ix 0).val (ix 1)) {o : Fin 1 → ℕ} {ho : InW o}
    {e : Fin 64 → Edge} (hin : ∀ x, ((window L o ho).view.read (Elt F) fs x : BitVec 32).toNat < 10240)
    (hw : ∀ (j : Fin 64) (ix : ShL.Idx), (ix 0).val = o 0 + j.val → (L.view.read (Elt F) fs ix : BitVec 32).toNat = (e j).1)
    (fr : R.view.ty.Contents (Elt F)) :
    RowsAre R M ρ e ((bank R ρ hρ).view.write (Elt F) fr (SparseCore.gatherPayload gth (mS.view.read (Elt F) fm)
      (SparseCore.rows ((window L o ho).view.read (Elt F) fs) rfl hin)) Finset.univ) := by
  intro j ix hix
  let loc : ShB.Idx := fun x => match x with | 0 => j | 1 => ix 1
  have hemb : (Rect.unit (s := ShR) ![ρ, 0] ShB.size hρ).emb loc = ix := by
    funext x
    apply Fin.ext
    match x with
    | 0 => show ρ + 1 * j.val = (ix 0).val; omega
    | 1 => show 0 + 1 * (ix 1).val = (ix 1).val; omega
  have h := congrFun (View.read_write_univ (v := (bank R ρ hρ).view) (Val := Elt F) fr (SparseCore.gatherPayload gth (mS.view.read (Elt F) fm)
      (SparseCore.rows ((window L o ho).view.read (Elt F) fs) rfl hin))) loc
  have h' : R.view.read (Elt F) ((bank R ρ hρ).view.write (Elt F) fr (SparseCore.gatherPayload gth (mS.view.read (Elt F) fm)
      (SparseCore.rows ((window L o ho).view.read (Elt F) fs) rfl hin)) Finset.univ) ((Rect.unit (s := ShR) ![ρ, 0] ShB.size hρ).emb loc)
      = mS.view.read (Elt F) fm (gth.idx (SparseCore.rows ((window L o ho).view.read (Elt F) fs) rfl hin) loc) := h
  rw [hemb] at h'
  rw [h', hM]
  have e0 : (gth.idx (SparseCore.rows ((window L o ho).view.read (Elt F) fs) rfl hin) loc 0).val = (e j).1 := by
    have h0 := Shape.Gathers.idx_axis gth (SparseCore.rows ((window L o ho).view.read (Elt F) fs) rfl hin) loc
    refine (congrArg Fin.val h0).trans ?_
    show ((window L o ho).view.read (Elt F) fs (Sh64.rowMajor.symm j) : BitVec 32).toNat = _
    show (L.view.read (Elt F) fs ((Rect.unit (s := ShL) o Sh64.size ho).emb (Sh64.rowMajor.symm j)) : BitVec 32).toNat = _
    apply hw
    show o 0 + 1 * ((Sh64.rowMajor.symm j) 0).val = _
    have : ((Sh64.rowMajor.symm j) 0).val = j.val := by
      have h1 := Shape.rowMajor_val_one (d := ![64]) (Sh64.rowMajor.symm j)
      rw [← h1]
      exact congrArg Fin.val (Sh64.rowMajor.apply_symm_apply j)
    omega
  have e1 : gth.idx (SparseCore.rows ((window L o ho).view.read (Elt F) fs) rfl hin) loc 1 = ix 1 :=
    Fin.ext (Shape.Gathers.idx_of_ne gth _ loc 1 (by decide))
  rw [e0, e1]

theorem wp_startK [Infinite Name] [EC.LandsIn (upEmb : UEmb _ 𝕄)] {X : sProp 𝕄}
    (hcr : ∀ s' : Shape, sig.dmaCredit .scVector (Kind.scVector.table .vmem) R.view.buf s' .f32 = s'.numel * EltTy.bits .f32)
    {M : ℕ → Fin 128 → F .f32} (hM : ∀ ix : ShM.Idx, mS.view.read (Elt F) fm ix = M (ix 0).val (ix 1)) {o : Fin 1 → ℕ} {ho : InW o}
    {e : Fin 64 → Edge} (he : ∀ j, (e j).1 < 10240)
    (hw : ∀ (j : Fin 64) (ix : ShL.Idx), (ix 0).val = o 0 + j.val → (L.view.read (Elt F) fs ix : BitVec 32).toNat = (e j).1)
    {k : Prog 𝔼 α}
    (hk : iprop(busy EC d a b mS R L fm fs qm qs ρ hρ sem ι M e ∗ X) ⊢ WP k Q) :
    iprop(idle d a b mS R L fm fs qm qs ρ hρ sem ∗ X) ⊢ WP (startK mS R L ρ hρ o ho sem k) Q := by
  have hin : ∀ x, ((window L o ho).view.read (Elt F) fs x : BitVec 32).toNat < 10240 := by
    intro x
    have : ((window L o ho).view.read (Elt F) fs x : BitVec 32).toNat = (e (x 0)).1 := by
      apply hw (x 0) ((Rect.unit (s := ShL) o Sh64.size ho).emb x)
      show o 0 + 1 * (x 0).val = _
      omega
    rw [this]; exact he _
  have hg := fun fr => SparseCore.wp_indirectGatherLocal (defs := defs) EC 𝒱 θ bd (Q := Q) (src := mS) (dst := bank R ρ hρ) (hg := gth) (offs := window L o ho)
    (hn := rfl) (sem := sem) (hp := rfl) (hsrc := View.wordExact_bits rfl) (he := rfl) (hsp := Or.inl rfl) (hr := by decide) (k := fun _ => k)
    (q := qm) (qo := qs) (fs := fm) (fo := fs) (fd := fr) ι _
    (SparseCore.sum_rowCredit_eq_dmaCredit (bank R ρ hρ) _ hcr) (by decide) hin
  unfold startK idle
  iintro ⟨⟨⟨%fr, HR⟩, Hm, HL, Hs⟩, HX⟩
  have hsub : (window L o ho).view.set ⊆ L.view.set := L.view.set_slice_subset _
  ihave HL := (pointsTo_split_subset (q := qs) (f := fs) hsub).1 $$ HL
  icases HL with ⟨HW, HL⟩
  iapply (hg fr) $$ [HR Hm HW Hs]
  · isplitl [Hm]; · iexact Hm
    isplitl [HR]; · iexact HR
    isplitl [HW] <;> iassumption
  iintro HF
  iapply hk
  isplitr [HX]
  · unfold busy
    iexists _
    isplitr
    · ipureintro; exact hsub
    isplitl [HF]
    · iapply (Transfers.Flight_mono EC θ (D' := iprop((∃ fr, (R.view.loc θ ↦[(bank R ρ hρ).view.set]{fullShare} fr) ∗ ⌜RowsAre R M ρ e fr⌝) ∗ (mS.view.loc θ ↦[mS.view.set]{qm} fm)
        ∗ (L.view.loc θ ↦[(window L o ho).view.set]{qs} fs))) ?_) $$ HF
      iintro ⟨HR, Hm, HW⟩
      isplitl [HR]
      · iexists _
        isplitl [HR]; · iexact HR
        ipureintro
        exact rows_read hM hin hw fr
      isplitl [Hm] <;> iassumption
    · iexact HL
  · iexact HX

theorem wp_waitK [EC.LandsIn (upEmb : UEmb _ 𝕄)] {X : sProp 𝕄} {O : CellTallies nD τ sig Ix} {W : Waits sig Ix}
    {M : ℕ → Fin 128 → F .f32} {e : Fin 64 → Edge} {k : Prog 𝔼 α}
    (hk : iprop(landed d a b mS R L fm fs qm qs ρ hρ sem M e ∗ owing d a b ι O W ∗ X) ⊢ WP k Q) :
    iprop(busy EC d a b mS R L fm fs qm qs ρ hρ sem ι M e ∗ owing d a b ι O W ∗ X) ⊢ WP (waitK mS R ρ hρ sem k) Q := by
  have hw : ∀ Wn : Finset (Idx (L.view.loc θ)), Wn ⊆ L.view.set → _ := fun Wn hsub =>
    wp_await (defs := defs) EC 𝒱 d a b bd (Q := Q) (ι := ι) (O := O) (W := W) (sem := sem) (srcw := mS) (dstw := bank R ρ hρ)
      (hsrc := View.wordExact_bits rfl) (hdst := View.wordExact_bits rfl) (k := fun _ => k)
      (D := iprop((∃ fr, (R.view.loc θ ↦[(bank R ρ hρ).view.set]{fullShare} fr) ∗ ⌜RowsAre R M ρ e fr⌝) ∗ (mS.view.loc θ ↦[mS.view.set]{qm} fm)
        ∗ (L.view.loc θ ↦[Wn]{qs} fs)))
      (X := iprop((L.view.loc θ ↦[L.view.set \ Wn]{qs} fs) ∗ X)) _ rfl (by
    refine BIBase.Entails.trans ?_ hk
    iintro ⟨⟨HR, Hm, HW⟩, Hs, HO, HL, HX⟩
    isplitl [HR Hm HW HL Hs]
    · unfold landed
      isplitl [HR]; · iexact HR
      isplitl [Hm]; · iexact Hm
      isplitl [HW HL]
      · iapply (pointsTo_split_subset (q := qs) (f := fs) hsub).2
        isplitl [HW] <;> iassumption
      · iexact Hs
    · isplitl [HO] <;> iassumption)
  unfold waitK busy
  iintro ⟨⟨%Wn, %hsub, HF, HL⟩, HO, HX⟩
  iapply (hw Wn hsub)
  isplitl [HF]; · iexact HF
  isplitl [HO]; · iexact HO
  isplitl [HL] <;> iassumption

end Bank

end Rules

end Cert.SegMax
-- ==== Proof.Drain.lean ====
module

public import proofs.«01_k».proof.Proof.Gather

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-- Four groups of sixteen. -/
@[reducible] def groupLoop : Scf.Loop 32 := ⟨0#32, Scalar.addi 0#32 4#32, 1#32⟩

theorem group_trips : groupLoop.trips = 4 := by decide

theorem group_row {v : BitVec 32} {ρ : ℕ} (hv : v.toNat = ρ) (hρ : ρ ≤ 64) (t : ℕ) (ht : t < 4) (j : Fin 16) :
    laneRow v (Scf.iv 0#32 1#32 t) (BitVec.ofNat 32 j.val) = ρ + (16 * t + j.val) := by
  have hj := j.isLt
  have h1 : (BitVec.ofNat 32 j.val).toNat = j.val := by rw [BitVec.toNat_ofNat]; omega
  have h2 : (Scf.iv 0#32 1#32 t : BitVec 32).toNat = t := by
    unfold Scf.iv
    rw [BitVec.toNat_add, BitVec.toNat_mul, BitVec.toNat_ofNat]
    show (0 + (t % 2 ^ 32 * 1) % 2 ^ 32) % 2 ^ 32 = t
    omega
  show ((v + Scf.iv 0#32 1#32 t * 16#32) + BitVec.ofNat 32 j.val : BitVec 32).toNat = _
  rw [BitVec.toNat_add, BitVec.toNat_add, BitVec.toNat_mul, h1, h2, hv]
  show ((ρ + (t * 16) % 2 ^ 32) % 2 ^ 32 + j.val) % 2 ^ 32 = _
  omega

theorem group_inR {v : BitVec 32} {ρ : ℕ} (hv : v.toNat = ρ) (hρ : ρ ≤ 64) (t : ℕ) (ht : t < 4) (j : Fin 16) (c : Fin 8) :
    InR (cell (laneRow v (Scf.iv 0#32 1#32 t) (BitVec.ofNat 32 j.val)) c.val) := by
  intro x
  have hj := j.isLt
  have hc := c.isLt
  have := group_row hv hρ t ht j
  match x with
  | 0 => show laneRow v (Scf.iv 0#32 1#32 t) (BitVec.ofNat 32 j.val) + 1 ≤ 128; omega
  | 1 => show 16 * c.val + 16 ≤ 128; omega

section Prog

variable {nD : Nat} {τ : Topo} {sig : RefSig} {Λ : Labels} {F : FTy → Type} [FloatOps F]
variable {a : Fin τ.nSC} {b : Fin τ.nSub}

local notation "𝔼" => TpuEff nD τ sig (Elt F) Λ (Proc.scVector a b)

/-- The four groups of one batch. -/
def groupsK (A : Memref sig .scVector .vmem ShA .f32) (R : Memref sig .scVector .vmem ShR .f32) (LS : Memref sig .scVector .vmem ShL .i32)
    (ok : groupLoop.OK) (og : Fin groupLoop.trips → Fin 1 → ℕ) (hg : ∀ t x, og t x + Sh16.size x ≤ ShL.size x) (v : BitVec 32)
    (hr : ∀ (t : Fin groupLoop.trips) (l : Fin 16) (c : Fin 8), InR (cell (laneRow v (Scf.iv 0#32 1#32 t) (BitVec.ofNat 32 l.val)) c.val)) : Prog 𝔼 PUnit :=
  groupLoop.for ok ⟨⟩ fun t _ => groupK A R LS (og t) (hg t) v (Scf.iv 0#32 1#32 t) (hr t)

/-- One trip of the drain: the next batch is started in the other bank, this one awaited, and its edges are taken in. -/
def tripK (mS : Memref sig .scVector .hbm ShM .f32) (A : Memref sig .scVector .vmem ShA .f32) (R : Memref sig .scVector .vmem ShR .f32)
    (SS LS : Memref sig .scVector .vmem ShL .i32) (s0 s1 : DmaSem sig) (h0 : InB 0) (h1 : InB 64) (c5 c6 c7 : BitVec 1) (o6 o7 : Fin 1 → ℕ)
    (ho6 : c5 = 1#1 → c6 = 1#1 → InW o6) (ho7 : c5 = 1#1 → ¬ c6 = 1#1 → InW o7)
    (ok : groupLoop.OK) (og : Fin groupLoop.trips → Fin 1 → ℕ) (hg : ∀ t x, og t x + Sh16.size x ≤ ShL.size x) (v : BitVec 32)
    (hr : ∀ (t : Fin groupLoop.trips) (l : Fin 16) (c : Fin 8), InR (cell (laneRow v (Scf.iv 0#32 1#32 t) (BitVec.ofNat 32 l.val)) c.val)) : Prog 𝔼 PUnit := do
  if h5 : c5 = 1#1 then do
    if h6 : c6 = 1#1 then do
      SparseCore.enqueueIndirectGather rfl mS (bank R 0 h0) gth (window SS o6 (ho6 h5 h6)) rfl s0 (View.wordExact_bits rfl) rfl (Or.inl rfl)
      pure ⟨⟩
    else do
      SparseCore.enqueueIndirectGather rfl mS (bank R 64 h1) gth (window SS o7 (ho7 h5 h6)) rfl s1 (View.wordExact_bits rfl) rfl (Or.inl rfl)
      pure ⟨⟩
    pure ⟨⟩
  else do
    pure ⟨⟩
  if h7 : c7 = 1#1 then do
    SparseCore.waitIndirectGather s0 mS (bank R 0 h0) (View.wordExact_bits rfl) (View.wordExact_bits rfl)
    pure ⟨⟩
  else do
    SparseCore.waitIndirectGather s1 mS (bank R 64 h1) (View.wordExact_bits rfl) (View.wordExact_bits rfl)
    pure ⟨⟩
  groupsK A R LS ok og hg v hr
  pure ⟨⟩

section
variable {mS : Memref sig .scVector .hbm ShM .f32} {A : Memref sig .scVector .vmem ShA .f32} {R : Memref sig .scVector .vmem ShR .f32}
    {SS LS : Memref sig .scVector .vmem ShL .i32} {s0 s1 : DmaSem sig} {h0 : InB 0} {h1 : InB 64} {c5 c6 c7 : BitVec 1} {o6 o7 : Fin 1 → ℕ}
    {ho6 : c5 = 1#1 → c6 = 1#1 → InW o6} {ho7 : c5 = 1#1 → ¬ c6 = 1#1 → InW o7}
    {ok : groupLoop.OK} {og : Fin groupLoop.trips → Fin 1 → ℕ} {hg : ∀ t x, og t x + Sh16.size x ≤ ShL.size x} {v : BitVec 32}
    {hr : ∀ (t : Fin groupLoop.trips) (l : Fin 16) (c : Fin 8), InR (cell (laneRow v (Scf.iv 0#32 1#32 t) (BitVec.ofNat 32 l.val)) c.val)}

theorem tripK_even (h5 : c5 = 1#1) (h6 : ¬ c6 = 1#1) (h7 : c7 = 1#1) :
    (tripK mS A R SS LS s0 s1 h0 h1 c5 c6 c7 o6 o7 ho6 ho7 ok og hg v hr : Prog 𝔼 PUnit)
      = startK mS R SS 64 h1 o7 (ho7 h5 h6) s1 (waitK mS R 0 h0 s0 (groupsK A R LS ok og hg v hr >>= fun _ => pure ⟨⟩)) := by
  unfold tripK
  rw [dif_pos h5, dif_neg h6, dif_pos h7]
  rfl

theorem tripK_odd (h5 : c5 = 1#1) (h6 : c6 = 1#1) (h7 : ¬ c7 = 1#1) :
    (tripK mS A R SS LS s0 s1 h0 h1 c5 c6 c7 o6 o7 ho6 ho7 ok og hg v hr : Prog 𝔼 PUnit)
      = startK mS R SS 0 h0 o6 (ho6 h5 h6) s0 (waitK mS R 64 h1 s1 (groupsK A R LS ok og hg v hr >>= fun _ => pure ⟨⟩)) := by
  unfold tripK
  rw [dif_pos h5, dif_pos h6, dif_neg h7]
  rfl

theorem tripK_even_last (h5 : ¬ c5 = 1#1) (h7 : c7 = 1#1) :
    (tripK mS A R SS LS s0 s1 h0 h1 c5 c6 c7 o6 o7 ho6 ho7 ok og hg v hr : Prog 𝔼 PUnit)
      = waitK mS R 0 h0 s0 (groupsK A R LS ok og hg v hr >>= fun _ => pure ⟨⟩) := by
  unfold tripK
  rw [dif_neg h5, dif_pos h7]
  rfl

theorem tripK_odd_last (h5 : ¬ c5 = 1#1) (h7 : ¬ c7 = 1#1) :
    (tripK mS A R SS LS s0 s1 h0 h1 c5 c6 c7 o6 o7 ho6 ho7 ok og hg v hr : Prog 𝔼 PUnit)
      = waitK mS R 64 h1 s1 (groupsK A R LS ok og hg v hr >>= fun _ => pure ⟨⟩) := by
  unfold tripK
  rw [dif_neg h5, dif_neg h7]
  rfl

end

end Prog

/-- The first `n` of the edges `E`. -/
def firsts (E : ℕ → Edge) (n : ℕ) : List Edge := (List.range n).map E

theorem firsts_add (E : ℕ → Edge) (n k : ℕ) : firsts E (n + k) = firsts E n ++ List.ofFn fun j : Fin k => E (n + j.val) := by
  unfold firsts
  rw [List.range_add, List.map_append, List.map_map]
  congr 1
  apply List.ext_getElem
  · simp
  · intro i h1 h2
    simp

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl))
variable (𝒱 : Variants) (d : Dev nD) (a : Fin τ.nSC) (b : Fin τ.nSub) (bd : Option 𝒱.V)

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

variable (mS : Memref sig .scVector .hbm ShM .f32) (A : Memref sig .scVector .vmem ShA .f32) (R : Memref sig .scVector .vmem ShR .f32)
variable (SS LS : Memref sig .scVector .vmem ShL .i32)
variable (fm : mS.view.ty.Contents (Elt F)) (fs : SS.view.ty.Contents (Elt F)) (fl : LS.view.ty.Contents (Elt F)) (qm : PosShare TreeShare)
variable (s0 s1 : DmaSem sig) (h0 : InB 0) (h1 : InB 64) (ι : Ix) (O : CellTallies nD τ sig Ix) (W : Waits sig Ix)
variable (M : ℕ → Fin 128 → F .f32) (l0 : List Edge) (E : ℕ → Edge) (nf : ℕ)

/-- A counted loop, by an invariant. -/
theorem wp_loop {σ : Type} {lp : Scf.Loop 32} {ok : lp.OK} {init : σ} {body : Fin lp.trips → σ → Prog 𝔼 σ} {n : ℕ} (hn : lp.trips = n)
    (I : ℕ → σ → sProp 𝕄) (hbody : ∀ (k : Fin lp.trips) (acc : σ), I k acc ⊢ WP (body k acc) (I (k.val + 1))) {Q : σ → sProp 𝕄}
    (hk : ∀ acc, I n acc ⊢ Q acc) : I 0 init ⊢ WP (lp.for ok init body) Q := by
  have h := Scf.wp_for frame (wpE defs 𝒱 θ bd) Set.univ lp.lb lp.ub lp.st ok init body I hbody (Q := Q)
  refine BIBase.Entails.trans ?_ h
  iintro HI
  isplitl [HI]; · iexact HI
  iintro %acc HI
  iapply (hk acc)
  rw [← hn]
  iexact HI

/-- The same at the head of a program. -/
theorem wp_loop_bind {σ β : Type} {lp : Scf.Loop 32} {ok : lp.OK} {init : σ} {body : Fin lp.trips → σ → Prog 𝔼 σ} {kk : σ → Prog 𝔼 β} {n : ℕ} (hn : lp.trips = n)
    (I : ℕ → σ → sProp 𝕄) (hbody : ∀ (k : Fin lp.trips) (acc : σ), I k acc ⊢ WP (body k acc) (I (k.val + 1))) {Q : β → sProp 𝕄}
    (hk : ∀ acc, I n acc ⊢ WP (kk acc) Q) : I 0 init ⊢ WP (lp.for ok init body >>= kk) Q := by
  rw [wp_bind]
  exact wp_loop 𝒱 d a b bd hn I hbody hk

/-- What the accumulator and the rows list are while batches are drained: `n` edges are taken in. -/
def taken (n : ℕ) (X : sProp 𝕄) : sProp 𝕄 :=
  iprop(own d a b A (IsAcc M (l0 ++ firsts E n)) ∗ (LS.view.loc θ ↦[LS.view.set]{fullShare} fl) ∗ owing d a b ι O W ∗ X)

variable {mS A R SS LS fm fs fl qm s0 s1 h0 h1 ι O W M l0 E nf}

/-- The edges the four groups of batch `n` take in. -/
theorem wp_groupsK {ρ : ℕ} {hρ : InB ρ} (hρ' : ρ ≤ 64) {qs : PosShare TreeShare} {sem : DmaSem sig} {n : ℕ} {X : sProp 𝕄} {ok : groupLoop.OK} {og : Fin groupLoop.trips → Fin 1 → ℕ} {hg} {v : BitVec 32} {hr}
    (hv : v.toNat = ρ) (hog : ∀ t, og t 0 = 64 * n + 16 * t.val)
    (hle : ∀ i, i < 64 * (n + 1) → (E i).2 ≤ 640)
    (hw : ∀ (i : ℕ) (ix : ShL.Idx), i < 64 * (n + 1) → (ix 0).val = i → (LS.view.read (Elt F) fl ix : BitVec 32).toNat = (E i).2)
    {Q : PUnit → sProp 𝕄}
    (hk : iprop(idle d a b mS R SS fm fs qm qs ρ hρ sem ∗ taken d a b A LS fl ι O W M l0 E (64 * (n + 1)) X) ⊢ Q ⟨⟩) :
    iprop(landed d a b mS R SS fm fs qm qs ρ hρ sem M (fun j => E (64 * n + j.val)) ∗ taken d a b A LS fl ι O W M l0 E (64 * n) X)
      ⊢ WP (groupsK A R LS ok og hg v hr) Q := by
  unfold landed taken
  iintro ⟨⟨⟨%fr, HR, %hrows⟩, Hm, Hs, Hsem⟩, HA, HL, HO, HX⟩
  unfold groupsK
  iapply (wp_loop 𝒱 d a b bd (Q := Q) group_trips
    (fun (k : ℕ) (_ : PUnit) => iprop(own d a b A (IsAcc M (l0 ++ firsts E (64 * n + 16 * k))) ∗ (R.view.loc θ ↦[(bank R ρ hρ).view.set]{fullShare} fr)
      ∗ ((mS.view.loc θ ↦[mS.view.set]{qm} fm) ∗ (SS.view.loc θ ↦[SS.view.set]{qs} fs) ∗ semVal (θ, .dma sem) 0 ∗ owing d a b ι O W ∗ X)
      ∗ (LS.view.loc θ ↦[LS.view.set]{fullShare} fl))) (fun t acc => ?_) (fun acc => ?_))
  · have ht : t.val < 4 := Nat.lt_of_lt_of_eq t.isLt group_trips
    refine wp_groupK 𝒱 d a b bd (fun j : Fin 16 => E (64 * n + 16 * t.val + j.val)) ?_ ?_ ?_ ?_ ?_
    · intro j
      have := j.isLt
      exact hle _ (by omega)
    · intro j ix hix
      have := j.isLt
      rw [hog t] at hix
      exact hw _ ix (by omega) hix
    · intro j ix hix
      have hj := j.isLt
      rw [group_row hv hρ' t.val ht j] at hix
      have h : 16 * t.val + j.val < 64 := by omega
      have hemb : (Rect.unit (s := ShR) ![ρ, 0] ShB.size hρ).emb (fun x => match x with | 0 => ⟨16 * t.val + j.val, h⟩ | 1 => ix 1) = ix := by
        funext x
        apply Fin.ext
        match x with
        | 0 => show ρ + 1 * (16 * t.val + j.val) = (ix 0).val; omega
        | 1 => show 0 + 1 * (ix 1).val = (ix 1).val; omega
      rw [← hemb]
      exact (bank R ρ hρ).view.emb_mem_set _
    · intro j ix hix
      have hj := j.isLt
      rw [group_row hv hρ' t.val ht j] at hix
      have h : 16 * t.val + j.val < 64 := by omega
      have := hrows ⟨16 * t.val + j.val, h⟩ ix hix
      rw [this, Nat.add_assoc]
    · rw [show 64 * n + 16 * (t.val + 1) = 64 * n + 16 * t.val + 16 by omega, firsts_add E (64 * n + 16 * t.val) 16, List.append_assoc]
  · refine BIBase.Entails.trans ?_ hk
    unfold idle taken
    iintro ⟨HA, HR, ⟨Hm, Hs, Hsem, HO, HX⟩, HL⟩
    isplitl [HR Hm Hs Hsem]
    · isplitl [HR]
      · iexists _; iexact HR
      isplitl [Hm]; · iexact Hm
      isplitl [Hs] <;> iassumption
    isplitl [HA]; · iexact HA
    isplitl [HL]; · iexact HL
    isplitl [HO] <;> iassumption
  · isplitl [HA]; · iexact HA
    isplitl [HR]; · iexact HR
    isplitr [HL]
    · isplitl [Hm]; · iexact Hm
      isplitl [Hs]; · iexact Hs
      isplitl [Hsem]; · iexact Hsem
      isplitl [HO] <;> iassumption
    iexact HL

variable (mS R SS fm fs qm ι M E nf) in
/-- A bank before trip `n` of a drain of `nf` batches: batch `n` is in flight in the bank of its parity. -/
def bankAt (p : ℕ) (qs qm : PosShare TreeShare) (ρ : ℕ) (hρ : InB ρ) (sem : DmaSem sig) (n : ℕ) : sProp 𝕄 :=
  if n < nf ∧ n % 2 = p then busy EC d a b mS R SS fm fs qm qs ρ hρ sem ι M fun j => E (64 * n + j.val)
  else idle d a b mS R SS fm fs qm qs ρ hρ sem

variable (mS A R SS LS fm fs fl qm s0 s1 h0 h1 ι O W M l0 E nf) in
/-- What holds before trip `n` of a drain of `nf` batches. -/
def drainAt (n : ℕ) (X : sProp 𝕄) : sProp 𝕄 :=
  iprop(bankAt EC d a b mS R SS fm fs ι M E nf 0 fullShare.left qm.left 0 h0 s0 n
    ∗ bankAt EC d a b mS R SS fm fs ι M E nf 1 fullShare.right qm.right 64 h1 s1 n
    ∗ taken d a b A LS fl ι O W M l0 E (64 * n) X)

/-- The wait and the groups of batch `n`. -/
theorem wp_drained [EC.LandsIn (upEmb : UEmb _ 𝕄)] {ρ : ℕ} {hρ : InB ρ} (hρ' : ρ ≤ 64) {qm qs : PosShare TreeShare} {sem : DmaSem sig} {n : ℕ} {X : sProp 𝕄} {ok : groupLoop.OK} {og : Fin groupLoop.trips → Fin 1 → ℕ} {hg} {v : BitVec 32} {hr}
    (hv : v.toNat = ρ) (hog : ∀ t, og t 0 = 64 * n + 16 * t.val)
    (hle : ∀ i, i < 64 * (n + 1) → (E i).2 ≤ 640)
    (hw : ∀ (i : ℕ) (ix : ShL.Idx), i < 64 * (n + 1) → (ix 0).val = i → (LS.view.read (Elt F) fl ix : BitVec 32).toNat = (E i).2)
    {Q : PUnit → sProp 𝕄}
    (hk : iprop(idle d a b mS R SS fm fs qm qs ρ hρ sem ∗ taken d a b A LS fl ι O W M l0 E (64 * (n + 1)) X) ⊢ Q ⟨⟩) :
    iprop(busy EC d a b mS R SS fm fs qm qs ρ hρ sem ι M (fun j => E (64 * n + j.val)) ∗ taken d a b A LS fl ι O W M l0 E (64 * n) X)
      ⊢ WP (waitK mS R ρ hρ sem (groupsK A R LS ok og hg v hr >>= fun _ => pure ⟨⟩)) Q := by
  have hgr := wp_groupsK (defs := defs) (mS := mS) (SS := SS) (fm := fm) (fs := fs) (fl := fl) (ι := ι) (O := O) (W := W) (M := M) (l0 := l0) (E := E) (X := X) 𝒱 d a b bd hρ' (qm := qm) (qs := qs) (sem := sem) (hρ := hρ) (ok := ok) (og := og) (hg := hg) (v := v) (hr := hr)
    (Q := fun _ => WP (pure ⟨⟩) Q) hv hog hle hw (hk.trans (by rw [show (pure ⟨⟩ : Prog 𝔼 PUnit) = .ret ⟨⟩ from rfl, wp_ret]; exact fupd_intro))
  have hw' := wp_waitK (defs := defs) EC 𝒱 d a b bd (mS := mS) (R := R) (L := SS) (fm := fm) (fs := fs) (qm := qm) (qs := qs) (ρ := ρ) (hρ := hρ) (sem := sem) (ι := ι) (O := O) (W := W)
    (M := M) (e := fun j => E (64 * n + j.val)) (Q := Q) (k := groupsK A R LS ok og hg v hr >>= fun _ => pure ⟨⟩)
    (X := iprop(own d a b A (IsAcc M (l0 ++ firsts E (64 * n))) ∗ (LS.view.loc θ ↦[LS.view.set]{fullShare} fl) ∗ X)) (by
      rw [wp_bind]
      refine BIBase.Entails.trans ?_ hgr
      unfold taken
      iintro ⟨HB, HO, HA, HL, HX⟩
      isplitl [HB]; · iexact HB
      isplitl [HA]; · iexact HA
      isplitl [HL]; · iexact HL
      isplitl [HO] <;> iassumption)
  refine BIBase.Entails.trans ?_ hw'
  unfold taken
  iintro ⟨HB, HA, HL, HO, HX⟩
  isplitl [HB]; · iexact HB
  isplitl [HO]; · iexact HO
  isplitl [HA]; · iexact HA
  isplitl [HL] <;> iassumption

variable (A LS fl O W l0) in
theorem taken_frame {n : ℕ} {X Y : sProp 𝕄} :
    iprop(Y ∗ taken d a b A LS fl ι O W M l0 E n X) ⊣⊢ taken d a b A LS fl ι O W M l0 E n iprop(Y ∗ X) := by
  unfold taken
  constructor
  · iintro ⟨HY, HA, HL, HO, HX⟩
    isplitl [HA]; · iexact HA
    isplitl [HL]; · iexact HL
    isplitl [HO]; · iexact HO
    isplitl [HY] <;> iassumption
  · iintro ⟨HA, HL, HO, HY, HX⟩
    isplitl [HY]; · iexact HY
    isplitl [HA]; · iexact HA
    isplitl [HL]; · iexact HL
    isplitl [HO] <;> iassumption

/-- A trip that starts no batch: the bank `ρ` is awaited, the other lies idle (or is in flight: `Y`). -/
theorem wp_tripLast [EC.LandsIn (upEmb : UEmb _ 𝕄)] {ρ : ℕ} {hρ : InB ρ} (hρ' : ρ ≤ 64) {qm qs : PosShare TreeShare} {sem : DmaSem sig} {n : ℕ} {X Y : sProp 𝕄} {ok : groupLoop.OK} {og : Fin groupLoop.trips → Fin 1 → ℕ} {hg} {v : BitVec 32} {hr}
    (hv : v.toNat = ρ) (hog : ∀ t, og t 0 = 64 * n + 16 * t.val)
    (hle : ∀ i, i < 64 * (n + 1) → (E i).2 ≤ 640)
    (hw : ∀ (i : ℕ) (ix : ShL.Idx), i < 64 * (n + 1) → (ix 0).val = i → (LS.view.read (Elt F) fl ix : BitVec 32).toNat = (E i).2)
    {Q : PUnit → sProp 𝕄}
    (hk : iprop(idle d a b mS R SS fm fs qm qs ρ hρ sem ∗ Y ∗ taken d a b A LS fl ι O W M l0 E (64 * (n + 1)) X) ⊢ Q ⟨⟩) :
    iprop(busy EC d a b mS R SS fm fs qm qs ρ hρ sem ι M (fun j => E (64 * n + j.val)) ∗ Y ∗ taken d a b A LS fl ι O W M l0 E (64 * n) X)
      ⊢ WP (waitK mS R ρ hρ sem (groupsK A R LS ok og hg v hr >>= fun _ => pure ⟨⟩)) Q := by
  have hk' := BIBase.Entails.trans (sep_mono_right (taken_frame d a b A LS fl O W l0).2) hk
  exact BIBase.Entails.trans (sep_mono_right (taken_frame d a b A LS fl O W l0).1) (wp_drained EC 𝒱 d a b bd hρ' hv hog hle hw (X := iprop(Y ∗ X)) hk')

/-- A trip that starts the next batch in the bank `ρo` and awaits this one in the bank `ρ`. -/
theorem wp_tripMore [Infinite Name] [EC.LandsIn (upEmb : UEmb _ 𝕄)] {ρ ρo : ℕ} {hρ : InB ρ} {hρo : InB ρo} (hρ' : ρ ≤ 64) {qm qs qmo qso : PosShare TreeShare} {sem semo : DmaSem sig} {n : ℕ} {X : sProp 𝕄} {o : Fin 1 → ℕ} {ho : InW o} {ok : groupLoop.OK} {og : Fin groupLoop.trips → Fin 1 → ℕ} {hg} {v : BitVec 32} {hr}
    (hcr : ∀ s' : Shape, sig.dmaCredit .scVector (Kind.scVector.table .vmem) R.view.buf s' .f32 = s'.numel * EltTy.bits .f32)
    (hM : ∀ ix : ShM.Idx, mS.view.read (Elt F) fm ix = M (ix 0).val (ix 1))
    (ho' : o 0 = 64 * (n + 1)) (hlt : ∀ i, i < 64 * (n + 2) → (E i).1 < 10240)
    (hs : ∀ (i : ℕ) (ix : ShL.Idx), i < 64 * (n + 2) → (ix 0).val = i → (SS.view.read (Elt F) fs ix : BitVec 32).toNat = (E i).1)
    (hv : v.toNat = ρ) (hog : ∀ t, og t 0 = 64 * n + 16 * t.val)
    (hle : ∀ i, i < 64 * (n + 1) → (E i).2 ≤ 640)
    (hw : ∀ (i : ℕ) (ix : ShL.Idx), i < 64 * (n + 1) → (ix 0).val = i → (LS.view.read (Elt F) fl ix : BitVec 32).toNat = (E i).2)
    {Q : PUnit → sProp 𝕄}
    (hk : iprop(idle d a b mS R SS fm fs qm qs ρ hρ sem ∗ busy EC d a b mS R SS fm fs qmo qso ρo hρo semo ι M (fun j => E (64 * (n + 1) + j.val))
      ∗ taken d a b A LS fl ι O W M l0 E (64 * (n + 1)) X) ⊢ Q ⟨⟩) :
    iprop(busy EC d a b mS R SS fm fs qm qs ρ hρ sem ι M (fun j => E (64 * n + j.val)) ∗ idle d a b mS R SS fm fs qmo qso ρo hρo semo ∗ taken d a b A LS fl ι O W M l0 E (64 * n) X)
      ⊢ WP (startK mS R SS ρo hρo o ho semo (waitK mS R ρ hρ sem (groupsK A R LS ok og hg v hr >>= fun _ => pure ⟨⟩))) Q := by
  have h := wp_tripLast (defs := defs) EC 𝒱 d a b bd (ok := ok) (hg := hg) (hr := hr) hρ' hv hog hle hw hk
  have h2 := wp_startK (defs := defs) EC 𝒱 d a b bd (ι := ι) (qm := qmo) (qs := qso) (hρ := hρo) (sem := semo) hcr hM (o := o) (ho := ho) (fs := fs)
    (e := fun j : Fin 64 => E (64 * (n + 1) + j.val)) (fun j => hlt _ (by have := j.isLt; omega))
    (fun j ix hix => hs _ ix (by have := j.isLt; omega) (by rw [hix, ho']))
    (X := iprop(busy EC d a b mS R SS fm fs qm qs ρ hρ sem ι M (fun j => E (64 * n + j.val)) ∗ taken d a b A LS fl ι O W M l0 E (64 * n) X))
    (BIBase.Entails.trans sep_left_comm.1 h)
  exact BIBase.Entails.trans sep_left_comm.1 h2

theorem wp_tripK [Infinite Name] [EC.LandsIn (upEmb : UEmb _ 𝕄)] {n : ℕ} {X : sProp 𝕄} {c5 c6 c7 : BitVec 1} {o6 o7 : Fin 1 → ℕ} {ho6 ho7} {ok : groupLoop.OK} {og : Fin groupLoop.trips → Fin 1 → ℕ} {hg} {v : BitVec 32} {hr}
    (hcr : ∀ s' : Shape, sig.dmaCredit .scVector (Kind.scVector.table .vmem) R.view.buf s' .f32 = s'.numel * EltTy.bits .f32)
    (hM : ∀ ix : ShM.Idx, mS.view.read (Elt F) fm ix = M (ix 0).val (ix 1))
    (hn : n < nf) (hc5 : c5 = 1#1 ↔ n + 1 < nf) (hc6 : c6 = 1#1 ↔ (n + 1) % 2 = 0) (hc7 : c7 = 1#1 ↔ n % 2 = 0)
    (ho6' : o6 0 = 64 * (n + 1)) (ho7' : o7 0 = 64 * (n + 1))
    (hv : v.toNat = 64 * (n % 2)) (hog : ∀ t, og t 0 = 64 * n + 16 * t.val)
    (hlt : ∀ i, i < 64 * nf → (E i).1 < 10240) (hle : ∀ i, i < 64 * nf → (E i).2 ≤ 640)
    (hs : ∀ (i : ℕ) (ix : ShL.Idx), i < 64 * nf → (ix 0).val = i → (SS.view.read (Elt F) fs ix : BitVec 32).toNat = (E i).1)
    (hw : ∀ (i : ℕ) (ix : ShL.Idx), i < 64 * nf → (ix 0).val = i → (LS.view.read (Elt F) fl ix : BitVec 32).toNat = (E i).2) :
    drainAt EC d a b mS A R SS LS fm fs fl qm s0 s1 h0 h1 ι O W M l0 E nf n X
      ⊢ WP (tripK mS A R SS LS s0 s1 h0 h1 c5 c6 c7 o6 o7 ho6 ho7 ok og hg v hr)
        (fun _ => drainAt EC d a b mS A R SS LS fm fs fl qm s0 s1 h0 h1 ι O W M l0 E nf (n + 1) X) := by
  have hle' : ∀ i, i < 64 * (n + 1) → (E i).2 ≤ 640 := fun i hi => hle i (by omega)
  have hw' : ∀ (i : ℕ) (ix : ShL.Idx), i < 64 * (n + 1) → (ix 0).val = i → (LS.view.read (Elt F) fl ix : BitVec 32).toNat = (E i).2 :=
    fun i ix hi => hw i ix (by omega)
  unfold drainAt bankAt
  by_cases hp : n % 2 = 0
  · have h7 := hc7.mpr hp
    rw [if_pos ⟨hn, hp⟩, if_neg (show ¬ (n < nf ∧ n % 2 = 1) by omega), if_neg (show ¬ (n + 1 < nf ∧ (n + 1) % 2 = 0) by omega)]
    rw [hp] at hv
    by_cases hc : n + 1 < nf
    · rw [if_pos (show n + 1 < nf ∧ (n + 1) % 2 = 1 by omega), tripK_even (hc5.mpr hc) (fun h => by have := hc6.mp h; omega) h7]
      exact wp_tripMore EC 𝒱 d a b bd (by omega) hcr hM ho7' (fun i hi => hlt i (by omega)) (fun i ix hi => hs i ix (by omega)) hv hog hle' hw'
        BIBase.Entails.rfl
    · rw [if_neg (show ¬ (n + 1 < nf ∧ (n + 1) % 2 = 1) by omega), tripK_even_last (fun h => hc (hc5.mp h)) h7]
      exact wp_tripLast EC 𝒱 d a b bd (by omega) hv hog hle' hw' BIBase.Entails.rfl
  · have h7 : ¬ c7 = 1#1 := fun h => hp (hc7.mp h)
    rw [if_neg (show ¬ (n < nf ∧ n % 2 = 0) by omega), if_pos (show n < nf ∧ n % 2 = 1 by omega), if_neg (show ¬ (n + 1 < nf ∧ (n + 1) % 2 = 1) by omega)]
    rw [show n % 2 = 1 by omega] at hv
    refine BIBase.Entails.trans sep_left_comm.1 ?_
    by_cases hc : n + 1 < nf
    · rw [if_pos (show n + 1 < nf ∧ (n + 1) % 2 = 0 by omega), tripK_odd (hc5.mpr hc) (hc6.mpr (by omega)) h7]
      exact wp_tripMore EC 𝒱 d a b bd (by omega) hcr hM ho6' (fun i hi => hlt i (by omega)) (fun i ix hi => hs i ix (by omega)) hv hog hle' hw'
        sep_left_comm.1
    · rw [if_neg (show ¬ (n + 1 < nf ∧ (n + 1) % 2 = 0) by omega), tripK_odd_last (fun h => hc (hc5.mp h)) h7]
      exact wp_tripLast EC 𝒱 d a b bd (by omega) hv hog hle' hw' sep_left_comm.1

/-- The drain of `nf` batches. -/
theorem wp_drain [Infinite Name] [EC.LandsIn (upEmb : UEmb _ 𝕄)] {X : sProp 𝕄} {lp : Scf.Loop 32} {okl : lp.OK} {c5 c6 c7 : Fin lp.trips → BitVec 1} {o6 o7 : Fin lp.trips → Fin 1 → ℕ} {ho6 : ∀ n, c5 n = 1#1 → c6 n = 1#1 → InW (o6 n)} {ho7 : ∀ n, c5 n = 1#1 → ¬ c6 n = 1#1 → InW (o7 n)} {ok : groupLoop.OK}
    {og : Fin lp.trips → Fin groupLoop.trips → Fin 1 → ℕ} {hg : ∀ n t x, og n t x + Sh16.size x ≤ ShL.size x} {v : Fin lp.trips → BitVec 32}
    {hr : ∀ n (t : Fin groupLoop.trips) (l : Fin 16) (c : Fin 8), InR (cell (laneRow (v n) (Scf.iv 0#32 1#32 t) (BitVec.ofNat 32 l.val)) c.val)}
    {α : Type} {kk : PUnit → Prog 𝔼 α} {Q : α → sProp 𝕄} (hlp : lp.trips = nf)
    (hcr : ∀ s' : Shape, sig.dmaCredit .scVector (Kind.scVector.table .vmem) R.view.buf s' .f32 = s'.numel * EltTy.bits .f32)
    (hM : ∀ ix : ShM.Idx, mS.view.read (Elt F) fm ix = M (ix 0).val (ix 1))
    (hc5 : ∀ n, c5 n = 1#1 ↔ n.val + 1 < nf) (hc6 : ∀ n, c6 n = 1#1 ↔ (n.val + 1) % 2 = 0) (hc7 : ∀ n, c7 n = 1#1 ↔ n.val % 2 = 0)
    (ho6' : ∀ n, o6 n 0 = 64 * (n.val + 1)) (ho7' : ∀ n, o7 n 0 = 64 * (n.val + 1))
    (hv : ∀ n, (v n).toNat = 64 * (n.val % 2)) (hog : ∀ n t, og n t 0 = 64 * n.val + 16 * t.val)
    (hlt : ∀ i, i < 64 * nf → (E i).1 < 10240) (hle : ∀ i, i < 64 * nf → (E i).2 ≤ 640)
    (hs : ∀ (i : ℕ) (ix : ShL.Idx), i < 64 * nf → (ix 0).val = i → (SS.view.read (Elt F) fs ix : BitVec 32).toNat = (E i).1)
    (hw : ∀ (i : ℕ) (ix : ShL.Idx), i < 64 * nf → (ix 0).val = i → (LS.view.read (Elt F) fl ix : BitVec 32).toNat = (E i).2)
    (hk : drainAt EC d a b mS A R SS LS fm fs fl qm s0 s1 h0 h1 ι O W M l0 E nf nf X ⊢ WP (kk ⟨⟩) Q) :
    drainAt EC d a b mS A R SS LS fm fs fl qm s0 s1 h0 h1 ι O W M l0 E nf 0 X
      ⊢ WP (lp.for okl ⟨⟩ (fun n _ => tripK mS A R SS LS s0 s1 h0 h1 (c5 n) (c6 n) (c7 n) (o6 n) (o7 n) (ho6 n) (ho7 n) ok (og n) (hg n) (v n) (hr n)) >>= kk) Q :=
  wp_loop_bind 𝒱 d a b bd hlp (fun n _ => drainAt EC d a b mS A R SS LS fm fs fl qm s0 s1 h0 h1 ι O W M l0 E nf n X)
    (fun n _ => wp_tripK EC 𝒱 d a b bd hcr hM (Nat.lt_of_lt_of_eq n.isLt hlp) (hc5 n) (hc6 n) (hc7 n) (ho6' n) (ho7' n) (hv n) (hog n) hlt hle hs hw)
    (fun _ => hk)

variable (mS R fm) in
/-- A bank and its share of the table between drains. -/
def rest (qm : PosShare TreeShare) (ρ : ℕ) (hρ : InB ρ) (sem : DmaSem sig) : sProp 𝕄 :=
  iprop((∃ fr, R.view.loc θ ↦[(bank R ρ hρ).view.set]{fullShare} fr) ∗ (mS.view.loc θ ↦[mS.view.set]{qm} fm) ∗ semVal (θ, .dma sem) 0)

/-- The two banks lie idle over the whole sources list. -/
theorem idles : (iprop(rest d a b mS R fm qm.left 0 h0 s0 ∗ rest d a b mS R fm qm.right 64 h1 s1 ∗ (SS.view.loc θ ↦[SS.view.set]{fullShare} fs)) : sProp 𝕄)
    ⊣⊢ iprop(idle d a b mS R SS fm fs qm.left fullShare.left 0 h0 s0 ∗ idle d a b mS R SS fm fs qm.right fullShare.right 64 h1 s1) := by
  have hsh := pointsTo_share (Ix := Ix) (Name := Name) (U := U) (Lvl := Lvl) (ℓ := SS.view.loc θ) (I := SS.view.set) (f := fs) (PosShare.mem_left_op_right fullShare)
  unfold rest idle
  constructor
  · iintro ⟨⟨HR, Hm, Hs⟩, ⟨HR', Hm', Hs'⟩, HS⟩
    ihave HS := hsh.1 $$ HS
    icases HS with ⟨HS, HS'⟩
    isplitl [HR Hm Hs HS]
    · isplitl [HR]; · iexact HR
      isplitl [Hm]; · iexact Hm
      isplitl [HS] <;> iassumption
    · isplitl [HR']; · iexact HR'
      isplitl [Hm']; · iexact Hm'
      isplitl [HS'] <;> iassumption
  · iintro ⟨⟨HR, Hm, HS, Hs⟩, ⟨HR', Hm', HS', Hs'⟩⟩
    isplitl [HR Hm Hs]
    · isplitl [HR]; · iexact HR
      isplitl [Hm] <;> iassumption
    isplitl [HR' Hm' Hs']
    · isplitl [HR']; · iexact HR'
      isplitl [Hm'] <;> iassumption
    iapply hsh.2
    isplitl [HS] <;> iassumption

/-- After the last batch both banks lie idle. -/
theorem drainAt_end {X : sProp 𝕄} : drainAt EC d a b mS A R SS LS fm fs fl qm s0 s1 h0 h1 ι O W M l0 E nf nf X
    ⊢ iprop((rest d a b mS R fm qm.left 0 h0 s0 ∗ rest d a b mS R fm qm.right 64 h1 s1 ∗ (SS.view.loc θ ↦[SS.view.set]{fullShare} fs))
      ∗ taken d a b A LS fl ι O W M l0 E (64 * nf) X) := by
  unfold drainAt bankAt
  rw [if_neg (by omega), if_neg (by omega)]
  exact BIBase.Entails.trans sep_assoc.2 (sep_mono_left (idles d a b).2)

/-- With no batch to drain the banks lie idle. -/
theorem drainAt_none {X : sProp 𝕄} (h : nf = 0) : iprop((rest d a b mS R fm qm.left 0 h0 s0 ∗ rest d a b mS R fm qm.right 64 h1 s1 ∗ (SS.view.loc θ ↦[SS.view.set]{fullShare} fs))
      ∗ taken d a b A LS fl ι O W M l0 E 0 X) ⊢ drainAt EC d a b mS A R SS LS fm fs fl qm s0 s1 h0 h1 ι O W M l0 E nf 0 X := by
  unfold drainAt bankAt
  rw [if_neg (by omega), if_neg (by omega)]
  exact BIBase.Entails.trans (sep_mono_left (idles d a b).1) sep_assoc.1

/-- The first batch is started. -/
theorem wp_first [Infinite Name] [EC.LandsIn (upEmb : UEmb _ 𝕄)] {X : sProp 𝕄} {o : Fin 1 → ℕ} {ho : InW o}
    (hcr : ∀ s' : Shape, sig.dmaCredit .scVector (Kind.scVector.table .vmem) R.view.buf s' .f32 = s'.numel * EltTy.bits .f32)
    (hM : ∀ ix : ShM.Idx, mS.view.read (Elt F) fm ix = M (ix 0).val (ix 1))
    (hn : 0 < nf) (ho' : o 0 = 0) (hlt : ∀ i, i < 64 * nf → (E i).1 < 10240)
    (hs : ∀ (i : ℕ) (ix : ShL.Idx), i < 64 * nf → (ix 0).val = i → (SS.view.read (Elt F) fs ix : BitVec 32).toNat = (E i).1)
    {α : Type} {k : Prog 𝔼 α} {Q : α → sProp 𝕄}
    (hk : drainAt EC d a b mS A R SS LS fm fs fl qm s0 s1 h0 h1 ι O W M l0 E nf 0 X ⊢ WP k Q) :
    iprop((rest d a b mS R fm qm.left 0 h0 s0 ∗ rest d a b mS R fm qm.right 64 h1 s1 ∗ (SS.view.loc θ ↦[SS.view.set]{fullShare} fs))
      ∗ taken d a b A LS fl ι O W M l0 E 0 X) ⊢ WP (startK mS R SS 0 h0 o ho s0 k) Q := by
  refine BIBase.Entails.trans (sep_mono_left (idles d a b).1) (BIBase.Entails.trans sep_assoc.1 ?_)
  refine wp_startK (defs := defs) EC 𝒱 d a b bd (ι := ι) hcr hM (e := fun j : Fin 64 => E (64 * 0 + j.val)) (fun j => hlt _ (by have := j.isLt; omega))
    (fun j ix hix => hs _ ix (by have := j.isLt; omega) (by rw [hix, ho'])) (BIBase.Entails.trans ?_ hk)
  unfold drainAt bankAt
  rw [if_pos (by omega), if_neg (by omega)]

end Rules

end Cert.SegMax
-- ==== Proof.Moves.lean ====
module

public import proofs.«01_k».proof.Proof.Drain

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Sixteen words of a list at a time -/

section Prog

variable {nD : Nat} {τ : Topo} {sig : RefSig} {Λ : Labels} {F : FTy → Type} [FloatOps F]
variable {a : Fin τ.nSC} {b : Fin τ.nSub} {α : Type}

local notation "𝔼" => TpuEff nD τ sig (Elt F) Λ (Proc.scVector a b)

abbrev InL (o : Fin 1 → ℕ) : Prop := ∀ x, o x + Sh16.size x ≤ ShL.size x

/-- Sixteen words are stored over what was there. -/
def putK (L : Memref sig .scVector .vmem ShL .i32) (o : Fin 1 → ℕ) (ho : InL o) (w : Vec F Sh16 .i32) (k : Prog 𝔼 α) : Prog 𝔼 α :=
  .op (.store L (Rect.unit (s := ShL) o Sh16.size ho) w Finset.univ (View.stores_vmem_bits_univ pos16 rfl) (Or.inl rfl)) fun _ => k

/-- Sixteen words are loaded and not used. -/
def skipK (L : Memref sig .scVector .vmem ShL .i32) (o : Fin 1 → ℕ) (ho : InL o) (k : Prog 𝔼 α) : Prog 𝔼 α :=
  .op (.load L (Rect.unit (s := ShL) o Sh16.size ho).toLoadRect (View.loadsAt_vmem pos16)) fun _ => k

/-- Sixteen words are moved. -/
def moveK (L : Memref sig .scVector .vmem ShL .i32) (o o' : Fin 1 → ℕ) (ho : InL o) (ho' : InL o') (k : Prog 𝔼 α) : Prog 𝔼 α :=
  .op (.load L (Rect.unit (s := ShL) o Sh16.size ho).toLoadRect (View.loadsAt_vmem pos16)) fun x => skipK L o' ho' (putK L o' ho' x k)

/-- Sixteen zeros are stored in a row of the accumulator. -/
def zeroK (A : Memref sig .scVector .vmem ShA .f32) (o : Fin 2 → ℕ) (ho : InA o) (k : Prog 𝔼 α) : Prog 𝔼 α :=
  .op (.load A (Rect.unit (s := ShA) o Sh1x16.size ho).toLoadRect (View.loadsAt_vmem pos1x16)) fun _ =>
  .op (.store A (Rect.unit (s := ShA) o Sh1x16.size ho) (shapeCast Sh1x16 (broadcast Sh16 (Scalar.ofBits .f32 0x00000000#32 : F .f32) : FVec F Sh16 .f32) cast_16_1x16) Finset.univ
    (View.stores_vmem_bits_univ pos1x16 rfl) (Or.inl rfl)) fun _ => k

end Prog

/-- `g` with the sixteen words from `o` on put as `w`. -/
def put {F : FTy → Type} (o : ℕ) (w : Fin 16 → BitVec 32) (g : ShL.Idx → Elt F .i32) (ix : ShL.Idx) : Elt F .i32 :=
  if h : o ≤ (ix 0).val ∧ (ix 0).val < o + 16 then w ⟨(ix 0).val - o, by omega⟩ else g ix

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (a : Fin τ.nSC) (b : Fin τ.nSub) (bd : Option 𝒱.V)
variable {α : Type} {Q : α → sProp (MT nD τ sig Ix (Elt F) Name U Lvl)}

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

theorem wp_skipK {P : (ShL.Idx → Elt F .i32) → Prop} {X : sProp 𝕄} {L : Memref sig .scVector .vmem ShL .i32} {o : Fin 1 → ℕ} {ho : InL o} {k : Prog 𝔼 α}
    (hk : iprop(own d a b L P ∗ X) ⊢ WP k Q) : iprop(own d a b L P ∗ X) ⊢ WP (skipK L o ho k) Q := by
  unfold skipK
  unfold own at hk ⊢
  iintro ⟨⟨%f, HL, %hf⟩, HX⟩
  iapply (wp_ld 𝒱 d a b bd (m := L) (L.view.set_slice_subset _)) $$ HL
  iintro HL
  iapply hk
  isplitl [HL]
  · iexists _
    isplitl [HL]; · iexact HL
    ipureintro; exact hf
  · iexact HX

theorem wp_putK {P P' : (ShL.Idx → Elt F .i32) → Prop} {X : sProp 𝕄} {L : Memref sig .scVector .vmem ShL .i32} {o : Fin 1 → ℕ} {ho : InL o} {w : Vec F Sh16 .i32} {k : Prog 𝔼 α}
    (hP : ∀ g, P g → P' (put (F := F) (o 0) (fun j => w (lane j)) g))
    (hk : iprop(own d a b L P' ∗ X) ⊢ WP k Q) : iprop(own d a b L P ∗ X) ⊢ WP (putK L o ho w k) Q := by
  unfold putK
  unfold own at hk ⊢
  iintro ⟨⟨%f, HL, %hf⟩, HX⟩
  iapply (wp_st 𝒱 d a b bd (m := L)) $$ HL
  iintro HL
  iapply hk
  isplitl [HL]
  · iexists _
    isplitl [HL]; · iexact HL
    ipureintro
    have e : L.view.read (Elt F) ((L.access (Rect.unit (s := ShL) o Sh16.size ho)).write (Elt F) f w Finset.univ)
        = put (F := F) (o 0) (fun j => w (lane j)) (L.view.read (Elt F) f) := by
      funext ix
      have h := View.read_writes_cons_unit (Val := Elt F) L.view f ho w [] ix rfl
      rw [View.writes_singleton] at h
      refine h.trans ?_
      unfold put
      by_cases hin : o 0 ≤ (ix 0).val ∧ (ix 0).val < o 0 + 16
      · rw [dif_pos hin, dif_pos (fun x => by match x with | 0 => exact hin)]
        congr 1
        funext x
        apply Fin.ext
        match x with
        | 0 => rfl
      · rw [dif_neg hin, dif_neg (fun hh => hin (hh 0))]
        rfl
    rw [e]
    exact hP _ hf
  · iexact HX

/-- The first `16 k` words of the list `l` have been moved down by `n`. -/
def Moved (l : List ℕ) (n k : ℕ) (g : ShL.Idx → BitVec 32) : Prop :=
  ∀ ix : ShL.Idx, ((ix 0).val < 16 * k → ∀ h : n + (ix 0).val < l.length, (g ix).toNat = l[n + (ix 0).val])
    ∧ (16 * k ≤ (ix 0).val → ∀ h : (ix 0).val < l.length, (g ix).toNat = l[(ix 0).val])

theorem ListAt.moved {l : List ℕ} {g : ShL.Idx → BitVec 32} (h : ListAt l g) (n : ℕ) : Moved l n 0 g :=
  fun ix => ⟨fun h' => by omega, fun _ => h ix⟩

theorem Moved.listAt {l : List ℕ} {n : ℕ} {g : ShL.Idx → BitVec 32} (h : Moved l n 4 g) (hl : l.length ≤ n + 64) : ListAt (l.drop n) g := by
  intro ix hix
  rw [List.length_drop] at hix
  rw [List.getElem_drop]
  exact (h ix).1 (by omega) (by omega)

theorem wp_moveK {l : List ℕ} {n : ℕ} (i : ℕ) {X : sProp 𝕄} {L : Memref sig .scVector .vmem ShL .i32} {o o' : Fin 1 → ℕ} {ho : InL o} {ho' : InL o'} {k : Prog 𝔼 α}
    (h0 : o 0 = n + 16 * i) (h1 : o' 0 = 16 * i)
    (hk : iprop(own d a b L (Moved l n (i + 1)) ∗ X) ⊢ WP k Q) :
    iprop(own d a b L (Moved l n i) ∗ X) ⊢ WP (moveK L o o' ho ho' k) Q := by
  have hP : ∀ f : L.view.ty.Contents (Elt F), Moved l n i (L.view.read (Elt F) f) → ∀ g : ShL.Idx → Elt F .i32, Moved l n i g →
      Moved l n (i + 1) (put (F := F) (o' 0) (fun j => (L.access (Rect.unit (s := ShL) o Sh16.size ho)).read (Elt F) f (lane j)) g) := by
    intro f hf g hg ix
    unfold put
    rw [h1]
    by_cases hin : 16 * i ≤ (ix 0).val ∧ (ix 0).val < 16 * i + 16
    · rw [dif_pos hin]
      refine ⟨fun _ hl => ?_, fun h => absurd h (by omega)⟩
      have h := (hf ((Rect.unit (s := ShL) o Sh16.size ho).emb (lane ⟨(ix 0).val - 16 * i, by omega⟩))).2
      have hx : (((Rect.unit (s := ShL) o Sh16.size ho).emb (lane ⟨(ix 0).val - 16 * i, by omega⟩)) 0).val = n + (ix 0).val := by
        show o 0 + 1 * ((ix 0).val - 16 * i) = _
        omega
      simp only [hx] at h
      exact h (by omega) hl
    · rw [dif_neg hin]
      refine ⟨fun h => (hg ix).1 (by omega), fun h => (hg ix).2 (by omega)⟩
  have hput := fun f hf => wp_putK (defs := defs) 𝒱 d a b bd (L := L) (o := o') (ho := ho') (hP f hf) hk
  have hskip := fun f hf => wp_skipK (defs := defs) 𝒱 d a b bd (L := L) (o := o') (ho := ho') (hput f hf)
  unfold moveK
  conv_lhs => unfold own
  iintro ⟨⟨%f, HL, %hf⟩, HX⟩
  iapply (wp_ld 𝒱 d a b bd (m := L) (L.view.set_slice_subset _)) $$ HL
  iintro HL
  iapply (hskip f hf)
  isplitl [HL]
  · unfold own
    iexists _
    isplitl [HL]; · iexact HL
    ipureintro; exact hf
  · iexact HX

/-- Sixteen equal words are put after a list. -/
theorem ListAt.pad {l : List ℕ} {v : BitVec 32} {w : Vec F Sh16 .i32} (hw : ∀ j, w (lane j) = v) {o : ℕ} (ho : o = l.length) (g : ShL.Idx → Elt F .i32) (h : ListAt l g) :
    ListAt (l ++ List.replicate 16 v.toNat) (put (F := F) o (fun j => w (lane j)) g) := by
  intro ix hix
  rw [List.length_append, List.length_replicate] at hix
  unfold put
  by_cases hin : o ≤ (ix 0).val ∧ (ix 0).val < o + 16
  · rw [dif_pos hin, List.getElem_append_right (by omega), List.getElem_replicate]
    exact congrArg BitVec.toNat (hw _)
  · rw [dif_neg hin, List.getElem_append_left (by omega)]
    exact h ix (by omega)

/-- Rows below `t` are zero, and row `t` below column group `c`. -/
def Zeroed (t c : ℕ) (g : ShA.Idx → F .f32) : Prop :=
  ∀ ix : ShA.Idx, ((ix 0).val < t ∨ (ix 0).val = t ∧ (ix 1).val < 16 * c) → g ix = FloatOps.ofBits .f32 0x00000000#32

theorem wp_zeroK {t : ℕ} (c : ℕ) {X : sProp 𝕄} {A : Memref sig .scVector .vmem ShA .f32} {o : Fin 2 → ℕ} {ho : InA o} {k : Prog 𝔼 α}
    (h0 : o 0 = t) (h1 : o 1 = 16 * c)
    (hk : iprop(own d a b A (Zeroed (F := F) t (c + 1)) ∗ X) ⊢ WP k Q) :
    iprop(own d a b A (Zeroed (F := F) t c) ∗ X) ⊢ WP (zeroK A o ho k) Q := by
  unfold zeroK
  unfold own at hk ⊢
  iintro ⟨⟨%f, HA, %hf⟩, HX⟩
  iapply (wp_ld 𝒱 d a b bd (m := A) (A.view.set_slice_subset _)) $$ HA
  iintro HA
  iapply (wp_st 𝒱 d a b bd (m := A)) $$ HA
  iintro HA
  iapply hk
  isplitl [HA]
  · iexists _
    isplitl [HA]; · iexact HA
    ipureintro
    intro ix hix
    have h := View.read_writes_cons_unit (Val := Elt F) A.view f ho
      (shapeCast Sh1x16 (broadcast Sh16 (Scalar.ofBits .f32 0x00000000#32 : F .f32) : FVec F Sh16 .f32) cast_16_1x16) [] ix rfl
    rw [View.writes_singleton] at h
    refine h.trans ?_
    by_cases hin : ∀ x, o x ≤ (ix x).val ∧ (ix x).val < o x + Sh1x16.size x
    · rw [dif_pos hin]
      rfl
    · rw [dif_neg hin]
      refine hf ix ?_
      rcases hix with h | ⟨h, h'⟩
      · exact Or.inl h
      · right
        refine ⟨h, ?_⟩
        by_contra hc
        apply hin
        intro x
        match x with
        | 0 => rw [h0]; exact ⟨by omega, by show (ix 0).val < t + 1; omega⟩
        | 1 => rw [h1]; exact ⟨by omega, by show (ix 1).val < 16 * c + 16; omega⟩
  · iexact HX

/-- The scan of one chunk. -/
theorem wp_scanLoop {X : sProp 𝕄} {I5 : Memref sig .scVector .vmem ShI .i32} {SS LS : Memref sig .scVector .vmem ShL .i32} {lo : BitVec 32}
    {S : Finset (Idx (I5.view.loc θ))} {q5 : PosShare TreeShare} {f5 : Buf (Elt F) (I5.view.loc θ)}
    {lp : Scf.Loop 32} {ok : lp.OK} {q0 : BitVec 32} {od os : Fin lp.trips → Fin 3 → ℕ} {hd : ∀ t, InI (od t)} {hs : ∀ t, InI (os t)}
    (hlp : lp.trips = 200) (srcw dstw : ℕ → BitVec 32) (base s : ℕ) {P : ℕ}
    (hod : ∀ t, od t = ![s, 1, 16 * t.val]) (hos : ∀ t, os t = ![s, 0, 16 * t.val])
    (hS : ∀ ix : ShI.Idx, (ix 0).val = s → I5.view.emb ix ∈ S)
    (hdst : ∀ ix : ShI.Idx, (ix 0).val = s → (ix 1).val = 1 → I5.view.read (Elt F) f5 ix = dstw (base + (ix 2).val))
    (hsrc : ∀ ix : ShI.Idx, (ix 0).val = s → (ix 1).val = 0 → I5.view.read (Elt F) f5 ix = srcw (base + (ix 2).val))
    (hq : q0.toNat + P = (sel (edges srcw dstw lo) base).length) (hq' : q0.toNat < 64) {β : Type} {kk : BitVec 32 → Prog 𝔼 β} {Q : β → sProp 𝕄}
    (hk : ∀ q', q'.toNat + P = (sel (edges srcw dstw lo) (base + 3200)).length → q'.toNat < 64 + 3200 →
      iprop(own d a b SS (ListAt (((sel (edges srcw dstw lo) (base + 3200)).drop P).map Prod.fst)) ∗ own d a b LS (ListAt (((sel (edges srcw dstw lo) (base + 3200)).drop P).map Prod.snd))
        ∗ (I5.view.loc θ ↦[S]{q5} f5) ∗ X) ⊢ WP (kk q') Q) :
    iprop(own d a b SS (ListAt (((sel (edges srcw dstw lo) base).drop P).map Prod.fst)) ∗ own d a b LS (ListAt (((sel (edges srcw dstw lo) base).drop P).map Prod.snd))
        ∗ (I5.view.loc θ ↦[S]{q5} f5) ∗ X)
      ⊢ WP (lp.for ok q0 (fun t q => scanK I5 SS LS lo q (od t) (os t) (hd t) (hs t)) >>= kk) Q := by
  have hin : ∀ o : Fin 3 → ℕ, ∀ ho : InI o, o 0 = s → (I5.access (Rect.unit (s := ShI) o Sh1x1x16.size ho)).set ⊆ S := by
    intro o ho h0 x hx
    obtain ⟨y, -, rfl⟩ := Finset.mem_map.mp hx
    refine hS ((Rect.unit (s := ShI) o Sh1x1x16.size ho).emb y) ?_
    have hy : (y 0).val < 1 := (y 0).isLt
    show o 0 + 1 * (y 0).val = s
    omega
  refine BIBase.Entails.trans ?_ (wp_loop_bind 𝒱 d a b bd hlp
    (fun k q => iprop(⌜q.toNat + P = (sel (edges srcw dstw lo) (base + 16 * k)).length⌝
      ∗ own d a b SS (ListAt (((sel (edges srcw dstw lo) (base + 16 * k)).drop P).map Prod.fst)) ∗ own d a b LS (ListAt (((sel (edges srcw dstw lo) (base + 16 * k)).drop P).map Prod.snd))
      ∗ (I5.view.loc θ ↦[S]{q5} f5) ∗ X)) (fun t q => ?_) (fun q => ?_))
  · iintro H
    isplitr
    · ipureintro; exact hq
    iexact H
  · have ht : t.val < 200 := Nat.lt_of_lt_of_eq t.isLt hlp
    iintro ⟨%hq1, H⟩
    obtain ⟨Sx, hSx, hlen⟩ := sel_mono (edges srcw dstw lo) base (16 * t.val)
    have hlen' : (sel (edges srcw dstw lo) (base + 16 * t.val)).length = (sel (edges srcw dstw lo) base).length + Sx.length := by
      rw [hSx, List.length_append]
    iapply (wp_scanK (defs := defs) 𝒱 d a b bd srcw dstw (base + 16 * t.val) (P := P) (hin _ (hd t) (by rw [hod t]; rfl)) (hin _ (hs t) (by rw [hos t]; rfl))
      (fun j ix h0 h1 h2 => ?_) (fun j ix h0 h1 h2 => ?_) hq1 (by omega) (fun q' hq'' => ?_)) $$ H
    · rw [hod t] at h0 h1 h2
      have h2' : (ix 2).val = 16 * t.val + j.val := h2
      rw [hdst ix h0 h1, h2', Nat.add_assoc]
    · rw [hos t] at h0 h1 h2
      have h2' : (ix 2).val = 16 * t.val + j.val := h2
      rw [hsrc ix h0 h1, h2', Nat.add_assoc]
    · rw [show base + 16 * (t.val + 1) = base + 16 * t.val + 16 by omega]
      iintro H
      isplitr
      · ipureintro; exact hq''
      iexact H
  · iintro ⟨%hq1, H⟩
    obtain ⟨Sx, hSx, hlen⟩ := sel_mono (edges srcw dstw lo) base 3200
    have hlen' : (sel (edges srcw dstw lo) (base + 3200)).length = (sel (edges srcw dstw lo) base).length + Sx.length := by
      rw [hSx, List.length_append]
    have hq2 : q.toNat + P = (sel (edges srcw dstw lo) (base + 3200)).length := hq1
    iapply (hk q hq2 (by omega)) $$ H

end Rules

end Cert.SegMax
-- ==== Proof.Slots.lean ====
module

public import proofs.«01_k».proof.Proof.Moves
public import Idealize.ShloMosaic.Lib.ViewIndex

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The two halves of the buffer of edges

A chunk of edges is fetched into one half while the other is scanned. -/

abbrev ShE : Shape := ⟨2, ![2, 320000]⟩
abbrev ShC : Shape := ⟨2, ![2, 3200]⟩
abbrev Sh1C : Shape := ⟨3, ![1, 2, 3200]⟩
theorem sq1C : Sh1C.Squeezes ShC := by decide
abbrev InE (o : Fin 2 → ℕ) : Prop := ∀ x, o x + ShC.size x ≤ ShE.size x
abbrev InS (p : ℕ) : Prop := ∀ x, (![p, 0, 0] : Fin 3 → ℕ) x + Sh1C.size x ≤ ShI.size x

theorem inS {p : ℕ} (h : p < 2) : InS p := by
  intro x
  match x with
  | 0 => show p + 1 ≤ 2; omega
  | 1 => show 0 + 2 ≤ 2; omega
  | 2 => show 0 + 3200 ≤ 3200; omega

section Prog

variable {nD : Nat} {τ : Topo} {sig : RefSig} {Λ : Labels} {F : FTy → Type} [FloatOps F]
variable {a : Fin τ.nSC} {b : Fin τ.nSub} {α : Type}

local notation "𝔼" => TpuEff nD τ sig (Elt F) Λ (Proc.scVector a b)

/-- Half `p` of the buffer. -/
abbrev half (I5 : Memref sig .scVector .vmem ShI .i32) (p : ℕ) (hp : InS p) : Memref sig .scVector .vmem ShC .i32 :=
  (I5.slice (Rect.unit (s := ShI) ![p, 0, 0] Sh1C.size hp) (fun _ => rfl)).squeeze ShC sq1C

/-- The edges of one chunk. -/
abbrev part (iS : Memref sig .scVector .hbm ShE .i32) (o : Fin 2 → ℕ) (ho : InE o) : Memref sig .scVector .hbm ShC .i32 :=
  iS.slice (Rect.unit (s := ShE) o ShC.size ho) (fun _ => rfl)

def fetchK (iS : Memref sig .scVector .hbm ShE .i32) (I5 : Memref sig .scVector .vmem ShI .i32) (p : ℕ) (hp : InS p) (o : Fin 2 → ℕ) (ho : InE o)
    (sem : DmaSem sig) (k : Prog 𝔼 α) : Prog 𝔼 α :=
  .op (.enqueueDma (part iS o ho) (.here (half I5 p hp)) (.dma sem) (View.wordExact_bits rfl) ((View.wordExact_bits rfl).reshape _ _) ⟨Or.inl rfl, trivial⟩) fun _ => k

def joinK (iS : Memref sig .scVector .hbm ShE .i32) (I5 : Memref sig .scVector .vmem ShI .i32) (p : ℕ) (hp : InS p) (o : Fin 2 → ℕ) (ho : InE o)
    (sem : DmaSem sig) (k : Prog 𝔼 α) : Prog 𝔼 α :=
  .op (.waitDma2 sem (part iS o ho) (half I5 p hp) (View.wordExact_bits rfl) ((View.wordExact_bits rfl).reshape _ _)) fun _ => k

/-- The turn of a chunk: the fetch of this one is waited for and that of the next one started. -/
def turnK (iS : Memref sig .scVector .hbm ShE .i32) (I5 : Memref sig .scVector .vmem ShI .i32) (s0 s1 : DmaSem sig) (h0 : InS 0) (h1 : InS 1)
    (c1 c2 c3 : BitVec 1) (o10 o11 o12 o13 : Fin 2 → ℕ) (ho10 : c1 = 1#1 → InE o10) (ho11 : ¬ c1 = 1#1 → InE o11)
    (ho12 : c2 = 1#1 → c3 = 1#1 → InE o12) (ho13 : c2 = 1#1 → ¬ c3 = 1#1 → InE o13) (k : Prog 𝔼 α) : Prog 𝔼 α := do
  if h : c1 = 1#1 then do
    Prog.lift (.waitDma2 s0 (part iS o10 (ho10 h)) (half I5 0 h0) (View.wordExact_bits rfl) ((View.wordExact_bits rfl).reshape _ _))
    pure ⟨⟩
  else do
    Prog.lift (.waitDma2 s1 (part iS o11 (ho11 h)) (half I5 1 h1) (View.wordExact_bits rfl) ((View.wordExact_bits rfl).reshape _ _))
    pure ⟨⟩
  if h : c2 = 1#1 then do
    if h' : c3 = 1#1 then do
      Prog.lift (.enqueueDma (part iS o12 (ho12 h h')) (.here (half I5 0 h0)) (.dma s0) (View.wordExact_bits rfl) ((View.wordExact_bits rfl).reshape _ _) ⟨Or.inl rfl, trivial⟩)
      pure ⟨⟩
    else do
      Prog.lift (.enqueueDma (part iS o13 (ho13 h h')) (.here (half I5 1 h1)) (.dma s1) (View.wordExact_bits rfl) ((View.wordExact_bits rfl).reshape _ _) ⟨Or.inl rfl, trivial⟩)
      pure ⟨⟩
    pure ⟨⟩
  else do
    pure ⟨⟩
  k

section Turns

variable {iS : Memref sig .scVector .hbm ShE .i32} {I5 : Memref sig .scVector .vmem ShI .i32} {s0 s1 : DmaSem sig} {h0 : InS 0} {h1 : InS 1}
variable {c1 c2 c3 : BitVec 1} {o10 o11 o12 o13 : Fin 2 → ℕ} {ho10 : c1 = 1#1 → InE o10} {ho11 : ¬ c1 = 1#1 → InE o11}
variable {ho12 : c2 = 1#1 → c3 = 1#1 → InE o12} {ho13 : c2 = 1#1 → ¬ c3 = 1#1 → InE o13}

theorem turnK_even {k : Prog 𝔼 α} (h : c1 = 1#1) (h2 : c2 = 1#1) (h3 : ¬ c3 = 1#1) :
    turnK iS I5 s0 s1 h0 h1 c1 c2 c3 o10 o11 o12 o13 ho10 ho11 ho12 ho13 k
      = joinK iS I5 0 h0 o10 (ho10 h) s0 (fetchK iS I5 1 h1 o13 (ho13 h2 h3) s1 k) := by
  unfold turnK
  rw [dif_pos h, dif_pos h2, dif_neg h3]
  rfl

theorem turnK_odd {k : Prog 𝔼 α} (h : ¬ c1 = 1#1) (h2 : c2 = 1#1) (h3 : c3 = 1#1) :
    turnK iS I5 s0 s1 h0 h1 c1 c2 c3 o10 o11 o12 o13 ho10 ho11 ho12 ho13 k
      = joinK iS I5 1 h1 o11 (ho11 h) s1 (fetchK iS I5 0 h0 o12 (ho12 h2 h3) s0 k) := by
  unfold turnK
  rw [dif_neg h, dif_pos h2, dif_pos h3]
  rfl

theorem turnK_last {k : Prog 𝔼 α} (h : ¬ c1 = 1#1) (h2 : ¬ c2 = 1#1) :
    turnK iS I5 s0 s1 h0 h1 c1 c2 c3 o10 o11 o12 o13 ho10 ho11 ho12 ho13 k = joinK iS I5 1 h1 o11 (ho11 h) s1 k := by
  unfold turnK
  rw [dif_neg h, dif_neg h2]
  rfl

end Turns

end Prog

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl))
variable (𝒱 : Variants) (d : Dev nD) (a : Fin τ.nSC) (b : Fin τ.nSub) (bd : Option 𝒱.V)
variable {α : Type} {Q : α → sProp (MT nD τ sig Ix (Elt F) Name U Lvl)}

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

omit [FloatOps F] in
theorem half_set (I5 : Memref sig .scVector .vmem ShI .i32) (p : ℕ) (hp : InS p) {ix : ShI.Idx} (h : (ix 0).val = p) : I5.view.emb ix ∈ (half I5 p hp).view.set := by
  show I5.view.emb ix ∈ ((I5.view.slice (Rect.unit (s := ShI) ![p, 0, 0] Sh1C.size hp)).reshape ShC sq1C.numel_eq).set
  rw [View.set_reshape, View.set_slice]
  refine Finset.mem_map.mpr ⟨ix, ?_, rfl⟩
  refine Rect.mem_set_unit.mpr ?_
  intro x
  match x with
  | 0 => show p ≤ (ix 0).val ∧ (ix 0).val < p + 1; omega
  | 1 => exact ⟨Nat.zero_le _, by show (ix 1).val < 0 + 2; have := (ix 1).isLt; have : (ix 1).val < 2 := this; omega⟩
  | 2 => exact ⟨Nat.zero_le _, by show (ix 2).val < 0 + 3200; have := (ix 2).isLt; have : (ix 2).val < 3200 := this; omega⟩

/-- The words of half `p` are those of `w` from column `base` on. -/
def HalfIs (I5 : Memref sig .scVector .vmem ShI .i32) (w : ℕ → ℕ → BitVec 32) (p base : ℕ) (f : I5.view.ty.Contents (Elt F)) : Prop :=
  ∀ ix : ShI.Idx, (ix 0).val = p → I5.view.read (Elt F) f ix = w (ix 1).val (base + (ix 2).val)

omit [FloatOps F] in
theorem half_is (I5 : Memref sig .scVector .vmem ShI .i32) (iS : Memref sig .scVector .hbm ShE .i32) {w : ℕ → ℕ → BitVec 32} {p base : ℕ} {hp : InS p} {o : Fin 2 → ℕ} {ho : InE o}
    (ho' : o = ![0, base]) (fi : iS.view.ty.Contents (Elt F)) (hw : ∀ ix : ShE.Idx, iS.view.read (Elt F) fi ix = w (ix 0).val (ix 1).val) (f : I5.view.ty.Contents (Elt F)) :
    HalfIs (F := F) I5 w p base ((half I5 p hp).view.write (Elt F) f ((part iS o ho).view.read (Elt F) fi) Finset.univ) := by
  subst ho'
  intro ix h
  have h1 : (ix 1).val < 2 := (ix 1).isLt
  have h2 : (ix 2).val < 3200 := (ix 2).isLt
  let x : ShC.Idx := fun c => match c with | 0 => (⟨(ix 1).val, h1⟩ : Fin 2) | 1 => (⟨(ix 2).val, h2⟩ : Fin 3200)
  let y : Sh1C.Idx := fun c => match c with | 0 => (0 : Fin 1) | 1 => (⟨(ix 1).val, h1⟩ : Fin 2) | 2 => (⟨(ix 2).val, h2⟩ : Fin 3200)
  have hy : (Rect.unit (s := ShI) ![p, 0, 0] Sh1C.size hp).emb y = ix := by
    funext c
    apply Fin.ext
    match c with
    | 0 => show p + 1 * 0 = (ix 0).val; omega
    | 1 => show 0 + 1 * (ix 1).val = (ix 1).val; omega
    | 2 => show 0 + 1 * (ix 2).val = (ix 2).val; omega
  have hxy : Shape.reshapeEquiv sq1C.numel_eq x = y := by
    refine Shape.reshapeEquiv_eq_of_rowMajor _ ?_
    have e2 := Shape.rowMajor_val_two (d := ![2, 3200]) x
    have e3 := Shape.rowMajor_val_three (d := ![1, 2, 3200]) y
    refine e3.trans (Eq.trans ?_ e2.symm)
    show (0 * 2 + (ix 1).val) * 3200 + (ix 2).val = (ix 1).val * 3200 + (ix 2).val
    omega
  have hr := View.read_write_reshape (Val := Elt F) (v := I5.view.slice (Rect.unit (s := ShI) ![p, 0, 0] Sh1C.size hp)) sq1C.numel_eq f ((part iS ![0, base] ho).view.read (Elt F) fi) x
  rw [hxy] at hr
  have e1 : I5.view.read (Elt F) ((half I5 p hp).view.write (Elt F) f ((part iS ![0, base] ho).view.read (Elt F) fi) Finset.univ) ix
      = (I5.view.slice (Rect.unit (s := ShI) ![p, 0, 0] Sh1C.size hp)).read (Elt F)
        ((half I5 p hp).view.write (Elt F) f ((part iS ![0, base] ho).view.read (Elt F) fi) Finset.univ) y := by
    conv_lhs => rw [← hy]
    rfl
  refine e1.trans (hr.trans ?_)
  refine (hw ((Rect.unit (s := ShE) ![0, base] ShC.size ho).emb x)).trans ?_
  congr 1
  · show 0 + 1 * (ix 1).val = _
    omega
  · show base + 1 * (ix 2).val = _
    omega

section Half

variable (iS : Memref sig .scVector .hbm ShE .i32) (I5 : Memref sig .scVector .vmem ShI .i32)
variable (fi : iS.view.ty.Contents (Elt F)) (qi : PosShare TreeShare) (p : ℕ) (hp : InS p) (sem : DmaSem sig) (ι : Ix) (w : ℕ → ℕ → BitVec 32) (base : ℕ)

/-- A half with nothing on its way. -/
def free : sProp 𝕄 :=
  iprop((∃ f, (I5.view.loc θ ↦[(half I5 p hp).view.set]{fullShare} f)) ∗ (iS.view.loc θ ↦[iS.view.set]{qi} fi) ∗ semVal (θ, .dma sem) 0)

/-- A half whose chunk has come. -/
def came : sProp 𝕄 :=
  iprop((∃ f, (I5.view.loc θ ↦[(half I5 p hp).view.set]{fullShare} f) ∗ ⌜HalfIs (F := F) I5 w p base f⌝) ∗ (iS.view.loc θ ↦[iS.view.set]{qi} fi) ∗ semVal (θ, .dma sem) 0)

/-- A half whose chunk is on its way. -/
def comes : sProp 𝕄 :=
  iprop(∃ W : Finset (Idx (iS.view.loc θ)), ⌜W ⊆ iS.view.set⌝ ∗
    Transfers.Flight EC θ (.dma sem) ι ((half I5 p hp).view.dmaCredit)
      iprop((∃ f, (I5.view.loc θ ↦[(half I5 p hp).view.set]{fullShare} f) ∗ ⌜HalfIs (F := F) I5 w p base f⌝) ∗ (iS.view.loc θ ↦[W]{qi} fi))
    ∗ (iS.view.loc θ ↦[iS.view.set \ W]{qi} fi))

variable {iS I5 fi qi p hp sem ι w base}

theorem wp_fetchK [Infinite Name] [EC.LandsIn (upEmb : UEmb _ 𝕄)] (hcr : 0 < (half I5 p hp).view.dmaCredit) {X : sProp 𝕄} {o : Fin 2 → ℕ} {ho : InE o} {k : Prog 𝔼 α} (ho' : o = ![0, base])
    (hw : ∀ ix : ShE.Idx, iS.view.read (Elt F) fi ix = w (ix 0).val (ix 1).val)
    (hk : iprop(comes EC d a b iS I5 fi qi p hp sem ι w base ∗ X) ⊢ WP k Q) :
    iprop(free d a b iS I5 fi qi p hp sem ∗ X) ⊢ WP (fetchK iS I5 p hp o ho sem k) Q := by
  have hs : (part iS o ho).view.set ⊆ iS.view.set := iS.view.set_slice_subset _
  have hd := fun f => Transfers.wp_dmaLocal (defs := defs) EC 𝒱 θ bd (Q := Q) (src := part iS o ho) (dst := half I5 p hp) (via := .same) (sm := .dma sem)
    (hsrc := View.wordExact_bits rfl) (hdst := (View.wordExact_bits rfl).reshape _ _) (hsem := ⟨Or.inl rfl, trivial⟩) (k := fun _ => k) (q := qi) (fs := fi) (fd := f) (Sd := (half I5 p hp).view.set)
    ι ((half I5 p hp).view.dmaCredit) rfl hcr (Finset.Subset.refl _)
  have hm := fun f => Transfers.Flight_mono (sm := .dma sem) (ι := ι) (N := (half I5 p hp).view.dmaCredit) EC θ
    (D := iprop((I5.view.loc θ ↦[(half I5 p hp).view.set]{fullShare} (half I5 p hp).view.write (Elt F) f ((part iS o ho).view.read (Elt F) fi) Finset.univ)
      ∗ (iS.view.loc θ ↦[(part iS o ho).view.set]{qi} fi)))
    (D' := iprop((∃ f, (I5.view.loc θ ↦[(half I5 p hp).view.set]{fullShare} f) ∗ ⌜HalfIs (F := F) I5 w p base f⌝) ∗ (iS.view.loc θ ↦[(part iS o ho).view.set]{qi} fi))) (by
      iintro ⟨H1, H2⟩
      isplitl [H1]
      · iexists _
        isplitl [H1]; · iexact H1
        ipureintro
        exact half_is (F := F) I5 iS ho' fi hw f
      · iexact H2)
  unfold fetchK
  conv_lhs => unfold free
  iintro ⟨⟨⟨%f, HI⟩, HE, Hs⟩, HX⟩
  icases (pointsTo_split_subset (q := qi) (f := fi) hs) $$ HE with ⟨HE, HE'⟩
  iapply (hd f) $$ [HE HI Hs]
  · isplitl [HE]; · iexact HE
    isplitl [HI]; · iexact HI
    iexact Hs
  iintro HF
  iapply hk
  unfold comes
  isplitl [HF HE']
  · iexists (part iS o ho).view.set
    isplitr; · ipureintro; exact hs
    isplitl [HF]
    · iapply (hm f) $$ HF
    · iexact HE'
  · iexact HX

theorem wp_joinK [EC.LandsIn (upEmb : UEmb _ 𝕄)] {X : sProp 𝕄} {O : CellTallies nD τ sig Ix} {W : Waits sig Ix} {o : Fin 2 → ℕ} {ho : InE o} {k : Prog 𝔼 α}
    (hk : iprop(came d a b iS I5 fi qi p hp sem w base ∗ owing d a b ι O W ∗ X) ⊢ WP k Q) :
    iprop(comes EC d a b iS I5 fi qi p hp sem ι w base ∗ owing d a b ι O W ∗ X) ⊢ WP (joinK iS I5 p hp o ho sem k) Q := by
  have hq := fun (W1 : Finset (Idx (iS.view.loc θ))) (hW1 : W1 ⊆ iS.view.set) => wp_await (defs := defs) EC 𝒱 d a b bd (sem := sem) (srcw := part iS o ho) (dstw := half I5 p hp) (hsrc := View.wordExact_bits rfl) (hdst := (View.wordExact_bits rfl).reshape _ _)
    (k := fun _ => k) (ι := ι) (O := O) (W := W) _ rfl (D := iprop((∃ f, (I5.view.loc θ ↦[(half I5 p hp).view.set]{fullShare} f) ∗ ⌜HalfIs (F := F) I5 w p base f⌝) ∗ (iS.view.loc θ ↦[W1]{qi} fi)))
    (X := iprop((iS.view.loc θ ↦[iS.view.set \ W1]{qi} fi) ∗ X)) (by
      iintro ⟨⟨HI, HE⟩, Hs, HO, HE', HX⟩
      iapply hk
      unfold came
      isplitl [HI HE HE' Hs]
      · isplitl [HI]; · iexact HI
        isplitl [HE HE']
        · iapply (pointsTo_split_subset (q := qi) (f := fi) hW1).2
          isplitl [HE]; · iexact HE
          iexact HE'
        · iexact Hs
      · isplitl [HO]; · iexact HO
        iexact HX)
  unfold joinK
  conv_lhs => unfold comes
  iintro ⟨⟨%W1, %hW1, HF, HE'⟩, HO, HX⟩
  iapply (hq W1 hW1)
  isplitl [HF]; · iexact HF
  isplitl [HO]; · iexact HO
  isplitl [HE']; · iexact HE'
  iexact HX

end Half

/-- The half `p` before chunk `n`. -/
def halfAt (iS : Memref sig .scVector .hbm ShE .i32) (I5 : Memref sig .scVector .vmem ShI .i32)
    (fi : iS.view.ty.Contents (Elt F)) (qi : PosShare TreeShare) (p : ℕ) (hp : InS p) (sem : DmaSem sig) (ι : Ix) (w : ℕ → ℕ → BitVec 32) (c n : ℕ) : sProp 𝕄 :=
  if n < 50 ∧ n % 2 = p then comes EC d a b iS I5 fi qi p hp sem ι w (c + 3200 * n) else free d a b iS I5 fi qi p hp sem

/-- Both halves before chunk `n`. -/
def halvesAt (iS : Memref sig .scVector .hbm ShE .i32) (I5 : Memref sig .scVector .vmem ShI .i32)
    (fi : iS.view.ty.Contents (Elt F)) (qi : PosShare TreeShare) (h0 : InS 0) (h1 : InS 1) (s0 s1 : DmaSem sig) (ι : Ix) (w : ℕ → ℕ → BitVec 32) (c n : ℕ) : sProp 𝕄 :=
  iprop(halfAt EC d a b iS I5 fi (PosShare.left qi) 0 h0 s0 ι w c n ∗ halfAt EC d a b iS I5 fi (PosShare.right qi) 1 h1 s1 ι w c n)

/-- The half of chunk `n` has come; what is left of the halves is as before the next chunk once it is given back. -/
def atHand (iS : Memref sig .scVector .hbm ShE .i32) (I5 : Memref sig .scVector .vmem ShI .i32)
    (fi : iS.view.ty.Contents (Elt F)) (qi : PosShare TreeShare) (h0 : InS 0) (h1 : InS 1) (s0 s1 : DmaSem sig) (ι : Ix) (w : ℕ → ℕ → BitVec 32) (c n : ℕ) : sProp 𝕄 :=
  iprop(∃ (S : Finset (Idx (I5.view.loc θ))) (f : I5.view.ty.Contents (Elt F)), ⌜(∀ ix : ShI.Idx, (ix 0).val = n % 2 → I5.view.emb ix ∈ S) ∧ HalfIs (F := F) I5 w (n % 2) (c + 3200 * n) f⌝
    ∗ (I5.view.loc θ ↦[S]{fullShare} f) ∗ ((I5.view.loc θ ↦[S]{fullShare} f) -∗ halvesAt EC d a b iS I5 fi qi h0 h1 s0 s1 ι w c (n + 1)))

section Turn

variable {iS : Memref sig .scVector .hbm ShE .i32} {I5 : Memref sig .scVector .vmem ShI .i32} {s0 s1 : DmaSem sig} {h0 : InS 0} {h1 : InS 1}
variable {fi : iS.view.ty.Contents (Elt F)} {qi : PosShare TreeShare} {ι : Ix} {w : ℕ → ℕ → BitVec 32} {c : ℕ}
variable {c1 c2 c3 : BitVec 1} {o10 o11 o12 o13 : Fin 2 → ℕ} {ho10 : c1 = 1#1 → InE o10} {ho11 : ¬ c1 = 1#1 → InE o11}
variable {ho12 : c2 = 1#1 → c3 = 1#1 → InE o12} {ho13 : c2 = 1#1 → ¬ c3 = 1#1 → InE o13}

omit [FloatOps F] in
theorem halfAt_comes {p : ℕ} {hp : InS p} {sem : DmaSem sig} {n : ℕ} (h : n < 50) (h' : n % 2 = p) :
    halfAt EC d a b iS I5 fi qi p hp sem ι w c n = comes EC d a b iS I5 fi qi p hp sem ι w (c + 3200 * n) := if_pos ⟨h, h'⟩

omit [FloatOps F] in
theorem halfAt_free {p : ℕ} {hp : InS p} {sem : DmaSem sig} {n : ℕ} (h : ¬ (n < 50 ∧ n % 2 = p)) :
    halfAt EC d a b iS I5 fi qi p hp sem ι w c n = free d a b iS I5 fi qi p hp sem := if_neg h

omit [FloatOps F] in
theorem atHand_intro {p : ℕ} {hp : InS p} {sem : DmaSem sig} {n : ℕ} {q : PosShare TreeShare} (h : n % 2 = p) :
    iprop(came d a b iS I5 fi q p hp sem w (c + 3200 * n) ∗ (free d a b iS I5 fi q p hp sem -∗ halvesAt EC d a b iS I5 fi qi h0 h1 s0 s1 ι w c (n + 1)))
      ⊢ (atHand EC d a b iS I5 fi qi h0 h1 s0 s1 ι w c n : sProp 𝕄) := by
  unfold atHand came free
  rw [h]
  iintro ⟨⟨⟨%f, HI, %hf⟩, HE, Hs⟩, Hw⟩
  iexists (half I5 p hp).view.set
  iexists f
  isplitr
  · ipureintro
    exact ⟨fun ix h => half_set I5 p hp h, hf⟩
  isplitl [HI]; · iexact HI
  iintro HI
  iapply Hw
  isplitl [HI]
  · iexists f; iexact HI
  isplitl [HE]; · iexact HE
  iexact Hs

theorem wp_turnK {k : Prog 𝔼 α} [Infinite Name] [EC.LandsIn (upEmb : UEmb _ 𝕄)] {X : sProp 𝕄} {O : CellTallies nD τ sig Ix} {W : Waits sig Ix} {n : ℕ} (hn : n < 50)
    (hcr : ∀ p hp, 0 < (half I5 p hp).view.dmaCredit) (hw : ∀ ix : ShE.Idx, iS.view.read (Elt F) fi ix = w (ix 0).val (ix 1).val)
    (hc1 : c1 = 1#1 ↔ n % 2 = 0) (hc2 : c2 = 1#1 ↔ n + 1 < 50) (hc3 : c3 = 1#1 ↔ (n + 1) % 2 = 0)
    (ho12' : o12 = ![0, c + 3200 * (n + 1)]) (ho13' : o13 = ![0, c + 3200 * (n + 1)])
    (hk : iprop(atHand EC d a b iS I5 fi qi h0 h1 s0 s1 ι w c n ∗ owing d a b ι O W ∗ X) ⊢ WP k Q) :
    iprop(halvesAt EC d a b iS I5 fi qi h0 h1 s0 s1 ι w c n ∗ owing d a b ι O W ∗ X)
      ⊢ WP (turnK iS I5 s0 s1 h0 h1 c1 c2 c3 o10 o11 o12 o13 ho10 ho11 ho12 ho13 k) Q := by
  conv_lhs => unfold halvesAt
  rcases Nat.mod_two_eq_zero_or_one n with hp | hp
  · rw [turnK_even (hc1.2 hp) (hc2.2 (by omega)) (fun h => by have := hc3.1 h; omega), halfAt_comes EC d a b hn hp, halfAt_free EC d a b (by omega)]
    refine BIBase.Entails.trans ?_ (wp_joinK (defs := defs) EC 𝒱 d a b bd (X := iprop(free d a b iS I5 fi qi.right 1 h1 s1 ∗ X)) (qi := qi.left) (fi := fi) (ι := ι) (w := w) (base := c + 3200 * n) (O := O) (W := W) ?_)
    · iintro ⟨⟨H0, H1⟩, HO, HX⟩
      isplitl [H0]; · iexact H0
      isplitl [HO]; · iexact HO
      isplitl [H1]; · iexact H1
      iexact HX
    refine BIBase.Entails.trans ?_ (wp_fetchK (defs := defs) EC 𝒱 d a b bd (X := iprop(came d a b iS I5 fi qi.left 0 h0 s0 w (c + 3200 * n) ∗ owing d a b ι O W ∗ X)) (qi := qi.right) (fi := fi) (ι := ι) (w := w) (base := c + 3200 * (n + 1)) (hcr _ _) ho13' hw ?_)
    · iintro ⟨H0, HO, H1, HX⟩
      isplitl [H1]; · iexact H1
      isplitl [H0]; · iexact H0
      isplitl [HO]; · iexact HO
      iexact HX
    iintro ⟨H1, H0, HO, HX⟩
    iapply hk
    isplitl [H0 H1]
    · iapply (atHand_intro EC d a b hp)
      isplitl [H0]; · iexact H0
      iintro H
      unfold halvesAt
      rw [halfAt_comes EC d a b (by omega : n + 1 < 50) (by omega : (n + 1) % 2 = 1), halfAt_free EC d a b (by omega)]
      isplitl [H]; · iexact H
      iexact H1
    · isplitl [HO]; · iexact HO
      iexact HX
  · by_cases hl : n + 1 < 50
    · rw [turnK_odd (fun h => by have := hc1.1 h; omega) (hc2.2 hl) (hc3.2 (by omega)), halfAt_comes EC d a b hn hp, halfAt_free EC d a b (by omega)]
      refine BIBase.Entails.trans ?_ (wp_joinK (defs := defs) EC 𝒱 d a b bd (X := iprop(free d a b iS I5 fi qi.left 0 h0 s0 ∗ X)) (qi := qi.right) (fi := fi) (ι := ι) (w := w) (base := c + 3200 * n) (O := O) (W := W) ?_)
      · iintro ⟨⟨H0, H1⟩, HO, HX⟩
        isplitl [H1]; · iexact H1
        isplitl [HO]; · iexact HO
        isplitl [H0]; · iexact H0
        iexact HX
      refine BIBase.Entails.trans ?_ (wp_fetchK (defs := defs) EC 𝒱 d a b bd (X := iprop(came d a b iS I5 fi qi.right 1 h1 s1 w (c + 3200 * n) ∗ owing d a b ι O W ∗ X)) (qi := qi.left) (fi := fi) (ι := ι) (w := w) (base := c + 3200 * (n + 1)) (hcr _ _) ho12' hw ?_)
      · iintro ⟨H1, HO, H0, HX⟩
        isplitl [H0]; · iexact H0
        isplitl [H1]; · iexact H1
        isplitl [HO]; · iexact HO
        iexact HX
      iintro ⟨H0, H1, HO, HX⟩
      iapply hk
      isplitl [H0 H1]
      · iapply (atHand_intro EC d a b hp)
        isplitl [H1]; · iexact H1
        iintro H
        unfold halvesAt
        rw [halfAt_comes EC d a b (by omega : n + 1 < 50) (by omega : (n + 1) % 2 = 0), halfAt_free EC d a b (by omega)]
        isplitl [H0]; · iexact H0
        iexact H
      · isplitl [HO]; · iexact HO
        iexact HX
    · rw [turnK_last (fun h => by have := hc1.1 h; omega) (fun h => hl (hc2.1 h)), halfAt_comes EC d a b hn hp, halfAt_free EC d a b (by omega)]
      refine BIBase.Entails.trans ?_ (wp_joinK (defs := defs) EC 𝒱 d a b bd (X := iprop(free d a b iS I5 fi qi.left 0 h0 s0 ∗ X)) (qi := qi.right) (fi := fi) (ι := ι) (w := w) (base := c + 3200 * n) (O := O) (W := W) ?_)
      · iintro ⟨⟨H0, H1⟩, HO, HX⟩
        isplitl [H1]; · iexact H1
        isplitl [HO]; · iexact HO
        isplitl [H0]; · iexact H0
        iexact HX
      iintro ⟨H1, HO, H0, HX⟩
      iapply hk
      isplitl [H0 H1]
      · iapply (atHand_intro EC d a b hp)
        isplitl [H1]; · iexact H1
        iintro H
        unfold halvesAt
        rw [halfAt_free EC d a b (by omega), halfAt_free EC d a b (by omega)]
        isplitl [H0]; · iexact H0
        iexact H
      · isplitl [HO]; · iexact HO
        iexact HX

end Turn

end Rules

end Cert.SegMax
-- ==== Proof.Batches.lean ====
module

public import proofs.«01_k».proof.Proof.Slots

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The full batches of a list -/

section Prog

variable {nD : Nat} {τ : Topo} {sig : RefSig} {Λ : Labels} {F : FTy → Type} [FloatOps F]
variable {a : Fin τ.nSC} {b : Fin τ.nSub} {α : Type}

local notation "𝔼" => TpuEff nD τ sig (Elt F) Λ (Proc.scVector a b)

/-- The first batch is started if there is one, then the batches are drained; a second loop has no trips. -/
def batchesK (mS : Memref sig .scVector .hbm ShM .f32) (A : Memref sig .scVector .vmem ShA .f32) (R : Memref sig .scVector .vmem ShR .f32)
    (SS LS : Memref sig .scVector .vmem ShL .i32) (s0 s1 : DmaSem sig) (h0 : InB 0) (h1 : InB 64) (c : BitVec 1) (o : Fin 1 → ℕ) (ho : InW o)
    (lp : Scf.Loop 32) (okl : lp.OK) (c5 c6 c7 : Fin lp.trips → BitVec 1) (o6 o7 : Fin lp.trips → Fin 1 → ℕ)
    (ho6 : ∀ n, c5 n = 1#1 → c6 n = 1#1 → InW (o6 n)) (ho7 : ∀ n, c5 n = 1#1 → ¬ c6 n = 1#1 → InW (o7 n)) (ok : groupLoop.OK)
    (og : Fin lp.trips → Fin groupLoop.trips → Fin 1 → ℕ) (hg : ∀ n t x, og n t x + Sh16.size x ≤ ShL.size x) (v : Fin lp.trips → BitVec 32)
    (hr : ∀ n (t : Fin groupLoop.trips) (l : Fin 16) (c : Fin 8), InR (cell (laneRow (v n) (Scf.iv 0#32 1#32 t) (BitVec.ofNat 32 l.val)) c.val))
    (lp' : Scf.Loop 32) (okl' : lp'.OK) (body : Fin lp'.trips → PUnit → Prog 𝔼 PUnit) (k : Prog 𝔼 α) : Prog 𝔼 α := do
  if c = 1#1 then do
    SparseCore.enqueueIndirectGather rfl mS (bank R 0 h0) gth (window SS o ho) rfl s0 (View.wordExact_bits rfl) rfl (Or.inl rfl)
    pure ⟨⟩
  else do
    pure ⟨⟩
  lp.for okl ⟨⟩ (fun n _ => tripK mS A R SS LS s0 s1 h0 h1 (c5 n) (c6 n) (c7 n) (o6 n) (o7 n) (ho6 n) (ho7 n) ok (og n) (hg n) (v n) (hr n))
  lp'.for okl' ⟨⟩ body
  k

end Prog

/-- The edge at position `i` of a list. -/
def nth (l : List Edge) (i : ℕ) : Edge := l.getD i (0, 640)

theorem nth_eq {l : List Edge} {i : ℕ} (h : i < l.length) : nth l i = l[i] := by
  unfold nth
  simp [List.getD, h]

theorem nth_mem {l : List Edge} {i : ℕ} (h : i < l.length) : nth l i ∈ l := by
  rw [nth_eq h]
  exact List.getElem_mem h

theorem firsts_nth {l : List Edge} {n : ℕ} (h : n ≤ l.length) : firsts (nth l) n = l.take n := by
  unfold firsts
  apply List.ext_getElem
  · simp [h]
  · intro i h1 h2
    have hi : i < n := by simpa using h1
    rw [List.getElem_map, List.getElem_range, List.getElem_take]
    exact nth_eq (by omega)

section Rules

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl))
variable (𝒱 : Variants) (d : Dev nD) (a : Fin τ.nSC) (b : Fin τ.nSub) (bd : Option 𝒱.V)

local notation "𝕄" => MT nD τ sig Ix (Elt F) Name U Lvl
local notation "𝔼" => TpuEff nD τ sig (Elt F) Λ (Proc.scVector a b)
local notation "θ" => ((d, Proc.scVector a b) : Thread nD τ)
local notation "WP" => wp frame (wpE defs 𝒱 ((d, Proc.scVector a b) : Thread nD τ) bd) Set.univ

variable (mS : Memref sig .scVector .hbm ShM .f32) (A : Memref sig .scVector .vmem ShA .f32) (R : Memref sig .scVector .vmem ShR .f32)
variable (SS LS : Memref sig .scVector .vmem ShL .i32)
variable (fm : mS.view.ty.Contents (Elt F)) (qm : PosShare TreeShare)
variable (s0 s1 : DmaSem sig) (h0 : InB 0) (h1 : InB 64) (ι : Ix) (O : CellTallies nD τ sig Ix) (W : Waits sig Ix)
variable (M : ℕ → Fin 128 → F .f32)

/-- Between drains: the banks idle, the edges `l` listed, the edges `l0` taken in. -/
def pool (l0 l : List Edge) (X : sProp 𝕄) : sProp 𝕄 :=
  iprop(own d a b SS (ListAt (l.map Prod.fst)) ∗ own d a b LS (ListAt (l.map Prod.snd)) ∗ own d a b A (IsAcc M l0)
    ∗ rest d a b mS R fm qm.left 0 h0 s0 ∗ rest d a b mS R fm qm.right 64 h1 s1 ∗ owing d a b ι O W ∗ X)

variable {mS A R SS LS fm qm s0 s1 h0 h1 ι O W M}

theorem wp_batchesK [Infinite Name] [EC.LandsIn (upEmb : UEmb _ 𝕄)] {X : sProp 𝕄} {l0 l : List Edge} (nf : ℕ) {c : BitVec 1} {o : Fin 1 → ℕ} {ho : InW o}
    {lp : Scf.Loop 32} {okl : lp.OK} {c5 c6 c7 : Fin lp.trips → BitVec 1} {o6 o7 : Fin lp.trips → Fin 1 → ℕ} {ho6 : ∀ n, c5 n = 1#1 → c6 n = 1#1 → InW (o6 n)} {ho7 : ∀ n, c5 n = 1#1 → ¬ c6 n = 1#1 → InW (o7 n)} {ok : groupLoop.OK}
    {og : Fin lp.trips → Fin groupLoop.trips → Fin 1 → ℕ} {hg : ∀ n t x, og n t x + Sh16.size x ≤ ShL.size x} {v : Fin lp.trips → BitVec 32}
    {hr : ∀ n (t : Fin groupLoop.trips) (l : Fin 16) (c : Fin 8), InR (cell (laneRow (v n) (Scf.iv 0#32 1#32 t) (BitVec.ofNat 32 l.val)) c.val)}
    {lp' : Scf.Loop 32} {okl' : lp'.OK} {body : Fin lp'.trips → PUnit → Prog 𝔼 PUnit}
    {α : Type} {k : Prog 𝔼 α} {Q : α → sProp 𝕄} (hlp : lp.trips = nf) (hlp' : lp'.trips = 0)
    (hcr : ∀ s' : Shape, sig.dmaCredit .scVector (Kind.scVector.table .vmem) R.view.buf s' .f32 = s'.numel * EltTy.bits .f32)
    (hM : ∀ ix : ShM.Idx, mS.view.read (Elt F) fm ix = M (ix 0).val (ix 1))
    (hc : c = 1#1 ↔ 0 < nf) (ho' : o 0 = 0)
    (hc5 : ∀ n, c5 n = 1#1 ↔ n.val + 1 < nf) (hc6 : ∀ n, c6 n = 1#1 ↔ (n.val + 1) % 2 = 0) (hc7 : ∀ n, c7 n = 1#1 ↔ n.val % 2 = 0)
    (ho6' : ∀ n, o6 n 0 = 64 * (n.val + 1)) (ho7' : ∀ n, o7 n 0 = 64 * (n.val + 1))
    (hv : ∀ n, (v n).toNat = 64 * (n.val % 2)) (hog : ∀ n t, og n t 0 = 64 * n.val + 16 * t.val)
    (hl : 64 * nf ≤ l.length) (hE : ∀ e ∈ l, e.1 < 10240 ∧ e.2 ≤ 640)
    (hk : pool d a b mS A R SS LS fm qm s0 s1 h0 h1 ι O W M (l0 ++ l.take (64 * nf)) l X ⊢ WP k Q) :
    pool d a b mS A R SS LS fm qm s0 s1 h0 h1 ι O W M l0 l X
      ⊢ WP (batchesK mS A R SS LS s0 s1 h0 h1 c o ho lp okl c5 c6 c7 o6 o7 ho6 ho7 ok og hg v hr lp' okl' body k) Q := by
  have hlt : ∀ i, i < 64 * nf → (nth l i).1 < 10240 := fun i h => (hE _ (nth_mem (by omega))).1
  have hle : ∀ i, i < 64 * nf → (nth l i).2 ≤ 640 := fun i h => (hE _ (nth_mem (by omega))).2
  have hlist : ∀ (π : Edge → ℕ) (g : ShL.Idx → BitVec 32), ListAt (l.map π) g → ∀ (i : ℕ) (ix : ShL.Idx), i < 64 * nf → (ix 0).val = i → (g ix).toNat = π (nth l i) := by
    intro π g hg i ix hi hix
    subst hix
    have hi' : (ix 0).val < l.length := by omega
    rw [hg ix (by rw [List.length_map]; exact hi'), List.getElem_map, nth_eq hi']
  have main : ∀ (fs : SS.view.ty.Contents (Elt F)) (fl : LS.view.ty.Contents (Elt F)), ListAt (l.map Prod.fst) (SS.view.read (Elt F) fs) → ListAt (l.map Prod.snd) (LS.view.read (Elt F) fl) →
      iprop((rest d a b mS R fm qm.left 0 h0 s0 ∗ rest d a b mS R fm qm.right 64 h1 s1 ∗ (SS.view.loc θ ↦[SS.view.set]{fullShare} fs))
        ∗ taken d a b A LS fl ι O W M l0 (nth l) 0 X)
      ⊢ WP (batchesK mS A R SS LS s0 s1 h0 h1 c o ho lp okl c5 c6 c7 o6 o7 ho6 ho7 ok og hg v hr lp' okl' body k) Q := by
    intro fs fl hfs hfl
    have hd := wp_drain (defs := defs) EC 𝒱 d a b bd (mS := mS) (A := A) (R := R) (SS := SS) (LS := LS) (fm := fm) (fs := fs) (fl := fl) (qm := qm) (s0 := s0) (s1 := s1) (h0 := h0) (h1 := h1)
      (ι := ι) (O := O) (W := W) (M := M) (l0 := l0) (E := nth l) (nf := nf) (X := X) (okl := okl) (ho6 := ho6) (ho7 := ho7) (ok := ok) (hg := hg) (hr := hr)
      (kk := fun _ => (lp'.for okl' ⟨⟩ body >>= fun _ => k)) (Q := Q) hlp hcr hM hc5 hc6 hc7 ho6' ho7' hv hog hlt hle (hlist Prod.fst _ hfs) (hlist Prod.snd _ hfl) (by
        refine BIBase.Entails.trans ?_ (wp_loop_bind 𝒱 d a b bd hlp' (fun _ _ => drainAt EC d a b mS A R SS LS fm fs fl qm s0 s1 h0 h1 ι O W M l0 (nth l) nf nf X)
          (fun t _ => absurd (Nat.lt_of_lt_of_eq t.isLt hlp') (by omega)) (fun _ => ?_))
        · exact BIBase.Entails.rfl
        · refine BIBase.Entails.trans (drainAt_end EC d a b) (BIBase.Entails.trans ?_ hk)
          unfold pool taken own
          rw [firsts_nth hl]
          iintro ⟨⟨HR0, HR1, HS⟩, HA, HL, HO, HX⟩
          isplitl [HS]
          · iexists fs
            isplitl [HS]; · iexact HS
            ipureintro; exact hfs
          isplitl [HL]
          · iexists fl
            isplitl [HL]; · iexact HL
            ipureintro; exact hfl
          isplitl [HA]; · iexact HA
          isplitl [HR0]; · iexact HR0
          isplitl [HR1]; · iexact HR1
          isplitl [HO] <;> iassumption)
    unfold batchesK
    by_cases h : c = 1#1
    · rw [if_pos h]
      exact wp_first EC 𝒱 d a b bd hcr hM (hc.1 h) ho' hlt (hlist Prod.fst _ hfs) hd
    · rw [if_neg h]
      exact BIBase.Entails.trans (drainAt_none EC d a b (by by_contra h'; exact h (hc.2 (by omega)))) hd
  conv_lhs => unfold pool own
  iintro ⟨⟨%fs, HS, %hfs⟩, ⟨%fl, HL, %hfl⟩, HA, HR0, HR1, HO, HX⟩
  iapply (main fs fl hfs hfl)
  isplitl [HR0 HR1 HS]
  · isplitl [HR0]; · iexact HR0
    isplitl [HR1] <;> iassumption
  unfold taken own
  have e : l0 ++ firsts (nth l) 0 = l0 := by simp [firsts]
  rw [e]
  isplitl [HA]; · iexact HA
  isplitl [HL]; · iexact HL
  isplitl [HO] <;> iassumption

end Rules

end Cert.SegMax
-- ==== Proof.Words.lean ====
module

public import proofs.«01_k».proof.Proof.Batches

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The kernel's words, as numbers -/

/-- The quotient by 64, rounded down. -/
def fdiv (q : BitVec 32) : BitVec 32 :=
  Scalar.select (Scalar.andi (Scalar.cmpi .ne (Scalar.subi (Scalar.extui (Scalar.cmpi .sgt q 0#32)) (Scalar.extui (Scalar.cmpi .slt q 0#32)))
      (Scalar.subi (Scalar.extui (Scalar.cmpi .sgt 64#32 0#32)) (Scalar.extui (Scalar.cmpi .slt 64#32 0#32)))) (Scalar.cmpi .ne (Scalar.remsi q 64#32) 0#32))
    (Scalar.subi (Scalar.divsi q 64#32) 1#32) (Scalar.divsi q 64#32)

/-- The remainder by 2, rounded down. -/
def fmod (x : BitVec 32) : BitVec 32 :=
  let w : BitVec 32 := Scalar.select (Scalar.cmpi .eq 2#32 0#32) 1#32 2#32
  let r : BitVec 32 := Scalar.remsi x w
  Scalar.select (Scalar.andi (Scalar.xori (Scalar.cmpi .slt r 0#32) (Scalar.cmpi .slt w 0#32)) (Scalar.cmpi .ne r 0#32)) (Scalar.addi r w) r

/-- Whether a word is even. -/
def evenW (x : BitVec 32) : BitVec 1 := Scalar.cmpi .ne (Scalar.extui (Scalar.cmpi .eq (fmod x) 0#32) : BitVec 32) 0#32

/-- Whether there is a first batch. -/
def someW (nf : BitVec 32) : BitVec 1 := Scalar.cmpi .ne (Scalar.extui (Scalar.cmpi .sgt nf 0#32) : BitVec 32) 0#32

/-- Whether batch `n + 1` is one of the `nf`. -/
def moreW (nf : BitVec 32) (n : ℕ) : BitVec 1 :=
  Scalar.cmpi .ne (Scalar.extui (Scalar.cmpi .slt (Scalar.addi (Scf.iv 0#32 1#32 n) 1#32) nf) : BitVec 32) 0#32

/-- The loop over `nf` batches. -/
@[reducible] def drainLoop (nf : BitVec 32) : Scf.Loop 32 := ⟨0#32, Scalar.addi 0#32 (Scalar.muli (Scalar.divsi (Scalar.subi nf 0#32) 1#32) 1#32), 1#32⟩

/-- The loop over what a step of one leaves of them. -/
@[reducible] def tailLoop (nf : BitVec 32) : Scf.Loop 32 :=
  ⟨Scalar.addi 0#32 (Scalar.muli (Scalar.divsi (Scalar.subi nf 0#32) 1#32) 1#32), Scalar.addi 0#32 (Scalar.subi nf 0#32), 1#32⟩

theorem fdiv_table : ∀ q : Fin 3328, fdiv (BitVec.ofNat 32 q.val) = BitVec.ofNat 32 (q.val / 64) := by decide +kernel
theorem drain_table : ∀ nf : Fin 52, (drainLoop (BitVec.ofNat 32 nf.val)).trips = nf.val ∧ (drainLoop (BitVec.ofNat 32 nf.val)).OK ∧ (tailLoop (BitVec.ofNat 32 nf.val)).trips = 0
    ∧ (tailLoop (BitVec.ofNat 32 nf.val)).OK := by decide +kernel
theorem some_table : ∀ nf : Fin 52, someW (BitVec.ofNat 32 nf.val) = 1#1 ↔ 0 < nf.val := by decide +kernel
theorem more_table : ∀ nf n : Fin 52, moreW (BitVec.ofNat 32 nf.val) n.val = 1#1 ↔ n.val + 1 < nf.val := by decide +kernel
theorem even_table : ∀ n : Fin 52, (evenW (Scalar.addi (Scf.iv 0#32 1#32 n.val) 1#32) = 1#1 ↔ (n.val + 1) % 2 = 0) ∧ (evenW (Scf.iv 0#32 1#32 n.val) = 1#1 ↔ n.val % 2 = 0)
    ∧ (Scalar.muli (fmod (Scf.iv 0#32 1#32 n.val)) 64#32).toNat = 64 * (n.val % 2) ∧ (Scalar.muli (Scalar.addi (Scf.iv 0#32 1#32 n.val) 1#32) 64#32).toNat = 64 * (n.val + 1)
    ∧ (Scalar.muli (Scf.iv 0#32 1#32 n.val) 64#32).toNat = 64 * n.val := by decide +kernel
theorem group_table : ∀ (n : Fin 52) (t : Fin 4), (Scalar.indexCast (Scalar.addi (Scalar.muli (Scf.iv 0#32 1#32 n.val) 64#32) (Scalar.muli (Scf.iv 0#32 1#32 t.val) 16#32))).toNat = 64 * n.val + 16 * t.val := by
  decide +kernel

theorem fdiv_eq {q : BitVec 32} (h : q.toNat < 3328) : fdiv q = BitVec.ofNat 32 (q.toNat / 64) := by
  have := fdiv_table ⟨q.toNat, h⟩
  rwa [show BitVec.ofNat 32 (⟨q.toNat, h⟩ : Fin 3328).val = q from BitVec.eq_of_toNat_eq (by simp)] at this

theorem row_lt {v : BitVec 32} {n : ℕ} (hv : v.toNat = 64 * (n % 2)) (t : Fin groupLoop.trips) {l : BitVec 32} (hl : l.toNat < 16) : laneRow v (Scf.iv 0#32 1#32 t) l + 1 ≤ 128 := by
  have ht : t.val < 4 := Nat.lt_of_lt_of_eq t.isLt group_trips
  have h := group_row hv (by omega) t.val ht ⟨l.toNat, hl⟩
  rw [show BitVec.ofNat 32 (⟨l.toNat, hl⟩ : Fin 16).val = l from BitVec.eq_of_toNat_eq (by simp)] at h
  have : (⟨l.toNat, hl⟩ : Fin 16).val = l.toNat := rfl
  omega

end Cert.SegMax
-- ==== Proof.Checks.lean ====
module

public import proofs.«01_k».proof.KernelIdeal.P02
public import proofs.«01_k».proof.Proof.Words

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The offsets the kernel computes from how many edges it keeps lie in their buffers -/

open Cert.KernelIdeal

theorem fin2_le {o s t : Fin 2 → ℕ} (h0 : o 0 + s 0 ≤ t 0) (h1 : o 1 + s 1 ≤ t 1) : ∀ a, o a + s a ≤ t a := fun a => by fin_cases a; exacts [h0, h1]
theorem fin1_le {o s t : Fin 1 → ℕ} (h0 : o 0 + s 0 ≤ t 0) : ∀ a, o a + s a ≤ t a := fun a => by fin_cases a; exact h0

theorem trips_of {nf : ℕ} (h : nf < 52) : (drainLoop (BitVec.ofNat 32 nf)).trips = nf ∧ (drainLoop (BitVec.ofNat 32 nf)).OK ∧ (tailLoop (BitVec.ofNat 32 nf)).trips = 0 ∧ (tailLoop (BitVec.ofNat 32 nf)).OK :=
  drain_table ⟨nf, h⟩

theorem bank_word {n : ℕ} (h : n < 52) : (Scalar.muli (fmod (Scf.iv 0#32 1#32 n)) 64#32).toNat = 64 * (n % 2) := (even_table ⟨n, h⟩).2.2.1
theorem next_word {n : ℕ} (h : n < 52) : (Scalar.muli (Scalar.addi (Scf.iv 0#32 1#32 n) 1#32) 64#32).toNat = 64 * (n + 1) := (even_table ⟨n, h⟩).2.2.2.1
theorem this_word {n : ℕ} (h : n < 52) : (Scalar.muli (Scf.iv 0#32 1#32 n) 64#32).toNat = 64 * n := (even_table ⟨n, h⟩).2.2.2.2
theorem more_iff {nf n : ℕ} (hf : nf < 52) (h : n < 52) : moreW (BitVec.ofNat 32 nf) n = 1#1 ↔ n + 1 < nf := more_table ⟨nf, hf⟩ ⟨n, h⟩

theorem off538_eq {q : BitVec 32} {c : ℕ} (hq : q.toNat < 3264) (hc : c < 4) : k0_off538 q (BitVec.ofNat 32 (16 * c)) 0 = 64 * (q.toNat / 64) + 16 * c := by
  have e : k0_off538 q (BitVec.ofNat 32 (16 * c)) 0 = (Scalar.indexCast (Scalar.addi (Scalar.muli (fdiv q) 64#32) (BitVec.ofNat 32 (16 * c)))).toNat := rfl
  rw [e, fdiv_eq (by omega)]
  change (BitVec.ofNat 32 (q.toNat / 64) * 64#32 + BitVec.ofNat 32 (16 * c)).toNat = _
  simp only [BitVec.toNat_add, BitVec.toNat_mul, BitVec.toNat_ofNat]
  omega

theorem off539_eq {q : BitVec 32} {c : ℕ} (hq : q.toNat < 3264) (hc : c < 4) : k0_off539 q (BitVec.ofNat 32 (16 * c)) 0 = q.toNat + 16 * c := by
  change (q + BitVec.ofNat 32 (16 * c)).toNat = _
  simp only [BitVec.toNat_add, BitVec.toNat_ofNat]
  omega

theorem row_in {v : BitVec 32} {n : ℕ} (hv : v.toNat = 64 * (n % 2)) (t : Fin groupLoop.trips) {l : BitVec 32} (hl : l.toNat < 16) {x : ℕ} (hx : x + 16 ≤ 128) :
    ∀ a, (![laneRow v (Scf.iv 0#32 1#32 t) l, x] : Fin 2 → ℕ) a + Sh1x16.size a ≤ ShR.size a := fin2_le (row_lt hv t hl) hx
theorem list_in {x : ℕ} (h : x + 64 ≤ 3272) : ∀ a, (![x] : Fin 1 → ℕ) a + Sh64.size a ≤ ShL.size a := fin1_le h
theorem part_in {x : ℕ} (h : x + 16 ≤ 3272) : ∀ a, (![x] : Fin 1 → ℕ) a + Sh16.size a ≤ ShL.size a := fin1_le h

theorem part538 {q : BitVec 32} (hq : q.toNat < 3264) (r : Fin 4) : ∀ a, k0_off538 q (BitVec.ofNat 32 (16 * r.val)) a + S16.size a ≤ S3272.size a := by
  have e : k0_off538 q (BitVec.ofNat 32 (16 * r.val)) = ![64 * (q.toNat / 64) + 16 * r.val] := funext fun a => by fin_cases a; exact off538_eq hq r.isLt
  rw [e]; exact part_in (by have := r.isLt; omega)
theorem part539 {q : BitVec 32} (hq : q.toNat < 3200) (r : Fin 4) : ∀ a, k0_off539 q (BitVec.ofNat 32 (16 * r.val)) a + S16.size a ≤ S3272.size a := by
  have e : k0_off539 q (BitVec.ofNat 32 (16 * r.val)) = ![q.toNat + 16 * r.val] := funext fun a => by fin_cases a; exact off539_eq (by omega) r.isLt
  rw [e]; exact part_in (by have := r.isLt; omega)

/-- How many batches hold `q` edges: the last may be part full. -/
def ceilW (q : BitVec 32) : BitVec 32 := fdiv (Scalar.subi (Scalar.addi q 64#32) 1#32)
theorem ceil_eq {q : BitVec 32} (h : q.toNat < 64) : ceilW q = BitVec.ofNat 32 ((q.toNat + 63) / 64) := by
  have e : (Scalar.subi (Scalar.addi q 64#32) 1#32).toNat = q.toNat + 63 := by
    change (q + 64#32 - 1#32).toNat = _
    simp only [BitVec.toNat_sub, BitVec.toNat_add, BitVec.toNat_ofNat]; omega
  exact (fdiv_eq (by omega)).trans (by rw [e])

theorem chk2_trips {q : BitVec 32} (hq : q.toNat < 3264) : (k0_t4_loop q).trips = q.toNat / 64 ∧ (k0_t4_loop q).OK ∧ (k0_t6_loop q).trips = 0 ∧ (k0_t6_loop q).OK := by
  have hnf : q.toNat / 64 < 52 := by omega
  have hf : fdiv q = BitVec.ofNat 32 (q.toNat / 64) := fdiv_eq (by omega)
  have htr : (k0_t4_loop q).trips = q.toNat / 64 := ((congrArg (fun w => (drainLoop w).trips) hf).trans (trips_of hnf).1 :)
  have hok : (k0_t4_loop q).OK := by have := (trips_of hnf).2.1; rw [← hf] at this; exact this
  have htr6 : (k0_t6_loop q).trips = 0 := ((congrArg (fun w => (tailLoop w).trips) hf).trans (trips_of hnf).2.2.1 :)
  have hok6 : (k0_t6_loop q).OK := by have := (trips_of hnf).2.2.2; rw [← hf] at this; exact this
  exact ⟨htr, hok, htr6, hok6⟩

theorem chk35_trips {q : BitVec 32} (hq : q.toNat < 64) : (k0_t8_loop q).trips = (q.toNat + 63) / 64 ∧ (k0_t8_loop q).OK ∧ (k0_t10_loop q).trips = 0 ∧ (k0_t10_loop q).OK := by
  have hnf : (q.toNat + 63) / 64 < 52 := by omega
  have hf : ceilW q = BitVec.ofNat 32 ((q.toNat + 63) / 64) := ceil_eq hq
  have htr : (k0_t8_loop q).trips = (q.toNat + 63) / 64 := ((congrArg (fun w => (drainLoop w).trips) hf).trans (trips_of hnf).1 :)
  have hok : (k0_t8_loop q).OK := by have := (trips_of hnf).2.1; rw [← hf] at this; exact this
  have htr6 : (k0_t10_loop q).trips = 0 := ((congrArg (fun w => (tailLoop w).trips) hf).trans (trips_of hnf).2.2.1 :)
  have hok6 : (k0_t10_loop q).OK := by have := (trips_of hnf).2.2.2; rw [← hf] at this; exact this
  exact ⟨htr, hok, htr6, hok6⟩

set_option maxHeartbeats 4000000 in
set_option maxRecDepth 100000 in
theorem chk2_of {q : BitVec 32} (hq : q.toNat < 3264) : k0_chk2 q := by
  have hnf : q.toNat / 64 < 52 := by omega
  have hf : fdiv q = BitVec.ofNat 32 (q.toNat / 64) := fdiv_eq (by omega)
  obtain ⟨htr, hok, htr6, hok6⟩ := chk2_trips hq
  have hlt : ∀ n : Fin (k0_t4_loop q).trips, n.val < 52 := fun n => by have := n.isLt; omega
  have hm : ∀ n : Fin (k0_t4_loop q).trips, k0_cond5 q n = 1#1 → n.val + 1 < q.toNat / 64 := fun n h => by
    have e : k0_cond5 q n = moreW (fdiv q) n.val := rfl
    rw [e, hf] at h; exact (more_iff hnf (hlt n)).mp h
  have hrow : ∀ (n : Fin (k0_t4_loop q).trips) (t : Fin groupLoop.trips) {l : BitVec 32}, l.toNat < 16 → ∀ {x : ℕ}, x + 16 ≤ 128 →
      ∀ a, (![laneRow (Scalar.muli (fmod (Scf.iv 0#32 1#32 n.val)) 64#32) (Scf.iv 0#32 1#32 t) l, x] : Fin 2 → ℕ) a + Sh1x16.size a ≤ ShR.size a :=
    fun n t _ hl _ hx => row_in (bank_word (hlt n)) t hl hx
  have h16 : ∀ n : Fin (k0_t4_loop q).trips, k0_cond5 q n = 1#1 → ∀ a, (![(Scalar.muli (Scalar.addi (Scf.iv 0#32 1#32 n.val) 1#32) 64#32).toNat] : Fin 1 → ℕ) a + Sh64.size a ≤ ShL.size a :=
    fun n h5 => list_in (by have := next_word (hlt n); have := hm n h5; omega)
  have h18 : ∀ n : Fin (k0_t4_loop q).trips, ∀ a, (![(Scalar.muli (Scf.iv 0#32 1#32 n.val) 64#32).toNat] : Fin 1 → ℕ) a + Sh64.size a ≤ ShL.size a :=
    fun n => list_in (by have := this_word (hlt n); have := n.isLt; omega)
  have h20 : ∀ (n : Fin (k0_t4_loop q).trips) (t : Fin groupLoop.trips), ∀ a, (![(Scalar.indexCast (Scalar.addi (Scalar.muli (Scf.iv 0#32 1#32 n.val) 64#32) (Scalar.muli (Scf.iv 0#32 1#32 t.val) 16#32))).toNat] : Fin 1 → ℕ) a
      + Sh16.size a ≤ ShL.size a := fun n t => part_in (by
    have ht : t.val < 4 := Nat.lt_of_lt_of_eq t.isLt group_trips
    have h := group_table ⟨n.val, hlt n⟩ ⟨t.val, ht⟩
    have := n.isLt; simp only at h; omega)
  refine ⟨⟨hok, fun n h5 _ => h16 n h5, fun n h5 _ => h16 n h5, fun n _ => h18 n, fun n _ => h18 n, fun n t => h20 n t, ?_⟩, ?_, ?_, ?_, ⟨?_, ?_, ?_, ?_, ?_, ?_, hok6, ?_⟩, ?_, ?_, ?_, ⟨?_, ?_, ?_, ?_, ?_, ?_, ?_, ?_, ?_, ?_, ?_, ?_, fun r => part538 hq r⟩⟩
  on_goal 2 => unfold k0_chk2_1
  on_goal 3 => unfold k0_chk2_2
  on_goal 4 => unfold k0_chk2_3
  on_goal 12 => unfold k0_chk2_5
  on_goal 13 => unfold k0_chk2_6
  on_goal 14 => unfold k0_chk2_7
  iterate 10
    on_goal 1 =>
      · repeat' (with_reducible refine And.intro ?_ ?_)
        all_goals exact fun n t => hrow n t (l := _) (by decide) (x := _) (by decide)
  all_goals
    repeat' (with_reducible refine And.intro ?_ ?_)
    all_goals exact fun n => absurd n.isLt (by omega)

set_option maxHeartbeats 4000000 in
set_option maxRecDepth 100000 in
theorem chk35_of {q : BitVec 32} (hq : q.toNat < 64) : k0_chk35 q := by
  have hnf : (q.toNat + 63) / 64 < 52 := by omega
  have hf : ceilW q = BitVec.ofNat 32 ((q.toNat + 63) / 64) := ceil_eq hq
  obtain ⟨htr, hok, htr6, hok6⟩ := chk35_trips hq
  have hlt : ∀ n : Fin (k0_t8_loop q).trips, n.val < 52 := fun n => by have := n.isLt; omega
  have hm : ∀ n : Fin (k0_t8_loop q).trips, k0_cond12 q n = 1#1 → n.val + 1 < (q.toNat + 63) / 64 := fun n h => by
    have e : k0_cond12 q n = moreW (ceilW q) n.val := rfl
    rw [e, hf] at h; exact (more_iff hnf (hlt n)).mp h
  have hrow : ∀ (n : Fin (k0_t8_loop q).trips) (t : Fin groupLoop.trips) {l : BitVec 32}, l.toNat < 16 → ∀ {x : ℕ}, x + 16 ≤ 128 →
      ∀ a, (![laneRow (Scalar.muli (fmod (Scf.iv 0#32 1#32 n.val)) 64#32) (Scf.iv 0#32 1#32 t) l, x] : Fin 2 → ℕ) a + Sh1x16.size a ≤ ShR.size a :=
    fun n t _ hl _ hx => row_in (bank_word (hlt n)) t hl hx
  have h16 : ∀ n : Fin (k0_t8_loop q).trips, k0_cond12 q n = 1#1 → ∀ a, (![(Scalar.muli (Scalar.addi (Scf.iv 0#32 1#32 n.val) 1#32) 64#32).toNat] : Fin 1 → ℕ) a + Sh64.size a ≤ ShL.size a :=
    fun n h5 => list_in (by have := next_word (hlt n); have := hm n h5; omega)
  have h18 : ∀ n : Fin (k0_t8_loop q).trips, ∀ a, (![(Scalar.muli (Scf.iv 0#32 1#32 n.val) 64#32).toNat] : Fin 1 → ℕ) a + Sh64.size a ≤ ShL.size a :=
    fun n => list_in (by have := this_word (hlt n); have := n.isLt; omega)
  have h20 : ∀ (n : Fin (k0_t8_loop q).trips) (t : Fin groupLoop.trips), ∀ a, (![(Scalar.indexCast (Scalar.addi (Scalar.muli (Scf.iv 0#32 1#32 n.val) 64#32) (Scalar.muli (Scf.iv 0#32 1#32 t.val) 16#32))).toNat] : Fin 1 → ℕ) a
      + Sh16.size a ≤ ShL.size a := fun n t => part_in (by
    have ht : t.val < 4 := Nat.lt_of_lt_of_eq t.isLt group_trips
    have h := group_table ⟨n.val, hlt n⟩ ⟨t.val, ht⟩
    have := n.isLt; simp only at h; omega)
  refine ⟨⟨fun r => part539 (by omega) r, hok, fun n h5 _ => h16 n h5, fun n h5 _ => h16 n h5, fun n _ => h18 n, fun n _ => h18 n, fun n t => h20 n t, ?_⟩, ?_, ?_, ?_, ⟨?_, ?_, ?_, ?_, ?_, ?_, ?_, hok6, ?_⟩, ?_, ?_, ?_, ?_⟩
  on_goal 2 => unfold k0_chk35_1
  on_goal 3 => unfold k0_chk35_2
  on_goal 4 => unfold k0_chk35_3
  on_goal 13 => unfold k0_chk35_5
  on_goal 14 => unfold k0_chk35_6
  on_goal 15 => unfold k0_chk35_7
  on_goal 16 => unfold k0_chk35_8
  iterate 11
    on_goal 1 =>
      · repeat' (with_reducible refine And.intro ?_ ?_)
        all_goals exact fun n t => hrow n t (l := _) (by decide) (x := _) (by decide)
  all_goals
    repeat' (with_reducible refine And.intro ?_ ?_)
    all_goals exact fun n => absurd n.isLt (by omega)

end Cert.SegMax
-- ==== Proof.Parts.lean ====
module

public import proofs.«01_k».proof.KernelIdeal
public import proofs.«01_k».proof.Proof.Checks

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The kernel's text, as the segments the rules are about -/

open Cert.KernelIdeal

variable {F : FTy → Type} [FloatOps F] [Facts]
open Facts₀ Facts

/-- The instructions of the tile the grid point `i` runs on. -/
abbrev EffAt (F : FTy → Type) (i : grid0.Coords) := TpuEff nD τ sig (Elt F) Λ₀ (Proc.scVector ((i 0).castLE hcore0) ((i 1).castLE hsub0))

variable (i : grid0.Coords) (e : Memref sig .scVector .hbm S2x320000 .i32) (he : e.IsWhole) (mS : Memref sig .scVector .hbm S10240x128 .f32) (hm : mS.IsWhole)
variable (oS : Memref sig .scVector .hbm S2x10240x128 .f32) (ho5 : oS.IsWhole) (I5 : Memref sig .scVector .vmem S2x2x3200 .i32) (h5 : I5.IsWhole)
variable (SS : Memref sig .scVector .vmem S3272 .i32) (h6 : SS.IsWhole) (LS : Memref sig .scVector .vmem S3272 .i32) (h7 : LS.IsWhole)
variable (R : Memref sig .scVector .vmem S128x128 .f32) (h8 : R.IsWhole) (A : Memref sig .scVector .vmem S641x128 .f32) (h9 : A.IsWhole) (s0 s1 r0 r1 sd : DmaSems sig S_)

/-- The messages as the gathers name them. -/
abbrev msgs : Memref sig .scVector .hbm S10240x128 .f32 := mS.slice (Rect.unit (s := S10240x128) ![0, 0] S10240x128.size inb_S10240x128_S10240x128_0_0) (fun _ => rfl)

/-- Whether the signs of a word and of 64 differ. -/
def signW (q : BitVec 32) : BitVec 1 :=
  Scalar.cmpi .ne (Scalar.subi (Scalar.extui (Scalar.cmpi .sgt q 0#32) : BitVec 32) (Scalar.extui (Scalar.cmpi .slt q 0#32)))
    (Scalar.subi (Scalar.extui (Scalar.cmpi .sgt 64#32 0#32)) (Scalar.extui (Scalar.cmpi .slt 64#32 0#32)))

/-- The bank of batch `n`, as its first row. -/
def bankW (n : ℕ) : BitVec 32 := Scalar.muli (fmod (Scf.iv 0#32 1#32 n)) 64#32

/-- A chunk's first half: the turn of the banks and the scan. -/
def scanPart (lo : BitVec 32) (t : Fin k0_t2_loop.trips) (q : BitVec 32) {α : Type} (k : (q' : BitVec 32) → k0_chk2 q' → Prog (EffAt F i) α) : Prog (EffAt F i) α :=
  turnK e I5 s0.sem s1.sem inb_S2x2x3200_S1x2x3200_0_0_0 inb_S2x2x3200_S1x2x3200_1_0_0 (k0_cond1 t) (k0_cond2 t) (k0_cond3 t) (k0_off10 i t) (k0_off11 i t) (k0_off12 i t) (k0_off13 i t)
    (k0_off10_inb i t) (k0_off11_inb i t) (k0_off12_inb i t) (k0_off13_inb i t)
    (k0_t3_loop.for k0_t3_ok q (fun t3 q => scanK I5 SS LS lo q (k0_off14 t t3) (k0_off15 t t3) (k0_off14_inb t t3) (k0_off15_inb t t3)) >>= fun q' =>
      .op (.assume (k0_chk2 q') (k0_chk2.dec q')) fun h => k q' h.down)

/-- The first three of the four moves of a chunk's leftovers. -/
def movesPart (q : BitVec 32) (hq : k0_chk2 q) {α : Type} (k : Prog (EffAt F i) α) : Prog (EffAt F i) α :=
  moveK SS (k0_off538 q 0#32) ![0] (k0_off538_inb q hq 0) inb_S3272_S16_0 <| moveK LS (k0_off538 q 0#32) ![0] (k0_off538_inb q hq 0) inb_S3272_S16_0 <|
  moveK SS (k0_off538 q 16#32) ![16] (k0_off538_inb q hq 1) inb_S3272_S16_16 <| moveK LS (k0_off538 q 16#32) ![16] (k0_off538_inb q hq 1) inb_S3272_S16_16 <|
  moveK SS (k0_off538 q 32#32) ![32] (k0_off538_inb q hq 2) inb_S3272_S16_32 k

/-- The rest of them. -/
def movesRest (q : BitVec 32) (hq : k0_chk2 q) {α : Type} (k : Prog (EffAt F i) α) : Prog (EffAt F i) α :=
  moveK LS (k0_off538 q 32#32) ![32] (k0_off538_inb q hq 2) inb_S3272_S16_32 <|
  moveK SS (k0_off538 q 48#32) ![48] (k0_off538_inb q hq 3) inb_S3272_S16_48 <| moveK LS (k0_off538 q 48#32) ![48] (k0_off538_inb q hq 3) inb_S3272_S16_48 k

/-- Whether the batch of a trip of the drain begins at an in-bounds row, lane for lane. -/
abbrev RowsOk (T : ℕ) : Prop :=
  ∀ (n : Fin T) (t : Fin groupLoop.trips) (l : Fin 16) (c : Fin 8), InR (cell (laneRow (bankW n.val) (Scf.iv 0#32 1#32 t) (BitVec.ofNat 32 l.val)) c.val)

set_option maxHeartbeats 4000000 in
set_option maxRecDepth 100000 in
theorem part65_eq (lo v3 : BitVec 32) (t : Fin k0_t2_loop.trips) (q : BitVec 32) :
    k0_part65 (F := F) i e he mS hm oS ho5 I5 h5 SS h6 LS h7 R h8 A h9 s0 s1 r0 r1 sd lo v3 0#32 1#32 t q
      = scanPart i e I5 SS LS s0 s1 lo t q (fun q' h => .ret ⟨q', h, Scalar.divsi q' 64#32, signW q', Scalar.remsi q' 64#32, 0#32⟩) := rfl

set_option maxHeartbeats 4000000 in
set_option maxRecDepth 100000 in
theorem part66_eq (q : BitVec 32) (hq : k0_chk2 q) (hr : RowsOk (k0_t4_loop q).trips) : ∃ (body : _) (w : BitVec 32),
    k0_part66 (F := F) i e he mS hm oS ho5 I5 h5 SS h6 LS h7 R h8 A h9 s0 s1 r0 r1 sd q hq (Scalar.divsi q 64#32) (signW q) (Scalar.remsi q 64#32) 0#32
      = batchesK (msgs mS) A R SS LS r0.sem r1.sem inb_S128x128_S64x128_0_0 inb_S128x128_S64x128_64_0 (someW (fdiv q)) ![0] inb_S3272_S64_0
          (k0_t4_loop q) (k0_t4_ok q hq) (k0_cond5 q) (k0_cond6 q) (k0_cond7 q) (k0_off16 q) (k0_off17 q) (k0_off16_inb q hq) (k0_off17_inb q hq) k0_t5_ok
          (k0_off20 q) (k0_off20_inb q hq) (fun n => bankW n.val) hr (k0_t6_loop q) (k0_t6_ok q hq) body
          (movesPart i SS LS q hq (.ret ⟨fdiv q, w⟩)) := ⟨_, _, rfl⟩

/-- The clearing of a row of the accumulator. -/
def zeroRow (t : Fin k0_t1_loop.trips) : Prog (EffAt F i) PUnit :=
  zeroK A (k0_off1 t) (k0_off1_inb t) <| zeroK A (k0_off2 t) (k0_off2_inb t) <| zeroK A (k0_off3 t) (k0_off3_inb t) <| zeroK A (k0_off4 t) (k0_off4_inb t) <|
  zeroK A (k0_off5 t) (k0_off5_inb t) <| zeroK A (k0_off6 t) (k0_off6_inb t) <| zeroK A (k0_off7 t) (k0_off7_inb t) <| zeroK A (k0_off8 t) (k0_off8_inb t) (.ret ⟨⟩)

/-- The first row of the tile `i`. -/
def loW : BitVec 32 := Scalar.muli (BitVec.ofNat 32 (i 1).val) 640#32

/-- A chunk. -/
def chunk (t : Fin k0_t2_loop.trips) (q : BitVec 32) : Prog (EffAt F i) (BitVec 32) :=
  k0_part65 (F := F) i e he mS hm oS ho5 I5 h5 SS h6 LS h7 R h8 A h9 s0 s1 r0 r1 sd (loW i) (Scalar.muli (BitVec.ofNat 32 (i 0).val) 160000#32) 0#32 1#32 t q >>= fun r =>
  k0_part66 (F := F) i e he mS hm oS ho5 I5 h5 SS h6 LS h7 R h8 A h9 s0 s1 r0 r1 sd r.1 r.2.1 r.2.2.1 r.2.2.2.1 r.2.2.2.2.1 r.2.2.2.2.2 >>= fun r' =>
  movesRest i SS LS r.1 r.2.1 (.ret (Scalar.subi r.1 (Scalar.muli r'.1 64#32)))

/-- Sixteen entries past a list's end are set to a word. -/
def padK (L : Memref sig .scVector .vmem S3272 .i32) (o : Fin 1 → ℕ) (ho : InL o) (w : BitVec 32) {α : Type} (k : Prog (EffAt F i) α) : Prog (EffAt F i) α :=
  skipK L o ho (putK L o ho (broadcast S16 w) k)

set_option maxHeartbeats 4000000 in
set_option maxRecDepth 100000 in
theorem part131_eq : k0_part131 (F := F) i e he mS hm oS ho5 I5 h5 SS h6 LS h7 R h8 A h9 s0 s1 r0 r1 sd =
    k0_t1_loop.for k0_t1_ok ⟨⟩ (fun t _ => zeroRow i A t) >>= fun _ =>
    fetchK e I5 0 inb_S2x2x3200_S1x2x3200_0_0_0 (k0_off9 i) (k0_off9_inb i) s0.sem <|
    k0_t2_loop.for k0_t2_ok 0#32 (fun t q => chunk i e he mS hm oS ho5 I5 h5 SS h6 LS h7 R h8 A h9 s0 s1 r0 r1 sd t q) >>= fun q =>
    .op (.assume (k0_chk35 q) (k0_chk35.dec q)) fun h =>
    padK i SS (k0_off539 q 0#32) (k0_off539_inb q h.down 0) 0#32 <| padK i LS (k0_off539 q 0#32) (k0_off539_inb q h.down 0) 640#32 <|
    skipK SS (k0_off539 q 16#32) (k0_off539_inb q h.down 1) (.ret ⟨q, h.down, broadcast S16 0#32⟩) := rfl

/-- The word the kernel rounds up through. -/
def upW (q : BitVec 32) : BitVec 32 := Scalar.subi (Scalar.addi q 64#32) 1#32

set_option maxHeartbeats 4000000 in
set_option maxRecDepth 100000 in
theorem part132_eq (q : BitVec 32) (h : k0_chk35 q) : k0_part132 (F := F) i e he mS hm oS ho5 I5 h5 SS h6 LS h7 R h8 A h9 s0 s1 r0 r1 sd q h (broadcast S16 0#32) =
    (putK SS (k0_off539 q 16#32) (k0_off539_inb q h 1) (broadcast S16 0#32) <| padK i LS (k0_off539 q 16#32) (k0_off539_inb q h 1) 640#32 <|
    padK i SS (k0_off539 q 32#32) (k0_off539_inb q h 2) 0#32 <| padK i LS (k0_off539 q 32#32) (k0_off539_inb q h 2) 640#32 <|
    padK i SS (k0_off539 q 48#32) (k0_off539_inb q h 3) 0#32 <| padK i LS (k0_off539 q 48#32) (k0_off539_inb q h 3) 640#32 <|
    .ret ⟨Scalar.divsi (upW q) 64#32, signW (upW q), Scalar.cmpi .ne (Scalar.remsi (upW q) 64#32) 0#32⟩) := rfl

/-- The rows of the tile, as the last transfer reads them. -/
abbrev tileRows : Memref sig .scVector .vmem S640x128 .f32 := A.slice (Rect.unit (s := S641x128) ![0, 0] S640x128.size inb_S641x128_S640x128_0_0) (fun _ => rfl)

/-- The rows of the tile, in the result. -/
abbrev outRows : Memref sig .scVector .hbm S640x128 .f32 :=
  (oS.slice (Rect.unit (s := S2x10240x128) (k0_off1062 i) S1x640x128.size (k0_off1062_inb i)) (fun _ => rfl)).squeeze S640x128 squeezes_S1x640x128_S640x128

/-- The tile's rows are sent to the result. -/
def sendK {α : Type} (k : Prog (EffAt F i) α) : Prog (EffAt F i) α :=
  .op (.enqueueDma (tileRows A) (.here (outRows i oS)) (.dma sd.sem) (View.wordExact_bits rfl) ((View.wordExact_bits rfl).reshape _ _) ⟨Or.inl rfl, trivial⟩) fun _ =>
  .op (.waitDma2 sd.sem (tileRows A) (outRows i oS) (View.wordExact_bits rfl) ((View.wordExact_bits rfl).reshape _ _)) fun _ => k

/-- How many batches the last words say there are. -/
def lastW (r : Σ' (_ : BitVec 32) (_ : BitVec 1), BitVec 1) : BitVec 32 := Scalar.select (Scalar.andi r.2.1 r.2.2) (Scalar.subi r.1 1#32) r.1

/-- The last batches, of what is left and the pads, and the transfer of the result. -/
def lastPart (q : BitVec 32) (h : k0_chk35 q) (hr : RowsOk (k0_t8_loop q).trips) (nf : BitVec 32) (body : Fin (k0_t10_loop q).trips → PUnit → Prog (EffAt F i) PUnit) : Prog (EffAt F i) PUnit :=
  batchesK (msgs mS) A R SS LS r0.sem r1.sem inb_S128x128_S64x128_0_0 inb_S128x128_S64x128_64_0 (someW nf) ![0] inb_S3272_S64_0
    (k0_t8_loop q) (k0_t8_ok q h) (k0_cond12 q) (k0_cond13 q) (k0_cond14 q) (k0_off540 q) (k0_off541 q) (k0_off540_inb q h) (k0_off541_inb q h) k0_t9_ok
    (k0_off544 q) (k0_off544_inb q h) (fun n => bankW n.val) hr (k0_t10_loop q) (k0_t10_ok q h) body
    (sendK i oS A sd (.ret ⟨⟩))

set_option maxHeartbeats 4000000 in
set_option maxRecDepth 100000 in
theorem body_eq : ∃ K,
    cc0__segmax_sc (F := F) i e he mS hm oS ho5 I5 h5 SS h6 LS h7 R h8 A h9 s0 s1 r0 r1 sd = (k0_part131 (F := F) i e he mS hm oS ho5 I5 h5 SS h6 LS h7 R h8 A h9 s0 s1 r0 r1 sd >>= K) ∧
    ∀ (q : BitVec 32) (h : k0_chk35 q) (hr : RowsOk (k0_t8_loop q).trips), ∃ K2,
    K ⟨q, h, broadcast S16 0#32⟩ = k0_part132 (F := F) i e he mS hm oS ho5 I5 h5 SS h6 LS h7 R h8 A h9 s0 s1 r0 r1 sd q h (broadcast S16 0#32) >>= K2 ∧
    ∀ v1 v2 v3, ∃ body, K2 ⟨v1, v2, v3⟩ = lastPart i mS oS SS LS R A r0 r1 sd q h hr (lastW ⟨v1, v2, v3⟩) body := ⟨_, rfl, fun _ _ _ => ⟨_, rfl, fun _ _ _ => ⟨_, rfl⟩⟩⟩

end Cert.SegMax
-- ==== Proof.Chunk.lean ====
module

public import proofs.«01_k».proof.Proof.Gen.KernelIdeal
public import proofs.«01_k».proof.Proof.Parts

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## A chunk of edges: fetched, scanned, and its full batches taken in -/

open Cert.KernelIdeal

section Words

theorem t2_trips : k0_t2_loop.trips = 50 := by decide
theorem cond1_iff : ∀ t : Fin k0_t2_loop.trips, k0_cond1 t = 1#1 ↔ t.val % 2 = 0 := by decide +kernel
theorem cond2_iff : ∀ t : Fin k0_t2_loop.trips, k0_cond2 t = 1#1 ↔ t.val + 1 < 50 := by decide +kernel
theorem cond3_iff : ∀ t : Fin k0_t2_loop.trips, k0_cond3 t = 1#1 ↔ (t.val + 1) % 2 = 0 := by decide +kernel
theorem off14_0 : ∀ n : Fin 52, (Scalar.indexCast (fmod (Scf.iv 0#32 1#32 n.val))).toNat = n.val % 2 := by decide +kernel
theorem off14_2 : ∀ t : Fin k0_t3_loop.trips, (Scalar.indexCast (Scalar.muli (Scf.iv 0#32 1#32 t.val) 16#32)).toNat = 16 * t.val := by decide +kernel

theorem off14_eq (t : Fin k0_t2_loop.trips) (t3 : Fin k0_t3_loop.trips) : k0_off14 t t3 = ![t.val % 2, 1, 16 * t3.val] := by
  have e : k0_off14 t t3 = ![(Scalar.indexCast (fmod (Scf.iv 0#32 1#32 t.val))).toNat, 1, (Scalar.indexCast (Scalar.muli (Scf.iv 0#32 1#32 t3.val) 16#32)).toNat] := rfl
  have ht : t.val < 52 := by have := t.isLt; have := t2_trips; omega
  rw [e, off14_0 ⟨t.val, ht⟩, off14_2 t3]
theorem off15_eq (t : Fin k0_t2_loop.trips) (t3 : Fin k0_t3_loop.trips) : k0_off15 t t3 = ![t.val % 2, 0, 16 * t3.val] := by
  have e : k0_off15 t t3 = ![(Scalar.indexCast (fmod (Scf.iv 0#32 1#32 t.val))).toNat, 0, (Scalar.indexCast (Scalar.muli (Scf.iv 0#32 1#32 t3.val) 16#32)).toNat] := rfl
  have ht : t.val < 52 := by have := t.isLt; have := t2_trips; omega
  rw [e, off14_0 ⟨t.val, ht⟩, off14_2 t3]

theorem sel_mem {E : ℕ → Edge} {n : ℕ} {x : Edge} (h : x ∈ sel E n) : x.2 < 640 ∧ ∃ k, x = E k := by
  induction n with
  | zero => exact absurd h List.not_mem_nil
  | succ n ih =>
    rcases List.mem_append.mp h with h | h
    · exact ih h
    · by_cases hc : (E n).2 < 640
      · rw [if_pos hc] at h
        obtain rfl := List.mem_singleton.mp h
        exact ⟨hc, n, rfl⟩
      · rw [if_neg hc] at h; exact absurd h List.not_mem_nil

theorem rows_ok {T : ℕ} (hT : T ≤ 52) : RowsOk T := fun n t l c =>
  group_inR (bank_word (by have := n.isLt; omega)) (by omega) t.val (Nat.lt_of_lt_of_eq t.isLt group_trips) l c

end Words

variable {Ix : Type} [DecidableEq Ix] {F : FTy → Type} [FloatOps F] {Name : Type} [DecidableEq Name]
variable {U : Type} [URA U] {Lvl : Type} [Preorder Lvl]
variable {defs : Defs nD τ sig (Elt F) Λ₀} (EC : UEmb Counters (MT nD τ sig Ix (Elt F) Name U Lvl)) (𝒱 : Variants) (d : Dev nD) (bd : Option 𝒱.V)
variable [Facts]
open Facts₀ Facts

variable (i : grid0.Coords) {e : Memref sig .scVector .hbm S2x320000 .i32} {he : e.IsWhole} {mS : Memref sig .scVector .hbm S10240x128 .f32} {hm : mS.IsWhole}
variable {oS : Memref sig .scVector .hbm S2x10240x128 .f32} {ho5 : oS.IsWhole} {I5 : Memref sig .scVector .vmem S2x2x3200 .i32} {h5 : I5.IsWhole}
variable {SS : Memref sig .scVector .vmem S3272 .i32} {h6 : SS.IsWhole} {LS : Memref sig .scVector .vmem S3272 .i32} {h7 : LS.IsWhole}
variable {R : Memref sig .scVector .vmem S128x128 .f32} {h8 : R.IsWhole} {A : Memref sig .scVector .vmem S641x128 .f32} {h9 : A.IsWhole} {s0 s1 r0 r1 sd : DmaSems sig S_}
variable {fi : e.view.ty.Contents (Elt F)} {qi : PosShare TreeShare} {ι : Ix} {w : ℕ → ℕ → BitVec 32} {O : CellTallies nD τ sig Ix} {W : Waits sig Ix}
variable {fm : (msgs mS).view.ty.Contents (Elt F)} {qm : PosShare TreeShare} {M : ℕ → Fin 128 → F .f32}

local notation "𝕄" => MT nD τ sig Ix (Elt F) Name U Lvl
local notation "WP" => wp frame (wpE defs 𝒱 ((d, Proc.scVector (Fin.castLE hcore0 (i 0)) (Fin.castLE hsub0 (i 1))) : Thread nD τ) bd) Set.univ

/-- The edges the tile `i` reads, rows counted from its first. -/
def edgesOf (w : ℕ → ℕ → BitVec 32) (i : grid0.Coords) : ℕ → Edge :=
  edges (fun k => w 0 (160000 * (i 0).val + k)) (fun k => w 1 (160000 * (i 0).val + k)) (loW i)

/-- The edges the tile keeps of its first `n`. -/
abbrev kept (w : ℕ → ℕ → BitVec 32) (i : grid0.Coords) (n : ℕ) : List Edge := sel (edgesOf w i) n

/-- The index halves before chunk `n`. -/
abbrev halvesI (EC : UEmb Counters 𝕄) (d : Dev nD) (i : grid0.Coords) (e : Memref sig .scVector .hbm S2x320000 .i32) (I5 : Memref sig .scVector .vmem S2x2x3200 .i32)
    (fi : e.view.ty.Contents (Elt F)) (qi : PosShare TreeShare) (s0 s1 : DmaSems sig S_) (ι : Ix) (w : ℕ → ℕ → BitVec 32) (n : ℕ) : sProp 𝕄 :=
  halvesAt EC d (Fin.castLE hcore0 (i 0)) (Fin.castLE hsub0 (i 1)) e I5 fi qi inb_S2x2x3200_S1x2x3200_0_0_0 inb_S2x2x3200_S1x2x3200_1_0_0 s0.sem s1.sem ι w (160000 * (i 0).val) n

local notation "AC" => Fin.castLE hcore0 (i 0)
local notation "BC" => Fin.castLE hsub0 (i 1)

theorem own_imp {a : Fin τ.nSC} {b : Fin τ.nSub} {s : Shape} {ty : EltTy} {m : Memref sig .scVector .vmem s ty} {P P' : (s.Idx → Elt F ty) → Prop} (h : ∀ g, P g → P' g) :
    (own d a b m P : sProp 𝕄) ⊢ own d a b m P' := by
  unfold own
  iintro ⟨%f, H, %hf⟩
  iexists f
  isplitl [H]
  · iexact H
  · ipureintro; exact h _ hf

theorem wp_scanPart [Infinite Name] [EC.LandsIn (upEmb : UEmb _ 𝕄)] {X : sProp 𝕄} {t : Fin k0_t2_loop.trips} {q : BitVec 32} {P : ℕ} {α : Type}
    {k : (q' : BitVec 32) → k0_chk2 q' → Prog (EffAt F i) α} {Q : α → sProp 𝕄}
    (hcr : ∀ p hp, 0 < (half I5 p hp).view.dmaCredit) (hw : ∀ ix : ShE.Idx, e.view.read (Elt F) fi ix = w (ix 0).val (ix 1).val)
    (hq : q.toNat + P = (kept w i (3200 * t.val)).length) (hq' : q.toNat < 64)
    (hk : ∀ q' h, q'.toNat + P = (kept w i (3200 * (t.val + 1))).length → q'.toNat < 3264 →
      iprop(own d AC BC SS (ListAt (((kept w i (3200 * (t.val + 1))).drop P).map Prod.fst)) ∗ own d AC BC LS (ListAt (((kept w i (3200 * (t.val + 1))).drop P).map Prod.snd))
        ∗ halvesI EC d i e I5 fi qi s0 s1 ι w (t.val + 1) ∗ owing d AC BC ι O W ∗ X) ⊢ WP (k q' h) Q) :
    iprop(own d AC BC SS (ListAt (((kept w i (3200 * t.val)).drop P).map Prod.fst)) ∗ own d AC BC LS (ListAt (((kept w i (3200 * t.val)).drop P).map Prod.snd))
        ∗ halvesI EC d i e I5 fi qi s0 s1 ι w t.val ∗ owing d AC BC ι O W ∗ X)
      ⊢ WP (scanPart i e I5 SS LS s0 s1 (loW i) t q k) Q := by
  have ht : t.val < 50 := by have := t.isLt; have := t2_trips; omega
  unfold scanPart
  refine BIBase.Entails.trans ?_ (wp_turnK (defs := defs) EC 𝒱 d _ _ bd (h0 := inb_S2x2x3200_S1x2x3200_0_0_0) (h1 := inb_S2x2x3200_S1x2x3200_1_0_0) (fi := fi) (qi := qi) (ι := ι) (w := w) (c := 160000 * (i 0).val) (O := O) (W := W) (n := t.val) ht hcr hw
    (cond1_iff t) (cond2_iff t) (cond3_iff t) ((Gen.k0_off12_eq i t).trans ?_) ((Gen.k0_off13_eq i t).trans ?_)
    (X := iprop(own d AC BC SS (ListAt (((kept w i (3200 * t.val)).drop P).map Prod.fst)) ∗ own d AC BC LS (ListAt (((kept w i (3200 * t.val)).drop P).map Prod.snd)) ∗ X)) ?_)
  · iintro ⟨H1, H2, H3, H4, H5⟩
    isplitl [H3]; · iexact H3
    isplitl [H4]; · iexact H4
    isplitl [H1]; · iexact H1
    isplitl [H2]; · iexact H2
    iexact H5
  · rw [show 160000 * (i 0).val + 3200 * t.val + 3200 = 160000 * (i 0).val + 3200 * (t.val + 1) by omega]
  · rw [show 160000 * (i 0).val + 3200 * t.val + 3200 = 160000 * (i 0).val + 3200 * (t.val + 1) by omega]
  unfold atHand
  iintro ⟨⟨%S, %f, %hS, Hf, Hb⟩, Ho, HS, HL, HX⟩
  have hscan := wp_scanLoop (defs := defs) (Ix := Ix) (Name := Name) (U := U) (Lvl := Lvl) 𝒱 d AC BC bd (I5 := I5) (SS := SS) (LS := LS) (lo := loW i) (S := S) (q5 := fullShare) (f5 := f) (ok := k0_t3_ok) (q0 := q)
    (hd := k0_off14_inb t) (hs := k0_off15_inb t) (lp := k0_t3_loop) (by decide) (fun k => w 0 (160000 * (i 0).val + k)) (fun k => w 1 (160000 * (i 0).val + k)) (3200 * t.val) (t.val % 2) (P := P)
    (X := iprop(((I5.view.loc ((d, Proc.scVector AC BC) : Thread nD τ) ↦[S]{fullShare} f) -∗ halvesI EC d i e I5 fi qi s0 s1 ι w (t.val + 1)) ∗ owing d AC BC ι O W ∗ X))
    (off14_eq t) (off15_eq t) hS.1 (fun ix h0 h1 => (hS.2 ix h0).trans (by rw [h1, Nat.add_assoc])) (fun ix h0 h1 => (hS.2 ix h0).trans (by rw [h1, Nat.add_assoc])) hq hq'
    (kk := fun q' => .op (.assume (k0_chk2 q') (k0_chk2.dec q')) fun h => k q' h.down) (Q := Q) ?_
  · iapply hscan
    isplitl [HS]; · iexact HS
    isplitl [HL]; · iexact HL
    isplitl [Hf]; · iexact Hf
    isplitl [Hb]; · iexact Hb
    isplitl [Ho]; · iexact Ho
    iexact HX
  · intro q' hl hlt
    have hc : k0_chk2 q' := chk2_of (by omega)
    refine BIBase.Entails.trans ?_ (wp_assume (Γ := .empty) 𝒱 _ bd Set.univ hc)
    refine BIBase.Entails.trans ?_ (hk q' hc hl (by omega))
    iintro ⟨HS, HL, Hf, Hb, Ho, HX⟩
    isplitl [HS]; · iexact HS
    isplitl [HL]; · iexact HL
    isplitl [Hb Hf]; · iapply Hb; iexact Hf
    isplitl [Ho]; · iexact Ho
    iexact HX

/-- The two lists are moved down by sixteen entries more. -/
theorem wp_moves2 {a : Fin τ.nSC} {b : Fin τ.nSub} {X : sProp 𝕄} {ls ll : List ℕ} {n : ℕ} (j : ℕ) {o o' p p' : Fin 1 → ℕ} {ho : InL o} {ho' : InL o'} {hp : InL p} {hp' : InL p'} {α : Type}
    {k : Prog (TpuEff nD τ sig (Elt F) Λ₀ (Proc.scVector a b)) α} {Q : α → sProp 𝕄} (h0 : o 0 = n + 16 * j) (h1 : o' 0 = 16 * j) (h2 : p 0 = n + 16 * j) (h3 : p' 0 = 16 * j)
    (hk : iprop(own d a b SS (Moved ls n (j + 1)) ∗ own d a b LS (Moved ll n (j + 1)) ∗ X) ⊢ wp frame (wpE defs 𝒱 ((d, Proc.scVector a b) : Thread nD τ) bd) Set.univ k Q) :
    iprop(own d a b SS (Moved ls n j) ∗ own d a b LS (Moved ll n j) ∗ X)
      ⊢ wp frame (wpE defs 𝒱 ((d, Proc.scVector a b) : Thread nD τ) bd) Set.univ (moveK SS o o' ho ho' (moveK LS p p' hp hp' k)) Q := by
  refine wp_moveK 𝒱 d a b bd j h0 h1 (BIBase.Entails.trans sep_left_comm.1 (wp_moveK 𝒱 d a b bd j h2 h3 (BIBase.Entails.trans sep_left_comm.1 hk)))

/-- How many entries the full batches of `q` are. -/
abbrev full (q : BitVec 32) : ℕ := 64 * (q.toNat / 64)

/-- The state between chunks but for the chunk's own. -/
abbrev poolI (d : Dev nD) (i : grid0.Coords) (mS : Memref sig .scVector .hbm S10240x128 .f32) (A : Memref sig .scVector .vmem S641x128 .f32) (R : Memref sig .scVector .vmem S128x128 .f32)
    (SS LS : Memref sig .scVector .vmem S3272 .i32) (fm : (msgs mS).view.ty.Contents (Elt F)) (qm : PosShare TreeShare) (r0 r1 : DmaSems sig S_) (ι : Ix) (O : CellTallies nD τ sig Ix) (W : Waits sig Ix)
    (M : ℕ → Fin 128 → F .f32) (l0 l : List Edge) (X : sProp 𝕄) : sProp 𝕄 :=
  pool d (Fin.castLE hcore0 (i 0)) (Fin.castLE hsub0 (i 1)) (msgs mS) A R SS LS fm qm r0.sem r1.sem inb_S128x128_S64x128_0_0 inb_S128x128_S64x128_64_0 ι O W M l0 l X

theorem wp_part66 [Infinite Name] [EC.LandsIn (upEmb : UEmb _ 𝕄)] {X : sProp 𝕄} {q : BitVec 32} {hq : k0_chk2 q} {l0 l : List Edge} {Q : (Σ' (_ : BitVec 32), BitVec 32) → sProp 𝕄}
    (hlen : q.toNat = l.length) (hlt : q.toNat < 3264)
    (hcr : ∀ s' : Shape, sig.dmaCredit .scVector (Kind.scVector.table .vmem) R.view.buf s' .f32 = s'.numel * EltTy.bits .f32)
    (hM : ∀ ix : ShM.Idx, (msgs mS).view.read (Elt F) fm ix = M (ix 0).val (ix 1)) (hE : ∀ e ∈ l, e.1 < 10240 ∧ e.2 ≤ 640)
    (hk : ∀ w', iprop(own d AC BC SS (Moved (l.map Prod.fst) (full q) 3) ∗ own d AC BC LS (Moved (l.map Prod.snd) (full q) 2) ∗ own d AC BC A (IsAcc M (l0 ++ l.take (full q)))
        ∗ rest d AC BC (msgs mS) R fm qm.left 0 inb_S128x128_S64x128_0_0 r0.sem ∗ rest d AC BC (msgs mS) R fm qm.right 64 inb_S128x128_S64x128_64_0 r1.sem ∗ owing d AC BC ι O W ∗ X) ⊢ Q ⟨fdiv q, w'⟩) :
    poolI d i mS A R SS LS fm qm r0 r1 ι O W M l0 l X
      ⊢ WP (k0_part66 (F := F) i e he mS hm oS ho5 I5 h5 SS h6 LS h7 R h8 A h9 s0 s1 r0 r1 sd q hq (Scalar.divsi q 64#32) (signW q) (Scalar.remsi q 64#32) 0#32) Q := by
  have hnf : q.toNat / 64 < 52 := by omega
  have hf : fdiv q = BitVec.ofNat 32 (q.toNat / 64) := fdiv_eq (by omega)
  obtain ⟨htr, -, htr6, -⟩ := chk2_trips hlt
  have hn : ∀ n : Fin (k0_t4_loop q).trips, n.val < 52 := fun n => by have := n.isLt; omega
  obtain ⟨body, w', he'⟩ := part66_eq (F := F) i e he mS hm oS ho5 I5 h5 SS h6 LS h7 R h8 A h9 s0 s1 r0 r1 sd q hq (rows_ok (by omega))
  rw [he']
  refine wp_batchesK (defs := defs) EC 𝒱 d _ _ bd (q.toNat / 64) htr htr6 hcr hM (by rw [hf]; exact some_table ⟨q.toNat / 64, hnf⟩) rfl
    (fun n => by rw [show k0_cond5 q n = moreW (fdiv q) n.val from rfl, hf]; exact more_iff hnf (hn n)) (fun n => (even_table ⟨n.val, hn n⟩).1) (fun n => (even_table ⟨n.val, hn n⟩).2.1)
    (fun n => next_word (hn n)) (fun n => next_word (hn n)) (fun n => bank_word (hn n))
    (fun n t => group_table ⟨n.val, hn n⟩ ⟨t.val, Nat.lt_of_lt_of_eq t.isLt group_trips⟩) (by omega) hE ?_
  unfold pool movesPart
  have o538 : ∀ c < 4, k0_off538 q (BitVec.ofNat 32 (16 * c)) 0 = full q + 16 * c := fun c hc => off538_eq hlt hc
  refine BIBase.Entails.trans (BIClass.sep_mono (own_imp d fun g h => h.moved (full q)) (sep_mono_left (own_imp d fun g h => h.moved (full q)))) ?_
  refine wp_moves2 𝒱 d bd 0 (o538 0 (by omega)) rfl (o538 0 (by omega)) rfl (wp_moves2 𝒱 d bd 1 (o538 1 (by omega)) rfl (o538 1 (by omega)) rfl (wp_moveK 𝒱 d _ _ bd 2 (o538 2 (by omega)) rfl ?_))
  rw [wp_ret]
  exact (hk w').trans fupd_intro

/-- Between chunks: of the edges kept so far all but the last `q` are taken in, and these wait in the lists. -/
def chunkInv (EC : UEmb Counters 𝕄) (d : Dev nD) (i : grid0.Coords) (e : Memref sig .scVector .hbm S2x320000 .i32) (mS : Memref sig .scVector .hbm S10240x128 .f32)
    (I5 : Memref sig .scVector .vmem S2x2x3200 .i32) (SS LS : Memref sig .scVector .vmem S3272 .i32) (R : Memref sig .scVector .vmem S128x128 .f32) (A : Memref sig .scVector .vmem S641x128 .f32)
    (s0 s1 r0 r1 : DmaSems sig S_) (fi : e.view.ty.Contents (Elt F)) (qi : PosShare TreeShare) (fm : (msgs mS).view.ty.Contents (Elt F)) (qm : PosShare TreeShare)
    (ι : Ix) (O : CellTallies nD τ sig Ix) (W : Waits sig Ix) (w : ℕ → ℕ → BitVec 32) (M : ℕ → Fin 128 → F .f32) (n : ℕ) (q : BitVec 32) : sProp 𝕄 :=
  iprop(∃ P : ℕ, ⌜q.toNat + P = (kept w i (3200 * n)).length ∧ q.toNat < 64⌝
    ∗ poolI d i mS A R SS LS fm qm r0 r1 ι O W M ((kept w i (3200 * n)).take P) ((kept w i (3200 * n)).drop P) (halvesI EC d i e I5 fi qi s0 s1 ι w n))

theorem left_word {q : BitVec 32} (h : q.toNat < 3264) : (Scalar.subi q (Scalar.muli (fdiv q) 64#32)).toNat = q.toNat % 64 := by
  rw [fdiv_eq (by omega)]
  change (q - BitVec.ofNat 32 (q.toNat / 64) * 64#32).toNat = _
  simp only [BitVec.toNat_sub, BitVec.toNat_mul, BitVec.toNat_ofNat]
  omega

theorem wp_chunk [Infinite Name] [EC.LandsIn (upEmb : UEmb _ 𝕄)] {t : Fin k0_t2_loop.trips} {q : BitVec 32}
    (hcr5 : ∀ p hp, 0 < (half I5 p hp).view.dmaCredit) (hw : ∀ ix : ShE.Idx, e.view.read (Elt F) fi ix = w (ix 0).val (ix 1).val)
    (hcr : ∀ s' : Shape, sig.dmaCredit .scVector (Kind.scVector.table .vmem) R.view.buf s' .f32 = s'.numel * EltTy.bits .f32)
    (hM : ∀ ix : ShM.Idx, (msgs mS).view.read (Elt F) fm ix = M (ix 0).val (ix 1)) (hs : ∀ k, (w 0 k).toNat < 10240) :
    chunkInv EC d i e mS I5 SS LS R A s0 s1 r0 r1 fi qi fm qm ι O W w M t.val q
      ⊢ WP (chunk (F := F) i e he mS hm oS ho5 I5 h5 SS h6 LS h7 R h8 A h9 s0 s1 r0 r1 sd t q) (fun q' => chunkInv EC d i e mS I5 SS LS R A s0 s1 r0 r1 fi qi fm qm ι O W w M (t.val + 1) q') := by
  unfold chunkInv
  iintro ⟨%P, %hP, HI⟩
  have key : poolI d i mS A R SS LS fm qm r0 r1 ι O W M ((kept w i (3200 * t.val)).take P) ((kept w i (3200 * t.val)).drop P) (halvesI EC d i e I5 fi qi s0 s1 ι w t.val)
      ⊢ WP (chunk (F := F) i e he mS hm oS ho5 I5 h5 SS h6 LS h7 R h8 A h9 s0 s1 r0 r1 sd t q) (fun q' => chunkInv EC d i e mS I5 SS LS R A s0 s1 r0 r1 fi qi fm qm ι O W w M (t.val + 1) q') := by
    unfold chunk
    rw [wp_bind, part65_eq]
    refine BIBase.Entails.trans ?_ (wp_scanPart (defs := defs) EC 𝒱 d bd i (fi := fi) (qi := qi) (O := O) (W := W) (ι := ι) (P := P) hcr5 hw hP.1 hP.2
      (X := iprop(own d AC BC A (IsAcc M ((kept w i (3200 * t.val)).take P)) ∗ rest d AC BC (msgs mS) R fm qm.left 0 inb_S128x128_S64x128_0_0 r0.sem ∗ rest d AC BC (msgs mS) R fm qm.right 64 inb_S128x128_S64x128_64_0 r1.sem)) ?_)
    · unfold poolI pool
      iintro ⟨H1, H2, H3, H4, H5, H6, H7⟩
      isplitl [H1]; · iexact H1
      isplitl [H2]; · iexact H2
      isplitl [H7]; · iexact H7
      isplitl [H6]; · iexact H6
      isplitl [H3]; · iexact H3
      isplitl [H4]; · iexact H4
      iexact H5
    · intro q' hq' hl hlt
      rw [wp_ret]
      refine BIBase.Entails.trans ?_ fupd_intro
      dsimp only
      rw [wp_bind]
      obtain ⟨S, hS, -⟩ := sel_mono (edgesOf w i) (3200 * t.val) 3200
      have hS' : kept w i (3200 * (t.val + 1)) = kept w i (3200 * t.val) ++ S := hS
      have hPl : P ≤ (kept w i (3200 * t.val)).length := by omega
      refine BIBase.Entails.trans ?_ (wp_part66 (defs := defs) EC 𝒱 d bd i (X := halvesI EC d i e I5 fi qi s0 s1 ι w (t.val + 1)) (l0 := (kept w i (3200 * t.val)).take P)
        (l := (kept w i (3200 * (t.val + 1))).drop P) (M := M) (fm := fm) (qm := qm) (O := O) (W := W) (ι := ι) (by rw [List.length_drop]; omega) hlt hcr hM ?_ ?_)
      · unfold poolI pool
        iintro ⟨H1, H2, H3, H4, H5, H6, H7⟩
        isplitl [H1]; · iexact H1
        isplitl [H2]; · iexact H2
        isplitl [H5]; · iexact H5
        isplitl [H6]; · iexact H6
        isplitl [H7]; · iexact H7
        isplitl [H4]; · iexact H4
        iexact H3
      · intro x hx
        obtain ⟨h2, k, rfl⟩ := sel_mem (List.mem_of_mem_drop hx)
        exact ⟨hs _, by omega⟩
      · intro w'
        dsimp only
        unfold movesRest
        have o538 : ∀ c < 4, k0_off538 q' (BitVec.ofNat 32 (16 * c)) 0 = full q' + 16 * c := fun c hc => off538_eq hlt hc
        refine BIBase.Entails.trans sep_left_comm.1 (wp_moveK 𝒱 d _ _ bd 2 (o538 2 (by omega)) rfl (BIBase.Entails.trans sep_left_comm.1
          (wp_moves2 𝒱 d bd 3 (o538 3 (by omega)) rfl (o538 3 (by omega)) rfl ?_)))
        rw [wp_ret]
        refine BIBase.Entails.trans ?_ fupd_intro
        unfold chunkInv poolI pool
        have hfull : ((kept w i (3200 * (t.val + 1))).drop P).length ≤ full q' + 64 := by rw [List.length_drop]; simp only [full]; omega
        have hacc : (kept w i (3200 * t.val)).take P ++ ((kept w i (3200 * (t.val + 1))).drop P).take (full q') = (kept w i (3200 * (t.val + 1))).take (P + full q') := by
          rw [List.take_add, hS', List.take_append_of_le_length hPl]
        have hd : ((kept w i (3200 * (t.val + 1))).drop P).drop (full q') = (kept w i (3200 * (t.val + 1))).drop (P + full q') := List.drop_drop
        have h1 : ∀ (f : Edge → ℕ) g, Moved (((kept w i (3200 * (t.val + 1))).drop P).map f) (full q') (3 + 1) g → ListAt (((kept w i (3200 * (t.val + 1))).drop (P + full q')).map f) g := fun f g hg => by
          have h2 := Moved.listAt hg (by rw [List.length_map]; exact hfull)
          rw [← List.map_drop, hd] at h2
          exact h2
        rw [hacc]
        iintro ⟨H1, H2, H3, H4, H5, H6, H7⟩
        iexists (P + full q')
        isplitr
        · ipureintro
          rw [left_word hlt]; simp only [full]; omega
        isplitl [H1]
        · iapply (own_imp d (h1 Prod.fst)); iexact H1
        isplitl [H2]
        · iapply (own_imp d (h1 Prod.snd)); iexact H2
        isplitl [H3]; · iexact H3
        isplitl [H4]; · iexact H4
        isplitl [H5]; · iexact H5
        isplitl [H6]; · iexact H6
        iexact H7
  iapply key
  iexact HI

end Cert.SegMax
-- ==== Proof.Tile.lean ====
module

public import proofs.«01_k».proof.Proof.Gen.KernelIdeal
public import proofs.«01_k».proof.Proof.Chunk

@[expose] public section

noncomputable section

namespace Cert.SegMax

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The tile's run -/

open Cert.KernelIdeal

/-- The entries that fill a batch up: edges from row 0 into the row no tile sends. -/
abbrev padded (l : List Edge) (n : ℕ) : List Edge := l ++ List.replicate (16 * n) (0, 640)

theorem padded_len (l : List Edge) (n : ℕ) : (padded l n).length = l.length + 16 * n := by simp

theorem padded_succ (l : List Edge) (n : ℕ) : padded l (n + 1) = padded l n ++ List.replicate 16 (0, 640) := by
  unfold padded
  rw [List.append_assoc, ← List.replicate_add]
  rfl

/-- Entries past the kept edges leave the rows sent alone. -/
theorem acc_padded {F : FTy → Type} [FloatOps F] (M : ℕ → Fin 128 → F .f32) {S : List Edge} {P n m : ℕ} (h : S.length ≤ P + n) {r : ℕ} (hr : r < 640) (k : Fin 128) :
    acc M (S.take P ++ (padded (S.drop P) m).take n) r k = acc M S r k := by
  have h1 : (padded (S.drop P) m).take n = S.drop P ++ (List.replicate (16 * m) (0, 640)).take (n - (S.drop P).length) := by
    rw [List.take_append, List.take_of_length_le (by rw [List.length_drop]; omega)]
  rw [h1, ← List.append_assoc, List.take_append_drop]
  unfold acc
  rw [List.filter_append]
  have h2 : ((List.replicate (16 * m) ((0, 640) : Edge)).take (n - (S.drop P).length)).filter (fun e => decide (e.2 = r)) = [] := by
    rw [List.filter_eq_nil_iff]
    intro e he
    have := List.eq_of_mem_replicate (List.mem_of_mem_take he)
    subst this
    simp; omega
  rw [h2, List.append_nil]

theorem t1_trips : k0_t1_loop.trips = 641 := by decide

variable {Ix : Type} [DecidableEq Ix] {F : FTy → Type} [FloatOps F] {Name : Type} [DecidableEq Name]
variable {U : Type} [URA U] {Lvl : Type} [Preorder Lvl]
variable {defs : Defs nD τ sig (Elt F) Λ₀} (EC : UEmb Counters (MT nD τ sig Ix (Elt F) Name U Lvl)) (𝒱 : Variants) (d : Dev nD) (bd : Option 𝒱.V)
variable [Facts]
open Facts₀ Facts

variable (i : grid0.Coords) {e : Memref sig .scVector .hbm S2x320000 .i32} {he : e.IsWhole} {mS : Memref sig .scVector .hbm S10240x128 .f32} {hm : mS.IsWhole}
variable {oS : Memref sig .scVector .hbm S2x10240x128 .f32} {ho5 : oS.IsWhole} {I5 : Memref sig .scVector .vmem S2x2x3200 .i32} {h5 : I5.IsWhole}
variable {SS : Memref sig .scVector .vmem S3272 .i32} {h6 : SS.IsWhole} {LS : Memref sig .scVector .vmem S3272 .i32} {h7 : LS.IsWhole}
variable {R : Memref sig .scVector .vmem S128x128 .f32} {h8 : R.IsWhole} {A : Memref sig .scVector .vmem S641x128 .f32} {h9 : A.IsWhole} {s0 s1 r0 r1 sd : DmaSems sig S_}
variable {fi : e.view.ty.Contents (Elt F)} {qi : PosShare TreeShare} {ι : Ix} {w : ℕ → ℕ → BitVec 32} {O : CellTallies nD τ sig Ix} {W : Waits sig Ix}
variable {fm : (msgs mS).view.ty.Contents (Elt F)} {qm : PosShare TreeShare} {M : ℕ → Fin 128 → F .f32}

local notation "𝕄" => MT nD τ sig Ix (Elt F) Name U Lvl
local notation "WP" => wp frame (wpE defs 𝒱 ((d, Proc.scVector (Fin.castLE hcore0 (i 0)) (Fin.castLE hsub0 (i 1))) : Thread nD τ) bd) Set.univ
local notation "AC" => Fin.castLE hcore0 (i 0)
local notation "BC" => Fin.castLE hsub0 (i 1)
local notation "B0" => inb_S128x128_S64x128_0_0
local notation "B1" => inb_S128x128_S64x128_64_0

/-- The accumulator is cleared, row by row. -/
theorem wp_clear {X : sProp 𝕄} {β : Type} {kk : PUnit → Prog (EffAt F i) β} {Q : β → sProp 𝕄}
    (hk : iprop(own d AC BC A (IsAcc M []) ∗ X) ⊢ WP (kk ⟨⟩) Q) :
    iprop(own d AC BC A (fun _ => True) ∗ X) ⊢ WP (k0_t1_loop.for k0_t1_ok ⟨⟩ (fun t _ => zeroRow i A t) >>= kk) Q := by
  refine BIBase.Entails.trans (sep_mono_left (own_imp d (P' := Zeroed (F := F) 0 0) fun g _ ix h => absurd h (by omega))) ?_
  refine wp_loop_bind 𝒱 d _ _ bd t1_trips (fun n _ => iprop(own d AC BC A (Zeroed (F := F) n 0) ∗ X)) (fun t _ => ?_) (fun _ => ?_)
  · unfold zeroRow
    refine wp_zeroK 𝒱 d _ _ bd 0 (congrFun (Gen.k0_off1_eq t) 0) (congrFun (Gen.k0_off1_eq t) 1) ?_
    refine wp_zeroK 𝒱 d _ _ bd 1 (congrFun (Gen.k0_off2_eq t) 0) (congrFun (Gen.k0_off2_eq t) 1) ?_
    refine wp_zeroK 𝒱 d _ _ bd 2 (congrFun (Gen.k0_off3_eq t) 0) (congrFun (Gen.k0_off3_eq t) 1) ?_
    refine wp_zeroK 𝒱 d _ _ bd 3 (congrFun (Gen.k0_off4_eq t) 0) (congrFun (Gen.k0_off4_eq t) 1) ?_
    refine wp_zeroK 𝒱 d _ _ bd 4 (congrFun (Gen.k0_off5_eq t) 0) (congrFun (Gen.k0_off5_eq t) 1) ?_
    refine wp_zeroK 𝒱 d _ _ bd 5 (congrFun (Gen.k0_off6_eq t) 0) (congrFun (Gen.k0_off6_eq t) 1) ?_
    refine wp_zeroK 𝒱 d _ _ bd 6 (congrFun (Gen.k0_off7_eq t) 0) (congrFun (Gen.k0_off7_eq t) 1) ?_
    refine wp_zeroK 𝒱 d _ _ bd 7 (congrFun (Gen.k0_off8_eq t) 0) (congrFun (Gen.k0_off8_eq t) 1) ?_
    rw [wp_ret]
    refine BIBase.Entails.trans (sep_mono_left (own_imp d fun g hg ix h => hg ix ?_)) fupd_intro
    have h1 : (ix 1).val < 128 := (ix 1).isLt
    omega
  · refine BIBase.Entails.trans (sep_mono_left (own_imp d fun g hg ix => ?_)) hk
    refine (hg ix (Or.inl ?_)).trans rfl
    exact (ix 0).isLt

/-- Sixteen more entries fill a list up. -/
theorem wp_padK {X : sProp 𝕄} {L : Memref sig .scVector .vmem S3272 .i32} {l : List Edge} (π : Edge → ℕ) (n : ℕ) {o : Fin 1 → ℕ} {ho : InL o} {v : BitVec 32}
    {β : Type} {k : Prog (EffAt F i) β} {Q : β → sProp 𝕄} (hv : v.toNat = π (0, 640)) (ho' : o 0 = l.length + 16 * n)
    (hk : iprop(own d AC BC L (ListAt ((padded l (n + 1)).map π)) ∗ X) ⊢ WP k Q) :
    iprop(own d AC BC L (ListAt ((padded l n).map π)) ∗ X) ⊢ WP (putK L o ho (broadcast S16 v) k) Q := by
  refine wp_putK 𝒱 d _ _ bd (fun g hg => ?_) hk
  have h := hg.pad (F := F) (w := broadcast S16 v) (v := v) (fun _ => rfl) (o := o 0) (by rw [List.length_map, padded_len, ho']) g
  rw [padded_succ, List.map_append, List.map_replicate, ← hv]
  exact h

/-- The transfer of the tile's rows, out and waited for. -/
theorem wp_sendK [Infinite Name] [EC.LandsIn (upEmb : UEmb _ 𝕄)] {X : sProp 𝕄} {V : ℕ → Fin 128 → F .f32} {P : (S641x128.Idx → F .f32) → Prop}
    (hP : ∀ g, P g → ∀ ix : S641x128.Idx, (ix 0).val < 640 → g ix = V (ix 0).val (ix 1))
    (hcr : 0 < (outRows i oS).view.dmaCredit) {β : Type} {k : Prog (EffAt F i) β} {Q : β → sProp 𝕄}
    (hk : iprop(own d AC BC A P ∗ (∃ f, ((outRows i oS).view.loc ((d, Proc.scVector AC BC) : Thread nD τ) ↦[(outRows i oS).view.set]{fullShare} f)
        ∗ ⌜∀ x : S640x128.Idx, (outRows i oS).view.read (Elt F) f x = V (x 0).val (x 1)⌝) ∗ semVal (((d, Proc.scVector AC BC) : Thread nD τ), .dma sd.sem) 0 ∗ owing d AC BC ι O W ∗ X) ⊢ WP k Q) :
    iprop(own d AC BC A P ∗ (∃ f, ((outRows i oS).view.loc ((d, Proc.scVector AC BC) : Thread nD τ) ↦[(outRows i oS).view.set]{fullShare} f))
        ∗ semVal (((d, Proc.scVector AC BC) : Thread nD τ), .dma sd.sem) 0 ∗ owing d AC BC ι O W ∗ X) ⊢ WP (sendK i oS A sd k) Q := by
  have hs : (tileRows A).view.set ⊆ A.view.set := A.view.set_slice_subset _
  have hd := fun fa fo => Transfers.wp_dmaLocal (defs := defs) EC 𝒱 ((d, Proc.scVector AC BC) : Thread nD τ) bd (Q := Q) (src := tileRows A) (dst := outRows i oS) (via := .same) (sm := .dma sd.sem)
    (hsrc := View.wordExact_bits rfl) (hdst := (View.wordExact_bits rfl).reshape _ _) (hsem := ⟨Or.inl rfl, trivial⟩)
    (k := fun _ => .op (.waitDma2 sd.sem (tileRows A) (outRows i oS) (View.wordExact_bits rfl) ((View.wordExact_bits rfl).reshape _ _)) fun _ => k) (q := fullShare) (fs := fa) (fd := fo) (Sd := (outRows i oS).view.set)
    ι ((outRows i oS).view.dmaCredit) rfl hcr (Finset.Subset.refl _)
  have hw := fun fa fo (hf : P (A.view.read (Elt F) fa)) => wp_await (defs := defs) EC 𝒱 d AC BC bd (sem := sd.sem) (srcw := tileRows A) (dstw := outRows i oS) (hsrc := View.wordExact_bits rfl) (hdst := (View.wordExact_bits rfl).reshape _ _)
    (k := fun _ => k) (Q := Q) (ι := ι) (O := O) (W := W) _ rfl
    (D := iprop(((outRows i oS).view.loc ((d, Proc.scVector AC BC) : Thread nD τ) ↦[(outRows i oS).view.set]{fullShare} (outRows i oS).view.write (Elt F) fo ((tileRows A).view.read (Elt F) fa) Finset.univ)
      ∗ (A.view.loc ((d, Proc.scVector AC BC) : Thread nD τ) ↦[(tileRows A).view.set]{fullShare} fa)))
    (X := iprop((A.view.loc ((d, Proc.scVector AC BC) : Thread nD τ) ↦[A.view.set \ (tileRows A).view.set]{fullShare} fa) ∗ X)) (by
      refine BIBase.Entails.trans ?_ hk
      iintro ⟨⟨Ho, Ha⟩, Hs, HO, Ha', HX⟩
      isplitl [Ha Ha']
      · unfold own
        iexists fa
        isplitl [Ha Ha']
        · iapply (pointsTo_split_subset (q := fullShare) (f := fa) hs).2
          isplitl [Ha] <;> iassumption
        · ipureintro; exact hf
      isplitl [Ho]
      · iexists _
        isplitl [Ho]; · iexact Ho
        ipureintro
        intro x
        refine (congrFun (View.read_write_univ (v := (outRows i oS).view) _ _) x).trans ?_
        have h0 : (x 0).val < 640 := (x 0).isLt
        refine (hP _ hf ((Rect.unit (s := S641x128) ![0, 0] S640x128.size inb_S641x128_S640x128_0_0).emb x) ?_).trans ?_
        · show 0 + 1 * (x 0).val < 640; omega
        · congr 1
          · show 0 + 1 * (x 0).val = _; omega
          · apply Fin.ext; show 0 + 1 * (x 1).val = _; omega
      isplitl [Hs]; · iexact Hs
      isplitl [HO] <;> iassumption)
  unfold sendK
  conv_lhs => unfold own
  iintro ⟨⟨%fa, HA, %hf⟩, ⟨%fo, Ho⟩, Hs, HO, HX⟩
  icases (pointsTo_split_subset (q := fullShare) (f := fa) hs) $$ HA with ⟨HA, HA'⟩
  iapply (hd fa fo) $$ [HA Ho Hs]
  · isplitl [HA]; · iexact HA
    isplitl [Ho]; · iexact Ho
    iexact Hs
  iintro HF
  iapply (hw fa fo hf)
  isplitl [HF]; · iexact HF
  isplitl [HO]; · iexact HO
  isplitl [HA'] <;> iassumption

/-- What the tile holds all along, at whatever contents, but for the rows of the result (in `X`). -/
def tileOwn (d : Dev nD) (i : grid0.Coords) (e : Memref sig .scVector .hbm S2x320000 .i32) (mS : Memref sig .scVector .hbm S10240x128 .f32)
    (I5 : Memref sig .scVector .vmem S2x2x3200 .i32) (SS LS : Memref sig .scVector .vmem S3272 .i32) (R : Memref sig .scVector .vmem S128x128 .f32) (A : Memref sig .scVector .vmem S641x128 .f32)
    (s0 s1 r0 r1 sd : DmaSems sig S_) (fi : e.view.ty.Contents (Elt F)) (qi : PosShare TreeShare) (fm : (msgs mS).view.ty.Contents (Elt F)) (qm : PosShare TreeShare)
    (ι : Ix) (O : CellTallies nD τ sig Ix) (W : Waits sig Ix) (X : sProp 𝕄) : sProp 𝕄 :=
  iprop(own d (Fin.castLE hcore0 (i 0)) (Fin.castLE hsub0 (i 1)) A (fun _ => True) ∗ own d (Fin.castLE hcore0 (i 0)) (Fin.castLE hsub0 (i 1)) SS (fun _ => True) ∗ own d (Fin.castLE hcore0 (i 0)) (Fin.castLE hsub0 (i 1)) LS (fun _ => True)
    ∗ rest d (Fin.castLE hcore0 (i 0)) (Fin.castLE hsub0 (i 1)) (msgs mS) R fm qm.left 0 inb_S128x128_S64x128_0_0 r0.sem ∗ rest d (Fin.castLE hcore0 (i 0)) (Fin.castLE hsub0 (i 1)) (msgs mS) R fm qm.right 64 inb_S128x128_S64x128_64_0 r1.sem ∗ owing d (Fin.castLE hcore0 (i 0)) (Fin.castLE hsub0 (i 1)) ι O W
    ∗ free d (Fin.castLE hcore0 (i 0)) (Fin.castLE hsub0 (i 1)) e I5 fi qi.left 0 inb_S2x2x3200_S1x2x3200_0_0_0 s0.sem ∗ free d (Fin.castLE hcore0 (i 0)) (Fin.castLE hsub0 (i 1)) e I5 fi qi.right 1 inb_S2x2x3200_S1x2x3200_1_0_0 s1.sem
    ∗ semVal (((d, Proc.scVector (Fin.castLE hcore0 (i 0)) (Fin.castLE hsub0 (i 1))) : Thread nD τ), .dma sd.sem) 0 ∗ X)

/-- The state when all chunks are scanned: `P` edges taken in, the others listed, `n` and `m` pads behind them. -/
def left (EC : UEmb Counters 𝕄) (d : Dev nD) (i : grid0.Coords) (e : Memref sig .scVector .hbm S2x320000 .i32) (mS : Memref sig .scVector .hbm S10240x128 .f32)
    (I5 : Memref sig .scVector .vmem S2x2x3200 .i32) (SS LS : Memref sig .scVector .vmem S3272 .i32) (R : Memref sig .scVector .vmem S128x128 .f32) (A : Memref sig .scVector .vmem S641x128 .f32)
    (s0 s1 r0 r1 : DmaSems sig S_) (fi : e.view.ty.Contents (Elt F)) (qi : PosShare TreeShare) (fm : (msgs mS).view.ty.Contents (Elt F)) (qm : PosShare TreeShare)
    (ι : Ix) (O : CellTallies nD τ sig Ix) (W : Waits sig Ix) (w : ℕ → ℕ → BitVec 32) (M : ℕ → Fin 128 → F .f32) (P n m : ℕ) (X : sProp 𝕄) : sProp 𝕄 :=
  iprop(own d (Fin.castLE hcore0 (i 0)) (Fin.castLE hsub0 (i 1)) SS (ListAt ((padded ((kept w i 160000).drop P) n).map Prod.fst)) ∗ own d (Fin.castLE hcore0 (i 0)) (Fin.castLE hsub0 (i 1)) LS (ListAt ((padded ((kept w i 160000).drop P) m).map Prod.snd))
    ∗ own d (Fin.castLE hcore0 (i 0)) (Fin.castLE hsub0 (i 1)) A (IsAcc M ((kept w i 160000).take P)) ∗ rest d (Fin.castLE hcore0 (i 0)) (Fin.castLE hsub0 (i 1)) (msgs mS) R fm qm.left 0 inb_S128x128_S64x128_0_0 r0.sem ∗ rest d (Fin.castLE hcore0 (i 0)) (Fin.castLE hsub0 (i 1)) (msgs mS) R fm qm.right 64 inb_S128x128_S64x128_64_0 r1.sem
    ∗ owing d (Fin.castLE hcore0 (i 0)) (Fin.castLE hsub0 (i 1)) ι O W ∗ halvesI EC d i e I5 fi qi s0 s1 ι w 50 ∗ X)

theorem wp_part131 [Infinite Name] [EC.LandsIn (upEmb : UEmb _ 𝕄)] {X : sProp 𝕄} {Q : (Σ' (q : BitVec 32) (_ : k0_chk35 q), IVec S16 32) → sProp 𝕄}
    (hcr5 : ∀ p hp, 0 < (half I5 p hp).view.dmaCredit) (hw : ∀ ix : ShE.Idx, e.view.read (Elt F) fi ix = w (ix 0).val (ix 1).val)
    (hcr : ∀ s' : Shape, sig.dmaCredit .scVector (Kind.scVector.table .vmem) R.view.buf s' .f32 = s'.numel * EltTy.bits .f32)
    (hM : ∀ ix : ShM.Idx, (msgs mS).view.read (Elt F) fm ix = M (ix 0).val (ix 1)) (hs : ∀ k, (w 0 k).toNat < 10240)
    (hk : ∀ q h P, q.toNat + P = (kept w i 160000).length → q.toNat < 64 →
      left EC d i e mS I5 SS LS R A s0 s1 r0 r1 fi qi fm qm ι O W w M P 1 1 X ⊢ Q ⟨q, h, broadcast S16 0#32⟩) :
    tileOwn d i e mS I5 SS LS R A s0 s1 r0 r1 sd fi qi fm qm ι O W X
      ⊢ WP (k0_part131 (F := F) i e he mS hm oS ho5 I5 h5 SS h6 LS h7 R h8 A h9 s0 s1 r0 r1 sd)
          (fun r => iprop(Q r ∗ semVal (((d, Proc.scVector (Fin.castLE hcore0 (i 0)) (Fin.castLE hsub0 (i 1))) : Thread nD τ), .dma sd.sem) 0)) := by
  have main : iprop(chunkInv EC d i e mS I5 SS LS R A s0 s1 r0 r1 fi qi fm qm ι O W w M 0 0#32 ∗ X) ⊢
      WP (k0_t2_loop.for k0_t2_ok 0#32 (fun t q => chunk (F := F) i e he mS hm oS ho5 I5 h5 SS h6 LS h7 R h8 A h9 s0 s1 r0 r1 sd t q) >>= fun q =>
        .op (.assume (k0_chk35 q) (k0_chk35.dec q)) fun h =>
        padK i SS (k0_off539 q 0#32) (k0_off539_inb q h.down 0) 0#32 <| padK i LS (k0_off539 q 0#32) (k0_off539_inb q h.down 0) 640#32 <|
        skipK SS (k0_off539 q 16#32) (k0_off539_inb q h.down 1) (.ret ⟨q, h.down, broadcast S16 0#32⟩)) Q := by
    refine wp_loop_bind 𝒱 d _ _ bd t2_trips (fun n q => iprop(chunkInv EC d i e mS I5 SS LS R A s0 s1 r0 r1 fi qi fm qm ι O W w M n q ∗ X)) (fun t q => ?_) (fun q => ?_)
    · exact BIBase.Entails.trans (sep_mono_left (wp_chunk (defs := defs) EC 𝒱 d bd i hcr5 hw hcr hM hs)) (wp_frame_r frame _ _)
    · unfold chunkInv
      iintro ⟨⟨%P, %hP, HI⟩, HX⟩
      have hc : k0_chk35 q := chk35_of hP.2
      have hl : ((kept w i (3200 * 50)).drop P).length = q.toNat := by rw [List.length_drop]; omega
      have h0 : (padded ((kept w i (3200 * 50)).drop P) 0) = (kept w i (3200 * 50)).drop P := List.append_nil _
      have key : iprop(poolI d i mS A R SS LS fm qm r0 r1 ι O W M ((kept w i (3200 * 50)).take P) ((kept w i (3200 * 50)).drop P) (halvesI EC d i e I5 fi qi s0 s1 ι w 50) ∗ X) ⊢
          WP (.op (.assume (k0_chk35 q) (k0_chk35.dec q)) fun h =>
            padK i SS (k0_off539 q 0#32) (k0_off539_inb q h.down 0) 0#32 <| padK i LS (k0_off539 q 0#32) (k0_off539_inb q h.down 0) 640#32 <|
            skipK SS (k0_off539 q 16#32) (k0_off539_inb q h.down 1) (.ret ⟨q, h.down, broadcast S16 0#32⟩)) Q := by
        refine BIBase.Entails.trans ?_ (wp_assume (Γ := .empty) 𝒱 _ bd Set.univ hc)
        have o0 : k0_off539 q 0#32 0 = ((kept w i (3200 * 50)).drop P).length + 16 * 0 := by rw [hl]; exact off539_eq (c := 0) (by omega) (by omega)
        have p := wp_padK (defs := defs) (Ix := Ix) (Name := Name) (U := U) (Lvl := Lvl) 𝒱 d bd i (L := SS) (l := (kept w i (3200 * 50)).drop P) Prod.fst 0 (ho := k0_off539_inb q hc 0) (v := 0#32) rfl o0
          (X := iprop(own d (Fin.castLE hcore0 (i 0)) (Fin.castLE hsub0 (i 1)) LS (ListAt (((kept w i (3200 * 50)).drop P).map Prod.snd))
            ∗ own d (Fin.castLE hcore0 (i 0)) (Fin.castLE hsub0 (i 1)) A (IsAcc M ((kept w i (3200 * 50)).take P)) ∗ rest d (Fin.castLE hcore0 (i 0)) (Fin.castLE hsub0 (i 1)) (msgs mS) R fm qm.left 0 inb_S128x128_S64x128_0_0 r0.sem ∗ rest d (Fin.castLE hcore0 (i 0)) (Fin.castLE hsub0 (i 1)) (msgs mS) R fm qm.right 64 inb_S128x128_S64x128_64_0 r1.sem
            ∗ owing d (Fin.castLE hcore0 (i 0)) (Fin.castLE hsub0 (i 1)) ι O W ∗ halvesI EC d i e I5 fi qi s0 s1 ι w 50 ∗ X))
          (k := padK i LS (k0_off539 q 0#32) (k0_off539_inb q hc 0) 640#32 <| skipK SS (k0_off539 q 16#32) (k0_off539_inb q hc 1) (.ret ⟨q, hc, broadcast S16 0#32⟩)) (Q := Q) (by
            refine BIBase.Entails.trans sep_left_comm.1 ?_
            unfold padK
            refine wp_skipK 𝒱 d _ _ bd ?_
            rw [← h0]
            refine wp_padK (defs := defs) 𝒱 d bd i (L := LS) (l := (kept w i (3200 * 50)).drop P) Prod.snd 0 (v := 640#32) rfl o0 ?_
            refine BIBase.Entails.trans sep_left_comm.1 (wp_skipK 𝒱 d _ _ bd ?_)
            rw [wp_ret]
            refine BIBase.Entails.trans ?_ fupd_intro
            refine BIBase.Entails.trans ?_ (hk q hc P hP.1 hP.2)
            unfold left
            rw [h0])
        rw [h0] at p
        unfold padK at p ⊢
        refine BIBase.Entails.trans ?_ (wp_skipK 𝒱 d _ _ bd p)
        unfold poolI pool
        iintro ⟨⟨H1, H2, H3, H4, H5, H6, H7⟩, HX⟩
        isplitl [H1]; · iexact H1
        isplitl [H2]; · iexact H2
        isplitl [H3]; · iexact H3
        isplitl [H4]; · iexact H4
        isplitl [H5]; · iexact H5
        isplitl [H6]; · iexact H6
        isplitl [H7] <;> iassumption
      iapply key
      isplitl [HI] <;> iassumption
  refine BIBase.Entails.trans ?_ (wp_frame_r frame _ _)
  unfold tileOwn
  iintro ⟨H1, H2, H3, H4, H5, H6, H7, H8, H9, HX⟩
  isplitr [H9]
  swap; · iexact H9
  rw [part131_eq]
  iapply (wp_clear (defs := defs) (F := F) 𝒱 d bd i (A := A) (M := M) (X := iprop(free d (Fin.castLE hcore0 (i 0)) (Fin.castLE hsub0 (i 1)) e I5 fi qi.left 0 inb_S2x2x3200_S1x2x3200_0_0_0 s0.sem ∗ free d (Fin.castLE hcore0 (i 0)) (Fin.castLE hsub0 (i 1)) e I5 fi qi.right 1 inb_S2x2x3200_S1x2x3200_1_0_0 s1.sem
      ∗ own d (Fin.castLE hcore0 (i 0)) (Fin.castLE hsub0 (i 1)) SS (fun _ => True) ∗ own d (Fin.castLE hcore0 (i 0)) (Fin.castLE hsub0 (i 1)) LS (fun _ => True)
      ∗ rest d (Fin.castLE hcore0 (i 0)) (Fin.castLE hsub0 (i 1)) (msgs mS) R fm qm.left 0 inb_S128x128_S64x128_0_0 r0.sem ∗ rest d (Fin.castLE hcore0 (i 0)) (Fin.castLE hsub0 (i 1)) (msgs mS) R fm qm.right 64 inb_S128x128_S64x128_64_0 r1.sem ∗ owing d (Fin.castLE hcore0 (i 0)) (Fin.castLE hsub0 (i 1)) ι O W ∗ X)) ?_)
  · refine BIBase.Entails.trans sep_left_comm.1 (wp_fetchK (defs := defs) EC 𝒱 d _ _ bd (ι := ι) (w := w) (hcr5 _ _) (Gen.k0_off9_eq i) hw ?_)
    refine BIBase.Entails.trans ?_ main
    unfold chunkInv poolI pool halvesI halvesAt halfAt
    rw [if_pos ⟨by omega, rfl⟩, if_neg (by omega)]
    iintro ⟨H7, H1, H8, H2, H3, H4, H5, H6, HX⟩
    isplitr [HX]
    · iexists 0
      isplitr
      · ipureintro; exact ⟨rfl, by decide⟩
      isplitl [H2]; · iapply (own_imp d (fun g _ ix h => absurd h (Nat.not_lt_zero _))); iexact H2
      isplitl [H3]; · iapply (own_imp d (fun g _ ix h => absurd h (Nat.not_lt_zero _))); iexact H3
      isplitl [H1]; · iexact H1
      isplitl [H4]; · iexact H4
      isplitl [H5]; · iexact H5
      isplitl [H6]; · iexact H6
      isplitl [H7]; · iexact H7
      iexact H8
    · iexact HX
  isplitl [H1]; · iexact H1
  isplitl [H7]; · iexact H7
  isplitl [H8]; · iexact H8
  isplitl [H2]; · iexact H2
  isplitl [H3]; · iexact H3
  isplitl [H4]; · iexact H4
  isplitl [H5]; · iexact H5
  isplitl [H6]; · iexact H6
  iexact HX

theorem wp_part132 {X : sProp 𝕄} {q : BitVec 32} {h : k0_chk35 q} {P : ℕ} {Q : (Σ' (_ : BitVec 32) (_ : BitVec 1), BitVec 1) → sProp 𝕄}
    (hP : q.toNat + P = (kept w i 160000).length) (hq : q.toNat < 64)
    (hk : left EC d i e mS I5 SS LS R A s0 s1 r0 r1 fi qi fm qm ι O W w M P 4 4 X
      ⊢ Q ⟨Scalar.divsi (upW q) 64#32, signW (upW q), Scalar.cmpi .ne (Scalar.remsi (upW q) 64#32) 0#32⟩) :
    left EC d i e mS I5 SS LS R A s0 s1 r0 r1 fi qi fm qm ι O W w M P 1 1 X
      ⊢ WP (k0_part132 (F := F) i e he mS hm oS ho5 I5 h5 SS h6 LS h7 R h8 A h9 s0 s1 r0 r1 sd q h (broadcast S16 0#32)) Q := by
  have hl : ((kept w i 160000).drop P).length = q.toNat := by rw [List.length_drop]; omega
  have o539 : ∀ c < 4, k0_off539 q (BitVec.ofNat 32 (16 * c)) 0 = ((kept w i 160000).drop P).length + 16 * c := fun c hc => by rw [hl]; exact off539_eq (by omega) hc
  rw [part132_eq]
  unfold left at hk ⊢
  refine wp_padK (defs := defs) 𝒱 d bd i Prod.fst 1 (v := 0#32) rfl (o539 1 (by omega)) (BIBase.Entails.trans sep_left_comm.1 ?_)
  unfold padK
  refine wp_skipK 𝒱 d _ _ bd (wp_padK (defs := defs) 𝒱 d bd i Prod.snd 1 (v := 640#32) rfl (o539 1 (by omega)) (BIBase.Entails.trans sep_left_comm.1 ?_))
  refine wp_skipK 𝒱 d _ _ bd (wp_padK (defs := defs) 𝒱 d bd i Prod.fst 2 (v := 0#32) rfl (o539 2 (by omega)) (BIBase.Entails.trans sep_left_comm.1 ?_))
  refine wp_skipK 𝒱 d _ _ bd (wp_padK (defs := defs) 𝒱 d bd i Prod.snd 2 (v := 640#32) rfl (o539 2 (by omega)) (BIBase.Entails.trans sep_left_comm.1 ?_))
  refine wp_skipK 𝒱 d _ _ bd (wp_padK (defs := defs) 𝒱 d bd i Prod.fst 3 (v := 0#32) rfl (o539 3 (by omega)) (BIBase.Entails.trans sep_left_comm.1 ?_))
  refine wp_skipK 𝒱 d _ _ bd (wp_padK (defs := defs) 𝒱 d bd i Prod.snd 3 (v := 640#32) rfl (o539 3 (by omega)) (BIBase.Entails.trans sep_left_comm.1 ?_))
  rw [wp_ret]
  exact BIBase.Entails.trans hk fupd_intro

theorem wp_lastPart [Infinite Name] [EC.LandsIn (upEmb : UEmb _ 𝕄)] {X : sProp 𝕄} {q : BitVec 32} {h : k0_chk35 q} {P : ℕ} {hr : RowsOk (k0_t8_loop q).trips}
    {body : Fin (k0_t10_loop q).trips → PUnit → Prog (EffAt F i) PUnit} {Q : PUnit → sProp 𝕄}
    (hP : q.toNat + P = (kept w i 160000).length) (hq : q.toNat < 64) (hs : ∀ k, (w 0 k).toNat < 10240)
    (hcr : ∀ s' : Shape, sig.dmaCredit .scVector (Kind.scVector.table .vmem) R.view.buf s' .f32 = s'.numel * EltTy.bits .f32)
    (hcrO : 0 < (outRows i oS).view.dmaCredit)
    (hM : ∀ ix : ShM.Idx, (msgs mS).view.read (Elt F) fm ix = M (ix 0).val (ix 1))
    (hk : tileOwn d i e mS I5 SS LS R A s0 s1 r0 r1 sd fi qi fm qm ι O W iprop((∃ f, ((outRows i oS).view.loc ((d, Proc.scVector AC BC) : Thread nD τ) ↦[(outRows i oS).view.set]{fullShare} f)
        ∗ ⌜∀ x : S640x128.Idx, (outRows i oS).view.read (Elt F) f x = acc M (kept w i 160000) (x 0).val (x 1)⌝) ∗ X) ⊢ Q ⟨⟩) :
    left EC d i e mS I5 SS LS R A s0 s1 r0 r1 fi qi fm qm ι O W w M P 4 4
        iprop((∃ f, ((outRows i oS).view.loc ((d, Proc.scVector AC BC) : Thread nD τ) ↦[(outRows i oS).view.set]{fullShare} f)) ∗ semVal (((d, Proc.scVector AC BC) : Thread nD τ), .dma sd.sem) 0 ∗ X)
      ⊢ WP (lastPart i mS oS SS LS R A r0 r1 sd q h hr (ceilW q) body) Q := by
  have hnf : (q.toNat + 63) / 64 < 52 := by omega
  have hf : ceilW q = BitVec.ofNat 32 ((q.toNat + 63) / 64) := ceil_eq hq
  obtain ⟨htr, -, htr6, -⟩ := chk35_trips hq
  have hn : ∀ n : Fin (k0_t8_loop q).trips, n.val < 52 := fun n => by have := n.isLt; omega
  have hlen : ((kept w i 160000).drop P).length = q.toNat := by rw [List.length_drop]; omega
  unfold lastPart left
  refine wp_batchesK (defs := defs) EC 𝒱 d _ _ bd (l0 := (kept w i 160000).take P) (l := padded ((kept w i 160000).drop P) 4) ((q.toNat + 63) / 64) htr htr6 hcr hM (by rw [hf]; exact some_table ⟨(q.toNat + 63) / 64, hnf⟩) rfl
    (fun n => by rw [show k0_cond12 q n = moreW (ceilW q) n.val from rfl, hf]; exact more_iff hnf (hn n)) (fun n => (even_table ⟨n.val, hn n⟩).1) (fun n => (even_table ⟨n.val, hn n⟩).2.1)
    (fun n => next_word (hn n)) (fun n => next_word (hn n)) (fun n => bank_word (hn n))
    (fun n t => group_table ⟨n.val, hn n⟩ ⟨t.val, Nat.lt_of_lt_of_eq t.isLt group_trips⟩) (by rw [padded_len]; omega) ?_ ?_
  · intro x hx
    rcases List.mem_append.mp hx with hx | hx
    · obtain ⟨h2, k, rfl⟩ := sel_mem (List.mem_of_mem_drop hx)
      exact ⟨hs _, by omega⟩
    · obtain rfl := List.eq_of_mem_replicate hx
      exact ⟨by decide, by decide⟩
  unfold pool
  refine BIBase.Entails.trans ?_ (wp_sendK (defs := defs) EC 𝒱 d bd i (ι := ι) (O := O) (W := W) (V := acc M (kept w i 160000))
    (P := IsAcc M ((kept w i 160000).take P ++ (padded ((kept w i 160000).drop P) 4).take (64 * ((q.toNat + 63) / 64))))
    (X := iprop(own d AC BC SS (fun _ => True) ∗ own d AC BC LS (fun _ => True)
      ∗ rest d AC BC (msgs mS) R fm qm.left 0 B0 r0.sem ∗ rest d AC BC (msgs mS) R fm qm.right 64 B1 r1.sem ∗ halvesI EC d i e I5 fi qi s0 s1 ι w 50 ∗ X))
    (fun g hg ix hix => (hg ix).trans (acc_padded M (by omega) hix _)) hcrO ?_)
  · iintro ⟨H1, H2, H3, H4, H5, H6, H7, H8, H9, HX⟩
    isplitl [H3]; · iexact H3
    isplitl [H8]; · iexact H8
    isplitl [H9]; · iexact H9
    isplitl [H6]; · iexact H6
    isplitl [H1]; · iapply (own_imp d (fun _ _ => trivial)); iexact H1
    isplitl [H2]; · iapply (own_imp d (fun _ _ => trivial)); iexact H2
    isplitl [H4]; · iexact H4
    isplitl [H5]; · iexact H5
    isplitl [H7] <;> iassumption
  rw [wp_ret]
  refine BIBase.Entails.trans (BIBase.Entails.trans ?_ hk) fupd_intro
  unfold tileOwn halvesI halvesAt halfAt
  rw [if_neg (by omega), if_neg (by omega)]
  iintro ⟨H3, H8, H9, H6, H1, H2, H4, H5, ⟨H7, H7'⟩, HX⟩
  isplitl [H3]; · iapply (own_imp d (fun _ _ => trivial)); iexact H3
  isplitl [H1]; · iexact H1
  isplitl [H2]; · iexact H2
  isplitl [H4]; · iexact H4
  isplitl [H5]; · iexact H5
  isplitl [H6]; · iexact H6
  isplitl [H7]; · iexact H7
  isplitl [H7']; · iexact H7'
  isplitl [H9]; · iexact H9
  isplitl [H8] <;> iassumption

/-- The tile's run: its rows of the result are, entry for entry, the greatest message of the edges kept. -/
theorem wp_tile [Infinite Name] [EC.LandsIn (upEmb : UEmb _ 𝕄)] {X : sProp 𝕄}
    (hcr5 : ∀ p hp, 0 < (half I5 p hp).view.dmaCredit) (hw : ∀ ix : ShE.Idx, e.view.read (Elt F) fi ix = w (ix 0).val (ix 1).val)
    (hcr : ∀ s' : Shape, sig.dmaCredit .scVector (Kind.scVector.table .vmem) R.view.buf s' .f32 = s'.numel * EltTy.bits .f32)
    (hcrO : 0 < (outRows i oS).view.dmaCredit)
    (hM : ∀ ix : ShM.Idx, (msgs mS).view.read (Elt F) fm ix = M (ix 0).val (ix 1)) (hs : ∀ k, (w 0 k).toNat < 10240) :
    tileOwn d i e mS I5 SS LS R A s0 s1 r0 r1 sd fi qi fm qm ι O W iprop((∃ f, ((outRows i oS).view.loc ((d, Proc.scVector AC BC) : Thread nD τ) ↦[(outRows i oS).view.set]{fullShare} f)) ∗ X)
      ⊢ WP (cc0__segmax_sc (F := F) i e he mS hm oS ho5 I5 h5 SS h6 LS h7 R h8 A h9 s0 s1 r0 r1 sd)
        (fun _ => tileOwn d i e mS I5 SS LS R A s0 s1 r0 r1 sd fi qi fm qm ι O W iprop((∃ f, ((outRows i oS).view.loc ((d, Proc.scVector AC BC) : Thread nD τ) ↦[(outRows i oS).view.set]{fullShare} f)
        ∗ ⌜∀ x : S640x128.Idx, (outRows i oS).view.read (Elt F) f x = acc M (kept w i 160000) (x 0).val (x 1)⌝) ∗ X)) := by
  obtain ⟨K, hK, hK'⟩ := body_eq (F := F) i e he mS hm oS ho5 I5 h5 SS h6 LS h7 R h8 A h9 s0 s1 r0 r1 sd
  rw [hK, wp_bind]
  refine BIBase.Entails.trans (wp_part131 (defs := defs) EC 𝒱 d bd i (Q := fun r => iprop(∃ q h P, ⌜r = ⟨q, h, broadcast S16 0#32⟩ ∧ q.toNat + P = (kept w i 160000).length ∧ q.toNat < 64⌝ ∗
      left EC d i e mS I5 SS LS R A s0 s1 r0 r1 fi qi fm qm ι O W w M P 1 1 iprop((∃ f, ((outRows i oS).view.loc ((d, Proc.scVector AC BC) : Thread nD τ) ↦[(outRows i oS).view.set]{fullShare} f)) ∗ X)))
    hcr5 hw hcr hM hs (fun q h P h1 h2 => ?_)) (wp_mono frame _ _ fun r => ?_)
  · iintro H
    iexists q, h, P
    isplitr
    · ipureintro; exact ⟨rfl, h1, h2⟩
    · iexact H
  iintro ⟨⟨%q, %h, %P, %hr, H⟩, Hs⟩
  obtain ⟨rfl, h1, h2⟩ := hr
  obtain ⟨htr, -, -, -⟩ := chk35_trips h2
  obtain ⟨K2, hK2, hK3⟩ := hK' q h (rows_ok (by omega))
  obtain ⟨body, hb⟩ := hK3 (Scalar.divsi (upW q) 64#32) (signW (upW q)) (Scalar.cmpi .ne (Scalar.remsi (upW q) 64#32) 0#32)
  have hb' : K2 ⟨Scalar.divsi (upW q) 64#32, signW (upW q), Scalar.cmpi .ne (Scalar.remsi (upW q) 64#32) 0#32⟩ = lastPart i mS oS SS LS R A r0 r1 sd q h (rows_ok (by omega)) (ceilW q) body := hb
  rw [hK2, wp_bind]
  iapply (wp_part132 (defs := defs) EC 𝒱 d bd i (w := w) (M := M) (fi := fi) (qi := qi) (fm := fm) (qm := qm) (ι := ι) (O := O) (W := W) (P := P)
    (X := iprop((∃ f, ((outRows i oS).view.loc ((d, Proc.scVector AC BC) : Thread nD τ) ↦[(outRows i oS).view.set]{fullShare} f)) ∗ semVal (((d, Proc.scVector AC BC) : Thread nD τ), .dma sd.sem) 0 ∗ X)) h1 h2 ?_)
  · rw [hb']
    exact wp_lastPart (defs := defs) EC 𝒱 d bd i h1 h2 hs hcr hcrO hM BIBase.Entails.rfl
  unfold left
  icases H with ⟨H1, H2, H3, H4, H5, H6, H7, H8, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs] <;> iassumption

end Cert.SegMax
-- ==== Proof.Sets.lean ====
module

public import proofs.«01_k».proof.Proof.Tile

@[expose] public section

noncomputable section

namespace Cert.SegMax

open Idealize.ShloMosaic
open Cert.KernelIdeal Cert.KernelIdeal.Gen

/-! ## The result, block by block

Tile `(c, s)` sends rows `640 s … 640 s + 639` of plane `c`. -/

/-- A tile's coordinates. -/
abbrev tileAt (c : Fin 2) (s : Fin 16) : grid0.Coords :=
  fun | 0 => c | 1 => s | ⟨_ + 2, h⟩ => absurd h (Nat.not_lt.2 (Nat.le_add_left _ _))

/-- The tile that sends an element of the result. -/
def owner (ix : S2x10240x128.Idx) : Fin 2 × Fin 16 :=
  ((⟨(ix 0).val, (ix 0).isLt⟩ : Fin 2), ⟨(ix 1).val / 640, by have h : (ix 1).val < 10240 := (ix 1).isLt; omega⟩)

/-- The elements a tile sends. -/
def block (p : Fin 2 × Fin 16) : Finset S2x10240x128.Idx := Finset.univ.filter fun ix => owner ix = p

theorem mem_block {p : Fin 2 × Fin 16} {ix : S2x10240x128.Idx} : ix ∈ block p ↔ owner ix = p := by simp [block]

theorem block_disjoint : ∀ p ∈ (Finset.univ : Finset (Fin 2 × Fin 16)), ∀ p' ∈ (Finset.univ : Finset (Fin 2 × Fin 16)), p ≠ p' → Disjoint (block p) (block p') := by
  intro p _ p' _ h
  rw [Finset.disjoint_left]
  intro ix h1 h2
  exact h ((mem_block.mp h1).symm.trans (mem_block.mp h2))

theorem block_cover : (Finset.univ : Finset (Fin 2 × Fin 16)).biUnion block = Finset.univ :=
  Finset.eq_univ_of_forall fun ix => Finset.mem_biUnion.mpr ⟨owner ix, Finset.mem_univ _, mem_block.mpr rfl⟩

theorem off_out (i : grid0.Coords) : k0_off1062 i 0 = (i 0).val ∧ k0_off1062 i 1 = 640 * (i 1).val ∧ k0_off1062 i 2 = 0 := by
  rw [k0_off1062_eq]; exact ⟨rfl, rfl, rfl⟩

/-- The view a tile sends to covers its block. -/
theorem outRows_set (c : Fin 2) (s : Fin 16) : (outRows (tileAt c s) (Memref.whole main_v0_scv)).view.set = block (c, s) := by
  have e : (outRows (tileAt c s) (Memref.whole main_v0_scv)).view.set = (Rect.unit (s := S2x10240x128) (k0_off1062 (tileAt c s)) S1x640x128.size (k0_off1062_inb (tileAt c s))).set := by
    show (((View.whole (main_v0_scv : Ref sig .scVector)).slice (Rect.unit (s := S2x10240x128) (k0_off1062 (tileAt c s)) S1x640x128.size (k0_off1062_inb (tileAt c s)))).reshape S640x128 squeezes_S1x640x128_S640x128.numel_eq).set = _
    rw [View.set_reshape, View.set_slice]
    exact Finset.map_refl
  obtain ⟨o0, o1, o2⟩ := off_out (tileAt c s)
  have o0' : k0_off1062 (tileAt c s) 0 = c.val := o0
  have o1' : k0_off1062 (tileAt c s) 1 = 640 * s.val := o1
  refine e.trans (Finset.ext fun ix => ?_)
  refine Rect.mem_set_unit.trans (Iff.trans ?_ mem_block.symm)
  have h1 : (ix 1).val < 10240 := (ix 1).isLt
  have h2 : (ix 2).val < 128 := (ix 2).isLt
  constructor
  · intro h
    have a0 : k0_off1062 (tileAt c s) 0 ≤ (ix 0).val ∧ (ix 0).val < k0_off1062 (tileAt c s) 0 + 1 := h 0
    have a1 : k0_off1062 (tileAt c s) 1 ≤ (ix 1).val ∧ (ix 1).val < k0_off1062 (tileAt c s) 1 + 640 := h 1
    refine Prod.ext (Fin.ext ?_) (Fin.ext ?_)
    · show (ix 0).val = c.val; omega
    · show (ix 1).val / 640 = s.val; omega
  · intro h
    have a0 : (ix 0).val = c.val := congrArg (fun p : Fin 2 × Fin 16 => p.1.val) h
    have a1 : (ix 1).val / 640 = s.val := congrArg (fun p : Fin 2 × Fin 16 => p.2.val) h
    intro x
    match x with
    | 0 => show k0_off1062 (tileAt c s) 0 ≤ (ix 0).val ∧ (ix 0).val < k0_off1062 (tileAt c s) 0 + 1; omega
    | 1 => show k0_off1062 (tileAt c s) 1 ≤ (ix 1).val ∧ (ix 1).val < k0_off1062 (tileAt c s) 1 + 640; omega
    | 2 => show k0_off1062 (tileAt c s) 2 ≤ (ix 2).val ∧ (ix 2).val < k0_off1062 (tileAt c s) 2 + 128; omega

/-- An element of a block, by its place in the rows sent. -/
theorem outRows_emb {c : Fin 2} {s : Fin 16} {ix : S2x10240x128.Idx} (h : owner ix = (c, s)) (x : S640x128.Idx)
    (hx0 : (x 0).val = (ix 1).val % 640) (hx1 : (x 1).val = (ix 2).val) :
    (outRows (tileAt c s) (Memref.whole main_v0_scv)).view.emb x = ix := by
  obtain ⟨o0, o1, o2⟩ := off_out (tileAt c s)
  have o0' : k0_off1062 (tileAt c s) 0 = c.val := o0
  have o1' : k0_off1062 (tileAt c s) 1 = 640 * s.val := o1
  have a0 : (ix 0).val = c.val := congrArg (fun p : Fin 2 × Fin 16 => p.1.val) h
  have a1 : (ix 1).val / 640 = s.val := congrArg (fun p : Fin 2 × Fin 16 => p.2.val) h
  let y : S1x640x128.Idx := fun a => match a with | 0 => (0 : Fin 1) | 1 => (x 0 : Fin 640) | 2 => (x 1 : Fin 128)
  have hxy : Shape.reshapeEquiv squeezes_S1x640x128_S640x128.numel_eq x = y := by
    refine Shape.reshapeEquiv_eq_of_rowMajor _ ?_
    have e2 := Shape.rowMajor_val_two (d := ![640, 128]) x
    have e3 := Shape.rowMajor_val_three (d := ![1, 640, 128]) y
    refine e3.trans (Eq.trans ?_ e2.symm)
    show (0 * 640 + (x 0).val) * 128 + (x 1).val = (x 0).val * 128 + (x 1).val
    omega
  show (Rect.unit (s := S2x10240x128) (k0_off1062 (tileAt c s)) S1x640x128.size (k0_off1062_inb (tileAt c s))).emb (Shape.reshapeEquiv squeezes_S1x640x128_S640x128.numel_eq x) = ix
  rw [hxy]
  funext a
  apply Fin.ext
  match a with
  | 0 => show k0_off1062 (tileAt c s) 0 + 1 * 0 = (ix 0).val; omega
  | 1 => show k0_off1062 (tileAt c s) 1 + 1 * (x 0).val = (ix 1).val; omega
  | 2 => show k0_off1062 (tileAt c s) 2 + 1 * (x 1).val = (ix 2).val; omega

/-! ## The result's values -/

/-- The edge words by row and column. -/
def wordAt (f : S2x320000.Idx → BitVec 32) (r k : ℕ) : BitVec 32 :=
  if h : r < 2 ∧ k < 320000 then f (fun a => match a with | 0 => (⟨r, h.1⟩ : Fin 2) | 1 => (⟨k, h.2⟩ : Fin 320000)) else 0#32

theorem wordAt_eq (f : S2x320000.Idx → BitVec 32) (ix : S2x320000.Idx) : f ix = wordAt f (ix 0).val (ix 1).val := by
  unfold wordAt
  rw [dif_pos ⟨(ix 0).isLt, (ix 1).isLt⟩]
  congr 1
  funext a
  match a with
  | 0 => rfl
  | 1 => rfl

variable {F : FTy → Type}

/-- The message rows by row and lane. -/
def rowAt [FloatOps F] (g : S10240x128.Idx → F .f32) (r : ℕ) (k : Fin 128) : F .f32 :=
  if h : r < 10240 then g (fun a => match a with | 0 => (⟨r, h⟩ : Fin 10240) | 1 => (k : Fin 128)) else FloatOps.ofBits .f32 0#32

theorem rowAt_eq [FloatOps F] (g : S10240x128.Idx → F .f32) (ix : S10240x128.Idx) : g ix = rowAt g (ix 0).val (ix 1) := by
  have h : (ix 0).val < 10240 := (ix 0).isLt
  have e : rowAt g (ix 0).val (ix 1) = g (fun a => match a with | 0 => (⟨(ix 0).val, h⟩ : Fin 10240) | 1 => (ix 1 : Fin 128)) := dif_pos h
  refine Eq.trans (congrArg g ?_) e.symm
  funext a
  match a with
  | 0 => rfl
  | 1 => rfl

/-- The maxima over the edges that enter each node, per half of the edges. -/
def segOut [FloatOps F] (f : S2x320000.Idx → BitVec 32) (g : S10240x128.Idx → F .f32) (ix : S2x10240x128.Idx) : F .f32 :=
  acc (rowAt g) (kept (wordAt f) (tileAt (owner ix).1 (owner ix).2) 160000) ((ix 1).val % 640) (ix 2)

/-! ## The tile's own buffers, in two parts -/

theorem bank_compl : Finset.univ \ (bank (Memref.whole cc0_scratch3) 0 inb_S128x128_S64x128_0_0).view.set = (bank (Memref.whole cc0_scratch3) 64 inb_S128x128_S64x128_64_0).view.set := by
  have e : ∀ ρ (hρ : InB ρ), (bank (Memref.whole cc0_scratch3) ρ hρ).view.set = (Rect.unit (s := ShR) ![ρ, 0] ShB.size hρ).set := fun ρ hρ => by
    show ((View.whole (cc0_scratch3 : Ref sig .scVector)).slice (Rect.unit (s := ShR) ![ρ, 0] ShB.size hρ)).set = _
    rw [View.set_slice]
    exact Finset.map_refl
  have hm : ∀ ρ (hρ : InB ρ) (ix : ShR.Idx), ix ∈ (Rect.unit (s := ShR) ![ρ, 0] ShB.size hρ).set ↔ ρ ≤ (ix 0).val ∧ (ix 0).val < ρ + 64 := by
    intro ρ hρ ix
    have h1 : (ix 1).val < 128 := (ix 1).isLt
    refine Rect.mem_set_unit.trans ⟨fun h => h 0, fun h x => ?_⟩
    match x with
    | 0 => exact h
    | 1 => exact ⟨Nat.zero_le _, by show (ix 1).val < 0 + 128; omega⟩
  rw [e, e]
  ext ix
  have h0 : (ix 0).val < 128 := (ix 0).isLt
  rw [Finset.mem_sdiff, hm, hm]
  simp only [Finset.mem_univ, true_and]
  omega

theorem half_compl : Finset.univ \ (half (Memref.whole cc0_scratch0) 0 inb_S2x2x3200_S1x2x3200_0_0_0).view.set = (half (Memref.whole cc0_scratch0) 1 inb_S2x2x3200_S1x2x3200_1_0_0).view.set := by
  have e : ∀ p (hp : InS p), (half (Memref.whole cc0_scratch0) p hp).view.set = (Rect.unit (s := ShI) ![p, 0, 0] Sh1C.size hp).set := fun p hp => by
    show (((View.whole (cc0_scratch0 : Ref sig .scVector)).slice (Rect.unit (s := ShI) ![p, 0, 0] Sh1C.size hp)).reshape ShC sq1C.numel_eq).set = _
    rw [View.set_reshape, View.set_slice]
    exact Finset.map_refl
  have hm : ∀ p (hp : InS p) (ix : ShI.Idx), ix ∈ (Rect.unit (s := ShI) ![p, 0, 0] Sh1C.size hp).set ↔ p ≤ (ix 0).val ∧ (ix 0).val < p + 1 := by
    intro p hp ix
    have h1 : (ix 1).val < 2 := (ix 1).isLt
    have h2 : (ix 2).val < 3200 := (ix 2).isLt
    refine Rect.mem_set_unit.trans ⟨fun h => h 0, fun h x => ?_⟩
    match x with
    | 0 => exact h
    | 1 => exact ⟨Nat.zero_le _, by show (ix 1).val < 0 + 2; omega⟩
    | 2 => exact ⟨Nat.zero_le _, by show (ix 2).val < 0 + 3200; omega⟩
  rw [e, e]
  ext ix
  have h0 : (ix 0).val < 2 := (ix 0).isLt
  rw [Finset.mem_sdiff, hm, hm]
  simp only [Finset.mem_univ, true_and]
  omega

theorem msgs_set : (msgs (Memref.whole main_arg1_scv)).view.set = Finset.univ := by
  show ((View.whole (main_arg1_scv : Ref sig .scVector)).slice (Rect.unit (s := S10240x128) ![0, 0] S10240x128.size inb_S10240x128_S10240x128_0_0)).set = _
  rw [View.set_slice]
  refine Finset.map_refl.trans (Finset.eq_univ_of_forall fun ix => Rect.mem_set_unit.mpr fun x => ?_)
  have h0 : (ix 0).val < 10240 := (ix 0).isLt
  have h1 : (ix 1).val < 128 := (ix 1).isLt
  match x with
  | 0 => exact ⟨Nat.zero_le _, by show (ix 0).val < 0 + 10240; omega⟩
  | 1 => exact ⟨Nat.zero_le _, by show (ix 1).val < 0 + 128; omega⟩

theorem msgs_read (fm : S10240x128.Idx → Elt F .f32) (ix : ShM.Idx) : (msgs (Memref.whole main_arg1_scv)).view.read (Elt F) fm ix = fm ix := by
  show fm ((Rect.unit (s := S10240x128) ![0, 0] S10240x128.size inb_S10240x128_S10240x128_0_0).emb ix) = _
  congr 1
  funext a
  apply Fin.ext
  match a with
  | 0 => show 0 + 1 * (ix 0).val = (ix 0).val; omega
  | 1 => show 0 + 1 * (ix 1).val = (ix 1).val; omega

end Cert.SegMax

end
-- ==== Proof.Launch.lean ====
module

public import proofs.«01_k».proof.Defs
public import proofs.«01_k».proof.Proof.Sets
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Pre_edges_in_range

@[expose] public section

noncomputable section

namespace Cert.Launch

open Cert.KernelIdeal Cert.KernelIdeal.Gen Cert.SegMax

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's parameters -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, and what each tile is given of it -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- A core's share of the two operands, and a tile's. -/
abbrev coreShare (c : Fin 2) : PosShare TreeShare := Transfers.shareTok fullShare 2 c
abbrev tileShare (c : Fin 2) (s : Fin 16) : PosShare TreeShare := Transfers.shareTok (coreShare c) 16 s

variable [FloatOps F]

/-- What the result ends at. -/
def final (d : Dev nD) : Buf (Elt F) (oLoc d) := segOut (F := F) (m (iLoc d)) (m (xLoc d))

/-- A core's part, its blocks of the result at `f`; and a tile's. -/
abbrev corePts (d : Dev nD) (c : Fin 2) (f : Buf (Elt F) (oLoc d)) : sProp 𝕄 :=
  iprop((iLoc d ↦{coreShare c} m (iLoc d)) ∗ (xLoc d ↦{coreShare c} m (xLoc d)) ∗ bigSep Finset.univ fun s : Fin 16 => oLoc d ↦[block (c, s)]{fullShare} f)
abbrev tilePts (d : Dev nD) (c : Fin 2) (s : Fin 16) (f : Buf (Elt F) (oLoc d)) : sProp 𝕄 :=
  iprop((iLoc d ↦{tileShare c s} m (iLoc d)) ∗ (xLoc d ↦{tileShare c s} m (xLoc d)) ∗ oLoc d ↦[block (c, s)]{fullShare} f)

theorem nCore_zero : (K (F := F)).nCore 0 = 2 := rfl
theorem nSub_zero : (K (F := F)).nSub 0 = 16 := rfl

/-- The call's hand-overs: out with the result as launched, back with it at its values. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (final m d)
  go := fun q d c s => match q with | 0 => tilePts m d (Fin.cast nCore_zero c) (Fin.cast nSub_zero s) (m (oLoc d))
  td := fun q d c s => match q with | 0 => tilePts m d (Fin.cast nCore_zero c) (Fin.cast nSub_zero s) (final m d)
  x := fun _ _ => iprop(emp)

instance P_storable : (P (F := F) m).IsStorable where
  st q d c := match q with | 0 => (inferInstance : BI.Storable (upEmb : UEmb _ 𝕄) (corePts m d (Fin.cast nCore_zero c) (m (oLoc d))))
  dn q d c := match q with | 0 => (inferInstance : BI.Storable (upEmb : UEmb _ 𝕄) (corePts m d (Fin.cast nCore_zero c) (final m d)))
  go q d c s := match q with | 0 => (inferInstance : BI.Storable (upEmb : UEmb _ 𝕄) (tilePts m d (Fin.cast nCore_zero c) (Fin.cast nSub_zero s) (m (oLoc d))))
  td q d c s := match q with | 0 => (inferInstance : BI.Storable (upEmb : UEmb _ 𝕄) (tilePts m d (Fin.cast nCore_zero c) (Fin.cast nSub_zero s) (final m d)))

/-- Every edge names a row of the messages. -/
def InRange : Prop := ∀ (d : Dev nD) (ix : S2x320000.Idx), (show BitVec 32 from m (iLoc d) ix).toNat < 10000

/-! ## One tile -/

section Tile

variable (d : Dev nD) (c : Fin 2) (s : Fin 16)

abbrev cAt : Fin τ.nSC := Fin.castLE hcore0 (tileAt c s 0)
abbrev sAt : Fin τ.nSub := Fin.castLE hsub0 (tileAt c s 1)

abbrev cell (n : DmaSems sig S_) : GSem nD τ sig := (V d (cAt c s) (sAt c s), .dma n.sem)

omit [FloatOps F] in
/-- The tile's five transfer semaphores, and its others. -/
theorem sems_eq : ∃ R : sProp 𝕄, (ownSems0 (V d (cAt c s) (sAt c s)) : sProp 𝕄)
    = iprop(semVal (cell d c s cc0_scratch5) 0 ∗ semVal (cell d c s cc0_scratch6) 0 ∗ semVal (cell d c s cc0_scratch7) 0 ∗ semVal (cell d c s cc0_scratch8) 0
      ∗ semVal (cell d c s cc0_scoped0) 0 ∗ R) := by
  have hin : ∀ n : DmaSems sig S_, (SemLoc.dma n.sem : SemLoc sig).isScoped .scVector = true → cell d c s n ∈ ownCells (V d (cAt c s) (sAt c s)) :=
    fun n h => (mem_ownCells (g := cell d c s n)).mpr ⟨rfl, h⟩
  have hne : ∀ n n' : DmaSems sig S_, n.sem ≠ n'.sem → cell d c s n ≠ cell d c s n' := fun n n' h e => h (by
    have h2 := congrArg Prod.snd e
    exact SemLoc.dma.inj h2)
  unfold SparseCore.Cfg.ownSems0
  apply Exists.intro
  rw [SparseCore.bigSep_erase' (hin cc0_scratch5 (by decide)),
    SparseCore.bigSep_erase' (Finset.mem_erase.mpr ⟨hne cc0_scratch6 cc0_scratch5 (by decide), hin cc0_scratch6 (by decide)⟩),
    SparseCore.bigSep_erase' (Finset.mem_erase.mpr ⟨hne cc0_scratch7 cc0_scratch6 (by decide), Finset.mem_erase.mpr ⟨hne cc0_scratch7 cc0_scratch5 (by decide), hin cc0_scratch7 (by decide)⟩⟩),
    SparseCore.bigSep_erase' (Finset.mem_erase.mpr ⟨hne cc0_scratch8 cc0_scratch7 (by decide), Finset.mem_erase.mpr ⟨hne cc0_scratch8 cc0_scratch6 (by decide),
      Finset.mem_erase.mpr ⟨hne cc0_scratch8 cc0_scratch5 (by decide), hin cc0_scratch8 (by decide)⟩⟩⟩),
    SparseCore.bigSep_erase' (Finset.mem_erase.mpr ⟨hne cc0_scoped0 cc0_scratch8 (by decide), Finset.mem_erase.mpr ⟨hne cc0_scoped0 cc0_scratch7 (by decide),
      Finset.mem_erase.mpr ⟨hne cc0_scoped0 cc0_scratch6 (by decide), Finset.mem_erase.mpr ⟨hne cc0_scoped0 cc0_scratch5 (by decide), hin cc0_scoped0 (by decide)⟩⟩⟩⟩)]

abbrev bufAny (b : Ref sig .scVector) : sProp 𝕄 := iprop(∃ f, (V d (cAt c s) (sAt c s)).loc b ↦{fullShare} f)

omit [FloatOps F] in
/-- The tile's five buffers, and its others. -/
theorem bufs_eq : ∃ R : sProp 𝕄, (ownBufs (V d (cAt c s) (sAt c s)) : sProp 𝕄)
    = iprop(bufAny (F := F) d c s cc0_scratch0 ∗ bufAny (F := F) d c s cc0_scratch1 ∗ bufAny (F := F) d c s cc0_scratch2 ∗ bufAny (F := F) d c s cc0_scratch3 ∗ bufAny (F := F) d c s cc0_scratch4 ∗ R) := by
  have hne : ∀ b b' : Ref sig .scVector, b ≠ b' → (Proc.scVector (cAt c s) (sAt c s)).devRef b ≠ (Proc.scVector (cAt c s) (sAt c s)).devRef b' :=
    fun b b' h e => h (Proc.devRef_injective _ e)
  have i0 := SparseCore.Cfg.mem_ownRefs_of_owner (p := Proc.scVector (cAt c s) (sAt c s)) (b := (Proc.scVector (cAt c s) (sAt c s)).devRef cc0_scratch0) rfl
  have i1 := SparseCore.Cfg.mem_ownRefs_of_owner (p := Proc.scVector (cAt c s) (sAt c s)) (b := (Proc.scVector (cAt c s) (sAt c s)).devRef cc0_scratch1) rfl
  have i2 := SparseCore.Cfg.mem_ownRefs_of_owner (p := Proc.scVector (cAt c s) (sAt c s)) (b := (Proc.scVector (cAt c s) (sAt c s)).devRef cc0_scratch2) rfl
  have i3 := SparseCore.Cfg.mem_ownRefs_of_owner (p := Proc.scVector (cAt c s) (sAt c s)) (b := (Proc.scVector (cAt c s) (sAt c s)).devRef cc0_scratch3) rfl
  have i4 := SparseCore.Cfg.mem_ownRefs_of_owner (p := Proc.scVector (cAt c s) (sAt c s)) (b := (Proc.scVector (cAt c s) (sAt c s)).devRef cc0_scratch4) rfl
  unfold SparseCore.Cfg.ownBufs
  apply Exists.intro
  refine (SparseCore.bigSep_erase' i0).trans ?_
  rw [SparseCore.bigSep_erase' (Finset.mem_erase.mpr ⟨hne cc0_scratch1 cc0_scratch0 (by decide), i1⟩),
    SparseCore.bigSep_erase' (Finset.mem_erase.mpr ⟨hne cc0_scratch2 cc0_scratch1 (by decide), Finset.mem_erase.mpr ⟨hne cc0_scratch2 cc0_scratch0 (by decide), i2⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), i3⟩⟩⟩),
    SparseCore.bigSep_erase' (Finset.mem_erase.mpr ⟨hne cc0_scratch4 cc0_scratch3 (by decide), Finset.mem_erase.mpr ⟨hne cc0_scratch4 cc0_scratch2 (by decide),
      Finset.mem_erase.mpr ⟨hne cc0_scratch4 cc0_scratch1 (by decide), Finset.mem_erase.mpr ⟨hne cc0_scratch4 cc0_scratch0 (by decide), i4⟩⟩⟩⟩)]

omit [FloatOps F] in
/-- A buffer in two parts, each at some contents. -/
theorem two_parts {ℓ : Loc nD τ sig} {S0 S1 : Finset (Idx ℓ)} (h : Finset.univ \ S0 = S1) :
    (iprop(∃ f, ℓ ↦{fullShare} f) : sProp 𝕄) ⊣⊢ iprop((∃ f, ℓ ↦[S0]{fullShare} f) ∗ ∃ f, ℓ ↦[S1]{fullShare} f) := by
  subst h
  constructor
  · iintro ⟨%f, H⟩
    ihave H' := (pointsTo_split_subset (q := fullShare) (f := f) (S := Finset.univ) (Finset.subset_univ S0)).1 $$ H
    icases H' with ⟨H0, H1⟩
    isplitl [H0]
    · iexists f; iexact H0
    · iexists f; iexact H1
  · iintro ⟨⟨%f, H0⟩, ⟨%g, H1⟩⟩
    iexists _
    iapply (pointsTo_join_subset (q := fullShare) (f := g) (g := f) (S := Finset.univ) (Finset.subset_univ S0))
    isplitl [H0] <;> iassumption

omit [FloatOps F] in
theorem own_any {sh : Shape} {e : EltTy} (b : Memref sig .scVector .vmem sh e) (h : b.view.set = Finset.univ) :
    (SegMax.own d (cAt c s) (sAt c s) b (fun _ => True) : sProp 𝕄) ⊣⊢ iprop(∃ f, b.view.loc (V d (cAt c s) (sAt c s)) ↦{fullShare} f) := by
  unfold SegMax.own
  rw [h]
  constructor
  · iintro ⟨%f, H, -⟩
    iexists f; iexact H
  · iintro ⟨%f, H⟩
    iexists f
    isplitl [H]; · iexact H
    ipureintro; trivial

/-- What the tile holds while it runs. -/
abbrev holds (d : Dev nD) (c : Fin 2) (s : Fin 16) (O : CellTallies nD τ sig (HIx 1)) (W : Waits sig (HIx 1)) (X : sProp 𝕄) : sProp 𝕄 :=
  tileOwn (F := F) d (tileAt c s) (Memref.whole main_arg0_scv) (Memref.whole main_arg1_scv) (Memref.whole cc0_scratch0) (Memref.whole cc0_scratch1) (Memref.whole cc0_scratch2)
    (Memref.whole cc0_scratch3) (Memref.whole cc0_scratch4) cc0_scratch5 cc0_scratch6 cc0_scratch7 cc0_scratch8 cc0_scoped0 (m (iLoc d)) (tileShare c s) (m (xLoc d)) (tileShare c s) none O W X

/-- The tile's part of the operands and its own buffers and semaphores are what it holds. -/
theorem holds_intro {O : CellTallies nD τ sig (HIx 1)} {W : Waits sig (HIx 1)} {X : sProp 𝕄} :
    iprop(Transfers.MayWaits (V d (cAt c s) (sAt c s)) none O ∗ (iLoc d ↦{tileShare c s} m (iLoc d)) ∗ (xLoc d ↦{tileShare c s} m (xLoc d))
      ∗ (bufAny (F := F) d c s cc0_scratch0 ∗ bufAny (F := F) d c s cc0_scratch1 ∗ bufAny (F := F) d c s cc0_scratch2 ∗ bufAny (F := F) d c s cc0_scratch3 ∗ bufAny (F := F) d c s cc0_scratch4)
      ∗ (semVal (cell d c s cc0_scratch5) 0 ∗ semVal (cell d c s cc0_scratch6) 0 ∗ semVal (cell d c s cc0_scratch7) 0 ∗ semVal (cell d c s cc0_scratch8) 0 ∗ semVal (cell d c s cc0_scoped0) 0)
      ∗ (∃ W', ⌜∀ p ∈ W', p ∈ W ∨ p.2 = none⌝ ∗ owes (V d (cAt c s) (sAt c s)) O W') ∗ X)
    ⊣⊢ holds m d c s O W X := by
  have t0 := two_parts (F := F) (ℓ := (V d (cAt c s) (sAt c s)).loc cc0_scratch0) half_compl
  have t3 := two_parts (F := F) (ℓ := (V d (cAt c s) (sAt c s)).loc cc0_scratch3) bank_compl
  have o1 := own_any (F := F) d c s (Memref.whole cc0_scratch1) (View.set_whole _)
  have o2 := own_any (F := F) d c s (Memref.whole cc0_scratch2) (View.set_whole _)
  have o4 := own_any (F := F) d c s (Memref.whole cc0_scratch4) (View.set_whole _)
  have hi := pointsTo_share (Ix := HIx 1) (Name := ℕ) (U := UU) (Lvl := ℕ) (ℓ := iLoc d) (I := Finset.univ) (f := m (iLoc d)) (PosShare.mem_left_op_right (tileShare c s))
  have hx := pointsTo_share (Ix := HIx 1) (Name := ℕ) (U := UU) (Lvl := ℕ) (ℓ := xLoc d) (I := Finset.univ) (f := m (xLoc d)) (PosShare.mem_left_op_right (tileShare c s))
  unfold holds tileOwn rest free owing
  rw [msgs_set, show (Memref.whole main_arg0_scv : Memref sig .scVector .hbm S2x320000 .i32).view.set = Finset.univ from View.set_whole _]
  constructor
  · iintro ⟨Hmw, Hi, Hx, ⟨B0, B1, B2, B3, B4⟩, ⟨S5, S6, S7, S8, S9⟩, HO, HX⟩
    ihave Hi' := hi.1 $$ Hi
    icases Hi' with ⟨Hi1, Hi2⟩
    ihave Hx' := hx.1 $$ Hx
    icases Hx' with ⟨Hx1, Hx2⟩
    ihave B0' := t0.1 $$ B0
    icases B0' with ⟨B01, B02⟩
    ihave B3' := t3.1 $$ B3
    icases B3' with ⟨B31, B32⟩
    isplitl [B4]; · iapply o4.2; iexact B4
    isplitl [B1]; · iapply o1.2; iexact B1
    isplitl [B2]; · iapply o2.2; iexact B2
    isplitl [B31 Hx1 S7]
    · isplitl [B31]; · iexact B31
      isplitl [Hx1]; · iexact Hx1
      iexact S7
    isplitl [B32 Hx2 S8]
    · isplitl [B32]; · iexact B32
      isplitl [Hx2]; · iexact Hx2
      iexact S8
    isplitl [Hmw HO]
    · isplitl [Hmw]; · iexact Hmw
      iexact HO
    isplitl [B01 Hi1 S5]
    · isplitl [B01]; · iexact B01
      isplitl [Hi1]; · iexact Hi1
      iexact S5
    isplitl [B02 Hi2 S6]
    · isplitl [B02]; · iexact B02
      isplitl [Hi2]; · iexact Hi2
      iexact S6
    isplitl [S9]; · iexact S9
    iexact HX
  · iintro ⟨B4, B1, B2, ⟨B31, Hx1, S7⟩, ⟨B32, Hx2, S8⟩, ⟨Hmw, HO⟩, ⟨B01, Hi1, S5⟩, ⟨B02, Hi2, S6⟩, S9, HX⟩
    isplitl [Hmw]; · iexact Hmw
    isplitl [Hi1 Hi2]
    · iapply hi.2; isplitl [Hi1] <;> iassumption
    isplitl [Hx1 Hx2]
    · iapply hx.2; isplitl [Hx1] <;> iassumption
    isplitl [B01 B02 B1 B2 B31 B32 B4]
    · isplitl [B01 B02]
      · iapply t0.2; isplitl [B01] <;> iassumption
      isplitl [B1]; · iapply o1.1; iexact B1
      isplitl [B2]; · iapply o2.1; iexact B2
      isplitl [B31 B32]
      · iapply t3.2; isplitl [B31] <;> iassumption
      iapply o4.1; iexact B4
    isplitl [S5 S6 S7 S8 S9]
    · isplitl [S5]; · iexact S5
      isplitl [S6]; · iexact S6
      isplitl [S7]; · iexact S7
      isplitl [S8]; · iexact S8
      iexact S9
    isplitl [HO]; · iexact HO
    iexact HX

omit [FloatOps F] in
theorem creds : (∀ p hp, 0 < (half (Memref.whole cc0_scratch0) p hp).view.dmaCredit)
    ∧ (∀ s' : Shape, sig.dmaCredit .scVector (Kind.scVector.table .vmem) (Memref.whole cc0_scratch3 : Memref sig .scVector .vmem S128x128 .f32).view.buf s' .f32 = s'.numel * EltTy.bits .f32)
    ∧ ∀ i, 0 < (outRows i (Memref.whole main_v0_scv)).view.dmaCredit := by
  refine ⟨fun p hp => ?_, fun s' => rfl, fun i => ?_⟩
  · show 0 < ShC.numel * EltTy.bits .i32
    decide
  · show 0 < S640x128.numel * EltTy.bits .f32
    decide

/-- What a tile sends is its block of the result. -/
theorem sent (M : ℕ → Fin 128 → F .f32) (hM : M = rowAt (m (xLoc d))) :
    iprop(∃ f, ((outRows (tileAt c s) (Memref.whole main_v0_scv)).view.loc (V d (cAt c s) (sAt c s)) ↦[(outRows (tileAt c s) (Memref.whole main_v0_scv)).view.set]{fullShare} f)
      ∗ ⌜∀ x : S640x128.Idx, (outRows (tileAt c s) (Memref.whole main_v0_scv)).view.read (Elt F) f x = acc M (kept (wordAt (m (iLoc d))) (tileAt c s) 160000) (x 0).val (x 1)⌝)
    ⊢ (oLoc d ↦[block (c, s)]{fullShare} final m d : sProp 𝕄) := by
  subst hM
  rw [outRows_set]
  iintro ⟨%f, H, %hf⟩
  have e : (oLoc d ↦[block (c, s)]{fullShare} f : sProp 𝕄) = oLoc d ↦[block (c, s)]{fullShare} final m d := pointsTo_congr fun ix hix => by
    have ho : owner ix = (c, s) := mem_block.mp hix
    have h2 : (ix 2).val < 128 := (ix 2).isLt
    let x : S640x128.Idx := fun a => match a with | 0 => (⟨(ix 1).val % 640, Nat.mod_lt _ (by omega)⟩ : Fin 640) | 1 => (⟨(ix 2).val, h2⟩ : Fin 128)
    have h := hf x
    have hr : (outRows (tileAt c s) (Memref.whole main_v0_scv)).view.read (Elt F) f x = f ix := by
      show f ((outRows (tileAt c s) (Memref.whole main_v0_scv)).view.emb x) = f ix
      rw [outRows_emb ho x rfl rfl]
    refine hr.symm.trans (h.trans ?_)
    show _ = segOut (m (iLoc d)) (m (xLoc d)) ix
    unfold segOut
    rw [ho]
    rfl
  iapply (Entails.of_eq e)
  iexact H

theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ tilePts m d c s (m (oLoc d))
        ∗ scopedBufs (V d (cAt c s) (sAt c s)) ∗ scopedSems0 (V d (cAt c s) (sAt c s)) ∗ owes (V d (cAt c s) (sAt c s)) O W)
      ⊢ wp frame (wpE (defs₀ (F := F)) 𝒱₀ (V d (cAt c s) (sAt c s)) none) Set.univ
          (cc0__segmax_sc (F := F) (tileAt c s) (Memref.whole main_arg0_scv) (Memref.isWhole_whole _) (Memref.whole main_arg1_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8 cc0_scoped0)
          fun _ => iprop(tilePts m d c s (final m d) ∗ scopedBufs (V d (cAt c s) (sAt c s)) ∗ scopedSems0 (V d (cAt c s) (sAt c s))
            ∗ ∃ W', ⌜∀ p ∈ W', p ∈ W ∨ p.2 = none⌝ ∗ owes (V d (cAt c s) (sAt c s)) O W') := by
  obtain ⟨RS, eS⟩ := sems_eq (F := F) d c s
  obtain ⟨RB, eB⟩ := bufs_eq (F := F) d c s
  rw [(K (F := F)).scopedBufs_V hF d (cAt c s) (sAt c s), SparseCore.Cfg.scopedSems0_V (Val := Elt F) d (cAt c s) (sAt c s), eS, eB]
  have run := wp_tile (F := F) (defs := defs₀ (F := F)) (countersEmb (U := UU)) 𝒱₀ d none (tileAt c s)
    (e := Memref.whole main_arg0_scv) (mS := Memref.whole main_arg1_scv) (oS := Memref.whole main_v0_scv) (I5 := Memref.whole cc0_scratch0) (SS := Memref.whole cc0_scratch1)
    (LS := Memref.whole cc0_scratch2) (R := Memref.whole cc0_scratch3) (A := Memref.whole cc0_scratch4)
    (he := Memref.isWhole_whole _) (hm := Memref.isWhole_whole _) (ho5 := Memref.isWhole_whole _) (h5 := Memref.isWhole_whole _) (h6 := Memref.isWhole_whole _) (h7 := Memref.isWhole_whole _)
    (h8 := Memref.isWhole_whole _) (h9 := Memref.isWhole_whole _) (s0 := cc0_scratch5) (s1 := cc0_scratch6) (r0 := cc0_scratch7) (r1 := cc0_scratch8) (sd := cc0_scoped0)
    (fi := m (iLoc d)) (qi := tileShare c s) (fm := m (xLoc d)) (qm := tileShare c s) (ι := (none : HIx 1)) (O := O) (W := W) (w := wordAt (m (iLoc d))) (M := rowAt (m (xLoc d)))
    (X := iprop(RB ∗ RS)) creds.1 (fun ix => wordAt_eq (m (iLoc d)) ix) creds.2.1 (creds.2.2 _)
    (fun ix => (msgs_read (m (xLoc d)) ix).trans (rowAt_eq (m (xLoc d)) ix)) (fun k => by
      unfold wordAt
      split
      · exact Nat.lt_trans (hpre d _) (by decide)
      · decide)
  refine BIBase.Entails.trans ?_ (run.trans (wp_mono frame _ _ fun _ => ?_))
  · refine BIBase.Entails.trans ?_ (holds_intro m d c s).1
    iintro ⟨#Hlv, -, ⟨Hi, Hx, Ho⟩, ⟨B0, B1, B2, B3, B4, HB⟩, ⟨S5, S6, S7, S8, S9, HS⟩, HO⟩
    isplitr
    · iapply ((K (F := F)).mayWaits_none (thr := V d (cAt c s) (sAt c s)) hO); iexact Hlv
    isplitl [Hi]; · iexact Hi
    isplitl [Hx]; · iexact Hx
    isplitl [B0 B1 B2 B3 B4]
    · isplitl [B0]; · iexact B0
      isplitl [B1]; · iexact B1
      isplitl [B2]; · iexact B2
      isplitl [B3]; · iexact B3
      iexact B4
    isplitl [S5 S6 S7 S8 S9]
    · isplitl [S5]; · iexact S5
      isplitl [S6]; · iexact S6
      isplitl [S7]; · iexact S7
      isplitl [S8]; · iexact S8
      iexact S9
    isplitl [HO]
    · iexists W
      isplitr; · ipureintro; exact fun p hp => Or.inl hp
      iexact HO
    isplitl [Ho]
    · iexists (m (oLoc d))
      rw [outRows_set]
      iexact Ho
    isplitl [HB] <;> iassumption
  · refine BIBase.Entails.trans (holds_intro m d c s).2 ?_
    iintro ⟨-, Hi, Hx, ⟨B0, B1, B2, B3, B4⟩, ⟨S5, S6, S7, S8, S9⟩, HO, Ho, HB, HS⟩
    isplitl [Hi Hx Ho]
    · isplitl [Hi]; · iexact Hi
      isplitl [Hx]; · iexact Hx
      iapply (sent m d c s _ rfl)
      iexact Ho
    isplitl [B0 B1 B2 B3 B4 HB]
    · isplitl [B0]; · iexact B0
      isplitl [B1]; · iexact B1
      isplitl [B2]; · iexact B2
      isplitl [B3]; · iexact B3
      isplitl [B4]; · iexact B4
      iexact HB
    isplitl [S5 S6 S7 S8 S9 HS]
    · isplitl [S5]; · iexact S5
      isplitl [S6]; · iexact S6
      isplitl [S7]; · iexact S7
      isplitl [S8]; · iexact S8
      isplitl [S9]; · iexact S9
      iexact HS
    iexact HO

end Tile

/-! ## The call's tasks -/

theorem body_at (c : Fin τ.nSC) (s : Fin τ.nSub) :
    defs₀ (F := F) (.scVector c s) 0 ()
      = SparseCore.onTile hcore0 hsub0 (fun c s => cc0__segmax_sc (F := F) (tileAt c s)
          (Memref.whole main_arg0_scv) (Memref.isWhole_whole _) (Memref.whole main_arg1_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) cc0_scratch5 cc0_scratch6 cc0_scratch7 cc0_scratch8 cc0_scoped0) ⟨⟩ c s := rfl

omit [FloatOps F] in
theorem waits_weaken {θ : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes θ O W')
      ⊢ iprop(A ∗ B ∗ C ∗ ∃ W', ⌜∀ p ∈ W', p ∈ W ∨ p.2 = none ∨ p.2 = some q⌝ ∗ owes θ O W') := by
  refine BIClass.sep_mono .rfl (BIClass.sep_mono .rfl (BIClass.sep_mono .rfl ?_))
  iintro ⟨%W', %h, H⟩
  iexists W'
  isplitr
  · ipureintro; exact fun p hp => (h p hp).elim Or.inl fun e => Or.inr (Or.inl e)
  · iexact H

set_option maxRecDepth 16384 in
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]
  simp only [SparseCore.onTile, hci, and_self, ↓reduceDIte]
  exact (tile_body m d (Fin.cast nCore_zero c) (Fin.cast nSub_zero i) hF hpre O W hO).trans (wp_mono frame _ _ fun _ => waits_weaken)

/-! ## A core's part, tile by tile; the operands and the result, core by core -/

theorem over_tiles (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem over_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (final m d))
          -∗ corePts m d (Fin.cast nCore_zero c) (final m d)))
  generalize Fin.cast nCore_zero c = c'
  rw [over_tiles (F := F) (fun i => tilePts m d c' i (m (oLoc d))), over_tiles (F := F) (fun i => tilePts m d c' i (final m d)), bigSep_sep', bigSep_sep', bigSep_sep', bigSep_sep']
  have hi := Transfers.pointsTo_toks (Ix := HIx 1) (Name := ℕ) (U := UU) (Lvl := ℕ) (ℓ := iLoc d) (S := Finset.univ) (f := m (iLoc d)) (coreShare c') 16
  have hx := Transfers.pointsTo_toks (Ix := HIx 1) (Name := ℕ) (U := UU) (Lvl := ℕ) (ℓ := xLoc d) (S := Finset.univ) (f := m (xLoc d)) (coreShare c') 16
  iintro ⟨Hi, Hx, Ho⟩
  imodintro
  ihave Hi' := hi.1 $$ Hi
  icases Hi' with ⟨Hi0, Hi⟩
  ihave Hx' := hx.1 $$ Hx
  icases Hx' with ⟨Hx0, Hx⟩
  isplitl [Hi Hx Ho]
  · isplitl [Hi]; · iexact Hi
    isplitl [Hx]; · iexact Hx
    iexact Ho
  iintro ⟨Hi, Hx, Ho⟩
  isplitl [Hi0 Hi]
  · iapply hi.2; isplitl [Hi0] <;> iassumption
  isplitl [Hx0 Hx]
  · iapply hx.2; isplitl [Hx0] <;> iassumption
  iexact Ho

/-- What the main program keeps of the operands while the call runs. -/
abbrev keptPts (d : Dev nD) : sProp 𝕄 :=
  iprop((iLoc d ↦{Transfers.shareDrop fullShare 2} m (iLoc d)) ∗ xLoc d ↦{Transfers.shareDrop fullShare 2} m (xLoc d))

theorem cores_split (d : Dev nD) (f : Buf (Elt F) (oLoc d)) :
    iprop((iLoc d ↦{fullShare} m (iLoc d)) ∗ (xLoc d ↦{fullShare} m (xLoc d)) ∗ oLoc d ↦{fullShare} f)
      ⊣⊢ iprop(keptPts m d ∗ bigSep Finset.univ fun c : Fin 2 => corePts m d c f) := by
  have hi := Transfers.pointsTo_toks (Ix := HIx 1) (Name := ℕ) (U := UU) (Lvl := ℕ) (ℓ := iLoc d) (S := Finset.univ) (f := m (iLoc d)) fullShare 2
  have hx := Transfers.pointsTo_toks (Ix := HIx 1) (Name := ℕ) (U := UU) (Lvl := ℕ) (ℓ := xLoc d) (S := Finset.univ) (f := m (xLoc d)) fullShare 2
  have ho : (oLoc d ↦{fullShare} f : sProp 𝕄) = bigSep Finset.univ fun c : Fin 2 => bigSep Finset.univ fun s : Fin 16 => oLoc d ↦[block (c, s)]{fullShare} f := by
    rw [← bigSep_univ_prod (fun p : Fin 2 × Fin 16 => (oLoc d ↦[block p]{fullShare} f : sProp 𝕄)), ← pointsTo_biUnion Finset.univ (ℓ := oLoc d) block block_disjoint, block_cover]
    try rfl
  rw [ho, bigSep_sep', bigSep_sep']
  constructor
  · iintro ⟨Hi, Hx, Ho⟩
    ihave Hi' := hi.1 $$ Hi
    icases Hi' with ⟨Hi0, Hi⟩
    ihave Hx' := hx.1 $$ Hx
    icases Hx' with ⟨Hx0, Hx⟩
    isplitl [Hi0 Hx0]
    · isplitl [Hi0] <;> iassumption
    isplitl [Hi]; · iexact Hi
    isplitl [Hx]; · iexact Hx
    iexact Ho
  · iintro ⟨⟨Hi0, Hx0⟩, Hi, Hx, Ho⟩
    isplitl [Hi0 Hi]
    · iapply hi.2; isplitl [Hi0] <;> iassumption
    isplitl [Hx0 Hx]
    · iapply hx.2; isplitl [Hx0] <;> iassumption
    iexact Ho

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = (iprop(emp) : sProp 𝕄) := by
    refine (bigSep_congr fun thr _ => bigSep_univ_of_subsingleton (0 : Fin 1)).trans ?_
    exact bigSep_emp_const _
  rw [e, show (bigSep Finset.univ fun _ : Dev nD => (iprop(emp) : sProp 𝕄)) = iprop(emp) from bigSep_emp_const _]
  unfold u₀
  iintro H
  ihave H' := (ownU_pair (initOf (K (F := F)).hsCells (K (F := F)).hsToks) (1 : Counters)) $$ H
  icases H' with ⟨H1, -⟩
  imodintro
  isplitl [H1]; · iexact H1
  isplitr <;> iempintro

/-! ## The main program -/

omit [FloatOps F] in
theorem arrays_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 := iprop((iLoc d ↦{fullShare} m (iLoc d)) ∗ (xLoc d ↦{fullShare} m (xLoc d)) ∗ oLoc d ↦{fullShare} final m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c) = bigSep Finset.univ fun c : Fin 2 => corePts m d c (m (oLoc d)) :=
    over_cores (F := F) fun c => corePts m d c (m (oLoc d))
  have hdn : (bigSep Finset.univ fun c : Fin ((K (F := F)).nCore 0) => (P m).dn 0 d c) = bigSep Finset.univ fun c : Fin 2 => corePts m d c (final m d) :=
    over_cores (F := F) fun c => corePts m d c (final m d)
  unfold SparseCore.Cfg.tcRes SparseCore.Cfg.tcEnd
  rw [arrays_eq]
  simp only [main, wp_bind, wp_pure]
  iintro ⟨#Hctx, Hst, ⟨Hb, Harr, Hts, -⟩, -⟩
  ihave Harr' := (cores_split m d (m (oLoc d))).1 $$ Harr
  icases Harr' with ⟨Hk, Hc⟩
  iapply ((K (F := F)).wp_run (D (F := F)) 𝒱 (EH := EH) (P := P m) κ d 0) $$ [Hst Hk Hc Hb Hts]
  isplitr; · iexact Hctx
  isplitl [Hst]; · iexact Hst
  isplitl [Hc]
  · rw [hst]; iexact Hc
  rw [hdn]
  iintro ⟨Hst, Hc⟩
  imodintro
  isplitl [Hst]; · iexact Hst
  isplitr [Hb Hts]
  · iapply (cores_split m d (final m d)).2
    isplitl [Hk] <;> iassumption
  isplitl [Hb] <;> iassumption

/-- What the main program leaves in memory. -/
def Left (d : Dev nD) (s' : Phys nD τ sig (Elt F)) : Prop :=
  s'.mem.mem (iLoc d) = m (iLoc d) ∧ s'.mem.mem (xLoc d) = m (xLoc d) ∧ s'.mem.mem (oLoc d) = final m d

set_option maxRecDepth 16384 in
theorem hfin (d : Dev nD) (s' : Phys nD τ sig (Elt F)) : iprop(FIN m d ∗ SI s') ⊢ (⌜Left m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := final m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def Ends : PUnit × MemSt nD τ sig (Elt F) → Prop := fun r =>
  (∀ d : Dev nD, r.2.mem (iLoc d) = m (iLoc d) ∧ r.2.mem (xLoc d) = m (xLoc d) ∧ r.2.mem (oLoc d) = final m d) ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (Left m) (hfin m) (Ends m) (fun _ h hz => ⟨h, hz⟩)

/-! ## The precondition -/

theorem word_lt {v : BitVec 32} (e : IntOp.andi (IntOp.cmpi .sge v 0#32) (IntOp.cmpi .slt v 10000#32) = 1#1) : v.toNat < 10000 := by
  have h1 : IntOp.cmpi .sge v 0#32 = 1#1 ∧ IntOp.cmpi .slt v 10000#32 = 1#1 := by
    revert e
    generalize IntOp.cmpi .sge v 0#32 = a
    generalize IntOp.cmpi .slt v 10000#32 = b
    revert a b
    decide
  have bit : ∀ p : Bool, BitVec.ofBool p = 1#1 → p = true := by decide
  have h2 := bit _ h1.1
  have h3 := bit _ h1.2
  rw [BitVec.sle_eq_decide] at h2
  rw [BitVec.slt_eq_decide] at h3
  have h2' := of_decide_eq_true h2
  have h3' := of_decide_eq_true h3
  simp only [BitVec.toInt_eq_toNat_cond, BitVec.toNat_ofNat, Nat.reducePow, Nat.reduceMod] at h2' h3'
  omega

theorem inRange_of_pre (h : ∀ c : Dev nD, Cert.Pre_edges_in_range.fn (F := F) (m (iLoc c)) (m (xLoc c)) = fun _ => 1#1) : InRange m := by
  intro d ix
  have e := congrFun (h d) ix
  simp only [Pre_edges_in_range.fn, andi, cmpi, broadcastInDim, constantI] at e
  exact word_lt e

end Cert.Launch

end
-- ==== Proof.Value.lean ====
module

public import proofs.«01_k».proof.Proof.Sets
public import proofs.«01_k».proof.Proof.Gen.ReferenceIdeal
public import proofs.«01_k».proof.Proof.Gen.ReferenceIdeal.Run
public import Idealize.ShloMosaic.PureOps.Ideal
public import Idealize.ShloMosaic.Lib.ReduceAll
public import Idealize.ShloMosaic.Lib.StableHlo.Predicate
public import Idealize.ShloMosaic.Lib.Pipeline.Value
public import Idealize.ShloMosaic.Lib.Pointwise.Reshape

@[expose] public section

noncomputable section

/-!
# The kernel's result and the reference's

Over the extended reals both results are least upper bounds. An element `(c, n, k)` of either is below `z` exactly when `0` is, and
`m[src, k]` is for every edge `src → n` of half `c` of the edge list. The kernel's bound runs over the edges one tile keeps, the
reference's over every edge of the half, with `-∞` in the place of those that do not end at `n`.
-/

namespace Cert.SegMax

open Idealize.ShloMosaic
open Cert.ReferenceIdeal Cert.ReferenceIdeal.Gen

/-! ## Maxima and their upper bounds -/

/-- A maximum taken down a list is below `z` when the starting value is, and every element. -/
theorem foldl_max_le {ι : Type} (x : ι → EReal) (z : EReal) :
    ∀ (l : List ι) (a : EReal), l.foldl (fun r i => max r (x i)) a ≤ z ↔ a ≤ z ∧ ∀ i ∈ l, x i ≤ z
  | [], a => by simp
  | b :: l, a => by
    rw [List.foldl_cons, foldl_max_le x z l, max_le_iff]
    simp only [List.mem_cons, forall_eq_or_imp, and_assoc]

theorem mem_sel {E : ℕ → Edge} {n : ℕ} {x : Edge} : x ∈ sel E n ↔ ∃ k < n, x = E k ∧ x.2 < 640 := by
  induction n with
  | zero => exact ⟨fun h => absurd h List.not_mem_nil, fun ⟨k, hk, _⟩ => absurd hk (Nat.not_lt_zero k)⟩
  | succ n ih =>
    rw [sel, List.mem_append, ih]
    constructor
    · rintro (⟨k, hk, h⟩ | h)
      · exact ⟨k, by omega, h⟩
      · by_cases hc : (E n).2 < 640
        · rw [if_pos hc] at h
          obtain rfl := List.mem_singleton.mp h
          exact ⟨n, by omega, rfl, hc⟩
        · rw [if_neg hc] at h
          exact absurd h List.not_mem_nil
    · rintro ⟨k, hk, rfl, h⟩
      by_cases hkn : k = n
      · subst hkn
        exact Or.inr (by rw [if_pos h]; exact List.mem_singleton.mpr rfl)
      · exact Or.inl ⟨k, by omega, rfl, h⟩

/-! ## The kernel's side -/

/-- A row is the tile's own, at a place, exactly when the place is the row's. -/
theorem place_iff {v : BitVec 32} {r : ℕ} (hr : r < 10240) (s : ℕ) (hs : s = r / 640) :
    ((v - Scalar.muli (BitVec.ofNat 32 s) 640#32).toNat = r % 640 ∧ (v - Scalar.muli (BitVec.ofNat 32 s) 640#32).toNat < 640) ↔ v = BitVec.ofNat 32 r := by
  have hm : Scalar.muli (BitVec.ofNat 32 s) 640#32 = BitVec.ofNat 32 (640 * s) := by
    show BitVec.ofNat 32 s * 640#32 = _
    apply BitVec.eq_of_toNat_eq
    simp only [BitVec.toNat_mul, BitVec.toNat_ofNat]
    omega
  rw [hm]
  have hv := v.isLt
  rw [← BitVec.toNat_inj, BitVec.toNat_sub]
  simp only [BitVec.toNat_ofNat]
  omega

theorem segOut_le (f : S2x320000.Idx → BitVec 32) (g : S10240x128.Idx → EReal) (ix : S2x10240x128.Idx) (z : EReal) :
    segOut (F := Ideal) f g ix ≤ z ↔ 0 ≤ z ∧ ∀ k < 160000, wordAt f 1 (160000 * (ix 0).val + k) = BitVec.ofNat 32 (ix 1).val →
      rowAt (F := Ideal) g (wordAt f 0 (160000 * (ix 0).val + k)).toNat (ix 2) ≤ z := by
  have hr : (ix 1).val < 10240 := (ix 1).isLt
  have h0 : (FloatOps.ofBits (F := Ideal) .f32 0x00000000#32 : EReal) = 0 := by simp [Ideal.ofBits, Ideal.ieee]
  unfold segOut acc
  refine (foldl_max_le (fun e : Edge => rowAt (F := Ideal) g e.1 (ix 2)) z _ _).trans ?_
  rw [h0]
  refine and_congr_right fun _ => ?_
  constructor
  · intro H k hk hv
    obtain ⟨h1, h2⟩ := (place_iff hr ((ix 1).val / 640) rfl).mpr hv
    refine H (edgesOf (wordAt f) (tileAt (owner ix).1 (owner ix).2) k) (List.mem_filter.mpr ⟨mem_sel.mpr ⟨k, hk, rfl, h2⟩, ?_⟩)
    exact decide_eq_true h1
  · intro H e he
    obtain ⟨he, hp⟩ := List.mem_filter.mp he
    obtain ⟨k, hk, rfl, h2⟩ := mem_sel.mp he
    exact H k hk ((place_iff hr ((ix 1).val / 640) rfl).mp ⟨of_decide_eq_true hp, h2⟩)

/-! ## The reference's side -/

/-- An edge's index in the two halves. -/
abbrev at2 (c : Fin 2) (k : Fin 160000) : S2x160000.Idx := fun a => match a with | 0 => c | 1 => k

/-- An edge's index in a row. -/
abbrev inRow (k : Fin 320000) : S320000.Idx := fun a => match a with | 0 => k

abbrev inLine (k : Fin 320000) : S1x320000.Idx := fun a => match a with | 0 => (0 : Fin 1) | 1 => k

/-- Row `r` of the edge list, in two halves. -/
def halfOf (f : IVec S2x320000 32) (r : ℕ) (h : S2x320000.Slices ![r, 0] S1x320000) : IVec S2x160000 32 :=
  shapeCast S2x160000 (shapeCast S320000 (extractStridedSlice S1x320000 ![r, 0] f h) shapeCasts_S1x320000_S320000) shapeCasts_S320000_S2x160000

theorem halfOf_apply (f : IVec S2x320000 32) (r : ℕ) (hr : r < 2) (h : S2x320000.Slices ![r, 0] S1x320000) (p : S2x160000.Idx) :
    halfOf f r h p = wordAt f r (160000 * (p 0).val + (p 1).val) := by
  have h0 : (p 0).val < 2 := (p 0).isLt
  have h1 : (p 1).val < 160000 := (p 1).isLt
  unfold halfOf
  rw [shapeCast_apply _ _ p (inRow ⟨160000 * (p 0).val + (p 1).val, by omega⟩) (by
    rw [rowMajor_val1, rowMajor_val2 p 160000 rfl]
    show 160000 * (p 0).val + (p 1).val = _
    omega)]
  rw [shapeCast_apply _ _ _ (inLine ⟨160000 * (p 0).val + (p 1).val, by omega⟩) (by
    rw [rowMajor_val1, rowMajor_val2 _ 320000 rfl]
    show 0 * 320000 + (160000 * (p 0).val + (p 1).val) = 160000 * (p 0).val + (p 1).val
    omega)]
  unfold extractStridedSlice
  rw [wordAt_eq f]
  congr 1
  show 0 + (160000 * (p 0).val + (p 1).val) = _
  omega

/-- An edge's index among the start indices. -/
abbrev startAt (c : Fin 2) (k : Fin 160000) : S2x160000x1.Idx := fun a => match a with | 0 => c | 1 => k | 2 => (0 : Fin 1)

/-- The start indices of the reference's row lookup, a negative word counting from the end. -/
def startOf (src : IVec S2x160000 32) : IVec S2x160000x1 32 :=
  broadcastInDim S2x160000x1 ![0, 1] bcast_S2x160000_S2x160000x1_0_1 (select (cmpi .slt src (broadcastInDim S2x160000 ![] bcast_S_S2x160000 (constantI S_ 32 0#32)))
    (addi src (broadcastInDim S2x160000 ![] bcast_S_S2x160000 (constantI S_ 32 10240#32))) src)

theorem startOf_apply {src : IVec S2x160000 32} (hs : ∀ p, (src p).toNat < 10000) (q : S2x160000x1.Idx) :
    startOf src q = src (at2 (q 0) (q 1)) := by
  have e : startOf src q = select (cmpi .slt src (broadcastInDim S2x160000 ![] bcast_S_S2x160000 (constantI S_ 32 0#32)))
    (addi src (broadcastInDim S2x160000 ![] bcast_S_S2x160000 (constantI S_ 32 10240#32))) src (at2 (q 0) (q 1)) := by
    unfold startOf broadcastInDim
    congr 1
    funext a
    match a with
    | 0 => rfl
    | 1 => rfl
  rw [e]
  have hn : ¬ IntOp.cmpi .slt (src (at2 (q 0) (q 1))) 0#32 = 1#1 := by
    rw [StableHlo.Predicate.slt_iff_toNat (by have := hs (at2 (q 0) (q 1)); omega) (by decide)]
    simp
  show Scalar.select (IntOp.cmpi .slt (src (at2 (q 0) (q 1))) 0#32) _ _ = _
  exact if_neg hn

/-- Which edges' start indices lie in the table. -/
def okOf (idx : IVec S2x160000x1 32) : S2x160000.Idx → BitVec 1 :=
  Host.reduce IntOp.andi (andi (cmpi .sge idx (broadcastInDim S2x160000x1 ![] bcast_S_S2x160000x1 (constantI S_ 32 0#32)))
    (cmpi .sle idx (broadcastInDim S2x160000x1 ![0, 1, 2] bcast_S1x1x1_S2x160000x1_0_1_2 (broadcastInDim S1x1x1 ![2] bcast_S1_S1x1x1_2 (constantI S1 32 10239#32)))))
    (constantI S_ 1 1#1) reducesTo_S2x160000x1_S2x160000_d2 h_S_

theorem okOf_apply {idx : IVec S2x160000x1 32} (hi : ∀ q, (idx q).toNat < 10000) (p : S2x160000.Idx) : okOf idx p = 1#1 := by
  unfold okOf
  refine Host.reduce_andi_one _ _ _ _ _ rfl fun q => ?_
  have h := hi q
  have h1 : IntOp.cmpi .sge (idx q) 0#32 = 1#1 := (StableHlo.Predicate.sge_iff_toNat (by omega) (by decide)).mpr (by simp)
  have h2 : IntOp.cmpi .sle (idx q) 10239#32 = 1#1 := (StableHlo.Predicate.sle_iff_toNat (by omega) (by decide)).mpr (by
    show _ ≤ 10239
    omega)
  show IntOp.andi (IntOp.cmpi .sge (idx q) 0#32) (IntOp.cmpi .sle (idx q) 10239#32) = 1#1
  rw [h1, h2]
  rfl

/-- The row lookup: lane `j 2` of the row its start index names. -/
theorem lookup_apply (g : S10240x128.Idx → EReal) (idx : IVec S2x160000x1 32) (j : S2x160000x128.Idx)
    (h : (idx (startAt (j 0) (j 1))).toNat < 10000) :
    Host.gather gather_S10240x128_S2x160000x1_S2x160000x128_2_0_n_n_0_2_1128 g idx j
      = rowAt (F := Ideal) g (idx (startAt (j 0) (j 1))).toNat (j 2) := by
  set d := gather_S10240x128_S2x160000x1_S2x160000x128_2_0_n_n_0_2_1128 with hd
  have hsi : d.siIdx j ⟨d.startIndexMap.idxOf 0, List.idxOf_lt_length_iff.2 (List.mem_singleton.mpr rfl)⟩
      = startAt (j 0) (j 1) := by
    funext b
    match b with
    | 0 => rfl
    | 1 => rfl
    | 2 => rfl
  have e0 : (d.operandIdx j idx 0).val = (idx (startAt (j 0) (j 1))).toNat := by
    show d.start j idx 0 + d.batchCoord j 0 + d.offCoord j 0 = _
    rw [d.batchCoord_eq_zero _ _ List.not_mem_nil, d.offCoord_eq_zero _ _ (fun h => ((d.mem_sKept _).mp h).1 (List.mem_singleton.mpr rfl))]
    unfold GatherDims.start
    rw [dif_pos (show (0 : Fin 2) ∈ d.startIndexMap from List.mem_singleton.mpr rfl), hsi, StableHlo.Predicate.toInt_eq_toNat_of_lt (by omega)]
    show min _ 10239 + 0 + 0 = _
    rw [Int.toNat_natCast]
    omega
  have e1 : d.operandIdx j idx 1 = (j 2 : Fin 128) := by
    refine Fin.ext ?_
    show _ = (j 2).val
    show d.start j idx 1 + d.batchCoord j 1 + d.offCoord j 1 = _
    rw [d.batchCoord_eq_zero _ _ List.not_mem_nil]
    have hs : d.start j idx 1 = 0 := by
      unfold GatherDims.start
      exact dif_neg (by rw [hd]; decide)
    rw [hs]
    show 0 + 0 + d.offCoord j 1 = _
    rw [Nat.zero_add]
    rfl
  unfold Host.gather
  rw [rowAt_eq (F := Ideal) g, e0, e1]

end Cert.SegMax

end
-- ==== Proof.Result.lean ====
module

public import proofs.«01_k».proof.Proof.Value

@[expose] public section

noncomputable section

namespace Cert.SegMax

open Idealize.ShloMosaic
open Cert.ReferenceIdeal Cert.ReferenceIdeal.Gen

/-- The messages: the row of every edge's source, and a value outside the reals where the source is no row. -/
def msgOf (g : S10240x128.Idx → EReal) (idx : IVec S2x160000x1 32) : FVec Ideal S2x160000x128 .f32 :=
  select (broadcastInDim S2x160000x128 ![0, 1] bcast_S2x160000_S2x160000x128_0_1 (okOf idx)) (Host.gather gather_S10240x128_S2x160000x1_S2x160000x128_2_0_n_n_0_2_1128 g idx)
    (broadcastInDim S2x160000x128 ![] bcast_S_S2x160000x128 (constant S_ .f32 0x7FC00000#32))

theorem msgOf_apply (g : S10240x128.Idx → EReal) {src : IVec S2x160000 32} (hs : ∀ p, (src p).toNat < 10000) (j : S2x160000x128.Idx) :
    msgOf g (startOf src) j = rowAt (F := Ideal) g (src (at2 (j 0) (j 1))).toNat (j 2) := by
  have hi : ∀ q, (startOf src q).toNat < 10000 := fun q => by rw [startOf_apply hs]; exact hs _
  have e : startOf src (startAt (j 0) (j 1)) = src (at2 (j 0) (j 1)) := startOf_apply hs _
  unfold msgOf
  show Scalar.select (okOf (startOf src) _) _ _ = _
  rw [okOf_apply hi]
  refine (if_pos rfl).trans ?_
  rw [lookup_apply g (startOf src) j (hi _), e]

abbrev hitAt (c : Fin 2) (n : Fin 10240) (k : Fin 160000) : S2x10240x160000.Idx := fun a => match a with | 0 => c | 1 => n | 2 => k

abbrev msgAt (c : Fin 2) (k : Fin 160000) (l : Fin 128) : S2x160000x128.Idx := fun a => match a with | 0 => c | 1 => k | 2 => l

/-- Which edges end at which row. -/
def hitOf (dst : IVec S2x160000 32) : IVec S2x10240x160000 1 :=
  cmpi .eq (broadcastInDim S2x10240x160000 ![0, 1, 2] bcast_S2x1x160000_S2x10240x160000_0_1_2 (broadcastInDim S2x1x160000 ![0, 2] bcast_S2x160000_S2x1x160000_0_2 dst))
    (broadcastInDim S2x10240x160000 ![0, 1, 2] bcast_S1x10240x1_S2x10240x160000_0_1_2 (broadcastInDim S1x10240x1 ![1] bcast_S10240_S1x10240x1_1 (iotaInDim S10240 32 0)))

theorem hitOf_apply (dst : IVec S2x160000 32) (c : Fin 2) (n : Fin 10240) (k : Fin 160000) :
    hitOf dst (hitAt c n k) = IntOp.cmpi .eq (dst (at2 c k)) (BitVec.ofNat 32 n.val) := by
  show IntOp.cmpi .eq (dst _) (BitVec.ofNat 32 n.val) = _
  congr 2
  funext a
  match a with
  | 0 => rfl
  | 1 => rfl

/-- The messages of the edges that end at a row, and `-∞` for the others. -/
def candOf (hit : IVec S2x10240x160000 1) (msg : FVec Ideal S2x160000x128 .f32) : FVec Ideal S2x10240x160000x128 .f32 :=
  select (broadcastInDim S2x10240x160000x128 ![0, 1, 2, 3] bcast_S2x10240x160000x1_S2x10240x160000x128_0_1_2_3 (broadcastInDim S2x10240x160000x1 ![0, 1, 2] bcast_S2x10240x160000_S2x10240x160000x1_0_1_2 hit))
    (broadcastInDim S2x10240x160000x128 ![0, 1, 2, 3] bcast_S2x1x160000x128_S2x10240x160000x128_0_1_2_3 (broadcastInDim S2x1x160000x128 ![0, 2, 3] bcast_S2x160000x128_S2x1x160000x128_0_2_3 msg))
    (broadcastInDim S2x10240x160000x128 ![] bcast_S_S2x10240x160000x128 (id (constant S_ .f32 0xFF800000#32)))

abbrev at4 (c : Fin 2) (n : Fin 10240) (k : Fin 160000) (l : Fin 128) : S2x10240x160000x128.Idx := fun a => match a with | 0 => c | 1 => n | 2 => k | 3 => l

theorem candOf_apply (hit : IVec S2x10240x160000 1) (msg : FVec Ideal S2x160000x128 .f32) (c : Fin 2) (n : Fin 10240) (k : Fin 160000) (l : Fin 128) :
    candOf hit msg (at4 c n k l) = if hit (hitAt c n k) = 1#1 then msg (msgAt c k l) else (⊥ : EReal) := by
  have hb : (Ideal.ofBits .f32 0xFF800000#32 : EReal) = ⊥ := by simp [Ideal.ofBits, Ideal.ieee]
  have e1 : broadcastInDim S2x10240x160000x128 ![0, 1, 2, 3] bcast_S2x10240x160000x1_S2x10240x160000x128_0_1_2_3 (broadcastInDim S2x10240x160000x1 ![0, 1, 2] bcast_S2x10240x160000_S2x10240x160000x1_0_1_2 hit) (at4 c n k l)
      = hit (hitAt c n k) := by
    unfold broadcastInDim
    congr 1
    funext a
    match a with
    | 0 => rfl
    | 1 => rfl
    | 2 => rfl
  have e2 : broadcastInDim S2x10240x160000x128 ![0, 1, 2, 3] bcast_S2x1x160000x128_S2x10240x160000x128_0_1_2_3 (broadcastInDim S2x1x160000x128 ![0, 2, 3] bcast_S2x160000x128_S2x1x160000x128_0_2_3 msg) (at4 c n k l)
      = msg (msgAt c k l) := by
    unfold broadcastInDim
    congr 1
    funext a
    match a with
    | 0 => rfl
    | 1 => rfl
    | 2 => rfl
  unfold candOf
  show Scalar.select (broadcastInDim S2x10240x160000x128 _ _ _ (at4 c n k l)) (broadcastInDim S2x10240x160000x128 _ _ _ (at4 c n k l)) (Ideal.ofBits .f32 0xFF800000#32) = _
  rw [e1, e2, hb]
  rfl

theorem drop_at4 (j : S2x10240x128.Idx) (k : Fin 160000) : reducesTo_S2x10240x160000x128_S2x10240x128_d2.drop (at4 (j 0) (j 1) k (j 2)) = j := by
  funext b
  apply Fin.ext
  match b with
  | 0 => exact Shape.ReducesTo.drop_apply_val_of_eq reducesTo_S2x10240x160000x128_S2x10240x128_d2 (at4 (j 0) (j 1) k (j 2)) 0 0
  | 1 => exact Shape.ReducesTo.drop_apply_val_of_eq reducesTo_S2x10240x160000x128_S2x10240x128_d2 (at4 (j 0) (j 1) k (j 2)) 1 1
  | 2 => exact Shape.ReducesTo.drop_apply_val_of_eq reducesTo_S2x10240x160000x128_S2x10240x128_d2 (at4 (j 0) (j 1) k (j 2)) 2 3

theorem eq_at4 {i : S2x10240x160000x128.Idx} {j : S2x10240x128.Idx} (h : reducesTo_S2x10240x160000x128_S2x10240x128_d2.drop i = j) :
    i = at4 (j 0) (j 1) (i 2) (j 2) := by
  subst h
  funext a
  apply Fin.ext
  match a with
  | 0 => exact (Shape.ReducesTo.drop_apply_val_of_eq reducesTo_S2x10240x160000x128_S2x10240x128_d2 i 0 0).symm
  | 1 => exact (Shape.ReducesTo.drop_apply_val_of_eq reducesTo_S2x10240x160000x128_S2x10240x128_d2 i 1 1).symm
  | 2 => rfl
  | 3 => exact (Shape.ReducesTo.drop_apply_val_of_eq reducesTo_S2x10240x160000x128_S2x10240x128_d2 i 2 3).symm

/-- A maximum over the edges of a half, from `-∞`, is below `z` when every edge's element is. -/
theorem reduce_le (x : S2x10240x160000x128.Idx → EReal) (init : S_.Idx → EReal) (hi : ∀ i, init i = ⊥) (j : S2x10240x128.Idx) (z : EReal) :
    Host.reduce (FloatOps.maximumf (F := Ideal) (φ := .f32)) x init reducesTo_S2x10240x160000x128_S2x10240x128_d2 h_S_ j ≤ z ↔ ∀ k : Fin 160000, x (at4 (j 0) (j 1) k (j 2)) ≤ z := by
  rw [Host.reduce_eq_foldl]
  refine (foldl_max_le x z _ _).trans ?_
  rw [hi]
  constructor
  · rintro ⟨-, H⟩ k
    refine H _ (List.mem_filter.mpr ⟨List.mem_map.mpr ⟨S2x10240x160000x128.rowMajor (at4 (j 0) (j 1) k (j 2)), List.mem_finRange _, Equiv.symm_apply_apply _ _⟩, decide_eq_true ?_⟩)
    exact drop_at4 j k
  · intro H
    refine ⟨bot_le, fun i hi => ?_⟩
    rw [eq_at4 (of_decide_eq_true (List.mem_filter.mp hi).2)]
    exact H _

/-- The reference's result, of the edge list and the messages' table. -/
def refOut (f : IVec S2x320000 32) (g : S10240x128.Idx → EReal) : FVec Ideal S2x10240x128 .f32 :=
  maximumf (Host.reduce FloatOps.maximumf (candOf (hitOf (halfOf f 1 slices_S2x320000_S1x320000_1_0)) (msgOf g (startOf (halfOf f 0 slices_S2x320000_S1x320000_0_0))))
      (constant S_ .f32 0xFF800000#32) reducesTo_S2x10240x160000x128_S2x10240x128_d2 h_S_)
    (broadcastInDim S2x10240x128 ![] bcast_S_S2x10240x128 (constant S_ .f32 0x00000000#32))

theorem cand_le {f : IVec S2x320000 32} (hf : ∀ ix, (f ix).toNat < 10000) (g : S10240x128.Idx → EReal) (c : Fin 2) (n : Fin 10240) (k : Fin 160000) (l : Fin 128) (z : EReal) :
    candOf (hitOf (halfOf f 1 slices_S2x320000_S1x320000_1_0)) (msgOf g (startOf (halfOf f 0 slices_S2x320000_S1x320000_0_0))) (at4 c n k l) ≤ z
      ↔ (wordAt f 1 (160000 * c.val + k.val) = BitVec.ofNat 32 n.val → rowAt (F := Ideal) g (wordAt f 0 (160000 * c.val + k.val)).toNat l ≤ z) := by
  have hs : ∀ p, (halfOf f 0 slices_S2x320000_S1x320000_0_0 p).toNat < 10000 := fun p => hf _
  have e1 : halfOf f 1 slices_S2x320000_S1x320000_1_0 (at2 c k) = wordAt f 1 (160000 * c.val + k.val) := halfOf_apply f 1 (by omega) _ (at2 c k)
  have e0 : halfOf f 0 slices_S2x320000_S1x320000_0_0 (at2 c k) = wordAt f 0 (160000 * c.val + k.val) := halfOf_apply f 0 (by omega) _ (at2 c k)
  have e2 : msgOf g (startOf (halfOf f 0 slices_S2x320000_S1x320000_0_0)) (msgAt c k l) = rowAt (F := Ideal) g (wordAt f 0 (160000 * c.val + k.val)).toNat l :=
    (msgOf_apply g hs (msgAt c k l)).trans (congrArg (fun w : BitVec 32 => rowAt (F := Ideal) g w.toNat l) e0)
  rw [candOf_apply, hitOf_apply, e1, e2]
  by_cases h : wordAt f 1 (160000 * c.val + k.val) = BitVec.ofNat 32 n.val
  · rw [if_pos (StableHlo.Predicate.cmpi_eq_iff.mpr h)]
    exact ⟨fun h' _ => h', fun h' => h' h⟩
  · rw [if_neg fun h' => h (StableHlo.Predicate.cmpi_eq_iff.mp h')]
    exact ⟨fun _ h' => absurd h' h, fun _ => bot_le⟩

theorem max_apply {s : Shape} (a b : FVec Ideal s .f32) (ix : s.Idx) : maximumf a b ix = max (a ix : EReal) (b ix) := rfl

theorem refOut_le {f : IVec S2x320000 32} (hf : ∀ ix, (f ix).toNat < 10000) (g : S10240x128.Idx → EReal) (ix : S2x10240x128.Idx) (z : EReal) :
    refOut f g ix ≤ z ↔ 0 ≤ z ∧ ∀ k < 160000, wordAt f 1 (160000 * (ix 0).val + k) = BitVec.ofNat 32 (ix 1).val →
      rowAt (F := Ideal) g (wordAt f 0 (160000 * (ix 0).val + k)).toNat (ix 2) ≤ z := by
  have h0 : (Ideal.ofBits .f32 0x00000000#32 : EReal) = 0 := by simp [Ideal.ofBits, Ideal.ieee]
  have hb : (Ideal.ofBits .f32 0xFF800000#32 : EReal) = ⊥ := by simp [Ideal.ofBits, Ideal.ieee]
  have hr := reduce_le (candOf (hitOf (halfOf f 1 slices_S2x320000_S1x320000_1_0)) (msgOf g (startOf (halfOf f 0 slices_S2x320000_S1x320000_0_0))))
    (fun i => constant (F := Ideal) S_ .f32 0xFF800000#32 i) (fun _ => hb) ix z
  have e : refOut f g ix = max _ (Ideal.ofBits .f32 0x00000000#32 : EReal) := max_apply _ _ ix
  rw [e, h0]
  refine max_le_iff.trans (and_comm.trans (and_congr_right fun _ => hr.trans ?_))
  exact ⟨fun H k hk => (cand_le hf g (ix 0) (ix 1) ⟨k, hk⟩ (ix 2) z).mp (H ⟨k, hk⟩),
    fun H k => (cand_le hf g (ix 0) (ix 1) k (ix 2) z).mpr (H k.val k.isLt)⟩

/-- The two results are equal. -/
theorem segOut_eq {f : IVec S2x320000 32} (hf : ∀ ix, (f ix).toNat < 10000) (g : S10240x128.Idx → EReal) : segOut (F := Ideal) f g = refOut f g :=
  funext fun ix => eq_of_forall_ge_iff fun z => (segOut_le f g ix z).trans (refOut_le hf g ix z).symm

theorem res_eq (m : (ℓ : Loc nD τ Cert.ReferenceIdeal.sig) → Buf (Elt Ideal) ℓ) (c : Dev nD) :
    Cert.ReferenceIdeal.Value.res_main_v18 m c
      = refOut (m ((c.tc : Thread nD τ).loc main_arg0)) (m ((c.tc : Thread nD τ).loc main_arg1)) := by
  unfold Cert.ReferenceIdeal.Value.res_main_v18
  rfl

end Cert.SegMax

end
-- ==== Proof.Segmax.lean ====
module

public import proofs.«01_k».proof.Defs
public import proofs.«01_k».proof.Proof.Launch
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_edges_in_range

@[expose] public section

noncomputable section

/-!
# The segment maximum

The kernel's run is proved once, for any float values (`Cert.Launch.run_main`). Both frames of the kernel are read off it, and with
`Cert.SegMax.segOut_eq` so is the equation with the reference over the extended reals.
-/

namespace Cert.SegMaxProof

open Idealize.ShloMosaic Idealize.SL.Sem

set_option maxHeartbeats 8000000 in
set_option maxRecDepth 65536 in
theorem frame_kernel : Cert.quiescent_Kernel := fun m ρ hm =>
  (θ_run Cert.KernelIdeal.defs _ _).mono (fun _ h => ⟨fun c => ⟨(h.1 c).1, (h.1 c).2.1⟩, h.2⟩)
    (Cert.Launch.run_main (F := Bits) m ρ (Cert.Launch.inRange_of_pre (F := Bits) m hm))

theorem frame_ideal : Cert.quiescent_KernelIdeal := fun m ρ hm =>
  (θ_run Cert.KernelIdeal.defs _ _).mono (fun _ h => ⟨fun c => ⟨(h.1 c).1, (h.1 c).2.1⟩, h.2⟩)
    (Cert.Launch.run_main (F := Ideal) m ρ (Cert.Launch.inRange_of_pre (F := Ideal) m hm))

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_edges_in_range := fun m ρ _ => frame_reference m ρ trivial

/-- On edges in range, the kernel's result is the reference's. -/
theorem algebraic : Cert.algebraic_KernelIdeal_ReferenceIdeal := fun m ρ m' ρ' hm hargs => by
  have hr := Cert.Launch.inRange_of_pre (F := Ideal) m hm
  refine ⟨fun c => Cert.Launch.final m c, ?_, ?_⟩
  · exact (θ_run Cert.KernelIdeal.defs _ _).mono (fun _ h c => ⟨(h.1 c).2.2, (h.1 c).1, (h.1 c).2.1⟩) (Cert.Launch.run_main (F := Ideal) m ρ hr)
  · refine (θ_run Cert.ReferenceIdeal.defs _ _).mono (fun r h c => ⟨(h c).1.trans ?_, (h c).2⟩) (Cert.ReferenceIdeal.Value.run (F := Ideal) m' ρ')
    refine (Cert.SegMax.res_eq m' c).trans ?_
    rw [(hargs c).1, (hargs c).2]
    exact (Cert.SegMax.segOut_eq (hr c) _).symm

end Cert.SegMaxProof

end
-- ==== Proof.Dense.lean ====
module

public import Idealize.ShloMosaic.PureOps.Ideal
public import Idealize.ShloMosaic.PureOps.Ideal.Laws
public import Idealize.ShloMosaic.Lib.KernelVsHost
public import Idealize.ShloMosaic.Lib.MatmulPlain
public import Idealize.ShloMosaic.Lib.StackMember
public import Idealize.ShloMosaic.Lib.ValueLayout
public import Idealize.ShloMosaic.Lib.Pipeline.Value

@[expose] public section

noncomputable section

/-!
# Dense products, entry by entry

The kernel multiplies 1024 rows at a time, the reference all 10240 at once. At an entry both are the same sum of 128 products; the
weights enter as the transpose of the matrix given, the bias as one row repeated.
-/

namespace Cert.Dense

open Idealize.ShloMosaic Idealize.ShloMosaic.ValueIdx

abbrev Rows : Shape := ⟨2, ![10240, 128]⟩
abbrev Block : Shape := ⟨2, ![1024, 128]⟩
abbrev Mat : Shape := ⟨2, ![128, 128]⟩
abbrev Line : Shape := ⟨2, ![1, 128]⟩
abbrev Bias : Shape := ⟨1, ![128]⟩

/-- Row `q` of `x` times row `c` of `w`. -/
def dotAt (x : Rows.Idx → EReal) (w : Mat.Idx → EReal) (q : Fin 10240) (c : Fin 128) : EReal :=
  ∑ k : Fin 128, x (ix2 q k) * w (ix2 c k)

/-- Row `1024 * t + r`, the row `r` of block `t`. -/
def rowOf (t : Nat) (ht : t < 10) (r : Fin 1024) : Fin 10240 := ⟨t * 1024 + r.val, by omega⟩

/-- Every row is in a block. -/
theorem eq_rowOf (q : Fin 10240) : ∃ t ht r, q = rowOf t ht r :=
  ⟨q.val / 1024, by omega, ⟨q.val % 1024, by omega⟩, Fin.ext (by show q.val = q.val / 1024 * 1024 + q.val % 1024; omega)⟩

theorem block_dot (y : FVec Ideal Block .f32) (x : Rows.Idx → EReal) (w : FVec Ideal Mat .f32) (h : Mat.Transposes [1, 0] Mat)
    (r : Fin 1024) (q : Fin 10240) (c : Fin 128) (hy : ∀ k, y (ix2 r k) = x (ix2 q k)) :
    matmul (DotDims.plain 1024 128 128) none y (transpose Mat [1, 0] w h) (constant Block .f32 0x00000000#32) (ix2 r c) = dotAt x w q c := by
  refine (Ideal.matmul_plain_apply none y (transpose Mat [1, 0] w h) _ r c).trans ?_
  have h0 : (constant Block .f32 0x00000000#32 : FVec Ideal Block .f32) (ix2 r c) = 0 := Ideal.ofBits_zero_f32
  rw [h0, zero_add]
  exact Finset.sum_congr rfl fun k _ => by rw [hy k, transpose_ix2_apply]

theorem rows_dot (x : FVec Ideal Rows .f32) (w : FVec Ideal Mat .f32) (h : Mat.Transposes [1, 0] Mat) (q : Fin 10240) (c : Fin 128) :
    Host.dotGeneral (DotDims.plain 10240 128 128) none x (transpose Mat [1, 0] w h) (ix2 q c) = dotAt x w q c := by
  refine (Idealize.ShloMosaic.StackMember.dotGeneral_plain_apply none x (transpose Mat [1, 0] w h) q c).trans ?_
  exact Finset.sum_congr rfl fun k _ => by rw [transpose_ix2_apply]

theorem block_bias (b : Bias.Idx → EReal) (h1 : Bias.ShapeCasts Line) (h2 : Line.ShapeCasts Line) (hb : Line.Broadcasts Block)
    (r : Fin 1024) (c : Fin 128) : broadcastTo Block (shapeCast Line (shapeCast Line b h1) h2) hb (ix2 r c) = b (ix1 c) := by
  rw [shapeCast_self]
  refine (broadcastTo_apply (shapeCast Line b h1) hb (ix2 r c) (ix2 (0 : Fin 1) c) fun a => ?_).trans ?_
  · match a with
    | ⟨0, _⟩ => rfl
    | ⟨1, _⟩ => rfl
  · refine shapeCast_apply b h1 (ix2 (0 : Fin 1) c) (ix1 c) ?_
    rw [Shape.rowMajor_val_two, Shape.rowMajor_val_one]
    show c.val = 0 * 128 + c.val
    omega

/-- The entry of the layer at row `q`, column `c`, of `x`, of the two partial maxima `a₀` and `a₁`, and of the weights and the bias. -/
def layerAt (x a₀ a₁ : Rows.Idx → EReal) (ws wn : Mat.Idx → EReal) (b : Bias.Idx → EReal) (q : Fin 10240) (c : Fin 128) : EReal :=
  dotAt x ws q c + dotAt (fun i => max (a₀ i) (a₁ i)) wn q c + b (ix1 c)

theorem rows_bias (b : Bias.Idx → EReal) (h1 : Bias.BroadcastsInDim Line ![1]) (h2 : Line.BroadcastsInDim Rows ![0, 1])
    (q : Fin 10240) (c : Fin 128) :
    broadcastInDim Rows ![0, 1] h2 (broadcastInDim Line ![1] h1 b) (ix2 q c) = b (ix1 c) := by
  rw [broadcastInDim_oneRow_apply]
  refine broadcastInDim_apply ![1] h1 b (ix2 (0 : Fin 1) c) (ix1 c) fun a => ?_
  match a with
  | ⟨0, _⟩ => rfl

end Cert.Dense

end
-- ==== Proof.Pool.lean ====
module

public import proofs.«01_k».proof.Proof.Dense
public import proofs.«01_k».proof.Defs
public import proofs.«01_k».proof.Proof.Gen.Pool.Frame
public import proofs.«01_k».proof.Proof.Gen.PoolIdeal.Value
public import proofs.«01_k».proof.Proof.Gen.PoolReferenceIdeal.Run
public import Idealize.ShloMosaic.Lib.Quiescent

@[expose] public section

set_option maxRecDepth 16384

noncomputable section

/-!
# The pooled messages

Each of the ten steps writes its 1024 rows of `relu (h · Wpᵀ + bp)`, so the result is the reference's at every entry.
-/

namespace Cert.PoolProof

open Cert.PoolIdeal Cert.PoolIdeal.Gen Cert.Dense
open Idealize.ShloMosaic Idealize.ShloMosaic.TcCoe Idealize.ShloMosaic.ValueIdx Idealize.SL.Sem
open Idealize.ShloMosaic.Pipeline (Dat)

/-- The result at row `q`, column `c`. -/
def poolAt (h : Rows.Idx → EReal) (w : Mat.Idx → EReal) (b : Bias.Idx → EReal) (q : Fin 10240) (c : Fin 128) : EReal :=
  max (dotAt h w q c + b (ix1 c)) (Ideal.ofBits .f32 0x00000000#32)

variable (m : (ℓ : Loc nD τ sig) → Buf (Elt Ideal) ℓ)

theorem index_eq : ∀ t : Fin cfg0.N, t.val < 10 ∧ (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) :=
  (by decide +kernel : ∀ t : Fin grid0.N, _)

theorem weights_eq (c : Dev nD) : V m c main_v0 = transpose S128x128 [1, 0] (m ((c : Thread nD τ).loc main_arg1)) Facts₀.transposes_S128x128_S128x128_1_0 := by
  show StableHlo.after hostOps0 _ (Proc.devRef .tc main_v0) = _
  after_results
  try rfl

theorem bias_eq (c : Dev nD) : V m c main_v1 = shapeCast S1x128 (m ((c : Thread nD τ).loc main_arg2)) Facts₀.shapeCasts_S128_S1x128 := by
  show StableHlo.after hostOps0 _ (Proc.devRef .tc main_v1) = _
  after_results
  try rfl

theorem rows_apply (c : Dev nD) (t : Fin cfg0.N) (r : Fin 1024) (k : Fin 128) :
    iblk m c 0 t (ix2 r k) = m ((c : Thread nD τ).loc main_arg0) (ix2 (rowOf t.val (index_eq t).1 r) k) := by
  rw [← V_main_arg0 m c]
  refine congrArg (V m c main_arg0) (funext fun a => Fin.ext ?_)
  match a with
  | ⟨0, _⟩ => show win0_0.index t 0 * 1024 + 1 * r.val = t.val * 1024 + r.val; rw [(index_eq t).2.1.1]; omega
  | ⟨1, _⟩ => show win0_0.index t 1 * 128 + 1 * k.val = k.val; rw [(index_eq t).2.1.2]; omega

theorem mat_block (c : Dev nD) (t : Fin cfg0.N) : iblk m c 1 t = V m c main_v0 := by
  funext j
  refine congrArg (V m c main_v0) (funext fun a => Fin.ext ?_)
  match a with
  | ⟨0, _⟩ => show win0_1.index t 0 * 128 + 1 * (j 0).val = (j 0).val; rw [(index_eq t).2.2.1.1]; omega
  | ⟨1, _⟩ => show win0_1.index t 1 * 128 + 1 * (j 1).val = (j 1).val; rw [(index_eq t).2.2.1.2]; omega

theorem bias_block (c : Dev nD) (t : Fin cfg0.N) : iblk m c 2 t = V m c main_v1 := by
  funext j
  refine congrArg (V m c main_v1) (funext fun a => Fin.ext ?_)
  match a with
  | ⟨0, _⟩ => show win0_2.index t 0 * 1 + 1 * (j 0).val = (j 0).val; rw [(index_eq t).2.2.2.1.1]; omega
  | ⟨1, _⟩ => show win0_2.index t 1 * 128 + 1 * (j 1).val = (j 1).val; rw [(index_eq t).2.2.2.1.2]; omega

theorem pay_apply (y : Vec Ideal Block .f32) (h : Rows.Idx → EReal) (w : Vec Ideal Mat .f32) (b : Vec Ideal Bias .f32)
    (r : Fin 1024) (q : Fin 10240) (c : Fin 128) (hy : ∀ k, y (ix2 r k) = h (ix2 q k)) :
    k0_pay1 (F := Ideal) y (transpose S128x128 [1, 0] w Facts₀.transposes_S128x128_S128x128_1_0)
      (shapeCast S1x128 b Facts₀.shapeCasts_S128_S1x128) (ix2 r c) = poolAt h w b q c := by
  show max (matmul (F := Ideal) (φ₁ := .f32) (φ₂ := .f32) (DotDims.plain 1024 128 128) none y (shapeCast Mat (transpose Mat [1, 0] w _) _) _ (ix2 r c)
    + broadcastTo Block (shapeCast Line (shapeCast Line b _) _) _ (ix2 r c)) _ = _
  rw [shapeCast_self, block_dot y h w _ r q c hy, block_bias]
  rfl

theorem hz : (![0, 0] : Fin 2 → Nat) = fun _ => 0 := funext fun a => by fin_cases a <;> rfl

theorem out_eq (x0 : Vec Ideal S1024x128 .f32) (x1 : Vec Ideal S128x128 .f32) (x2 : Vec Ideal S1x128 .f32) :
    out0_3 x0 x1 x2 = k0_pay1 x0 x1 x2 := by
  unfold out0_3
  rw [View.canon_unit_zero hz, View.ld_unit_zero hz, View.ld_unit_zero hz, View.ld_unit_zero hz]

/-- The result's entry at row `r` of block `t`. -/
theorem final_apply (d : Dev nD) (t : Fin cfg0.N) (r : Fin 1024) (c : Fin 128) :
    (dats m 0 d).arrAt 3 cfg0.N (ix2 (rowOf t.val (index_eq t).1 r) c)
      = poolAt (m ((d : Thread nD τ).loc main_arg0)) (m ((d : Thread nD τ).loc main_arg1)) (m ((d : Thread nD τ).loc main_arg2))
          (rowOf t.val (index_eq t).1 r) c := by
  have e : ((cfg0.win 3).blk t).view.emb (ix2 r c) = ix2 (rowOf t.val (index_eq t).1 r) c := by
    funext a
    apply Fin.ext
    match a with
    | ⟨0, _⟩ => show win0_3.index t 0 * 1024 + 1 * r.val = t.val * 1024 + r.val; rw [(index_eq t).2.2.2.2.1]; omega
    | ⟨1, _⟩ => show win0_3.index t 1 * 128 + 1 * c.val = c.val; rw [(index_eq t).2.2.2.2.2]; omega
  have h := congrFun ((Cert.PoolIdeal.Value.blocks3 m d t (flush0_3 t)).trans (Cert.PoolIdeal.Value.flushed3 m d t)) (ix2 r c)
  rw [← e]
  refine h.trans ?_
  rw [out_eq, mat_block, bias_block, weights_eq, bias_eq]
  exact pay_apply _ _ _ _ r _ c (rows_apply m d t r)

/-- The reference's result. -/
def refOut (h : Vec Ideal Rows .f32) (w : Vec Ideal Mat .f32) (b : Vec Ideal Bias .f32) : Vec Ideal Rows .f32 :=
  maximumf (F := Ideal) (φ := .f32) (addf (Host.dotGeneral (F := Ideal) (φ₁ := .f32) (φ₂ := .f32) Cert.PoolReferenceIdeal.dot_S10240x128_S128x128_S10240x128_1_0_0_1_n_n none h
      (transpose Mat [1, 0] w Cert.PoolReferenceIdeal.Facts₀.transposes_S128x128_S128x128_1_0))
    (broadcastInDim Rows ![0, 1] Cert.PoolReferenceIdeal.Facts₀.bcast_S1x128_S10240x128_0_1
      (broadcastInDim Line ![1] Cert.PoolReferenceIdeal.Facts₀.bcast_S128_S1x128_1 b)))
    (broadcastInDim Rows ![] Cert.PoolReferenceIdeal.Facts₀.bcast_S_S10240x128 (constant Cert.PoolReferenceIdeal.S_ .f32 0x00000000#32))

theorem refOut_apply (h : Vec Ideal Rows .f32) (w : Vec Ideal Mat .f32) (b : Vec Ideal Bias .f32) (q : Fin 10240) (c : Fin 128) :
    refOut h w b (ix2 q c) = poolAt h w b q c := by
  show max (Host.dotGeneral (F := Ideal) (φ₁ := .f32) (φ₂ := .f32) (DotDims.plain 10240 128 128) none h (transpose Mat [1, 0] w _) (ix2 q c)
    + broadcastInDim Rows ![0, 1] _ (broadcastInDim Line ![1] _ b) (ix2 q c)) _ = _
  rw [rows_dot, rows_bias]
  rfl

theorem final_eq (d : Dev nD) : (dats m 0 d).arrAt 3 cfg0.N
    = refOut (m ((d : Thread nD τ).loc main_arg0)) (m ((d : Thread nD τ).loc main_arg1)) (m ((d : Thread nD τ).loc main_arg2)) := by
  funext i
  obtain ⟨q, c, rfl⟩ : ∃ (q : Fin 10240) (c : Fin 128), i = ix2 q c := ⟨i 0, i 1, eq_ix2 i⟩
  obtain ⟨t, ht, r, rfl⟩ := eq_rowOf q
  exact (final_apply m d ⟨t, ht.trans_eq N_0.symm⟩ r c).trans (refOut_apply _ _ _ _ _).symm

/-! ## The claims -/

theorem frame : Cert.quiescent_Pool := fun m ρ _ => Cert.Pool.Gen.frame m ρ
theorem frame_ideal : Cert.quiescent_PoolIdeal := fun m ρ _ => Cert.PoolIdeal.Gen.frame m ρ
theorem frame_reference : Cert.quiescent_PoolReferenceIdeal := fun m ρ _ =>
  (θ_run Cert.PoolReferenceIdeal.defs _ _).mono (fun r h => ⟨fun c => (h c).2, Idealize.ShloMosaic.sem_eq_zero_of_no_sems (by decide) r.2⟩)
    (Cert.PoolReferenceIdeal.Value.run (F := Ideal) m ρ)

theorem algebraic : Cert.algebraic_PoolIdeal_PoolReferenceIdeal := fun m ρ m' ρ' _ hargs => by
  refine ⟨fun c => (dats m 0 c).arrAt 3 cfg0.N, Cert.PoolIdeal.Value.run_blocks (F := Ideal) m ρ, ?_⟩
  refine (θ_run Cert.PoolReferenceIdeal.defs _ _).mono (fun r h c => ⟨(h c).1.trans ?_, (h c).2⟩) (Cert.PoolReferenceIdeal.Value.run (F := Ideal) m' ρ')
  show _ = (dats m 0 c).arrAt 3 cfg0.N
  rw [final_eq, ← (hargs c).1, ← (hargs c).2.1, ← (hargs c).2.2]
  rfl

end Cert.PoolProof

end
-- ==== Proof.Hidden.lean ====
module

public import proofs.«01_k».proof.Proof.Dense
public import proofs.«01_k».proof.Defs
public import proofs.«01_k».proof.Proof.Gen.Hidden.Frame
public import proofs.«01_k».proof.Proof.Gen.HiddenIdeal.Value
public import proofs.«01_k».proof.Proof.Gen.HiddenReferenceIdeal.Run
public import Idealize.ShloMosaic.Lib.Quiescent

@[expose] public section

set_option maxRecDepth 16384

noncomputable section

/-!
# The hidden layer

Each of the ten steps writes its 1024 rows of `relu (h · Wsᵀ + max(a₀, a₁) · Wnᵀ + b)`, so the result is the reference's at every entry.
-/

namespace Cert.HiddenProof

open Cert.HiddenIdeal Cert.HiddenIdeal.Gen Cert.Dense
open Idealize.ShloMosaic Idealize.ShloMosaic.TcCoe Idealize.ShloMosaic.ValueIdx Idealize.SL.Sem
open Idealize.ShloMosaic.Pipeline (Dat)

/-- The partial maxima the first SparseCore left, -/
def first (a : Vec Ideal S2x10240x128 .f32) : Vec Ideal Rows .f32 :=
  shapeCast S10240x128 (extractStridedSlice S1x10240x128 ![0, 0, 0] a Facts₀.slices_S2x10240x128_S1x10240x128_0_0_0)
    Facts₀.shapeCasts_S1x10240x128_S10240x128

/-- and the second. -/
def second (a : Vec Ideal S2x10240x128 .f32) : Vec Ideal Rows .f32 :=
  shapeCast S10240x128 (extractStridedSlice S1x10240x128 ![1, 0, 0] a Facts₀.slices_S2x10240x128_S1x10240x128_1_0_0)
    Facts₀.shapeCasts_S1x10240x128_S10240x128

/-- The result at row `q`, column `c`. -/
def hiddenAt (x a₀ a₁ : Rows.Idx → EReal) (ws wn : Mat.Idx → EReal) (b : Bias.Idx → EReal) (q : Fin 10240) (c : Fin 128) : EReal :=
  max (layerAt x a₀ a₁ ws wn b q c) (Ideal.ofBits .f32 0x00000000#32)

variable (m : (ℓ : Loc nD τ sig) → Buf (Elt Ideal) ℓ)

theorem index_eq : ∀ t : Fin cfg0.N, t.val < 10 ∧ (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) :=
  (by decide +kernel : ∀ t : Fin grid0.N, _)

theorem first_eq (c : Dev nD) : V m c main_v1 = first (m ((c : Thread nD τ).loc main_arg1)) := by
  show StableHlo.after hostOps0 _ (Proc.devRef .tc main_v1) = _
  after_results
  try rfl

theorem second_eq (c : Dev nD) : V m c main_v3 = second (m ((c : Thread nD τ).loc main_arg1)) := by
  show StableHlo.after hostOps0 _ (Proc.devRef .tc main_v3) = _
  after_results
  try rfl

theorem self_eq (c : Dev nD) : V m c main_v4 = transpose S128x128 [1, 0] (m ((c : Thread nD τ).loc main_arg2)) Facts₀.transposes_S128x128_S128x128_1_0 := by
  show StableHlo.after hostOps0 _ (Proc.devRef .tc main_v4) = _
  after_results
  try rfl

theorem neigh_eq (c : Dev nD) : V m c main_v5 = transpose S128x128 [1, 0] (m ((c : Thread nD τ).loc main_arg3)) Facts₀.transposes_S128x128_S128x128_1_0 := by
  show StableHlo.after hostOps0 _ (Proc.devRef .tc main_v5) = _
  after_results
  try rfl

theorem bias_eq (c : Dev nD) : V m c main_v6 = shapeCast S1x128 (m ((c : Thread nD τ).loc main_arg4)) Facts₀.shapeCasts_S128_S1x128 := by
  show StableHlo.after hostOps0 _ (Proc.devRef .tc main_v6) = _
  after_results
  try rfl

theorem rows_apply (c : Dev nD) (t : Fin cfg0.N) (r : Fin 1024) (k : Fin 128) :
    iblk m c 0 t (ix2 r k) = m ((c : Thread nD τ).loc main_arg0) (ix2 (rowOf t.val (index_eq t).1 r) k) := by
  obtain ⟨-, ⟨e0, e1⟩, -⟩ := index_eq t
  rw [← V_main_arg0 m c]
  refine congrArg (V m c main_arg0) (funext fun a => Fin.ext ?_)
  match a with
  | ⟨0, _⟩ => show win0_0.index t 0 * 1024 + 1 * r.val = t.val * 1024 + r.val; rw [e0]; omega
  | ⟨1, _⟩ => show win0_0.index t 1 * 128 + 1 * k.val = k.val; rw [e1]; omega

theorem first_apply (c : Dev nD) (t : Fin cfg0.N) (r : Fin 1024) (k : Fin 128) :
    iblk m c 1 t (ix2 r k) = first (m ((c : Thread nD τ).loc main_arg1)) (ix2 (rowOf t.val (index_eq t).1 r) k) := by
  obtain ⟨-, -, ⟨e0, e1⟩, -⟩ := index_eq t
  rw [← first_eq m c]
  refine congrArg (V m c main_v1) (funext fun a => Fin.ext ?_)
  match a with
  | ⟨0, _⟩ => show win0_1.index t 0 * 1024 + 1 * r.val = t.val * 1024 + r.val; rw [e0]; omega
  | ⟨1, _⟩ => show win0_1.index t 1 * 128 + 1 * k.val = k.val; rw [e1]; omega

theorem second_apply (c : Dev nD) (t : Fin cfg0.N) (r : Fin 1024) (k : Fin 128) :
    iblk m c 2 t (ix2 r k) = second (m ((c : Thread nD τ).loc main_arg1)) (ix2 (rowOf t.val (index_eq t).1 r) k) := by
  obtain ⟨-, -, -, ⟨e0, e1⟩, -⟩ := index_eq t
  rw [← second_eq m c]
  refine congrArg (V m c main_v3) (funext fun a => Fin.ext ?_)
  match a with
  | ⟨0, _⟩ => show win0_2.index t 0 * 1024 + 1 * r.val = t.val * 1024 + r.val; rw [e0]; omega
  | ⟨1, _⟩ => show win0_2.index t 1 * 128 + 1 * k.val = k.val; rw [e1]; omega

theorem self_block (c : Dev nD) (t : Fin cfg0.N) : iblk m c 3 t = V m c main_v4 := by
  obtain ⟨-, -, -, -, ⟨e0, e1⟩, -⟩ := index_eq t
  funext j
  refine congrArg (V m c main_v4) (funext fun a => Fin.ext ?_)
  match a with
  | ⟨0, _⟩ => show win0_3.index t 0 * 128 + 1 * (j 0).val = (j 0).val; rw [e0]; omega
  | ⟨1, _⟩ => show win0_3.index t 1 * 128 + 1 * (j 1).val = (j 1).val; rw [e1]; omega

theorem neigh_block (c : Dev nD) (t : Fin cfg0.N) : iblk m c 4 t = V m c main_v5 := by
  obtain ⟨-, -, -, -, -, ⟨e0, e1⟩, -⟩ := index_eq t
  funext j
  refine congrArg (V m c main_v5) (funext fun a => Fin.ext ?_)
  match a with
  | ⟨0, _⟩ => show win0_4.index t 0 * 128 + 1 * (j 0).val = (j 0).val; rw [e0]; omega
  | ⟨1, _⟩ => show win0_4.index t 1 * 128 + 1 * (j 1).val = (j 1).val; rw [e1]; omega

theorem bias_block (c : Dev nD) (t : Fin cfg0.N) : iblk m c 5 t = V m c main_v6 := by
  obtain ⟨-, -, -, -, -, -, ⟨e0, e1⟩, -⟩ := index_eq t
  funext j
  refine congrArg (V m c main_v6) (funext fun a => Fin.ext ?_)
  match a with
  | ⟨0, _⟩ => show win0_5.index t 0 * 1 + 1 * (j 0).val = (j 0).val; rw [e0]; omega
  | ⟨1, _⟩ => show win0_5.index t 1 * 128 + 1 * (j 1).val = (j 1).val; rw [e1]; omega

theorem pay_apply (y y₀ y₁ : Vec Ideal Block .f32) (x a₀ a₁ : Rows.Idx → EReal) (ws wn : Vec Ideal Mat .f32) (b : Vec Ideal Bias .f32)
    (r : Fin 1024) (q : Fin 10240) (c : Fin 128) (hy : ∀ k, y (ix2 r k) = x (ix2 q k)) (hy₀ : ∀ k, y₀ (ix2 r k) = a₀ (ix2 q k))
    (hy₁ : ∀ k, y₁ (ix2 r k) = a₁ (ix2 q k)) :
    k0_pay1 (F := Ideal) y₀ y₁ y (transpose S128x128 [1, 0] ws Facts₀.transposes_S128x128_S128x128_1_0)
      (transpose S128x128 [1, 0] wn Facts₀.transposes_S128x128_S128x128_1_0) (shapeCast S1x128 b Facts₀.shapeCasts_S128_S1x128) (ix2 r c)
      = hiddenAt x a₀ a₁ ws wn b q c := by
  show max (matmul (F := Ideal) (φ₁ := .f32) (φ₂ := .f32) (DotDims.plain 1024 128 128) none y (shapeCast Mat (transpose Mat [1, 0] ws _) _) _ (ix2 r c)
    + matmul (DotDims.plain 1024 128 128) none (maximumf (F := Ideal) (φ := .f32) (shapeCast Block y₀ _) (shapeCast Block y₁ _))
        (shapeCast Mat (transpose Mat [1, 0] wn _) _) _ (ix2 r c)
    + broadcastTo Block (shapeCast Line (shapeCast Line b _) _) _ (ix2 r c)) _ = _
  rw [shapeCast_self, shapeCast_self, shapeCast_self, shapeCast_self, block_dot y x ws _ r q c hy,
    block_dot _ (fun i => max (a₀ i) (a₁ i)) wn _ r q c (fun k => congrArg₂ max (hy₀ k) (hy₁ k)), block_bias]
  rfl

theorem hz : (![0, 0] : Fin 2 → Nat) = fun _ => 0 := funext fun a => by fin_cases a <;> rfl

theorem out_eq (x0 x1 x2 : Vec Ideal S1024x128 .f32) (x3 x4 : Vec Ideal S128x128 .f32) (x5 : Vec Ideal S1x128 .f32) :
    out0_6 x0 x1 x2 x3 x4 x5 = k0_pay1 x1 x2 x0 x3 x4 x5 := by
  unfold out0_6
  rw [View.canon_unit_zero hz, View.ld_unit_zero hz, View.ld_unit_zero hz, View.ld_unit_zero hz, View.ld_unit_zero hz,
    View.ld_unit_zero hz, View.ld_unit_zero hz]

/-- The result's entry at row `r` of block `t`. -/
theorem final_apply (d : Dev nD) (t : Fin cfg0.N) (r : Fin 1024) (c : Fin 128) :
    (dats m 0 d).arrAt 6 cfg0.N (ix2 (rowOf t.val (index_eq t).1 r) c)
      = hiddenAt (m ((d : Thread nD τ).loc main_arg0)) (first (m ((d : Thread nD τ).loc main_arg1)))
          (second (m ((d : Thread nD τ).loc main_arg1))) (m ((d : Thread nD τ).loc main_arg2)) (m ((d : Thread nD τ).loc main_arg3))
          (m ((d : Thread nD τ).loc main_arg4)) (rowOf t.val (index_eq t).1 r) c := by
  have e : ((cfg0.win 6).blk t).view.emb (ix2 r c) = ix2 (rowOf t.val (index_eq t).1 r) c := by
    obtain ⟨-, -, -, -, -, -, -, e0, e1⟩ := index_eq t
    funext a
    apply Fin.ext
    match a with
    | ⟨0, _⟩ => show win0_6.index t 0 * 1024 + 1 * r.val = t.val * 1024 + r.val; rw [e0]; omega
    | ⟨1, _⟩ => show win0_6.index t 1 * 128 + 1 * c.val = c.val; rw [e1]; omega
  have h := congrFun ((Cert.HiddenIdeal.Value.blocks6 m d t (flush0_6 t)).trans (Cert.HiddenIdeal.Value.flushed6 m d t)) (ix2 r c)
  rw [← e]
  refine h.trans ?_
  rw [out_eq, self_block, neigh_block, bias_block, self_eq, neigh_eq, bias_eq]
  exact pay_apply _ _ _ _ _ _ _ _ _ r _ c (rows_apply m d t r) (first_apply m d t r) (second_apply m d t r)

/-- The reference's result. -/
def refOut (x : Vec Ideal Rows .f32) (a : Vec Ideal S2x10240x128 .f32) (ws wn : Vec Ideal Mat .f32) (b : Vec Ideal Bias .f32) :
    Vec Ideal Rows .f32 :=
  maximumf (F := Ideal) (φ := .f32) (addf (addf
      (Host.dotGeneral (F := Ideal) (φ₁ := .f32) (φ₂ := .f32) Cert.HiddenReferenceIdeal.dot_S10240x128_S128x128_S10240x128_1_0_0_1_n_n none x
        (transpose Mat [1, 0] ws Cert.HiddenReferenceIdeal.Facts₀.transposes_S128x128_S128x128_1_0))
      (Host.dotGeneral (F := Ideal) (φ₁ := .f32) (φ₂ := .f32) Cert.HiddenReferenceIdeal.dot_S10240x128_S128x128_S10240x128_1_0_0_1_n_n none (maximumf (first a) (second a))
        (transpose Mat [1, 0] wn Cert.HiddenReferenceIdeal.Facts₀.transposes_S128x128_S128x128_1_0)))
    (broadcastInDim Rows ![0, 1] Cert.HiddenReferenceIdeal.Facts₀.bcast_S1x128_S10240x128_0_1
      (broadcastInDim Line ![1] Cert.HiddenReferenceIdeal.Facts₀.bcast_S128_S1x128_1 b)))
    (broadcastInDim Rows ![] Cert.HiddenReferenceIdeal.Facts₀.bcast_S_S10240x128 (constant Cert.HiddenReferenceIdeal.S_ .f32 0x00000000#32))

theorem refOut_apply (x : Vec Ideal Rows .f32) (a : Vec Ideal S2x10240x128 .f32) (ws wn : Vec Ideal Mat .f32) (b : Vec Ideal Bias .f32)
    (q : Fin 10240) (c : Fin 128) : refOut x a ws wn b (ix2 q c) = hiddenAt x (first a) (second a) ws wn b q c := by
  show max (Host.dotGeneral (F := Ideal) (φ₁ := .f32) (φ₂ := .f32) (DotDims.plain 10240 128 128) none x (transpose Mat [1, 0] ws _) (ix2 q c)
    + Host.dotGeneral (F := Ideal) (φ₁ := .f32) (φ₂ := .f32) (DotDims.plain 10240 128 128) none (maximumf (F := Ideal) (φ := .f32) (first a) (second a))
        (transpose Mat [1, 0] wn _) (ix2 q c)
    + broadcastInDim Rows ![0, 1] _ (broadcastInDim Line ![1] _ b) (ix2 q c)) _ = _
  rw [rows_dot, rows_dot, rows_bias]
  rfl

theorem final_eq (d : Dev nD) : (dats m 0 d).arrAt 6 cfg0.N
    = refOut (m ((d : Thread nD τ).loc main_arg0)) (m ((d : Thread nD τ).loc main_arg1)) (m ((d : Thread nD τ).loc main_arg2))
        (m ((d : Thread nD τ).loc main_arg3)) (m ((d : Thread nD τ).loc main_arg4)) := by
  funext i
  obtain ⟨q, c, rfl⟩ : ∃ (q : Fin 10240) (c : Fin 128), i = ix2 q c := ⟨i 0, i 1, eq_ix2 i⟩
  obtain ⟨t, ht, r, rfl⟩ := eq_rowOf q
  exact (final_apply m d ⟨t, ht.trans_eq N_0.symm⟩ r c).trans (refOut_apply _ _ _ _ _ _ _).symm

/-! ## The claims -/

theorem frame : Cert.quiescent_Hidden := fun m ρ _ => Cert.Hidden.Gen.frame m ρ
theorem frame_ideal : Cert.quiescent_HiddenIdeal := fun m ρ _ => Cert.HiddenIdeal.Gen.frame m ρ
theorem frame_reference : Cert.quiescent_HiddenReferenceIdeal := fun m ρ _ =>
  (θ_run Cert.HiddenReferenceIdeal.defs _ _).mono (fun r h => ⟨fun c => (h c).2, Idealize.ShloMosaic.sem_eq_zero_of_no_sems (by decide) r.2⟩)
    (Cert.HiddenReferenceIdeal.Value.run (F := Ideal) m ρ)

theorem algebraic : Cert.algebraic_HiddenIdeal_HiddenReferenceIdeal := fun m ρ m' ρ' _ hargs => by
  refine ⟨fun c => (dats m 0 c).arrAt 6 cfg0.N, Cert.HiddenIdeal.Value.run_blocks (F := Ideal) m ρ, ?_⟩
  refine (θ_run Cert.HiddenReferenceIdeal.defs _ _).mono (fun r h c => ⟨(h c).1.trans ?_, (h c).2⟩) (Cert.HiddenReferenceIdeal.Value.run (F := Ideal) m' ρ')
  obtain ⟨h0, h1, h2, h3, h4⟩ := hargs c
  show _ = (dats m 0 c).arrAt 6 cfg0.N
  rw [final_eq, ← h0, ← h1, ← h2, ← h3, ← h4]
  rfl

end Cert.HiddenProof

end
-- ==== Proof.Out.lean ====
module

public import proofs.«01_k».proof.Proof.Dense
public import proofs.«01_k».proof.Defs
public import proofs.«01_k».proof.Proof.Gen.Out.Frame
public import proofs.«01_k».proof.Proof.Gen.OutIdeal.Value
public import proofs.«01_k».proof.Proof.Gen.OutReferenceIdeal.Run
public import Idealize.ShloMosaic.Lib.Quiescent

@[expose] public section

set_option maxRecDepth 16384

noncomputable section

/-!
# The output layer

Each of the ten steps writes its 1024 rows of `h · Wsᵀ + max(a₀, a₁) · Wnᵀ + b`, so the result is the reference's at every entry.
-/

namespace Cert.OutProof

open Cert.OutIdeal Cert.OutIdeal.Gen Cert.Dense
open Idealize.ShloMosaic Idealize.ShloMosaic.TcCoe Idealize.ShloMosaic.ValueIdx Idealize.SL.Sem
open Idealize.ShloMosaic.Pipeline (Dat)

/-- The partial maxima the first SparseCore left, -/
def first (a : Vec Ideal S2x10240x128 .f32) : Vec Ideal Rows .f32 :=
  shapeCast S10240x128 (extractStridedSlice S1x10240x128 ![0, 0, 0] a Facts₀.slices_S2x10240x128_S1x10240x128_0_0_0)
    Facts₀.shapeCasts_S1x10240x128_S10240x128

/-- and the second. -/
def second (a : Vec Ideal S2x10240x128 .f32) : Vec Ideal Rows .f32 :=
  shapeCast S10240x128 (extractStridedSlice S1x10240x128 ![1, 0, 0] a Facts₀.slices_S2x10240x128_S1x10240x128_1_0_0)
    Facts₀.shapeCasts_S1x10240x128_S10240x128

variable (m : (ℓ : Loc nD τ sig) → Buf (Elt Ideal) ℓ)

theorem index_eq : ∀ t : Fin cfg0.N, t.val < 10 ∧ (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) :=
  (by decide +kernel : ∀ t : Fin grid0.N, _)

theorem first_eq (c : Dev nD) : V m c main_v1 = first (m ((c : Thread nD τ).loc main_arg1)) := by
  show StableHlo.after hostOps0 _ (Proc.devRef .tc main_v1) = _
  after_results
  try rfl

theorem second_eq (c : Dev nD) : V m c main_v3 = second (m ((c : Thread nD τ).loc main_arg1)) := by
  show StableHlo.after hostOps0 _ (Proc.devRef .tc main_v3) = _
  after_results
  try rfl

theorem self_eq (c : Dev nD) : V m c main_v4 = transpose S128x128 [1, 0] (m ((c : Thread nD τ).loc main_arg2)) Facts₀.transposes_S128x128_S128x128_1_0 := by
  show StableHlo.after hostOps0 _ (Proc.devRef .tc main_v4) = _
  after_results
  try rfl

theorem neigh_eq (c : Dev nD) : V m c main_v5 = transpose S128x128 [1, 0] (m ((c : Thread nD τ).loc main_arg3)) Facts₀.transposes_S128x128_S128x128_1_0 := by
  show StableHlo.after hostOps0 _ (Proc.devRef .tc main_v5) = _
  after_results
  try rfl

theorem bias_eq (c : Dev nD) : V m c main_v6 = shapeCast S1x128 (m ((c : Thread nD τ).loc main_arg4)) Facts₀.shapeCasts_S128_S1x128 := by
  show StableHlo.after hostOps0 _ (Proc.devRef .tc main_v6) = _
  after_results
  try rfl

theorem rows_apply (c : Dev nD) (t : Fin cfg0.N) (r : Fin 1024) (k : Fin 128) :
    iblk m c 0 t (ix2 r k) = m ((c : Thread nD τ).loc main_arg0) (ix2 (rowOf t.val (index_eq t).1 r) k) := by
  obtain ⟨-, ⟨e0, e1⟩, -⟩ := index_eq t
  rw [← V_main_arg0 m c]
  refine congrArg (V m c main_arg0) (funext fun a => Fin.ext ?_)
  match a with
  | ⟨0, _⟩ => show win0_0.index t 0 * 1024 + 1 * r.val = t.val * 1024 + r.val; rw [e0]; omega
  | ⟨1, _⟩ => show win0_0.index t 1 * 128 + 1 * k.val = k.val; rw [e1]; omega

theorem first_apply (c : Dev nD) (t : Fin cfg0.N) (r : Fin 1024) (k : Fin 128) :
    iblk m c 1 t (ix2 r k) = first (m ((c : Thread nD τ).loc main_arg1)) (ix2 (rowOf t.val (index_eq t).1 r) k) := by
  obtain ⟨-, -, ⟨e0, e1⟩, -⟩ := index_eq t
  rw [← first_eq m c]
  refine congrArg (V m c main_v1) (funext fun a => Fin.ext ?_)
  match a with
  | ⟨0, _⟩ => show win0_1.index t 0 * 1024 + 1 * r.val = t.val * 1024 + r.val; rw [e0]; omega
  | ⟨1, _⟩ => show win0_1.index t 1 * 128 + 1 * k.val = k.val; rw [e1]; omega

theorem second_apply (c : Dev nD) (t : Fin cfg0.N) (r : Fin 1024) (k : Fin 128) :
    iblk m c 2 t (ix2 r k) = second (m ((c : Thread nD τ).loc main_arg1)) (ix2 (rowOf t.val (index_eq t).1 r) k) := by
  obtain ⟨-, -, -, ⟨e0, e1⟩, -⟩ := index_eq t
  rw [← second_eq m c]
  refine congrArg (V m c main_v3) (funext fun a => Fin.ext ?_)
  match a with
  | ⟨0, _⟩ => show win0_2.index t 0 * 1024 + 1 * r.val = t.val * 1024 + r.val; rw [e0]; omega
  | ⟨1, _⟩ => show win0_2.index t 1 * 128 + 1 * k.val = k.val; rw [e1]; omega

theorem self_block (c : Dev nD) (t : Fin cfg0.N) : iblk m c 3 t = V m c main_v4 := by
  obtain ⟨-, -, -, -, ⟨e0, e1⟩, -⟩ := index_eq t
  funext j
  refine congrArg (V m c main_v4) (funext fun a => Fin.ext ?_)
  match a with
  | ⟨0, _⟩ => show win0_3.index t 0 * 128 + 1 * (j 0).val = (j 0).val; rw [e0]; omega
  | ⟨1, _⟩ => show win0_3.index t 1 * 128 + 1 * (j 1).val = (j 1).val; rw [e1]; omega

theorem neigh_block (c : Dev nD) (t : Fin cfg0.N) : iblk m c 4 t = V m c main_v5 := by
  obtain ⟨-, -, -, -, -, ⟨e0, e1⟩, -⟩ := index_eq t
  funext j
  refine congrArg (V m c main_v5) (funext fun a => Fin.ext ?_)
  match a with
  | ⟨0, _⟩ => show win0_4.index t 0 * 128 + 1 * (j 0).val = (j 0).val; rw [e0]; omega
  | ⟨1, _⟩ => show win0_4.index t 1 * 128 + 1 * (j 1).val = (j 1).val; rw [e1]; omega

theorem bias_block (c : Dev nD) (t : Fin cfg0.N) : iblk m c 5 t = V m c main_v6 := by
  obtain ⟨-, -, -, -, -, -, ⟨e0, e1⟩, -⟩ := index_eq t
  funext j
  refine congrArg (V m c main_v6) (funext fun a => Fin.ext ?_)
  match a with
  | ⟨0, _⟩ => show win0_5.index t 0 * 1 + 1 * (j 0).val = (j 0).val; rw [e0]; omega
  | ⟨1, _⟩ => show win0_5.index t 1 * 128 + 1 * (j 1).val = (j 1).val; rw [e1]; omega

theorem pay_apply (y y₀ y₁ : Vec Ideal Block .f32) (x a₀ a₁ : Rows.Idx → EReal) (ws wn : Vec Ideal Mat .f32) (b : Vec Ideal Bias .f32)
    (r : Fin 1024) (q : Fin 10240) (c : Fin 128) (hy : ∀ k, y (ix2 r k) = x (ix2 q k)) (hy₀ : ∀ k, y₀ (ix2 r k) = a₀ (ix2 q k))
    (hy₁ : ∀ k, y₁ (ix2 r k) = a₁ (ix2 q k)) :
    k0_pay1 (F := Ideal) y₀ y₁ y (transpose S128x128 [1, 0] ws Facts₀.transposes_S128x128_S128x128_1_0)
      (transpose S128x128 [1, 0] wn Facts₀.transposes_S128x128_S128x128_1_0) (shapeCast S1x128 b Facts₀.shapeCasts_S128_S1x128) (ix2 r c)
      = layerAt x a₀ a₁ ws wn b q c := by
  show matmul (DotDims.plain 1024 128 128) none y (shapeCast Mat (transpose Mat [1, 0] ws _) _) _ (ix2 r c)
    + matmul (DotDims.plain 1024 128 128) none (maximumf (F := Ideal) (φ := .f32) (shapeCast Block y₀ _) (shapeCast Block y₁ _))
        (shapeCast Mat (transpose Mat [1, 0] wn _) _) _ (ix2 r c)
    + broadcastTo Block (shapeCast Line (shapeCast Line b _) _) _ (ix2 r c) = _
  rw [shapeCast_self, shapeCast_self, shapeCast_self, shapeCast_self, block_dot y x ws _ r q c hy,
    block_dot _ (fun i => max (a₀ i) (a₁ i)) wn _ r q c (fun k => congrArg₂ max (hy₀ k) (hy₁ k)), block_bias]
  rfl

theorem hz : (![0, 0] : Fin 2 → Nat) = fun _ => 0 := funext fun a => by fin_cases a <;> rfl

theorem out_eq (x0 x1 x2 : Vec Ideal S1024x128 .f32) (x3 x4 : Vec Ideal S128x128 .f32) (x5 : Vec Ideal S1x128 .f32) :
    out0_6 x0 x1 x2 x3 x4 x5 = k0_pay1 x1 x2 x0 x3 x4 x5 := by
  unfold out0_6
  rw [View.canon_unit_zero hz, View.ld_unit_zero hz, View.ld_unit_zero hz, View.ld_unit_zero hz, View.ld_unit_zero hz,
    View.ld_unit_zero hz, View.ld_unit_zero hz]

/-- The result's entry at row `r` of block `t`. -/
theorem final_apply (d : Dev nD) (t : Fin cfg0.N) (r : Fin 1024) (c : Fin 128) :
    (dats m 0 d).arrAt 6 cfg0.N (ix2 (rowOf t.val (index_eq t).1 r) c)
      = layerAt (m ((d : Thread nD τ).loc main_arg0)) (first (m ((d : Thread nD τ).loc main_arg1)))
          (second (m ((d : Thread nD τ).loc main_arg1))) (m ((d : Thread nD τ).loc main_arg2)) (m ((d : Thread nD τ).loc main_arg3))
          (m ((d : Thread nD τ).loc main_arg4)) (rowOf t.val (index_eq t).1 r) c := by
  have e : ((cfg0.win 6).blk t).view.emb (ix2 r c) = ix2 (rowOf t.val (index_eq t).1 r) c := by
    obtain ⟨-, -, -, -, -, -, -, e0, e1⟩ := index_eq t
    funext a
    apply Fin.ext
    match a with
    | ⟨0, _⟩ => show win0_6.index t 0 * 1024 + 1 * r.val = t.val * 1024 + r.val; rw [e0]; omega
    | ⟨1, _⟩ => show win0_6.index t 1 * 128 + 1 * c.val = c.val; rw [e1]; omega
  have h := congrFun ((Cert.OutIdeal.Value.blocks6 m d t (flush0_6 t)).trans (Cert.OutIdeal.Value.flushed6 m d t)) (ix2 r c)
  rw [← e]
  refine h.trans ?_
  rw [out_eq, self_block, neigh_block, bias_block, self_eq, neigh_eq, bias_eq]
  exact pay_apply _ _ _ _ _ _ _ _ _ r _ c (rows_apply m d t r) (first_apply m d t r) (second_apply m d t r)

/-- The reference's result. -/
def refOut (x : Vec Ideal Rows .f32) (a : Vec Ideal S2x10240x128 .f32) (ws wn : Vec Ideal Mat .f32) (b : Vec Ideal Bias .f32) :
    Vec Ideal Rows .f32 :=
  addf (F := Ideal) (φ := .f32) (addf
      (Host.dotGeneral (F := Ideal) (φ₁ := .f32) (φ₂ := .f32) Cert.OutReferenceIdeal.dot_S10240x128_S128x128_S10240x128_1_0_0_1_n_n none x
        (transpose Mat [1, 0] ws Cert.OutReferenceIdeal.Facts₀.transposes_S128x128_S128x128_1_0))
      (Host.dotGeneral (F := Ideal) (φ₁ := .f32) (φ₂ := .f32) Cert.OutReferenceIdeal.dot_S10240x128_S128x128_S10240x128_1_0_0_1_n_n none (maximumf (first a) (second a))
        (transpose Mat [1, 0] wn Cert.OutReferenceIdeal.Facts₀.transposes_S128x128_S128x128_1_0)))
    (broadcastInDim Rows ![0, 1] Cert.OutReferenceIdeal.Facts₀.bcast_S1x128_S10240x128_0_1
      (broadcastInDim Line ![1] Cert.OutReferenceIdeal.Facts₀.bcast_S128_S1x128_1 b))

theorem refOut_apply (x : Vec Ideal Rows .f32) (a : Vec Ideal S2x10240x128 .f32) (ws wn : Vec Ideal Mat .f32) (b : Vec Ideal Bias .f32)
    (q : Fin 10240) (c : Fin 128) : refOut x a ws wn b (ix2 q c) = layerAt x (first a) (second a) ws wn b q c := by
  show Host.dotGeneral (F := Ideal) (φ₁ := .f32) (φ₂ := .f32) (DotDims.plain 10240 128 128) none x (transpose Mat [1, 0] ws _) (ix2 q c)
    + Host.dotGeneral (F := Ideal) (φ₁ := .f32) (φ₂ := .f32) (DotDims.plain 10240 128 128) none (maximumf (F := Ideal) (φ := .f32) (first a) (second a))
        (transpose Mat [1, 0] wn _) (ix2 q c)
    + broadcastInDim Rows ![0, 1] _ (broadcastInDim Line ![1] _ b) (ix2 q c) = _
  rw [rows_dot, rows_dot, rows_bias]
  rfl

theorem final_eq (d : Dev nD) : (dats m 0 d).arrAt 6 cfg0.N
    = refOut (m ((d : Thread nD τ).loc main_arg0)) (m ((d : Thread nD τ).loc main_arg1)) (m ((d : Thread nD τ).loc main_arg2))
        (m ((d : Thread nD τ).loc main_arg3)) (m ((d : Thread nD τ).loc main_arg4)) := by
  funext i
  obtain ⟨q, c, rfl⟩ : ∃ (q : Fin 10240) (c : Fin 128), i = ix2 q c := ⟨i 0, i 1, eq_ix2 i⟩
  obtain ⟨t, ht, r, rfl⟩ := eq_rowOf q
  exact (final_apply m d ⟨t, ht.trans_eq N_0.symm⟩ r c).trans (refOut_apply _ _ _ _ _ _ _).symm

/-! ## The claims -/

theorem frame : Cert.quiescent_Out := fun m ρ _ => Cert.Out.Gen.frame m ρ
theorem frame_ideal : Cert.quiescent_OutIdeal := fun m ρ _ => Cert.OutIdeal.Gen.frame m ρ
theorem frame_reference : Cert.quiescent_OutReferenceIdeal := fun m ρ _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m ρ)

theorem algebraic : Cert.algebraic_OutIdeal_OutReferenceIdeal := fun m ρ m' ρ' _ hargs => by
  refine ⟨fun c => (dats m 0 c).arrAt 6 cfg0.N, Cert.OutIdeal.Value.run_blocks (F := Ideal) m ρ, ?_⟩
  refine (θ_run Cert.OutReferenceIdeal.defs _ _).mono (fun r h c => ⟨(h c).1.trans ?_, (h c).2⟩) (Cert.OutReferenceIdeal.Value.run (F := Ideal) m' ρ')
  obtain ⟨h0, h1, h2, h3, h4⟩ := hargs c
  show _ = (dats m 0 c).arrAt 6 cfg0.N
  rw [final_eq, ← h0, ← h1, ← h2, ← h3, ← h4]
  rfl

end Cert.OutProof

end
-- ==== Proof.lean ====
module

public import proofs.«01_k».proof.Defs
public import proofs.«01_k».proof.Proof.Segmax
public import proofs.«01_k».proof.Proof.Pool
public import proofs.«01_k».proof.Proof.Hidden
public import proofs.«01_k».proof.Proof.Out
public import proofs.«01_k».proof.Proof.Gen.Kernel
public import proofs.«01_k».proof.Proof.Gen.KernelIdeal
public import proofs.«01_k».proof.Proof.Gen.ReferenceIdeal
public import proofs.«01_k».proof.Proof.Gen.Pre_edges_in_range

@[expose] public section

noncomputable section

/-!
# The certificate

The four calls, each with its own reference: the segment maximum (`Segmax`), the pooled messages (`Pool`), and the layer with relu
(`Hidden`) and without (`Out`).
-/

namespace Cert.Proof

theorem claim : Cert.Claim :=
  ⟨Cert.Kernel.Gen.facts, Cert.KernelIdeal.Gen.facts, Cert.ReferenceIdeal.Gen.facts, Cert.Pool.Gen.facts, Cert.PoolIdeal.Gen.facts,
    Cert.PoolReferenceIdeal.Gen.facts, Cert.Hidden.Gen.facts, Cert.HiddenIdeal.Gen.facts, Cert.HiddenReferenceIdeal.Gen.facts,
    Cert.Out.Gen.facts, Cert.OutIdeal.Gen.facts, Cert.OutReferenceIdeal.Gen.facts, Cert.Pre_edges_in_range.Gen.facts,
    SegMaxProof.frame_kernel, SegMaxProof.frame_ideal, SegMaxProof.frame_reference, SegMaxProof.frame_reference_pre,
    PoolProof.frame, PoolProof.frame_ideal, PoolProof.frame_reference,
    HiddenProof.frame, HiddenProof.frame_ideal, HiddenProof.frame_reference,
    OutProof.frame, OutProof.frame_ideal, OutProof.frame_reference,
    trivial, SegMaxProof.algebraic, trivial, PoolProof.algebraic, trivial, HiddenProof.algebraic, trivial, OutProof.algebraic⟩

end Cert.Proof

end
